-- ==== Defs.lean ====
def Pre_Kernel [hPre_idx_names_rows : Cert.Pre_idx_names_rows.Facts] (m : (ℓ : Loc Cert.Kernel.nD Cert.Kernel.τ Cert.Kernel.sig) → Buf (Elt Bits) ℓ) : Prop :=
  ∀ c : Dev Cert.Kernel.nD,
    (Cert.Pre_idx_names_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_idx_names_rows : Cert.Pre_idx_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_idx_names_earlier [hPre_idx_names_earlier : Cert.Pre_idx_names_earlier.Facts] (m : (ℓ : Loc Cert.KernelIdeal.nD Cert.KernelIdeal.τ Cert.KernelIdeal.sig) → Buf (Elt Ideal) ℓ) : Prop :=
  ∀ c : Dev Cert.KernelIdeal.nD,
    (Cert.Pre_idx_names_earlier.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_names_earlier [hPre_idx_names_earlier : Cert.Pre_idx_names_earlier.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_names_earlier.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_idx_names_rows : Cert.Pre_idx_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_idx_names_rows : Cert.Pre_idx_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_idx_names_earlier [hKernelIdeal : Cert.KernelIdeal.Facts] [hPre_idx_names_earlier : Cert.Pre_idx_names_earlier.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_names_earlier m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_idx_names_earlier [hReferenceIdeal : Cert.ReferenceIdeal.Facts] [hPre_idx_names_earlier : Cert.Pre_idx_names_earlier.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_names_earlier m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_idx_names_earlier [hKernelIdeal : Cert.KernelIdeal.Facts] [hReferenceIdeal : Cert.ReferenceIdeal.Facts] [hPre_idx_names_earlier : Cert.Pre_idx_names_earlier.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_names_earlier m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_idx_names_rows : Cert.Pre_idx_names_rows.Facts) (hPre_idx_names_earlier : Cert.Pre_idx_names_earlier.Facts),
    quiescent_Kernel (hKernel := hKernel) (hPre_idx_names_rows := hPre_idx_names_rows)
    ∧ quiescent_KernelIdeal (hKernelIdeal := hKernelIdeal) (hPre_idx_names_rows := hPre_idx_names_rows)
    ∧ quiescent_KernelIdeal_pre_idx_names_earlier (hKernelIdeal := hKernelIdeal) (hPre_idx_names_earlier := hPre_idx_names_earlier)
    ∧ quiescent_ReferenceIdeal (hReferenceIdeal := hReferenceIdeal)
    ∧ quiescent_ReferenceIdeal_pre_idx_names_earlier (hReferenceIdeal := hReferenceIdeal) (hPre_idx_names_earlier := hPre_idx_names_earlier)
    ∧ preserves_Kernel_KernelIdeal
    ∧ algebraic_KernelIdeal_ReferenceIdeal_pre_idx_names_earlier (hKernelIdeal := hKernelIdeal) (hReferenceIdeal := hReferenceIdeal) (hPre_idx_names_earlier := hPre_idx_names_earlier)
-- ==== Pre_idx_names_earlier.lean ====
abbrev S64x128 : Shape := ⟨2, ![64, 128]⟩
abbrev S10000x2 : Shape := ⟨2, ![10000, 2]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S10000x1 : Shape := ⟨2, ![10000, 1]⟩
abbrev S_ : Shape := ⟨0, ![]⟩

class Facts : Prop where
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S10000x2 : S_.BroadcastsInDim S10000x2 (![] : Fin 0 → Fin S10000x2.rank)
  bcast_S10000x1_S10000x2_0_1 : S10000x1.BroadcastsInDim S10000x2 (![0, 1] : Fin 2 → Fin S10000x2.rank)

variable [Facts]

def fn {F : FTy → Type} [FloatOps F] (main_arg0 : FVec F S64x128 .f32) (main_arg1 : IVec S10000x2 32) (main_arg2 : IVec S10000 32) (main_arg3 : FVec F S256x256 .f32) (main_arg4 : FVec F S256 .f32) (main_arg5 : FVec F S256x128 .f32) (main_arg6 : FVec F S128 .f32) : IVec S10000x2 1 :=
  let main_v0 : IVec S10000 32 := iotaInDim S10000 32 0
  let main_v1 : IVec S10000x1 32 := broadcastInDim S10000x1 ![0] bcast_S10000_S10000x1_0 main_v0
  let main_c : IVec S_ 32 := constantI S_ 32 64#32
  let main_v2 : IVec S10000x1 32 := broadcastInDim S10000x1 ![] bcast_S_S10000x1 main_c
  let main_v3 : IVec S10000x1 32 := addi main_v1 main_v2
  let main_c_0 : IVec S_ 32 := constantI S_ 32 0#32
  let main_v4 : IVec S10000x2 32 := broadcastInDim S10000x2 ![] bcast_S_S10000x2 main_c_0
  let main_v5 : IVec S10000x2 1 := cmpi .sge main_arg1 main_v4
  let main_v6 : IVec S10000x2 32 := broadcastInDim S10000x2 ![0, 1] bcast_S10000x1_S10000x2_0_1 main_v3
  let main_v7 : IVec S10000x2 1 := cmpi .slt main_arg1 main_v6
  let main_v8 : IVec S10000x2 1 := andi main_v5 main_v7
  main_v8
-- ==== Pre_idx_names_rows.lean ====
abbrev S64x128 : Shape := ⟨2, ![64, 128]⟩
abbrev S10000x2 : Shape := ⟨2, ![10000, 2]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x2 : S_.BroadcastsInDim S10000x2 (![] : Fin 0 → Fin S10000x2.rank)

variable [Facts]

def fn {F : FTy → Type} [FloatOps F] (main_arg0 : FVec F S64x128 .f32) (main_arg1 : IVec S10000x2 32) (main_arg2 : IVec S10000 32) (main_arg3 : FVec F S256x256 .f32) (main_arg4 : FVec F S256 .f32) (main_arg5 : FVec F S256x128 .f32) (main_arg6 : FVec F S128 .f32) : IVec S10000x2 1 :=
  let main_c : IVec S_ 32 := constantI S_ 32 0#32
  let main_v0 : IVec S10000x2 32 := broadcastInDim S10000x2 ![] bcast_S_S10000x2 main_c
  let main_v1 : IVec S10000x2 1 := cmpi .sge main_arg1 main_v0
  let main_c_0 : IVec S_ 32 := constantI S_ 32 10064#32
  let main_v2 : IVec S10000x2 32 := broadcastInDim S10000x2 ![] bcast_S_S10000x2 main_c_0
  let main_v3 : IVec S10000x2 1 := cmpi .slt main_arg1 main_v2
  let main_v4 : IVec S10000x2 1 := andi main_v1 main_v3
  main_v4
-- ==== Kernel.lean ====
abbrev S64x128 : Shape := ⟨2, ![64, 128]⟩
abbrev S10000x2 : Shape := ⟨2, ![10000, 2]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S20000 : Shape := ⟨1, ![20000]⟩
abbrev S128x256 : Shape := ⟨2, ![128, 256]⟩
abbrev S1x256 : Shape := ⟨2, ![1, 256]⟩
abbrev S1x128 : Shape := ⟨2, ![1, 128]⟩
abbrev S10064x128 : Shape := ⟨2, ![10064, 128]⟩
abbrev S400x128 : Shape := ⟨2, ![400, 128]⟩
abbrev S10000x128 : Shape := ⟨2, ![10000, 128]⟩
abbrev S1 : Shape := ⟨1, ![1]⟩
abbrev S400x256 : Shape := ⟨2, ![400, 256]⟩
abbrev S1x400x128 : Shape := ⟨3, ![1, 400, 128]⟩
abbrev S1x1x1 : Shape := ⟨3, ![1, 1, 1]⟩

abbrev nBuf : Space → Nat
  | .hbm => 12
  | .vmem => 9
  | .smem => 1
  | _ => 0

abbrev bufTy : (tb : Table) → Fin (tcTables nBuf tb) → BufTy
  | .hbm, ⟨0, _⟩ => ⟨S64x128, .f32⟩
  | .hbm, ⟨1, _⟩ => ⟨S10000x2, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S128x256, .f32⟩
  | .hbm, ⟨9, _⟩ => ⟨S1x256, .f32⟩
  | .hbm, ⟨10, _⟩ => ⟨S1x128, .f32⟩
  | .hbm, ⟨11, _⟩ => ⟨S10064x128, .f32⟩
  | .local _ .vmem, ⟨0, _⟩ => ⟨S64x128, .f32⟩
  | .local _ .vmem, ⟨1, _⟩ => ⟨S128x256, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S10064x128, .f32⟩
  | .local _ .vmem, ⟨7, _⟩ => ⟨S400x128, .f32⟩
  | .local _ .vmem, ⟨8, _⟩ => ⟨S400x128, .f32⟩
  | .local _ .smem, ⟨0, _⟩ => ⟨S20000, .i32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![25], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c0_i32_2 : BitVec 32 := 0#32
  let v7 : BitVec 32 := Scalar.addi v5 c0_i32_2
  let v8 : Index := Scalar.indexCast v7
  ![v8.toNat]
def k0_off2 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c0_i32_3 : BitVec 32 := 0#32
  let v10 : BitVec 32 := Scalar.addi v5 c0_i32_3
  let c1_i32 : BitVec 32 := 1#32
  let v11 : BitVec 32 := Scalar.addi v10 c1_i32
  let v12 : Index := Scalar.indexCast v11
  ![v12.toNat]
def k0_off3 (v9 : BitVec 32) : Fin 2 → Nat :=
  let v14 : Index := Scalar.indexCast v9
  let c0 : Index := 0#32
  ![v14.toNat, 0]

def k0_chk1 (v9 : BitVec 32) : Prop :=
  (∀ a, (k0_off3 v9) a + S1x128.size a ≤ S10064x128.size a)
theorem k0_off3_inb : ∀ (v9 : BitVec 32) (k0_hw1 : k0_chk1 v9), ∀ a, (k0_off3 v9) a + S1x128.size a ≤ S10064x128.size a := fun v9 k0_hw1 => k0_hw1

def k0_off4 (v13 : BitVec 32) : Fin 2 → Nat :=
  let v20 : Index := Scalar.indexCast v13
  let c0_6 : Index := 0#32
  ![v20.toNat, 0]

def k0_chk2 (v13 : BitVec 32) : Prop :=
  (∀ a, (k0_off4 v13) a + S1x128.size a ≤ S10064x128.size a)
theorem k0_off4_inb : ∀ (v13 : BitVec 32) (k0_hw2 : k0_chk2 v13), ∀ a, (k0_off4 v13) a + S1x128.size a ≤ S10064x128.size a := fun v13 k0_hw2 => k0_hw2

def k0_off5 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c2_i32_9 : BitVec 32 := 2#32
  let v26 : BitVec 32 := Scalar.addi v5 c2_i32_9
  let v27 : Index := Scalar.indexCast v26
  ![v27.toNat]
def k0_off6 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c2_i32_10 : BitVec 32 := 2#32
  let v29 : BitVec 32 := Scalar.addi v5 c2_i32_10
  let c1_i32_11 : BitVec 32 := 1#32
  let v30 : BitVec 32 := Scalar.addi v29 c1_i32_11
  let v31 : Index := Scalar.indexCast v30
  ![v31.toNat]
def k0_off7 (v28 : BitVec 32) : Fin 2 → Nat :=
  let v33 : Index := Scalar.indexCast v28
  let c0_12 : Index := 0#32
  ![v33.toNat, 0]

def k0_chk3 (v28 : BitVec 32) : Prop :=
  (∀ a, (k0_off7 v28) a + S1x128.size a ≤ S10064x128.size a)
theorem k0_off7_inb : ∀ (v28 : BitVec 32) (k0_hw3 : k0_chk3 v28), ∀ a, (k0_off7 v28) a + S1x128.size a ≤ S10064x128.size a := fun v28 k0_hw3 => k0_hw3

def k0_off8 (v32 : BitVec 32) : Fin 2 → Nat :=
  let v39 : Index := Scalar.indexCast v32
  let c0_14 : Index := 0#32
  ![v39.toNat, 0]

def k0_chk4 (v32 : BitVec 32) : Prop :=
  (∀ a, (k0_off8 v32) a + S1x128.size a ≤ S10064x128.size a)
theorem k0_off8_inb : ∀ (v32 : BitVec 32) (k0_hw4 : k0_chk4 v32), ∀ a, (k0_off8 v32) a + S1x128.size a ≤ S10064x128.size a := fun v32 k0_hw4 => k0_hw4

def k0_off9 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c4_i32 : BitVec 32 := 4#32
  let v45 : BitVec 32 := Scalar.addi v5 c4_i32
  let v46 : Index := Scalar.indexCast v45
  ![v46.toNat]
def k0_off10 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c4_i32_17 : BitVec 32 := 4#32
  let v48 : BitVec 32 := Scalar.addi v5 c4_i32_17
  let c1_i32_18 : BitVec 32 := 1#32
  let v49 : BitVec 32 := Scalar.addi v48 c1_i32_18
  let v50 : Index := Scalar.indexCast v49
  ![v50.toNat]
def k0_off11 (v47 : BitVec 32) : Fin 2 → Nat :=
  let v52 : Index := Scalar.indexCast v47
  let c0_19 : Index := 0#32
  ![v52.toNat, 0]

def k0_chk5 (v47 : BitVec 32) : Prop :=
  (∀ a, (k0_off11 v47) a + S1x128.size a ≤ S10064x128.size a)
theorem k0_off11_inb : ∀ (v47 : BitVec 32) (k0_hw5 : k0_chk5 v47), ∀ a, (k0_off11 v47) a + S1x128.size a ≤ S10064x128.size a := fun v47 k0_hw5 => k0_hw5

def k0_off12 (v51 : BitVec 32) : Fin 2 → Nat :=
  let v58 : Index := Scalar.indexCast v51
  let c0_21 : Index := 0#32
  ![v58.toNat, 0]

def k0_chk6 (v51 : BitVec 32) : Prop :=
  (∀ a, (k0_off12 v51) a + S1x128.size a ≤ S10064x128.size a)
theorem k0_off12_inb : ∀ (v51 : BitVec 32) (k0_hw6 : k0_chk6 v51), ∀ a, (k0_off12 v51) a + S1x128.size a ≤ S10064x128.size a := fun v51 k0_hw6 => k0_hw6

def k0_off13 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c6_i32 : BitVec 32 := 6#32
  let v64 : BitVec 32 := Scalar.addi v5 c6_i32
  let v65 : Index := Scalar.indexCast v64
  ![v65.toNat]
def k0_off14 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c6_i32_24 : BitVec 32 := 6#32
  let v67 : BitVec 32 := Scalar.addi v5 c6_i32_24
  let c1_i32_25 : BitVec 32 := 1#32
  let v68 : BitVec 32 := Scalar.addi v67 c1_i32_25
  let v69 : Index := Scalar.indexCast v68
  ![v69.toNat]
def k0_off15 (v66 : BitVec 32) : Fin 2 → Nat :=
  let v71 : Index := Scalar.indexCast v66
  let c0_26 : Index := 0#32
  ![v71.toNat, 0]

def k0_chk7 (v66 : BitVec 32) : Prop :=
  (∀ a, (k0_off15 v66) a + S1x128.size a ≤ S10064x128.size a)
theorem k0_off15_inb : ∀ (v66 : BitVec 32) (k0_hw7 : k0_chk7 v66), ∀ a, (k0_off15 v66) a + S1x128.size a ≤ S10064x128.size a := fun v66 k0_hw7 => k0_hw7

def k0_off16 (v70 : BitVec 32) : Fin 2 → Nat :=
  let v77 : Index := Scalar.indexCast v70
  let c0_28 : Index := 0#32
  ![v77.toNat, 0]

def k0_chk8 (v70 : BitVec 32) : Prop :=
  (∀ a, (k0_off16 v70) a + S1x128.size a ≤ S10064x128.size a)
theorem k0_off16_inb : ∀ (v70 : BitVec 32) (k0_hw8 : k0_chk8 v70), ∀ a, (k0_off16 v70) a + S1x128.size a ≤ S10064x128.size a := fun v70 k0_hw8 => k0_hw8

def k0_off17 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c8_i32 : BitVec 32 := 8#32
  let v83 : BitVec 32 := Scalar.addi v5 c8_i32
  let v84 : Index := Scalar.indexCast v83
  ![v84.toNat]
def k0_off18 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c8_i32_31 : BitVec 32 := 8#32
  let v86 : BitVec 32 := Scalar.addi v5 c8_i32_31
  let c1_i32_32 : BitVec 32 := 1#32
  let v87 : BitVec 32 := Scalar.addi v86 c1_i32_32
  let v88 : Index := Scalar.indexCast v87
  ![v88.toNat]
def k0_off19 (v85 : BitVec 32) : Fin 2 → Nat :=
  let v90 : Index := Scalar.indexCast v85
  let c0_33 : Index := 0#32
  ![v90.toNat, 0]

def k0_chk9 (v85 : BitVec 32) : Prop :=
  (∀ a, (k0_off19 v85) a + S1x128.size a ≤ S10064x128.size a)
theorem k0_off19_inb : ∀ (v85 : BitVec 32) (k0_hw9 : k0_chk9 v85), ∀ a, (k0_off19 v85) a + S1x128.size a ≤ S10064x128.size a := fun v85 k0_hw9 => k0_hw9

def k0_off20 (v89 : BitVec 32) : Fin 2 → Nat :=
  let v96 : Index := Scalar.indexCast v89
  let c0_35 : Index := 0#32
  ![v96.toNat, 0]

def k0_chk10 (v89 : BitVec 32) : Prop :=
  (∀ a, (k0_off20 v89) a + S1x128.size a ≤ S10064x128.size a)
theorem k0_off20_inb : ∀ (v89 : BitVec 32) (k0_hw10 : k0_chk10 v89), ∀ a, (k0_off20 v89) a + S1x128.size a ≤ S10064x128.size a := fun v89 k0_hw10 => k0_hw10

def k0_off21 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c10_i32 : BitVec 32 := 10#32
  let v102 : BitVec 32 := Scalar.addi v5 c10_i32
  let v103 : Index := Scalar.indexCast v102
  ![v103.toNat]
def k0_off22 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c10_i32_38 : BitVec 32 := 10#32
  let v105 : BitVec 32 := Scalar.addi v5 c10_i32_38
  let c1_i32_39 : BitVec 32 := 1#32
  let v106 : BitVec 32 := Scalar.addi v105 c1_i32_39
  let v107 : Index := Scalar.indexCast v106
  ![v107.toNat]
def k0_off23 (v104 : BitVec 32) : Fin 2 → Nat :=
  let v109 : Index := Scalar.indexCast v104
  let c0_40 : Index := 0#32
  ![v109.toNat, 0]

def k0_chk11 (v104 : BitVec 32) : Prop :=
  (∀ a, (k0_off23 v104) a + S1x128.size a ≤ S10064x128.size a)
theorem k0_off23_inb : ∀ (v104 : BitVec 32) (k0_hw11 : k0_chk11 v104), ∀ a, (k0_off23 v104) a + S1x128.size a ≤ S10064x128.size a := fun v104 k0_hw11 => k0_hw11

def k0_off24 (v108 : BitVec 32) : Fin 2 → Nat :=
  let v115 : Index := Scalar.indexCast v108
  let c0_42 : Index := 0#32
  ![v115.toNat, 0]

def k0_chk12 (v108 : BitVec 32) : Prop :=
  (∀ a, (k0_off24 v108) a + S1x128.size a ≤ S10064x128.size a)
theorem k0_off24_inb : ∀ (v108 : BitVec 32) (k0_hw12 : k0_chk12 v108), ∀ a, (k0_off24 v108) a + S1x128.size a ≤ S10064x128.size a := fun v108 k0_hw12 => k0_hw12

def k0_off25 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c12_i32 : BitVec 32 := 12#32
  let v121 : BitVec 32 := Scalar.addi v5 c12_i32
  let v122 : Index := Scalar.indexCast v121
  ![v122.toNat]
def k0_off26 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c12_i32_45 : BitVec 32 := 12#32
  let v124 : BitVec 32 := Scalar.addi v5 c12_i32_45
  let c1_i32_46 : BitVec 32 := 1#32
  let v125 : BitVec 32 := Scalar.addi v124 c1_i32_46
  let v126 : Index := Scalar.indexCast v125
  ![v126.toNat]
def k0_off27 (v123 : BitVec 32) : Fin 2 → Nat :=
  let v128 : Index := Scalar.indexCast v123
  let c0_47 : Index := 0#32
  ![v128.toNat, 0]

def k0_chk13 (v123 : BitVec 32) : Prop :=
  (∀ a, (k0_off27 v123) a + S1x128.size a ≤ S10064x128.size a)
theorem k0_off27_inb : ∀ (v123 : BitVec 32) (k0_hw13 : k0_chk13 v123), ∀ a, (k0_off27 v123) a + S1x128.size a ≤ S10064x128.size a := fun v123 k0_hw13 => k0_hw13

def k0_off28 (v127 : BitVec 32) : Fin 2 → Nat :=
  let v134 : Index := Scalar.indexCast v127
  let c0_49 : Index := 0#32
  ![v134.toNat, 0]

def k0_chk14 (v127 : BitVec 32) : Prop :=
  (∀ a, (k0_off28 v127) a + S1x128.size a ≤ S10064x128.size a)
theorem k0_off28_inb : ∀ (v127 : BitVec 32) (k0_hw14 : k0_chk14 v127), ∀ a, (k0_off28 v127) a + S1x128.size a ≤ S10064x128.size a := fun v127 k0_hw14 => k0_hw14

def k0_off29 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c14_i32 : BitVec 32 := 14#32
  let v140 : BitVec 32 := Scalar.addi v5 c14_i32
  let v141 : Index := Scalar.indexCast v140
  ![v141.toNat]
def k0_off30 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c14_i32_52 : BitVec 32 := 14#32
  let v143 : BitVec 32 := Scalar.addi v5 c14_i32_52
  let c1_i32_53 : BitVec 32 := 1#32
  let v144 : BitVec 32 := Scalar.addi v143 c1_i32_53
  let v145 : Index := Scalar.indexCast v144
  ![v145.toNat]
def k0_off31 (v142 : BitVec 32) : Fin 2 → Nat :=
  let v147 : Index := Scalar.indexCast v142
  let c0_54 : Index := 0#32
  ![v147.toNat, 0]

def k0_chk15 (v142 : BitVec 32) : Prop :=
  (∀ a, (k0_off31 v142) a + S1x128.size a ≤ S10064x128.size a)
theorem k0_off31_inb : ∀ (v142 : BitVec 32) (k0_hw15 : k0_chk15 v142), ∀ a, (k0_off31 v142) a + S1x128.size a ≤ S10064x128.size a := fun v142 k0_hw15 => k0_hw15

def k0_off32 (v146 : BitVec 32) : Fin 2 → Nat :=
  let v153 : Index := Scalar.indexCast v146
  let c0_56 : Index := 0#32
  ![v153.toNat, 0]

def k0_chk16 (v146 : BitVec 32) : Prop :=
  (∀ a, (k0_off32 v146) a + S1x128.size a ≤ S10064x128.size a)
theorem k0_off32_inb : ∀ (v146 : BitVec 32) (k0_hw16 : k0_chk16 v146), ∀ a, (k0_off32 v146) a + S1x128.size a ≤ S10064x128.size a := fun v146 k0_hw16 => k0_hw16

def k0_off33 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c16_i32 : BitVec 32 := 16#32
  let v159 : BitVec 32 := Scalar.addi v5 c16_i32
  let v160 : Index := Scalar.indexCast v159
  ![v160.toNat]
def k0_off34 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c16_i32_59 : BitVec 32 := 16#32
  let v162 : BitVec 32 := Scalar.addi v5 c16_i32_59
  let c1_i32_60 : BitVec 32 := 1#32
  let v163 : BitVec 32 := Scalar.addi v162 c1_i32_60
  let v164 : Index := Scalar.indexCast v163
  ![v164.toNat]
def k0_off35 (v161 : BitVec 32) : Fin 2 → Nat :=
  let v166 : Index := Scalar.indexCast v161
  let c0_61 : Index := 0#32
  ![v166.toNat, 0]

def k0_chk17 (v161 : BitVec 32) : Prop :=
  (∀ a, (k0_off35 v161) a + S1x128.size a ≤ S10064x128.size a)
theorem k0_off35_inb : ∀ (v161 : BitVec 32) (k0_hw17 : k0_chk17 v161), ∀ a, (k0_off35 v161) a + S1x128.size a ≤ S10064x128.size a := fun v161 k0_hw17 => k0_hw17

def k0_off36 (v165 : BitVec 32) : Fin 2 → Nat :=
  let v172 : Index := Scalar.indexCast v165
  let c0_63 : Index := 0#32
  ![v172.toNat, 0]

def k0_chk18 (v165 : BitVec 32) : Prop :=
  (∀ a, (k0_off36 v165) a + S1x128.size a ≤ S10064x128.size a)
theorem k0_off36_inb : ∀ (v165 : BitVec 32) (k0_hw18 : k0_chk18 v165), ∀ a, (k0_off36 v165) a + S1x128.size a ≤ S10064x128.size a := fun v165 k0_hw18 => k0_hw18

def k0_off37 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c18_i32 : BitVec 32 := 18#32
  let v178 : BitVec 32 := Scalar.addi v5 c18_i32
  let v179 : Index := Scalar.indexCast v178
  ![v179.toNat]
def k0_off38 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c18_i32_66 : BitVec 32 := 18#32
  let v181 : BitVec 32 := Scalar.addi v5 c18_i32_66
  let c1_i32_67 : BitVec 32 := 1#32
  let v182 : BitVec 32 := Scalar.addi v181 c1_i32_67
  let v183 : Index := Scalar.indexCast v182
  ![v183.toNat]
def k0_off39 (v180 : BitVec 32) : Fin 2 → Nat :=
  let v185 : Index := Scalar.indexCast v180
  let c0_68 : Index := 0#32
  ![v185.toNat, 0]

def k0_chk19 (v180 : BitVec 32) : Prop :=
  (∀ a, (k0_off39 v180) a + S1x128.size a ≤ S10064x128.size a)
theorem k0_off39_inb : ∀ (v180 : BitVec 32) (k0_hw19 : k0_chk19 v180), ∀ a, (k0_off39 v180) a + S1x128.size a ≤ S10064x128.size a := fun v180 k0_hw19 => k0_hw19

def k0_off40 (v184 : BitVec 32) : Fin 2 → Nat :=
  let v191 : Index := Scalar.indexCast v184
  let c0_70 : Index := 0#32
  ![v191.toNat, 0]

def k0_chk20 (v184 : BitVec 32) : Prop :=
  (∀ a, (k0_off40 v184) a + S1x128.size a ≤ S10064x128.size a)
theorem k0_off40_inb : ∀ (v184 : BitVec 32) (k0_hw20 : k0_chk20 v184), ∀ a, (k0_off40 v184) a + S1x128.size a ≤ S10064x128.size a := fun v184 k0_hw20 => k0_hw20

def k0_off41 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c20_i32 : BitVec 32 := 20#32
  let v197 : BitVec 32 := Scalar.addi v5 c20_i32
  let v198 : Index := Scalar.indexCast v197
  ![v198.toNat]
def k0_off42 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c20_i32_73 : BitVec 32 := 20#32
  let v200 : BitVec 32 := Scalar.addi v5 c20_i32_73
  let c1_i32_74 : BitVec 32 := 1#32
  let v201 : BitVec 32 := Scalar.addi v200 c1_i32_74
  let v202 : Index := Scalar.indexCast v201
  ![v202.toNat]
def k0_off43 (v199 : BitVec 32) : Fin 2 → Nat :=
  let v204 : Index := Scalar.indexCast v199
  let c0_75 : Index := 0#32
  ![v204.toNat, 0]

def k0_chk21 (v199 : BitVec 32) : Prop :=
  (∀ a, (k0_off43 v199) a + S1x128.size a ≤ S10064x128.size a)
theorem k0_off43_inb : ∀ (v199 : BitVec 32) (k0_hw21 : k0_chk21 v199), ∀ a, (k0_off43 v199) a + S1x128.size a ≤ S10064x128.size a := fun v199 k0_hw21 => k0_hw21

def k0_off44 (v203 : BitVec 32) : Fin 2 → Nat :=
  let v210 : Index := Scalar.indexCast v203
  let c0_77 : Index := 0#32
  ![v210.toNat, 0]

def k0_chk22 (v203 : BitVec 32) : Prop :=
  (∀ a, (k0_off44 v203) a + S1x128.size a ≤ S10064x128.size a)
theorem k0_off44_inb : ∀ (v203 : BitVec 32) (k0_hw22 : k0_chk22 v203), ∀ a, (k0_off44 v203) a + S1x128.size a ≤ S10064x128.size a := fun v203 k0_hw22 => k0_hw22

def k0_off45 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c22_i32 : BitVec 32 := 22#32
  let v216 : BitVec 32 := Scalar.addi v5 c22_i32
  let v217 : Index := Scalar.indexCast v216
  ![v217.toNat]
def k0_off46 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c22_i32_80 : BitVec 32 := 22#32
  let v219 : BitVec 32 := Scalar.addi v5 c22_i32_80
  let c1_i32_81 : BitVec 32 := 1#32
  let v220 : BitVec 32 := Scalar.addi v219 c1_i32_81
  let v221 : Index := Scalar.indexCast v220
  ![v221.toNat]
def k0_off47 (v218 : BitVec 32) : Fin 2 → Nat :=
  let v223 : Index := Scalar.indexCast v218
  let c0_82 : Index := 0#32
  ![v223.toNat, 0]

def k0_chk23 (v218 : BitVec 32) : Prop :=
  (∀ a, (k0_off47 v218) a + S1x128.size a ≤ S10064x128.size a)
theorem k0_off47_inb : ∀ (v218 : BitVec 32) (k0_hw23 : k0_chk23 v218), ∀ a, (k0_off47 v218) a + S1x128.size a ≤ S10064x128.size a := fun v218 k0_hw23 => k0_hw23

def k0_off48 (v222 : BitVec 32) : Fin 2 → Nat :=
  let v229 : Index := Scalar.indexCast v222
  let c0_84 : Index := 0#32
  ![v229.toNat, 0]

def k0_chk24 (v222 : BitVec 32) : Prop :=
  (∀ a, (k0_off48 v222) a + S1x128.size a ≤ S10064x128.size a)
theorem k0_off48_inb : ∀ (v222 : BitVec 32) (k0_hw24 : k0_chk24 v222), ∀ a, (k0_off48 v222) a + S1x128.size a ≤ S10064x128.size a := fun v222 k0_hw24 => k0_hw24

def k0_off49 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c24_i32 : BitVec 32 := 24#32
  let v235 : BitVec 32 := Scalar.addi v5 c24_i32
  let v236 : Index := Scalar.indexCast v235
  ![v236.toNat]
def k0_off50 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c24_i32_87 : BitVec 32 := 24#32
  let v238 : BitVec 32 := Scalar.addi v5 c24_i32_87
  let c1_i32_88 : BitVec 32 := 1#32
  let v239 : BitVec 32 := Scalar.addi v238 c1_i32_88
  let v240 : Index := Scalar.indexCast v239
  ![v240.toNat]
def k0_off51 (v237 : BitVec 32) : Fin 2 → Nat :=
  let v242 : Index := Scalar.indexCast v237
  let c0_89 : Index := 0#32
  ![v242.toNat, 0]

def k0_chk25 (v237 : BitVec 32) : Prop :=
  (∀ a, (k0_off51 v237) a + S1x128.size a ≤ S10064x128.size a)
theorem k0_off51_inb : ∀ (v237 : BitVec 32) (k0_hw25 : k0_chk25 v237), ∀ a, (k0_off51 v237) a + S1x128.size a ≤ S10064x128.size a := fun v237 k0_hw25 => k0_hw25

def k0_off52 (v241 : BitVec 32) : Fin 2 → Nat :=
  let v248 : Index := Scalar.indexCast v241
  let c0_91 : Index := 0#32
  ![v248.toNat, 0]

def k0_chk26 (v241 : BitVec 32) : Prop :=
  (∀ a, (k0_off52 v241) a + S1x128.size a ≤ S10064x128.size a)
theorem k0_off52_inb : ∀ (v241 : BitVec 32) (k0_hw26 : k0_chk26 v241), ∀ a, (k0_off52 v241) a + S1x128.size a ≤ S10064x128.size a := fun v241 k0_hw26 => k0_hw26

def k0_off53 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c26_i32 : BitVec 32 := 26#32
  let v254 : BitVec 32 := Scalar.addi v5 c26_i32
  let v255 : Index := Scalar.indexCast v254
  ![v255.toNat]
def k0_off54 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c26_i32_94 : BitVec 32 := 26#32
  let v257 : BitVec 32 := Scalar.addi v5 c26_i32_94
  let c1_i32_95 : BitVec 32 := 1#32
  let v258 : BitVec 32 := Scalar.addi v257 c1_i32_95
  let v259 : Index := Scalar.indexCast v258
  ![v259.toNat]
def k0_off55 (v256 : BitVec 32) : Fin 2 → Nat :=
  let v261 : Index := Scalar.indexCast v256
  let c0_96 : Index := 0#32
  ![v261.toNat, 0]

def k0_chk27 (v256 : BitVec 32) : Prop :=
  (∀ a, (k0_off55 v256) a + S1x128.size a ≤ S10064x128.size a)
theorem k0_off55_inb : ∀ (v256 : BitVec 32) (k0_hw27 : k0_chk27 v256), ∀ a, (k0_off55 v256) a + S1x128.size a ≤ S10064x128.size a := fun v256 k0_hw27 => k0_hw27

def k0_off56 (v260 : BitVec 32) : Fin 2 → Nat :=
  let v267 : Index := Scalar.indexCast v260
  let c0_98 : Index := 0#32
  ![v267.toNat, 0]

def k0_chk28 (v260 : BitVec 32) : Prop :=
  (∀ a, (k0_off56 v260) a + S1x128.size a ≤ S10064x128.size a)
theorem k0_off56_inb : ∀ (v260 : BitVec 32) (k0_hw28 : k0_chk28 v260), ∀ a, (k0_off56 v260) a + S1x128.size a ≤ S10064x128.size a := fun v260 k0_hw28 => k0_hw28

def k0_off57 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c28_i32 : BitVec 32 := 28#32
  let v273 : BitVec 32 := Scalar.addi v5 c28_i32
  let v274 : Index := Scalar.indexCast v273
  ![v274.toNat]
def k0_off58 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c28_i32_101 : BitVec 32 := 28#32
  let v276 : BitVec 32 := Scalar.addi v5 c28_i32_101
  let c1_i32_102 : BitVec 32 := 1#32
  let v277 : BitVec 32 := Scalar.addi v276 c1_i32_102
  let v278 : Index := Scalar.indexCast v277
  ![v278.toNat]
def k0_off59 (v275 : BitVec 32) : Fin 2 → Nat :=
  let v280 : Index := Scalar.indexCast v275
  let c0_103 : Index := 0#32
  ![v280.toNat, 0]

def k0_chk29 (v275 : BitVec 32) : Prop :=
  (∀ a, (k0_off59 v275) a + S1x128.size a ≤ S10064x128.size a)
theorem k0_off59_inb : ∀ (v275 : BitVec 32) (k0_hw29 : k0_chk29 v275), ∀ a, (k0_off59 v275) a + S1x128.size a ≤ S10064x128.size a := fun v275 k0_hw29 => k0_hw29

def k0_off60 (v279 : BitVec 32) : Fin 2 → Nat :=
  let v286 : Index := Scalar.indexCast v279
  let c0_105 : Index := 0#32
  ![v286.toNat, 0]

def k0_chk30 (v279 : BitVec 32) : Prop :=
  (∀ a, (k0_off60 v279) a + S1x128.size a ≤ S10064x128.size a)
theorem k0_off60_inb : ∀ (v279 : BitVec 32) (k0_hw30 : k0_chk30 v279), ∀ a, (k0_off60 v279) a + S1x128.size a ≤ S10064x128.size a := fun v279 k0_hw30 => k0_hw30

def k0_off61 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c30_i32 : BitVec 32 := 30#32
  let v292 : BitVec 32 := Scalar.addi v5 c30_i32
  let v293 : Index := Scalar.indexCast v292
  ![v293.toNat]
def k0_off62 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c30_i32_108 : BitVec 32 := 30#32
  let v295 : BitVec 32 := Scalar.addi v5 c30_i32_108
  let c1_i32_109 : BitVec 32 := 1#32
  let v296 : BitVec 32 := Scalar.addi v295 c1_i32_109
  let v297 : Index := Scalar.indexCast v296
  ![v297.toNat]
def k0_off63 (v294 : BitVec 32) : Fin 2 → Nat :=
  let v299 : Index := Scalar.indexCast v294
  let c0_110 : Index := 0#32
  ![v299.toNat, 0]

def k0_chk31 (v294 : BitVec 32) : Prop :=
  (∀ a, (k0_off63 v294) a + S1x128.size a ≤ S10064x128.size a)
theorem k0_off63_inb : ∀ (v294 : BitVec 32) (k0_hw31 : k0_chk31 v294), ∀ a, (k0_off63 v294) a + S1x128.size a ≤ S10064x128.size a := fun v294 k0_hw31 => k0_hw31

def k0_off64 (v298 : BitVec 32) : Fin 2 → Nat :=
  let v305 : Index := Scalar.indexCast v298
  let c0_112 : Index := 0#32
  ![v305.toNat, 0]

def k0_chk32 (v298 : BitVec 32) : Prop :=
  (∀ a, (k0_off64 v298) a + S1x128.size a ≤ S10064x128.size a)
theorem k0_off64_inb : ∀ (v298 : BitVec 32) (k0_hw32 : k0_chk32 v298), ∀ a, (k0_off64 v298) a + S1x128.size a ≤ S10064x128.size a := fun v298 k0_hw32 => k0_hw32

def k0_off65 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c32_i32 : BitVec 32 := 32#32
  let v311 : BitVec 32 := Scalar.addi v5 c32_i32
  let v312 : Index := Scalar.indexCast v311
  ![v312.toNat]
def k0_off66 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c32_i32_115 : BitVec 32 := 32#32
  let v314 : BitVec 32 := Scalar.addi v5 c32_i32_115
  let c1_i32_116 : BitVec 32 := 1#32
  let v315 : BitVec 32 := Scalar.addi v314 c1_i32_116
  let v316 : Index := Scalar.indexCast v315
  ![v316.toNat]
def k0_off67 (v313 : BitVec 32) : Fin 2 → Nat :=
  let v318 : Index := Scalar.indexCast v313
  let c0_117 : Index := 0#32
  ![v318.toNat, 0]

def k0_chk33 (v313 : BitVec 32) : Prop :=
  (∀ a, (k0_off67 v313) a + S1x128.size a ≤ S10064x128.size a)
theorem k0_off67_inb : ∀ (v313 : BitVec 32) (k0_hw33 : k0_chk33 v313), ∀ a, (k0_off67 v313) a + S1x128.size a ≤ S10064x128.size a := fun v313 k0_hw33 => k0_hw33

def k0_off68 (v317 : BitVec 32) : Fin 2 → Nat :=
  let v324 : Index := Scalar.indexCast v317
  let c0_119 : Index := 0#32
  ![v324.toNat, 0]

def k0_chk34 (v317 : BitVec 32) : Prop :=
  (∀ a, (k0_off68 v317) a + S1x128.size a ≤ S10064x128.size a)
theorem k0_off68_inb : ∀ (v317 : BitVec 32) (k0_hw34 : k0_chk34 v317), ∀ a, (k0_off68 v317) a + S1x128.size a ≤ S10064x128.size a := fun v317 k0_hw34 => k0_hw34

def k0_off69 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c34_i32 : BitVec 32 := 34#32
  let v330 : BitVec 32 := Scalar.addi v5 c34_i32
  let v331 : Index := Scalar.indexCast v330
  ![v331.toNat]
def k0_off70 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c34_i32_122 : BitVec 32 := 34#32
  let v333 : BitVec 32 := Scalar.addi v5 c34_i32_122
  let c1_i32_123 : BitVec 32 := 1#32
  let v334 : BitVec 32 := Scalar.addi v333 c1_i32_123
  let v335 : Index := Scalar.indexCast v334
  ![v335.toNat]
def k0_off71 (v332 : BitVec 32) : Fin 2 → Nat :=
  let v337 : Index := Scalar.indexCast v332
  let c0_124 : Index := 0#32
  ![v337.toNat, 0]

def k0_chk35 (v332 : BitVec 32) : Prop :=
  (∀ a, (k0_off71 v332) a + S1x128.size a ≤ S10064x128.size a)
theorem k0_off71_inb : ∀ (v332 : BitVec 32) (k0_hw35 : k0_chk35 v332), ∀ a, (k0_off71 v332) a + S1x128.size a ≤ S10064x128.size a := fun v332 k0_hw35 => k0_hw35

def k0_off72 (v336 : BitVec 32) : Fin 2 → Nat :=
  let v343 : Index := Scalar.indexCast v336
  let c0_126 : Index := 0#32
  ![v343.toNat, 0]

def k0_chk36 (v336 : BitVec 32) : Prop :=
  (∀ a, (k0_off72 v336) a + S1x128.size a ≤ S10064x128.size a)
theorem k0_off72_inb : ∀ (v336 : BitVec 32) (k0_hw36 : k0_chk36 v336), ∀ a, (k0_off72 v336) a + S1x128.size a ≤ S10064x128.size a := fun v336 k0_hw36 => k0_hw36

def k0_off73 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c36_i32 : BitVec 32 := 36#32
  let v349 : BitVec 32 := Scalar.addi v5 c36_i32
  let v350 : Index := Scalar.indexCast v349
  ![v350.toNat]
def k0_off74 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c36_i32_129 : BitVec 32 := 36#32
  let v352 : BitVec 32 := Scalar.addi v5 c36_i32_129
  let c1_i32_130 : BitVec 32 := 1#32
  let v353 : BitVec 32 := Scalar.addi v352 c1_i32_130
  let v354 : Index := Scalar.indexCast v353
  ![v354.toNat]
def k0_off75 (v351 : BitVec 32) : Fin 2 → Nat :=
  let v356 : Index := Scalar.indexCast v351
  let c0_131 : Index := 0#32
  ![v356.toNat, 0]

def k0_chk37 (v351 : BitVec 32) : Prop :=
  (∀ a, (k0_off75 v351) a + S1x128.size a ≤ S10064x128.size a)
theorem k0_off75_inb : ∀ (v351 : BitVec 32) (k0_hw37 : k0_chk37 v351), ∀ a, (k0_off75 v351) a + S1x128.size a ≤ S10064x128.size a := fun v351 k0_hw37 => k0_hw37

def k0_off76 (v355 : BitVec 32) : Fin 2 → Nat :=
  let v362 : Index := Scalar.indexCast v355
  let c0_133 : Index := 0#32
  ![v362.toNat, 0]

def k0_chk38 (v355 : BitVec 32) : Prop :=
  (∀ a, (k0_off76 v355) a + S1x128.size a ≤ S10064x128.size a)
theorem k0_off76_inb : ∀ (v355 : BitVec 32) (k0_hw38 : k0_chk38 v355), ∀ a, (k0_off76 v355) a + S1x128.size a ≤ S10064x128.size a := fun v355 k0_hw38 => k0_hw38

def k0_off77 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c38_i32 : BitVec 32 := 38#32
  let v368 : BitVec 32 := Scalar.addi v5 c38_i32
  let v369 : Index := Scalar.indexCast v368
  ![v369.toNat]
def k0_off78 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c38_i32_136 : BitVec 32 := 38#32
  let v371 : BitVec 32 := Scalar.addi v5 c38_i32_136
  let c1_i32_137 : BitVec 32 := 1#32
  let v372 : BitVec 32 := Scalar.addi v371 c1_i32_137
  let v373 : Index := Scalar.indexCast v372
  ![v373.toNat]
def k0_off79 (v370 : BitVec 32) : Fin 2 → Nat :=
  let v375 : Index := Scalar.indexCast v370
  let c0_138 : Index := 0#32
  ![v375.toNat, 0]

def k0_chk39 (v370 : BitVec 32) : Prop :=
  (∀ a, (k0_off79 v370) a + S1x128.size a ≤ S10064x128.size a)
theorem k0_off79_inb : ∀ (v370 : BitVec 32) (k0_hw39 : k0_chk39 v370), ∀ a, (k0_off79 v370) a + S1x128.size a ≤ S10064x128.size a := fun v370 k0_hw39 => k0_hw39

def k0_off80 (v374 : BitVec 32) : Fin 2 → Nat :=
  let v381 : Index := Scalar.indexCast v374
  let c0_140 : Index := 0#32
  ![v381.toNat, 0]

def k0_chk40 (v374 : BitVec 32) : Prop :=
  (∀ a, (k0_off80 v374) a + S1x128.size a ≤ S10064x128.size a)
theorem k0_off80_inb : ∀ (v374 : BitVec 32) (k0_hw40 : k0_chk40 v374), ∀ a, (k0_off80 v374) a + S1x128.size a ≤ S10064x128.size a := fun v374 k0_hw40 => k0_hw40

def k0_off81 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c40_i32 : BitVec 32 := 40#32
  let v387 : BitVec 32 := Scalar.addi v5 c40_i32
  let v388 : Index := Scalar.indexCast v387
  ![v388.toNat]
def k0_off82 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c40_i32_143 : BitVec 32 := 40#32
  let v390 : BitVec 32 := Scalar.addi v5 c40_i32_143
  let c1_i32_144 : BitVec 32 := 1#32
  let v391 : BitVec 32 := Scalar.addi v390 c1_i32_144
  let v392 : Index := Scalar.indexCast v391
  ![v392.toNat]
def k0_off83 (v389 : BitVec 32) : Fin 2 → Nat :=
  let v394 : Index := Scalar.indexCast v389
  let c0_145 : Index := 0#32
  ![v394.toNat, 0]

def k0_chk41 (v389 : BitVec 32) : Prop :=
  (∀ a, (k0_off83 v389) a + S1x128.size a ≤ S10064x128.size a)
theorem k0_off83_inb : ∀ (v389 : BitVec 32) (k0_hw41 : k0_chk41 v389), ∀ a, (k0_off83 v389) a + S1x128.size a ≤ S10064x128.size a := fun v389 k0_hw41 => k0_hw41

def k0_off84 (v393 : BitVec 32) : Fin 2 → Nat :=
  let v400 : Index := Scalar.indexCast v393
  let c0_147 : Index := 0#32
  ![v400.toNat, 0]

def k0_chk42 (v393 : BitVec 32) : Prop :=
  (∀ a, (k0_off84 v393) a + S1x128.size a ≤ S10064x128.size a)
theorem k0_off84_inb : ∀ (v393 : BitVec 32) (k0_hw42 : k0_chk42 v393), ∀ a, (k0_off84 v393) a + S1x128.size a ≤ S10064x128.size a := fun v393 k0_hw42 => k0_hw42

def k0_off85 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c42_i32 : BitVec 32 := 42#32
  let v406 : BitVec 32 := Scalar.addi v5 c42_i32
  let v407 : Index := Scalar.indexCast v406
  ![v407.toNat]
def k0_off86 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c42_i32_150 : BitVec 32 := 42#32
  let v409 : BitVec 32 := Scalar.addi v5 c42_i32_150
  let c1_i32_151 : BitVec 32 := 1#32
  let v410 : BitVec 32 := Scalar.addi v409 c1_i32_151
  let v411 : Index := Scalar.indexCast v410
  ![v411.toNat]
def k0_off87 (v408 : BitVec 32) : Fin 2 → Nat :=
  let v413 : Index := Scalar.indexCast v408
  let c0_152 : Index := 0#32
  ![v413.toNat, 0]

def k0_chk43 (v408 : BitVec 32) : Prop :=
  (∀ a, (k0_off87 v408) a + S1x128.size a ≤ S10064x128.size a)
theorem k0_off87_inb : ∀ (v408 : BitVec 32) (k0_hw43 : k0_chk43 v408), ∀ a, (k0_off87 v408) a + S1x128.size a ≤ S10064x128.size a := fun v408 k0_hw43 => k0_hw43

def k0_off88 (v412 : BitVec 32) : Fin 2 → Nat :=
  let v419 : Index := Scalar.indexCast v412
  let c0_154 : Index := 0#32
  ![v419.toNat, 0]

def k0_chk44 (v412 : BitVec 32) : Prop :=
  (∀ a, (k0_off88 v412) a + S1x128.size a ≤ S10064x128.size a)
theorem k0_off88_inb : ∀ (v412 : BitVec 32) (k0_hw44 : k0_chk44 v412), ∀ a, (k0_off88 v412) a + S1x128.size a ≤ S10064x128.size a := fun v412 k0_hw44 => k0_hw44

def k0_off89 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c44_i32 : BitVec 32 := 44#32
  let v425 : BitVec 32 := Scalar.addi v5 c44_i32
  let v426 : Index := Scalar.indexCast v425
  ![v426.toNat]
def k0_off90 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c44_i32_157 : BitVec 32 := 44#32
  let v428 : BitVec 32 := Scalar.addi v5 c44_i32_157
  let c1_i32_158 : BitVec 32 := 1#32
  let v429 : BitVec 32 := Scalar.addi v428 c1_i32_158
  let v430 : Index := Scalar.indexCast v429
  ![v430.toNat]
def k0_off91 (v427 : BitVec 32) : Fin 2 → Nat :=
  let v432 : Index := Scalar.indexCast v427
  let c0_159 : Index := 0#32
  ![v432.toNat, 0]

def k0_chk45 (v427 : BitVec 32) : Prop :=
  (∀ a, (k0_off91 v427) a + S1x128.size a ≤ S10064x128.size a)
theorem k0_off91_inb : ∀ (v427 : BitVec 32) (k0_hw45 : k0_chk45 v427), ∀ a, (k0_off91 v427) a + S1x128.size a ≤ S10064x128.size a := fun v427 k0_hw45 => k0_hw45

def k0_off92 (v431 : BitVec 32) : Fin 2 → Nat :=
  let v438 : Index := Scalar.indexCast v431
  let c0_161 : Index := 0#32
  ![v438.toNat, 0]

def k0_chk46 (v431 : BitVec 32) : Prop :=
  (∀ a, (k0_off92 v431) a + S1x128.size a ≤ S10064x128.size a)
theorem k0_off92_inb : ∀ (v431 : BitVec 32) (k0_hw46 : k0_chk46 v431), ∀ a, (k0_off92 v431) a + S1x128.size a ≤ S10064x128.size a := fun v431 k0_hw46 => k0_hw46

def k0_off93 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c46_i32 : BitVec 32 := 46#32
  let v444 : BitVec 32 := Scalar.addi v5 c46_i32
  let v445 : Index := Scalar.indexCast v444
  ![v445.toNat]
def k0_off94 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c46_i32_164 : BitVec 32 := 46#32
  let v447 : BitVec 32 := Scalar.addi v5 c46_i32_164
  let c1_i32_165 : BitVec 32 := 1#32
  let v448 : BitVec 32 := Scalar.addi v447 c1_i32_165
  let v449 : Index := Scalar.indexCast v448
  ![v449.toNat]
def k0_off95 (v446 : BitVec 32) : Fin 2 → Nat :=
  let v451 : Index := Scalar.indexCast v446
  let c0_166 : Index := 0#32
  ![v451.toNat, 0]

def k0_chk47 (v446 : BitVec 32) : Prop :=
  (∀ a, (k0_off95 v446) a + S1x128.size a ≤ S10064x128.size a)
theorem k0_off95_inb : ∀ (v446 : BitVec 32) (k0_hw47 : k0_chk47 v446), ∀ a, (k0_off95 v446) a + S1x128.size a ≤ S10064x128.size a := fun v446 k0_hw47 => k0_hw47

def k0_off96 (v450 : BitVec 32) : Fin 2 → Nat :=
  let v457 : Index := Scalar.indexCast v450
  let c0_168 : Index := 0#32
  ![v457.toNat, 0]

def k0_chk48 (v450 : BitVec 32) : Prop :=
  (∀ a, (k0_off96 v450) a + S1x128.size a ≤ S10064x128.size a)
theorem k0_off96_inb : ∀ (v450 : BitVec 32) (k0_hw48 : k0_chk48 v450), ∀ a, (k0_off96 v450) a + S1x128.size a ≤ S10064x128.size a := fun v450 k0_hw48 => k0_hw48

def k0_off97 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c48_i32 : BitVec 32 := 48#32
  let v463 : BitVec 32 := Scalar.addi v5 c48_i32
  let v464 : Index := Scalar.indexCast v463
  ![v464.toNat]
def k0_off98 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c48_i32_171 : BitVec 32 := 48#32
  let v466 : BitVec 32 := Scalar.addi v5 c48_i32_171
  let c1_i32_172 : BitVec 32 := 1#32
  let v467 : BitVec 32 := Scalar.addi v466 c1_i32_172
  let v468 : Index := Scalar.indexCast v467
  ![v468.toNat]
def k0_off99 (v465 : BitVec 32) : Fin 2 → Nat :=
  let v470 : Index := Scalar.indexCast v465
  let c0_173 : Index := 0#32
  ![v470.toNat, 0]

def k0_chk49 (v465 : BitVec 32) : Prop :=
  (∀ a, (k0_off99 v465) a + S1x128.size a ≤ S10064x128.size a)
theorem k0_off99_inb : ∀ (v465 : BitVec 32) (k0_hw49 : k0_chk49 v465), ∀ a, (k0_off99 v465) a + S1x128.size a ≤ S10064x128.size a := fun v465 k0_hw49 => k0_hw49

def k0_off100 (v469 : BitVec 32) : Fin 2 → Nat :=
  let v476 : Index := Scalar.indexCast v469
  let c0_175 : Index := 0#32
  ![v476.toNat, 0]

def k0_chk50 (v469 : BitVec 32) : Prop :=
  (∀ a, (k0_off100 v469) a + S1x128.size a ≤ S10064x128.size a)
theorem k0_off100_inb : ∀ (v469 : BitVec 32) (k0_hw50 : k0_chk50 v469), ∀ a, (k0_off100 v469) a + S1x128.size a ≤ S10064x128.size a := fun v469 k0_hw50 => k0_hw50

def k0_off101 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c50_i32 : BitVec 32 := 50#32
  let v482 : BitVec 32 := Scalar.addi v5 c50_i32
  let v483 : Index := Scalar.indexCast v482
  ![v483.toNat]
def k0_off102 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c50_i32_178 : BitVec 32 := 50#32
  let v485 : BitVec 32 := Scalar.addi v5 c50_i32_178
  let c1_i32_179 : BitVec 32 := 1#32
  let v486 : BitVec 32 := Scalar.addi v485 c1_i32_179
  let v487 : Index := Scalar.indexCast v486
  ![v487.toNat]
def k0_off103 (v484 : BitVec 32) : Fin 2 → Nat :=
  let v489 : Index := Scalar.indexCast v484
  let c0_180 : Index := 0#32
  ![v489.toNat, 0]

def k0_chk51 (v484 : BitVec 32) : Prop :=
  (∀ a, (k0_off103 v484) a + S1x128.size a ≤ S10064x128.size a)
theorem k0_off103_inb : ∀ (v484 : BitVec 32) (k0_hw51 : k0_chk51 v484), ∀ a, (k0_off103 v484) a + S1x128.size a ≤ S10064x128.size a := fun v484 k0_hw51 => k0_hw51

def k0_off104 (v488 : BitVec 32) : Fin 2 → Nat :=
  let v495 : Index := Scalar.indexCast v488
  let c0_182 : Index := 0#32
  ![v495.toNat, 0]

def k0_chk52 (v488 : BitVec 32) : Prop :=
  (∀ a, (k0_off104 v488) a + S1x128.size a ≤ S10064x128.size a)
theorem k0_off104_inb : ∀ (v488 : BitVec 32) (k0_hw52 : k0_chk52 v488), ∀ a, (k0_off104 v488) a + S1x128.size a ≤ S10064x128.size a := fun v488 k0_hw52 => k0_hw52

def k0_off105 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c52_i32 : BitVec 32 := 52#32
  let v501 : BitVec 32 := Scalar.addi v5 c52_i32
  let v502 : Index := Scalar.indexCast v501
  ![v502.toNat]
def k0_off106 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c52_i32_185 : BitVec 32 := 52#32
  let v504 : BitVec 32 := Scalar.addi v5 c52_i32_185
  let c1_i32_186 : BitVec 32 := 1#32
  let v505 : BitVec 32 := Scalar.addi v504 c1_i32_186
  let v506 : Index := Scalar.indexCast v505
  ![v506.toNat]
def k0_off107 (v503 : BitVec 32) : Fin 2 → Nat :=
  let v508 : Index := Scalar.indexCast v503
  let c0_187 : Index := 0#32
  ![v508.toNat, 0]

def k0_chk53 (v503 : BitVec 32) : Prop :=
  (∀ a, (k0_off107 v503) a + S1x128.size a ≤ S10064x128.size a)
theorem k0_off107_inb : ∀ (v503 : BitVec 32) (k0_hw53 : k0_chk53 v503), ∀ a, (k0_off107 v503) a + S1x128.size a ≤ S10064x128.size a := fun v503 k0_hw53 => k0_hw53

def k0_off108 (v507 : BitVec 32) : Fin 2 → Nat :=
  let v514 : Index := Scalar.indexCast v507
  let c0_189 : Index := 0#32
  ![v514.toNat, 0]

def k0_chk54 (v507 : BitVec 32) : Prop :=
  (∀ a, (k0_off108 v507) a + S1x128.size a ≤ S10064x128.size a)
theorem k0_off108_inb : ∀ (v507 : BitVec 32) (k0_hw54 : k0_chk54 v507), ∀ a, (k0_off108 v507) a + S1x128.size a ≤ S10064x128.size a := fun v507 k0_hw54 => k0_hw54

def k0_off109 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c54_i32 : BitVec 32 := 54#32
  let v520 : BitVec 32 := Scalar.addi v5 c54_i32
  let v521 : Index := Scalar.indexCast v520
  ![v521.toNat]
def k0_off110 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c54_i32_192 : BitVec 32 := 54#32
  let v523 : BitVec 32 := Scalar.addi v5 c54_i32_192
  let c1_i32_193 : BitVec 32 := 1#32
  let v524 : BitVec 32 := Scalar.addi v523 c1_i32_193
  let v525 : Index := Scalar.indexCast v524
  ![v525.toNat]
def k0_off111 (v522 : BitVec 32) : Fin 2 → Nat :=
  let v527 : Index := Scalar.indexCast v522
  let c0_194 : Index := 0#32
  ![v527.toNat, 0]

def k0_chk55 (v522 : BitVec 32) : Prop :=
  (∀ a, (k0_off111 v522) a + S1x128.size a ≤ S10064x128.size a)
theorem k0_off111_inb : ∀ (v522 : BitVec 32) (k0_hw55 : k0_chk55 v522), ∀ a, (k0_off111 v522) a + S1x128.size a ≤ S10064x128.size a := fun v522 k0_hw55 => k0_hw55

def k0_off112 (v526 : BitVec 32) : Fin 2 → Nat :=
  let v533 : Index := Scalar.indexCast v526
  let c0_196 : Index := 0#32
  ![v533.toNat, 0]

def k0_chk56 (v526 : BitVec 32) : Prop :=
  (∀ a, (k0_off112 v526) a + S1x128.size a ≤ S10064x128.size a)
theorem k0_off112_inb : ∀ (v526 : BitVec 32) (k0_hw56 : k0_chk56 v526), ∀ a, (k0_off112 v526) a + S1x128.size a ≤ S10064x128.size a := fun v526 k0_hw56 => k0_hw56

def k0_off113 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c56_i32 : BitVec 32 := 56#32
  let v539 : BitVec 32 := Scalar.addi v5 c56_i32
  let v540 : Index := Scalar.indexCast v539
  ![v540.toNat]
def k0_off114 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c56_i32_199 : BitVec 32 := 56#32
  let v542 : BitVec 32 := Scalar.addi v5 c56_i32_199
  let c1_i32_200 : BitVec 32 := 1#32
  let v543 : BitVec 32 := Scalar.addi v542 c1_i32_200
  let v544 : Index := Scalar.indexCast v543
  ![v544.toNat]
def k0_off115 (v541 : BitVec 32) : Fin 2 → Nat :=
  let v546 : Index := Scalar.indexCast v541
  let c0_201 : Index := 0#32
  ![v546.toNat, 0]

def k0_chk57 (v541 : BitVec 32) : Prop :=
  (∀ a, (k0_off115 v541) a + S1x128.size a ≤ S10064x128.size a)
theorem k0_off115_inb : ∀ (v541 : BitVec 32) (k0_hw57 : k0_chk57 v541), ∀ a, (k0_off115 v541) a + S1x128.size a ≤ S10064x128.size a := fun v541 k0_hw57 => k0_hw57

def k0_off116 (v545 : BitVec 32) : Fin 2 → Nat :=
  let v552 : Index := Scalar.indexCast v545
  let c0_203 : Index := 0#32
  ![v552.toNat, 0]

def k0_chk58 (v545 : BitVec 32) : Prop :=
  (∀ a, (k0_off116 v545) a + S1x128.size a ≤ S10064x128.size a)
theorem k0_off116_inb : ∀ (v545 : BitVec 32) (k0_hw58 : k0_chk58 v545), ∀ a, (k0_off116 v545) a + S1x128.size a ≤ S10064x128.size a := fun v545 k0_hw58 => k0_hw58

def k0_off117 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c58_i32 : BitVec 32 := 58#32
  let v558 : BitVec 32 := Scalar.addi v5 c58_i32
  let v559 : Index := Scalar.indexCast v558
  ![v559.toNat]
def k0_off118 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c58_i32_206 : BitVec 32 := 58#32
  let v561 : BitVec 32 := Scalar.addi v5 c58_i32_206
  let c1_i32_207 : BitVec 32 := 1#32
  let v562 : BitVec 32 := Scalar.addi v561 c1_i32_207
  let v563 : Index := Scalar.indexCast v562
  ![v563.toNat]
def k0_off119 (v560 : BitVec 32) : Fin 2 → Nat :=
  let v565 : Index := Scalar.indexCast v560
  let c0_208 : Index := 0#32
  ![v565.toNat, 0]

def k0_chk59 (v560 : BitVec 32) : Prop :=
  (∀ a, (k0_off119 v560) a + S1x128.size a ≤ S10064x128.size a)
theorem k0_off119_inb : ∀ (v560 : BitVec 32) (k0_hw59 : k0_chk59 v560), ∀ a, (k0_off119 v560) a + S1x128.size a ≤ S10064x128.size a := fun v560 k0_hw59 => k0_hw59

def k0_off120 (v564 : BitVec 32) : Fin 2 → Nat :=
  let v571 : Index := Scalar.indexCast v564
  let c0_210 : Index := 0#32
  ![v571.toNat, 0]

def k0_chk60 (v564 : BitVec 32) : Prop :=
  (∀ a, (k0_off120 v564) a + S1x128.size a ≤ S10064x128.size a)
theorem k0_off120_inb : ∀ (v564 : BitVec 32) (k0_hw60 : k0_chk60 v564), ∀ a, (k0_off120 v564) a + S1x128.size a ≤ S10064x128.size a := fun v564 k0_hw60 => k0_hw60

def k0_off121 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c60_i32 : BitVec 32 := 60#32
  let v577 : BitVec 32 := Scalar.addi v5 c60_i32
  let v578 : Index := Scalar.indexCast v577
  ![v578.toNat]
def k0_off122 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c60_i32_213 : BitVec 32 := 60#32
  let v580 : BitVec 32 := Scalar.addi v5 c60_i32_213
  let c1_i32_214 : BitVec 32 := 1#32
  let v581 : BitVec 32 := Scalar.addi v580 c1_i32_214
  let v582 : Index := Scalar.indexCast v581
  ![v582.toNat]
def k0_off123 (v579 : BitVec 32) : Fin 2 → Nat :=
  let v584 : Index := Scalar.indexCast v579
  let c0_215 : Index := 0#32
  ![v584.toNat, 0]

def k0_chk61 (v579 : BitVec 32) : Prop :=
  (∀ a, (k0_off123 v579) a + S1x128.size a ≤ S10064x128.size a)
theorem k0_off123_inb : ∀ (v579 : BitVec 32) (k0_hw61 : k0_chk61 v579), ∀ a, (k0_off123 v579) a + S1x128.size a ≤ S10064x128.size a := fun v579 k0_hw61 => k0_hw61

def k0_off124 (v583 : BitVec 32) : Fin 2 → Nat :=
  let v590 : Index := Scalar.indexCast v583
  let c0_217 : Index := 0#32
  ![v590.toNat, 0]

def k0_chk62 (v583 : BitVec 32) : Prop :=
  (∀ a, (k0_off124 v583) a + S1x128.size a ≤ S10064x128.size a)
theorem k0_off124_inb : ∀ (v583 : BitVec 32) (k0_hw62 : k0_chk62 v583), ∀ a, (k0_off124 v583) a + S1x128.size a ≤ S10064x128.size a := fun v583 k0_hw62 => k0_hw62

def k0_off125 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c62_i32 : BitVec 32 := 62#32
  let v596 : BitVec 32 := Scalar.addi v5 c62_i32
  let v597 : Index := Scalar.indexCast v596
  ![v597.toNat]
def k0_off126 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c62_i32_220 : BitVec 32 := 62#32
  let v599 : BitVec 32 := Scalar.addi v5 c62_i32_220
  let c1_i32_221 : BitVec 32 := 1#32
  let v600 : BitVec 32 := Scalar.addi v599 c1_i32_221
  let v601 : Index := Scalar.indexCast v600
  ![v601.toNat]
def k0_off127 (v598 : BitVec 32) : Fin 2 → Nat :=
  let v603 : Index := Scalar.indexCast v598
  let c0_222 : Index := 0#32
  ![v603.toNat, 0]

def k0_chk63 (v598 : BitVec 32) : Prop :=
  (∀ a, (k0_off127 v598) a + S1x128.size a ≤ S10064x128.size a)
theorem k0_off127_inb : ∀ (v598 : BitVec 32) (k0_hw63 : k0_chk63 v598), ∀ a, (k0_off127 v598) a + S1x128.size a ≤ S10064x128.size a := fun v598 k0_hw63 => k0_hw63

def k0_off128 (v602 : BitVec 32) : Fin 2 → Nat :=
  let v609 : Index := Scalar.indexCast v602
  let c0_224 : Index := 0#32
  ![v609.toNat, 0]

def k0_chk64 (v602 : BitVec 32) : Prop :=
  (∀ a, (k0_off128 v602) a + S1x128.size a ≤ S10064x128.size a)
theorem k0_off128_inb : ∀ (v602 : BitVec 32) (k0_hw64 : k0_chk64 v602), ∀ a, (k0_off128 v602) a + S1x128.size a ≤ S10064x128.size a := fun v602 k0_hw64 => k0_hw64

def k0_off129 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c64_i32_227 : BitVec 32 := 64#32
  let v615 : BitVec 32 := Scalar.addi v5 c64_i32_227
  let v616 : Index := Scalar.indexCast v615
  ![v616.toNat]
def k0_off130 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c64_i32_228 : BitVec 32 := 64#32
  let v618 : BitVec 32 := Scalar.addi v5 c64_i32_228
  let c1_i32_229 : BitVec 32 := 1#32
  let v619 : BitVec 32 := Scalar.addi v618 c1_i32_229
  let v620 : Index := Scalar.indexCast v619
  ![v620.toNat]
def k0_off131 (v617 : BitVec 32) : Fin 2 → Nat :=
  let v622 : Index := Scalar.indexCast v617
  let c0_230 : Index := 0#32
  ![v622.toNat, 0]

def k0_chk65 (v617 : BitVec 32) : Prop :=
  (∀ a, (k0_off131 v617) a + S1x128.size a ≤ S10064x128.size a)
theorem k0_off131_inb : ∀ (v617 : BitVec 32) (k0_hw65 : k0_chk65 v617), ∀ a, (k0_off131 v617) a + S1x128.size a ≤ S10064x128.size a := fun v617 k0_hw65 => k0_hw65

def k0_off132 (v621 : BitVec 32) : Fin 2 → Nat :=
  let v628 : Index := Scalar.indexCast v621
  let c0_232 : Index := 0#32
  ![v628.toNat, 0]

def k0_chk66 (v621 : BitVec 32) : Prop :=
  (∀ a, (k0_off132 v621) a + S1x128.size a ≤ S10064x128.size a)
theorem k0_off132_inb : ∀ (v621 : BitVec 32) (k0_hw66 : k0_chk66 v621), ∀ a, (k0_off132 v621) a + S1x128.size a ≤ S10064x128.size a := fun v621 k0_hw66 => k0_hw66

def k0_off133 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c66_i32 : BitVec 32 := 66#32
  let v634 : BitVec 32 := Scalar.addi v5 c66_i32
  let v635 : Index := Scalar.indexCast v634
  ![v635.toNat]
def k0_off134 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c66_i32_235 : BitVec 32 := 66#32
  let v637 : BitVec 32 := Scalar.addi v5 c66_i32_235
  let c1_i32_236 : BitVec 32 := 1#32
  let v638 : BitVec 32 := Scalar.addi v637 c1_i32_236
  let v639 : Index := Scalar.indexCast v638
  ![v639.toNat]
def k0_off135 (v636 : BitVec 32) : Fin 2 → Nat :=
  let v641 : Index := Scalar.indexCast v636
  let c0_237 : Index := 0#32
  ![v641.toNat, 0]

def k0_chk67 (v636 : BitVec 32) : Prop :=
  (∀ a, (k0_off135 v636) a + S1x128.size a ≤ S10064x128.size a)
theorem k0_off135_inb : ∀ (v636 : BitVec 32) (k0_hw67 : k0_chk67 v636), ∀ a, (k0_off135 v636) a + S1x128.size a ≤ S10064x128.size a := fun v636 k0_hw67 => k0_hw67

def k0_off136 (v640 : BitVec 32) : Fin 2 → Nat :=
  let v647 : Index := Scalar.indexCast v640
  let c0_239 : Index := 0#32
  ![v647.toNat, 0]

def k0_chk68 (v640 : BitVec 32) : Prop :=
  (∀ a, (k0_off136 v640) a + S1x128.size a ≤ S10064x128.size a)
theorem k0_off136_inb : ∀ (v640 : BitVec 32) (k0_hw68 : k0_chk68 v640), ∀ a, (k0_off136 v640) a + S1x128.size a ≤ S10064x128.size a := fun v640 k0_hw68 => k0_hw68

def k0_off137 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c68_i32 : BitVec 32 := 68#32
  let v653 : BitVec 32 := Scalar.addi v5 c68_i32
  let v654 : Index := Scalar.indexCast v653
  ![v654.toNat]
def k0_off138 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c68_i32_242 : BitVec 32 := 68#32
  let v656 : BitVec 32 := Scalar.addi v5 c68_i32_242
  let c1_i32_243 : BitVec 32 := 1#32
  let v657 : BitVec 32 := Scalar.addi v656 c1_i32_243
  let v658 : Index := Scalar.indexCast v657
  ![v658.toNat]
def k0_off139 (v655 : BitVec 32) : Fin 2 → Nat :=
  let v660 : Index := Scalar.indexCast v655
  let c0_244 : Index := 0#32
  ![v660.toNat, 0]

def k0_chk69 (v655 : BitVec 32) : Prop :=
  (∀ a, (k0_off139 v655) a + S1x128.size a ≤ S10064x128.size a)
theorem k0_off139_inb : ∀ (v655 : BitVec 32) (k0_hw69 : k0_chk69 v655), ∀ a, (k0_off139 v655) a + S1x128.size a ≤ S10064x128.size a := fun v655 k0_hw69 => k0_hw69

def k0_off140 (v659 : BitVec 32) : Fin 2 → Nat :=
  let v666 : Index := Scalar.indexCast v659
  let c0_246 : Index := 0#32
  ![v666.toNat, 0]

def k0_chk70 (v659 : BitVec 32) : Prop :=
  (∀ a, (k0_off140 v659) a + S1x128.size a ≤ S10064x128.size a)
theorem k0_off140_inb : ∀ (v659 : BitVec 32) (k0_hw70 : k0_chk70 v659), ∀ a, (k0_off140 v659) a + S1x128.size a ≤ S10064x128.size a := fun v659 k0_hw70 => k0_hw70

def k0_off141 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c70_i32 : BitVec 32 := 70#32
  let v672 : BitVec 32 := Scalar.addi v5 c70_i32
  let v673 : Index := Scalar.indexCast v672
  ![v673.toNat]
def k0_off142 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c70_i32_249 : BitVec 32 := 70#32
  let v675 : BitVec 32 := Scalar.addi v5 c70_i32_249
  let c1_i32_250 : BitVec 32 := 1#32
  let v676 : BitVec 32 := Scalar.addi v675 c1_i32_250
  let v677 : Index := Scalar.indexCast v676
  ![v677.toNat]
def k0_off143 (v674 : BitVec 32) : Fin 2 → Nat :=
  let v679 : Index := Scalar.indexCast v674
  let c0_251 : Index := 0#32
  ![v679.toNat, 0]

def k0_chk71 (v674 : BitVec 32) : Prop :=
  (∀ a, (k0_off143 v674) a + S1x128.size a ≤ S10064x128.size a)
theorem k0_off143_inb : ∀ (v674 : BitVec 32) (k0_hw71 : k0_chk71 v674), ∀ a, (k0_off143 v674) a + S1x128.size a ≤ S10064x128.size a := fun v674 k0_hw71 => k0_hw71

def k0_off144 (v678 : BitVec 32) : Fin 2 → Nat :=
  let v685 : Index := Scalar.indexCast v678
  let c0_253 : Index := 0#32
  ![v685.toNat, 0]

def k0_chk72 (v678 : BitVec 32) : Prop :=
  (∀ a, (k0_off144 v678) a + S1x128.size a ≤ S10064x128.size a)
theorem k0_off144_inb : ∀ (v678 : BitVec 32) (k0_hw72 : k0_chk72 v678), ∀ a, (k0_off144 v678) a + S1x128.size a ≤ S10064x128.size a := fun v678 k0_hw72 => k0_hw72

def k0_off145 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c72_i32 : BitVec 32 := 72#32
  let v691 : BitVec 32 := Scalar.addi v5 c72_i32
  let v692 : Index := Scalar.indexCast v691
  ![v692.toNat]
def k0_off146 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c72_i32_256 : BitVec 32 := 72#32
  let v694 : BitVec 32 := Scalar.addi v5 c72_i32_256
  let c1_i32_257 : BitVec 32 := 1#32
  let v695 : BitVec 32 := Scalar.addi v694 c1_i32_257
  let v696 : Index := Scalar.indexCast v695
  ![v696.toNat]
def k0_off147 (v693 : BitVec 32) : Fin 2 → Nat :=
  let v698 : Index := Scalar.indexCast v693
  let c0_258 : Index := 0#32
  ![v698.toNat, 0]

def k0_chk73 (v693 : BitVec 32) : Prop :=
  (∀ a, (k0_off147 v693) a + S1x128.size a ≤ S10064x128.size a)
theorem k0_off147_inb : ∀ (v693 : BitVec 32) (k0_hw73 : k0_chk73 v693), ∀ a, (k0_off147 v693) a + S1x128.size a ≤ S10064x128.size a := fun v693 k0_hw73 => k0_hw73

def k0_off148 (v697 : BitVec 32) : Fin 2 → Nat :=
  let v704 : Index := Scalar.indexCast v697
  let c0_260 : Index := 0#32
  ![v704.toNat, 0]

def k0_chk74 (v697 : BitVec 32) : Prop :=
  (∀ a, (k0_off148 v697) a + S1x128.size a ≤ S10064x128.size a)
theorem k0_off148_inb : ∀ (v697 : BitVec 32) (k0_hw74 : k0_chk74 v697), ∀ a, (k0_off148 v697) a + S1x128.size a ≤ S10064x128.size a := fun v697 k0_hw74 => k0_hw74

def k0_off149 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c74_i32 : BitVec 32 := 74#32
  let v710 : BitVec 32 := Scalar.addi v5 c74_i32
  let v711 : Index := Scalar.indexCast v710
  ![v711.toNat]
def k0_off150 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c74_i32_263 : BitVec 32 := 74#32
  let v713 : BitVec 32 := Scalar.addi v5 c74_i32_263
  let c1_i32_264 : BitVec 32 := 1#32
  let v714 : BitVec 32 := Scalar.addi v713 c1_i32_264
  let v715 : Index := Scalar.indexCast v714
  ![v715.toNat]
def k0_off151 (v712 : BitVec 32) : Fin 2 → Nat :=
  let v717 : Index := Scalar.indexCast v712
  let c0_265 : Index := 0#32
  ![v717.toNat, 0]

def k0_chk75 (v712 : BitVec 32) : Prop :=
  (∀ a, (k0_off151 v712) a + S1x128.size a ≤ S10064x128.size a)
theorem k0_off151_inb : ∀ (v712 : BitVec 32) (k0_hw75 : k0_chk75 v712), ∀ a, (k0_off151 v712) a + S1x128.size a ≤ S10064x128.size a := fun v712 k0_hw75 => k0_hw75

def k0_off152 (v716 : BitVec 32) : Fin 2 → Nat :=
  let v723 : Index := Scalar.indexCast v716
  let c0_267 : Index := 0#32
  ![v723.toNat, 0]

def k0_chk76 (v716 : BitVec 32) : Prop :=
  (∀ a, (k0_off152 v716) a + S1x128.size a ≤ S10064x128.size a)
theorem k0_off152_inb : ∀ (v716 : BitVec 32) (k0_hw76 : k0_chk76 v716), ∀ a, (k0_off152 v716) a + S1x128.size a ≤ S10064x128.size a := fun v716 k0_hw76 => k0_hw76

def k0_off153 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c76_i32 : BitVec 32 := 76#32
  let v729 : BitVec 32 := Scalar.addi v5 c76_i32
  let v730 : Index := Scalar.indexCast v729
  ![v730.toNat]
def k0_off154 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c76_i32_270 : BitVec 32 := 76#32
  let v732 : BitVec 32 := Scalar.addi v5 c76_i32_270
  let c1_i32_271 : BitVec 32 := 1#32
  let v733 : BitVec 32 := Scalar.addi v732 c1_i32_271
  let v734 : Index := Scalar.indexCast v733
  ![v734.toNat]
def k0_off155 (v731 : BitVec 32) : Fin 2 → Nat :=
  let v736 : Index := Scalar.indexCast v731
  let c0_272 : Index := 0#32
  ![v736.toNat, 0]

def k0_chk77 (v731 : BitVec 32) : Prop :=
  (∀ a, (k0_off155 v731) a + S1x128.size a ≤ S10064x128.size a)
theorem k0_off155_inb : ∀ (v731 : BitVec 32) (k0_hw77 : k0_chk77 v731), ∀ a, (k0_off155 v731) a + S1x128.size a ≤ S10064x128.size a := fun v731 k0_hw77 => k0_hw77

def k0_off156 (v735 : BitVec 32) : Fin 2 → Nat :=
  let v742 : Index := Scalar.indexCast v735
  let c0_274 : Index := 0#32
  ![v742.toNat, 0]

def k0_chk78 (v735 : BitVec 32) : Prop :=
  (∀ a, (k0_off156 v735) a + S1x128.size a ≤ S10064x128.size a)
theorem k0_off156_inb : ∀ (v735 : BitVec 32) (k0_hw78 : k0_chk78 v735), ∀ a, (k0_off156 v735) a + S1x128.size a ≤ S10064x128.size a := fun v735 k0_hw78 => k0_hw78

def k0_off157 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c78_i32 : BitVec 32 := 78#32
  let v748 : BitVec 32 := Scalar.addi v5 c78_i32
  let v749 : Index := Scalar.indexCast v748
  ![v749.toNat]
def k0_off158 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c78_i32_277 : BitVec 32 := 78#32
  let v751 : BitVec 32 := Scalar.addi v5 c78_i32_277
  let c1_i32_278 : BitVec 32 := 1#32
  let v752 : BitVec 32 := Scalar.addi v751 c1_i32_278
  let v753 : Index := Scalar.indexCast v752
  ![v753.toNat]
def k0_off159 (v750 : BitVec 32) : Fin 2 → Nat :=
  let v755 : Index := Scalar.indexCast v750
  let c0_279 : Index := 0#32
  ![v755.toNat, 0]

def k0_chk79 (v750 : BitVec 32) : Prop :=
  (∀ a, (k0_off159 v750) a + S1x128.size a ≤ S10064x128.size a)
theorem k0_off159_inb : ∀ (v750 : BitVec 32) (k0_hw79 : k0_chk79 v750), ∀ a, (k0_off159 v750) a + S1x128.size a ≤ S10064x128.size a := fun v750 k0_hw79 => k0_hw79

def k0_off160 (v754 : BitVec 32) : Fin 2 → Nat :=
  let v761 : Index := Scalar.indexCast v754
  let c0_281 : Index := 0#32
  ![v761.toNat, 0]

def k0_chk80 (v754 : BitVec 32) : Prop :=
  (∀ a, (k0_off160 v754) a + S1x128.size a ≤ S10064x128.size a)
theorem k0_off160_inb : ∀ (v754 : BitVec 32) (k0_hw80 : k0_chk80 v754), ∀ a, (k0_off160 v754) a + S1x128.size a ≤ S10064x128.size a := fun v754 k0_hw80 => k0_hw80

def k0_off161 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c80_i32 : BitVec 32 := 80#32
  let v767 : BitVec 32 := Scalar.addi v5 c80_i32
  let v768 : Index := Scalar.indexCast v767
  ![v768.toNat]
def k0_off162 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c80_i32_284 : BitVec 32 := 80#32
  let v770 : BitVec 32 := Scalar.addi v5 c80_i32_284
  let c1_i32_285 : BitVec 32 := 1#32
  let v771 : BitVec 32 := Scalar.addi v770 c1_i32_285
  let v772 : Index := Scalar.indexCast v771
  ![v772.toNat]
def k0_off163 (v769 : BitVec 32) : Fin 2 → Nat :=
  let v774 : Index := Scalar.indexCast v769
  let c0_286 : Index := 0#32
  ![v774.toNat, 0]

def k0_chk81 (v769 : BitVec 32) : Prop :=
  (∀ a, (k0_off163 v769) a + S1x128.size a ≤ S10064x128.size a)
theorem k0_off163_inb : ∀ (v769 : BitVec 32) (k0_hw81 : k0_chk81 v769), ∀ a, (k0_off163 v769) a + S1x128.size a ≤ S10064x128.size a := fun v769 k0_hw81 => k0_hw81

def k0_off164 (v773 : BitVec 32) : Fin 2 → Nat :=
  let v780 : Index := Scalar.indexCast v773
  let c0_288 : Index := 0#32
  ![v780.toNat, 0]

def k0_chk82 (v773 : BitVec 32) : Prop :=
  (∀ a, (k0_off164 v773) a + S1x128.size a ≤ S10064x128.size a)
theorem k0_off164_inb : ∀ (v773 : BitVec 32) (k0_hw82 : k0_chk82 v773), ∀ a, (k0_off164 v773) a + S1x128.size a ≤ S10064x128.size a := fun v773 k0_hw82 => k0_hw82

def k0_off165 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c82_i32 : BitVec 32 := 82#32
  let v786 : BitVec 32 := Scalar.addi v5 c82_i32
  let v787 : Index := Scalar.indexCast v786
  ![v787.toNat]
def k0_off166 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c82_i32_291 : BitVec 32 := 82#32
  let v789 : BitVec 32 := Scalar.addi v5 c82_i32_291
  let c1_i32_292 : BitVec 32 := 1#32
  let v790 : BitVec 32 := Scalar.addi v789 c1_i32_292
  let v791 : Index := Scalar.indexCast v790
  ![v791.toNat]
def k0_off167 (v788 : BitVec 32) : Fin 2 → Nat :=
  let v793 : Index := Scalar.indexCast v788
  let c0_293 : Index := 0#32
  ![v793.toNat, 0]

def k0_chk83 (v788 : BitVec 32) : Prop :=
  (∀ a, (k0_off167 v788) a + S1x128.size a ≤ S10064x128.size a)
theorem k0_off167_inb : ∀ (v788 : BitVec 32) (k0_hw83 : k0_chk83 v788), ∀ a, (k0_off167 v788) a + S1x128.size a ≤ S10064x128.size a := fun v788 k0_hw83 => k0_hw83

def k0_off168 (v792 : BitVec 32) : Fin 2 → Nat :=
  let v799 : Index := Scalar.indexCast v792
  let c0_295 : Index := 0#32
  ![v799.toNat, 0]

def k0_chk84 (v792 : BitVec 32) : Prop :=
  (∀ a, (k0_off168 v792) a + S1x128.size a ≤ S10064x128.size a)
theorem k0_off168_inb : ∀ (v792 : BitVec 32) (k0_hw84 : k0_chk84 v792), ∀ a, (k0_off168 v792) a + S1x128.size a ≤ S10064x128.size a := fun v792 k0_hw84 => k0_hw84

def k0_off169 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c84_i32 : BitVec 32 := 84#32
  let v805 : BitVec 32 := Scalar.addi v5 c84_i32
  let v806 : Index := Scalar.indexCast v805
  ![v806.toNat]
def k0_off170 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c84_i32_298 : BitVec 32 := 84#32
  let v808 : BitVec 32 := Scalar.addi v5 c84_i32_298
  let c1_i32_299 : BitVec 32 := 1#32
  let v809 : BitVec 32 := Scalar.addi v808 c1_i32_299
  let v810 : Index := Scalar.indexCast v809
  ![v810.toNat]
def k0_off171 (v807 : BitVec 32) : Fin 2 → Nat :=
  let v812 : Index := Scalar.indexCast v807
  let c0_300 : Index := 0#32
  ![v812.toNat, 0]

def k0_chk85 (v807 : BitVec 32) : Prop :=
  (∀ a, (k0_off171 v807) a + S1x128.size a ≤ S10064x128.size a)
theorem k0_off171_inb : ∀ (v807 : BitVec 32) (k0_hw85 : k0_chk85 v807), ∀ a, (k0_off171 v807) a + S1x128.size a ≤ S10064x128.size a := fun v807 k0_hw85 => k0_hw85

def k0_off172 (v811 : BitVec 32) : Fin 2 → Nat :=
  let v818 : Index := Scalar.indexCast v811
  let c0_302 : Index := 0#32
  ![v818.toNat, 0]

def k0_chk86 (v811 : BitVec 32) : Prop :=
  (∀ a, (k0_off172 v811) a + S1x128.size a ≤ S10064x128.size a)
theorem k0_off172_inb : ∀ (v811 : BitVec 32) (k0_hw86 : k0_chk86 v811), ∀ a, (k0_off172 v811) a + S1x128.size a ≤ S10064x128.size a := fun v811 k0_hw86 => k0_hw86

def k0_off173 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c86_i32 : BitVec 32 := 86#32
  let v824 : BitVec 32 := Scalar.addi v5 c86_i32
  let v825 : Index := Scalar.indexCast v824
  ![v825.toNat]
def k0_off174 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c86_i32_305 : BitVec 32 := 86#32
  let v827 : BitVec 32 := Scalar.addi v5 c86_i32_305
  let c1_i32_306 : BitVec 32 := 1#32
  let v828 : BitVec 32 := Scalar.addi v827 c1_i32_306
  let v829 : Index := Scalar.indexCast v828
  ![v829.toNat]
def k0_off175 (v826 : BitVec 32) : Fin 2 → Nat :=
  let v831 : Index := Scalar.indexCast v826
  let c0_307 : Index := 0#32
  ![v831.toNat, 0]

def k0_chk87 (v826 : BitVec 32) : Prop :=
  (∀ a, (k0_off175 v826) a + S1x128.size a ≤ S10064x128.size a)
theorem k0_off175_inb : ∀ (v826 : BitVec 32) (k0_hw87 : k0_chk87 v826), ∀ a, (k0_off175 v826) a + S1x128.size a ≤ S10064x128.size a := fun v826 k0_hw87 => k0_hw87

def k0_off176 (v830 : BitVec 32) : Fin 2 → Nat :=
  let v837 : Index := Scalar.indexCast v830
  let c0_309 : Index := 0#32
  ![v837.toNat, 0]

def k0_chk88 (v830 : BitVec 32) : Prop :=
  (∀ a, (k0_off176 v830) a + S1x128.size a ≤ S10064x128.size a)
theorem k0_off176_inb : ∀ (v830 : BitVec 32) (k0_hw88 : k0_chk88 v830), ∀ a, (k0_off176 v830) a + S1x128.size a ≤ S10064x128.size a := fun v830 k0_hw88 => k0_hw88

def k0_off177 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c88_i32 : BitVec 32 := 88#32
  let v843 : BitVec 32 := Scalar.addi v5 c88_i32
  let v844 : Index := Scalar.indexCast v843
  ![v844.toNat]
def k0_off178 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c88_i32_312 : BitVec 32 := 88#32
  let v846 : BitVec 32 := Scalar.addi v5 c88_i32_312
  let c1_i32_313 : BitVec 32 := 1#32
  let v847 : BitVec 32 := Scalar.addi v846 c1_i32_313
  let v848 : Index := Scalar.indexCast v847
  ![v848.toNat]
def k0_off179 (v845 : BitVec 32) : Fin 2 → Nat :=
  let v850 : Index := Scalar.indexCast v845
  let c0_314 : Index := 0#32
  ![v850.toNat, 0]

def k0_chk89 (v845 : BitVec 32) : Prop :=
  (∀ a, (k0_off179 v845) a + S1x128.size a ≤ S10064x128.size a)
theorem k0_off179_inb : ∀ (v845 : BitVec 32) (k0_hw89 : k0_chk89 v845), ∀ a, (k0_off179 v845) a + S1x128.size a ≤ S10064x128.size a := fun v845 k0_hw89 => k0_hw89

def k0_off180 (v849 : BitVec 32) : Fin 2 → Nat :=
  let v856 : Index := Scalar.indexCast v849
  let c0_316 : Index := 0#32
  ![v856.toNat, 0]

def k0_chk90 (v849 : BitVec 32) : Prop :=
  (∀ a, (k0_off180 v849) a + S1x128.size a ≤ S10064x128.size a)
theorem k0_off180_inb : ∀ (v849 : BitVec 32) (k0_hw90 : k0_chk90 v849), ∀ a, (k0_off180 v849) a + S1x128.size a ≤ S10064x128.size a := fun v849 k0_hw90 => k0_hw90

def k0_off181 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c90_i32 : BitVec 32 := 90#32
  let v862 : BitVec 32 := Scalar.addi v5 c90_i32
  let v863 : Index := Scalar.indexCast v862
  ![v863.toNat]
def k0_off182 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c90_i32_319 : BitVec 32 := 90#32
  let v865 : BitVec 32 := Scalar.addi v5 c90_i32_319
  let c1_i32_320 : BitVec 32 := 1#32
  let v866 : BitVec 32 := Scalar.addi v865 c1_i32_320
  let v867 : Index := Scalar.indexCast v866
  ![v867.toNat]
def k0_off183 (v864 : BitVec 32) : Fin 2 → Nat :=
  let v869 : Index := Scalar.indexCast v864
  let c0_321 : Index := 0#32
  ![v869.toNat, 0]

def k0_chk91 (v864 : BitVec 32) : Prop :=
  (∀ a, (k0_off183 v864) a + S1x128.size a ≤ S10064x128.size a)
theorem k0_off183_inb : ∀ (v864 : BitVec 32) (k0_hw91 : k0_chk91 v864), ∀ a, (k0_off183 v864) a + S1x128.size a ≤ S10064x128.size a := fun v864 k0_hw91 => k0_hw91

def k0_off184 (v868 : BitVec 32) : Fin 2 → Nat :=
  let v875 : Index := Scalar.indexCast v868
  let c0_323 : Index := 0#32
  ![v875.toNat, 0]

def k0_chk92 (v868 : BitVec 32) : Prop :=
  (∀ a, (k0_off184 v868) a + S1x128.size a ≤ S10064x128.size a)
theorem k0_off184_inb : ∀ (v868 : BitVec 32) (k0_hw92 : k0_chk92 v868), ∀ a, (k0_off184 v868) a + S1x128.size a ≤ S10064x128.size a := fun v868 k0_hw92 => k0_hw92

def k0_off185 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c92_i32 : BitVec 32 := 92#32
  let v881 : BitVec 32 := Scalar.addi v5 c92_i32
  let v882 : Index := Scalar.indexCast v881
  ![v882.toNat]
def k0_off186 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c92_i32_326 : BitVec 32 := 92#32
  let v884 : BitVec 32 := Scalar.addi v5 c92_i32_326
  let c1_i32_327 : BitVec 32 := 1#32
  let v885 : BitVec 32 := Scalar.addi v884 c1_i32_327
  let v886 : Index := Scalar.indexCast v885
  ![v886.toNat]
def k0_off187 (v883 : BitVec 32) : Fin 2 → Nat :=
  let v888 : Index := Scalar.indexCast v883
  let c0_328 : Index := 0#32
  ![v888.toNat, 0]

def k0_chk93 (v883 : BitVec 32) : Prop :=
  (∀ a, (k0_off187 v883) a + S1x128.size a ≤ S10064x128.size a)
theorem k0_off187_inb : ∀ (v883 : BitVec 32) (k0_hw93 : k0_chk93 v883), ∀ a, (k0_off187 v883) a + S1x128.size a ≤ S10064x128.size a := fun v883 k0_hw93 => k0_hw93

def k0_off188 (v887 : BitVec 32) : Fin 2 → Nat :=
  let v894 : Index := Scalar.indexCast v887
  let c0_330 : Index := 0#32
  ![v894.toNat, 0]

def k0_chk94 (v887 : BitVec 32) : Prop :=
  (∀ a, (k0_off188 v887) a + S1x128.size a ≤ S10064x128.size a)
theorem k0_off188_inb : ∀ (v887 : BitVec 32) (k0_hw94 : k0_chk94 v887), ∀ a, (k0_off188 v887) a + S1x128.size a ≤ S10064x128.size a := fun v887 k0_hw94 => k0_hw94

def k0_off189 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c94_i32 : BitVec 32 := 94#32
  let v900 : BitVec 32 := Scalar.addi v5 c94_i32
  let v901 : Index := Scalar.indexCast v900
  ![v901.toNat]
def k0_off190 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c94_i32_333 : BitVec 32 := 94#32
  let v903 : BitVec 32 := Scalar.addi v5 c94_i32_333
  let c1_i32_334 : BitVec 32 := 1#32
  let v904 : BitVec 32 := Scalar.addi v903 c1_i32_334
  let v905 : Index := Scalar.indexCast v904
  ![v905.toNat]
def k0_off191 (v902 : BitVec 32) : Fin 2 → Nat :=
  let v907 : Index := Scalar.indexCast v902
  let c0_335 : Index := 0#32
  ![v907.toNat, 0]

def k0_chk95 (v902 : BitVec 32) : Prop :=
  (∀ a, (k0_off191 v902) a + S1x128.size a ≤ S10064x128.size a)
theorem k0_off191_inb : ∀ (v902 : BitVec 32) (k0_hw95 : k0_chk95 v902), ∀ a, (k0_off191 v902) a + S1x128.size a ≤ S10064x128.size a := fun v902 k0_hw95 => k0_hw95

def k0_off192 (v906 : BitVec 32) : Fin 2 → Nat :=
  let v913 : Index := Scalar.indexCast v906
  let c0_337 : Index := 0#32
  ![v913.toNat, 0]

def k0_chk96 (v906 : BitVec 32) : Prop :=
  (∀ a, (k0_off192 v906) a + S1x128.size a ≤ S10064x128.size a)
theorem k0_off192_inb : ∀ (v906 : BitVec 32) (k0_hw96 : k0_chk96 v906), ∀ a, (k0_off192 v906) a + S1x128.size a ≤ S10064x128.size a := fun v906 k0_hw96 => k0_hw96

def k0_off193 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c96_i32 : BitVec 32 := 96#32
  let v919 : BitVec 32 := Scalar.addi v5 c96_i32
  let v920 : Index := Scalar.indexCast v919
  ![v920.toNat]
def k0_off194 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c96_i32_340 : BitVec 32 := 96#32
  let v922 : BitVec 32 := Scalar.addi v5 c96_i32_340
  let c1_i32_341 : BitVec 32 := 1#32
  let v923 : BitVec 32 := Scalar.addi v922 c1_i32_341
  let v924 : Index := Scalar.indexCast v923
  ![v924.toNat]
def k0_off195 (v921 : BitVec 32) : Fin 2 → Nat :=
  let v926 : Index := Scalar.indexCast v921
  let c0_342 : Index := 0#32
  ![v926.toNat, 0]

def k0_chk97 (v921 : BitVec 32) : Prop :=
  (∀ a, (k0_off195 v921) a + S1x128.size a ≤ S10064x128.size a)
theorem k0_off195_inb : ∀ (v921 : BitVec 32) (k0_hw97 : k0_chk97 v921), ∀ a, (k0_off195 v921) a + S1x128.size a ≤ S10064x128.size a := fun v921 k0_hw97 => k0_hw97

def k0_off196 (v925 : BitVec 32) : Fin 2 → Nat :=
  let v932 : Index := Scalar.indexCast v925
  let c0_344 : Index := 0#32
  ![v932.toNat, 0]

def k0_chk98 (v925 : BitVec 32) : Prop :=
  (∀ a, (k0_off196 v925) a + S1x128.size a ≤ S10064x128.size a)
theorem k0_off196_inb : ∀ (v925 : BitVec 32) (k0_hw98 : k0_chk98 v925), ∀ a, (k0_off196 v925) a + S1x128.size a ≤ S10064x128.size a := fun v925 k0_hw98 => k0_hw98

def k0_off197 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c98_i32 : BitVec 32 := 98#32
  let v938 : BitVec 32 := Scalar.addi v5 c98_i32
  let v939 : Index := Scalar.indexCast v938
  ![v939.toNat]
def k0_off198 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c98_i32_347 : BitVec 32 := 98#32
  let v941 : BitVec 32 := Scalar.addi v5 c98_i32_347
  let c1_i32_348 : BitVec 32 := 1#32
  let v942 : BitVec 32 := Scalar.addi v941 c1_i32_348
  let v943 : Index := Scalar.indexCast v942
  ![v943.toNat]
def k0_off199 (v940 : BitVec 32) : Fin 2 → Nat :=
  let v945 : Index := Scalar.indexCast v940
  let c0_349 : Index := 0#32
  ![v945.toNat, 0]

def k0_chk99 (v940 : BitVec 32) : Prop :=
  (∀ a, (k0_off199 v940) a + S1x128.size a ≤ S10064x128.size a)
theorem k0_off199_inb : ∀ (v940 : BitVec 32) (k0_hw99 : k0_chk99 v940), ∀ a, (k0_off199 v940) a + S1x128.size a ≤ S10064x128.size a := fun v940 k0_hw99 => k0_hw99

def k0_off200 (v944 : BitVec 32) : Fin 2 → Nat :=
  let v951 : Index := Scalar.indexCast v944
  let c0_351 : Index := 0#32
  ![v951.toNat, 0]

def k0_chk100 (v944 : BitVec 32) : Prop :=
  (∀ a, (k0_off200 v944) a + S1x128.size a ≤ S10064x128.size a)
theorem k0_off200_inb : ∀ (v944 : BitVec 32) (k0_hw100 : k0_chk100 v944), ∀ a, (k0_off200 v944) a + S1x128.size a ≤ S10064x128.size a := fun v944 k0_hw100 => k0_hw100

def k0_off201 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c100_i32 : BitVec 32 := 100#32
  let v957 : BitVec 32 := Scalar.addi v5 c100_i32
  let v958 : Index := Scalar.indexCast v957
  ![v958.toNat]
def k0_off202 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c100_i32_354 : BitVec 32 := 100#32
  let v960 : BitVec 32 := Scalar.addi v5 c100_i32_354
  let c1_i32_355 : BitVec 32 := 1#32
  let v961 : BitVec 32 := Scalar.addi v960 c1_i32_355
  let v962 : Index := Scalar.indexCast v961
  ![v962.toNat]
def k0_off203 (v959 : BitVec 32) : Fin 2 → Nat :=
  let v964 : Index := Scalar.indexCast v959
  let c0_356 : Index := 0#32
  ![v964.toNat, 0]

def k0_chk101 (v959 : BitVec 32) : Prop :=
  (∀ a, (k0_off203 v959) a + S1x128.size a ≤ S10064x128.size a)
theorem k0_off203_inb : ∀ (v959 : BitVec 32) (k0_hw101 : k0_chk101 v959), ∀ a, (k0_off203 v959) a + S1x128.size a ≤ S10064x128.size a := fun v959 k0_hw101 => k0_hw101

def k0_off204 (v963 : BitVec 32) : Fin 2 → Nat :=
  let v970 : Index := Scalar.indexCast v963
  let c0_358 : Index := 0#32
  ![v970.toNat, 0]

def k0_chk102 (v963 : BitVec 32) : Prop :=
  (∀ a, (k0_off204 v963) a + S1x128.size a ≤ S10064x128.size a)
theorem k0_off204_inb : ∀ (v963 : BitVec 32) (k0_hw102 : k0_chk102 v963), ∀ a, (k0_off204 v963) a + S1x128.size a ≤ S10064x128.size a := fun v963 k0_hw102 => k0_hw102

def k0_off205 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c102_i32 : BitVec 32 := 102#32
  let v976 : BitVec 32 := Scalar.addi v5 c102_i32
  let v977 : Index := Scalar.indexCast v976
  ![v977.toNat]
def k0_off206 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c102_i32_361 : BitVec 32 := 102#32
  let v979 : BitVec 32 := Scalar.addi v5 c102_i32_361
  let c1_i32_362 : BitVec 32 := 1#32
  let v980 : BitVec 32 := Scalar.addi v979 c1_i32_362
  let v981 : Index := Scalar.indexCast v980
  ![v981.toNat]
def k0_off207 (v978 : BitVec 32) : Fin 2 → Nat :=
  let v983 : Index := Scalar.indexCast v978
  let c0_363 : Index := 0#32
  ![v983.toNat, 0]

def k0_chk103 (v978 : BitVec 32) : Prop :=
  (∀ a, (k0_off207 v978) a + S1x128.size a ≤ S10064x128.size a)
theorem k0_off207_inb : ∀ (v978 : BitVec 32) (k0_hw103 : k0_chk103 v978), ∀ a, (k0_off207 v978) a + S1x128.size a ≤ S10064x128.size a := fun v978 k0_hw103 => k0_hw103

def k0_off208 (v982 : BitVec 32) : Fin 2 → Nat :=
  let v989 : Index := Scalar.indexCast v982
  let c0_365 : Index := 0#32
  ![v989.toNat, 0]

def k0_chk104 (v982 : BitVec 32) : Prop :=
  (∀ a, (k0_off208 v982) a + S1x128.size a ≤ S10064x128.size a)
theorem k0_off208_inb : ∀ (v982 : BitVec 32) (k0_hw104 : k0_chk104 v982), ∀ a, (k0_off208 v982) a + S1x128.size a ≤ S10064x128.size a := fun v982 k0_hw104 => k0_hw104

def k0_off209 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c104_i32 : BitVec 32 := 104#32
  let v995 : BitVec 32 := Scalar.addi v5 c104_i32
  let v996 : Index := Scalar.indexCast v995
  ![v996.toNat]
def k0_off210 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c104_i32_368 : BitVec 32 := 104#32
  let v998 : BitVec 32 := Scalar.addi v5 c104_i32_368
  let c1_i32_369 : BitVec 32 := 1#32
  let v999 : BitVec 32 := Scalar.addi v998 c1_i32_369
  let v1000 : Index := Scalar.indexCast v999
  ![v1000.toNat]
def k0_off211 (v997 : BitVec 32) : Fin 2 → Nat :=
  let v1002 : Index := Scalar.indexCast v997
  let c0_370 : Index := 0#32
  ![v1002.toNat, 0]

def k0_chk105 (v997 : BitVec 32) : Prop :=
  (∀ a, (k0_off211 v997) a + S1x128.size a ≤ S10064x128.size a)
theorem k0_off211_inb : ∀ (v997 : BitVec 32) (k0_hw105 : k0_chk105 v997), ∀ a, (k0_off211 v997) a + S1x128.size a ≤ S10064x128.size a := fun v997 k0_hw105 => k0_hw105

def k0_off212 (v1001 : BitVec 32) : Fin 2 → Nat :=
  let v1008 : Index := Scalar.indexCast v1001
  let c0_372 : Index := 0#32
  ![v1008.toNat, 0]

def k0_chk106 (v1001 : BitVec 32) : Prop :=
  (∀ a, (k0_off212 v1001) a + S1x128.size a ≤ S10064x128.size a)
theorem k0_off212_inb : ∀ (v1001 : BitVec 32) (k0_hw106 : k0_chk106 v1001), ∀ a, (k0_off212 v1001) a + S1x128.size a ≤ S10064x128.size a := fun v1001 k0_hw106 => k0_hw106

def k0_off213 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c106_i32 : BitVec 32 := 106#32
  let v1014 : BitVec 32 := Scalar.addi v5 c106_i32
  let v1015 : Index := Scalar.indexCast v1014
  ![v1015.toNat]
def k0_off214 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c106_i32_375 : BitVec 32 := 106#32
  let v1017 : BitVec 32 := Scalar.addi v5 c106_i32_375
  let c1_i32_376 : BitVec 32 := 1#32
  let v1018 : BitVec 32 := Scalar.addi v1017 c1_i32_376
  let v1019 : Index := Scalar.indexCast v1018
  ![v1019.toNat]
def k0_off215 (v1016 : BitVec 32) : Fin 2 → Nat :=
  let v1021 : Index := Scalar.indexCast v1016
  let c0_377 : Index := 0#32
  ![v1021.toNat, 0]

def k0_chk107 (v1016 : BitVec 32) : Prop :=
  (∀ a, (k0_off215 v1016) a + S1x128.size a ≤ S10064x128.size a)
theorem k0_off215_inb : ∀ (v1016 : BitVec 32) (k0_hw107 : k0_chk107 v1016), ∀ a, (k0_off215 v1016) a + S1x128.size a ≤ S10064x128.size a := fun v1016 k0_hw107 => k0_hw107

def k0_off216 (v1020 : BitVec 32) : Fin 2 → Nat :=
  let v1027 : Index := Scalar.indexCast v1020
  let c0_379 : Index := 0#32
  ![v1027.toNat, 0]

def k0_chk108 (v1020 : BitVec 32) : Prop :=
  (∀ a, (k0_off216 v1020) a + S1x128.size a ≤ S10064x128.size a)
theorem k0_off216_inb : ∀ (v1020 : BitVec 32) (k0_hw108 : k0_chk108 v1020), ∀ a, (k0_off216 v1020) a + S1x128.size a ≤ S10064x128.size a := fun v1020 k0_hw108 => k0_hw108

def k0_off217 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c108_i32 : BitVec 32 := 108#32
  let v1033 : BitVec 32 := Scalar.addi v5 c108_i32
  let v1034 : Index := Scalar.indexCast v1033
  ![v1034.toNat]
def k0_off218 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c108_i32_382 : BitVec 32 := 108#32
  let v1036 : BitVec 32 := Scalar.addi v5 c108_i32_382
  let c1_i32_383 : BitVec 32 := 1#32
  let v1037 : BitVec 32 := Scalar.addi v1036 c1_i32_383
  let v1038 : Index := Scalar.indexCast v1037
  ![v1038.toNat]
def k0_off219 (v1035 : BitVec 32) : Fin 2 → Nat :=
  let v1040 : Index := Scalar.indexCast v1035
  let c0_384 : Index := 0#32
  ![v1040.toNat, 0]

def k0_chk109 (v1035 : BitVec 32) : Prop :=
  (∀ a, (k0_off219 v1035) a + S1x128.size a ≤ S10064x128.size a)
theorem k0_off219_inb : ∀ (v1035 : BitVec 32) (k0_hw109 : k0_chk109 v1035), ∀ a, (k0_off219 v1035) a + S1x128.size a ≤ S10064x128.size a := fun v1035 k0_hw109 => k0_hw109

def k0_off220 (v1039 : BitVec 32) : Fin 2 → Nat :=
  let v1046 : Index := Scalar.indexCast v1039
  let c0_386 : Index := 0#32
  ![v1046.toNat, 0]

def k0_chk110 (v1039 : BitVec 32) : Prop :=
  (∀ a, (k0_off220 v1039) a + S1x128.size a ≤ S10064x128.size a)
theorem k0_off220_inb : ∀ (v1039 : BitVec 32) (k0_hw110 : k0_chk110 v1039), ∀ a, (k0_off220 v1039) a + S1x128.size a ≤ S10064x128.size a := fun v1039 k0_hw110 => k0_hw110

def k0_off221 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c110_i32 : BitVec 32 := 110#32
  let v1052 : BitVec 32 := Scalar.addi v5 c110_i32
  let v1053 : Index := Scalar.indexCast v1052
  ![v1053.toNat]
def k0_off222 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c110_i32_389 : BitVec 32 := 110#32
  let v1055 : BitVec 32 := Scalar.addi v5 c110_i32_389
  let c1_i32_390 : BitVec 32 := 1#32
  let v1056 : BitVec 32 := Scalar.addi v1055 c1_i32_390
  let v1057 : Index := Scalar.indexCast v1056
  ![v1057.toNat]
def k0_off223 (v1054 : BitVec 32) : Fin 2 → Nat :=
  let v1059 : Index := Scalar.indexCast v1054
  let c0_391 : Index := 0#32
  ![v1059.toNat, 0]

def k0_chk111 (v1054 : BitVec 32) : Prop :=
  (∀ a, (k0_off223 v1054) a + S1x128.size a ≤ S10064x128.size a)
theorem k0_off223_inb : ∀ (v1054 : BitVec 32) (k0_hw111 : k0_chk111 v1054), ∀ a, (k0_off223 v1054) a + S1x128.size a ≤ S10064x128.size a := fun v1054 k0_hw111 => k0_hw111

def k0_off224 (v1058 : BitVec 32) : Fin 2 → Nat :=
  let v1065 : Index := Scalar.indexCast v1058
  let c0_393 : Index := 0#32
  ![v1065.toNat, 0]

def k0_chk112 (v1058 : BitVec 32) : Prop :=
  (∀ a, (k0_off224 v1058) a + S1x128.size a ≤ S10064x128.size a)
theorem k0_off224_inb : ∀ (v1058 : BitVec 32) (k0_hw112 : k0_chk112 v1058), ∀ a, (k0_off224 v1058) a + S1x128.size a ≤ S10064x128.size a := fun v1058 k0_hw112 => k0_hw112

def k0_off225 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c112_i32 : BitVec 32 := 112#32
  let v1071 : BitVec 32 := Scalar.addi v5 c112_i32
  let v1072 : Index := Scalar.indexCast v1071
  ![v1072.toNat]
def k0_off226 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c112_i32_396 : BitVec 32 := 112#32
  let v1074 : BitVec 32 := Scalar.addi v5 c112_i32_396
  let c1_i32_397 : BitVec 32 := 1#32
  let v1075 : BitVec 32 := Scalar.addi v1074 c1_i32_397
  let v1076 : Index := Scalar.indexCast v1075
  ![v1076.toNat]
def k0_off227 (v1073 : BitVec 32) : Fin 2 → Nat :=
  let v1078 : Index := Scalar.indexCast v1073
  let c0_398 : Index := 0#32
  ![v1078.toNat, 0]

def k0_chk113 (v1073 : BitVec 32) : Prop :=
  (∀ a, (k0_off227 v1073) a + S1x128.size a ≤ S10064x128.size a)
theorem k0_off227_inb : ∀ (v1073 : BitVec 32) (k0_hw113 : k0_chk113 v1073), ∀ a, (k0_off227 v1073) a + S1x128.size a ≤ S10064x128.size a := fun v1073 k0_hw113 => k0_hw113

def k0_off228 (v1077 : BitVec 32) : Fin 2 → Nat :=
  let v1084 : Index := Scalar.indexCast v1077
  let c0_400 : Index := 0#32
  ![v1084.toNat, 0]

def k0_chk114 (v1077 : BitVec 32) : Prop :=
  (∀ a, (k0_off228 v1077) a + S1x128.size a ≤ S10064x128.size a)
theorem k0_off228_inb : ∀ (v1077 : BitVec 32) (k0_hw114 : k0_chk114 v1077), ∀ a, (k0_off228 v1077) a + S1x128.size a ≤ S10064x128.size a := fun v1077 k0_hw114 => k0_hw114

def k0_off229 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c114_i32 : BitVec 32 := 114#32
  let v1090 : BitVec 32 := Scalar.addi v5 c114_i32
  let v1091 : Index := Scalar.indexCast v1090
  ![v1091.toNat]
def k0_off230 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c114_i32_403 : BitVec 32 := 114#32
  let v1093 : BitVec 32 := Scalar.addi v5 c114_i32_403
  let c1_i32_404 : BitVec 32 := 1#32
  let v1094 : BitVec 32 := Scalar.addi v1093 c1_i32_404
  let v1095 : Index := Scalar.indexCast v1094
  ![v1095.toNat]
def k0_off231 (v1092 : BitVec 32) : Fin 2 → Nat :=
  let v1097 : Index := Scalar.indexCast v1092
  let c0_405 : Index := 0#32
  ![v1097.toNat, 0]

def k0_chk115 (v1092 : BitVec 32) : Prop :=
  (∀ a, (k0_off231 v1092) a + S1x128.size a ≤ S10064x128.size a)
theorem k0_off231_inb : ∀ (v1092 : BitVec 32) (k0_hw115 : k0_chk115 v1092), ∀ a, (k0_off231 v1092) a + S1x128.size a ≤ S10064x128.size a := fun v1092 k0_hw115 => k0_hw115

def k0_off232 (v1096 : BitVec 32) : Fin 2 → Nat :=
  let v1103 : Index := Scalar.indexCast v1096
  let c0_407 : Index := 0#32
  ![v1103.toNat, 0]

def k0_chk116 (v1096 : BitVec 32) : Prop :=
  (∀ a, (k0_off232 v1096) a + S1x128.size a ≤ S10064x128.size a)
theorem k0_off232_inb : ∀ (v1096 : BitVec 32) (k0_hw116 : k0_chk116 v1096), ∀ a, (k0_off232 v1096) a + S1x128.size a ≤ S10064x128.size a := fun v1096 k0_hw116 => k0_hw116

def k0_off233 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c116_i32 : BitVec 32 := 116#32
  let v1109 : BitVec 32 := Scalar.addi v5 c116_i32
  let v1110 : Index := Scalar.indexCast v1109
  ![v1110.toNat]
def k0_off234 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c116_i32_410 : BitVec 32 := 116#32
  let v1112 : BitVec 32 := Scalar.addi v5 c116_i32_410
  let c1_i32_411 : BitVec 32 := 1#32
  let v1113 : BitVec 32 := Scalar.addi v1112 c1_i32_411
  let v1114 : Index := Scalar.indexCast v1113
  ![v1114.toNat]
def k0_off235 (v1111 : BitVec 32) : Fin 2 → Nat :=
  let v1116 : Index := Scalar.indexCast v1111
  let c0_412 : Index := 0#32
  ![v1116.toNat, 0]

def k0_chk117 (v1111 : BitVec 32) : Prop :=
  (∀ a, (k0_off235 v1111) a + S1x128.size a ≤ S10064x128.size a)
theorem k0_off235_inb : ∀ (v1111 : BitVec 32) (k0_hw117 : k0_chk117 v1111), ∀ a, (k0_off235 v1111) a + S1x128.size a ≤ S10064x128.size a := fun v1111 k0_hw117 => k0_hw117

def k0_off236 (v1115 : BitVec 32) : Fin 2 → Nat :=
  let v1122 : Index := Scalar.indexCast v1115
  let c0_414 : Index := 0#32
  ![v1122.toNat, 0]

def k0_chk118 (v1115 : BitVec 32) : Prop :=
  (∀ a, (k0_off236 v1115) a + S1x128.size a ≤ S10064x128.size a)
theorem k0_off236_inb : ∀ (v1115 : BitVec 32) (k0_hw118 : k0_chk118 v1115), ∀ a, (k0_off236 v1115) a + S1x128.size a ≤ S10064x128.size a := fun v1115 k0_hw118 => k0_hw118

def k0_off237 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c118_i32 : BitVec 32 := 118#32
  let v1128 : BitVec 32 := Scalar.addi v5 c118_i32
  let v1129 : Index := Scalar.indexCast v1128
  ![v1129.toNat]
def k0_off238 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c118_i32_417 : BitVec 32 := 118#32
  let v1131 : BitVec 32 := Scalar.addi v5 c118_i32_417
  let c1_i32_418 : BitVec 32 := 1#32
  let v1132 : BitVec 32 := Scalar.addi v1131 c1_i32_418
  let v1133 : Index := Scalar.indexCast v1132
  ![v1133.toNat]
def k0_off239 (v1130 : BitVec 32) : Fin 2 → Nat :=
  let v1135 : Index := Scalar.indexCast v1130
  let c0_419 : Index := 0#32
  ![v1135.toNat, 0]

def k0_chk119 (v1130 : BitVec 32) : Prop :=
  (∀ a, (k0_off239 v1130) a + S1x128.size a ≤ S10064x128.size a)
theorem k0_off239_inb : ∀ (v1130 : BitVec 32) (k0_hw119 : k0_chk119 v1130), ∀ a, (k0_off239 v1130) a + S1x128.size a ≤ S10064x128.size a := fun v1130 k0_hw119 => k0_hw119

def k0_off240 (v1134 : BitVec 32) : Fin 2 → Nat :=
  let v1141 : Index := Scalar.indexCast v1134
  let c0_421 : Index := 0#32
  ![v1141.toNat, 0]

def k0_chk120 (v1134 : BitVec 32) : Prop :=
  (∀ a, (k0_off240 v1134) a + S1x128.size a ≤ S10064x128.size a)
theorem k0_off240_inb : ∀ (v1134 : BitVec 32) (k0_hw120 : k0_chk120 v1134), ∀ a, (k0_off240 v1134) a + S1x128.size a ≤ S10064x128.size a := fun v1134 k0_hw120 => k0_hw120

def k0_off241 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c120_i32 : BitVec 32 := 120#32
  let v1147 : BitVec 32 := Scalar.addi v5 c120_i32
  let v1148 : Index := Scalar.indexCast v1147
  ![v1148.toNat]
def k0_off242 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c120_i32_424 : BitVec 32 := 120#32
  let v1150 : BitVec 32 := Scalar.addi v5 c120_i32_424
  let c1_i32_425 : BitVec 32 := 1#32
  let v1151 : BitVec 32 := Scalar.addi v1150 c1_i32_425
  let v1152 : Index := Scalar.indexCast v1151
  ![v1152.toNat]
def k0_off243 (v1149 : BitVec 32) : Fin 2 → Nat :=
  let v1154 : Index := Scalar.indexCast v1149
  let c0_426 : Index := 0#32
  ![v1154.toNat, 0]

def k0_chk121 (v1149 : BitVec 32) : Prop :=
  (∀ a, (k0_off243 v1149) a + S1x128.size a ≤ S10064x128.size a)
theorem k0_off243_inb : ∀ (v1149 : BitVec 32) (k0_hw121 : k0_chk121 v1149), ∀ a, (k0_off243 v1149) a + S1x128.size a ≤ S10064x128.size a := fun v1149 k0_hw121 => k0_hw121

def k0_off244 (v1153 : BitVec 32) : Fin 2 → Nat :=
  let v1160 : Index := Scalar.indexCast v1153
  let c0_428 : Index := 0#32
  ![v1160.toNat, 0]

def k0_chk122 (v1153 : BitVec 32) : Prop :=
  (∀ a, (k0_off244 v1153) a + S1x128.size a ≤ S10064x128.size a)
theorem k0_off244_inb : ∀ (v1153 : BitVec 32) (k0_hw122 : k0_chk122 v1153), ∀ a, (k0_off244 v1153) a + S1x128.size a ≤ S10064x128.size a := fun v1153 k0_hw122 => k0_hw122

def k0_off245 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c122_i32 : BitVec 32 := 122#32
  let v1166 : BitVec 32 := Scalar.addi v5 c122_i32
  let v1167 : Index := Scalar.indexCast v1166
  ![v1167.toNat]
def k0_off246 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c122_i32_431 : BitVec 32 := 122#32
  let v1169 : BitVec 32 := Scalar.addi v5 c122_i32_431
  let c1_i32_432 : BitVec 32 := 1#32
  let v1170 : BitVec 32 := Scalar.addi v1169 c1_i32_432
  let v1171 : Index := Scalar.indexCast v1170
  ![v1171.toNat]
def k0_off247 (v1168 : BitVec 32) : Fin 2 → Nat :=
  let v1173 : Index := Scalar.indexCast v1168
  let c0_433 : Index := 0#32
  ![v1173.toNat, 0]

def k0_chk123 (v1168 : BitVec 32) : Prop :=
  (∀ a, (k0_off247 v1168) a + S1x128.size a ≤ S10064x128.size a)
theorem k0_off247_inb : ∀ (v1168 : BitVec 32) (k0_hw123 : k0_chk123 v1168), ∀ a, (k0_off247 v1168) a + S1x128.size a ≤ S10064x128.size a := fun v1168 k0_hw123 => k0_hw123

def k0_off248 (v1172 : BitVec 32) : Fin 2 → Nat :=
  let v1179 : Index := Scalar.indexCast v1172
  let c0_435 : Index := 0#32
  ![v1179.toNat, 0]

def k0_chk124 (v1172 : BitVec 32) : Prop :=
  (∀ a, (k0_off248 v1172) a + S1x128.size a ≤ S10064x128.size a)
theorem k0_off248_inb : ∀ (v1172 : BitVec 32) (k0_hw124 : k0_chk124 v1172), ∀ a, (k0_off248 v1172) a + S1x128.size a ≤ S10064x128.size a := fun v1172 k0_hw124 => k0_hw124

def k0_off249 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c124_i32 : BitVec 32 := 124#32
  let v1185 : BitVec 32 := Scalar.addi v5 c124_i32
  let v1186 : Index := Scalar.indexCast v1185
  ![v1186.toNat]
def k0_off250 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c124_i32_438 : BitVec 32 := 124#32
  let v1188 : BitVec 32 := Scalar.addi v5 c124_i32_438
  let c1_i32_439 : BitVec 32 := 1#32
  let v1189 : BitVec 32 := Scalar.addi v1188 c1_i32_439
  let v1190 : Index := Scalar.indexCast v1189
  ![v1190.toNat]
def k0_off251 (v1187 : BitVec 32) : Fin 2 → Nat :=
  let v1192 : Index := Scalar.indexCast v1187
  let c0_440 : Index := 0#32
  ![v1192.toNat, 0]

def k0_chk125 (v1187 : BitVec 32) : Prop :=
  (∀ a, (k0_off251 v1187) a + S1x128.size a ≤ S10064x128.size a)
theorem k0_off251_inb : ∀ (v1187 : BitVec 32) (k0_hw125 : k0_chk125 v1187), ∀ a, (k0_off251 v1187) a + S1x128.size a ≤ S10064x128.size a := fun v1187 k0_hw125 => k0_hw125

def k0_off252 (v1191 : BitVec 32) : Fin 2 → Nat :=
  let v1198 : Index := Scalar.indexCast v1191
  let c0_442 : Index := 0#32
  ![v1198.toNat, 0]

def k0_chk126 (v1191 : BitVec 32) : Prop :=
  (∀ a, (k0_off252 v1191) a + S1x128.size a ≤ S10064x128.size a)
theorem k0_off252_inb : ∀ (v1191 : BitVec 32) (k0_hw126 : k0_chk126 v1191), ∀ a, (k0_off252 v1191) a + S1x128.size a ≤ S10064x128.size a := fun v1191 k0_hw126 => k0_hw126

def k0_off253 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c126_i32 : BitVec 32 := 126#32
  let v1204 : BitVec 32 := Scalar.addi v5 c126_i32
  let v1205 : Index := Scalar.indexCast v1204
  ![v1205.toNat]
def k0_off254 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c126_i32_445 : BitVec 32 := 126#32
  let v1207 : BitVec 32 := Scalar.addi v5 c126_i32_445
  let c1_i32_446 : BitVec 32 := 1#32
  let v1208 : BitVec 32 := Scalar.addi v1207 c1_i32_446
  let v1209 : Index := Scalar.indexCast v1208
  ![v1209.toNat]
def k0_off255 (v1206 : BitVec 32) : Fin 2 → Nat :=
  let v1211 : Index := Scalar.indexCast v1206
  let c0_447 : Index := 0#32
  ![v1211.toNat, 0]

def k0_chk127 (v1206 : BitVec 32) : Prop :=
  (∀ a, (k0_off255 v1206) a + S1x128.size a ≤ S10064x128.size a)
theorem k0_off255_inb : ∀ (v1206 : BitVec 32) (k0_hw127 : k0_chk127 v1206), ∀ a, (k0_off255 v1206) a + S1x128.size a ≤ S10064x128.size a := fun v1206 k0_hw127 => k0_hw127

def k0_off256 (v1210 : BitVec 32) : Fin 2 → Nat :=
  let v1217 : Index := Scalar.indexCast v1210
  let c0_449 : Index := 0#32
  ![v1217.toNat, 0]

def k0_chk128 (v1210 : BitVec 32) : Prop :=
  (∀ a, (k0_off256 v1210) a + S1x128.size a ≤ S10064x128.size a)
theorem k0_off256_inb : ∀ (v1210 : BitVec 32) (k0_hw128 : k0_chk128 v1210), ∀ a, (k0_off256 v1210) a + S1x128.size a ≤ S10064x128.size a := fun v1210 k0_hw128 => k0_hw128

def k0_off257 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c128_i32 : BitVec 32 := 128#32
  let v1223 : BitVec 32 := Scalar.addi v5 c128_i32
  let v1224 : Index := Scalar.indexCast v1223
  ![v1224.toNat]
def k0_off258 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c128_i32_452 : BitVec 32 := 128#32
  let v1226 : BitVec 32 := Scalar.addi v5 c128_i32_452
  let c1_i32_453 : BitVec 32 := 1#32
  let v1227 : BitVec 32 := Scalar.addi v1226 c1_i32_453
  let v1228 : Index := Scalar.indexCast v1227
  ![v1228.toNat]
def k0_off259 (v1225 : BitVec 32) : Fin 2 → Nat :=
  let v1230 : Index := Scalar.indexCast v1225
  let c0_454 : Index := 0#32
  ![v1230.toNat, 0]

def k0_chk129 (v1225 : BitVec 32) : Prop :=
  (∀ a, (k0_off259 v1225) a + S1x128.size a ≤ S10064x128.size a)
theorem k0_off259_inb : ∀ (v1225 : BitVec 32) (k0_hw129 : k0_chk129 v1225), ∀ a, (k0_off259 v1225) a + S1x128.size a ≤ S10064x128.size a := fun v1225 k0_hw129 => k0_hw129

def k0_off260 (v1229 : BitVec 32) : Fin 2 → Nat :=
  let v1236 : Index := Scalar.indexCast v1229
  let c0_456 : Index := 0#32
  ![v1236.toNat, 0]

def k0_chk130 (v1229 : BitVec 32) : Prop :=
  (∀ a, (k0_off260 v1229) a + S1x128.size a ≤ S10064x128.size a)
theorem k0_off260_inb : ∀ (v1229 : BitVec 32) (k0_hw130 : k0_chk130 v1229), ∀ a, (k0_off260 v1229) a + S1x128.size a ≤ S10064x128.size a := fun v1229 k0_hw130 => k0_hw130

def k0_off261 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c130_i32 : BitVec 32 := 130#32
  let v1242 : BitVec 32 := Scalar.addi v5 c130_i32
  let v1243 : Index := Scalar.indexCast v1242
  ![v1243.toNat]
def k0_off262 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c130_i32_459 : BitVec 32 := 130#32
  let v1245 : BitVec 32 := Scalar.addi v5 c130_i32_459
  let c1_i32_460 : BitVec 32 := 1#32
  let v1246 : BitVec 32 := Scalar.addi v1245 c1_i32_460
  let v1247 : Index := Scalar.indexCast v1246
  ![v1247.toNat]
def k0_off263 (v1244 : BitVec 32) : Fin 2 → Nat :=
  let v1249 : Index := Scalar.indexCast v1244
  let c0_461 : Index := 0#32
  ![v1249.toNat, 0]

def k0_chk131 (v1244 : BitVec 32) : Prop :=
  (∀ a, (k0_off263 v1244) a + S1x128.size a ≤ S10064x128.size a)
theorem k0_off263_inb : ∀ (v1244 : BitVec 32) (k0_hw131 : k0_chk131 v1244), ∀ a, (k0_off263 v1244) a + S1x128.size a ≤ S10064x128.size a := fun v1244 k0_hw131 => k0_hw131

def k0_off264 (v1248 : BitVec 32) : Fin 2 → Nat :=
  let v1255 : Index := Scalar.indexCast v1248
  let c0_463 : Index := 0#32
  ![v1255.toNat, 0]

def k0_chk132 (v1248 : BitVec 32) : Prop :=
  (∀ a, (k0_off264 v1248) a + S1x128.size a ≤ S10064x128.size a)
theorem k0_off264_inb : ∀ (v1248 : BitVec 32) (k0_hw132 : k0_chk132 v1248), ∀ a, (k0_off264 v1248) a + S1x128.size a ≤ S10064x128.size a := fun v1248 k0_hw132 => k0_hw132

def k0_off265 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c132_i32 : BitVec 32 := 132#32
  let v1261 : BitVec 32 := Scalar.addi v5 c132_i32
  let v1262 : Index := Scalar.indexCast v1261
  ![v1262.toNat]
def k0_off266 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c132_i32_466 : BitVec 32 := 132#32
  let v1264 : BitVec 32 := Scalar.addi v5 c132_i32_466
  let c1_i32_467 : BitVec 32 := 1#32
  let v1265 : BitVec 32 := Scalar.addi v1264 c1_i32_467
  let v1266 : Index := Scalar.indexCast v1265
  ![v1266.toNat]
def k0_off267 (v1263 : BitVec 32) : Fin 2 → Nat :=
  let v1268 : Index := Scalar.indexCast v1263
  let c0_468 : Index := 0#32
  ![v1268.toNat, 0]

def k0_chk133 (v1263 : BitVec 32) : Prop :=
  (∀ a, (k0_off267 v1263) a + S1x128.size a ≤ S10064x128.size a)
theorem k0_off267_inb : ∀ (v1263 : BitVec 32) (k0_hw133 : k0_chk133 v1263), ∀ a, (k0_off267 v1263) a + S1x128.size a ≤ S10064x128.size a := fun v1263 k0_hw133 => k0_hw133

def k0_off268 (v1267 : BitVec 32) : Fin 2 → Nat :=
  let v1274 : Index := Scalar.indexCast v1267
  let c0_470 : Index := 0#32
  ![v1274.toNat, 0]

def k0_chk134 (v1267 : BitVec 32) : Prop :=
  (∀ a, (k0_off268 v1267) a + S1x128.size a ≤ S10064x128.size a)
theorem k0_off268_inb : ∀ (v1267 : BitVec 32) (k0_hw134 : k0_chk134 v1267), ∀ a, (k0_off268 v1267) a + S1x128.size a ≤ S10064x128.size a := fun v1267 k0_hw134 => k0_hw134

def k0_off269 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c134_i32 : BitVec 32 := 134#32
  let v1280 : BitVec 32 := Scalar.addi v5 c134_i32
  let v1281 : Index := Scalar.indexCast v1280
  ![v1281.toNat]
def k0_off270 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c134_i32_473 : BitVec 32 := 134#32
  let v1283 : BitVec 32 := Scalar.addi v5 c134_i32_473
  let c1_i32_474 : BitVec 32 := 1#32
  let v1284 : BitVec 32 := Scalar.addi v1283 c1_i32_474
  let v1285 : Index := Scalar.indexCast v1284
  ![v1285.toNat]
def k0_off271 (v1282 : BitVec 32) : Fin 2 → Nat :=
  let v1287 : Index := Scalar.indexCast v1282
  let c0_475 : Index := 0#32
  ![v1287.toNat, 0]

def k0_chk135 (v1282 : BitVec 32) : Prop :=
  (∀ a, (k0_off271 v1282) a + S1x128.size a ≤ S10064x128.size a)
theorem k0_off271_inb : ∀ (v1282 : BitVec 32) (k0_hw135 : k0_chk135 v1282), ∀ a, (k0_off271 v1282) a + S1x128.size a ≤ S10064x128.size a := fun v1282 k0_hw135 => k0_hw135

def k0_off272 (v1286 : BitVec 32) : Fin 2 → Nat :=
  let v1293 : Index := Scalar.indexCast v1286
  let c0_477 : Index := 0#32
  ![v1293.toNat, 0]

def k0_chk136 (v1286 : BitVec 32) : Prop :=
  (∀ a, (k0_off272 v1286) a + S1x128.size a ≤ S10064x128.size a)
theorem k0_off272_inb : ∀ (v1286 : BitVec 32) (k0_hw136 : k0_chk136 v1286), ∀ a, (k0_off272 v1286) a + S1x128.size a ≤ S10064x128.size a := fun v1286 k0_hw136 => k0_hw136

def k0_off273 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c136_i32 : BitVec 32 := 136#32
  let v1299 : BitVec 32 := Scalar.addi v5 c136_i32
  let v1300 : Index := Scalar.indexCast v1299
  ![v1300.toNat]
def k0_off274 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c136_i32_480 : BitVec 32 := 136#32
  let v1302 : BitVec 32 := Scalar.addi v5 c136_i32_480
  let c1_i32_481 : BitVec 32 := 1#32
  let v1303 : BitVec 32 := Scalar.addi v1302 c1_i32_481
  let v1304 : Index := Scalar.indexCast v1303
  ![v1304.toNat]
def k0_off275 (v1301 : BitVec 32) : Fin 2 → Nat :=
  let v1306 : Index := Scalar.indexCast v1301
  let c0_482 : Index := 0#32
  ![v1306.toNat, 0]

def k0_chk137 (v1301 : BitVec 32) : Prop :=
  (∀ a, (k0_off275 v1301) a + S1x128.size a ≤ S10064x128.size a)
theorem k0_off275_inb : ∀ (v1301 : BitVec 32) (k0_hw137 : k0_chk137 v1301), ∀ a, (k0_off275 v1301) a + S1x128.size a ≤ S10064x128.size a := fun v1301 k0_hw137 => k0_hw137

def k0_off276 (v1305 : BitVec 32) : Fin 2 → Nat :=
  let v1312 : Index := Scalar.indexCast v1305
  let c0_484 : Index := 0#32
  ![v1312.toNat, 0]

def k0_chk138 (v1305 : BitVec 32) : Prop :=
  (∀ a, (k0_off276 v1305) a + S1x128.size a ≤ S10064x128.size a)
theorem k0_off276_inb : ∀ (v1305 : BitVec 32) (k0_hw138 : k0_chk138 v1305), ∀ a, (k0_off276 v1305) a + S1x128.size a ≤ S10064x128.size a := fun v1305 k0_hw138 => k0_hw138

def k0_off277 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c138_i32 : BitVec 32 := 138#32
  let v1318 : BitVec 32 := Scalar.addi v5 c138_i32
  let v1319 : Index := Scalar.indexCast v1318
  ![v1319.toNat]
def k0_off278 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c138_i32_487 : BitVec 32 := 138#32
  let v1321 : BitVec 32 := Scalar.addi v5 c138_i32_487
  let c1_i32_488 : BitVec 32 := 1#32
  let v1322 : BitVec 32 := Scalar.addi v1321 c1_i32_488
  let v1323 : Index := Scalar.indexCast v1322
  ![v1323.toNat]
def k0_off279 (v1320 : BitVec 32) : Fin 2 → Nat :=
  let v1325 : Index := Scalar.indexCast v1320
  let c0_489 : Index := 0#32
  ![v1325.toNat, 0]

def k0_chk139 (v1320 : BitVec 32) : Prop :=
  (∀ a, (k0_off279 v1320) a + S1x128.size a ≤ S10064x128.size a)
theorem k0_off279_inb : ∀ (v1320 : BitVec 32) (k0_hw139 : k0_chk139 v1320), ∀ a, (k0_off279 v1320) a + S1x128.size a ≤ S10064x128.size a := fun v1320 k0_hw139 => k0_hw139

def k0_off280 (v1324 : BitVec 32) : Fin 2 → Nat :=
  let v1331 : Index := Scalar.indexCast v1324
  let c0_491 : Index := 0#32
  ![v1331.toNat, 0]

def k0_chk140 (v1324 : BitVec 32) : Prop :=
  (∀ a, (k0_off280 v1324) a + S1x128.size a ≤ S10064x128.size a)
theorem k0_off280_inb : ∀ (v1324 : BitVec 32) (k0_hw140 : k0_chk140 v1324), ∀ a, (k0_off280 v1324) a + S1x128.size a ≤ S10064x128.size a := fun v1324 k0_hw140 => k0_hw140

def k0_off281 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c140_i32 : BitVec 32 := 140#32
  let v1337 : BitVec 32 := Scalar.addi v5 c140_i32
  let v1338 : Index := Scalar.indexCast v1337
  ![v1338.toNat]
def k0_off282 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c140_i32_494 : BitVec 32 := 140#32
  let v1340 : BitVec 32 := Scalar.addi v5 c140_i32_494
  let c1_i32_495 : BitVec 32 := 1#32
  let v1341 : BitVec 32 := Scalar.addi v1340 c1_i32_495
  let v1342 : Index := Scalar.indexCast v1341
  ![v1342.toNat]
def k0_off283 (v1339 : BitVec 32) : Fin 2 → Nat :=
  let v1344 : Index := Scalar.indexCast v1339
  let c0_496 : Index := 0#32
  ![v1344.toNat, 0]

def k0_chk141 (v1339 : BitVec 32) : Prop :=
  (∀ a, (k0_off283 v1339) a + S1x128.size a ≤ S10064x128.size a)
theorem k0_off283_inb : ∀ (v1339 : BitVec 32) (k0_hw141 : k0_chk141 v1339), ∀ a, (k0_off283 v1339) a + S1x128.size a ≤ S10064x128.size a := fun v1339 k0_hw141 => k0_hw141

def k0_off284 (v1343 : BitVec 32) : Fin 2 → Nat :=
  let v1350 : Index := Scalar.indexCast v1343
  let c0_498 : Index := 0#32
  ![v1350.toNat, 0]

def k0_chk142 (v1343 : BitVec 32) : Prop :=
  (∀ a, (k0_off284 v1343) a + S1x128.size a ≤ S10064x128.size a)
theorem k0_off284_inb : ∀ (v1343 : BitVec 32) (k0_hw142 : k0_chk142 v1343), ∀ a, (k0_off284 v1343) a + S1x128.size a ≤ S10064x128.size a := fun v1343 k0_hw142 => k0_hw142

def k0_off285 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c142_i32 : BitVec 32 := 142#32
  let v1356 : BitVec 32 := Scalar.addi v5 c142_i32
  let v1357 : Index := Scalar.indexCast v1356
  ![v1357.toNat]
def k0_off286 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c142_i32_501 : BitVec 32 := 142#32
  let v1359 : BitVec 32 := Scalar.addi v5 c142_i32_501
  let c1_i32_502 : BitVec 32 := 1#32
  let v1360 : BitVec 32 := Scalar.addi v1359 c1_i32_502
  let v1361 : Index := Scalar.indexCast v1360
  ![v1361.toNat]
def k0_off287 (v1358 : BitVec 32) : Fin 2 → Nat :=
  let v1363 : Index := Scalar.indexCast v1358
  let c0_503 : Index := 0#32
  ![v1363.toNat, 0]

def k0_chk143 (v1358 : BitVec 32) : Prop :=
  (∀ a, (k0_off287 v1358) a + S1x128.size a ≤ S10064x128.size a)
theorem k0_off287_inb : ∀ (v1358 : BitVec 32) (k0_hw143 : k0_chk143 v1358), ∀ a, (k0_off287 v1358) a + S1x128.size a ≤ S10064x128.size a := fun v1358 k0_hw143 => k0_hw143

def k0_off288 (v1362 : BitVec 32) : Fin 2 → Nat :=
  let v1369 : Index := Scalar.indexCast v1362
  let c0_505 : Index := 0#32
  ![v1369.toNat, 0]

def k0_chk144 (v1362 : BitVec 32) : Prop :=
  (∀ a, (k0_off288 v1362) a + S1x128.size a ≤ S10064x128.size a)
theorem k0_off288_inb : ∀ (v1362 : BitVec 32) (k0_hw144 : k0_chk144 v1362), ∀ a, (k0_off288 v1362) a + S1x128.size a ≤ S10064x128.size a := fun v1362 k0_hw144 => k0_hw144

def k0_off289 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c144_i32 : BitVec 32 := 144#32
  let v1375 : BitVec 32 := Scalar.addi v5 c144_i32
  let v1376 : Index := Scalar.indexCast v1375
  ![v1376.toNat]
def k0_off290 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c144_i32_508 : BitVec 32 := 144#32
  let v1378 : BitVec 32 := Scalar.addi v5 c144_i32_508
  let c1_i32_509 : BitVec 32 := 1#32
  let v1379 : BitVec 32 := Scalar.addi v1378 c1_i32_509
  let v1380 : Index := Scalar.indexCast v1379
  ![v1380.toNat]
def k0_off291 (v1377 : BitVec 32) : Fin 2 → Nat :=
  let v1382 : Index := Scalar.indexCast v1377
  let c0_510 : Index := 0#32
  ![v1382.toNat, 0]

def k0_chk145 (v1377 : BitVec 32) : Prop :=
  (∀ a, (k0_off291 v1377) a + S1x128.size a ≤ S10064x128.size a)
theorem k0_off291_inb : ∀ (v1377 : BitVec 32) (k0_hw145 : k0_chk145 v1377), ∀ a, (k0_off291 v1377) a + S1x128.size a ≤ S10064x128.size a := fun v1377 k0_hw145 => k0_hw145

def k0_off292 (v1381 : BitVec 32) : Fin 2 → Nat :=
  let v1388 : Index := Scalar.indexCast v1381
  let c0_512 : Index := 0#32
  ![v1388.toNat, 0]

def k0_chk146 (v1381 : BitVec 32) : Prop :=
  (∀ a, (k0_off292 v1381) a + S1x128.size a ≤ S10064x128.size a)
theorem k0_off292_inb : ∀ (v1381 : BitVec 32) (k0_hw146 : k0_chk146 v1381), ∀ a, (k0_off292 v1381) a + S1x128.size a ≤ S10064x128.size a := fun v1381 k0_hw146 => k0_hw146

def k0_off293 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c146_i32 : BitVec 32 := 146#32
  let v1394 : BitVec 32 := Scalar.addi v5 c146_i32
  let v1395 : Index := Scalar.indexCast v1394
  ![v1395.toNat]
def k0_off294 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c146_i32_515 : BitVec 32 := 146#32
  let v1397 : BitVec 32 := Scalar.addi v5 c146_i32_515
  let c1_i32_516 : BitVec 32 := 1#32
  let v1398 : BitVec 32 := Scalar.addi v1397 c1_i32_516
  let v1399 : Index := Scalar.indexCast v1398
  ![v1399.toNat]
def k0_off295 (v1396 : BitVec 32) : Fin 2 → Nat :=
  let v1401 : Index := Scalar.indexCast v1396
  let c0_517 : Index := 0#32
  ![v1401.toNat, 0]

def k0_chk147 (v1396 : BitVec 32) : Prop :=
  (∀ a, (k0_off295 v1396) a + S1x128.size a ≤ S10064x128.size a)
theorem k0_off295_inb : ∀ (v1396 : BitVec 32) (k0_hw147 : k0_chk147 v1396), ∀ a, (k0_off295 v1396) a + S1x128.size a ≤ S10064x128.size a := fun v1396 k0_hw147 => k0_hw147

def k0_off296 (v1400 : BitVec 32) : Fin 2 → Nat :=
  let v1407 : Index := Scalar.indexCast v1400
  let c0_519 : Index := 0#32
  ![v1407.toNat, 0]

def k0_chk148 (v1400 : BitVec 32) : Prop :=
  (∀ a, (k0_off296 v1400) a + S1x128.size a ≤ S10064x128.size a)
theorem k0_off296_inb : ∀ (v1400 : BitVec 32) (k0_hw148 : k0_chk148 v1400), ∀ a, (k0_off296 v1400) a + S1x128.size a ≤ S10064x128.size a := fun v1400 k0_hw148 => k0_hw148

def k0_off297 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c148_i32 : BitVec 32 := 148#32
  let v1413 : BitVec 32 := Scalar.addi v5 c148_i32
  let v1414 : Index := Scalar.indexCast v1413
  ![v1414.toNat]
def k0_off298 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c148_i32_522 : BitVec 32 := 148#32
  let v1416 : BitVec 32 := Scalar.addi v5 c148_i32_522
  let c1_i32_523 : BitVec 32 := 1#32
  let v1417 : BitVec 32 := Scalar.addi v1416 c1_i32_523
  let v1418 : Index := Scalar.indexCast v1417
  ![v1418.toNat]
def k0_off299 (v1415 : BitVec 32) : Fin 2 → Nat :=
  let v1420 : Index := Scalar.indexCast v1415
  let c0_524 : Index := 0#32
  ![v1420.toNat, 0]

def k0_chk149 (v1415 : BitVec 32) : Prop :=
  (∀ a, (k0_off299 v1415) a + S1x128.size a ≤ S10064x128.size a)
theorem k0_off299_inb : ∀ (v1415 : BitVec 32) (k0_hw149 : k0_chk149 v1415), ∀ a, (k0_off299 v1415) a + S1x128.size a ≤ S10064x128.size a := fun v1415 k0_hw149 => k0_hw149

def k0_off300 (v1419 : BitVec 32) : Fin 2 → Nat :=
  let v1426 : Index := Scalar.indexCast v1419
  let c0_526 : Index := 0#32
  ![v1426.toNat, 0]

def k0_chk150 (v1419 : BitVec 32) : Prop :=
  (∀ a, (k0_off300 v1419) a + S1x128.size a ≤ S10064x128.size a)
theorem k0_off300_inb : ∀ (v1419 : BitVec 32) (k0_hw150 : k0_chk150 v1419), ∀ a, (k0_off300 v1419) a + S1x128.size a ≤ S10064x128.size a := fun v1419 k0_hw150 => k0_hw150

def k0_off301 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c150_i32 : BitVec 32 := 150#32
  let v1432 : BitVec 32 := Scalar.addi v5 c150_i32
  let v1433 : Index := Scalar.indexCast v1432
  ![v1433.toNat]
def k0_off302 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c150_i32_529 : BitVec 32 := 150#32
  let v1435 : BitVec 32 := Scalar.addi v5 c150_i32_529
  let c1_i32_530 : BitVec 32 := 1#32
  let v1436 : BitVec 32 := Scalar.addi v1435 c1_i32_530
  let v1437 : Index := Scalar.indexCast v1436
  ![v1437.toNat]
def k0_off303 (v1434 : BitVec 32) : Fin 2 → Nat :=
  let v1439 : Index := Scalar.indexCast v1434
  let c0_531 : Index := 0#32
  ![v1439.toNat, 0]

def k0_chk151 (v1434 : BitVec 32) : Prop :=
  (∀ a, (k0_off303 v1434) a + S1x128.size a ≤ S10064x128.size a)
theorem k0_off303_inb : ∀ (v1434 : BitVec 32) (k0_hw151 : k0_chk151 v1434), ∀ a, (k0_off303 v1434) a + S1x128.size a ≤ S10064x128.size a := fun v1434 k0_hw151 => k0_hw151

def k0_off304 (v1438 : BitVec 32) : Fin 2 → Nat :=
  let v1445 : Index := Scalar.indexCast v1438
  let c0_533 : Index := 0#32
  ![v1445.toNat, 0]

def k0_chk152 (v1438 : BitVec 32) : Prop :=
  (∀ a, (k0_off304 v1438) a + S1x128.size a ≤ S10064x128.size a)
theorem k0_off304_inb : ∀ (v1438 : BitVec 32) (k0_hw152 : k0_chk152 v1438), ∀ a, (k0_off304 v1438) a + S1x128.size a ≤ S10064x128.size a := fun v1438 k0_hw152 => k0_hw152

def k0_off305 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c152_i32 : BitVec 32 := 152#32
  let v1451 : BitVec 32 := Scalar.addi v5 c152_i32
  let v1452 : Index := Scalar.indexCast v1451
  ![v1452.toNat]
def k0_off306 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c152_i32_536 : BitVec 32 := 152#32
  let v1454 : BitVec 32 := Scalar.addi v5 c152_i32_536
  let c1_i32_537 : BitVec 32 := 1#32
  let v1455 : BitVec 32 := Scalar.addi v1454 c1_i32_537
  let v1456 : Index := Scalar.indexCast v1455
  ![v1456.toNat]
def k0_off307 (v1453 : BitVec 32) : Fin 2 → Nat :=
  let v1458 : Index := Scalar.indexCast v1453
  let c0_538 : Index := 0#32
  ![v1458.toNat, 0]

def k0_chk153 (v1453 : BitVec 32) : Prop :=
  (∀ a, (k0_off307 v1453) a + S1x128.size a ≤ S10064x128.size a)
theorem k0_off307_inb : ∀ (v1453 : BitVec 32) (k0_hw153 : k0_chk153 v1453), ∀ a, (k0_off307 v1453) a + S1x128.size a ≤ S10064x128.size a := fun v1453 k0_hw153 => k0_hw153

def k0_off308 (v1457 : BitVec 32) : Fin 2 → Nat :=
  let v1464 : Index := Scalar.indexCast v1457
  let c0_540 : Index := 0#32
  ![v1464.toNat, 0]

def k0_chk154 (v1457 : BitVec 32) : Prop :=
  (∀ a, (k0_off308 v1457) a + S1x128.size a ≤ S10064x128.size a)
theorem k0_off308_inb : ∀ (v1457 : BitVec 32) (k0_hw154 : k0_chk154 v1457), ∀ a, (k0_off308 v1457) a + S1x128.size a ≤ S10064x128.size a := fun v1457 k0_hw154 => k0_hw154

def k0_off309 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c154_i32 : BitVec 32 := 154#32
  let v1470 : BitVec 32 := Scalar.addi v5 c154_i32
  let v1471 : Index := Scalar.indexCast v1470
  ![v1471.toNat]
def k0_off310 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c154_i32_543 : BitVec 32 := 154#32
  let v1473 : BitVec 32 := Scalar.addi v5 c154_i32_543
  let c1_i32_544 : BitVec 32 := 1#32
  let v1474 : BitVec 32 := Scalar.addi v1473 c1_i32_544
  let v1475 : Index := Scalar.indexCast v1474
  ![v1475.toNat]
def k0_off311 (v1472 : BitVec 32) : Fin 2 → Nat :=
  let v1477 : Index := Scalar.indexCast v1472
  let c0_545 : Index := 0#32
  ![v1477.toNat, 0]

def k0_chk155 (v1472 : BitVec 32) : Prop :=
  (∀ a, (k0_off311 v1472) a + S1x128.size a ≤ S10064x128.size a)
theorem k0_off311_inb : ∀ (v1472 : BitVec 32) (k0_hw155 : k0_chk155 v1472), ∀ a, (k0_off311 v1472) a + S1x128.size a ≤ S10064x128.size a := fun v1472 k0_hw155 => k0_hw155

def k0_off312 (v1476 : BitVec 32) : Fin 2 → Nat :=
  let v1483 : Index := Scalar.indexCast v1476
  let c0_547 : Index := 0#32
  ![v1483.toNat, 0]

def k0_chk156 (v1476 : BitVec 32) : Prop :=
  (∀ a, (k0_off312 v1476) a + S1x128.size a ≤ S10064x128.size a)
theorem k0_off312_inb : ∀ (v1476 : BitVec 32) (k0_hw156 : k0_chk156 v1476), ∀ a, (k0_off312 v1476) a + S1x128.size a ≤ S10064x128.size a := fun v1476 k0_hw156 => k0_hw156

def k0_off313 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c156_i32 : BitVec 32 := 156#32
  let v1489 : BitVec 32 := Scalar.addi v5 c156_i32
  let v1490 : Index := Scalar.indexCast v1489
  ![v1490.toNat]
def k0_off314 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c156_i32_550 : BitVec 32 := 156#32
  let v1492 : BitVec 32 := Scalar.addi v5 c156_i32_550
  let c1_i32_551 : BitVec 32 := 1#32
  let v1493 : BitVec 32 := Scalar.addi v1492 c1_i32_551
  let v1494 : Index := Scalar.indexCast v1493
  ![v1494.toNat]
def k0_off315 (v1491 : BitVec 32) : Fin 2 → Nat :=
  let v1496 : Index := Scalar.indexCast v1491
  let c0_552 : Index := 0#32
  ![v1496.toNat, 0]

def k0_chk157 (v1491 : BitVec 32) : Prop :=
  (∀ a, (k0_off315 v1491) a + S1x128.size a ≤ S10064x128.size a)
theorem k0_off315_inb : ∀ (v1491 : BitVec 32) (k0_hw157 : k0_chk157 v1491), ∀ a, (k0_off315 v1491) a + S1x128.size a ≤ S10064x128.size a := fun v1491 k0_hw157 => k0_hw157

def k0_off316 (v1495 : BitVec 32) : Fin 2 → Nat :=
  let v1502 : Index := Scalar.indexCast v1495
  let c0_554 : Index := 0#32
  ![v1502.toNat, 0]

def k0_chk158 (v1495 : BitVec 32) : Prop :=
  (∀ a, (k0_off316 v1495) a + S1x128.size a ≤ S10064x128.size a)
theorem k0_off316_inb : ∀ (v1495 : BitVec 32) (k0_hw158 : k0_chk158 v1495), ∀ a, (k0_off316 v1495) a + S1x128.size a ≤ S10064x128.size a := fun v1495 k0_hw158 => k0_hw158

def k0_off317 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c158_i32 : BitVec 32 := 158#32
  let v1508 : BitVec 32 := Scalar.addi v5 c158_i32
  let v1509 : Index := Scalar.indexCast v1508
  ![v1509.toNat]
def k0_off318 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c158_i32_557 : BitVec 32 := 158#32
  let v1511 : BitVec 32 := Scalar.addi v5 c158_i32_557
  let c1_i32_558 : BitVec 32 := 1#32
  let v1512 : BitVec 32 := Scalar.addi v1511 c1_i32_558
  let v1513 : Index := Scalar.indexCast v1512
  ![v1513.toNat]
def k0_off319 (v1510 : BitVec 32) : Fin 2 → Nat :=
  let v1515 : Index := Scalar.indexCast v1510
  let c0_559 : Index := 0#32
  ![v1515.toNat, 0]

def k0_chk159 (v1510 : BitVec 32) : Prop :=
  (∀ a, (k0_off319 v1510) a + S1x128.size a ≤ S10064x128.size a)
theorem k0_off319_inb : ∀ (v1510 : BitVec 32) (k0_hw159 : k0_chk159 v1510), ∀ a, (k0_off319 v1510) a + S1x128.size a ≤ S10064x128.size a := fun v1510 k0_hw159 => k0_hw159

def k0_off320 (v1514 : BitVec 32) : Fin 2 → Nat :=
  let v1521 : Index := Scalar.indexCast v1514
  let c0_561 : Index := 0#32
  ![v1521.toNat, 0]

def k0_chk160 (v1514 : BitVec 32) : Prop :=
  (∀ a, (k0_off320 v1514) a + S1x128.size a ≤ S10064x128.size a)
theorem k0_off320_inb : ∀ (v1514 : BitVec 32) (k0_hw160 : k0_chk160 v1514), ∀ a, (k0_off320 v1514) a + S1x128.size a ≤ S10064x128.size a := fun v1514 k0_hw160 => k0_hw160

def k0_off321 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c160_i32 : BitVec 32 := 160#32
  let v1527 : BitVec 32 := Scalar.addi v5 c160_i32
  let v1528 : Index := Scalar.indexCast v1527
  ![v1528.toNat]
def k0_off322 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c160_i32_564 : BitVec 32 := 160#32
  let v1530 : BitVec 32 := Scalar.addi v5 c160_i32_564
  let c1_i32_565 : BitVec 32 := 1#32
  let v1531 : BitVec 32 := Scalar.addi v1530 c1_i32_565
  let v1532 : Index := Scalar.indexCast v1531
  ![v1532.toNat]
def k0_off323 (v1529 : BitVec 32) : Fin 2 → Nat :=
  let v1534 : Index := Scalar.indexCast v1529
  let c0_566 : Index := 0#32
  ![v1534.toNat, 0]

def k0_chk161 (v1529 : BitVec 32) : Prop :=
  (∀ a, (k0_off323 v1529) a + S1x128.size a ≤ S10064x128.size a)
theorem k0_off323_inb : ∀ (v1529 : BitVec 32) (k0_hw161 : k0_chk161 v1529), ∀ a, (k0_off323 v1529) a + S1x128.size a ≤ S10064x128.size a := fun v1529 k0_hw161 => k0_hw161

def k0_off324 (v1533 : BitVec 32) : Fin 2 → Nat :=
  let v1540 : Index := Scalar.indexCast v1533
  let c0_568 : Index := 0#32
  ![v1540.toNat, 0]

def k0_chk162 (v1533 : BitVec 32) : Prop :=
  (∀ a, (k0_off324 v1533) a + S1x128.size a ≤ S10064x128.size a)
theorem k0_off324_inb : ∀ (v1533 : BitVec 32) (k0_hw162 : k0_chk162 v1533), ∀ a, (k0_off324 v1533) a + S1x128.size a ≤ S10064x128.size a := fun v1533 k0_hw162 => k0_hw162

def k0_off325 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c162_i32 : BitVec 32 := 162#32
  let v1546 : BitVec 32 := Scalar.addi v5 c162_i32
  let v1547 : Index := Scalar.indexCast v1546
  ![v1547.toNat]
def k0_off326 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c162_i32_571 : BitVec 32 := 162#32
  let v1549 : BitVec 32 := Scalar.addi v5 c162_i32_571
  let c1_i32_572 : BitVec 32 := 1#32
  let v1550 : BitVec 32 := Scalar.addi v1549 c1_i32_572
  let v1551 : Index := Scalar.indexCast v1550
  ![v1551.toNat]
def k0_off327 (v1548 : BitVec 32) : Fin 2 → Nat :=
  let v1553 : Index := Scalar.indexCast v1548
  let c0_573 : Index := 0#32
  ![v1553.toNat, 0]

def k0_chk163 (v1548 : BitVec 32) : Prop :=
  (∀ a, (k0_off327 v1548) a + S1x128.size a ≤ S10064x128.size a)
theorem k0_off327_inb : ∀ (v1548 : BitVec 32) (k0_hw163 : k0_chk163 v1548), ∀ a, (k0_off327 v1548) a + S1x128.size a ≤ S10064x128.size a := fun v1548 k0_hw163 => k0_hw163

def k0_off328 (v1552 : BitVec 32) : Fin 2 → Nat :=
  let v1559 : Index := Scalar.indexCast v1552
  let c0_575 : Index := 0#32
  ![v1559.toNat, 0]

def k0_chk164 (v1552 : BitVec 32) : Prop :=
  (∀ a, (k0_off328 v1552) a + S1x128.size a ≤ S10064x128.size a)
theorem k0_off328_inb : ∀ (v1552 : BitVec 32) (k0_hw164 : k0_chk164 v1552), ∀ a, (k0_off328 v1552) a + S1x128.size a ≤ S10064x128.size a := fun v1552 k0_hw164 => k0_hw164

def k0_off329 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c164_i32 : BitVec 32 := 164#32
  let v1565 : BitVec 32 := Scalar.addi v5 c164_i32
  let v1566 : Index := Scalar.indexCast v1565
  ![v1566.toNat]
def k0_off330 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c164_i32_578 : BitVec 32 := 164#32
  let v1568 : BitVec 32 := Scalar.addi v5 c164_i32_578
  let c1_i32_579 : BitVec 32 := 1#32
  let v1569 : BitVec 32 := Scalar.addi v1568 c1_i32_579
  let v1570 : Index := Scalar.indexCast v1569
  ![v1570.toNat]
def k0_off331 (v1567 : BitVec 32) : Fin 2 → Nat :=
  let v1572 : Index := Scalar.indexCast v1567
  let c0_580 : Index := 0#32
  ![v1572.toNat, 0]

def k0_chk165 (v1567 : BitVec 32) : Prop :=
  (∀ a, (k0_off331 v1567) a + S1x128.size a ≤ S10064x128.size a)
theorem k0_off331_inb : ∀ (v1567 : BitVec 32) (k0_hw165 : k0_chk165 v1567), ∀ a, (k0_off331 v1567) a + S1x128.size a ≤ S10064x128.size a := fun v1567 k0_hw165 => k0_hw165

def k0_off332 (v1571 : BitVec 32) : Fin 2 → Nat :=
  let v1578 : Index := Scalar.indexCast v1571
  let c0_582 : Index := 0#32
  ![v1578.toNat, 0]

def k0_chk166 (v1571 : BitVec 32) : Prop :=
  (∀ a, (k0_off332 v1571) a + S1x128.size a ≤ S10064x128.size a)
theorem k0_off332_inb : ∀ (v1571 : BitVec 32) (k0_hw166 : k0_chk166 v1571), ∀ a, (k0_off332 v1571) a + S1x128.size a ≤ S10064x128.size a := fun v1571 k0_hw166 => k0_hw166

def k0_off333 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c166_i32 : BitVec 32 := 166#32
  let v1584 : BitVec 32 := Scalar.addi v5 c166_i32
  let v1585 : Index := Scalar.indexCast v1584
  ![v1585.toNat]
def k0_off334 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c166_i32_585 : BitVec 32 := 166#32
  let v1587 : BitVec 32 := Scalar.addi v5 c166_i32_585
  let c1_i32_586 : BitVec 32 := 1#32
  let v1588 : BitVec 32 := Scalar.addi v1587 c1_i32_586
  let v1589 : Index := Scalar.indexCast v1588
  ![v1589.toNat]
def k0_off335 (v1586 : BitVec 32) : Fin 2 → Nat :=
  let v1591 : Index := Scalar.indexCast v1586
  let c0_587 : Index := 0#32
  ![v1591.toNat, 0]

def k0_chk167 (v1586 : BitVec 32) : Prop :=
  (∀ a, (k0_off335 v1586) a + S1x128.size a ≤ S10064x128.size a)
theorem k0_off335_inb : ∀ (v1586 : BitVec 32) (k0_hw167 : k0_chk167 v1586), ∀ a, (k0_off335 v1586) a + S1x128.size a ≤ S10064x128.size a := fun v1586 k0_hw167 => k0_hw167

def k0_off336 (v1590 : BitVec 32) : Fin 2 → Nat :=
  let v1597 : Index := Scalar.indexCast v1590
  let c0_589 : Index := 0#32
  ![v1597.toNat, 0]

def k0_chk168 (v1590 : BitVec 32) : Prop :=
  (∀ a, (k0_off336 v1590) a + S1x128.size a ≤ S10064x128.size a)
theorem k0_off336_inb : ∀ (v1590 : BitVec 32) (k0_hw168 : k0_chk168 v1590), ∀ a, (k0_off336 v1590) a + S1x128.size a ≤ S10064x128.size a := fun v1590 k0_hw168 => k0_hw168

def k0_off337 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c168_i32 : BitVec 32 := 168#32
  let v1603 : BitVec 32 := Scalar.addi v5 c168_i32
  let v1604 : Index := Scalar.indexCast v1603
  ![v1604.toNat]
def k0_off338 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c168_i32_592 : BitVec 32 := 168#32
  let v1606 : BitVec 32 := Scalar.addi v5 c168_i32_592
  let c1_i32_593 : BitVec 32 := 1#32
  let v1607 : BitVec 32 := Scalar.addi v1606 c1_i32_593
  let v1608 : Index := Scalar.indexCast v1607
  ![v1608.toNat]
def k0_off339 (v1605 : BitVec 32) : Fin 2 → Nat :=
  let v1610 : Index := Scalar.indexCast v1605
  let c0_594 : Index := 0#32
  ![v1610.toNat, 0]

def k0_chk169 (v1605 : BitVec 32) : Prop :=
  (∀ a, (k0_off339 v1605) a + S1x128.size a ≤ S10064x128.size a)
theorem k0_off339_inb : ∀ (v1605 : BitVec 32) (k0_hw169 : k0_chk169 v1605), ∀ a, (k0_off339 v1605) a + S1x128.size a ≤ S10064x128.size a := fun v1605 k0_hw169 => k0_hw169

def k0_off340 (v1609 : BitVec 32) : Fin 2 → Nat :=
  let v1616 : Index := Scalar.indexCast v1609
  let c0_596 : Index := 0#32
  ![v1616.toNat, 0]

def k0_chk170 (v1609 : BitVec 32) : Prop :=
  (∀ a, (k0_off340 v1609) a + S1x128.size a ≤ S10064x128.size a)
theorem k0_off340_inb : ∀ (v1609 : BitVec 32) (k0_hw170 : k0_chk170 v1609), ∀ a, (k0_off340 v1609) a + S1x128.size a ≤ S10064x128.size a := fun v1609 k0_hw170 => k0_hw170

def k0_off341 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c170_i32 : BitVec 32 := 170#32
  let v1622 : BitVec 32 := Scalar.addi v5 c170_i32
  let v1623 : Index := Scalar.indexCast v1622
  ![v1623.toNat]
def k0_off342 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c170_i32_599 : BitVec 32 := 170#32
  let v1625 : BitVec 32 := Scalar.addi v5 c170_i32_599
  let c1_i32_600 : BitVec 32 := 1#32
  let v1626 : BitVec 32 := Scalar.addi v1625 c1_i32_600
  let v1627 : Index := Scalar.indexCast v1626
  ![v1627.toNat]
def k0_off343 (v1624 : BitVec 32) : Fin 2 → Nat :=
  let v1629 : Index := Scalar.indexCast v1624
  let c0_601 : Index := 0#32
  ![v1629.toNat, 0]

def k0_chk171 (v1624 : BitVec 32) : Prop :=
  (∀ a, (k0_off343 v1624) a + S1x128.size a ≤ S10064x128.size a)
theorem k0_off343_inb : ∀ (v1624 : BitVec 32) (k0_hw171 : k0_chk171 v1624), ∀ a, (k0_off343 v1624) a + S1x128.size a ≤ S10064x128.size a := fun v1624 k0_hw171 => k0_hw171

def k0_off344 (v1628 : BitVec 32) : Fin 2 → Nat :=
  let v1635 : Index := Scalar.indexCast v1628
  let c0_603 : Index := 0#32
  ![v1635.toNat, 0]

def k0_chk172 (v1628 : BitVec 32) : Prop :=
  (∀ a, (k0_off344 v1628) a + S1x128.size a ≤ S10064x128.size a)
theorem k0_off344_inb : ∀ (v1628 : BitVec 32) (k0_hw172 : k0_chk172 v1628), ∀ a, (k0_off344 v1628) a + S1x128.size a ≤ S10064x128.size a := fun v1628 k0_hw172 => k0_hw172

def k0_off345 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c172_i32 : BitVec 32 := 172#32
  let v1641 : BitVec 32 := Scalar.addi v5 c172_i32
  let v1642 : Index := Scalar.indexCast v1641
  ![v1642.toNat]
def k0_off346 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c172_i32_606 : BitVec 32 := 172#32
  let v1644 : BitVec 32 := Scalar.addi v5 c172_i32_606
  let c1_i32_607 : BitVec 32 := 1#32
  let v1645 : BitVec 32 := Scalar.addi v1644 c1_i32_607
  let v1646 : Index := Scalar.indexCast v1645
  ![v1646.toNat]
def k0_off347 (v1643 : BitVec 32) : Fin 2 → Nat :=
  let v1648 : Index := Scalar.indexCast v1643
  let c0_608 : Index := 0#32
  ![v1648.toNat, 0]

def k0_chk173 (v1643 : BitVec 32) : Prop :=
  (∀ a, (k0_off347 v1643) a + S1x128.size a ≤ S10064x128.size a)
theorem k0_off347_inb : ∀ (v1643 : BitVec 32) (k0_hw173 : k0_chk173 v1643), ∀ a, (k0_off347 v1643) a + S1x128.size a ≤ S10064x128.size a := fun v1643 k0_hw173 => k0_hw173

def k0_off348 (v1647 : BitVec 32) : Fin 2 → Nat :=
  let v1654 : Index := Scalar.indexCast v1647
  let c0_610 : Index := 0#32
  ![v1654.toNat, 0]

def k0_chk174 (v1647 : BitVec 32) : Prop :=
  (∀ a, (k0_off348 v1647) a + S1x128.size a ≤ S10064x128.size a)
theorem k0_off348_inb : ∀ (v1647 : BitVec 32) (k0_hw174 : k0_chk174 v1647), ∀ a, (k0_off348 v1647) a + S1x128.size a ≤ S10064x128.size a := fun v1647 k0_hw174 => k0_hw174

def k0_off349 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c174_i32 : BitVec 32 := 174#32
  let v1660 : BitVec 32 := Scalar.addi v5 c174_i32
  let v1661 : Index := Scalar.indexCast v1660
  ![v1661.toNat]
def k0_off350 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c174_i32_613 : BitVec 32 := 174#32
  let v1663 : BitVec 32 := Scalar.addi v5 c174_i32_613
  let c1_i32_614 : BitVec 32 := 1#32
  let v1664 : BitVec 32 := Scalar.addi v1663 c1_i32_614
  let v1665 : Index := Scalar.indexCast v1664
  ![v1665.toNat]
def k0_off351 (v1662 : BitVec 32) : Fin 2 → Nat :=
  let v1667 : Index := Scalar.indexCast v1662
  let c0_615 : Index := 0#32
  ![v1667.toNat, 0]

def k0_chk175 (v1662 : BitVec 32) : Prop :=
  (∀ a, (k0_off351 v1662) a + S1x128.size a ≤ S10064x128.size a)
theorem k0_off351_inb : ∀ (v1662 : BitVec 32) (k0_hw175 : k0_chk175 v1662), ∀ a, (k0_off351 v1662) a + S1x128.size a ≤ S10064x128.size a := fun v1662 k0_hw175 => k0_hw175

def k0_off352 (v1666 : BitVec 32) : Fin 2 → Nat :=
  let v1673 : Index := Scalar.indexCast v1666
  let c0_617 : Index := 0#32
  ![v1673.toNat, 0]

def k0_chk176 (v1666 : BitVec 32) : Prop :=
  (∀ a, (k0_off352 v1666) a + S1x128.size a ≤ S10064x128.size a)
theorem k0_off352_inb : ∀ (v1666 : BitVec 32) (k0_hw176 : k0_chk176 v1666), ∀ a, (k0_off352 v1666) a + S1x128.size a ≤ S10064x128.size a := fun v1666 k0_hw176 => k0_hw176

def k0_off353 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c176_i32 : BitVec 32 := 176#32
  let v1679 : BitVec 32 := Scalar.addi v5 c176_i32
  let v1680 : Index := Scalar.indexCast v1679
  ![v1680.toNat]
def k0_off354 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c176_i32_620 : BitVec 32 := 176#32
  let v1682 : BitVec 32 := Scalar.addi v5 c176_i32_620
  let c1_i32_621 : BitVec 32 := 1#32
  let v1683 : BitVec 32 := Scalar.addi v1682 c1_i32_621
  let v1684 : Index := Scalar.indexCast v1683
  ![v1684.toNat]
def k0_off355 (v1681 : BitVec 32) : Fin 2 → Nat :=
  let v1686 : Index := Scalar.indexCast v1681
  let c0_622 : Index := 0#32
  ![v1686.toNat, 0]

def k0_chk177 (v1681 : BitVec 32) : Prop :=
  (∀ a, (k0_off355 v1681) a + S1x128.size a ≤ S10064x128.size a)
theorem k0_off355_inb : ∀ (v1681 : BitVec 32) (k0_hw177 : k0_chk177 v1681), ∀ a, (k0_off355 v1681) a + S1x128.size a ≤ S10064x128.size a := fun v1681 k0_hw177 => k0_hw177

def k0_off356 (v1685 : BitVec 32) : Fin 2 → Nat :=
  let v1692 : Index := Scalar.indexCast v1685
  let c0_624 : Index := 0#32
  ![v1692.toNat, 0]

def k0_chk178 (v1685 : BitVec 32) : Prop :=
  (∀ a, (k0_off356 v1685) a + S1x128.size a ≤ S10064x128.size a)
theorem k0_off356_inb : ∀ (v1685 : BitVec 32) (k0_hw178 : k0_chk178 v1685), ∀ a, (k0_off356 v1685) a + S1x128.size a ≤ S10064x128.size a := fun v1685 k0_hw178 => k0_hw178

def k0_off357 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c178_i32 : BitVec 32 := 178#32
  let v1698 : BitVec 32 := Scalar.addi v5 c178_i32
  let v1699 : Index := Scalar.indexCast v1698
  ![v1699.toNat]
def k0_off358 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c178_i32_627 : BitVec 32 := 178#32
  let v1701 : BitVec 32 := Scalar.addi v5 c178_i32_627
  let c1_i32_628 : BitVec 32 := 1#32
  let v1702 : BitVec 32 := Scalar.addi v1701 c1_i32_628
  let v1703 : Index := Scalar.indexCast v1702
  ![v1703.toNat]
def k0_off359 (v1700 : BitVec 32) : Fin 2 → Nat :=
  let v1705 : Index := Scalar.indexCast v1700
  let c0_629 : Index := 0#32
  ![v1705.toNat, 0]

def k0_chk179 (v1700 : BitVec 32) : Prop :=
  (∀ a, (k0_off359 v1700) a + S1x128.size a ≤ S10064x128.size a)
theorem k0_off359_inb : ∀ (v1700 : BitVec 32) (k0_hw179 : k0_chk179 v1700), ∀ a, (k0_off359 v1700) a + S1x128.size a ≤ S10064x128.size a := fun v1700 k0_hw179 => k0_hw179

def k0_off360 (v1704 : BitVec 32) : Fin 2 → Nat :=
  let v1711 : Index := Scalar.indexCast v1704
  let c0_631 : Index := 0#32
  ![v1711.toNat, 0]

def k0_chk180 (v1704 : BitVec 32) : Prop :=
  (∀ a, (k0_off360 v1704) a + S1x128.size a ≤ S10064x128.size a)
theorem k0_off360_inb : ∀ (v1704 : BitVec 32) (k0_hw180 : k0_chk180 v1704), ∀ a, (k0_off360 v1704) a + S1x128.size a ≤ S10064x128.size a := fun v1704 k0_hw180 => k0_hw180

def k0_off361 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c180_i32 : BitVec 32 := 180#32
  let v1717 : BitVec 32 := Scalar.addi v5 c180_i32
  let v1718 : Index := Scalar.indexCast v1717
  ![v1718.toNat]
def k0_off362 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c180_i32_634 : BitVec 32 := 180#32
  let v1720 : BitVec 32 := Scalar.addi v5 c180_i32_634
  let c1_i32_635 : BitVec 32 := 1#32
  let v1721 : BitVec 32 := Scalar.addi v1720 c1_i32_635
  let v1722 : Index := Scalar.indexCast v1721
  ![v1722.toNat]
def k0_off363 (v1719 : BitVec 32) : Fin 2 → Nat :=
  let v1724 : Index := Scalar.indexCast v1719
  let c0_636 : Index := 0#32
  ![v1724.toNat, 0]

def k0_chk181 (v1719 : BitVec 32) : Prop :=
  (∀ a, (k0_off363 v1719) a + S1x128.size a ≤ S10064x128.size a)
theorem k0_off363_inb : ∀ (v1719 : BitVec 32) (k0_hw181 : k0_chk181 v1719), ∀ a, (k0_off363 v1719) a + S1x128.size a ≤ S10064x128.size a := fun v1719 k0_hw181 => k0_hw181

def k0_off364 (v1723 : BitVec 32) : Fin 2 → Nat :=
  let v1730 : Index := Scalar.indexCast v1723
  let c0_638 : Index := 0#32
  ![v1730.toNat, 0]

def k0_chk182 (v1723 : BitVec 32) : Prop :=
  (∀ a, (k0_off364 v1723) a + S1x128.size a ≤ S10064x128.size a)
theorem k0_off364_inb : ∀ (v1723 : BitVec 32) (k0_hw182 : k0_chk182 v1723), ∀ a, (k0_off364 v1723) a + S1x128.size a ≤ S10064x128.size a := fun v1723 k0_hw182 => k0_hw182

def k0_off365 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c182_i32 : BitVec 32 := 182#32
  let v1736 : BitVec 32 := Scalar.addi v5 c182_i32
  let v1737 : Index := Scalar.indexCast v1736
  ![v1737.toNat]
def k0_off366 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c182_i32_641 : BitVec 32 := 182#32
  let v1739 : BitVec 32 := Scalar.addi v5 c182_i32_641
  let c1_i32_642 : BitVec 32 := 1#32
  let v1740 : BitVec 32 := Scalar.addi v1739 c1_i32_642
  let v1741 : Index := Scalar.indexCast v1740
  ![v1741.toNat]
def k0_off367 (v1738 : BitVec 32) : Fin 2 → Nat :=
  let v1743 : Index := Scalar.indexCast v1738
  let c0_643 : Index := 0#32
  ![v1743.toNat, 0]

def k0_chk183 (v1738 : BitVec 32) : Prop :=
  (∀ a, (k0_off367 v1738) a + S1x128.size a ≤ S10064x128.size a)
theorem k0_off367_inb : ∀ (v1738 : BitVec 32) (k0_hw183 : k0_chk183 v1738), ∀ a, (k0_off367 v1738) a + S1x128.size a ≤ S10064x128.size a := fun v1738 k0_hw183 => k0_hw183

def k0_off368 (v1742 : BitVec 32) : Fin 2 → Nat :=
  let v1749 : Index := Scalar.indexCast v1742
  let c0_645 : Index := 0#32
  ![v1749.toNat, 0]

def k0_chk184 (v1742 : BitVec 32) : Prop :=
  (∀ a, (k0_off368 v1742) a + S1x128.size a ≤ S10064x128.size a)
theorem k0_off368_inb : ∀ (v1742 : BitVec 32) (k0_hw184 : k0_chk184 v1742), ∀ a, (k0_off368 v1742) a + S1x128.size a ≤ S10064x128.size a := fun v1742 k0_hw184 => k0_hw184

def k0_off369 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c184_i32 : BitVec 32 := 184#32
  let v1755 : BitVec 32 := Scalar.addi v5 c184_i32
  let v1756 : Index := Scalar.indexCast v1755
  ![v1756.toNat]
def k0_off370 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c184_i32_648 : BitVec 32 := 184#32
  let v1758 : BitVec 32 := Scalar.addi v5 c184_i32_648
  let c1_i32_649 : BitVec 32 := 1#32
  let v1759 : BitVec 32 := Scalar.addi v1758 c1_i32_649
  let v1760 : Index := Scalar.indexCast v1759
  ![v1760.toNat]
def k0_off371 (v1757 : BitVec 32) : Fin 2 → Nat :=
  let v1762 : Index := Scalar.indexCast v1757
  let c0_650 : Index := 0#32
  ![v1762.toNat, 0]

def k0_chk185 (v1757 : BitVec 32) : Prop :=
  (∀ a, (k0_off371 v1757) a + S1x128.size a ≤ S10064x128.size a)
theorem k0_off371_inb : ∀ (v1757 : BitVec 32) (k0_hw185 : k0_chk185 v1757), ∀ a, (k0_off371 v1757) a + S1x128.size a ≤ S10064x128.size a := fun v1757 k0_hw185 => k0_hw185

def k0_off372 (v1761 : BitVec 32) : Fin 2 → Nat :=
  let v1768 : Index := Scalar.indexCast v1761
  let c0_652 : Index := 0#32
  ![v1768.toNat, 0]

def k0_chk186 (v1761 : BitVec 32) : Prop :=
  (∀ a, (k0_off372 v1761) a + S1x128.size a ≤ S10064x128.size a)
theorem k0_off372_inb : ∀ (v1761 : BitVec 32) (k0_hw186 : k0_chk186 v1761), ∀ a, (k0_off372 v1761) a + S1x128.size a ≤ S10064x128.size a := fun v1761 k0_hw186 => k0_hw186

def k0_off373 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c186_i32 : BitVec 32 := 186#32
  let v1774 : BitVec 32 := Scalar.addi v5 c186_i32
  let v1775 : Index := Scalar.indexCast v1774
  ![v1775.toNat]
def k0_off374 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c186_i32_655 : BitVec 32 := 186#32
  let v1777 : BitVec 32 := Scalar.addi v5 c186_i32_655
  let c1_i32_656 : BitVec 32 := 1#32
  let v1778 : BitVec 32 := Scalar.addi v1777 c1_i32_656
  let v1779 : Index := Scalar.indexCast v1778
  ![v1779.toNat]
def k0_off375 (v1776 : BitVec 32) : Fin 2 → Nat :=
  let v1781 : Index := Scalar.indexCast v1776
  let c0_657 : Index := 0#32
  ![v1781.toNat, 0]

def k0_chk187 (v1776 : BitVec 32) : Prop :=
  (∀ a, (k0_off375 v1776) a + S1x128.size a ≤ S10064x128.size a)
theorem k0_off375_inb : ∀ (v1776 : BitVec 32) (k0_hw187 : k0_chk187 v1776), ∀ a, (k0_off375 v1776) a + S1x128.size a ≤ S10064x128.size a := fun v1776 k0_hw187 => k0_hw187

def k0_off376 (v1780 : BitVec 32) : Fin 2 → Nat :=
  let v1787 : Index := Scalar.indexCast v1780
  let c0_659 : Index := 0#32
  ![v1787.toNat, 0]

def k0_chk188 (v1780 : BitVec 32) : Prop :=
  (∀ a, (k0_off376 v1780) a + S1x128.size a ≤ S10064x128.size a)
theorem k0_off376_inb : ∀ (v1780 : BitVec 32) (k0_hw188 : k0_chk188 v1780), ∀ a, (k0_off376 v1780) a + S1x128.size a ≤ S10064x128.size a := fun v1780 k0_hw188 => k0_hw188

def k0_off377 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c188_i32 : BitVec 32 := 188#32
  let v1793 : BitVec 32 := Scalar.addi v5 c188_i32
  let v1794 : Index := Scalar.indexCast v1793
  ![v1794.toNat]
def k0_off378 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c188_i32_662 : BitVec 32 := 188#32
  let v1796 : BitVec 32 := Scalar.addi v5 c188_i32_662
  let c1_i32_663 : BitVec 32 := 1#32
  let v1797 : BitVec 32 := Scalar.addi v1796 c1_i32_663
  let v1798 : Index := Scalar.indexCast v1797
  ![v1798.toNat]
def k0_off379 (v1795 : BitVec 32) : Fin 2 → Nat :=
  let v1800 : Index := Scalar.indexCast v1795
  let c0_664 : Index := 0#32
  ![v1800.toNat, 0]

def k0_chk189 (v1795 : BitVec 32) : Prop :=
  (∀ a, (k0_off379 v1795) a + S1x128.size a ≤ S10064x128.size a)
theorem k0_off379_inb : ∀ (v1795 : BitVec 32) (k0_hw189 : k0_chk189 v1795), ∀ a, (k0_off379 v1795) a + S1x128.size a ≤ S10064x128.size a := fun v1795 k0_hw189 => k0_hw189

def k0_off380 (v1799 : BitVec 32) : Fin 2 → Nat :=
  let v1806 : Index := Scalar.indexCast v1799
  let c0_666 : Index := 0#32
  ![v1806.toNat, 0]

def k0_chk190 (v1799 : BitVec 32) : Prop :=
  (∀ a, (k0_off380 v1799) a + S1x128.size a ≤ S10064x128.size a)
theorem k0_off380_inb : ∀ (v1799 : BitVec 32) (k0_hw190 : k0_chk190 v1799), ∀ a, (k0_off380 v1799) a + S1x128.size a ≤ S10064x128.size a := fun v1799 k0_hw190 => k0_hw190

def k0_off381 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c190_i32 : BitVec 32 := 190#32
  let v1812 : BitVec 32 := Scalar.addi v5 c190_i32
  let v1813 : Index := Scalar.indexCast v1812
  ![v1813.toNat]
def k0_off382 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c190_i32_669 : BitVec 32 := 190#32
  let v1815 : BitVec 32 := Scalar.addi v5 c190_i32_669
  let c1_i32_670 : BitVec 32 := 1#32
  let v1816 : BitVec 32 := Scalar.addi v1815 c1_i32_670
  let v1817 : Index := Scalar.indexCast v1816
  ![v1817.toNat]
def k0_off383 (v1814 : BitVec 32) : Fin 2 → Nat :=
  let v1819 : Index := Scalar.indexCast v1814
  let c0_671 : Index := 0#32
  ![v1819.toNat, 0]

def k0_chk191 (v1814 : BitVec 32) : Prop :=
  (∀ a, (k0_off383 v1814) a + S1x128.size a ≤ S10064x128.size a)
theorem k0_off383_inb : ∀ (v1814 : BitVec 32) (k0_hw191 : k0_chk191 v1814), ∀ a, (k0_off383 v1814) a + S1x128.size a ≤ S10064x128.size a := fun v1814 k0_hw191 => k0_hw191

def k0_off384 (v1818 : BitVec 32) : Fin 2 → Nat :=
  let v1825 : Index := Scalar.indexCast v1818
  let c0_673 : Index := 0#32
  ![v1825.toNat, 0]

def k0_chk192 (v1818 : BitVec 32) : Prop :=
  (∀ a, (k0_off384 v1818) a + S1x128.size a ≤ S10064x128.size a)
theorem k0_off384_inb : ∀ (v1818 : BitVec 32) (k0_hw192 : k0_chk192 v1818), ∀ a, (k0_off384 v1818) a + S1x128.size a ≤ S10064x128.size a := fun v1818 k0_hw192 => k0_hw192

def k0_off385 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c192_i32 : BitVec 32 := 192#32
  let v1831 : BitVec 32 := Scalar.addi v5 c192_i32
  let v1832 : Index := Scalar.indexCast v1831
  ![v1832.toNat]
def k0_off386 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c192_i32_676 : BitVec 32 := 192#32
  let v1834 : BitVec 32 := Scalar.addi v5 c192_i32_676
  let c1_i32_677 : BitVec 32 := 1#32
  let v1835 : BitVec 32 := Scalar.addi v1834 c1_i32_677
  let v1836 : Index := Scalar.indexCast v1835
  ![v1836.toNat]
def k0_off387 (v1833 : BitVec 32) : Fin 2 → Nat :=
  let v1838 : Index := Scalar.indexCast v1833
  let c0_678 : Index := 0#32
  ![v1838.toNat, 0]

def k0_chk193 (v1833 : BitVec 32) : Prop :=
  (∀ a, (k0_off387 v1833) a + S1x128.size a ≤ S10064x128.size a)
theorem k0_off387_inb : ∀ (v1833 : BitVec 32) (k0_hw193 : k0_chk193 v1833), ∀ a, (k0_off387 v1833) a + S1x128.size a ≤ S10064x128.size a := fun v1833 k0_hw193 => k0_hw193

def k0_off388 (v1837 : BitVec 32) : Fin 2 → Nat :=
  let v1844 : Index := Scalar.indexCast v1837
  let c0_680 : Index := 0#32
  ![v1844.toNat, 0]

def k0_chk194 (v1837 : BitVec 32) : Prop :=
  (∀ a, (k0_off388 v1837) a + S1x128.size a ≤ S10064x128.size a)
theorem k0_off388_inb : ∀ (v1837 : BitVec 32) (k0_hw194 : k0_chk194 v1837), ∀ a, (k0_off388 v1837) a + S1x128.size a ≤ S10064x128.size a := fun v1837 k0_hw194 => k0_hw194

def k0_off389 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c194_i32 : BitVec 32 := 194#32
  let v1850 : BitVec 32 := Scalar.addi v5 c194_i32
  let v1851 : Index := Scalar.indexCast v1850
  ![v1851.toNat]
def k0_off390 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c194_i32_683 : BitVec 32 := 194#32
  let v1853 : BitVec 32 := Scalar.addi v5 c194_i32_683
  let c1_i32_684 : BitVec 32 := 1#32
  let v1854 : BitVec 32 := Scalar.addi v1853 c1_i32_684
  let v1855 : Index := Scalar.indexCast v1854
  ![v1855.toNat]
def k0_off391 (v1852 : BitVec 32) : Fin 2 → Nat :=
  let v1857 : Index := Scalar.indexCast v1852
  let c0_685 : Index := 0#32
  ![v1857.toNat, 0]

def k0_chk195 (v1852 : BitVec 32) : Prop :=
  (∀ a, (k0_off391 v1852) a + S1x128.size a ≤ S10064x128.size a)
theorem k0_off391_inb : ∀ (v1852 : BitVec 32) (k0_hw195 : k0_chk195 v1852), ∀ a, (k0_off391 v1852) a + S1x128.size a ≤ S10064x128.size a := fun v1852 k0_hw195 => k0_hw195

def k0_off392 (v1856 : BitVec 32) : Fin 2 → Nat :=
  let v1863 : Index := Scalar.indexCast v1856
  let c0_687 : Index := 0#32
  ![v1863.toNat, 0]

def k0_chk196 (v1856 : BitVec 32) : Prop :=
  (∀ a, (k0_off392 v1856) a + S1x128.size a ≤ S10064x128.size a)
theorem k0_off392_inb : ∀ (v1856 : BitVec 32) (k0_hw196 : k0_chk196 v1856), ∀ a, (k0_off392 v1856) a + S1x128.size a ≤ S10064x128.size a := fun v1856 k0_hw196 => k0_hw196

def k0_off393 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c196_i32 : BitVec 32 := 196#32
  let v1869 : BitVec 32 := Scalar.addi v5 c196_i32
  let v1870 : Index := Scalar.indexCast v1869
  ![v1870.toNat]
def k0_off394 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c196_i32_690 : BitVec 32 := 196#32
  let v1872 : BitVec 32 := Scalar.addi v5 c196_i32_690
  let c1_i32_691 : BitVec 32 := 1#32
  let v1873 : BitVec 32 := Scalar.addi v1872 c1_i32_691
  let v1874 : Index := Scalar.indexCast v1873
  ![v1874.toNat]
def k0_off395 (v1871 : BitVec 32) : Fin 2 → Nat :=
  let v1876 : Index := Scalar.indexCast v1871
  let c0_692 : Index := 0#32
  ![v1876.toNat, 0]

def k0_chk197 (v1871 : BitVec 32) : Prop :=
  (∀ a, (k0_off395 v1871) a + S1x128.size a ≤ S10064x128.size a)
theorem k0_off395_inb : ∀ (v1871 : BitVec 32) (k0_hw197 : k0_chk197 v1871), ∀ a, (k0_off395 v1871) a + S1x128.size a ≤ S10064x128.size a := fun v1871 k0_hw197 => k0_hw197

def k0_off396 (v1875 : BitVec 32) : Fin 2 → Nat :=
  let v1882 : Index := Scalar.indexCast v1875
  let c0_694 : Index := 0#32
  ![v1882.toNat, 0]

def k0_chk198 (v1875 : BitVec 32) : Prop :=
  (∀ a, (k0_off396 v1875) a + S1x128.size a ≤ S10064x128.size a)
theorem k0_off396_inb : ∀ (v1875 : BitVec 32) (k0_hw198 : k0_chk198 v1875), ∀ a, (k0_off396 v1875) a + S1x128.size a ≤ S10064x128.size a := fun v1875 k0_hw198 => k0_hw198

def k0_off397 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c198_i32 : BitVec 32 := 198#32
  let v1888 : BitVec 32 := Scalar.addi v5 c198_i32
  let v1889 : Index := Scalar.indexCast v1888
  ![v1889.toNat]
def k0_off398 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c198_i32_697 : BitVec 32 := 198#32
  let v1891 : BitVec 32 := Scalar.addi v5 c198_i32_697
  let c1_i32_698 : BitVec 32 := 1#32
  let v1892 : BitVec 32 := Scalar.addi v1891 c1_i32_698
  let v1893 : Index := Scalar.indexCast v1892
  ![v1893.toNat]
def k0_off399 (v1890 : BitVec 32) : Fin 2 → Nat :=
  let v1895 : Index := Scalar.indexCast v1890
  let c0_699 : Index := 0#32
  ![v1895.toNat, 0]

def k0_chk199 (v1890 : BitVec 32) : Prop :=
  (∀ a, (k0_off399 v1890) a + S1x128.size a ≤ S10064x128.size a)
theorem k0_off399_inb : ∀ (v1890 : BitVec 32) (k0_hw199 : k0_chk199 v1890), ∀ a, (k0_off399 v1890) a + S1x128.size a ≤ S10064x128.size a := fun v1890 k0_hw199 => k0_hw199

def k0_off400 (v1894 : BitVec 32) : Fin 2 → Nat :=
  let v1901 : Index := Scalar.indexCast v1894
  let c0_701 : Index := 0#32
  ![v1901.toNat, 0]

def k0_chk200 (v1894 : BitVec 32) : Prop :=
  (∀ a, (k0_off400 v1894) a + S1x128.size a ≤ S10064x128.size a)
theorem k0_off400_inb : ∀ (v1894 : BitVec 32) (k0_hw200 : k0_chk200 v1894), ∀ a, (k0_off400 v1894) a + S1x128.size a ≤ S10064x128.size a := fun v1894 k0_hw200 => k0_hw200

def k0_off401 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c200_i32 : BitVec 32 := 200#32
  let v1907 : BitVec 32 := Scalar.addi v5 c200_i32
  let v1908 : Index := Scalar.indexCast v1907
  ![v1908.toNat]
def k0_off402 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c200_i32_704 : BitVec 32 := 200#32
  let v1910 : BitVec 32 := Scalar.addi v5 c200_i32_704
  let c1_i32_705 : BitVec 32 := 1#32
  let v1911 : BitVec 32 := Scalar.addi v1910 c1_i32_705
  let v1912 : Index := Scalar.indexCast v1911
  ![v1912.toNat]
def k0_off403 (v1909 : BitVec 32) : Fin 2 → Nat :=
  let v1914 : Index := Scalar.indexCast v1909
  let c0_706 : Index := 0#32
  ![v1914.toNat, 0]

def k0_chk201 (v1909 : BitVec 32) : Prop :=
  (∀ a, (k0_off403 v1909) a + S1x128.size a ≤ S10064x128.size a)
theorem k0_off403_inb : ∀ (v1909 : BitVec 32) (k0_hw201 : k0_chk201 v1909), ∀ a, (k0_off403 v1909) a + S1x128.size a ≤ S10064x128.size a := fun v1909 k0_hw201 => k0_hw201

def k0_off404 (v1913 : BitVec 32) : Fin 2 → Nat :=
  let v1920 : Index := Scalar.indexCast v1913
  let c0_708 : Index := 0#32
  ![v1920.toNat, 0]

def k0_chk202 (v1913 : BitVec 32) : Prop :=
  (∀ a, (k0_off404 v1913) a + S1x128.size a ≤ S10064x128.size a)
theorem k0_off404_inb : ∀ (v1913 : BitVec 32) (k0_hw202 : k0_chk202 v1913), ∀ a, (k0_off404 v1913) a + S1x128.size a ≤ S10064x128.size a := fun v1913 k0_hw202 => k0_hw202

def k0_off405 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c202_i32 : BitVec 32 := 202#32
  let v1926 : BitVec 32 := Scalar.addi v5 c202_i32
  let v1927 : Index := Scalar.indexCast v1926
  ![v1927.toNat]
def k0_off406 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c202_i32_711 : BitVec 32 := 202#32
  let v1929 : BitVec 32 := Scalar.addi v5 c202_i32_711
  let c1_i32_712 : BitVec 32 := 1#32
  let v1930 : BitVec 32 := Scalar.addi v1929 c1_i32_712
  let v1931 : Index := Scalar.indexCast v1930
  ![v1931.toNat]
def k0_off407 (v1928 : BitVec 32) : Fin 2 → Nat :=
  let v1933 : Index := Scalar.indexCast v1928
  let c0_713 : Index := 0#32
  ![v1933.toNat, 0]

def k0_chk203 (v1928 : BitVec 32) : Prop :=
  (∀ a, (k0_off407 v1928) a + S1x128.size a ≤ S10064x128.size a)
theorem k0_off407_inb : ∀ (v1928 : BitVec 32) (k0_hw203 : k0_chk203 v1928), ∀ a, (k0_off407 v1928) a + S1x128.size a ≤ S10064x128.size a := fun v1928 k0_hw203 => k0_hw203

def k0_off408 (v1932 : BitVec 32) : Fin 2 → Nat :=
  let v1939 : Index := Scalar.indexCast v1932
  let c0_715 : Index := 0#32
  ![v1939.toNat, 0]

def k0_chk204 (v1932 : BitVec 32) : Prop :=
  (∀ a, (k0_off408 v1932) a + S1x128.size a ≤ S10064x128.size a)
theorem k0_off408_inb : ∀ (v1932 : BitVec 32) (k0_hw204 : k0_chk204 v1932), ∀ a, (k0_off408 v1932) a + S1x128.size a ≤ S10064x128.size a := fun v1932 k0_hw204 => k0_hw204

def k0_off409 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c204_i32 : BitVec 32 := 204#32
  let v1945 : BitVec 32 := Scalar.addi v5 c204_i32
  let v1946 : Index := Scalar.indexCast v1945
  ![v1946.toNat]
def k0_off410 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c204_i32_718 : BitVec 32 := 204#32
  let v1948 : BitVec 32 := Scalar.addi v5 c204_i32_718
  let c1_i32_719 : BitVec 32 := 1#32
  let v1949 : BitVec 32 := Scalar.addi v1948 c1_i32_719
  let v1950 : Index := Scalar.indexCast v1949
  ![v1950.toNat]
def k0_off411 (v1947 : BitVec 32) : Fin 2 → Nat :=
  let v1952 : Index := Scalar.indexCast v1947
  let c0_720 : Index := 0#32
  ![v1952.toNat, 0]

def k0_chk205 (v1947 : BitVec 32) : Prop :=
  (∀ a, (k0_off411 v1947) a + S1x128.size a ≤ S10064x128.size a)
theorem k0_off411_inb : ∀ (v1947 : BitVec 32) (k0_hw205 : k0_chk205 v1947), ∀ a, (k0_off411 v1947) a + S1x128.size a ≤ S10064x128.size a := fun v1947 k0_hw205 => k0_hw205

def k0_off412 (v1951 : BitVec 32) : Fin 2 → Nat :=
  let v1958 : Index := Scalar.indexCast v1951
  let c0_722 : Index := 0#32
  ![v1958.toNat, 0]

def k0_chk206 (v1951 : BitVec 32) : Prop :=
  (∀ a, (k0_off412 v1951) a + S1x128.size a ≤ S10064x128.size a)
theorem k0_off412_inb : ∀ (v1951 : BitVec 32) (k0_hw206 : k0_chk206 v1951), ∀ a, (k0_off412 v1951) a + S1x128.size a ≤ S10064x128.size a := fun v1951 k0_hw206 => k0_hw206

def k0_off413 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c206_i32 : BitVec 32 := 206#32
  let v1964 : BitVec 32 := Scalar.addi v5 c206_i32
  let v1965 : Index := Scalar.indexCast v1964
  ![v1965.toNat]
def k0_off414 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c206_i32_725 : BitVec 32 := 206#32
  let v1967 : BitVec 32 := Scalar.addi v5 c206_i32_725
  let c1_i32_726 : BitVec 32 := 1#32
  let v1968 : BitVec 32 := Scalar.addi v1967 c1_i32_726
  let v1969 : Index := Scalar.indexCast v1968
  ![v1969.toNat]
def k0_off415 (v1966 : BitVec 32) : Fin 2 → Nat :=
  let v1971 : Index := Scalar.indexCast v1966
  let c0_727 : Index := 0#32
  ![v1971.toNat, 0]

def k0_chk207 (v1966 : BitVec 32) : Prop :=
  (∀ a, (k0_off415 v1966) a + S1x128.size a ≤ S10064x128.size a)
theorem k0_off415_inb : ∀ (v1966 : BitVec 32) (k0_hw207 : k0_chk207 v1966), ∀ a, (k0_off415 v1966) a + S1x128.size a ≤ S10064x128.size a := fun v1966 k0_hw207 => k0_hw207

def k0_off416 (v1970 : BitVec 32) : Fin 2 → Nat :=
  let v1977 : Index := Scalar.indexCast v1970
  let c0_729 : Index := 0#32
  ![v1977.toNat, 0]

def k0_chk208 (v1970 : BitVec 32) : Prop :=
  (∀ a, (k0_off416 v1970) a + S1x128.size a ≤ S10064x128.size a)
theorem k0_off416_inb : ∀ (v1970 : BitVec 32) (k0_hw208 : k0_chk208 v1970), ∀ a, (k0_off416 v1970) a + S1x128.size a ≤ S10064x128.size a := fun v1970 k0_hw208 => k0_hw208

def k0_off417 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c208_i32 : BitVec 32 := 208#32
  let v1983 : BitVec 32 := Scalar.addi v5 c208_i32
  let v1984 : Index := Scalar.indexCast v1983
  ![v1984.toNat]
def k0_off418 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c208_i32_732 : BitVec 32 := 208#32
  let v1986 : BitVec 32 := Scalar.addi v5 c208_i32_732
  let c1_i32_733 : BitVec 32 := 1#32
  let v1987 : BitVec 32 := Scalar.addi v1986 c1_i32_733
  let v1988 : Index := Scalar.indexCast v1987
  ![v1988.toNat]
def k0_off419 (v1985 : BitVec 32) : Fin 2 → Nat :=
  let v1990 : Index := Scalar.indexCast v1985
  let c0_734 : Index := 0#32
  ![v1990.toNat, 0]

def k0_chk209 (v1985 : BitVec 32) : Prop :=
  (∀ a, (k0_off419 v1985) a + S1x128.size a ≤ S10064x128.size a)
theorem k0_off419_inb : ∀ (v1985 : BitVec 32) (k0_hw209 : k0_chk209 v1985), ∀ a, (k0_off419 v1985) a + S1x128.size a ≤ S10064x128.size a := fun v1985 k0_hw209 => k0_hw209

def k0_off420 (v1989 : BitVec 32) : Fin 2 → Nat :=
  let v1996 : Index := Scalar.indexCast v1989
  let c0_736 : Index := 0#32
  ![v1996.toNat, 0]

def k0_chk210 (v1989 : BitVec 32) : Prop :=
  (∀ a, (k0_off420 v1989) a + S1x128.size a ≤ S10064x128.size a)
theorem k0_off420_inb : ∀ (v1989 : BitVec 32) (k0_hw210 : k0_chk210 v1989), ∀ a, (k0_off420 v1989) a + S1x128.size a ≤ S10064x128.size a := fun v1989 k0_hw210 => k0_hw210

def k0_off421 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c210_i32 : BitVec 32 := 210#32
  let v2002 : BitVec 32 := Scalar.addi v5 c210_i32
  let v2003 : Index := Scalar.indexCast v2002
  ![v2003.toNat]
def k0_off422 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c210_i32_739 : BitVec 32 := 210#32
  let v2005 : BitVec 32 := Scalar.addi v5 c210_i32_739
  let c1_i32_740 : BitVec 32 := 1#32
  let v2006 : BitVec 32 := Scalar.addi v2005 c1_i32_740
  let v2007 : Index := Scalar.indexCast v2006
  ![v2007.toNat]
def k0_off423 (v2004 : BitVec 32) : Fin 2 → Nat :=
  let v2009 : Index := Scalar.indexCast v2004
  let c0_741 : Index := 0#32
  ![v2009.toNat, 0]

def k0_chk211 (v2004 : BitVec 32) : Prop :=
  (∀ a, (k0_off423 v2004) a + S1x128.size a ≤ S10064x128.size a)
theorem k0_off423_inb : ∀ (v2004 : BitVec 32) (k0_hw211 : k0_chk211 v2004), ∀ a, (k0_off423 v2004) a + S1x128.size a ≤ S10064x128.size a := fun v2004 k0_hw211 => k0_hw211

def k0_off424 (v2008 : BitVec 32) : Fin 2 → Nat :=
  let v2015 : Index := Scalar.indexCast v2008
  let c0_743 : Index := 0#32
  ![v2015.toNat, 0]

def k0_chk212 (v2008 : BitVec 32) : Prop :=
  (∀ a, (k0_off424 v2008) a + S1x128.size a ≤ S10064x128.size a)
theorem k0_off424_inb : ∀ (v2008 : BitVec 32) (k0_hw212 : k0_chk212 v2008), ∀ a, (k0_off424 v2008) a + S1x128.size a ≤ S10064x128.size a := fun v2008 k0_hw212 => k0_hw212

def k0_off425 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c212_i32 : BitVec 32 := 212#32
  let v2021 : BitVec 32 := Scalar.addi v5 c212_i32
  let v2022 : Index := Scalar.indexCast v2021
  ![v2022.toNat]
def k0_off426 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c212_i32_746 : BitVec 32 := 212#32
  let v2024 : BitVec 32 := Scalar.addi v5 c212_i32_746
  let c1_i32_747 : BitVec 32 := 1#32
  let v2025 : BitVec 32 := Scalar.addi v2024 c1_i32_747
  let v2026 : Index := Scalar.indexCast v2025
  ![v2026.toNat]
def k0_off427 (v2023 : BitVec 32) : Fin 2 → Nat :=
  let v2028 : Index := Scalar.indexCast v2023
  let c0_748 : Index := 0#32
  ![v2028.toNat, 0]

def k0_chk213 (v2023 : BitVec 32) : Prop :=
  (∀ a, (k0_off427 v2023) a + S1x128.size a ≤ S10064x128.size a)
theorem k0_off427_inb : ∀ (v2023 : BitVec 32) (k0_hw213 : k0_chk213 v2023), ∀ a, (k0_off427 v2023) a + S1x128.size a ≤ S10064x128.size a := fun v2023 k0_hw213 => k0_hw213

def k0_off428 (v2027 : BitVec 32) : Fin 2 → Nat :=
  let v2034 : Index := Scalar.indexCast v2027
  let c0_750 : Index := 0#32
  ![v2034.toNat, 0]

def k0_chk214 (v2027 : BitVec 32) : Prop :=
  (∀ a, (k0_off428 v2027) a + S1x128.size a ≤ S10064x128.size a)
theorem k0_off428_inb : ∀ (v2027 : BitVec 32) (k0_hw214 : k0_chk214 v2027), ∀ a, (k0_off428 v2027) a + S1x128.size a ≤ S10064x128.size a := fun v2027 k0_hw214 => k0_hw214

def k0_off429 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c214_i32 : BitVec 32 := 214#32
  let v2040 : BitVec 32 := Scalar.addi v5 c214_i32
  let v2041 : Index := Scalar.indexCast v2040
  ![v2041.toNat]
def k0_off430 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c214_i32_753 : BitVec 32 := 214#32
  let v2043 : BitVec 32 := Scalar.addi v5 c214_i32_753
  let c1_i32_754 : BitVec 32 := 1#32
  let v2044 : BitVec 32 := Scalar.addi v2043 c1_i32_754
  let v2045 : Index := Scalar.indexCast v2044
  ![v2045.toNat]
def k0_off431 (v2042 : BitVec 32) : Fin 2 → Nat :=
  let v2047 : Index := Scalar.indexCast v2042
  let c0_755 : Index := 0#32
  ![v2047.toNat, 0]

def k0_chk215 (v2042 : BitVec 32) : Prop :=
  (∀ a, (k0_off431 v2042) a + S1x128.size a ≤ S10064x128.size a)
theorem k0_off431_inb : ∀ (v2042 : BitVec 32) (k0_hw215 : k0_chk215 v2042), ∀ a, (k0_off431 v2042) a + S1x128.size a ≤ S10064x128.size a := fun v2042 k0_hw215 => k0_hw215

def k0_off432 (v2046 : BitVec 32) : Fin 2 → Nat :=
  let v2053 : Index := Scalar.indexCast v2046
  let c0_757 : Index := 0#32
  ![v2053.toNat, 0]

def k0_chk216 (v2046 : BitVec 32) : Prop :=
  (∀ a, (k0_off432 v2046) a + S1x128.size a ≤ S10064x128.size a)
theorem k0_off432_inb : ∀ (v2046 : BitVec 32) (k0_hw216 : k0_chk216 v2046), ∀ a, (k0_off432 v2046) a + S1x128.size a ≤ S10064x128.size a := fun v2046 k0_hw216 => k0_hw216

def k0_off433 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c216_i32 : BitVec 32 := 216#32
  let v2059 : BitVec 32 := Scalar.addi v5 c216_i32
  let v2060 : Index := Scalar.indexCast v2059
  ![v2060.toNat]
def k0_off434 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c216_i32_760 : BitVec 32 := 216#32
  let v2062 : BitVec 32 := Scalar.addi v5 c216_i32_760
  let c1_i32_761 : BitVec 32 := 1#32
  let v2063 : BitVec 32 := Scalar.addi v2062 c1_i32_761
  let v2064 : Index := Scalar.indexCast v2063
  ![v2064.toNat]
def k0_off435 (v2061 : BitVec 32) : Fin 2 → Nat :=
  let v2066 : Index := Scalar.indexCast v2061
  let c0_762 : Index := 0#32
  ![v2066.toNat, 0]

def k0_chk217 (v2061 : BitVec 32) : Prop :=
  (∀ a, (k0_off435 v2061) a + S1x128.size a ≤ S10064x128.size a)
theorem k0_off435_inb : ∀ (v2061 : BitVec 32) (k0_hw217 : k0_chk217 v2061), ∀ a, (k0_off435 v2061) a + S1x128.size a ≤ S10064x128.size a := fun v2061 k0_hw217 => k0_hw217

def k0_off436 (v2065 : BitVec 32) : Fin 2 → Nat :=
  let v2072 : Index := Scalar.indexCast v2065
  let c0_764 : Index := 0#32
  ![v2072.toNat, 0]

def k0_chk218 (v2065 : BitVec 32) : Prop :=
  (∀ a, (k0_off436 v2065) a + S1x128.size a ≤ S10064x128.size a)
theorem k0_off436_inb : ∀ (v2065 : BitVec 32) (k0_hw218 : k0_chk218 v2065), ∀ a, (k0_off436 v2065) a + S1x128.size a ≤ S10064x128.size a := fun v2065 k0_hw218 => k0_hw218

def k0_off437 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c218_i32 : BitVec 32 := 218#32
  let v2078 : BitVec 32 := Scalar.addi v5 c218_i32
  let v2079 : Index := Scalar.indexCast v2078
  ![v2079.toNat]
def k0_off438 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c218_i32_767 : BitVec 32 := 218#32
  let v2081 : BitVec 32 := Scalar.addi v5 c218_i32_767
  let c1_i32_768 : BitVec 32 := 1#32
  let v2082 : BitVec 32 := Scalar.addi v2081 c1_i32_768
  let v2083 : Index := Scalar.indexCast v2082
  ![v2083.toNat]
def k0_off439 (v2080 : BitVec 32) : Fin 2 → Nat :=
  let v2085 : Index := Scalar.indexCast v2080
  let c0_769 : Index := 0#32
  ![v2085.toNat, 0]

def k0_chk219 (v2080 : BitVec 32) : Prop :=
  (∀ a, (k0_off439 v2080) a + S1x128.size a ≤ S10064x128.size a)
theorem k0_off439_inb : ∀ (v2080 : BitVec 32) (k0_hw219 : k0_chk219 v2080), ∀ a, (k0_off439 v2080) a + S1x128.size a ≤ S10064x128.size a := fun v2080 k0_hw219 => k0_hw219

def k0_off440 (v2084 : BitVec 32) : Fin 2 → Nat :=
  let v2091 : Index := Scalar.indexCast v2084
  let c0_771 : Index := 0#32
  ![v2091.toNat, 0]

def k0_chk220 (v2084 : BitVec 32) : Prop :=
  (∀ a, (k0_off440 v2084) a + S1x128.size a ≤ S10064x128.size a)
theorem k0_off440_inb : ∀ (v2084 : BitVec 32) (k0_hw220 : k0_chk220 v2084), ∀ a, (k0_off440 v2084) a + S1x128.size a ≤ S10064x128.size a := fun v2084 k0_hw220 => k0_hw220

def k0_off441 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c220_i32 : BitVec 32 := 220#32
  let v2097 : BitVec 32 := Scalar.addi v5 c220_i32
  let v2098 : Index := Scalar.indexCast v2097
  ![v2098.toNat]
def k0_off442 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c220_i32_774 : BitVec 32 := 220#32
  let v2100 : BitVec 32 := Scalar.addi v5 c220_i32_774
  let c1_i32_775 : BitVec 32 := 1#32
  let v2101 : BitVec 32 := Scalar.addi v2100 c1_i32_775
  let v2102 : Index := Scalar.indexCast v2101
  ![v2102.toNat]
def k0_off443 (v2099 : BitVec 32) : Fin 2 → Nat :=
  let v2104 : Index := Scalar.indexCast v2099
  let c0_776 : Index := 0#32
  ![v2104.toNat, 0]

def k0_chk221 (v2099 : BitVec 32) : Prop :=
  (∀ a, (k0_off443 v2099) a + S1x128.size a ≤ S10064x128.size a)
theorem k0_off443_inb : ∀ (v2099 : BitVec 32) (k0_hw221 : k0_chk221 v2099), ∀ a, (k0_off443 v2099) a + S1x128.size a ≤ S10064x128.size a := fun v2099 k0_hw221 => k0_hw221

def k0_off444 (v2103 : BitVec 32) : Fin 2 → Nat :=
  let v2110 : Index := Scalar.indexCast v2103
  let c0_778 : Index := 0#32
  ![v2110.toNat, 0]

def k0_chk222 (v2103 : BitVec 32) : Prop :=
  (∀ a, (k0_off444 v2103) a + S1x128.size a ≤ S10064x128.size a)
theorem k0_off444_inb : ∀ (v2103 : BitVec 32) (k0_hw222 : k0_chk222 v2103), ∀ a, (k0_off444 v2103) a + S1x128.size a ≤ S10064x128.size a := fun v2103 k0_hw222 => k0_hw222

def k0_off445 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c222_i32 : BitVec 32 := 222#32
  let v2116 : BitVec 32 := Scalar.addi v5 c222_i32
  let v2117 : Index := Scalar.indexCast v2116
  ![v2117.toNat]
def k0_off446 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c222_i32_781 : BitVec 32 := 222#32
  let v2119 : BitVec 32 := Scalar.addi v5 c222_i32_781
  let c1_i32_782 : BitVec 32 := 1#32
  let v2120 : BitVec 32 := Scalar.addi v2119 c1_i32_782
  let v2121 : Index := Scalar.indexCast v2120
  ![v2121.toNat]
def k0_off447 (v2118 : BitVec 32) : Fin 2 → Nat :=
  let v2123 : Index := Scalar.indexCast v2118
  let c0_783 : Index := 0#32
  ![v2123.toNat, 0]

def k0_chk223 (v2118 : BitVec 32) : Prop :=
  (∀ a, (k0_off447 v2118) a + S1x128.size a ≤ S10064x128.size a)
theorem k0_off447_inb : ∀ (v2118 : BitVec 32) (k0_hw223 : k0_chk223 v2118), ∀ a, (k0_off447 v2118) a + S1x128.size a ≤ S10064x128.size a := fun v2118 k0_hw223 => k0_hw223

def k0_off448 (v2122 : BitVec 32) : Fin 2 → Nat :=
  let v2129 : Index := Scalar.indexCast v2122
  let c0_785 : Index := 0#32
  ![v2129.toNat, 0]

def k0_chk224 (v2122 : BitVec 32) : Prop :=
  (∀ a, (k0_off448 v2122) a + S1x128.size a ≤ S10064x128.size a)
theorem k0_off448_inb : ∀ (v2122 : BitVec 32) (k0_hw224 : k0_chk224 v2122), ∀ a, (k0_off448 v2122) a + S1x128.size a ≤ S10064x128.size a := fun v2122 k0_hw224 => k0_hw224

def k0_off449 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c224_i32 : BitVec 32 := 224#32
  let v2135 : BitVec 32 := Scalar.addi v5 c224_i32
  let v2136 : Index := Scalar.indexCast v2135
  ![v2136.toNat]
def k0_off450 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c224_i32_788 : BitVec 32 := 224#32
  let v2138 : BitVec 32 := Scalar.addi v5 c224_i32_788
  let c1_i32_789 : BitVec 32 := 1#32
  let v2139 : BitVec 32 := Scalar.addi v2138 c1_i32_789
  let v2140 : Index := Scalar.indexCast v2139
  ![v2140.toNat]
def k0_off451 (v2137 : BitVec 32) : Fin 2 → Nat :=
  let v2142 : Index := Scalar.indexCast v2137
  let c0_790 : Index := 0#32
  ![v2142.toNat, 0]

def k0_chk225 (v2137 : BitVec 32) : Prop :=
  (∀ a, (k0_off451 v2137) a + S1x128.size a ≤ S10064x128.size a)
theorem k0_off451_inb : ∀ (v2137 : BitVec 32) (k0_hw225 : k0_chk225 v2137), ∀ a, (k0_off451 v2137) a + S1x128.size a ≤ S10064x128.size a := fun v2137 k0_hw225 => k0_hw225

def k0_off452 (v2141 : BitVec 32) : Fin 2 → Nat :=
  let v2148 : Index := Scalar.indexCast v2141
  let c0_792 : Index := 0#32
  ![v2148.toNat, 0]

def k0_chk226 (v2141 : BitVec 32) : Prop :=
  (∀ a, (k0_off452 v2141) a + S1x128.size a ≤ S10064x128.size a)
theorem k0_off452_inb : ∀ (v2141 : BitVec 32) (k0_hw226 : k0_chk226 v2141), ∀ a, (k0_off452 v2141) a + S1x128.size a ≤ S10064x128.size a := fun v2141 k0_hw226 => k0_hw226

def k0_off453 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c226_i32 : BitVec 32 := 226#32
  let v2154 : BitVec 32 := Scalar.addi v5 c226_i32
  let v2155 : Index := Scalar.indexCast v2154
  ![v2155.toNat]
def k0_off454 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c226_i32_795 : BitVec 32 := 226#32
  let v2157 : BitVec 32 := Scalar.addi v5 c226_i32_795
  let c1_i32_796 : BitVec 32 := 1#32
  let v2158 : BitVec 32 := Scalar.addi v2157 c1_i32_796
  let v2159 : Index := Scalar.indexCast v2158
  ![v2159.toNat]
def k0_off455 (v2156 : BitVec 32) : Fin 2 → Nat :=
  let v2161 : Index := Scalar.indexCast v2156
  let c0_797 : Index := 0#32
  ![v2161.toNat, 0]

def k0_chk227 (v2156 : BitVec 32) : Prop :=
  (∀ a, (k0_off455 v2156) a + S1x128.size a ≤ S10064x128.size a)
theorem k0_off455_inb : ∀ (v2156 : BitVec 32) (k0_hw227 : k0_chk227 v2156), ∀ a, (k0_off455 v2156) a + S1x128.size a ≤ S10064x128.size a := fun v2156 k0_hw227 => k0_hw227

def k0_off456 (v2160 : BitVec 32) : Fin 2 → Nat :=
  let v2167 : Index := Scalar.indexCast v2160
  let c0_799 : Index := 0#32
  ![v2167.toNat, 0]

def k0_chk228 (v2160 : BitVec 32) : Prop :=
  (∀ a, (k0_off456 v2160) a + S1x128.size a ≤ S10064x128.size a)
theorem k0_off456_inb : ∀ (v2160 : BitVec 32) (k0_hw228 : k0_chk228 v2160), ∀ a, (k0_off456 v2160) a + S1x128.size a ≤ S10064x128.size a := fun v2160 k0_hw228 => k0_hw228

def k0_off457 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c228_i32 : BitVec 32 := 228#32
  let v2173 : BitVec 32 := Scalar.addi v5 c228_i32
  let v2174 : Index := Scalar.indexCast v2173
  ![v2174.toNat]
def k0_off458 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c228_i32_802 : BitVec 32 := 228#32
  let v2176 : BitVec 32 := Scalar.addi v5 c228_i32_802
  let c1_i32_803 : BitVec 32 := 1#32
  let v2177 : BitVec 32 := Scalar.addi v2176 c1_i32_803
  let v2178 : Index := Scalar.indexCast v2177
  ![v2178.toNat]
def k0_off459 (v2175 : BitVec 32) : Fin 2 → Nat :=
  let v2180 : Index := Scalar.indexCast v2175
  let c0_804 : Index := 0#32
  ![v2180.toNat, 0]

def k0_chk229 (v2175 : BitVec 32) : Prop :=
  (∀ a, (k0_off459 v2175) a + S1x128.size a ≤ S10064x128.size a)
theorem k0_off459_inb : ∀ (v2175 : BitVec 32) (k0_hw229 : k0_chk229 v2175), ∀ a, (k0_off459 v2175) a + S1x128.size a ≤ S10064x128.size a := fun v2175 k0_hw229 => k0_hw229

def k0_off460 (v2179 : BitVec 32) : Fin 2 → Nat :=
  let v2186 : Index := Scalar.indexCast v2179
  let c0_806 : Index := 0#32
  ![v2186.toNat, 0]

def k0_chk230 (v2179 : BitVec 32) : Prop :=
  (∀ a, (k0_off460 v2179) a + S1x128.size a ≤ S10064x128.size a)
theorem k0_off460_inb : ∀ (v2179 : BitVec 32) (k0_hw230 : k0_chk230 v2179), ∀ a, (k0_off460 v2179) a + S1x128.size a ≤ S10064x128.size a := fun v2179 k0_hw230 => k0_hw230

def k0_off461 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c230_i32 : BitVec 32 := 230#32
  let v2192 : BitVec 32 := Scalar.addi v5 c230_i32
  let v2193 : Index := Scalar.indexCast v2192
  ![v2193.toNat]
def k0_off462 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c230_i32_809 : BitVec 32 := 230#32
  let v2195 : BitVec 32 := Scalar.addi v5 c230_i32_809
  let c1_i32_810 : BitVec 32 := 1#32
  let v2196 : BitVec 32 := Scalar.addi v2195 c1_i32_810
  let v2197 : Index := Scalar.indexCast v2196
  ![v2197.toNat]
def k0_off463 (v2194 : BitVec 32) : Fin 2 → Nat :=
  let v2199 : Index := Scalar.indexCast v2194
  let c0_811 : Index := 0#32
  ![v2199.toNat, 0]

def k0_chk231 (v2194 : BitVec 32) : Prop :=
  (∀ a, (k0_off463 v2194) a + S1x128.size a ≤ S10064x128.size a)
theorem k0_off463_inb : ∀ (v2194 : BitVec 32) (k0_hw231 : k0_chk231 v2194), ∀ a, (k0_off463 v2194) a + S1x128.size a ≤ S10064x128.size a := fun v2194 k0_hw231 => k0_hw231

def k0_off464 (v2198 : BitVec 32) : Fin 2 → Nat :=
  let v2205 : Index := Scalar.indexCast v2198
  let c0_813 : Index := 0#32
  ![v2205.toNat, 0]

def k0_chk232 (v2198 : BitVec 32) : Prop :=
  (∀ a, (k0_off464 v2198) a + S1x128.size a ≤ S10064x128.size a)
theorem k0_off464_inb : ∀ (v2198 : BitVec 32) (k0_hw232 : k0_chk232 v2198), ∀ a, (k0_off464 v2198) a + S1x128.size a ≤ S10064x128.size a := fun v2198 k0_hw232 => k0_hw232

def k0_off465 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c232_i32 : BitVec 32 := 232#32
  let v2211 : BitVec 32 := Scalar.addi v5 c232_i32
  let v2212 : Index := Scalar.indexCast v2211
  ![v2212.toNat]
def k0_off466 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c232_i32_816 : BitVec 32 := 232#32
  let v2214 : BitVec 32 := Scalar.addi v5 c232_i32_816
  let c1_i32_817 : BitVec 32 := 1#32
  let v2215 : BitVec 32 := Scalar.addi v2214 c1_i32_817
  let v2216 : Index := Scalar.indexCast v2215
  ![v2216.toNat]
def k0_off467 (v2213 : BitVec 32) : Fin 2 → Nat :=
  let v2218 : Index := Scalar.indexCast v2213
  let c0_818 : Index := 0#32
  ![v2218.toNat, 0]

def k0_chk233 (v2213 : BitVec 32) : Prop :=
  (∀ a, (k0_off467 v2213) a + S1x128.size a ≤ S10064x128.size a)
theorem k0_off467_inb : ∀ (v2213 : BitVec 32) (k0_hw233 : k0_chk233 v2213), ∀ a, (k0_off467 v2213) a + S1x128.size a ≤ S10064x128.size a := fun v2213 k0_hw233 => k0_hw233

def k0_off468 (v2217 : BitVec 32) : Fin 2 → Nat :=
  let v2224 : Index := Scalar.indexCast v2217
  let c0_820 : Index := 0#32
  ![v2224.toNat, 0]

def k0_chk234 (v2217 : BitVec 32) : Prop :=
  (∀ a, (k0_off468 v2217) a + S1x128.size a ≤ S10064x128.size a)
theorem k0_off468_inb : ∀ (v2217 : BitVec 32) (k0_hw234 : k0_chk234 v2217), ∀ a, (k0_off468 v2217) a + S1x128.size a ≤ S10064x128.size a := fun v2217 k0_hw234 => k0_hw234

def k0_off469 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c234_i32 : BitVec 32 := 234#32
  let v2230 : BitVec 32 := Scalar.addi v5 c234_i32
  let v2231 : Index := Scalar.indexCast v2230
  ![v2231.toNat]
def k0_off470 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c234_i32_823 : BitVec 32 := 234#32
  let v2233 : BitVec 32 := Scalar.addi v5 c234_i32_823
  let c1_i32_824 : BitVec 32 := 1#32
  let v2234 : BitVec 32 := Scalar.addi v2233 c1_i32_824
  let v2235 : Index := Scalar.indexCast v2234
  ![v2235.toNat]
def k0_off471 (v2232 : BitVec 32) : Fin 2 → Nat :=
  let v2237 : Index := Scalar.indexCast v2232
  let c0_825 : Index := 0#32
  ![v2237.toNat, 0]

def k0_chk235 (v2232 : BitVec 32) : Prop :=
  (∀ a, (k0_off471 v2232) a + S1x128.size a ≤ S10064x128.size a)
theorem k0_off471_inb : ∀ (v2232 : BitVec 32) (k0_hw235 : k0_chk235 v2232), ∀ a, (k0_off471 v2232) a + S1x128.size a ≤ S10064x128.size a := fun v2232 k0_hw235 => k0_hw235

def k0_off472 (v2236 : BitVec 32) : Fin 2 → Nat :=
  let v2243 : Index := Scalar.indexCast v2236
  let c0_827 : Index := 0#32
  ![v2243.toNat, 0]

def k0_chk236 (v2236 : BitVec 32) : Prop :=
  (∀ a, (k0_off472 v2236) a + S1x128.size a ≤ S10064x128.size a)
theorem k0_off472_inb : ∀ (v2236 : BitVec 32) (k0_hw236 : k0_chk236 v2236), ∀ a, (k0_off472 v2236) a + S1x128.size a ≤ S10064x128.size a := fun v2236 k0_hw236 => k0_hw236

def k0_off473 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c236_i32 : BitVec 32 := 236#32
  let v2249 : BitVec 32 := Scalar.addi v5 c236_i32
  let v2250 : Index := Scalar.indexCast v2249
  ![v2250.toNat]
def k0_off474 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c236_i32_830 : BitVec 32 := 236#32
  let v2252 : BitVec 32 := Scalar.addi v5 c236_i32_830
  let c1_i32_831 : BitVec 32 := 1#32
  let v2253 : BitVec 32 := Scalar.addi v2252 c1_i32_831
  let v2254 : Index := Scalar.indexCast v2253
  ![v2254.toNat]
def k0_off475 (v2251 : BitVec 32) : Fin 2 → Nat :=
  let v2256 : Index := Scalar.indexCast v2251
  let c0_832 : Index := 0#32
  ![v2256.toNat, 0]

def k0_chk237 (v2251 : BitVec 32) : Prop :=
  (∀ a, (k0_off475 v2251) a + S1x128.size a ≤ S10064x128.size a)
theorem k0_off475_inb : ∀ (v2251 : BitVec 32) (k0_hw237 : k0_chk237 v2251), ∀ a, (k0_off475 v2251) a + S1x128.size a ≤ S10064x128.size a := fun v2251 k0_hw237 => k0_hw237

def k0_off476 (v2255 : BitVec 32) : Fin 2 → Nat :=
  let v2262 : Index := Scalar.indexCast v2255
  let c0_834 : Index := 0#32
  ![v2262.toNat, 0]

def k0_chk238 (v2255 : BitVec 32) : Prop :=
  (∀ a, (k0_off476 v2255) a + S1x128.size a ≤ S10064x128.size a)
theorem k0_off476_inb : ∀ (v2255 : BitVec 32) (k0_hw238 : k0_chk238 v2255), ∀ a, (k0_off476 v2255) a + S1x128.size a ≤ S10064x128.size a := fun v2255 k0_hw238 => k0_hw238

def k0_off477 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c238_i32 : BitVec 32 := 238#32
  let v2268 : BitVec 32 := Scalar.addi v5 c238_i32
  let v2269 : Index := Scalar.indexCast v2268
  ![v2269.toNat]
def k0_off478 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c238_i32_837 : BitVec 32 := 238#32
  let v2271 : BitVec 32 := Scalar.addi v5 c238_i32_837
  let c1_i32_838 : BitVec 32 := 1#32
  let v2272 : BitVec 32 := Scalar.addi v2271 c1_i32_838
  let v2273 : Index := Scalar.indexCast v2272
  ![v2273.toNat]
def k0_off479 (v2270 : BitVec 32) : Fin 2 → Nat :=
  let v2275 : Index := Scalar.indexCast v2270
  let c0_839 : Index := 0#32
  ![v2275.toNat, 0]

def k0_chk239 (v2270 : BitVec 32) : Prop :=
  (∀ a, (k0_off479 v2270) a + S1x128.size a ≤ S10064x128.size a)
theorem k0_off479_inb : ∀ (v2270 : BitVec 32) (k0_hw239 : k0_chk239 v2270), ∀ a, (k0_off479 v2270) a + S1x128.size a ≤ S10064x128.size a := fun v2270 k0_hw239 => k0_hw239

def k0_off480 (v2274 : BitVec 32) : Fin 2 → Nat :=
  let v2281 : Index := Scalar.indexCast v2274
  let c0_841 : Index := 0#32
  ![v2281.toNat, 0]

def k0_chk240 (v2274 : BitVec 32) : Prop :=
  (∀ a, (k0_off480 v2274) a + S1x128.size a ≤ S10064x128.size a)
theorem k0_off480_inb : ∀ (v2274 : BitVec 32) (k0_hw240 : k0_chk240 v2274), ∀ a, (k0_off480 v2274) a + S1x128.size a ≤ S10064x128.size a := fun v2274 k0_hw240 => k0_hw240

def k0_off481 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c240_i32 : BitVec 32 := 240#32
  let v2287 : BitVec 32 := Scalar.addi v5 c240_i32
  let v2288 : Index := Scalar.indexCast v2287
  ![v2288.toNat]
def k0_off482 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c240_i32_844 : BitVec 32 := 240#32
  let v2290 : BitVec 32 := Scalar.addi v5 c240_i32_844
  let c1_i32_845 : BitVec 32 := 1#32
  let v2291 : BitVec 32 := Scalar.addi v2290 c1_i32_845
  let v2292 : Index := Scalar.indexCast v2291
  ![v2292.toNat]
def k0_off483 (v2289 : BitVec 32) : Fin 2 → Nat :=
  let v2294 : Index := Scalar.indexCast v2289
  let c0_846 : Index := 0#32
  ![v2294.toNat, 0]

def k0_chk241 (v2289 : BitVec 32) : Prop :=
  (∀ a, (k0_off483 v2289) a + S1x128.size a ≤ S10064x128.size a)
theorem k0_off483_inb : ∀ (v2289 : BitVec 32) (k0_hw241 : k0_chk241 v2289), ∀ a, (k0_off483 v2289) a + S1x128.size a ≤ S10064x128.size a := fun v2289 k0_hw241 => k0_hw241

def k0_off484 (v2293 : BitVec 32) : Fin 2 → Nat :=
  let v2300 : Index := Scalar.indexCast v2293
  let c0_848 : Index := 0#32
  ![v2300.toNat, 0]

def k0_chk242 (v2293 : BitVec 32) : Prop :=
  (∀ a, (k0_off484 v2293) a + S1x128.size a ≤ S10064x128.size a)
theorem k0_off484_inb : ∀ (v2293 : BitVec 32) (k0_hw242 : k0_chk242 v2293), ∀ a, (k0_off484 v2293) a + S1x128.size a ≤ S10064x128.size a := fun v2293 k0_hw242 => k0_hw242

def k0_off485 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c242_i32 : BitVec 32 := 242#32
  let v2306 : BitVec 32 := Scalar.addi v5 c242_i32
  let v2307 : Index := Scalar.indexCast v2306
  ![v2307.toNat]
def k0_off486 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c242_i32_851 : BitVec 32 := 242#32
  let v2309 : BitVec 32 := Scalar.addi v5 c242_i32_851
  let c1_i32_852 : BitVec 32 := 1#32
  let v2310 : BitVec 32 := Scalar.addi v2309 c1_i32_852
  let v2311 : Index := Scalar.indexCast v2310
  ![v2311.toNat]
def k0_off487 (v2308 : BitVec 32) : Fin 2 → Nat :=
  let v2313 : Index := Scalar.indexCast v2308
  let c0_853 : Index := 0#32
  ![v2313.toNat, 0]

def k0_chk243 (v2308 : BitVec 32) : Prop :=
  (∀ a, (k0_off487 v2308) a + S1x128.size a ≤ S10064x128.size a)
theorem k0_off487_inb : ∀ (v2308 : BitVec 32) (k0_hw243 : k0_chk243 v2308), ∀ a, (k0_off487 v2308) a + S1x128.size a ≤ S10064x128.size a := fun v2308 k0_hw243 => k0_hw243

def k0_off488 (v2312 : BitVec 32) : Fin 2 → Nat :=
  let v2319 : Index := Scalar.indexCast v2312
  let c0_855 : Index := 0#32
  ![v2319.toNat, 0]

def k0_chk244 (v2312 : BitVec 32) : Prop :=
  (∀ a, (k0_off488 v2312) a + S1x128.size a ≤ S10064x128.size a)
theorem k0_off488_inb : ∀ (v2312 : BitVec 32) (k0_hw244 : k0_chk244 v2312), ∀ a, (k0_off488 v2312) a + S1x128.size a ≤ S10064x128.size a := fun v2312 k0_hw244 => k0_hw244

def k0_off489 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c244_i32 : BitVec 32 := 244#32
  let v2325 : BitVec 32 := Scalar.addi v5 c244_i32
  let v2326 : Index := Scalar.indexCast v2325
  ![v2326.toNat]
def k0_off490 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c244_i32_858 : BitVec 32 := 244#32
  let v2328 : BitVec 32 := Scalar.addi v5 c244_i32_858
  let c1_i32_859 : BitVec 32 := 1#32
  let v2329 : BitVec 32 := Scalar.addi v2328 c1_i32_859
  let v2330 : Index := Scalar.indexCast v2329
  ![v2330.toNat]
def k0_off491 (v2327 : BitVec 32) : Fin 2 → Nat :=
  let v2332 : Index := Scalar.indexCast v2327
  let c0_860 : Index := 0#32
  ![v2332.toNat, 0]

def k0_chk245 (v2327 : BitVec 32) : Prop :=
  (∀ a, (k0_off491 v2327) a + S1x128.size a ≤ S10064x128.size a)
theorem k0_off491_inb : ∀ (v2327 : BitVec 32) (k0_hw245 : k0_chk245 v2327), ∀ a, (k0_off491 v2327) a + S1x128.size a ≤ S10064x128.size a := fun v2327 k0_hw245 => k0_hw245

def k0_off492 (v2331 : BitVec 32) : Fin 2 → Nat :=
  let v2338 : Index := Scalar.indexCast v2331
  let c0_862 : Index := 0#32
  ![v2338.toNat, 0]

def k0_chk246 (v2331 : BitVec 32) : Prop :=
  (∀ a, (k0_off492 v2331) a + S1x128.size a ≤ S10064x128.size a)
theorem k0_off492_inb : ∀ (v2331 : BitVec 32) (k0_hw246 : k0_chk246 v2331), ∀ a, (k0_off492 v2331) a + S1x128.size a ≤ S10064x128.size a := fun v2331 k0_hw246 => k0_hw246

def k0_off493 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c246_i32 : BitVec 32 := 246#32
  let v2344 : BitVec 32 := Scalar.addi v5 c246_i32
  let v2345 : Index := Scalar.indexCast v2344
  ![v2345.toNat]
def k0_off494 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c246_i32_865 : BitVec 32 := 246#32
  let v2347 : BitVec 32 := Scalar.addi v5 c246_i32_865
  let c1_i32_866 : BitVec 32 := 1#32
  let v2348 : BitVec 32 := Scalar.addi v2347 c1_i32_866
  let v2349 : Index := Scalar.indexCast v2348
  ![v2349.toNat]
def k0_off495 (v2346 : BitVec 32) : Fin 2 → Nat :=
  let v2351 : Index := Scalar.indexCast v2346
  let c0_867 : Index := 0#32
  ![v2351.toNat, 0]

def k0_chk247 (v2346 : BitVec 32) : Prop :=
  (∀ a, (k0_off495 v2346) a + S1x128.size a ≤ S10064x128.size a)
theorem k0_off495_inb : ∀ (v2346 : BitVec 32) (k0_hw247 : k0_chk247 v2346), ∀ a, (k0_off495 v2346) a + S1x128.size a ≤ S10064x128.size a := fun v2346 k0_hw247 => k0_hw247

def k0_off496 (v2350 : BitVec 32) : Fin 2 → Nat :=
  let v2357 : Index := Scalar.indexCast v2350
  let c0_869 : Index := 0#32
  ![v2357.toNat, 0]

def k0_chk248 (v2350 : BitVec 32) : Prop :=
  (∀ a, (k0_off496 v2350) a + S1x128.size a ≤ S10064x128.size a)
theorem k0_off496_inb : ∀ (v2350 : BitVec 32) (k0_hw248 : k0_chk248 v2350), ∀ a, (k0_off496 v2350) a + S1x128.size a ≤ S10064x128.size a := fun v2350 k0_hw248 => k0_hw248

def k0_off497 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c248_i32 : BitVec 32 := 248#32
  let v2363 : BitVec 32 := Scalar.addi v5 c248_i32
  let v2364 : Index := Scalar.indexCast v2363
  ![v2364.toNat]
def k0_off498 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c248_i32_872 : BitVec 32 := 248#32
  let v2366 : BitVec 32 := Scalar.addi v5 c248_i32_872
  let c1_i32_873 : BitVec 32 := 1#32
  let v2367 : BitVec 32 := Scalar.addi v2366 c1_i32_873
  let v2368 : Index := Scalar.indexCast v2367
  ![v2368.toNat]
def k0_off499 (v2365 : BitVec 32) : Fin 2 → Nat :=
  let v2370 : Index := Scalar.indexCast v2365
  let c0_874 : Index := 0#32
  ![v2370.toNat, 0]

def k0_chk249 (v2365 : BitVec 32) : Prop :=
  (∀ a, (k0_off499 v2365) a + S1x128.size a ≤ S10064x128.size a)
theorem k0_off499_inb : ∀ (v2365 : BitVec 32) (k0_hw249 : k0_chk249 v2365), ∀ a, (k0_off499 v2365) a + S1x128.size a ≤ S10064x128.size a := fun v2365 k0_hw249 => k0_hw249

def k0_off500 (v2369 : BitVec 32) : Fin 2 → Nat :=
  let v2376 : Index := Scalar.indexCast v2369
  let c0_876 : Index := 0#32
  ![v2376.toNat, 0]

def k0_chk250 (v2369 : BitVec 32) : Prop :=
  (∀ a, (k0_off500 v2369) a + S1x128.size a ≤ S10064x128.size a)
theorem k0_off500_inb : ∀ (v2369 : BitVec 32) (k0_hw250 : k0_chk250 v2369), ∀ a, (k0_off500 v2369) a + S1x128.size a ≤ S10064x128.size a := fun v2369 k0_hw250 => k0_hw250

def k0_off501 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c250_i32 : BitVec 32 := 250#32
  let v2382 : BitVec 32 := Scalar.addi v5 c250_i32
  let v2383 : Index := Scalar.indexCast v2382
  ![v2383.toNat]
def k0_off502 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c250_i32_879 : BitVec 32 := 250#32
  let v2385 : BitVec 32 := Scalar.addi v5 c250_i32_879
  let c1_i32_880 : BitVec 32 := 1#32
  let v2386 : BitVec 32 := Scalar.addi v2385 c1_i32_880
  let v2387 : Index := Scalar.indexCast v2386
  ![v2387.toNat]
def k0_off503 (v2384 : BitVec 32) : Fin 2 → Nat :=
  let v2389 : Index := Scalar.indexCast v2384
  let c0_881 : Index := 0#32
  ![v2389.toNat, 0]

def k0_chk251 (v2384 : BitVec 32) : Prop :=
  (∀ a, (k0_off503 v2384) a + S1x128.size a ≤ S10064x128.size a)
theorem k0_off503_inb : ∀ (v2384 : BitVec 32) (k0_hw251 : k0_chk251 v2384), ∀ a, (k0_off503 v2384) a + S1x128.size a ≤ S10064x128.size a := fun v2384 k0_hw251 => k0_hw251

def k0_off504 (v2388 : BitVec 32) : Fin 2 → Nat :=
  let v2395 : Index := Scalar.indexCast v2388
  let c0_883 : Index := 0#32
  ![v2395.toNat, 0]

def k0_chk252 (v2388 : BitVec 32) : Prop :=
  (∀ a, (k0_off504 v2388) a + S1x128.size a ≤ S10064x128.size a)
theorem k0_off504_inb : ∀ (v2388 : BitVec 32) (k0_hw252 : k0_chk252 v2388), ∀ a, (k0_off504 v2388) a + S1x128.size a ≤ S10064x128.size a := fun v2388 k0_hw252 => k0_hw252

def k0_off505 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c252_i32 : BitVec 32 := 252#32
  let v2401 : BitVec 32 := Scalar.addi v5 c252_i32
  let v2402 : Index := Scalar.indexCast v2401
  ![v2402.toNat]
def k0_off506 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c252_i32_886 : BitVec 32 := 252#32
  let v2404 : BitVec 32 := Scalar.addi v5 c252_i32_886
  let c1_i32_887 : BitVec 32 := 1#32
  let v2405 : BitVec 32 := Scalar.addi v2404 c1_i32_887
  let v2406 : Index := Scalar.indexCast v2405
  ![v2406.toNat]
def k0_off507 (v2403 : BitVec 32) : Fin 2 → Nat :=
  let v2408 : Index := Scalar.indexCast v2403
  let c0_888 : Index := 0#32
  ![v2408.toNat, 0]

def k0_chk253 (v2403 : BitVec 32) : Prop :=
  (∀ a, (k0_off507 v2403) a + S1x128.size a ≤ S10064x128.size a)
theorem k0_off507_inb : ∀ (v2403 : BitVec 32) (k0_hw253 : k0_chk253 v2403), ∀ a, (k0_off507 v2403) a + S1x128.size a ≤ S10064x128.size a := fun v2403 k0_hw253 => k0_hw253

def k0_off508 (v2407 : BitVec 32) : Fin 2 → Nat :=
  let v2414 : Index := Scalar.indexCast v2407
  let c0_890 : Index := 0#32
  ![v2414.toNat, 0]

def k0_chk254 (v2407 : BitVec 32) : Prop :=
  (∀ a, (k0_off508 v2407) a + S1x128.size a ≤ S10064x128.size a)
theorem k0_off508_inb : ∀ (v2407 : BitVec 32) (k0_hw254 : k0_chk254 v2407), ∀ a, (k0_off508 v2407) a + S1x128.size a ≤ S10064x128.size a := fun v2407 k0_hw254 => k0_hw254

def k0_off509 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c254_i32 : BitVec 32 := 254#32
  let v2420 : BitVec 32 := Scalar.addi v5 c254_i32
  let v2421 : Index := Scalar.indexCast v2420
  ![v2421.toNat]
def k0_off510 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c254_i32_893 : BitVec 32 := 254#32
  let v2423 : BitVec 32 := Scalar.addi v5 c254_i32_893
  let c1_i32_894 : BitVec 32 := 1#32
  let v2424 : BitVec 32 := Scalar.addi v2423 c1_i32_894
  let v2425 : Index := Scalar.indexCast v2424
  ![v2425.toNat]
def k0_off511 (v2422 : BitVec 32) : Fin 2 → Nat :=
  let v2427 : Index := Scalar.indexCast v2422
  let c0_895 : Index := 0#32
  ![v2427.toNat, 0]

def k0_chk255 (v2422 : BitVec 32) : Prop :=
  (∀ a, (k0_off511 v2422) a + S1x128.size a ≤ S10064x128.size a)
theorem k0_off511_inb : ∀ (v2422 : BitVec 32) (k0_hw255 : k0_chk255 v2422), ∀ a, (k0_off511 v2422) a + S1x128.size a ≤ S10064x128.size a := fun v2422 k0_hw255 => k0_hw255

def k0_off512 (v2426 : BitVec 32) : Fin 2 → Nat :=
  let v2433 : Index := Scalar.indexCast v2426
  let c0_897 : Index := 0#32
  ![v2433.toNat, 0]

def k0_chk256 (v2426 : BitVec 32) : Prop :=
  (∀ a, (k0_off512 v2426) a + S1x128.size a ≤ S10064x128.size a)
theorem k0_off512_inb : ∀ (v2426 : BitVec 32) (k0_hw256 : k0_chk256 v2426), ∀ a, (k0_off512 v2426) a + S1x128.size a ≤ S10064x128.size a := fun v2426 k0_hw256 => k0_hw256

def k0_off513 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c256_i32 : BitVec 32 := 256#32
  let v2439 : BitVec 32 := Scalar.addi v5 c256_i32
  let v2440 : Index := Scalar.indexCast v2439
  ![v2440.toNat]
def k0_off514 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c256_i32_900 : BitVec 32 := 256#32
  let v2442 : BitVec 32 := Scalar.addi v5 c256_i32_900
  let c1_i32_901 : BitVec 32 := 1#32
  let v2443 : BitVec 32 := Scalar.addi v2442 c1_i32_901
  let v2444 : Index := Scalar.indexCast v2443
  ![v2444.toNat]
def k0_off515 (v2441 : BitVec 32) : Fin 2 → Nat :=
  let v2446 : Index := Scalar.indexCast v2441
  let c0_902 : Index := 0#32
  ![v2446.toNat, 0]

def k0_chk257 (v2441 : BitVec 32) : Prop :=
  (∀ a, (k0_off515 v2441) a + S1x128.size a ≤ S10064x128.size a)
theorem k0_off515_inb : ∀ (v2441 : BitVec 32) (k0_hw257 : k0_chk257 v2441), ∀ a, (k0_off515 v2441) a + S1x128.size a ≤ S10064x128.size a := fun v2441 k0_hw257 => k0_hw257

def k0_off516 (v2445 : BitVec 32) : Fin 2 → Nat :=
  let v2452 : Index := Scalar.indexCast v2445
  let c0_904 : Index := 0#32
  ![v2452.toNat, 0]

def k0_chk258 (v2445 : BitVec 32) : Prop :=
  (∀ a, (k0_off516 v2445) a + S1x128.size a ≤ S10064x128.size a)
theorem k0_off516_inb : ∀ (v2445 : BitVec 32) (k0_hw258 : k0_chk258 v2445), ∀ a, (k0_off516 v2445) a + S1x128.size a ≤ S10064x128.size a := fun v2445 k0_hw258 => k0_hw258

def k0_off517 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c258_i32 : BitVec 32 := 258#32
  let v2458 : BitVec 32 := Scalar.addi v5 c258_i32
  let v2459 : Index := Scalar.indexCast v2458
  ![v2459.toNat]
def k0_off518 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c258_i32_907 : BitVec 32 := 258#32
  let v2461 : BitVec 32 := Scalar.addi v5 c258_i32_907
  let c1_i32_908 : BitVec 32 := 1#32
  let v2462 : BitVec 32 := Scalar.addi v2461 c1_i32_908
  let v2463 : Index := Scalar.indexCast v2462
  ![v2463.toNat]
def k0_off519 (v2460 : BitVec 32) : Fin 2 → Nat :=
  let v2465 : Index := Scalar.indexCast v2460
  let c0_909 : Index := 0#32
  ![v2465.toNat, 0]

def k0_chk259 (v2460 : BitVec 32) : Prop :=
  (∀ a, (k0_off519 v2460) a + S1x128.size a ≤ S10064x128.size a)
theorem k0_off519_inb : ∀ (v2460 : BitVec 32) (k0_hw259 : k0_chk259 v2460), ∀ a, (k0_off519 v2460) a + S1x128.size a ≤ S10064x128.size a := fun v2460 k0_hw259 => k0_hw259

def k0_off520 (v2464 : BitVec 32) : Fin 2 → Nat :=
  let v2471 : Index := Scalar.indexCast v2464
  let c0_911 : Index := 0#32
  ![v2471.toNat, 0]

def k0_chk260 (v2464 : BitVec 32) : Prop :=
  (∀ a, (k0_off520 v2464) a + S1x128.size a ≤ S10064x128.size a)
theorem k0_off520_inb : ∀ (v2464 : BitVec 32) (k0_hw260 : k0_chk260 v2464), ∀ a, (k0_off520 v2464) a + S1x128.size a ≤ S10064x128.size a := fun v2464 k0_hw260 => k0_hw260

def k0_off521 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c260_i32 : BitVec 32 := 260#32
  let v2477 : BitVec 32 := Scalar.addi v5 c260_i32
  let v2478 : Index := Scalar.indexCast v2477
  ![v2478.toNat]
def k0_off522 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c260_i32_914 : BitVec 32 := 260#32
  let v2480 : BitVec 32 := Scalar.addi v5 c260_i32_914
  let c1_i32_915 : BitVec 32 := 1#32
  let v2481 : BitVec 32 := Scalar.addi v2480 c1_i32_915
  let v2482 : Index := Scalar.indexCast v2481
  ![v2482.toNat]
def k0_off523 (v2479 : BitVec 32) : Fin 2 → Nat :=
  let v2484 : Index := Scalar.indexCast v2479
  let c0_916 : Index := 0#32
  ![v2484.toNat, 0]

def k0_chk261 (v2479 : BitVec 32) : Prop :=
  (∀ a, (k0_off523 v2479) a + S1x128.size a ≤ S10064x128.size a)
theorem k0_off523_inb : ∀ (v2479 : BitVec 32) (k0_hw261 : k0_chk261 v2479), ∀ a, (k0_off523 v2479) a + S1x128.size a ≤ S10064x128.size a := fun v2479 k0_hw261 => k0_hw261

def k0_off524 (v2483 : BitVec 32) : Fin 2 → Nat :=
  let v2490 : Index := Scalar.indexCast v2483
  let c0_918 : Index := 0#32
  ![v2490.toNat, 0]

def k0_chk262 (v2483 : BitVec 32) : Prop :=
  (∀ a, (k0_off524 v2483) a + S1x128.size a ≤ S10064x128.size a)
theorem k0_off524_inb : ∀ (v2483 : BitVec 32) (k0_hw262 : k0_chk262 v2483), ∀ a, (k0_off524 v2483) a + S1x128.size a ≤ S10064x128.size a := fun v2483 k0_hw262 => k0_hw262

def k0_off525 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c262_i32 : BitVec 32 := 262#32
  let v2496 : BitVec 32 := Scalar.addi v5 c262_i32
  let v2497 : Index := Scalar.indexCast v2496
  ![v2497.toNat]
def k0_off526 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c262_i32_921 : BitVec 32 := 262#32
  let v2499 : BitVec 32 := Scalar.addi v5 c262_i32_921
  let c1_i32_922 : BitVec 32 := 1#32
  let v2500 : BitVec 32 := Scalar.addi v2499 c1_i32_922
  let v2501 : Index := Scalar.indexCast v2500
  ![v2501.toNat]
def k0_off527 (v2498 : BitVec 32) : Fin 2 → Nat :=
  let v2503 : Index := Scalar.indexCast v2498
  let c0_923 : Index := 0#32
  ![v2503.toNat, 0]

def k0_chk263 (v2498 : BitVec 32) : Prop :=
  (∀ a, (k0_off527 v2498) a + S1x128.size a ≤ S10064x128.size a)
theorem k0_off527_inb : ∀ (v2498 : BitVec 32) (k0_hw263 : k0_chk263 v2498), ∀ a, (k0_off527 v2498) a + S1x128.size a ≤ S10064x128.size a := fun v2498 k0_hw263 => k0_hw263

def k0_off528 (v2502 : BitVec 32) : Fin 2 → Nat :=
  let v2509 : Index := Scalar.indexCast v2502
  let c0_925 : Index := 0#32
  ![v2509.toNat, 0]

def k0_chk264 (v2502 : BitVec 32) : Prop :=
  (∀ a, (k0_off528 v2502) a + S1x128.size a ≤ S10064x128.size a)
theorem k0_off528_inb : ∀ (v2502 : BitVec 32) (k0_hw264 : k0_chk264 v2502), ∀ a, (k0_off528 v2502) a + S1x128.size a ≤ S10064x128.size a := fun v2502 k0_hw264 => k0_hw264

def k0_off529 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c264_i32 : BitVec 32 := 264#32
  let v2515 : BitVec 32 := Scalar.addi v5 c264_i32
  let v2516 : Index := Scalar.indexCast v2515
  ![v2516.toNat]
def k0_off530 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c264_i32_928 : BitVec 32 := 264#32
  let v2518 : BitVec 32 := Scalar.addi v5 c264_i32_928
  let c1_i32_929 : BitVec 32 := 1#32
  let v2519 : BitVec 32 := Scalar.addi v2518 c1_i32_929
  let v2520 : Index := Scalar.indexCast v2519
  ![v2520.toNat]
def k0_off531 (v2517 : BitVec 32) : Fin 2 → Nat :=
  let v2522 : Index := Scalar.indexCast v2517
  let c0_930 : Index := 0#32
  ![v2522.toNat, 0]

def k0_chk265 (v2517 : BitVec 32) : Prop :=
  (∀ a, (k0_off531 v2517) a + S1x128.size a ≤ S10064x128.size a)
theorem k0_off531_inb : ∀ (v2517 : BitVec 32) (k0_hw265 : k0_chk265 v2517), ∀ a, (k0_off531 v2517) a + S1x128.size a ≤ S10064x128.size a := fun v2517 k0_hw265 => k0_hw265

def k0_off532 (v2521 : BitVec 32) : Fin 2 → Nat :=
  let v2528 : Index := Scalar.indexCast v2521
  let c0_932 : Index := 0#32
  ![v2528.toNat, 0]

def k0_chk266 (v2521 : BitVec 32) : Prop :=
  (∀ a, (k0_off532 v2521) a + S1x128.size a ≤ S10064x128.size a)
theorem k0_off532_inb : ∀ (v2521 : BitVec 32) (k0_hw266 : k0_chk266 v2521), ∀ a, (k0_off532 v2521) a + S1x128.size a ≤ S10064x128.size a := fun v2521 k0_hw266 => k0_hw266

def k0_off533 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c266_i32 : BitVec 32 := 266#32
  let v2534 : BitVec 32 := Scalar.addi v5 c266_i32
  let v2535 : Index := Scalar.indexCast v2534
  ![v2535.toNat]
def k0_off534 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c266_i32_935 : BitVec 32 := 266#32
  let v2537 : BitVec 32 := Scalar.addi v5 c266_i32_935
  let c1_i32_936 : BitVec 32 := 1#32
  let v2538 : BitVec 32 := Scalar.addi v2537 c1_i32_936
  let v2539 : Index := Scalar.indexCast v2538
  ![v2539.toNat]
def k0_off535 (v2536 : BitVec 32) : Fin 2 → Nat :=
  let v2541 : Index := Scalar.indexCast v2536
  let c0_937 : Index := 0#32
  ![v2541.toNat, 0]

def k0_chk267 (v2536 : BitVec 32) : Prop :=
  (∀ a, (k0_off535 v2536) a + S1x128.size a ≤ S10064x128.size a)
theorem k0_off535_inb : ∀ (v2536 : BitVec 32) (k0_hw267 : k0_chk267 v2536), ∀ a, (k0_off535 v2536) a + S1x128.size a ≤ S10064x128.size a := fun v2536 k0_hw267 => k0_hw267

def k0_off536 (v2540 : BitVec 32) : Fin 2 → Nat :=
  let v2547 : Index := Scalar.indexCast v2540
  let c0_939 : Index := 0#32
  ![v2547.toNat, 0]

def k0_chk268 (v2540 : BitVec 32) : Prop :=
  (∀ a, (k0_off536 v2540) a + S1x128.size a ≤ S10064x128.size a)
theorem k0_off536_inb : ∀ (v2540 : BitVec 32) (k0_hw268 : k0_chk268 v2540), ∀ a, (k0_off536 v2540) a + S1x128.size a ≤ S10064x128.size a := fun v2540 k0_hw268 => k0_hw268

def k0_off537 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c268_i32 : BitVec 32 := 268#32
  let v2553 : BitVec 32 := Scalar.addi v5 c268_i32
  let v2554 : Index := Scalar.indexCast v2553
  ![v2554.toNat]
def k0_off538 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c268_i32_942 : BitVec 32 := 268#32
  let v2556 : BitVec 32 := Scalar.addi v5 c268_i32_942
  let c1_i32_943 : BitVec 32 := 1#32
  let v2557 : BitVec 32 := Scalar.addi v2556 c1_i32_943
  let v2558 : Index := Scalar.indexCast v2557
  ![v2558.toNat]
def k0_off539 (v2555 : BitVec 32) : Fin 2 → Nat :=
  let v2560 : Index := Scalar.indexCast v2555
  let c0_944 : Index := 0#32
  ![v2560.toNat, 0]

def k0_chk269 (v2555 : BitVec 32) : Prop :=
  (∀ a, (k0_off539 v2555) a + S1x128.size a ≤ S10064x128.size a)
theorem k0_off539_inb : ∀ (v2555 : BitVec 32) (k0_hw269 : k0_chk269 v2555), ∀ a, (k0_off539 v2555) a + S1x128.size a ≤ S10064x128.size a := fun v2555 k0_hw269 => k0_hw269

def k0_off540 (v2559 : BitVec 32) : Fin 2 → Nat :=
  let v2566 : Index := Scalar.indexCast v2559
  let c0_946 : Index := 0#32
  ![v2566.toNat, 0]

def k0_chk270 (v2559 : BitVec 32) : Prop :=
  (∀ a, (k0_off540 v2559) a + S1x128.size a ≤ S10064x128.size a)
theorem k0_off540_inb : ∀ (v2559 : BitVec 32) (k0_hw270 : k0_chk270 v2559), ∀ a, (k0_off540 v2559) a + S1x128.size a ≤ S10064x128.size a := fun v2559 k0_hw270 => k0_hw270

def k0_off541 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c270_i32 : BitVec 32 := 270#32
  let v2572 : BitVec 32 := Scalar.addi v5 c270_i32
  let v2573 : Index := Scalar.indexCast v2572
  ![v2573.toNat]
def k0_off542 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c270_i32_949 : BitVec 32 := 270#32
  let v2575 : BitVec 32 := Scalar.addi v5 c270_i32_949
  let c1_i32_950 : BitVec 32 := 1#32
  let v2576 : BitVec 32 := Scalar.addi v2575 c1_i32_950
  let v2577 : Index := Scalar.indexCast v2576
  ![v2577.toNat]
def k0_off543 (v2574 : BitVec 32) : Fin 2 → Nat :=
  let v2579 : Index := Scalar.indexCast v2574
  let c0_951 : Index := 0#32
  ![v2579.toNat, 0]

def k0_chk271 (v2574 : BitVec 32) : Prop :=
  (∀ a, (k0_off543 v2574) a + S1x128.size a ≤ S10064x128.size a)
theorem k0_off543_inb : ∀ (v2574 : BitVec 32) (k0_hw271 : k0_chk271 v2574), ∀ a, (k0_off543 v2574) a + S1x128.size a ≤ S10064x128.size a := fun v2574 k0_hw271 => k0_hw271

def k0_off544 (v2578 : BitVec 32) : Fin 2 → Nat :=
  let v2585 : Index := Scalar.indexCast v2578
  let c0_953 : Index := 0#32
  ![v2585.toNat, 0]

def k0_chk272 (v2578 : BitVec 32) : Prop :=
  (∀ a, (k0_off544 v2578) a + S1x128.size a ≤ S10064x128.size a)
theorem k0_off544_inb : ∀ (v2578 : BitVec 32) (k0_hw272 : k0_chk272 v2578), ∀ a, (k0_off544 v2578) a + S1x128.size a ≤ S10064x128.size a := fun v2578 k0_hw272 => k0_hw272

def k0_off545 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c272_i32 : BitVec 32 := 272#32
  let v2591 : BitVec 32 := Scalar.addi v5 c272_i32
  let v2592 : Index := Scalar.indexCast v2591
  ![v2592.toNat]
def k0_off546 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c272_i32_956 : BitVec 32 := 272#32
  let v2594 : BitVec 32 := Scalar.addi v5 c272_i32_956
  let c1_i32_957 : BitVec 32 := 1#32
  let v2595 : BitVec 32 := Scalar.addi v2594 c1_i32_957
  let v2596 : Index := Scalar.indexCast v2595
  ![v2596.toNat]
def k0_off547 (v2593 : BitVec 32) : Fin 2 → Nat :=
  let v2598 : Index := Scalar.indexCast v2593
  let c0_958 : Index := 0#32
  ![v2598.toNat, 0]

def k0_chk273 (v2593 : BitVec 32) : Prop :=
  (∀ a, (k0_off547 v2593) a + S1x128.size a ≤ S10064x128.size a)
theorem k0_off547_inb : ∀ (v2593 : BitVec 32) (k0_hw273 : k0_chk273 v2593), ∀ a, (k0_off547 v2593) a + S1x128.size a ≤ S10064x128.size a := fun v2593 k0_hw273 => k0_hw273

def k0_off548 (v2597 : BitVec 32) : Fin 2 → Nat :=
  let v2604 : Index := Scalar.indexCast v2597
  let c0_960 : Index := 0#32
  ![v2604.toNat, 0]

def k0_chk274 (v2597 : BitVec 32) : Prop :=
  (∀ a, (k0_off548 v2597) a + S1x128.size a ≤ S10064x128.size a)
theorem k0_off548_inb : ∀ (v2597 : BitVec 32) (k0_hw274 : k0_chk274 v2597), ∀ a, (k0_off548 v2597) a + S1x128.size a ≤ S10064x128.size a := fun v2597 k0_hw274 => k0_hw274

def k0_off549 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c274_i32 : BitVec 32 := 274#32
  let v2610 : BitVec 32 := Scalar.addi v5 c274_i32
  let v2611 : Index := Scalar.indexCast v2610
  ![v2611.toNat]
def k0_off550 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c274_i32_963 : BitVec 32 := 274#32
  let v2613 : BitVec 32 := Scalar.addi v5 c274_i32_963
  let c1_i32_964 : BitVec 32 := 1#32
  let v2614 : BitVec 32 := Scalar.addi v2613 c1_i32_964
  let v2615 : Index := Scalar.indexCast v2614
  ![v2615.toNat]
def k0_off551 (v2612 : BitVec 32) : Fin 2 → Nat :=
  let v2617 : Index := Scalar.indexCast v2612
  let c0_965 : Index := 0#32
  ![v2617.toNat, 0]

def k0_chk275 (v2612 : BitVec 32) : Prop :=
  (∀ a, (k0_off551 v2612) a + S1x128.size a ≤ S10064x128.size a)
theorem k0_off551_inb : ∀ (v2612 : BitVec 32) (k0_hw275 : k0_chk275 v2612), ∀ a, (k0_off551 v2612) a + S1x128.size a ≤ S10064x128.size a := fun v2612 k0_hw275 => k0_hw275

def k0_off552 (v2616 : BitVec 32) : Fin 2 → Nat :=
  let v2623 : Index := Scalar.indexCast v2616
  let c0_967 : Index := 0#32
  ![v2623.toNat, 0]

def k0_chk276 (v2616 : BitVec 32) : Prop :=
  (∀ a, (k0_off552 v2616) a + S1x128.size a ≤ S10064x128.size a)
theorem k0_off552_inb : ∀ (v2616 : BitVec 32) (k0_hw276 : k0_chk276 v2616), ∀ a, (k0_off552 v2616) a + S1x128.size a ≤ S10064x128.size a := fun v2616 k0_hw276 => k0_hw276

def k0_off553 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c276_i32 : BitVec 32 := 276#32
  let v2629 : BitVec 32 := Scalar.addi v5 c276_i32
  let v2630 : Index := Scalar.indexCast v2629
  ![v2630.toNat]
def k0_off554 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c276_i32_970 : BitVec 32 := 276#32
  let v2632 : BitVec 32 := Scalar.addi v5 c276_i32_970
  let c1_i32_971 : BitVec 32 := 1#32
  let v2633 : BitVec 32 := Scalar.addi v2632 c1_i32_971
  let v2634 : Index := Scalar.indexCast v2633
  ![v2634.toNat]
def k0_off555 (v2631 : BitVec 32) : Fin 2 → Nat :=
  let v2636 : Index := Scalar.indexCast v2631
  let c0_972 : Index := 0#32
  ![v2636.toNat, 0]

def k0_chk277 (v2631 : BitVec 32) : Prop :=
  (∀ a, (k0_off555 v2631) a + S1x128.size a ≤ S10064x128.size a)
theorem k0_off555_inb : ∀ (v2631 : BitVec 32) (k0_hw277 : k0_chk277 v2631), ∀ a, (k0_off555 v2631) a + S1x128.size a ≤ S10064x128.size a := fun v2631 k0_hw277 => k0_hw277

def k0_off556 (v2635 : BitVec 32) : Fin 2 → Nat :=
  let v2642 : Index := Scalar.indexCast v2635
  let c0_974 : Index := 0#32
  ![v2642.toNat, 0]

def k0_chk278 (v2635 : BitVec 32) : Prop :=
  (∀ a, (k0_off556 v2635) a + S1x128.size a ≤ S10064x128.size a)
theorem k0_off556_inb : ∀ (v2635 : BitVec 32) (k0_hw278 : k0_chk278 v2635), ∀ a, (k0_off556 v2635) a + S1x128.size a ≤ S10064x128.size a := fun v2635 k0_hw278 => k0_hw278

def k0_off557 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c278_i32 : BitVec 32 := 278#32
  let v2648 : BitVec 32 := Scalar.addi v5 c278_i32
  let v2649 : Index := Scalar.indexCast v2648
  ![v2649.toNat]
def k0_off558 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c278_i32_977 : BitVec 32 := 278#32
  let v2651 : BitVec 32 := Scalar.addi v5 c278_i32_977
  let c1_i32_978 : BitVec 32 := 1#32
  let v2652 : BitVec 32 := Scalar.addi v2651 c1_i32_978
  let v2653 : Index := Scalar.indexCast v2652
  ![v2653.toNat]
def k0_off559 (v2650 : BitVec 32) : Fin 2 → Nat :=
  let v2655 : Index := Scalar.indexCast v2650
  let c0_979 : Index := 0#32
  ![v2655.toNat, 0]

def k0_chk279 (v2650 : BitVec 32) : Prop :=
  (∀ a, (k0_off559 v2650) a + S1x128.size a ≤ S10064x128.size a)
theorem k0_off559_inb : ∀ (v2650 : BitVec 32) (k0_hw279 : k0_chk279 v2650), ∀ a, (k0_off559 v2650) a + S1x128.size a ≤ S10064x128.size a := fun v2650 k0_hw279 => k0_hw279

def k0_off560 (v2654 : BitVec 32) : Fin 2 → Nat :=
  let v2661 : Index := Scalar.indexCast v2654
  let c0_981 : Index := 0#32
  ![v2661.toNat, 0]

def k0_chk280 (v2654 : BitVec 32) : Prop :=
  (∀ a, (k0_off560 v2654) a + S1x128.size a ≤ S10064x128.size a)
theorem k0_off560_inb : ∀ (v2654 : BitVec 32) (k0_hw280 : k0_chk280 v2654), ∀ a, (k0_off560 v2654) a + S1x128.size a ≤ S10064x128.size a := fun v2654 k0_hw280 => k0_hw280

def k0_off561 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c280_i32 : BitVec 32 := 280#32
  let v2667 : BitVec 32 := Scalar.addi v5 c280_i32
  let v2668 : Index := Scalar.indexCast v2667
  ![v2668.toNat]
def k0_off562 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c280_i32_984 : BitVec 32 := 280#32
  let v2670 : BitVec 32 := Scalar.addi v5 c280_i32_984
  let c1_i32_985 : BitVec 32 := 1#32
  let v2671 : BitVec 32 := Scalar.addi v2670 c1_i32_985
  let v2672 : Index := Scalar.indexCast v2671
  ![v2672.toNat]
def k0_off563 (v2669 : BitVec 32) : Fin 2 → Nat :=
  let v2674 : Index := Scalar.indexCast v2669
  let c0_986 : Index := 0#32
  ![v2674.toNat, 0]

def k0_chk281 (v2669 : BitVec 32) : Prop :=
  (∀ a, (k0_off563 v2669) a + S1x128.size a ≤ S10064x128.size a)
theorem k0_off563_inb : ∀ (v2669 : BitVec 32) (k0_hw281 : k0_chk281 v2669), ∀ a, (k0_off563 v2669) a + S1x128.size a ≤ S10064x128.size a := fun v2669 k0_hw281 => k0_hw281

def k0_off564 (v2673 : BitVec 32) : Fin 2 → Nat :=
  let v2680 : Index := Scalar.indexCast v2673
  let c0_988 : Index := 0#32
  ![v2680.toNat, 0]

def k0_chk282 (v2673 : BitVec 32) : Prop :=
  (∀ a, (k0_off564 v2673) a + S1x128.size a ≤ S10064x128.size a)
theorem k0_off564_inb : ∀ (v2673 : BitVec 32) (k0_hw282 : k0_chk282 v2673), ∀ a, (k0_off564 v2673) a + S1x128.size a ≤ S10064x128.size a := fun v2673 k0_hw282 => k0_hw282

def k0_off565 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c282_i32 : BitVec 32 := 282#32
  let v2686 : BitVec 32 := Scalar.addi v5 c282_i32
  let v2687 : Index := Scalar.indexCast v2686
  ![v2687.toNat]
def k0_off566 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c282_i32_991 : BitVec 32 := 282#32
  let v2689 : BitVec 32 := Scalar.addi v5 c282_i32_991
  let c1_i32_992 : BitVec 32 := 1#32
  let v2690 : BitVec 32 := Scalar.addi v2689 c1_i32_992
  let v2691 : Index := Scalar.indexCast v2690
  ![v2691.toNat]
def k0_off567 (v2688 : BitVec 32) : Fin 2 → Nat :=
  let v2693 : Index := Scalar.indexCast v2688
  let c0_993 : Index := 0#32
  ![v2693.toNat, 0]

def k0_chk283 (v2688 : BitVec 32) : Prop :=
  (∀ a, (k0_off567 v2688) a + S1x128.size a ≤ S10064x128.size a)
theorem k0_off567_inb : ∀ (v2688 : BitVec 32) (k0_hw283 : k0_chk283 v2688), ∀ a, (k0_off567 v2688) a + S1x128.size a ≤ S10064x128.size a := fun v2688 k0_hw283 => k0_hw283

def k0_off568 (v2692 : BitVec 32) : Fin 2 → Nat :=
  let v2699 : Index := Scalar.indexCast v2692
  let c0_995 : Index := 0#32
  ![v2699.toNat, 0]

def k0_chk284 (v2692 : BitVec 32) : Prop :=
  (∀ a, (k0_off568 v2692) a + S1x128.size a ≤ S10064x128.size a)
theorem k0_off568_inb : ∀ (v2692 : BitVec 32) (k0_hw284 : k0_chk284 v2692), ∀ a, (k0_off568 v2692) a + S1x128.size a ≤ S10064x128.size a := fun v2692 k0_hw284 => k0_hw284

def k0_off569 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c284_i32 : BitVec 32 := 284#32
  let v2705 : BitVec 32 := Scalar.addi v5 c284_i32
  let v2706 : Index := Scalar.indexCast v2705
  ![v2706.toNat]
def k0_off570 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c284_i32_998 : BitVec 32 := 284#32
  let v2708 : BitVec 32 := Scalar.addi v5 c284_i32_998
  let c1_i32_999 : BitVec 32 := 1#32
  let v2709 : BitVec 32 := Scalar.addi v2708 c1_i32_999
  let v2710 : Index := Scalar.indexCast v2709
  ![v2710.toNat]
def k0_off571 (v2707 : BitVec 32) : Fin 2 → Nat :=
  let v2712 : Index := Scalar.indexCast v2707
  let c0_1000 : Index := 0#32
  ![v2712.toNat, 0]

def k0_chk285 (v2707 : BitVec 32) : Prop :=
  (∀ a, (k0_off571 v2707) a + S1x128.size a ≤ S10064x128.size a)
theorem k0_off571_inb : ∀ (v2707 : BitVec 32) (k0_hw285 : k0_chk285 v2707), ∀ a, (k0_off571 v2707) a + S1x128.size a ≤ S10064x128.size a := fun v2707 k0_hw285 => k0_hw285

def k0_off572 (v2711 : BitVec 32) : Fin 2 → Nat :=
  let v2718 : Index := Scalar.indexCast v2711
  let c0_1002 : Index := 0#32
  ![v2718.toNat, 0]

def k0_chk286 (v2711 : BitVec 32) : Prop :=
  (∀ a, (k0_off572 v2711) a + S1x128.size a ≤ S10064x128.size a)
theorem k0_off572_inb : ∀ (v2711 : BitVec 32) (k0_hw286 : k0_chk286 v2711), ∀ a, (k0_off572 v2711) a + S1x128.size a ≤ S10064x128.size a := fun v2711 k0_hw286 => k0_hw286

def k0_off573 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c286_i32 : BitVec 32 := 286#32
  let v2724 : BitVec 32 := Scalar.addi v5 c286_i32
  let v2725 : Index := Scalar.indexCast v2724
  ![v2725.toNat]
def k0_off574 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c286_i32_1005 : BitVec 32 := 286#32
  let v2727 : BitVec 32 := Scalar.addi v5 c286_i32_1005
  let c1_i32_1006 : BitVec 32 := 1#32
  let v2728 : BitVec 32 := Scalar.addi v2727 c1_i32_1006
  let v2729 : Index := Scalar.indexCast v2728
  ![v2729.toNat]
def k0_off575 (v2726 : BitVec 32) : Fin 2 → Nat :=
  let v2731 : Index := Scalar.indexCast v2726
  let c0_1007 : Index := 0#32
  ![v2731.toNat, 0]

def k0_chk287 (v2726 : BitVec 32) : Prop :=
  (∀ a, (k0_off575 v2726) a + S1x128.size a ≤ S10064x128.size a)
theorem k0_off575_inb : ∀ (v2726 : BitVec 32) (k0_hw287 : k0_chk287 v2726), ∀ a, (k0_off575 v2726) a + S1x128.size a ≤ S10064x128.size a := fun v2726 k0_hw287 => k0_hw287

def k0_off576 (v2730 : BitVec 32) : Fin 2 → Nat :=
  let v2737 : Index := Scalar.indexCast v2730
  let c0_1009 : Index := 0#32
  ![v2737.toNat, 0]

def k0_chk288 (v2730 : BitVec 32) : Prop :=
  (∀ a, (k0_off576 v2730) a + S1x128.size a ≤ S10064x128.size a)
theorem k0_off576_inb : ∀ (v2730 : BitVec 32) (k0_hw288 : k0_chk288 v2730), ∀ a, (k0_off576 v2730) a + S1x128.size a ≤ S10064x128.size a := fun v2730 k0_hw288 => k0_hw288

def k0_off577 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c288_i32 : BitVec 32 := 288#32
  let v2743 : BitVec 32 := Scalar.addi v5 c288_i32
  let v2744 : Index := Scalar.indexCast v2743
  ![v2744.toNat]
def k0_off578 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c288_i32_1012 : BitVec 32 := 288#32
  let v2746 : BitVec 32 := Scalar.addi v5 c288_i32_1012
  let c1_i32_1013 : BitVec 32 := 1#32
  let v2747 : BitVec 32 := Scalar.addi v2746 c1_i32_1013
  let v2748 : Index := Scalar.indexCast v2747
  ![v2748.toNat]
def k0_off579 (v2745 : BitVec 32) : Fin 2 → Nat :=
  let v2750 : Index := Scalar.indexCast v2745
  let c0_1014 : Index := 0#32
  ![v2750.toNat, 0]

def k0_chk289 (v2745 : BitVec 32) : Prop :=
  (∀ a, (k0_off579 v2745) a + S1x128.size a ≤ S10064x128.size a)
theorem k0_off579_inb : ∀ (v2745 : BitVec 32) (k0_hw289 : k0_chk289 v2745), ∀ a, (k0_off579 v2745) a + S1x128.size a ≤ S10064x128.size a := fun v2745 k0_hw289 => k0_hw289

def k0_off580 (v2749 : BitVec 32) : Fin 2 → Nat :=
  let v2756 : Index := Scalar.indexCast v2749
  let c0_1016 : Index := 0#32
  ![v2756.toNat, 0]

def k0_chk290 (v2749 : BitVec 32) : Prop :=
  (∀ a, (k0_off580 v2749) a + S1x128.size a ≤ S10064x128.size a)
theorem k0_off580_inb : ∀ (v2749 : BitVec 32) (k0_hw290 : k0_chk290 v2749), ∀ a, (k0_off580 v2749) a + S1x128.size a ≤ S10064x128.size a := fun v2749 k0_hw290 => k0_hw290

def k0_off581 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c290_i32 : BitVec 32 := 290#32
  let v2762 : BitVec 32 := Scalar.addi v5 c290_i32
  let v2763 : Index := Scalar.indexCast v2762
  ![v2763.toNat]
def k0_off582 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c290_i32_1019 : BitVec 32 := 290#32
  let v2765 : BitVec 32 := Scalar.addi v5 c290_i32_1019
  let c1_i32_1020 : BitVec 32 := 1#32
  let v2766 : BitVec 32 := Scalar.addi v2765 c1_i32_1020
  let v2767 : Index := Scalar.indexCast v2766
  ![v2767.toNat]
def k0_off583 (v2764 : BitVec 32) : Fin 2 → Nat :=
  let v2769 : Index := Scalar.indexCast v2764
  let c0_1021 : Index := 0#32
  ![v2769.toNat, 0]

def k0_chk291 (v2764 : BitVec 32) : Prop :=
  (∀ a, (k0_off583 v2764) a + S1x128.size a ≤ S10064x128.size a)
theorem k0_off583_inb : ∀ (v2764 : BitVec 32) (k0_hw291 : k0_chk291 v2764), ∀ a, (k0_off583 v2764) a + S1x128.size a ≤ S10064x128.size a := fun v2764 k0_hw291 => k0_hw291

def k0_off584 (v2768 : BitVec 32) : Fin 2 → Nat :=
  let v2775 : Index := Scalar.indexCast v2768
  let c0_1023 : Index := 0#32
  ![v2775.toNat, 0]

def k0_chk292 (v2768 : BitVec 32) : Prop :=
  (∀ a, (k0_off584 v2768) a + S1x128.size a ≤ S10064x128.size a)
theorem k0_off584_inb : ∀ (v2768 : BitVec 32) (k0_hw292 : k0_chk292 v2768), ∀ a, (k0_off584 v2768) a + S1x128.size a ≤ S10064x128.size a := fun v2768 k0_hw292 => k0_hw292

def k0_off585 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c292_i32 : BitVec 32 := 292#32
  let v2781 : BitVec 32 := Scalar.addi v5 c292_i32
  let v2782 : Index := Scalar.indexCast v2781
  ![v2782.toNat]
def k0_off586 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c292_i32_1026 : BitVec 32 := 292#32
  let v2784 : BitVec 32 := Scalar.addi v5 c292_i32_1026
  let c1_i32_1027 : BitVec 32 := 1#32
  let v2785 : BitVec 32 := Scalar.addi v2784 c1_i32_1027
  let v2786 : Index := Scalar.indexCast v2785
  ![v2786.toNat]
def k0_off587 (v2783 : BitVec 32) : Fin 2 → Nat :=
  let v2788 : Index := Scalar.indexCast v2783
  let c0_1028 : Index := 0#32
  ![v2788.toNat, 0]

def k0_chk293 (v2783 : BitVec 32) : Prop :=
  (∀ a, (k0_off587 v2783) a + S1x128.size a ≤ S10064x128.size a)
theorem k0_off587_inb : ∀ (v2783 : BitVec 32) (k0_hw293 : k0_chk293 v2783), ∀ a, (k0_off587 v2783) a + S1x128.size a ≤ S10064x128.size a := fun v2783 k0_hw293 => k0_hw293

def k0_off588 (v2787 : BitVec 32) : Fin 2 → Nat :=
  let v2794 : Index := Scalar.indexCast v2787
  let c0_1030 : Index := 0#32
  ![v2794.toNat, 0]

def k0_chk294 (v2787 : BitVec 32) : Prop :=
  (∀ a, (k0_off588 v2787) a + S1x128.size a ≤ S10064x128.size a)
theorem k0_off588_inb : ∀ (v2787 : BitVec 32) (k0_hw294 : k0_chk294 v2787), ∀ a, (k0_off588 v2787) a + S1x128.size a ≤ S10064x128.size a := fun v2787 k0_hw294 => k0_hw294

def k0_off589 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c294_i32 : BitVec 32 := 294#32
  let v2800 : BitVec 32 := Scalar.addi v5 c294_i32
  let v2801 : Index := Scalar.indexCast v2800
  ![v2801.toNat]
def k0_off590 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c294_i32_1033 : BitVec 32 := 294#32
  let v2803 : BitVec 32 := Scalar.addi v5 c294_i32_1033
  let c1_i32_1034 : BitVec 32 := 1#32
  let v2804 : BitVec 32 := Scalar.addi v2803 c1_i32_1034
  let v2805 : Index := Scalar.indexCast v2804
  ![v2805.toNat]
def k0_off591 (v2802 : BitVec 32) : Fin 2 → Nat :=
  let v2807 : Index := Scalar.indexCast v2802
  let c0_1035 : Index := 0#32
  ![v2807.toNat, 0]

def k0_chk295 (v2802 : BitVec 32) : Prop :=
  (∀ a, (k0_off591 v2802) a + S1x128.size a ≤ S10064x128.size a)
theorem k0_off591_inb : ∀ (v2802 : BitVec 32) (k0_hw295 : k0_chk295 v2802), ∀ a, (k0_off591 v2802) a + S1x128.size a ≤ S10064x128.size a := fun v2802 k0_hw295 => k0_hw295

def k0_off592 (v2806 : BitVec 32) : Fin 2 → Nat :=
  let v2813 : Index := Scalar.indexCast v2806
  let c0_1037 : Index := 0#32
  ![v2813.toNat, 0]

def k0_chk296 (v2806 : BitVec 32) : Prop :=
  (∀ a, (k0_off592 v2806) a + S1x128.size a ≤ S10064x128.size a)
theorem k0_off592_inb : ∀ (v2806 : BitVec 32) (k0_hw296 : k0_chk296 v2806), ∀ a, (k0_off592 v2806) a + S1x128.size a ≤ S10064x128.size a := fun v2806 k0_hw296 => k0_hw296

def k0_off593 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c296_i32 : BitVec 32 := 296#32
  let v2819 : BitVec 32 := Scalar.addi v5 c296_i32
  let v2820 : Index := Scalar.indexCast v2819
  ![v2820.toNat]
def k0_off594 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c296_i32_1040 : BitVec 32 := 296#32
  let v2822 : BitVec 32 := Scalar.addi v5 c296_i32_1040
  let c1_i32_1041 : BitVec 32 := 1#32
  let v2823 : BitVec 32 := Scalar.addi v2822 c1_i32_1041
  let v2824 : Index := Scalar.indexCast v2823
  ![v2824.toNat]
def k0_off595 (v2821 : BitVec 32) : Fin 2 → Nat :=
  let v2826 : Index := Scalar.indexCast v2821
  let c0_1042 : Index := 0#32
  ![v2826.toNat, 0]

def k0_chk297 (v2821 : BitVec 32) : Prop :=
  (∀ a, (k0_off595 v2821) a + S1x128.size a ≤ S10064x128.size a)
theorem k0_off595_inb : ∀ (v2821 : BitVec 32) (k0_hw297 : k0_chk297 v2821), ∀ a, (k0_off595 v2821) a + S1x128.size a ≤ S10064x128.size a := fun v2821 k0_hw297 => k0_hw297

def k0_off596 (v2825 : BitVec 32) : Fin 2 → Nat :=
  let v2832 : Index := Scalar.indexCast v2825
  let c0_1044 : Index := 0#32
  ![v2832.toNat, 0]

def k0_chk298 (v2825 : BitVec 32) : Prop :=
  (∀ a, (k0_off596 v2825) a + S1x128.size a ≤ S10064x128.size a)
theorem k0_off596_inb : ∀ (v2825 : BitVec 32) (k0_hw298 : k0_chk298 v2825), ∀ a, (k0_off596 v2825) a + S1x128.size a ≤ S10064x128.size a := fun v2825 k0_hw298 => k0_hw298

def k0_off597 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c298_i32 : BitVec 32 := 298#32
  let v2838 : BitVec 32 := Scalar.addi v5 c298_i32
  let v2839 : Index := Scalar.indexCast v2838
  ![v2839.toNat]
def k0_off598 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c298_i32_1047 : BitVec 32 := 298#32
  let v2841 : BitVec 32 := Scalar.addi v5 c298_i32_1047
  let c1_i32_1048 : BitVec 32 := 1#32
  let v2842 : BitVec 32 := Scalar.addi v2841 c1_i32_1048
  let v2843 : Index := Scalar.indexCast v2842
  ![v2843.toNat]
def k0_off599 (v2840 : BitVec 32) : Fin 2 → Nat :=
  let v2845 : Index := Scalar.indexCast v2840
  let c0_1049 : Index := 0#32
  ![v2845.toNat, 0]

def k0_chk299 (v2840 : BitVec 32) : Prop :=
  (∀ a, (k0_off599 v2840) a + S1x128.size a ≤ S10064x128.size a)
theorem k0_off599_inb : ∀ (v2840 : BitVec 32) (k0_hw299 : k0_chk299 v2840), ∀ a, (k0_off599 v2840) a + S1x128.size a ≤ S10064x128.size a := fun v2840 k0_hw299 => k0_hw299

def k0_off600 (v2844 : BitVec 32) : Fin 2 → Nat :=
  let v2851 : Index := Scalar.indexCast v2844
  let c0_1051 : Index := 0#32
  ![v2851.toNat, 0]

def k0_chk300 (v2844 : BitVec 32) : Prop :=
  (∀ a, (k0_off600 v2844) a + S1x128.size a ≤ S10064x128.size a)
theorem k0_off600_inb : ∀ (v2844 : BitVec 32) (k0_hw300 : k0_chk300 v2844), ∀ a, (k0_off600 v2844) a + S1x128.size a ≤ S10064x128.size a := fun v2844 k0_hw300 => k0_hw300

def k0_off601 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c300_i32 : BitVec 32 := 300#32
  let v2857 : BitVec 32 := Scalar.addi v5 c300_i32
  let v2858 : Index := Scalar.indexCast v2857
  ![v2858.toNat]
def k0_off602 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c300_i32_1054 : BitVec 32 := 300#32
  let v2860 : BitVec 32 := Scalar.addi v5 c300_i32_1054
  let c1_i32_1055 : BitVec 32 := 1#32
  let v2861 : BitVec 32 := Scalar.addi v2860 c1_i32_1055
  let v2862 : Index := Scalar.indexCast v2861
  ![v2862.toNat]
def k0_off603 (v2859 : BitVec 32) : Fin 2 → Nat :=
  let v2864 : Index := Scalar.indexCast v2859
  let c0_1056 : Index := 0#32
  ![v2864.toNat, 0]

def k0_chk301 (v2859 : BitVec 32) : Prop :=
  (∀ a, (k0_off603 v2859) a + S1x128.size a ≤ S10064x128.size a)
theorem k0_off603_inb : ∀ (v2859 : BitVec 32) (k0_hw301 : k0_chk301 v2859), ∀ a, (k0_off603 v2859) a + S1x128.size a ≤ S10064x128.size a := fun v2859 k0_hw301 => k0_hw301

def k0_off604 (v2863 : BitVec 32) : Fin 2 → Nat :=
  let v2870 : Index := Scalar.indexCast v2863
  let c0_1058 : Index := 0#32
  ![v2870.toNat, 0]

def k0_chk302 (v2863 : BitVec 32) : Prop :=
  (∀ a, (k0_off604 v2863) a + S1x128.size a ≤ S10064x128.size a)
theorem k0_off604_inb : ∀ (v2863 : BitVec 32) (k0_hw302 : k0_chk302 v2863), ∀ a, (k0_off604 v2863) a + S1x128.size a ≤ S10064x128.size a := fun v2863 k0_hw302 => k0_hw302

def k0_off605 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c302_i32 : BitVec 32 := 302#32
  let v2876 : BitVec 32 := Scalar.addi v5 c302_i32
  let v2877 : Index := Scalar.indexCast v2876
  ![v2877.toNat]
def k0_off606 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c302_i32_1061 : BitVec 32 := 302#32
  let v2879 : BitVec 32 := Scalar.addi v5 c302_i32_1061
  let c1_i32_1062 : BitVec 32 := 1#32
  let v2880 : BitVec 32 := Scalar.addi v2879 c1_i32_1062
  let v2881 : Index := Scalar.indexCast v2880
  ![v2881.toNat]
def k0_off607 (v2878 : BitVec 32) : Fin 2 → Nat :=
  let v2883 : Index := Scalar.indexCast v2878
  let c0_1063 : Index := 0#32
  ![v2883.toNat, 0]

def k0_chk303 (v2878 : BitVec 32) : Prop :=
  (∀ a, (k0_off607 v2878) a + S1x128.size a ≤ S10064x128.size a)
theorem k0_off607_inb : ∀ (v2878 : BitVec 32) (k0_hw303 : k0_chk303 v2878), ∀ a, (k0_off607 v2878) a + S1x128.size a ≤ S10064x128.size a := fun v2878 k0_hw303 => k0_hw303

def k0_off608 (v2882 : BitVec 32) : Fin 2 → Nat :=
  let v2889 : Index := Scalar.indexCast v2882
  let c0_1065 : Index := 0#32
  ![v2889.toNat, 0]

def k0_chk304 (v2882 : BitVec 32) : Prop :=
  (∀ a, (k0_off608 v2882) a + S1x128.size a ≤ S10064x128.size a)
theorem k0_off608_inb : ∀ (v2882 : BitVec 32) (k0_hw304 : k0_chk304 v2882), ∀ a, (k0_off608 v2882) a + S1x128.size a ≤ S10064x128.size a := fun v2882 k0_hw304 => k0_hw304

def k0_off609 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c304_i32 : BitVec 32 := 304#32
  let v2895 : BitVec 32 := Scalar.addi v5 c304_i32
  let v2896 : Index := Scalar.indexCast v2895
  ![v2896.toNat]
def k0_off610 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c304_i32_1068 : BitVec 32 := 304#32
  let v2898 : BitVec 32 := Scalar.addi v5 c304_i32_1068
  let c1_i32_1069 : BitVec 32 := 1#32
  let v2899 : BitVec 32 := Scalar.addi v2898 c1_i32_1069
  let v2900 : Index := Scalar.indexCast v2899
  ![v2900.toNat]
def k0_off611 (v2897 : BitVec 32) : Fin 2 → Nat :=
  let v2902 : Index := Scalar.indexCast v2897
  let c0_1070 : Index := 0#32
  ![v2902.toNat, 0]

def k0_chk305 (v2897 : BitVec 32) : Prop :=
  (∀ a, (k0_off611 v2897) a + S1x128.size a ≤ S10064x128.size a)
theorem k0_off611_inb : ∀ (v2897 : BitVec 32) (k0_hw305 : k0_chk305 v2897), ∀ a, (k0_off611 v2897) a + S1x128.size a ≤ S10064x128.size a := fun v2897 k0_hw305 => k0_hw305

def k0_off612 (v2901 : BitVec 32) : Fin 2 → Nat :=
  let v2908 : Index := Scalar.indexCast v2901
  let c0_1072 : Index := 0#32
  ![v2908.toNat, 0]

def k0_chk306 (v2901 : BitVec 32) : Prop :=
  (∀ a, (k0_off612 v2901) a + S1x128.size a ≤ S10064x128.size a)
theorem k0_off612_inb : ∀ (v2901 : BitVec 32) (k0_hw306 : k0_chk306 v2901), ∀ a, (k0_off612 v2901) a + S1x128.size a ≤ S10064x128.size a := fun v2901 k0_hw306 => k0_hw306

def k0_off613 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c306_i32 : BitVec 32 := 306#32
  let v2914 : BitVec 32 := Scalar.addi v5 c306_i32
  let v2915 : Index := Scalar.indexCast v2914
  ![v2915.toNat]
def k0_off614 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c306_i32_1075 : BitVec 32 := 306#32
  let v2917 : BitVec 32 := Scalar.addi v5 c306_i32_1075
  let c1_i32_1076 : BitVec 32 := 1#32
  let v2918 : BitVec 32 := Scalar.addi v2917 c1_i32_1076
  let v2919 : Index := Scalar.indexCast v2918
  ![v2919.toNat]
def k0_off615 (v2916 : BitVec 32) : Fin 2 → Nat :=
  let v2921 : Index := Scalar.indexCast v2916
  let c0_1077 : Index := 0#32
  ![v2921.toNat, 0]

def k0_chk307 (v2916 : BitVec 32) : Prop :=
  (∀ a, (k0_off615 v2916) a + S1x128.size a ≤ S10064x128.size a)
theorem k0_off615_inb : ∀ (v2916 : BitVec 32) (k0_hw307 : k0_chk307 v2916), ∀ a, (k0_off615 v2916) a + S1x128.size a ≤ S10064x128.size a := fun v2916 k0_hw307 => k0_hw307

def k0_off616 (v2920 : BitVec 32) : Fin 2 → Nat :=
  let v2927 : Index := Scalar.indexCast v2920
  let c0_1079 : Index := 0#32
  ![v2927.toNat, 0]

def k0_chk308 (v2920 : BitVec 32) : Prop :=
  (∀ a, (k0_off616 v2920) a + S1x128.size a ≤ S10064x128.size a)
theorem k0_off616_inb : ∀ (v2920 : BitVec 32) (k0_hw308 : k0_chk308 v2920), ∀ a, (k0_off616 v2920) a + S1x128.size a ≤ S10064x128.size a := fun v2920 k0_hw308 => k0_hw308

def k0_off617 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c308_i32 : BitVec 32 := 308#32
  let v2933 : BitVec 32 := Scalar.addi v5 c308_i32
  let v2934 : Index := Scalar.indexCast v2933
  ![v2934.toNat]
def k0_off618 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c308_i32_1082 : BitVec 32 := 308#32
  let v2936 : BitVec 32 := Scalar.addi v5 c308_i32_1082
  let c1_i32_1083 : BitVec 32 := 1#32
  let v2937 : BitVec 32 := Scalar.addi v2936 c1_i32_1083
  let v2938 : Index := Scalar.indexCast v2937
  ![v2938.toNat]
def k0_off619 (v2935 : BitVec 32) : Fin 2 → Nat :=
  let v2940 : Index := Scalar.indexCast v2935
  let c0_1084 : Index := 0#32
  ![v2940.toNat, 0]

def k0_chk309 (v2935 : BitVec 32) : Prop :=
  (∀ a, (k0_off619 v2935) a + S1x128.size a ≤ S10064x128.size a)
theorem k0_off619_inb : ∀ (v2935 : BitVec 32) (k0_hw309 : k0_chk309 v2935), ∀ a, (k0_off619 v2935) a + S1x128.size a ≤ S10064x128.size a := fun v2935 k0_hw309 => k0_hw309

def k0_off620 (v2939 : BitVec 32) : Fin 2 → Nat :=
  let v2946 : Index := Scalar.indexCast v2939
  let c0_1086 : Index := 0#32
  ![v2946.toNat, 0]

def k0_chk310 (v2939 : BitVec 32) : Prop :=
  (∀ a, (k0_off620 v2939) a + S1x128.size a ≤ S10064x128.size a)
theorem k0_off620_inb : ∀ (v2939 : BitVec 32) (k0_hw310 : k0_chk310 v2939), ∀ a, (k0_off620 v2939) a + S1x128.size a ≤ S10064x128.size a := fun v2939 k0_hw310 => k0_hw310

def k0_off621 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c310_i32 : BitVec 32 := 310#32
  let v2952 : BitVec 32 := Scalar.addi v5 c310_i32
  let v2953 : Index := Scalar.indexCast v2952
  ![v2953.toNat]
def k0_off622 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c310_i32_1089 : BitVec 32 := 310#32
  let v2955 : BitVec 32 := Scalar.addi v5 c310_i32_1089
  let c1_i32_1090 : BitVec 32 := 1#32
  let v2956 : BitVec 32 := Scalar.addi v2955 c1_i32_1090
  let v2957 : Index := Scalar.indexCast v2956
  ![v2957.toNat]
def k0_off623 (v2954 : BitVec 32) : Fin 2 → Nat :=
  let v2959 : Index := Scalar.indexCast v2954
  let c0_1091 : Index := 0#32
  ![v2959.toNat, 0]

def k0_chk311 (v2954 : BitVec 32) : Prop :=
  (∀ a, (k0_off623 v2954) a + S1x128.size a ≤ S10064x128.size a)
theorem k0_off623_inb : ∀ (v2954 : BitVec 32) (k0_hw311 : k0_chk311 v2954), ∀ a, (k0_off623 v2954) a + S1x128.size a ≤ S10064x128.size a := fun v2954 k0_hw311 => k0_hw311

def k0_off624 (v2958 : BitVec 32) : Fin 2 → Nat :=
  let v2965 : Index := Scalar.indexCast v2958
  let c0_1093 : Index := 0#32
  ![v2965.toNat, 0]

def k0_chk312 (v2958 : BitVec 32) : Prop :=
  (∀ a, (k0_off624 v2958) a + S1x128.size a ≤ S10064x128.size a)
theorem k0_off624_inb : ∀ (v2958 : BitVec 32) (k0_hw312 : k0_chk312 v2958), ∀ a, (k0_off624 v2958) a + S1x128.size a ≤ S10064x128.size a := fun v2958 k0_hw312 => k0_hw312

def k0_off625 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c312_i32 : BitVec 32 := 312#32
  let v2971 : BitVec 32 := Scalar.addi v5 c312_i32
  let v2972 : Index := Scalar.indexCast v2971
  ![v2972.toNat]
def k0_off626 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c312_i32_1096 : BitVec 32 := 312#32
  let v2974 : BitVec 32 := Scalar.addi v5 c312_i32_1096
  let c1_i32_1097 : BitVec 32 := 1#32
  let v2975 : BitVec 32 := Scalar.addi v2974 c1_i32_1097
  let v2976 : Index := Scalar.indexCast v2975
  ![v2976.toNat]
def k0_off627 (v2973 : BitVec 32) : Fin 2 → Nat :=
  let v2978 : Index := Scalar.indexCast v2973
  let c0_1098 : Index := 0#32
  ![v2978.toNat, 0]

def k0_chk313 (v2973 : BitVec 32) : Prop :=
  (∀ a, (k0_off627 v2973) a + S1x128.size a ≤ S10064x128.size a)
theorem k0_off627_inb : ∀ (v2973 : BitVec 32) (k0_hw313 : k0_chk313 v2973), ∀ a, (k0_off627 v2973) a + S1x128.size a ≤ S10064x128.size a := fun v2973 k0_hw313 => k0_hw313

def k0_off628 (v2977 : BitVec 32) : Fin 2 → Nat :=
  let v2984 : Index := Scalar.indexCast v2977
  let c0_1100 : Index := 0#32
  ![v2984.toNat, 0]

def k0_chk314 (v2977 : BitVec 32) : Prop :=
  (∀ a, (k0_off628 v2977) a + S1x128.size a ≤ S10064x128.size a)
theorem k0_off628_inb : ∀ (v2977 : BitVec 32) (k0_hw314 : k0_chk314 v2977), ∀ a, (k0_off628 v2977) a + S1x128.size a ≤ S10064x128.size a := fun v2977 k0_hw314 => k0_hw314

def k0_off629 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c314_i32 : BitVec 32 := 314#32
  let v2990 : BitVec 32 := Scalar.addi v5 c314_i32
  let v2991 : Index := Scalar.indexCast v2990
  ![v2991.toNat]
def k0_off630 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c314_i32_1103 : BitVec 32 := 314#32
  let v2993 : BitVec 32 := Scalar.addi v5 c314_i32_1103
  let c1_i32_1104 : BitVec 32 := 1#32
  let v2994 : BitVec 32 := Scalar.addi v2993 c1_i32_1104
  let v2995 : Index := Scalar.indexCast v2994
  ![v2995.toNat]
def k0_off631 (v2992 : BitVec 32) : Fin 2 → Nat :=
  let v2997 : Index := Scalar.indexCast v2992
  let c0_1105 : Index := 0#32
  ![v2997.toNat, 0]

def k0_chk315 (v2992 : BitVec 32) : Prop :=
  (∀ a, (k0_off631 v2992) a + S1x128.size a ≤ S10064x128.size a)
theorem k0_off631_inb : ∀ (v2992 : BitVec 32) (k0_hw315 : k0_chk315 v2992), ∀ a, (k0_off631 v2992) a + S1x128.size a ≤ S10064x128.size a := fun v2992 k0_hw315 => k0_hw315

def k0_off632 (v2996 : BitVec 32) : Fin 2 → Nat :=
  let v3003 : Index := Scalar.indexCast v2996
  let c0_1107 : Index := 0#32
  ![v3003.toNat, 0]

def k0_chk316 (v2996 : BitVec 32) : Prop :=
  (∀ a, (k0_off632 v2996) a + S1x128.size a ≤ S10064x128.size a)
theorem k0_off632_inb : ∀ (v2996 : BitVec 32) (k0_hw316 : k0_chk316 v2996), ∀ a, (k0_off632 v2996) a + S1x128.size a ≤ S10064x128.size a := fun v2996 k0_hw316 => k0_hw316

def k0_off633 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c316_i32 : BitVec 32 := 316#32
  let v3009 : BitVec 32 := Scalar.addi v5 c316_i32
  let v3010 : Index := Scalar.indexCast v3009
  ![v3010.toNat]
def k0_off634 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c316_i32_1110 : BitVec 32 := 316#32
  let v3012 : BitVec 32 := Scalar.addi v5 c316_i32_1110
  let c1_i32_1111 : BitVec 32 := 1#32
  let v3013 : BitVec 32 := Scalar.addi v3012 c1_i32_1111
  let v3014 : Index := Scalar.indexCast v3013
  ![v3014.toNat]
def k0_off635 (v3011 : BitVec 32) : Fin 2 → Nat :=
  let v3016 : Index := Scalar.indexCast v3011
  let c0_1112 : Index := 0#32
  ![v3016.toNat, 0]

def k0_chk317 (v3011 : BitVec 32) : Prop :=
  (∀ a, (k0_off635 v3011) a + S1x128.size a ≤ S10064x128.size a)
theorem k0_off635_inb : ∀ (v3011 : BitVec 32) (k0_hw317 : k0_chk317 v3011), ∀ a, (k0_off635 v3011) a + S1x128.size a ≤ S10064x128.size a := fun v3011 k0_hw317 => k0_hw317

def k0_off636 (v3015 : BitVec 32) : Fin 2 → Nat :=
  let v3022 : Index := Scalar.indexCast v3015
  let c0_1114 : Index := 0#32
  ![v3022.toNat, 0]

def k0_chk318 (v3015 : BitVec 32) : Prop :=
  (∀ a, (k0_off636 v3015) a + S1x128.size a ≤ S10064x128.size a)
theorem k0_off636_inb : ∀ (v3015 : BitVec 32) (k0_hw318 : k0_chk318 v3015), ∀ a, (k0_off636 v3015) a + S1x128.size a ≤ S10064x128.size a := fun v3015 k0_hw318 => k0_hw318

def k0_off637 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c318_i32 : BitVec 32 := 318#32
  let v3028 : BitVec 32 := Scalar.addi v5 c318_i32
  let v3029 : Index := Scalar.indexCast v3028
  ![v3029.toNat]
def k0_off638 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c318_i32_1117 : BitVec 32 := 318#32
  let v3031 : BitVec 32 := Scalar.addi v5 c318_i32_1117
  let c1_i32_1118 : BitVec 32 := 1#32
  let v3032 : BitVec 32 := Scalar.addi v3031 c1_i32_1118
  let v3033 : Index := Scalar.indexCast v3032
  ![v3033.toNat]
def k0_off639 (v3030 : BitVec 32) : Fin 2 → Nat :=
  let v3035 : Index := Scalar.indexCast v3030
  let c0_1119 : Index := 0#32
  ![v3035.toNat, 0]

def k0_chk319 (v3030 : BitVec 32) : Prop :=
  (∀ a, (k0_off639 v3030) a + S1x128.size a ≤ S10064x128.size a)
theorem k0_off639_inb : ∀ (v3030 : BitVec 32) (k0_hw319 : k0_chk319 v3030), ∀ a, (k0_off639 v3030) a + S1x128.size a ≤ S10064x128.size a := fun v3030 k0_hw319 => k0_hw319

def k0_off640 (v3034 : BitVec 32) : Fin 2 → Nat :=
  let v3041 : Index := Scalar.indexCast v3034
  let c0_1121 : Index := 0#32
  ![v3041.toNat, 0]

def k0_chk320 (v3034 : BitVec 32) : Prop :=
  (∀ a, (k0_off640 v3034) a + S1x128.size a ≤ S10064x128.size a)
theorem k0_off640_inb : ∀ (v3034 : BitVec 32) (k0_hw320 : k0_chk320 v3034), ∀ a, (k0_off640 v3034) a + S1x128.size a ≤ S10064x128.size a := fun v3034 k0_hw320 => k0_hw320

def k0_off641 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c320_i32 : BitVec 32 := 320#32
  let v3047 : BitVec 32 := Scalar.addi v5 c320_i32
  let v3048 : Index := Scalar.indexCast v3047
  ![v3048.toNat]
def k0_off642 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c320_i32_1124 : BitVec 32 := 320#32
  let v3050 : BitVec 32 := Scalar.addi v5 c320_i32_1124
  let c1_i32_1125 : BitVec 32 := 1#32
  let v3051 : BitVec 32 := Scalar.addi v3050 c1_i32_1125
  let v3052 : Index := Scalar.indexCast v3051
  ![v3052.toNat]
def k0_off643 (v3049 : BitVec 32) : Fin 2 → Nat :=
  let v3054 : Index := Scalar.indexCast v3049
  let c0_1126 : Index := 0#32
  ![v3054.toNat, 0]

def k0_chk321 (v3049 : BitVec 32) : Prop :=
  (∀ a, (k0_off643 v3049) a + S1x128.size a ≤ S10064x128.size a)
theorem k0_off643_inb : ∀ (v3049 : BitVec 32) (k0_hw321 : k0_chk321 v3049), ∀ a, (k0_off643 v3049) a + S1x128.size a ≤ S10064x128.size a := fun v3049 k0_hw321 => k0_hw321

def k0_off644 (v3053 : BitVec 32) : Fin 2 → Nat :=
  let v3060 : Index := Scalar.indexCast v3053
  let c0_1128 : Index := 0#32
  ![v3060.toNat, 0]

def k0_chk322 (v3053 : BitVec 32) : Prop :=
  (∀ a, (k0_off644 v3053) a + S1x128.size a ≤ S10064x128.size a)
theorem k0_off644_inb : ∀ (v3053 : BitVec 32) (k0_hw322 : k0_chk322 v3053), ∀ a, (k0_off644 v3053) a + S1x128.size a ≤ S10064x128.size a := fun v3053 k0_hw322 => k0_hw322

def k0_off645 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c322_i32 : BitVec 32 := 322#32
  let v3066 : BitVec 32 := Scalar.addi v5 c322_i32
  let v3067 : Index := Scalar.indexCast v3066
  ![v3067.toNat]
def k0_off646 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c322_i32_1131 : BitVec 32 := 322#32
  let v3069 : BitVec 32 := Scalar.addi v5 c322_i32_1131
  let c1_i32_1132 : BitVec 32 := 1#32
  let v3070 : BitVec 32 := Scalar.addi v3069 c1_i32_1132
  let v3071 : Index := Scalar.indexCast v3070
  ![v3071.toNat]
def k0_off647 (v3068 : BitVec 32) : Fin 2 → Nat :=
  let v3073 : Index := Scalar.indexCast v3068
  let c0_1133 : Index := 0#32
  ![v3073.toNat, 0]

def k0_chk323 (v3068 : BitVec 32) : Prop :=
  (∀ a, (k0_off647 v3068) a + S1x128.size a ≤ S10064x128.size a)
theorem k0_off647_inb : ∀ (v3068 : BitVec 32) (k0_hw323 : k0_chk323 v3068), ∀ a, (k0_off647 v3068) a + S1x128.size a ≤ S10064x128.size a := fun v3068 k0_hw323 => k0_hw323

def k0_off648 (v3072 : BitVec 32) : Fin 2 → Nat :=
  let v3079 : Index := Scalar.indexCast v3072
  let c0_1135 : Index := 0#32
  ![v3079.toNat, 0]

def k0_chk324 (v3072 : BitVec 32) : Prop :=
  (∀ a, (k0_off648 v3072) a + S1x128.size a ≤ S10064x128.size a)
theorem k0_off648_inb : ∀ (v3072 : BitVec 32) (k0_hw324 : k0_chk324 v3072), ∀ a, (k0_off648 v3072) a + S1x128.size a ≤ S10064x128.size a := fun v3072 k0_hw324 => k0_hw324

def k0_off649 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c324_i32 : BitVec 32 := 324#32
  let v3085 : BitVec 32 := Scalar.addi v5 c324_i32
  let v3086 : Index := Scalar.indexCast v3085
  ![v3086.toNat]
def k0_off650 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c324_i32_1138 : BitVec 32 := 324#32
  let v3088 : BitVec 32 := Scalar.addi v5 c324_i32_1138
  let c1_i32_1139 : BitVec 32 := 1#32
  let v3089 : BitVec 32 := Scalar.addi v3088 c1_i32_1139
  let v3090 : Index := Scalar.indexCast v3089
  ![v3090.toNat]
def k0_off651 (v3087 : BitVec 32) : Fin 2 → Nat :=
  let v3092 : Index := Scalar.indexCast v3087
  let c0_1140 : Index := 0#32
  ![v3092.toNat, 0]

def k0_chk325 (v3087 : BitVec 32) : Prop :=
  (∀ a, (k0_off651 v3087) a + S1x128.size a ≤ S10064x128.size a)
theorem k0_off651_inb : ∀ (v3087 : BitVec 32) (k0_hw325 : k0_chk325 v3087), ∀ a, (k0_off651 v3087) a + S1x128.size a ≤ S10064x128.size a := fun v3087 k0_hw325 => k0_hw325

def k0_off652 (v3091 : BitVec 32) : Fin 2 → Nat :=
  let v3098 : Index := Scalar.indexCast v3091
  let c0_1142 : Index := 0#32
  ![v3098.toNat, 0]

def k0_chk326 (v3091 : BitVec 32) : Prop :=
  (∀ a, (k0_off652 v3091) a + S1x128.size a ≤ S10064x128.size a)
theorem k0_off652_inb : ∀ (v3091 : BitVec 32) (k0_hw326 : k0_chk326 v3091), ∀ a, (k0_off652 v3091) a + S1x128.size a ≤ S10064x128.size a := fun v3091 k0_hw326 => k0_hw326

def k0_off653 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c326_i32 : BitVec 32 := 326#32
  let v3104 : BitVec 32 := Scalar.addi v5 c326_i32
  let v3105 : Index := Scalar.indexCast v3104
  ![v3105.toNat]
def k0_off654 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c326_i32_1145 : BitVec 32 := 326#32
  let v3107 : BitVec 32 := Scalar.addi v5 c326_i32_1145
  let c1_i32_1146 : BitVec 32 := 1#32
  let v3108 : BitVec 32 := Scalar.addi v3107 c1_i32_1146
  let v3109 : Index := Scalar.indexCast v3108
  ![v3109.toNat]
def k0_off655 (v3106 : BitVec 32) : Fin 2 → Nat :=
  let v3111 : Index := Scalar.indexCast v3106
  let c0_1147 : Index := 0#32
  ![v3111.toNat, 0]

def k0_chk327 (v3106 : BitVec 32) : Prop :=
  (∀ a, (k0_off655 v3106) a + S1x128.size a ≤ S10064x128.size a)
theorem k0_off655_inb : ∀ (v3106 : BitVec 32) (k0_hw327 : k0_chk327 v3106), ∀ a, (k0_off655 v3106) a + S1x128.size a ≤ S10064x128.size a := fun v3106 k0_hw327 => k0_hw327

def k0_off656 (v3110 : BitVec 32) : Fin 2 → Nat :=
  let v3117 : Index := Scalar.indexCast v3110
  let c0_1149 : Index := 0#32
  ![v3117.toNat, 0]

def k0_chk328 (v3110 : BitVec 32) : Prop :=
  (∀ a, (k0_off656 v3110) a + S1x128.size a ≤ S10064x128.size a)
theorem k0_off656_inb : ∀ (v3110 : BitVec 32) (k0_hw328 : k0_chk328 v3110), ∀ a, (k0_off656 v3110) a + S1x128.size a ≤ S10064x128.size a := fun v3110 k0_hw328 => k0_hw328

def k0_off657 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c328_i32 : BitVec 32 := 328#32
  let v3123 : BitVec 32 := Scalar.addi v5 c328_i32
  let v3124 : Index := Scalar.indexCast v3123
  ![v3124.toNat]
def k0_off658 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c328_i32_1152 : BitVec 32 := 328#32
  let v3126 : BitVec 32 := Scalar.addi v5 c328_i32_1152
  let c1_i32_1153 : BitVec 32 := 1#32
  let v3127 : BitVec 32 := Scalar.addi v3126 c1_i32_1153
  let v3128 : Index := Scalar.indexCast v3127
  ![v3128.toNat]
def k0_off659 (v3125 : BitVec 32) : Fin 2 → Nat :=
  let v3130 : Index := Scalar.indexCast v3125
  let c0_1154 : Index := 0#32
  ![v3130.toNat, 0]

def k0_chk329 (v3125 : BitVec 32) : Prop :=
  (∀ a, (k0_off659 v3125) a + S1x128.size a ≤ S10064x128.size a)
theorem k0_off659_inb : ∀ (v3125 : BitVec 32) (k0_hw329 : k0_chk329 v3125), ∀ a, (k0_off659 v3125) a + S1x128.size a ≤ S10064x128.size a := fun v3125 k0_hw329 => k0_hw329

def k0_off660 (v3129 : BitVec 32) : Fin 2 → Nat :=
  let v3136 : Index := Scalar.indexCast v3129
  let c0_1156 : Index := 0#32
  ![v3136.toNat, 0]

def k0_chk330 (v3129 : BitVec 32) : Prop :=
  (∀ a, (k0_off660 v3129) a + S1x128.size a ≤ S10064x128.size a)
theorem k0_off660_inb : ∀ (v3129 : BitVec 32) (k0_hw330 : k0_chk330 v3129), ∀ a, (k0_off660 v3129) a + S1x128.size a ≤ S10064x128.size a := fun v3129 k0_hw330 => k0_hw330

def k0_off661 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c330_i32 : BitVec 32 := 330#32
  let v3142 : BitVec 32 := Scalar.addi v5 c330_i32
  let v3143 : Index := Scalar.indexCast v3142
  ![v3143.toNat]
def k0_off662 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c330_i32_1159 : BitVec 32 := 330#32
  let v3145 : BitVec 32 := Scalar.addi v5 c330_i32_1159
  let c1_i32_1160 : BitVec 32 := 1#32
  let v3146 : BitVec 32 := Scalar.addi v3145 c1_i32_1160
  let v3147 : Index := Scalar.indexCast v3146
  ![v3147.toNat]
def k0_off663 (v3144 : BitVec 32) : Fin 2 → Nat :=
  let v3149 : Index := Scalar.indexCast v3144
  let c0_1161 : Index := 0#32
  ![v3149.toNat, 0]

def k0_chk331 (v3144 : BitVec 32) : Prop :=
  (∀ a, (k0_off663 v3144) a + S1x128.size a ≤ S10064x128.size a)
theorem k0_off663_inb : ∀ (v3144 : BitVec 32) (k0_hw331 : k0_chk331 v3144), ∀ a, (k0_off663 v3144) a + S1x128.size a ≤ S10064x128.size a := fun v3144 k0_hw331 => k0_hw331

def k0_off664 (v3148 : BitVec 32) : Fin 2 → Nat :=
  let v3155 : Index := Scalar.indexCast v3148
  let c0_1163 : Index := 0#32
  ![v3155.toNat, 0]

def k0_chk332 (v3148 : BitVec 32) : Prop :=
  (∀ a, (k0_off664 v3148) a + S1x128.size a ≤ S10064x128.size a)
theorem k0_off664_inb : ∀ (v3148 : BitVec 32) (k0_hw332 : k0_chk332 v3148), ∀ a, (k0_off664 v3148) a + S1x128.size a ≤ S10064x128.size a := fun v3148 k0_hw332 => k0_hw332

def k0_off665 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c332_i32 : BitVec 32 := 332#32
  let v3161 : BitVec 32 := Scalar.addi v5 c332_i32
  let v3162 : Index := Scalar.indexCast v3161
  ![v3162.toNat]
def k0_off666 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c332_i32_1166 : BitVec 32 := 332#32
  let v3164 : BitVec 32 := Scalar.addi v5 c332_i32_1166
  let c1_i32_1167 : BitVec 32 := 1#32
  let v3165 : BitVec 32 := Scalar.addi v3164 c1_i32_1167
  let v3166 : Index := Scalar.indexCast v3165
  ![v3166.toNat]
def k0_off667 (v3163 : BitVec 32) : Fin 2 → Nat :=
  let v3168 : Index := Scalar.indexCast v3163
  let c0_1168 : Index := 0#32
  ![v3168.toNat, 0]

def k0_chk333 (v3163 : BitVec 32) : Prop :=
  (∀ a, (k0_off667 v3163) a + S1x128.size a ≤ S10064x128.size a)
theorem k0_off667_inb : ∀ (v3163 : BitVec 32) (k0_hw333 : k0_chk333 v3163), ∀ a, (k0_off667 v3163) a + S1x128.size a ≤ S10064x128.size a := fun v3163 k0_hw333 => k0_hw333

def k0_off668 (v3167 : BitVec 32) : Fin 2 → Nat :=
  let v3174 : Index := Scalar.indexCast v3167
  let c0_1170 : Index := 0#32
  ![v3174.toNat, 0]

def k0_chk334 (v3167 : BitVec 32) : Prop :=
  (∀ a, (k0_off668 v3167) a + S1x128.size a ≤ S10064x128.size a)
theorem k0_off668_inb : ∀ (v3167 : BitVec 32) (k0_hw334 : k0_chk334 v3167), ∀ a, (k0_off668 v3167) a + S1x128.size a ≤ S10064x128.size a := fun v3167 k0_hw334 => k0_hw334

def k0_off669 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c334_i32 : BitVec 32 := 334#32
  let v3180 : BitVec 32 := Scalar.addi v5 c334_i32
  let v3181 : Index := Scalar.indexCast v3180
  ![v3181.toNat]
def k0_off670 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c334_i32_1173 : BitVec 32 := 334#32
  let v3183 : BitVec 32 := Scalar.addi v5 c334_i32_1173
  let c1_i32_1174 : BitVec 32 := 1#32
  let v3184 : BitVec 32 := Scalar.addi v3183 c1_i32_1174
  let v3185 : Index := Scalar.indexCast v3184
  ![v3185.toNat]
def k0_off671 (v3182 : BitVec 32) : Fin 2 → Nat :=
  let v3187 : Index := Scalar.indexCast v3182
  let c0_1175 : Index := 0#32
  ![v3187.toNat, 0]

def k0_chk335 (v3182 : BitVec 32) : Prop :=
  (∀ a, (k0_off671 v3182) a + S1x128.size a ≤ S10064x128.size a)
theorem k0_off671_inb : ∀ (v3182 : BitVec 32) (k0_hw335 : k0_chk335 v3182), ∀ a, (k0_off671 v3182) a + S1x128.size a ≤ S10064x128.size a := fun v3182 k0_hw335 => k0_hw335

def k0_off672 (v3186 : BitVec 32) : Fin 2 → Nat :=
  let v3193 : Index := Scalar.indexCast v3186
  let c0_1177 : Index := 0#32
  ![v3193.toNat, 0]

def k0_chk336 (v3186 : BitVec 32) : Prop :=
  (∀ a, (k0_off672 v3186) a + S1x128.size a ≤ S10064x128.size a)
theorem k0_off672_inb : ∀ (v3186 : BitVec 32) (k0_hw336 : k0_chk336 v3186), ∀ a, (k0_off672 v3186) a + S1x128.size a ≤ S10064x128.size a := fun v3186 k0_hw336 => k0_hw336

def k0_off673 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c336_i32 : BitVec 32 := 336#32
  let v3199 : BitVec 32 := Scalar.addi v5 c336_i32
  let v3200 : Index := Scalar.indexCast v3199
  ![v3200.toNat]
def k0_off674 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c336_i32_1180 : BitVec 32 := 336#32
  let v3202 : BitVec 32 := Scalar.addi v5 c336_i32_1180
  let c1_i32_1181 : BitVec 32 := 1#32
  let v3203 : BitVec 32 := Scalar.addi v3202 c1_i32_1181
  let v3204 : Index := Scalar.indexCast v3203
  ![v3204.toNat]
def k0_off675 (v3201 : BitVec 32) : Fin 2 → Nat :=
  let v3206 : Index := Scalar.indexCast v3201
  let c0_1182 : Index := 0#32
  ![v3206.toNat, 0]

def k0_chk337 (v3201 : BitVec 32) : Prop :=
  (∀ a, (k0_off675 v3201) a + S1x128.size a ≤ S10064x128.size a)
theorem k0_off675_inb : ∀ (v3201 : BitVec 32) (k0_hw337 : k0_chk337 v3201), ∀ a, (k0_off675 v3201) a + S1x128.size a ≤ S10064x128.size a := fun v3201 k0_hw337 => k0_hw337

def k0_off676 (v3205 : BitVec 32) : Fin 2 → Nat :=
  let v3212 : Index := Scalar.indexCast v3205
  let c0_1184 : Index := 0#32
  ![v3212.toNat, 0]

def k0_chk338 (v3205 : BitVec 32) : Prop :=
  (∀ a, (k0_off676 v3205) a + S1x128.size a ≤ S10064x128.size a)
theorem k0_off676_inb : ∀ (v3205 : BitVec 32) (k0_hw338 : k0_chk338 v3205), ∀ a, (k0_off676 v3205) a + S1x128.size a ≤ S10064x128.size a := fun v3205 k0_hw338 => k0_hw338

def k0_off677 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c338_i32 : BitVec 32 := 338#32
  let v3218 : BitVec 32 := Scalar.addi v5 c338_i32
  let v3219 : Index := Scalar.indexCast v3218
  ![v3219.toNat]
def k0_off678 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c338_i32_1187 : BitVec 32 := 338#32
  let v3221 : BitVec 32 := Scalar.addi v5 c338_i32_1187
  let c1_i32_1188 : BitVec 32 := 1#32
  let v3222 : BitVec 32 := Scalar.addi v3221 c1_i32_1188
  let v3223 : Index := Scalar.indexCast v3222
  ![v3223.toNat]
def k0_off679 (v3220 : BitVec 32) : Fin 2 → Nat :=
  let v3225 : Index := Scalar.indexCast v3220
  let c0_1189 : Index := 0#32
  ![v3225.toNat, 0]

def k0_chk339 (v3220 : BitVec 32) : Prop :=
  (∀ a, (k0_off679 v3220) a + S1x128.size a ≤ S10064x128.size a)
theorem k0_off679_inb : ∀ (v3220 : BitVec 32) (k0_hw339 : k0_chk339 v3220), ∀ a, (k0_off679 v3220) a + S1x128.size a ≤ S10064x128.size a := fun v3220 k0_hw339 => k0_hw339

def k0_off680 (v3224 : BitVec 32) : Fin 2 → Nat :=
  let v3231 : Index := Scalar.indexCast v3224
  let c0_1191 : Index := 0#32
  ![v3231.toNat, 0]

def k0_chk340 (v3224 : BitVec 32) : Prop :=
  (∀ a, (k0_off680 v3224) a + S1x128.size a ≤ S10064x128.size a)
theorem k0_off680_inb : ∀ (v3224 : BitVec 32) (k0_hw340 : k0_chk340 v3224), ∀ a, (k0_off680 v3224) a + S1x128.size a ≤ S10064x128.size a := fun v3224 k0_hw340 => k0_hw340

def k0_off681 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c340_i32 : BitVec 32 := 340#32
  let v3237 : BitVec 32 := Scalar.addi v5 c340_i32
  let v3238 : Index := Scalar.indexCast v3237
  ![v3238.toNat]
def k0_off682 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c340_i32_1194 : BitVec 32 := 340#32
  let v3240 : BitVec 32 := Scalar.addi v5 c340_i32_1194
  let c1_i32_1195 : BitVec 32 := 1#32
  let v3241 : BitVec 32 := Scalar.addi v3240 c1_i32_1195
  let v3242 : Index := Scalar.indexCast v3241
  ![v3242.toNat]
def k0_off683 (v3239 : BitVec 32) : Fin 2 → Nat :=
  let v3244 : Index := Scalar.indexCast v3239
  let c0_1196 : Index := 0#32
  ![v3244.toNat, 0]

def k0_chk341 (v3239 : BitVec 32) : Prop :=
  (∀ a, (k0_off683 v3239) a + S1x128.size a ≤ S10064x128.size a)
theorem k0_off683_inb : ∀ (v3239 : BitVec 32) (k0_hw341 : k0_chk341 v3239), ∀ a, (k0_off683 v3239) a + S1x128.size a ≤ S10064x128.size a := fun v3239 k0_hw341 => k0_hw341

def k0_off684 (v3243 : BitVec 32) : Fin 2 → Nat :=
  let v3250 : Index := Scalar.indexCast v3243
  let c0_1198 : Index := 0#32
  ![v3250.toNat, 0]

def k0_chk342 (v3243 : BitVec 32) : Prop :=
  (∀ a, (k0_off684 v3243) a + S1x128.size a ≤ S10064x128.size a)
theorem k0_off684_inb : ∀ (v3243 : BitVec 32) (k0_hw342 : k0_chk342 v3243), ∀ a, (k0_off684 v3243) a + S1x128.size a ≤ S10064x128.size a := fun v3243 k0_hw342 => k0_hw342

def k0_off685 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c342_i32 : BitVec 32 := 342#32
  let v3256 : BitVec 32 := Scalar.addi v5 c342_i32
  let v3257 : Index := Scalar.indexCast v3256
  ![v3257.toNat]
def k0_off686 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c342_i32_1201 : BitVec 32 := 342#32
  let v3259 : BitVec 32 := Scalar.addi v5 c342_i32_1201
  let c1_i32_1202 : BitVec 32 := 1#32
  let v3260 : BitVec 32 := Scalar.addi v3259 c1_i32_1202
  let v3261 : Index := Scalar.indexCast v3260
  ![v3261.toNat]
def k0_off687 (v3258 : BitVec 32) : Fin 2 → Nat :=
  let v3263 : Index := Scalar.indexCast v3258
  let c0_1203 : Index := 0#32
  ![v3263.toNat, 0]

def k0_chk343 (v3258 : BitVec 32) : Prop :=
  (∀ a, (k0_off687 v3258) a + S1x128.size a ≤ S10064x128.size a)
theorem k0_off687_inb : ∀ (v3258 : BitVec 32) (k0_hw343 : k0_chk343 v3258), ∀ a, (k0_off687 v3258) a + S1x128.size a ≤ S10064x128.size a := fun v3258 k0_hw343 => k0_hw343

def k0_off688 (v3262 : BitVec 32) : Fin 2 → Nat :=
  let v3269 : Index := Scalar.indexCast v3262
  let c0_1205 : Index := 0#32
  ![v3269.toNat, 0]

def k0_chk344 (v3262 : BitVec 32) : Prop :=
  (∀ a, (k0_off688 v3262) a + S1x128.size a ≤ S10064x128.size a)
theorem k0_off688_inb : ∀ (v3262 : BitVec 32) (k0_hw344 : k0_chk344 v3262), ∀ a, (k0_off688 v3262) a + S1x128.size a ≤ S10064x128.size a := fun v3262 k0_hw344 => k0_hw344

def k0_off689 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c344_i32 : BitVec 32 := 344#32
  let v3275 : BitVec 32 := Scalar.addi v5 c344_i32
  let v3276 : Index := Scalar.indexCast v3275
  ![v3276.toNat]
def k0_off690 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c344_i32_1208 : BitVec 32 := 344#32
  let v3278 : BitVec 32 := Scalar.addi v5 c344_i32_1208
  let c1_i32_1209 : BitVec 32 := 1#32
  let v3279 : BitVec 32 := Scalar.addi v3278 c1_i32_1209
  let v3280 : Index := Scalar.indexCast v3279
  ![v3280.toNat]
def k0_off691 (v3277 : BitVec 32) : Fin 2 → Nat :=
  let v3282 : Index := Scalar.indexCast v3277
  let c0_1210 : Index := 0#32
  ![v3282.toNat, 0]

def k0_chk345 (v3277 : BitVec 32) : Prop :=
  (∀ a, (k0_off691 v3277) a + S1x128.size a ≤ S10064x128.size a)
theorem k0_off691_inb : ∀ (v3277 : BitVec 32) (k0_hw345 : k0_chk345 v3277), ∀ a, (k0_off691 v3277) a + S1x128.size a ≤ S10064x128.size a := fun v3277 k0_hw345 => k0_hw345

def k0_off692 (v3281 : BitVec 32) : Fin 2 → Nat :=
  let v3288 : Index := Scalar.indexCast v3281
  let c0_1212 : Index := 0#32
  ![v3288.toNat, 0]

def k0_chk346 (v3281 : BitVec 32) : Prop :=
  (∀ a, (k0_off692 v3281) a + S1x128.size a ≤ S10064x128.size a)
theorem k0_off692_inb : ∀ (v3281 : BitVec 32) (k0_hw346 : k0_chk346 v3281), ∀ a, (k0_off692 v3281) a + S1x128.size a ≤ S10064x128.size a := fun v3281 k0_hw346 => k0_hw346

def k0_off693 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c346_i32 : BitVec 32 := 346#32
  let v3294 : BitVec 32 := Scalar.addi v5 c346_i32
  let v3295 : Index := Scalar.indexCast v3294
  ![v3295.toNat]
def k0_off694 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c346_i32_1215 : BitVec 32 := 346#32
  let v3297 : BitVec 32 := Scalar.addi v5 c346_i32_1215
  let c1_i32_1216 : BitVec 32 := 1#32
  let v3298 : BitVec 32 := Scalar.addi v3297 c1_i32_1216
  let v3299 : Index := Scalar.indexCast v3298
  ![v3299.toNat]
def k0_off695 (v3296 : BitVec 32) : Fin 2 → Nat :=
  let v3301 : Index := Scalar.indexCast v3296
  let c0_1217 : Index := 0#32
  ![v3301.toNat, 0]

def k0_chk347 (v3296 : BitVec 32) : Prop :=
  (∀ a, (k0_off695 v3296) a + S1x128.size a ≤ S10064x128.size a)
theorem k0_off695_inb : ∀ (v3296 : BitVec 32) (k0_hw347 : k0_chk347 v3296), ∀ a, (k0_off695 v3296) a + S1x128.size a ≤ S10064x128.size a := fun v3296 k0_hw347 => k0_hw347

def k0_off696 (v3300 : BitVec 32) : Fin 2 → Nat :=
  let v3307 : Index := Scalar.indexCast v3300
  let c0_1219 : Index := 0#32
  ![v3307.toNat, 0]

def k0_chk348 (v3300 : BitVec 32) : Prop :=
  (∀ a, (k0_off696 v3300) a + S1x128.size a ≤ S10064x128.size a)
theorem k0_off696_inb : ∀ (v3300 : BitVec 32) (k0_hw348 : k0_chk348 v3300), ∀ a, (k0_off696 v3300) a + S1x128.size a ≤ S10064x128.size a := fun v3300 k0_hw348 => k0_hw348

def k0_off697 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c348_i32 : BitVec 32 := 348#32
  let v3313 : BitVec 32 := Scalar.addi v5 c348_i32
  let v3314 : Index := Scalar.indexCast v3313
  ![v3314.toNat]
def k0_off698 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c348_i32_1222 : BitVec 32 := 348#32
  let v3316 : BitVec 32 := Scalar.addi v5 c348_i32_1222
  let c1_i32_1223 : BitVec 32 := 1#32
  let v3317 : BitVec 32 := Scalar.addi v3316 c1_i32_1223
  let v3318 : Index := Scalar.indexCast v3317
  ![v3318.toNat]
def k0_off699 (v3315 : BitVec 32) : Fin 2 → Nat :=
  let v3320 : Index := Scalar.indexCast v3315
  let c0_1224 : Index := 0#32
  ![v3320.toNat, 0]

def k0_chk349 (v3315 : BitVec 32) : Prop :=
  (∀ a, (k0_off699 v3315) a + S1x128.size a ≤ S10064x128.size a)
theorem k0_off699_inb : ∀ (v3315 : BitVec 32) (k0_hw349 : k0_chk349 v3315), ∀ a, (k0_off699 v3315) a + S1x128.size a ≤ S10064x128.size a := fun v3315 k0_hw349 => k0_hw349

def k0_off700 (v3319 : BitVec 32) : Fin 2 → Nat :=
  let v3326 : Index := Scalar.indexCast v3319
  let c0_1226 : Index := 0#32
  ![v3326.toNat, 0]

def k0_chk350 (v3319 : BitVec 32) : Prop :=
  (∀ a, (k0_off700 v3319) a + S1x128.size a ≤ S10064x128.size a)
theorem k0_off700_inb : ∀ (v3319 : BitVec 32) (k0_hw350 : k0_chk350 v3319), ∀ a, (k0_off700 v3319) a + S1x128.size a ≤ S10064x128.size a := fun v3319 k0_hw350 => k0_hw350

def k0_off701 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c350_i32 : BitVec 32 := 350#32
  let v3332 : BitVec 32 := Scalar.addi v5 c350_i32
  let v3333 : Index := Scalar.indexCast v3332
  ![v3333.toNat]
def k0_off702 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c350_i32_1229 : BitVec 32 := 350#32
  let v3335 : BitVec 32 := Scalar.addi v5 c350_i32_1229
  let c1_i32_1230 : BitVec 32 := 1#32
  let v3336 : BitVec 32 := Scalar.addi v3335 c1_i32_1230
  let v3337 : Index := Scalar.indexCast v3336
  ![v3337.toNat]
def k0_off703 (v3334 : BitVec 32) : Fin 2 → Nat :=
  let v3339 : Index := Scalar.indexCast v3334
  let c0_1231 : Index := 0#32
  ![v3339.toNat, 0]

def k0_chk351 (v3334 : BitVec 32) : Prop :=
  (∀ a, (k0_off703 v3334) a + S1x128.size a ≤ S10064x128.size a)
theorem k0_off703_inb : ∀ (v3334 : BitVec 32) (k0_hw351 : k0_chk351 v3334), ∀ a, (k0_off703 v3334) a + S1x128.size a ≤ S10064x128.size a := fun v3334 k0_hw351 => k0_hw351

def k0_off704 (v3338 : BitVec 32) : Fin 2 → Nat :=
  let v3345 : Index := Scalar.indexCast v3338
  let c0_1233 : Index := 0#32
  ![v3345.toNat, 0]

def k0_chk352 (v3338 : BitVec 32) : Prop :=
  (∀ a, (k0_off704 v3338) a + S1x128.size a ≤ S10064x128.size a)
theorem k0_off704_inb : ∀ (v3338 : BitVec 32) (k0_hw352 : k0_chk352 v3338), ∀ a, (k0_off704 v3338) a + S1x128.size a ≤ S10064x128.size a := fun v3338 k0_hw352 => k0_hw352

def k0_off705 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c352_i32 : BitVec 32 := 352#32
  let v3351 : BitVec 32 := Scalar.addi v5 c352_i32
  let v3352 : Index := Scalar.indexCast v3351
  ![v3352.toNat]
def k0_off706 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c352_i32_1236 : BitVec 32 := 352#32
  let v3354 : BitVec 32 := Scalar.addi v5 c352_i32_1236
  let c1_i32_1237 : BitVec 32 := 1#32
  let v3355 : BitVec 32 := Scalar.addi v3354 c1_i32_1237
  let v3356 : Index := Scalar.indexCast v3355
  ![v3356.toNat]
def k0_off707 (v3353 : BitVec 32) : Fin 2 → Nat :=
  let v3358 : Index := Scalar.indexCast v3353
  let c0_1238 : Index := 0#32
  ![v3358.toNat, 0]

def k0_chk353 (v3353 : BitVec 32) : Prop :=
  (∀ a, (k0_off707 v3353) a + S1x128.size a ≤ S10064x128.size a)
theorem k0_off707_inb : ∀ (v3353 : BitVec 32) (k0_hw353 : k0_chk353 v3353), ∀ a, (k0_off707 v3353) a + S1x128.size a ≤ S10064x128.size a := fun v3353 k0_hw353 => k0_hw353

def k0_off708 (v3357 : BitVec 32) : Fin 2 → Nat :=
  let v3364 : Index := Scalar.indexCast v3357
  let c0_1240 : Index := 0#32
  ![v3364.toNat, 0]

def k0_chk354 (v3357 : BitVec 32) : Prop :=
  (∀ a, (k0_off708 v3357) a + S1x128.size a ≤ S10064x128.size a)
theorem k0_off708_inb : ∀ (v3357 : BitVec 32) (k0_hw354 : k0_chk354 v3357), ∀ a, (k0_off708 v3357) a + S1x128.size a ≤ S10064x128.size a := fun v3357 k0_hw354 => k0_hw354

def k0_off709 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c354_i32 : BitVec 32 := 354#32
  let v3370 : BitVec 32 := Scalar.addi v5 c354_i32
  let v3371 : Index := Scalar.indexCast v3370
  ![v3371.toNat]
def k0_off710 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c354_i32_1243 : BitVec 32 := 354#32
  let v3373 : BitVec 32 := Scalar.addi v5 c354_i32_1243
  let c1_i32_1244 : BitVec 32 := 1#32
  let v3374 : BitVec 32 := Scalar.addi v3373 c1_i32_1244
  let v3375 : Index := Scalar.indexCast v3374
  ![v3375.toNat]
def k0_off711 (v3372 : BitVec 32) : Fin 2 → Nat :=
  let v3377 : Index := Scalar.indexCast v3372
  let c0_1245 : Index := 0#32
  ![v3377.toNat, 0]

def k0_chk355 (v3372 : BitVec 32) : Prop :=
  (∀ a, (k0_off711 v3372) a + S1x128.size a ≤ S10064x128.size a)
theorem k0_off711_inb : ∀ (v3372 : BitVec 32) (k0_hw355 : k0_chk355 v3372), ∀ a, (k0_off711 v3372) a + S1x128.size a ≤ S10064x128.size a := fun v3372 k0_hw355 => k0_hw355

def k0_off712 (v3376 : BitVec 32) : Fin 2 → Nat :=
  let v3383 : Index := Scalar.indexCast v3376
  let c0_1247 : Index := 0#32
  ![v3383.toNat, 0]

def k0_chk356 (v3376 : BitVec 32) : Prop :=
  (∀ a, (k0_off712 v3376) a + S1x128.size a ≤ S10064x128.size a)
theorem k0_off712_inb : ∀ (v3376 : BitVec 32) (k0_hw356 : k0_chk356 v3376), ∀ a, (k0_off712 v3376) a + S1x128.size a ≤ S10064x128.size a := fun v3376 k0_hw356 => k0_hw356

def k0_off713 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c356_i32 : BitVec 32 := 356#32
  let v3389 : BitVec 32 := Scalar.addi v5 c356_i32
  let v3390 : Index := Scalar.indexCast v3389
  ![v3390.toNat]
def k0_off714 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c356_i32_1250 : BitVec 32 := 356#32
  let v3392 : BitVec 32 := Scalar.addi v5 c356_i32_1250
  let c1_i32_1251 : BitVec 32 := 1#32
  let v3393 : BitVec 32 := Scalar.addi v3392 c1_i32_1251
  let v3394 : Index := Scalar.indexCast v3393
  ![v3394.toNat]
def k0_off715 (v3391 : BitVec 32) : Fin 2 → Nat :=
  let v3396 : Index := Scalar.indexCast v3391
  let c0_1252 : Index := 0#32
  ![v3396.toNat, 0]

def k0_chk357 (v3391 : BitVec 32) : Prop :=
  (∀ a, (k0_off715 v3391) a + S1x128.size a ≤ S10064x128.size a)
theorem k0_off715_inb : ∀ (v3391 : BitVec 32) (k0_hw357 : k0_chk357 v3391), ∀ a, (k0_off715 v3391) a + S1x128.size a ≤ S10064x128.size a := fun v3391 k0_hw357 => k0_hw357

def k0_off716 (v3395 : BitVec 32) : Fin 2 → Nat :=
  let v3402 : Index := Scalar.indexCast v3395
  let c0_1254 : Index := 0#32
  ![v3402.toNat, 0]

def k0_chk358 (v3395 : BitVec 32) : Prop :=
  (∀ a, (k0_off716 v3395) a + S1x128.size a ≤ S10064x128.size a)
theorem k0_off716_inb : ∀ (v3395 : BitVec 32) (k0_hw358 : k0_chk358 v3395), ∀ a, (k0_off716 v3395) a + S1x128.size a ≤ S10064x128.size a := fun v3395 k0_hw358 => k0_hw358

def k0_off717 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c358_i32 : BitVec 32 := 358#32
  let v3408 : BitVec 32 := Scalar.addi v5 c358_i32
  let v3409 : Index := Scalar.indexCast v3408
  ![v3409.toNat]
def k0_off718 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c358_i32_1257 : BitVec 32 := 358#32
  let v3411 : BitVec 32 := Scalar.addi v5 c358_i32_1257
  let c1_i32_1258 : BitVec 32 := 1#32
  let v3412 : BitVec 32 := Scalar.addi v3411 c1_i32_1258
  let v3413 : Index := Scalar.indexCast v3412
  ![v3413.toNat]
def k0_off719 (v3410 : BitVec 32) : Fin 2 → Nat :=
  let v3415 : Index := Scalar.indexCast v3410
  let c0_1259 : Index := 0#32
  ![v3415.toNat, 0]

def k0_chk359 (v3410 : BitVec 32) : Prop :=
  (∀ a, (k0_off719 v3410) a + S1x128.size a ≤ S10064x128.size a)
theorem k0_off719_inb : ∀ (v3410 : BitVec 32) (k0_hw359 : k0_chk359 v3410), ∀ a, (k0_off719 v3410) a + S1x128.size a ≤ S10064x128.size a := fun v3410 k0_hw359 => k0_hw359

def k0_off720 (v3414 : BitVec 32) : Fin 2 → Nat :=
  let v3421 : Index := Scalar.indexCast v3414
  let c0_1261 : Index := 0#32
  ![v3421.toNat, 0]

def k0_chk360 (v3414 : BitVec 32) : Prop :=
  (∀ a, (k0_off720 v3414) a + S1x128.size a ≤ S10064x128.size a)
theorem k0_off720_inb : ∀ (v3414 : BitVec 32) (k0_hw360 : k0_chk360 v3414), ∀ a, (k0_off720 v3414) a + S1x128.size a ≤ S10064x128.size a := fun v3414 k0_hw360 => k0_hw360

def k0_off721 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c360_i32 : BitVec 32 := 360#32
  let v3427 : BitVec 32 := Scalar.addi v5 c360_i32
  let v3428 : Index := Scalar.indexCast v3427
  ![v3428.toNat]
def k0_off722 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c360_i32_1264 : BitVec 32 := 360#32
  let v3430 : BitVec 32 := Scalar.addi v5 c360_i32_1264
  let c1_i32_1265 : BitVec 32 := 1#32
  let v3431 : BitVec 32 := Scalar.addi v3430 c1_i32_1265
  let v3432 : Index := Scalar.indexCast v3431
  ![v3432.toNat]
def k0_off723 (v3429 : BitVec 32) : Fin 2 → Nat :=
  let v3434 : Index := Scalar.indexCast v3429
  let c0_1266 : Index := 0#32
  ![v3434.toNat, 0]

def k0_chk361 (v3429 : BitVec 32) : Prop :=
  (∀ a, (k0_off723 v3429) a + S1x128.size a ≤ S10064x128.size a)
theorem k0_off723_inb : ∀ (v3429 : BitVec 32) (k0_hw361 : k0_chk361 v3429), ∀ a, (k0_off723 v3429) a + S1x128.size a ≤ S10064x128.size a := fun v3429 k0_hw361 => k0_hw361

def k0_off724 (v3433 : BitVec 32) : Fin 2 → Nat :=
  let v3440 : Index := Scalar.indexCast v3433
  let c0_1268 : Index := 0#32
  ![v3440.toNat, 0]

def k0_chk362 (v3433 : BitVec 32) : Prop :=
  (∀ a, (k0_off724 v3433) a + S1x128.size a ≤ S10064x128.size a)
theorem k0_off724_inb : ∀ (v3433 : BitVec 32) (k0_hw362 : k0_chk362 v3433), ∀ a, (k0_off724 v3433) a + S1x128.size a ≤ S10064x128.size a := fun v3433 k0_hw362 => k0_hw362

def k0_off725 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c362_i32 : BitVec 32 := 362#32
  let v3446 : BitVec 32 := Scalar.addi v5 c362_i32
  let v3447 : Index := Scalar.indexCast v3446
  ![v3447.toNat]
def k0_off726 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c362_i32_1271 : BitVec 32 := 362#32
  let v3449 : BitVec 32 := Scalar.addi v5 c362_i32_1271
  let c1_i32_1272 : BitVec 32 := 1#32
  let v3450 : BitVec 32 := Scalar.addi v3449 c1_i32_1272
  let v3451 : Index := Scalar.indexCast v3450
  ![v3451.toNat]
def k0_off727 (v3448 : BitVec 32) : Fin 2 → Nat :=
  let v3453 : Index := Scalar.indexCast v3448
  let c0_1273 : Index := 0#32
  ![v3453.toNat, 0]

def k0_chk363 (v3448 : BitVec 32) : Prop :=
  (∀ a, (k0_off727 v3448) a + S1x128.size a ≤ S10064x128.size a)
theorem k0_off727_inb : ∀ (v3448 : BitVec 32) (k0_hw363 : k0_chk363 v3448), ∀ a, (k0_off727 v3448) a + S1x128.size a ≤ S10064x128.size a := fun v3448 k0_hw363 => k0_hw363

def k0_off728 (v3452 : BitVec 32) : Fin 2 → Nat :=
  let v3459 : Index := Scalar.indexCast v3452
  let c0_1275 : Index := 0#32
  ![v3459.toNat, 0]

def k0_chk364 (v3452 : BitVec 32) : Prop :=
  (∀ a, (k0_off728 v3452) a + S1x128.size a ≤ S10064x128.size a)
theorem k0_off728_inb : ∀ (v3452 : BitVec 32) (k0_hw364 : k0_chk364 v3452), ∀ a, (k0_off728 v3452) a + S1x128.size a ≤ S10064x128.size a := fun v3452 k0_hw364 => k0_hw364

def k0_off729 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c364_i32 : BitVec 32 := 364#32
  let v3465 : BitVec 32 := Scalar.addi v5 c364_i32
  let v3466 : Index := Scalar.indexCast v3465
  ![v3466.toNat]
def k0_off730 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c364_i32_1278 : BitVec 32 := 364#32
  let v3468 : BitVec 32 := Scalar.addi v5 c364_i32_1278
  let c1_i32_1279 : BitVec 32 := 1#32
  let v3469 : BitVec 32 := Scalar.addi v3468 c1_i32_1279
  let v3470 : Index := Scalar.indexCast v3469
  ![v3470.toNat]
def k0_off731 (v3467 : BitVec 32) : Fin 2 → Nat :=
  let v3472 : Index := Scalar.indexCast v3467
  let c0_1280 : Index := 0#32
  ![v3472.toNat, 0]

def k0_chk365 (v3467 : BitVec 32) : Prop :=
  (∀ a, (k0_off731 v3467) a + S1x128.size a ≤ S10064x128.size a)
theorem k0_off731_inb : ∀ (v3467 : BitVec 32) (k0_hw365 : k0_chk365 v3467), ∀ a, (k0_off731 v3467) a + S1x128.size a ≤ S10064x128.size a := fun v3467 k0_hw365 => k0_hw365

def k0_off732 (v3471 : BitVec 32) : Fin 2 → Nat :=
  let v3478 : Index := Scalar.indexCast v3471
  let c0_1282 : Index := 0#32
  ![v3478.toNat, 0]

def k0_chk366 (v3471 : BitVec 32) : Prop :=
  (∀ a, (k0_off732 v3471) a + S1x128.size a ≤ S10064x128.size a)
theorem k0_off732_inb : ∀ (v3471 : BitVec 32) (k0_hw366 : k0_chk366 v3471), ∀ a, (k0_off732 v3471) a + S1x128.size a ≤ S10064x128.size a := fun v3471 k0_hw366 => k0_hw366

def k0_off733 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c366_i32 : BitVec 32 := 366#32
  let v3484 : BitVec 32 := Scalar.addi v5 c366_i32
  let v3485 : Index := Scalar.indexCast v3484
  ![v3485.toNat]
def k0_off734 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c366_i32_1285 : BitVec 32 := 366#32
  let v3487 : BitVec 32 := Scalar.addi v5 c366_i32_1285
  let c1_i32_1286 : BitVec 32 := 1#32
  let v3488 : BitVec 32 := Scalar.addi v3487 c1_i32_1286
  let v3489 : Index := Scalar.indexCast v3488
  ![v3489.toNat]
def k0_off735 (v3486 : BitVec 32) : Fin 2 → Nat :=
  let v3491 : Index := Scalar.indexCast v3486
  let c0_1287 : Index := 0#32
  ![v3491.toNat, 0]

def k0_chk367 (v3486 : BitVec 32) : Prop :=
  (∀ a, (k0_off735 v3486) a + S1x128.size a ≤ S10064x128.size a)
theorem k0_off735_inb : ∀ (v3486 : BitVec 32) (k0_hw367 : k0_chk367 v3486), ∀ a, (k0_off735 v3486) a + S1x128.size a ≤ S10064x128.size a := fun v3486 k0_hw367 => k0_hw367

def k0_off736 (v3490 : BitVec 32) : Fin 2 → Nat :=
  let v3497 : Index := Scalar.indexCast v3490
  let c0_1289 : Index := 0#32
  ![v3497.toNat, 0]

def k0_chk368 (v3490 : BitVec 32) : Prop :=
  (∀ a, (k0_off736 v3490) a + S1x128.size a ≤ S10064x128.size a)
theorem k0_off736_inb : ∀ (v3490 : BitVec 32) (k0_hw368 : k0_chk368 v3490), ∀ a, (k0_off736 v3490) a + S1x128.size a ≤ S10064x128.size a := fun v3490 k0_hw368 => k0_hw368

def k0_off737 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c368_i32 : BitVec 32 := 368#32
  let v3503 : BitVec 32 := Scalar.addi v5 c368_i32
  let v3504 : Index := Scalar.indexCast v3503
  ![v3504.toNat]
def k0_off738 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c368_i32_1292 : BitVec 32 := 368#32
  let v3506 : BitVec 32 := Scalar.addi v5 c368_i32_1292
  let c1_i32_1293 : BitVec 32 := 1#32
  let v3507 : BitVec 32 := Scalar.addi v3506 c1_i32_1293
  let v3508 : Index := Scalar.indexCast v3507
  ![v3508.toNat]
def k0_off739 (v3505 : BitVec 32) : Fin 2 → Nat :=
  let v3510 : Index := Scalar.indexCast v3505
  let c0_1294 : Index := 0#32
  ![v3510.toNat, 0]

def k0_chk369 (v3505 : BitVec 32) : Prop :=
  (∀ a, (k0_off739 v3505) a + S1x128.size a ≤ S10064x128.size a)
theorem k0_off739_inb : ∀ (v3505 : BitVec 32) (k0_hw369 : k0_chk369 v3505), ∀ a, (k0_off739 v3505) a + S1x128.size a ≤ S10064x128.size a := fun v3505 k0_hw369 => k0_hw369

def k0_off740 (v3509 : BitVec 32) : Fin 2 → Nat :=
  let v3516 : Index := Scalar.indexCast v3509
  let c0_1296 : Index := 0#32
  ![v3516.toNat, 0]

def k0_chk370 (v3509 : BitVec 32) : Prop :=
  (∀ a, (k0_off740 v3509) a + S1x128.size a ≤ S10064x128.size a)
theorem k0_off740_inb : ∀ (v3509 : BitVec 32) (k0_hw370 : k0_chk370 v3509), ∀ a, (k0_off740 v3509) a + S1x128.size a ≤ S10064x128.size a := fun v3509 k0_hw370 => k0_hw370

def k0_off741 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c370_i32 : BitVec 32 := 370#32
  let v3522 : BitVec 32 := Scalar.addi v5 c370_i32
  let v3523 : Index := Scalar.indexCast v3522
  ![v3523.toNat]
def k0_off742 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c370_i32_1299 : BitVec 32 := 370#32
  let v3525 : BitVec 32 := Scalar.addi v5 c370_i32_1299
  let c1_i32_1300 : BitVec 32 := 1#32
  let v3526 : BitVec 32 := Scalar.addi v3525 c1_i32_1300
  let v3527 : Index := Scalar.indexCast v3526
  ![v3527.toNat]
def k0_off743 (v3524 : BitVec 32) : Fin 2 → Nat :=
  let v3529 : Index := Scalar.indexCast v3524
  let c0_1301 : Index := 0#32
  ![v3529.toNat, 0]

def k0_chk371 (v3524 : BitVec 32) : Prop :=
  (∀ a, (k0_off743 v3524) a + S1x128.size a ≤ S10064x128.size a)
theorem k0_off743_inb : ∀ (v3524 : BitVec 32) (k0_hw371 : k0_chk371 v3524), ∀ a, (k0_off743 v3524) a + S1x128.size a ≤ S10064x128.size a := fun v3524 k0_hw371 => k0_hw371

def k0_off744 (v3528 : BitVec 32) : Fin 2 → Nat :=
  let v3535 : Index := Scalar.indexCast v3528
  let c0_1303 : Index := 0#32
  ![v3535.toNat, 0]

def k0_chk372 (v3528 : BitVec 32) : Prop :=
  (∀ a, (k0_off744 v3528) a + S1x128.size a ≤ S10064x128.size a)
theorem k0_off744_inb : ∀ (v3528 : BitVec 32) (k0_hw372 : k0_chk372 v3528), ∀ a, (k0_off744 v3528) a + S1x128.size a ≤ S10064x128.size a := fun v3528 k0_hw372 => k0_hw372

def k0_off745 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c372_i32 : BitVec 32 := 372#32
  let v3541 : BitVec 32 := Scalar.addi v5 c372_i32
  let v3542 : Index := Scalar.indexCast v3541
  ![v3542.toNat]
def k0_off746 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c372_i32_1306 : BitVec 32 := 372#32
  let v3544 : BitVec 32 := Scalar.addi v5 c372_i32_1306
  let c1_i32_1307 : BitVec 32 := 1#32
  let v3545 : BitVec 32 := Scalar.addi v3544 c1_i32_1307
  let v3546 : Index := Scalar.indexCast v3545
  ![v3546.toNat]
def k0_off747 (v3543 : BitVec 32) : Fin 2 → Nat :=
  let v3548 : Index := Scalar.indexCast v3543
  let c0_1308 : Index := 0#32
  ![v3548.toNat, 0]

def k0_chk373 (v3543 : BitVec 32) : Prop :=
  (∀ a, (k0_off747 v3543) a + S1x128.size a ≤ S10064x128.size a)
theorem k0_off747_inb : ∀ (v3543 : BitVec 32) (k0_hw373 : k0_chk373 v3543), ∀ a, (k0_off747 v3543) a + S1x128.size a ≤ S10064x128.size a := fun v3543 k0_hw373 => k0_hw373

def k0_off748 (v3547 : BitVec 32) : Fin 2 → Nat :=
  let v3554 : Index := Scalar.indexCast v3547
  let c0_1310 : Index := 0#32
  ![v3554.toNat, 0]

def k0_chk374 (v3547 : BitVec 32) : Prop :=
  (∀ a, (k0_off748 v3547) a + S1x128.size a ≤ S10064x128.size a)
theorem k0_off748_inb : ∀ (v3547 : BitVec 32) (k0_hw374 : k0_chk374 v3547), ∀ a, (k0_off748 v3547) a + S1x128.size a ≤ S10064x128.size a := fun v3547 k0_hw374 => k0_hw374

def k0_off749 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c374_i32 : BitVec 32 := 374#32
  let v3560 : BitVec 32 := Scalar.addi v5 c374_i32
  let v3561 : Index := Scalar.indexCast v3560
  ![v3561.toNat]
def k0_off750 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c374_i32_1313 : BitVec 32 := 374#32
  let v3563 : BitVec 32 := Scalar.addi v5 c374_i32_1313
  let c1_i32_1314 : BitVec 32 := 1#32
  let v3564 : BitVec 32 := Scalar.addi v3563 c1_i32_1314
  let v3565 : Index := Scalar.indexCast v3564
  ![v3565.toNat]
def k0_off751 (v3562 : BitVec 32) : Fin 2 → Nat :=
  let v3567 : Index := Scalar.indexCast v3562
  let c0_1315 : Index := 0#32
  ![v3567.toNat, 0]

def k0_chk375 (v3562 : BitVec 32) : Prop :=
  (∀ a, (k0_off751 v3562) a + S1x128.size a ≤ S10064x128.size a)
theorem k0_off751_inb : ∀ (v3562 : BitVec 32) (k0_hw375 : k0_chk375 v3562), ∀ a, (k0_off751 v3562) a + S1x128.size a ≤ S10064x128.size a := fun v3562 k0_hw375 => k0_hw375

def k0_off752 (v3566 : BitVec 32) : Fin 2 → Nat :=
  let v3573 : Index := Scalar.indexCast v3566
  let c0_1317 : Index := 0#32
  ![v3573.toNat, 0]

def k0_chk376 (v3566 : BitVec 32) : Prop :=
  (∀ a, (k0_off752 v3566) a + S1x128.size a ≤ S10064x128.size a)
theorem k0_off752_inb : ∀ (v3566 : BitVec 32) (k0_hw376 : k0_chk376 v3566), ∀ a, (k0_off752 v3566) a + S1x128.size a ≤ S10064x128.size a := fun v3566 k0_hw376 => k0_hw376

def k0_off753 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c376_i32 : BitVec 32 := 376#32
  let v3579 : BitVec 32 := Scalar.addi v5 c376_i32
  let v3580 : Index := Scalar.indexCast v3579
  ![v3580.toNat]
def k0_off754 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c376_i32_1320 : BitVec 32 := 376#32
  let v3582 : BitVec 32 := Scalar.addi v5 c376_i32_1320
  let c1_i32_1321 : BitVec 32 := 1#32
  let v3583 : BitVec 32 := Scalar.addi v3582 c1_i32_1321
  let v3584 : Index := Scalar.indexCast v3583
  ![v3584.toNat]
def k0_off755 (v3581 : BitVec 32) : Fin 2 → Nat :=
  let v3586 : Index := Scalar.indexCast v3581
  let c0_1322 : Index := 0#32
  ![v3586.toNat, 0]

def k0_chk377 (v3581 : BitVec 32) : Prop :=
  (∀ a, (k0_off755 v3581) a + S1x128.size a ≤ S10064x128.size a)
theorem k0_off755_inb : ∀ (v3581 : BitVec 32) (k0_hw377 : k0_chk377 v3581), ∀ a, (k0_off755 v3581) a + S1x128.size a ≤ S10064x128.size a := fun v3581 k0_hw377 => k0_hw377

def k0_off756 (v3585 : BitVec 32) : Fin 2 → Nat :=
  let v3592 : Index := Scalar.indexCast v3585
  let c0_1324 : Index := 0#32
  ![v3592.toNat, 0]

def k0_chk378 (v3585 : BitVec 32) : Prop :=
  (∀ a, (k0_off756 v3585) a + S1x128.size a ≤ S10064x128.size a)
theorem k0_off756_inb : ∀ (v3585 : BitVec 32) (k0_hw378 : k0_chk378 v3585), ∀ a, (k0_off756 v3585) a + S1x128.size a ≤ S10064x128.size a := fun v3585 k0_hw378 => k0_hw378

def k0_off757 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c378_i32 : BitVec 32 := 378#32
  let v3598 : BitVec 32 := Scalar.addi v5 c378_i32
  let v3599 : Index := Scalar.indexCast v3598
  ![v3599.toNat]
def k0_off758 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c378_i32_1327 : BitVec 32 := 378#32
  let v3601 : BitVec 32 := Scalar.addi v5 c378_i32_1327
  let c1_i32_1328 : BitVec 32 := 1#32
  let v3602 : BitVec 32 := Scalar.addi v3601 c1_i32_1328
  let v3603 : Index := Scalar.indexCast v3602
  ![v3603.toNat]
def k0_off759 (v3600 : BitVec 32) : Fin 2 → Nat :=
  let v3605 : Index := Scalar.indexCast v3600
  let c0_1329 : Index := 0#32
  ![v3605.toNat, 0]

def k0_chk379 (v3600 : BitVec 32) : Prop :=
  (∀ a, (k0_off759 v3600) a + S1x128.size a ≤ S10064x128.size a)
theorem k0_off759_inb : ∀ (v3600 : BitVec 32) (k0_hw379 : k0_chk379 v3600), ∀ a, (k0_off759 v3600) a + S1x128.size a ≤ S10064x128.size a := fun v3600 k0_hw379 => k0_hw379

def k0_off760 (v3604 : BitVec 32) : Fin 2 → Nat :=
  let v3611 : Index := Scalar.indexCast v3604
  let c0_1331 : Index := 0#32
  ![v3611.toNat, 0]

def k0_chk380 (v3604 : BitVec 32) : Prop :=
  (∀ a, (k0_off760 v3604) a + S1x128.size a ≤ S10064x128.size a)
theorem k0_off760_inb : ∀ (v3604 : BitVec 32) (k0_hw380 : k0_chk380 v3604), ∀ a, (k0_off760 v3604) a + S1x128.size a ≤ S10064x128.size a := fun v3604 k0_hw380 => k0_hw380

def k0_off761 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c380_i32 : BitVec 32 := 380#32
  let v3617 : BitVec 32 := Scalar.addi v5 c380_i32
  let v3618 : Index := Scalar.indexCast v3617
  ![v3618.toNat]
def k0_off762 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c380_i32_1334 : BitVec 32 := 380#32
  let v3620 : BitVec 32 := Scalar.addi v5 c380_i32_1334
  let c1_i32_1335 : BitVec 32 := 1#32
  let v3621 : BitVec 32 := Scalar.addi v3620 c1_i32_1335
  let v3622 : Index := Scalar.indexCast v3621
  ![v3622.toNat]
def k0_off763 (v3619 : BitVec 32) : Fin 2 → Nat :=
  let v3624 : Index := Scalar.indexCast v3619
  let c0_1336 : Index := 0#32
  ![v3624.toNat, 0]

def k0_chk381 (v3619 : BitVec 32) : Prop :=
  (∀ a, (k0_off763 v3619) a + S1x128.size a ≤ S10064x128.size a)
theorem k0_off763_inb : ∀ (v3619 : BitVec 32) (k0_hw381 : k0_chk381 v3619), ∀ a, (k0_off763 v3619) a + S1x128.size a ≤ S10064x128.size a := fun v3619 k0_hw381 => k0_hw381

def k0_off764 (v3623 : BitVec 32) : Fin 2 → Nat :=
  let v3630 : Index := Scalar.indexCast v3623
  let c0_1338 : Index := 0#32
  ![v3630.toNat, 0]

def k0_chk382 (v3623 : BitVec 32) : Prop :=
  (∀ a, (k0_off764 v3623) a + S1x128.size a ≤ S10064x128.size a)
theorem k0_off764_inb : ∀ (v3623 : BitVec 32) (k0_hw382 : k0_chk382 v3623), ∀ a, (k0_off764 v3623) a + S1x128.size a ≤ S10064x128.size a := fun v3623 k0_hw382 => k0_hw382

def k0_off765 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c382_i32 : BitVec 32 := 382#32
  let v3636 : BitVec 32 := Scalar.addi v5 c382_i32
  let v3637 : Index := Scalar.indexCast v3636
  ![v3637.toNat]
def k0_off766 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c382_i32_1341 : BitVec 32 := 382#32
  let v3639 : BitVec 32 := Scalar.addi v5 c382_i32_1341
  let c1_i32_1342 : BitVec 32 := 1#32
  let v3640 : BitVec 32 := Scalar.addi v3639 c1_i32_1342
  let v3641 : Index := Scalar.indexCast v3640
  ![v3641.toNat]
def k0_off767 (v3638 : BitVec 32) : Fin 2 → Nat :=
  let v3643 : Index := Scalar.indexCast v3638
  let c0_1343 : Index := 0#32
  ![v3643.toNat, 0]

def k0_chk383 (v3638 : BitVec 32) : Prop :=
  (∀ a, (k0_off767 v3638) a + S1x128.size a ≤ S10064x128.size a)
theorem k0_off767_inb : ∀ (v3638 : BitVec 32) (k0_hw383 : k0_chk383 v3638), ∀ a, (k0_off767 v3638) a + S1x128.size a ≤ S10064x128.size a := fun v3638 k0_hw383 => k0_hw383

def k0_off768 (v3642 : BitVec 32) : Fin 2 → Nat :=
  let v3649 : Index := Scalar.indexCast v3642
  let c0_1345 : Index := 0#32
  ![v3649.toNat, 0]

def k0_chk384 (v3642 : BitVec 32) : Prop :=
  (∀ a, (k0_off768 v3642) a + S1x128.size a ≤ S10064x128.size a)
theorem k0_off768_inb : ∀ (v3642 : BitVec 32) (k0_hw384 : k0_chk384 v3642), ∀ a, (k0_off768 v3642) a + S1x128.size a ≤ S10064x128.size a := fun v3642 k0_hw384 => k0_hw384

def k0_off769 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c384_i32 : BitVec 32 := 384#32
  let v3655 : BitVec 32 := Scalar.addi v5 c384_i32
  let v3656 : Index := Scalar.indexCast v3655
  ![v3656.toNat]
def k0_off770 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c384_i32_1348 : BitVec 32 := 384#32
  let v3658 : BitVec 32 := Scalar.addi v5 c384_i32_1348
  let c1_i32_1349 : BitVec 32 := 1#32
  let v3659 : BitVec 32 := Scalar.addi v3658 c1_i32_1349
  let v3660 : Index := Scalar.indexCast v3659
  ![v3660.toNat]
def k0_off771 (v3657 : BitVec 32) : Fin 2 → Nat :=
  let v3662 : Index := Scalar.indexCast v3657
  let c0_1350 : Index := 0#32
  ![v3662.toNat, 0]

def k0_chk385 (v3657 : BitVec 32) : Prop :=
  (∀ a, (k0_off771 v3657) a + S1x128.size a ≤ S10064x128.size a)
theorem k0_off771_inb : ∀ (v3657 : BitVec 32) (k0_hw385 : k0_chk385 v3657), ∀ a, (k0_off771 v3657) a + S1x128.size a ≤ S10064x128.size a := fun v3657 k0_hw385 => k0_hw385

def k0_off772 (v3661 : BitVec 32) : Fin 2 → Nat :=
  let v3668 : Index := Scalar.indexCast v3661
  let c0_1352 : Index := 0#32
  ![v3668.toNat, 0]

def k0_chk386 (v3661 : BitVec 32) : Prop :=
  (∀ a, (k0_off772 v3661) a + S1x128.size a ≤ S10064x128.size a)
theorem k0_off772_inb : ∀ (v3661 : BitVec 32) (k0_hw386 : k0_chk386 v3661), ∀ a, (k0_off772 v3661) a + S1x128.size a ≤ S10064x128.size a := fun v3661 k0_hw386 => k0_hw386

def k0_off773 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c386_i32 : BitVec 32 := 386#32
  let v3674 : BitVec 32 := Scalar.addi v5 c386_i32
  let v3675 : Index := Scalar.indexCast v3674
  ![v3675.toNat]
def k0_off774 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c386_i32_1355 : BitVec 32 := 386#32
  let v3677 : BitVec 32 := Scalar.addi v5 c386_i32_1355
  let c1_i32_1356 : BitVec 32 := 1#32
  let v3678 : BitVec 32 := Scalar.addi v3677 c1_i32_1356
  let v3679 : Index := Scalar.indexCast v3678
  ![v3679.toNat]
def k0_off775 (v3676 : BitVec 32) : Fin 2 → Nat :=
  let v3681 : Index := Scalar.indexCast v3676
  let c0_1357 : Index := 0#32
  ![v3681.toNat, 0]

def k0_chk387 (v3676 : BitVec 32) : Prop :=
  (∀ a, (k0_off775 v3676) a + S1x128.size a ≤ S10064x128.size a)
theorem k0_off775_inb : ∀ (v3676 : BitVec 32) (k0_hw387 : k0_chk387 v3676), ∀ a, (k0_off775 v3676) a + S1x128.size a ≤ S10064x128.size a := fun v3676 k0_hw387 => k0_hw387

def k0_off776 (v3680 : BitVec 32) : Fin 2 → Nat :=
  let v3687 : Index := Scalar.indexCast v3680
  let c0_1359 : Index := 0#32
  ![v3687.toNat, 0]

def k0_chk388 (v3680 : BitVec 32) : Prop :=
  (∀ a, (k0_off776 v3680) a + S1x128.size a ≤ S10064x128.size a)
theorem k0_off776_inb : ∀ (v3680 : BitVec 32) (k0_hw388 : k0_chk388 v3680), ∀ a, (k0_off776 v3680) a + S1x128.size a ≤ S10064x128.size a := fun v3680 k0_hw388 => k0_hw388

def k0_off777 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c388_i32 : BitVec 32 := 388#32
  let v3693 : BitVec 32 := Scalar.addi v5 c388_i32
  let v3694 : Index := Scalar.indexCast v3693
  ![v3694.toNat]
def k0_off778 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c388_i32_1362 : BitVec 32 := 388#32
  let v3696 : BitVec 32 := Scalar.addi v5 c388_i32_1362
  let c1_i32_1363 : BitVec 32 := 1#32
  let v3697 : BitVec 32 := Scalar.addi v3696 c1_i32_1363
  let v3698 : Index := Scalar.indexCast v3697
  ![v3698.toNat]
def k0_off779 (v3695 : BitVec 32) : Fin 2 → Nat :=
  let v3700 : Index := Scalar.indexCast v3695
  let c0_1364 : Index := 0#32
  ![v3700.toNat, 0]

def k0_chk389 (v3695 : BitVec 32) : Prop :=
  (∀ a, (k0_off779 v3695) a + S1x128.size a ≤ S10064x128.size a)
theorem k0_off779_inb : ∀ (v3695 : BitVec 32) (k0_hw389 : k0_chk389 v3695), ∀ a, (k0_off779 v3695) a + S1x128.size a ≤ S10064x128.size a := fun v3695 k0_hw389 => k0_hw389

def k0_off780 (v3699 : BitVec 32) : Fin 2 → Nat :=
  let v3706 : Index := Scalar.indexCast v3699
  let c0_1366 : Index := 0#32
  ![v3706.toNat, 0]

def k0_chk390 (v3699 : BitVec 32) : Prop :=
  (∀ a, (k0_off780 v3699) a + S1x128.size a ≤ S10064x128.size a)
theorem k0_off780_inb : ∀ (v3699 : BitVec 32) (k0_hw390 : k0_chk390 v3699), ∀ a, (k0_off780 v3699) a + S1x128.size a ≤ S10064x128.size a := fun v3699 k0_hw390 => k0_hw390

def k0_off781 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c390_i32 : BitVec 32 := 390#32
  let v3712 : BitVec 32 := Scalar.addi v5 c390_i32
  let v3713 : Index := Scalar.indexCast v3712
  ![v3713.toNat]
def k0_off782 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c390_i32_1369 : BitVec 32 := 390#32
  let v3715 : BitVec 32 := Scalar.addi v5 c390_i32_1369
  let c1_i32_1370 : BitVec 32 := 1#32
  let v3716 : BitVec 32 := Scalar.addi v3715 c1_i32_1370
  let v3717 : Index := Scalar.indexCast v3716
  ![v3717.toNat]
def k0_off783 (v3714 : BitVec 32) : Fin 2 → Nat :=
  let v3719 : Index := Scalar.indexCast v3714
  let c0_1371 : Index := 0#32
  ![v3719.toNat, 0]

def k0_chk391 (v3714 : BitVec 32) : Prop :=
  (∀ a, (k0_off783 v3714) a + S1x128.size a ≤ S10064x128.size a)
theorem k0_off783_inb : ∀ (v3714 : BitVec 32) (k0_hw391 : k0_chk391 v3714), ∀ a, (k0_off783 v3714) a + S1x128.size a ≤ S10064x128.size a := fun v3714 k0_hw391 => k0_hw391

def k0_off784 (v3718 : BitVec 32) : Fin 2 → Nat :=
  let v3725 : Index := Scalar.indexCast v3718
  let c0_1373 : Index := 0#32
  ![v3725.toNat, 0]

def k0_chk392 (v3718 : BitVec 32) : Prop :=
  (∀ a, (k0_off784 v3718) a + S1x128.size a ≤ S10064x128.size a)
theorem k0_off784_inb : ∀ (v3718 : BitVec 32) (k0_hw392 : k0_chk392 v3718), ∀ a, (k0_off784 v3718) a + S1x128.size a ≤ S10064x128.size a := fun v3718 k0_hw392 => k0_hw392

def k0_off785 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c392_i32 : BitVec 32 := 392#32
  let v3731 : BitVec 32 := Scalar.addi v5 c392_i32
  let v3732 : Index := Scalar.indexCast v3731
  ![v3732.toNat]
def k0_off786 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c392_i32_1376 : BitVec 32 := 392#32
  let v3734 : BitVec 32 := Scalar.addi v5 c392_i32_1376
  let c1_i32_1377 : BitVec 32 := 1#32
  let v3735 : BitVec 32 := Scalar.addi v3734 c1_i32_1377
  let v3736 : Index := Scalar.indexCast v3735
  ![v3736.toNat]
def k0_off787 (v3733 : BitVec 32) : Fin 2 → Nat :=
  let v3738 : Index := Scalar.indexCast v3733
  let c0_1378 : Index := 0#32
  ![v3738.toNat, 0]

def k0_chk393 (v3733 : BitVec 32) : Prop :=
  (∀ a, (k0_off787 v3733) a + S1x128.size a ≤ S10064x128.size a)
theorem k0_off787_inb : ∀ (v3733 : BitVec 32) (k0_hw393 : k0_chk393 v3733), ∀ a, (k0_off787 v3733) a + S1x128.size a ≤ S10064x128.size a := fun v3733 k0_hw393 => k0_hw393

def k0_off788 (v3737 : BitVec 32) : Fin 2 → Nat :=
  let v3744 : Index := Scalar.indexCast v3737
  let c0_1380 : Index := 0#32
  ![v3744.toNat, 0]

def k0_chk394 (v3737 : BitVec 32) : Prop :=
  (∀ a, (k0_off788 v3737) a + S1x128.size a ≤ S10064x128.size a)
theorem k0_off788_inb : ∀ (v3737 : BitVec 32) (k0_hw394 : k0_chk394 v3737), ∀ a, (k0_off788 v3737) a + S1x128.size a ≤ S10064x128.size a := fun v3737 k0_hw394 => k0_hw394

def k0_off789 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c394_i32 : BitVec 32 := 394#32
  let v3750 : BitVec 32 := Scalar.addi v5 c394_i32
  let v3751 : Index := Scalar.indexCast v3750
  ![v3751.toNat]
def k0_off790 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c394_i32_1383 : BitVec 32 := 394#32
  let v3753 : BitVec 32 := Scalar.addi v5 c394_i32_1383
  let c1_i32_1384 : BitVec 32 := 1#32
  let v3754 : BitVec 32 := Scalar.addi v3753 c1_i32_1384
  let v3755 : Index := Scalar.indexCast v3754
  ![v3755.toNat]
def k0_off791 (v3752 : BitVec 32) : Fin 2 → Nat :=
  let v3757 : Index := Scalar.indexCast v3752
  let c0_1385 : Index := 0#32
  ![v3757.toNat, 0]

def k0_chk395 (v3752 : BitVec 32) : Prop :=
  (∀ a, (k0_off791 v3752) a + S1x128.size a ≤ S10064x128.size a)
theorem k0_off791_inb : ∀ (v3752 : BitVec 32) (k0_hw395 : k0_chk395 v3752), ∀ a, (k0_off791 v3752) a + S1x128.size a ≤ S10064x128.size a := fun v3752 k0_hw395 => k0_hw395

def k0_off792 (v3756 : BitVec 32) : Fin 2 → Nat :=
  let v3763 : Index := Scalar.indexCast v3756
  let c0_1387 : Index := 0#32
  ![v3763.toNat, 0]

def k0_chk396 (v3756 : BitVec 32) : Prop :=
  (∀ a, (k0_off792 v3756) a + S1x128.size a ≤ S10064x128.size a)
theorem k0_off792_inb : ∀ (v3756 : BitVec 32) (k0_hw396 : k0_chk396 v3756), ∀ a, (k0_off792 v3756) a + S1x128.size a ≤ S10064x128.size a := fun v3756 k0_hw396 => k0_hw396

def k0_off793 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c396_i32 : BitVec 32 := 396#32
  let v3769 : BitVec 32 := Scalar.addi v5 c396_i32
  let v3770 : Index := Scalar.indexCast v3769
  ![v3770.toNat]
def k0_off794 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c396_i32_1390 : BitVec 32 := 396#32
  let v3772 : BitVec 32 := Scalar.addi v5 c396_i32_1390
  let c1_i32_1391 : BitVec 32 := 1#32
  let v3773 : BitVec 32 := Scalar.addi v3772 c1_i32_1391
  let v3774 : Index := Scalar.indexCast v3773
  ![v3774.toNat]
def k0_off795 (v3771 : BitVec 32) : Fin 2 → Nat :=
  let v3776 : Index := Scalar.indexCast v3771
  let c0_1392 : Index := 0#32
  ![v3776.toNat, 0]

def k0_chk397 (v3771 : BitVec 32) : Prop :=
  (∀ a, (k0_off795 v3771) a + S1x128.size a ≤ S10064x128.size a)
theorem k0_off795_inb : ∀ (v3771 : BitVec 32) (k0_hw397 : k0_chk397 v3771), ∀ a, (k0_off795 v3771) a + S1x128.size a ≤ S10064x128.size a := fun v3771 k0_hw397 => k0_hw397

def k0_off796 (v3775 : BitVec 32) : Fin 2 → Nat :=
  let v3782 : Index := Scalar.indexCast v3775
  let c0_1394 : Index := 0#32
  ![v3782.toNat, 0]

def k0_chk398 (v3775 : BitVec 32) : Prop :=
  (∀ a, (k0_off796 v3775) a + S1x128.size a ≤ S10064x128.size a)
theorem k0_off796_inb : ∀ (v3775 : BitVec 32) (k0_hw398 : k0_chk398 v3775), ∀ a, (k0_off796 v3775) a + S1x128.size a ≤ S10064x128.size a := fun v3775 k0_hw398 => k0_hw398

def k0_off797 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c398_i32 : BitVec 32 := 398#32
  let v3788 : BitVec 32 := Scalar.addi v5 c398_i32
  let v3789 : Index := Scalar.indexCast v3788
  ![v3789.toNat]
def k0_off798 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c398_i32_1397 : BitVec 32 := 398#32
  let v3791 : BitVec 32 := Scalar.addi v5 c398_i32_1397
  let c1_i32_1398 : BitVec 32 := 1#32
  let v3792 : BitVec 32 := Scalar.addi v3791 c1_i32_1398
  let v3793 : Index := Scalar.indexCast v3792
  ![v3793.toNat]
def k0_off799 (v3790 : BitVec 32) : Fin 2 → Nat :=
  let v3795 : Index := Scalar.indexCast v3790
  let c0_1399 : Index := 0#32
  ![v3795.toNat, 0]

def k0_chk399 (v3790 : BitVec 32) : Prop :=
  (∀ a, (k0_off799 v3790) a + S1x128.size a ≤ S10064x128.size a)
theorem k0_off799_inb : ∀ (v3790 : BitVec 32) (k0_hw399 : k0_chk399 v3790), ∀ a, (k0_off799 v3790) a + S1x128.size a ≤ S10064x128.size a := fun v3790 k0_hw399 => k0_hw399

def k0_off800 (v3794 : BitVec 32) : Fin 2 → Nat :=
  let v3801 : Index := Scalar.indexCast v3794
  let c0_1401 : Index := 0#32
  ![v3801.toNat, 0]

def k0_chk400 (v3794 : BitVec 32) : Prop :=
  (∀ a, (k0_off800 v3794) a + S1x128.size a ≤ S10064x128.size a)
theorem k0_off800_inb : ∀ (v3794 : BitVec 32) (k0_hw400 : k0_chk400 v3794), ∀ a, (k0_off800 v3794) a + S1x128.size a ≤ S10064x128.size a := fun v3794 k0_hw400 => k0_hw400

def k0_off801 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c400_i32_1404 : BitVec 32 := 400#32
  let v3807 : BitVec 32 := Scalar.addi v5 c400_i32_1404
  let v3808 : Index := Scalar.indexCast v3807
  ![v3808.toNat]
def k0_off802 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c400_i32_1405 : BitVec 32 := 400#32
  let v3810 : BitVec 32 := Scalar.addi v5 c400_i32_1405
  let c1_i32_1406 : BitVec 32 := 1#32
  let v3811 : BitVec 32 := Scalar.addi v3810 c1_i32_1406
  let v3812 : Index := Scalar.indexCast v3811
  ![v3812.toNat]
def k0_off803 (v3809 : BitVec 32) : Fin 2 → Nat :=
  let v3814 : Index := Scalar.indexCast v3809
  let c0_1407 : Index := 0#32
  ![v3814.toNat, 0]

def k0_chk401 (v3809 : BitVec 32) : Prop :=
  (∀ a, (k0_off803 v3809) a + S1x128.size a ≤ S10064x128.size a)
theorem k0_off803_inb : ∀ (v3809 : BitVec 32) (k0_hw401 : k0_chk401 v3809), ∀ a, (k0_off803 v3809) a + S1x128.size a ≤ S10064x128.size a := fun v3809 k0_hw401 => k0_hw401

def k0_off804 (v3813 : BitVec 32) : Fin 2 → Nat :=
  let v3820 : Index := Scalar.indexCast v3813
  let c0_1409 : Index := 0#32
  ![v3820.toNat, 0]

def k0_chk402 (v3813 : BitVec 32) : Prop :=
  (∀ a, (k0_off804 v3813) a + S1x128.size a ≤ S10064x128.size a)
theorem k0_off804_inb : ∀ (v3813 : BitVec 32) (k0_hw402 : k0_chk402 v3813), ∀ a, (k0_off804 v3813) a + S1x128.size a ≤ S10064x128.size a := fun v3813 k0_hw402 => k0_hw402

def k0_off805 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c402_i32 : BitVec 32 := 402#32
  let v3826 : BitVec 32 := Scalar.addi v5 c402_i32
  let v3827 : Index := Scalar.indexCast v3826
  ![v3827.toNat]
def k0_off806 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c402_i32_1412 : BitVec 32 := 402#32
  let v3829 : BitVec 32 := Scalar.addi v5 c402_i32_1412
  let c1_i32_1413 : BitVec 32 := 1#32
  let v3830 : BitVec 32 := Scalar.addi v3829 c1_i32_1413
  let v3831 : Index := Scalar.indexCast v3830
  ![v3831.toNat]
def k0_off807 (v3828 : BitVec 32) : Fin 2 → Nat :=
  let v3833 : Index := Scalar.indexCast v3828
  let c0_1414 : Index := 0#32
  ![v3833.toNat, 0]

def k0_chk403 (v3828 : BitVec 32) : Prop :=
  (∀ a, (k0_off807 v3828) a + S1x128.size a ≤ S10064x128.size a)
theorem k0_off807_inb : ∀ (v3828 : BitVec 32) (k0_hw403 : k0_chk403 v3828), ∀ a, (k0_off807 v3828) a + S1x128.size a ≤ S10064x128.size a := fun v3828 k0_hw403 => k0_hw403

def k0_off808 (v3832 : BitVec 32) : Fin 2 → Nat :=
  let v3839 : Index := Scalar.indexCast v3832
  let c0_1416 : Index := 0#32
  ![v3839.toNat, 0]

def k0_chk404 (v3832 : BitVec 32) : Prop :=
  (∀ a, (k0_off808 v3832) a + S1x128.size a ≤ S10064x128.size a)
theorem k0_off808_inb : ∀ (v3832 : BitVec 32) (k0_hw404 : k0_chk404 v3832), ∀ a, (k0_off808 v3832) a + S1x128.size a ≤ S10064x128.size a := fun v3832 k0_hw404 => k0_hw404

def k0_off809 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c404_i32 : BitVec 32 := 404#32
  let v3845 : BitVec 32 := Scalar.addi v5 c404_i32
  let v3846 : Index := Scalar.indexCast v3845
  ![v3846.toNat]
def k0_off810 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c404_i32_1419 : BitVec 32 := 404#32
  let v3848 : BitVec 32 := Scalar.addi v5 c404_i32_1419
  let c1_i32_1420 : BitVec 32 := 1#32
  let v3849 : BitVec 32 := Scalar.addi v3848 c1_i32_1420
  let v3850 : Index := Scalar.indexCast v3849
  ![v3850.toNat]
def k0_off811 (v3847 : BitVec 32) : Fin 2 → Nat :=
  let v3852 : Index := Scalar.indexCast v3847
  let c0_1421 : Index := 0#32
  ![v3852.toNat, 0]

def k0_chk405 (v3847 : BitVec 32) : Prop :=
  (∀ a, (k0_off811 v3847) a + S1x128.size a ≤ S10064x128.size a)
theorem k0_off811_inb : ∀ (v3847 : BitVec 32) (k0_hw405 : k0_chk405 v3847), ∀ a, (k0_off811 v3847) a + S1x128.size a ≤ S10064x128.size a := fun v3847 k0_hw405 => k0_hw405

def k0_off812 (v3851 : BitVec 32) : Fin 2 → Nat :=
  let v3858 : Index := Scalar.indexCast v3851
  let c0_1423 : Index := 0#32
  ![v3858.toNat, 0]

def k0_chk406 (v3851 : BitVec 32) : Prop :=
  (∀ a, (k0_off812 v3851) a + S1x128.size a ≤ S10064x128.size a)
theorem k0_off812_inb : ∀ (v3851 : BitVec 32) (k0_hw406 : k0_chk406 v3851), ∀ a, (k0_off812 v3851) a + S1x128.size a ≤ S10064x128.size a := fun v3851 k0_hw406 => k0_hw406

def k0_off813 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c406_i32 : BitVec 32 := 406#32
  let v3864 : BitVec 32 := Scalar.addi v5 c406_i32
  let v3865 : Index := Scalar.indexCast v3864
  ![v3865.toNat]
def k0_off814 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c406_i32_1426 : BitVec 32 := 406#32
  let v3867 : BitVec 32 := Scalar.addi v5 c406_i32_1426
  let c1_i32_1427 : BitVec 32 := 1#32
  let v3868 : BitVec 32 := Scalar.addi v3867 c1_i32_1427
  let v3869 : Index := Scalar.indexCast v3868
  ![v3869.toNat]
def k0_off815 (v3866 : BitVec 32) : Fin 2 → Nat :=
  let v3871 : Index := Scalar.indexCast v3866
  let c0_1428 : Index := 0#32
  ![v3871.toNat, 0]

def k0_chk407 (v3866 : BitVec 32) : Prop :=
  (∀ a, (k0_off815 v3866) a + S1x128.size a ≤ S10064x128.size a)
theorem k0_off815_inb : ∀ (v3866 : BitVec 32) (k0_hw407 : k0_chk407 v3866), ∀ a, (k0_off815 v3866) a + S1x128.size a ≤ S10064x128.size a := fun v3866 k0_hw407 => k0_hw407

def k0_off816 (v3870 : BitVec 32) : Fin 2 → Nat :=
  let v3877 : Index := Scalar.indexCast v3870
  let c0_1430 : Index := 0#32
  ![v3877.toNat, 0]

def k0_chk408 (v3870 : BitVec 32) : Prop :=
  (∀ a, (k0_off816 v3870) a + S1x128.size a ≤ S10064x128.size a)
theorem k0_off816_inb : ∀ (v3870 : BitVec 32) (k0_hw408 : k0_chk408 v3870), ∀ a, (k0_off816 v3870) a + S1x128.size a ≤ S10064x128.size a := fun v3870 k0_hw408 => k0_hw408

def k0_off817 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c408_i32 : BitVec 32 := 408#32
  let v3883 : BitVec 32 := Scalar.addi v5 c408_i32
  let v3884 : Index := Scalar.indexCast v3883
  ![v3884.toNat]
def k0_off818 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c408_i32_1433 : BitVec 32 := 408#32
  let v3886 : BitVec 32 := Scalar.addi v5 c408_i32_1433
  let c1_i32_1434 : BitVec 32 := 1#32
  let v3887 : BitVec 32 := Scalar.addi v3886 c1_i32_1434
  let v3888 : Index := Scalar.indexCast v3887
  ![v3888.toNat]
def k0_off819 (v3885 : BitVec 32) : Fin 2 → Nat :=
  let v3890 : Index := Scalar.indexCast v3885
  let c0_1435 : Index := 0#32
  ![v3890.toNat, 0]

def k0_chk409 (v3885 : BitVec 32) : Prop :=
  (∀ a, (k0_off819 v3885) a + S1x128.size a ≤ S10064x128.size a)
theorem k0_off819_inb : ∀ (v3885 : BitVec 32) (k0_hw409 : k0_chk409 v3885), ∀ a, (k0_off819 v3885) a + S1x128.size a ≤ S10064x128.size a := fun v3885 k0_hw409 => k0_hw409

def k0_off820 (v3889 : BitVec 32) : Fin 2 → Nat :=
  let v3896 : Index := Scalar.indexCast v3889
  let c0_1437 : Index := 0#32
  ![v3896.toNat, 0]

def k0_chk410 (v3889 : BitVec 32) : Prop :=
  (∀ a, (k0_off820 v3889) a + S1x128.size a ≤ S10064x128.size a)
theorem k0_off820_inb : ∀ (v3889 : BitVec 32) (k0_hw410 : k0_chk410 v3889), ∀ a, (k0_off820 v3889) a + S1x128.size a ≤ S10064x128.size a := fun v3889 k0_hw410 => k0_hw410

def k0_off821 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c410_i32 : BitVec 32 := 410#32
  let v3902 : BitVec 32 := Scalar.addi v5 c410_i32
  let v3903 : Index := Scalar.indexCast v3902
  ![v3903.toNat]
def k0_off822 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c410_i32_1440 : BitVec 32 := 410#32
  let v3905 : BitVec 32 := Scalar.addi v5 c410_i32_1440
  let c1_i32_1441 : BitVec 32 := 1#32
  let v3906 : BitVec 32 := Scalar.addi v3905 c1_i32_1441
  let v3907 : Index := Scalar.indexCast v3906
  ![v3907.toNat]
def k0_off823 (v3904 : BitVec 32) : Fin 2 → Nat :=
  let v3909 : Index := Scalar.indexCast v3904
  let c0_1442 : Index := 0#32
  ![v3909.toNat, 0]

def k0_chk411 (v3904 : BitVec 32) : Prop :=
  (∀ a, (k0_off823 v3904) a + S1x128.size a ≤ S10064x128.size a)
theorem k0_off823_inb : ∀ (v3904 : BitVec 32) (k0_hw411 : k0_chk411 v3904), ∀ a, (k0_off823 v3904) a + S1x128.size a ≤ S10064x128.size a := fun v3904 k0_hw411 => k0_hw411

def k0_off824 (v3908 : BitVec 32) : Fin 2 → Nat :=
  let v3915 : Index := Scalar.indexCast v3908
  let c0_1444 : Index := 0#32
  ![v3915.toNat, 0]

def k0_chk412 (v3908 : BitVec 32) : Prop :=
  (∀ a, (k0_off824 v3908) a + S1x128.size a ≤ S10064x128.size a)
theorem k0_off824_inb : ∀ (v3908 : BitVec 32) (k0_hw412 : k0_chk412 v3908), ∀ a, (k0_off824 v3908) a + S1x128.size a ≤ S10064x128.size a := fun v3908 k0_hw412 => k0_hw412

def k0_off825 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c412_i32 : BitVec 32 := 412#32
  let v3921 : BitVec 32 := Scalar.addi v5 c412_i32
  let v3922 : Index := Scalar.indexCast v3921
  ![v3922.toNat]
def k0_off826 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c412_i32_1447 : BitVec 32 := 412#32
  let v3924 : BitVec 32 := Scalar.addi v5 c412_i32_1447
  let c1_i32_1448 : BitVec 32 := 1#32
  let v3925 : BitVec 32 := Scalar.addi v3924 c1_i32_1448
  let v3926 : Index := Scalar.indexCast v3925
  ![v3926.toNat]
def k0_off827 (v3923 : BitVec 32) : Fin 2 → Nat :=
  let v3928 : Index := Scalar.indexCast v3923
  let c0_1449 : Index := 0#32
  ![v3928.toNat, 0]

def k0_chk413 (v3923 : BitVec 32) : Prop :=
  (∀ a, (k0_off827 v3923) a + S1x128.size a ≤ S10064x128.size a)
theorem k0_off827_inb : ∀ (v3923 : BitVec 32) (k0_hw413 : k0_chk413 v3923), ∀ a, (k0_off827 v3923) a + S1x128.size a ≤ S10064x128.size a := fun v3923 k0_hw413 => k0_hw413

def k0_off828 (v3927 : BitVec 32) : Fin 2 → Nat :=
  let v3934 : Index := Scalar.indexCast v3927
  let c0_1451 : Index := 0#32
  ![v3934.toNat, 0]

def k0_chk414 (v3927 : BitVec 32) : Prop :=
  (∀ a, (k0_off828 v3927) a + S1x128.size a ≤ S10064x128.size a)
theorem k0_off828_inb : ∀ (v3927 : BitVec 32) (k0_hw414 : k0_chk414 v3927), ∀ a, (k0_off828 v3927) a + S1x128.size a ≤ S10064x128.size a := fun v3927 k0_hw414 => k0_hw414

def k0_off829 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c414_i32 : BitVec 32 := 414#32
  let v3940 : BitVec 32 := Scalar.addi v5 c414_i32
  let v3941 : Index := Scalar.indexCast v3940
  ![v3941.toNat]
def k0_off830 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c414_i32_1454 : BitVec 32 := 414#32
  let v3943 : BitVec 32 := Scalar.addi v5 c414_i32_1454
  let c1_i32_1455 : BitVec 32 := 1#32
  let v3944 : BitVec 32 := Scalar.addi v3943 c1_i32_1455
  let v3945 : Index := Scalar.indexCast v3944
  ![v3945.toNat]
def k0_off831 (v3942 : BitVec 32) : Fin 2 → Nat :=
  let v3947 : Index := Scalar.indexCast v3942
  let c0_1456 : Index := 0#32
  ![v3947.toNat, 0]

def k0_chk415 (v3942 : BitVec 32) : Prop :=
  (∀ a, (k0_off831 v3942) a + S1x128.size a ≤ S10064x128.size a)
theorem k0_off831_inb : ∀ (v3942 : BitVec 32) (k0_hw415 : k0_chk415 v3942), ∀ a, (k0_off831 v3942) a + S1x128.size a ≤ S10064x128.size a := fun v3942 k0_hw415 => k0_hw415

def k0_off832 (v3946 : BitVec 32) : Fin 2 → Nat :=
  let v3953 : Index := Scalar.indexCast v3946
  let c0_1458 : Index := 0#32
  ![v3953.toNat, 0]

def k0_chk416 (v3946 : BitVec 32) : Prop :=
  (∀ a, (k0_off832 v3946) a + S1x128.size a ≤ S10064x128.size a)
theorem k0_off832_inb : ∀ (v3946 : BitVec 32) (k0_hw416 : k0_chk416 v3946), ∀ a, (k0_off832 v3946) a + S1x128.size a ≤ S10064x128.size a := fun v3946 k0_hw416 => k0_hw416

def k0_off833 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c416_i32 : BitVec 32 := 416#32
  let v3959 : BitVec 32 := Scalar.addi v5 c416_i32
  let v3960 : Index := Scalar.indexCast v3959
  ![v3960.toNat]
def k0_off834 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c416_i32_1461 : BitVec 32 := 416#32
  let v3962 : BitVec 32 := Scalar.addi v5 c416_i32_1461
  let c1_i32_1462 : BitVec 32 := 1#32
  let v3963 : BitVec 32 := Scalar.addi v3962 c1_i32_1462
  let v3964 : Index := Scalar.indexCast v3963
  ![v3964.toNat]
def k0_off835 (v3961 : BitVec 32) : Fin 2 → Nat :=
  let v3966 : Index := Scalar.indexCast v3961
  let c0_1463 : Index := 0#32
  ![v3966.toNat, 0]

def k0_chk417 (v3961 : BitVec 32) : Prop :=
  (∀ a, (k0_off835 v3961) a + S1x128.size a ≤ S10064x128.size a)
theorem k0_off835_inb : ∀ (v3961 : BitVec 32) (k0_hw417 : k0_chk417 v3961), ∀ a, (k0_off835 v3961) a + S1x128.size a ≤ S10064x128.size a := fun v3961 k0_hw417 => k0_hw417

def k0_off836 (v3965 : BitVec 32) : Fin 2 → Nat :=
  let v3972 : Index := Scalar.indexCast v3965
  let c0_1465 : Index := 0#32
  ![v3972.toNat, 0]

def k0_chk418 (v3965 : BitVec 32) : Prop :=
  (∀ a, (k0_off836 v3965) a + S1x128.size a ≤ S10064x128.size a)
theorem k0_off836_inb : ∀ (v3965 : BitVec 32) (k0_hw418 : k0_chk418 v3965), ∀ a, (k0_off836 v3965) a + S1x128.size a ≤ S10064x128.size a := fun v3965 k0_hw418 => k0_hw418

def k0_off837 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c418_i32 : BitVec 32 := 418#32
  let v3978 : BitVec 32 := Scalar.addi v5 c418_i32
  let v3979 : Index := Scalar.indexCast v3978
  ![v3979.toNat]
def k0_off838 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c418_i32_1468 : BitVec 32 := 418#32
  let v3981 : BitVec 32 := Scalar.addi v5 c418_i32_1468
  let c1_i32_1469 : BitVec 32 := 1#32
  let v3982 : BitVec 32 := Scalar.addi v3981 c1_i32_1469
  let v3983 : Index := Scalar.indexCast v3982
  ![v3983.toNat]
def k0_off839 (v3980 : BitVec 32) : Fin 2 → Nat :=
  let v3985 : Index := Scalar.indexCast v3980
  let c0_1470 : Index := 0#32
  ![v3985.toNat, 0]

def k0_chk419 (v3980 : BitVec 32) : Prop :=
  (∀ a, (k0_off839 v3980) a + S1x128.size a ≤ S10064x128.size a)
theorem k0_off839_inb : ∀ (v3980 : BitVec 32) (k0_hw419 : k0_chk419 v3980), ∀ a, (k0_off839 v3980) a + S1x128.size a ≤ S10064x128.size a := fun v3980 k0_hw419 => k0_hw419

def k0_off840 (v3984 : BitVec 32) : Fin 2 → Nat :=
  let v3991 : Index := Scalar.indexCast v3984
  let c0_1472 : Index := 0#32
  ![v3991.toNat, 0]

def k0_chk420 (v3984 : BitVec 32) : Prop :=
  (∀ a, (k0_off840 v3984) a + S1x128.size a ≤ S10064x128.size a)
theorem k0_off840_inb : ∀ (v3984 : BitVec 32) (k0_hw420 : k0_chk420 v3984), ∀ a, (k0_off840 v3984) a + S1x128.size a ≤ S10064x128.size a := fun v3984 k0_hw420 => k0_hw420

def k0_off841 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c420_i32 : BitVec 32 := 420#32
  let v3997 : BitVec 32 := Scalar.addi v5 c420_i32
  let v3998 : Index := Scalar.indexCast v3997
  ![v3998.toNat]
def k0_off842 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c420_i32_1475 : BitVec 32 := 420#32
  let v4000 : BitVec 32 := Scalar.addi v5 c420_i32_1475
  let c1_i32_1476 : BitVec 32 := 1#32
  let v4001 : BitVec 32 := Scalar.addi v4000 c1_i32_1476
  let v4002 : Index := Scalar.indexCast v4001
  ![v4002.toNat]
def k0_off843 (v3999 : BitVec 32) : Fin 2 → Nat :=
  let v4004 : Index := Scalar.indexCast v3999
  let c0_1477 : Index := 0#32
  ![v4004.toNat, 0]

def k0_chk421 (v3999 : BitVec 32) : Prop :=
  (∀ a, (k0_off843 v3999) a + S1x128.size a ≤ S10064x128.size a)
theorem k0_off843_inb : ∀ (v3999 : BitVec 32) (k0_hw421 : k0_chk421 v3999), ∀ a, (k0_off843 v3999) a + S1x128.size a ≤ S10064x128.size a := fun v3999 k0_hw421 => k0_hw421

def k0_off844 (v4003 : BitVec 32) : Fin 2 → Nat :=
  let v4010 : Index := Scalar.indexCast v4003
  let c0_1479 : Index := 0#32
  ![v4010.toNat, 0]

def k0_chk422 (v4003 : BitVec 32) : Prop :=
  (∀ a, (k0_off844 v4003) a + S1x128.size a ≤ S10064x128.size a)
theorem k0_off844_inb : ∀ (v4003 : BitVec 32) (k0_hw422 : k0_chk422 v4003), ∀ a, (k0_off844 v4003) a + S1x128.size a ≤ S10064x128.size a := fun v4003 k0_hw422 => k0_hw422

def k0_off845 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c422_i32 : BitVec 32 := 422#32
  let v4016 : BitVec 32 := Scalar.addi v5 c422_i32
  let v4017 : Index := Scalar.indexCast v4016
  ![v4017.toNat]
def k0_off846 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c422_i32_1482 : BitVec 32 := 422#32
  let v4019 : BitVec 32 := Scalar.addi v5 c422_i32_1482
  let c1_i32_1483 : BitVec 32 := 1#32
  let v4020 : BitVec 32 := Scalar.addi v4019 c1_i32_1483
  let v4021 : Index := Scalar.indexCast v4020
  ![v4021.toNat]
def k0_off847 (v4018 : BitVec 32) : Fin 2 → Nat :=
  let v4023 : Index := Scalar.indexCast v4018
  let c0_1484 : Index := 0#32
  ![v4023.toNat, 0]

def k0_chk423 (v4018 : BitVec 32) : Prop :=
  (∀ a, (k0_off847 v4018) a + S1x128.size a ≤ S10064x128.size a)
theorem k0_off847_inb : ∀ (v4018 : BitVec 32) (k0_hw423 : k0_chk423 v4018), ∀ a, (k0_off847 v4018) a + S1x128.size a ≤ S10064x128.size a := fun v4018 k0_hw423 => k0_hw423

def k0_off848 (v4022 : BitVec 32) : Fin 2 → Nat :=
  let v4029 : Index := Scalar.indexCast v4022
  let c0_1486 : Index := 0#32
  ![v4029.toNat, 0]

def k0_chk424 (v4022 : BitVec 32) : Prop :=
  (∀ a, (k0_off848 v4022) a + S1x128.size a ≤ S10064x128.size a)
theorem k0_off848_inb : ∀ (v4022 : BitVec 32) (k0_hw424 : k0_chk424 v4022), ∀ a, (k0_off848 v4022) a + S1x128.size a ≤ S10064x128.size a := fun v4022 k0_hw424 => k0_hw424

def k0_off849 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c424_i32 : BitVec 32 := 424#32
  let v4035 : BitVec 32 := Scalar.addi v5 c424_i32
  let v4036 : Index := Scalar.indexCast v4035
  ![v4036.toNat]
def k0_off850 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c424_i32_1489 : BitVec 32 := 424#32
  let v4038 : BitVec 32 := Scalar.addi v5 c424_i32_1489
  let c1_i32_1490 : BitVec 32 := 1#32
  let v4039 : BitVec 32 := Scalar.addi v4038 c1_i32_1490
  let v4040 : Index := Scalar.indexCast v4039
  ![v4040.toNat]
def k0_off851 (v4037 : BitVec 32) : Fin 2 → Nat :=
  let v4042 : Index := Scalar.indexCast v4037
  let c0_1491 : Index := 0#32
  ![v4042.toNat, 0]

def k0_chk425 (v4037 : BitVec 32) : Prop :=
  (∀ a, (k0_off851 v4037) a + S1x128.size a ≤ S10064x128.size a)
theorem k0_off851_inb : ∀ (v4037 : BitVec 32) (k0_hw425 : k0_chk425 v4037), ∀ a, (k0_off851 v4037) a + S1x128.size a ≤ S10064x128.size a := fun v4037 k0_hw425 => k0_hw425

def k0_off852 (v4041 : BitVec 32) : Fin 2 → Nat :=
  let v4048 : Index := Scalar.indexCast v4041
  let c0_1493 : Index := 0#32
  ![v4048.toNat, 0]

def k0_chk426 (v4041 : BitVec 32) : Prop :=
  (∀ a, (k0_off852 v4041) a + S1x128.size a ≤ S10064x128.size a)
theorem k0_off852_inb : ∀ (v4041 : BitVec 32) (k0_hw426 : k0_chk426 v4041), ∀ a, (k0_off852 v4041) a + S1x128.size a ≤ S10064x128.size a := fun v4041 k0_hw426 => k0_hw426

def k0_off853 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c426_i32 : BitVec 32 := 426#32
  let v4054 : BitVec 32 := Scalar.addi v5 c426_i32
  let v4055 : Index := Scalar.indexCast v4054
  ![v4055.toNat]
def k0_off854 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c426_i32_1496 : BitVec 32 := 426#32
  let v4057 : BitVec 32 := Scalar.addi v5 c426_i32_1496
  let c1_i32_1497 : BitVec 32 := 1#32
  let v4058 : BitVec 32 := Scalar.addi v4057 c1_i32_1497
  let v4059 : Index := Scalar.indexCast v4058
  ![v4059.toNat]
def k0_off855 (v4056 : BitVec 32) : Fin 2 → Nat :=
  let v4061 : Index := Scalar.indexCast v4056
  let c0_1498 : Index := 0#32
  ![v4061.toNat, 0]

def k0_chk427 (v4056 : BitVec 32) : Prop :=
  (∀ a, (k0_off855 v4056) a + S1x128.size a ≤ S10064x128.size a)
theorem k0_off855_inb : ∀ (v4056 : BitVec 32) (k0_hw427 : k0_chk427 v4056), ∀ a, (k0_off855 v4056) a + S1x128.size a ≤ S10064x128.size a := fun v4056 k0_hw427 => k0_hw427

def k0_off856 (v4060 : BitVec 32) : Fin 2 → Nat :=
  let v4067 : Index := Scalar.indexCast v4060
  let c0_1500 : Index := 0#32
  ![v4067.toNat, 0]

def k0_chk428 (v4060 : BitVec 32) : Prop :=
  (∀ a, (k0_off856 v4060) a + S1x128.size a ≤ S10064x128.size a)
theorem k0_off856_inb : ∀ (v4060 : BitVec 32) (k0_hw428 : k0_chk428 v4060), ∀ a, (k0_off856 v4060) a + S1x128.size a ≤ S10064x128.size a := fun v4060 k0_hw428 => k0_hw428

def k0_off857 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c428_i32 : BitVec 32 := 428#32
  let v4073 : BitVec 32 := Scalar.addi v5 c428_i32
  let v4074 : Index := Scalar.indexCast v4073
  ![v4074.toNat]
def k0_off858 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c428_i32_1503 : BitVec 32 := 428#32
  let v4076 : BitVec 32 := Scalar.addi v5 c428_i32_1503
  let c1_i32_1504 : BitVec 32 := 1#32
  let v4077 : BitVec 32 := Scalar.addi v4076 c1_i32_1504
  let v4078 : Index := Scalar.indexCast v4077
  ![v4078.toNat]
def k0_off859 (v4075 : BitVec 32) : Fin 2 → Nat :=
  let v4080 : Index := Scalar.indexCast v4075
  let c0_1505 : Index := 0#32
  ![v4080.toNat, 0]

def k0_chk429 (v4075 : BitVec 32) : Prop :=
  (∀ a, (k0_off859 v4075) a + S1x128.size a ≤ S10064x128.size a)
theorem k0_off859_inb : ∀ (v4075 : BitVec 32) (k0_hw429 : k0_chk429 v4075), ∀ a, (k0_off859 v4075) a + S1x128.size a ≤ S10064x128.size a := fun v4075 k0_hw429 => k0_hw429

def k0_off860 (v4079 : BitVec 32) : Fin 2 → Nat :=
  let v4086 : Index := Scalar.indexCast v4079
  let c0_1507 : Index := 0#32
  ![v4086.toNat, 0]

def k0_chk430 (v4079 : BitVec 32) : Prop :=
  (∀ a, (k0_off860 v4079) a + S1x128.size a ≤ S10064x128.size a)
theorem k0_off860_inb : ∀ (v4079 : BitVec 32) (k0_hw430 : k0_chk430 v4079), ∀ a, (k0_off860 v4079) a + S1x128.size a ≤ S10064x128.size a := fun v4079 k0_hw430 => k0_hw430

def k0_off861 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c430_i32 : BitVec 32 := 430#32
  let v4092 : BitVec 32 := Scalar.addi v5 c430_i32
  let v4093 : Index := Scalar.indexCast v4092
  ![v4093.toNat]
def k0_off862 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c430_i32_1510 : BitVec 32 := 430#32
  let v4095 : BitVec 32 := Scalar.addi v5 c430_i32_1510
  let c1_i32_1511 : BitVec 32 := 1#32
  let v4096 : BitVec 32 := Scalar.addi v4095 c1_i32_1511
  let v4097 : Index := Scalar.indexCast v4096
  ![v4097.toNat]
def k0_off863 (v4094 : BitVec 32) : Fin 2 → Nat :=
  let v4099 : Index := Scalar.indexCast v4094
  let c0_1512 : Index := 0#32
  ![v4099.toNat, 0]

def k0_chk431 (v4094 : BitVec 32) : Prop :=
  (∀ a, (k0_off863 v4094) a + S1x128.size a ≤ S10064x128.size a)
theorem k0_off863_inb : ∀ (v4094 : BitVec 32) (k0_hw431 : k0_chk431 v4094), ∀ a, (k0_off863 v4094) a + S1x128.size a ≤ S10064x128.size a := fun v4094 k0_hw431 => k0_hw431

def k0_off864 (v4098 : BitVec 32) : Fin 2 → Nat :=
  let v4105 : Index := Scalar.indexCast v4098
  let c0_1514 : Index := 0#32
  ![v4105.toNat, 0]

def k0_chk432 (v4098 : BitVec 32) : Prop :=
  (∀ a, (k0_off864 v4098) a + S1x128.size a ≤ S10064x128.size a)
theorem k0_off864_inb : ∀ (v4098 : BitVec 32) (k0_hw432 : k0_chk432 v4098), ∀ a, (k0_off864 v4098) a + S1x128.size a ≤ S10064x128.size a := fun v4098 k0_hw432 => k0_hw432

def k0_off865 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c432_i32 : BitVec 32 := 432#32
  let v4111 : BitVec 32 := Scalar.addi v5 c432_i32
  let v4112 : Index := Scalar.indexCast v4111
  ![v4112.toNat]
def k0_off866 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c432_i32_1517 : BitVec 32 := 432#32
  let v4114 : BitVec 32 := Scalar.addi v5 c432_i32_1517
  let c1_i32_1518 : BitVec 32 := 1#32
  let v4115 : BitVec 32 := Scalar.addi v4114 c1_i32_1518
  let v4116 : Index := Scalar.indexCast v4115
  ![v4116.toNat]
def k0_off867 (v4113 : BitVec 32) : Fin 2 → Nat :=
  let v4118 : Index := Scalar.indexCast v4113
  let c0_1519 : Index := 0#32
  ![v4118.toNat, 0]

def k0_chk433 (v4113 : BitVec 32) : Prop :=
  (∀ a, (k0_off867 v4113) a + S1x128.size a ≤ S10064x128.size a)
theorem k0_off867_inb : ∀ (v4113 : BitVec 32) (k0_hw433 : k0_chk433 v4113), ∀ a, (k0_off867 v4113) a + S1x128.size a ≤ S10064x128.size a := fun v4113 k0_hw433 => k0_hw433

def k0_off868 (v4117 : BitVec 32) : Fin 2 → Nat :=
  let v4124 : Index := Scalar.indexCast v4117
  let c0_1521 : Index := 0#32
  ![v4124.toNat, 0]

def k0_chk434 (v4117 : BitVec 32) : Prop :=
  (∀ a, (k0_off868 v4117) a + S1x128.size a ≤ S10064x128.size a)
theorem k0_off868_inb : ∀ (v4117 : BitVec 32) (k0_hw434 : k0_chk434 v4117), ∀ a, (k0_off868 v4117) a + S1x128.size a ≤ S10064x128.size a := fun v4117 k0_hw434 => k0_hw434

def k0_off869 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c434_i32 : BitVec 32 := 434#32
  let v4130 : BitVec 32 := Scalar.addi v5 c434_i32
  let v4131 : Index := Scalar.indexCast v4130
  ![v4131.toNat]
def k0_off870 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c434_i32_1524 : BitVec 32 := 434#32
  let v4133 : BitVec 32 := Scalar.addi v5 c434_i32_1524
  let c1_i32_1525 : BitVec 32 := 1#32
  let v4134 : BitVec 32 := Scalar.addi v4133 c1_i32_1525
  let v4135 : Index := Scalar.indexCast v4134
  ![v4135.toNat]
def k0_off871 (v4132 : BitVec 32) : Fin 2 → Nat :=
  let v4137 : Index := Scalar.indexCast v4132
  let c0_1526 : Index := 0#32
  ![v4137.toNat, 0]

def k0_chk435 (v4132 : BitVec 32) : Prop :=
  (∀ a, (k0_off871 v4132) a + S1x128.size a ≤ S10064x128.size a)
theorem k0_off871_inb : ∀ (v4132 : BitVec 32) (k0_hw435 : k0_chk435 v4132), ∀ a, (k0_off871 v4132) a + S1x128.size a ≤ S10064x128.size a := fun v4132 k0_hw435 => k0_hw435

def k0_off872 (v4136 : BitVec 32) : Fin 2 → Nat :=
  let v4143 : Index := Scalar.indexCast v4136
  let c0_1528 : Index := 0#32
  ![v4143.toNat, 0]

def k0_chk436 (v4136 : BitVec 32) : Prop :=
  (∀ a, (k0_off872 v4136) a + S1x128.size a ≤ S10064x128.size a)
theorem k0_off872_inb : ∀ (v4136 : BitVec 32) (k0_hw436 : k0_chk436 v4136), ∀ a, (k0_off872 v4136) a + S1x128.size a ≤ S10064x128.size a := fun v4136 k0_hw436 => k0_hw436

def k0_off873 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c436_i32 : BitVec 32 := 436#32
  let v4149 : BitVec 32 := Scalar.addi v5 c436_i32
  let v4150 : Index := Scalar.indexCast v4149
  ![v4150.toNat]
def k0_off874 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c436_i32_1531 : BitVec 32 := 436#32
  let v4152 : BitVec 32 := Scalar.addi v5 c436_i32_1531
  let c1_i32_1532 : BitVec 32 := 1#32
  let v4153 : BitVec 32 := Scalar.addi v4152 c1_i32_1532
  let v4154 : Index := Scalar.indexCast v4153
  ![v4154.toNat]
def k0_off875 (v4151 : BitVec 32) : Fin 2 → Nat :=
  let v4156 : Index := Scalar.indexCast v4151
  let c0_1533 : Index := 0#32
  ![v4156.toNat, 0]

def k0_chk437 (v4151 : BitVec 32) : Prop :=
  (∀ a, (k0_off875 v4151) a + S1x128.size a ≤ S10064x128.size a)
theorem k0_off875_inb : ∀ (v4151 : BitVec 32) (k0_hw437 : k0_chk437 v4151), ∀ a, (k0_off875 v4151) a + S1x128.size a ≤ S10064x128.size a := fun v4151 k0_hw437 => k0_hw437

def k0_off876 (v4155 : BitVec 32) : Fin 2 → Nat :=
  let v4162 : Index := Scalar.indexCast v4155
  let c0_1535 : Index := 0#32
  ![v4162.toNat, 0]

def k0_chk438 (v4155 : BitVec 32) : Prop :=
  (∀ a, (k0_off876 v4155) a + S1x128.size a ≤ S10064x128.size a)
theorem k0_off876_inb : ∀ (v4155 : BitVec 32) (k0_hw438 : k0_chk438 v4155), ∀ a, (k0_off876 v4155) a + S1x128.size a ≤ S10064x128.size a := fun v4155 k0_hw438 => k0_hw438

def k0_off877 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c438_i32 : BitVec 32 := 438#32
  let v4168 : BitVec 32 := Scalar.addi v5 c438_i32
  let v4169 : Index := Scalar.indexCast v4168
  ![v4169.toNat]
def k0_off878 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c438_i32_1538 : BitVec 32 := 438#32
  let v4171 : BitVec 32 := Scalar.addi v5 c438_i32_1538
  let c1_i32_1539 : BitVec 32 := 1#32
  let v4172 : BitVec 32 := Scalar.addi v4171 c1_i32_1539
  let v4173 : Index := Scalar.indexCast v4172
  ![v4173.toNat]
def k0_off879 (v4170 : BitVec 32) : Fin 2 → Nat :=
  let v4175 : Index := Scalar.indexCast v4170
  let c0_1540 : Index := 0#32
  ![v4175.toNat, 0]

def k0_chk439 (v4170 : BitVec 32) : Prop :=
  (∀ a, (k0_off879 v4170) a + S1x128.size a ≤ S10064x128.size a)
theorem k0_off879_inb : ∀ (v4170 : BitVec 32) (k0_hw439 : k0_chk439 v4170), ∀ a, (k0_off879 v4170) a + S1x128.size a ≤ S10064x128.size a := fun v4170 k0_hw439 => k0_hw439

def k0_off880 (v4174 : BitVec 32) : Fin 2 → Nat :=
  let v4181 : Index := Scalar.indexCast v4174
  let c0_1542 : Index := 0#32
  ![v4181.toNat, 0]

def k0_chk440 (v4174 : BitVec 32) : Prop :=
  (∀ a, (k0_off880 v4174) a + S1x128.size a ≤ S10064x128.size a)
theorem k0_off880_inb : ∀ (v4174 : BitVec 32) (k0_hw440 : k0_chk440 v4174), ∀ a, (k0_off880 v4174) a + S1x128.size a ≤ S10064x128.size a := fun v4174 k0_hw440 => k0_hw440

def k0_off881 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c440_i32 : BitVec 32 := 440#32
  let v4187 : BitVec 32 := Scalar.addi v5 c440_i32
  let v4188 : Index := Scalar.indexCast v4187
  ![v4188.toNat]
def k0_off882 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c440_i32_1545 : BitVec 32 := 440#32
  let v4190 : BitVec 32 := Scalar.addi v5 c440_i32_1545
  let c1_i32_1546 : BitVec 32 := 1#32
  let v4191 : BitVec 32 := Scalar.addi v4190 c1_i32_1546
  let v4192 : Index := Scalar.indexCast v4191
  ![v4192.toNat]
def k0_off883 (v4189 : BitVec 32) : Fin 2 → Nat :=
  let v4194 : Index := Scalar.indexCast v4189
  let c0_1547 : Index := 0#32
  ![v4194.toNat, 0]

def k0_chk441 (v4189 : BitVec 32) : Prop :=
  (∀ a, (k0_off883 v4189) a + S1x128.size a ≤ S10064x128.size a)
theorem k0_off883_inb : ∀ (v4189 : BitVec 32) (k0_hw441 : k0_chk441 v4189), ∀ a, (k0_off883 v4189) a + S1x128.size a ≤ S10064x128.size a := fun v4189 k0_hw441 => k0_hw441

def k0_off884 (v4193 : BitVec 32) : Fin 2 → Nat :=
  let v4200 : Index := Scalar.indexCast v4193
  let c0_1549 : Index := 0#32
  ![v4200.toNat, 0]

def k0_chk442 (v4193 : BitVec 32) : Prop :=
  (∀ a, (k0_off884 v4193) a + S1x128.size a ≤ S10064x128.size a)
theorem k0_off884_inb : ∀ (v4193 : BitVec 32) (k0_hw442 : k0_chk442 v4193), ∀ a, (k0_off884 v4193) a + S1x128.size a ≤ S10064x128.size a := fun v4193 k0_hw442 => k0_hw442

def k0_off885 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c442_i32 : BitVec 32 := 442#32
  let v4206 : BitVec 32 := Scalar.addi v5 c442_i32
  let v4207 : Index := Scalar.indexCast v4206
  ![v4207.toNat]
def k0_off886 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c442_i32_1552 : BitVec 32 := 442#32
  let v4209 : BitVec 32 := Scalar.addi v5 c442_i32_1552
  let c1_i32_1553 : BitVec 32 := 1#32
  let v4210 : BitVec 32 := Scalar.addi v4209 c1_i32_1553
  let v4211 : Index := Scalar.indexCast v4210
  ![v4211.toNat]
def k0_off887 (v4208 : BitVec 32) : Fin 2 → Nat :=
  let v4213 : Index := Scalar.indexCast v4208
  let c0_1554 : Index := 0#32
  ![v4213.toNat, 0]

def k0_chk443 (v4208 : BitVec 32) : Prop :=
  (∀ a, (k0_off887 v4208) a + S1x128.size a ≤ S10064x128.size a)
theorem k0_off887_inb : ∀ (v4208 : BitVec 32) (k0_hw443 : k0_chk443 v4208), ∀ a, (k0_off887 v4208) a + S1x128.size a ≤ S10064x128.size a := fun v4208 k0_hw443 => k0_hw443

def k0_off888 (v4212 : BitVec 32) : Fin 2 → Nat :=
  let v4219 : Index := Scalar.indexCast v4212
  let c0_1556 : Index := 0#32
  ![v4219.toNat, 0]

def k0_chk444 (v4212 : BitVec 32) : Prop :=
  (∀ a, (k0_off888 v4212) a + S1x128.size a ≤ S10064x128.size a)
theorem k0_off888_inb : ∀ (v4212 : BitVec 32) (k0_hw444 : k0_chk444 v4212), ∀ a, (k0_off888 v4212) a + S1x128.size a ≤ S10064x128.size a := fun v4212 k0_hw444 => k0_hw444

def k0_off889 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c444_i32 : BitVec 32 := 444#32
  let v4225 : BitVec 32 := Scalar.addi v5 c444_i32
  let v4226 : Index := Scalar.indexCast v4225
  ![v4226.toNat]
def k0_off890 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c444_i32_1559 : BitVec 32 := 444#32
  let v4228 : BitVec 32 := Scalar.addi v5 c444_i32_1559
  let c1_i32_1560 : BitVec 32 := 1#32
  let v4229 : BitVec 32 := Scalar.addi v4228 c1_i32_1560
  let v4230 : Index := Scalar.indexCast v4229
  ![v4230.toNat]
def k0_off891 (v4227 : BitVec 32) : Fin 2 → Nat :=
  let v4232 : Index := Scalar.indexCast v4227
  let c0_1561 : Index := 0#32
  ![v4232.toNat, 0]

def k0_chk445 (v4227 : BitVec 32) : Prop :=
  (∀ a, (k0_off891 v4227) a + S1x128.size a ≤ S10064x128.size a)
theorem k0_off891_inb : ∀ (v4227 : BitVec 32) (k0_hw445 : k0_chk445 v4227), ∀ a, (k0_off891 v4227) a + S1x128.size a ≤ S10064x128.size a := fun v4227 k0_hw445 => k0_hw445

def k0_off892 (v4231 : BitVec 32) : Fin 2 → Nat :=
  let v4238 : Index := Scalar.indexCast v4231
  let c0_1563 : Index := 0#32
  ![v4238.toNat, 0]

def k0_chk446 (v4231 : BitVec 32) : Prop :=
  (∀ a, (k0_off892 v4231) a + S1x128.size a ≤ S10064x128.size a)
theorem k0_off892_inb : ∀ (v4231 : BitVec 32) (k0_hw446 : k0_chk446 v4231), ∀ a, (k0_off892 v4231) a + S1x128.size a ≤ S10064x128.size a := fun v4231 k0_hw446 => k0_hw446

def k0_off893 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c446_i32 : BitVec 32 := 446#32
  let v4244 : BitVec 32 := Scalar.addi v5 c446_i32
  let v4245 : Index := Scalar.indexCast v4244
  ![v4245.toNat]
def k0_off894 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c446_i32_1566 : BitVec 32 := 446#32
  let v4247 : BitVec 32 := Scalar.addi v5 c446_i32_1566
  let c1_i32_1567 : BitVec 32 := 1#32
  let v4248 : BitVec 32 := Scalar.addi v4247 c1_i32_1567
  let v4249 : Index := Scalar.indexCast v4248
  ![v4249.toNat]
def k0_off895 (v4246 : BitVec 32) : Fin 2 → Nat :=
  let v4251 : Index := Scalar.indexCast v4246
  let c0_1568 : Index := 0#32
  ![v4251.toNat, 0]

def k0_chk447 (v4246 : BitVec 32) : Prop :=
  (∀ a, (k0_off895 v4246) a + S1x128.size a ≤ S10064x128.size a)
theorem k0_off895_inb : ∀ (v4246 : BitVec 32) (k0_hw447 : k0_chk447 v4246), ∀ a, (k0_off895 v4246) a + S1x128.size a ≤ S10064x128.size a := fun v4246 k0_hw447 => k0_hw447

def k0_off896 (v4250 : BitVec 32) : Fin 2 → Nat :=
  let v4257 : Index := Scalar.indexCast v4250
  let c0_1570 : Index := 0#32
  ![v4257.toNat, 0]

def k0_chk448 (v4250 : BitVec 32) : Prop :=
  (∀ a, (k0_off896 v4250) a + S1x128.size a ≤ S10064x128.size a)
theorem k0_off896_inb : ∀ (v4250 : BitVec 32) (k0_hw448 : k0_chk448 v4250), ∀ a, (k0_off896 v4250) a + S1x128.size a ≤ S10064x128.size a := fun v4250 k0_hw448 => k0_hw448

def k0_off897 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c448_i32 : BitVec 32 := 448#32
  let v4263 : BitVec 32 := Scalar.addi v5 c448_i32
  let v4264 : Index := Scalar.indexCast v4263
  ![v4264.toNat]
def k0_off898 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c448_i32_1573 : BitVec 32 := 448#32
  let v4266 : BitVec 32 := Scalar.addi v5 c448_i32_1573
  let c1_i32_1574 : BitVec 32 := 1#32
  let v4267 : BitVec 32 := Scalar.addi v4266 c1_i32_1574
  let v4268 : Index := Scalar.indexCast v4267
  ![v4268.toNat]
def k0_off899 (v4265 : BitVec 32) : Fin 2 → Nat :=
  let v4270 : Index := Scalar.indexCast v4265
  let c0_1575 : Index := 0#32
  ![v4270.toNat, 0]

def k0_chk449 (v4265 : BitVec 32) : Prop :=
  (∀ a, (k0_off899 v4265) a + S1x128.size a ≤ S10064x128.size a)
theorem k0_off899_inb : ∀ (v4265 : BitVec 32) (k0_hw449 : k0_chk449 v4265), ∀ a, (k0_off899 v4265) a + S1x128.size a ≤ S10064x128.size a := fun v4265 k0_hw449 => k0_hw449

def k0_off900 (v4269 : BitVec 32) : Fin 2 → Nat :=
  let v4276 : Index := Scalar.indexCast v4269
  let c0_1577 : Index := 0#32
  ![v4276.toNat, 0]

def k0_chk450 (v4269 : BitVec 32) : Prop :=
  (∀ a, (k0_off900 v4269) a + S1x128.size a ≤ S10064x128.size a)
theorem k0_off900_inb : ∀ (v4269 : BitVec 32) (k0_hw450 : k0_chk450 v4269), ∀ a, (k0_off900 v4269) a + S1x128.size a ≤ S10064x128.size a := fun v4269 k0_hw450 => k0_hw450

def k0_off901 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c450_i32 : BitVec 32 := 450#32
  let v4282 : BitVec 32 := Scalar.addi v5 c450_i32
  let v4283 : Index := Scalar.indexCast v4282
  ![v4283.toNat]
def k0_off902 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c450_i32_1580 : BitVec 32 := 450#32
  let v4285 : BitVec 32 := Scalar.addi v5 c450_i32_1580
  let c1_i32_1581 : BitVec 32 := 1#32
  let v4286 : BitVec 32 := Scalar.addi v4285 c1_i32_1581
  let v4287 : Index := Scalar.indexCast v4286
  ![v4287.toNat]
def k0_off903 (v4284 : BitVec 32) : Fin 2 → Nat :=
  let v4289 : Index := Scalar.indexCast v4284
  let c0_1582 : Index := 0#32
  ![v4289.toNat, 0]

def k0_chk451 (v4284 : BitVec 32) : Prop :=
  (∀ a, (k0_off903 v4284) a + S1x128.size a ≤ S10064x128.size a)
theorem k0_off903_inb : ∀ (v4284 : BitVec 32) (k0_hw451 : k0_chk451 v4284), ∀ a, (k0_off903 v4284) a + S1x128.size a ≤ S10064x128.size a := fun v4284 k0_hw451 => k0_hw451

def k0_off904 (v4288 : BitVec 32) : Fin 2 → Nat :=
  let v4295 : Index := Scalar.indexCast v4288
  let c0_1584 : Index := 0#32
  ![v4295.toNat, 0]

def k0_chk452 (v4288 : BitVec 32) : Prop :=
  (∀ a, (k0_off904 v4288) a + S1x128.size a ≤ S10064x128.size a)
theorem k0_off904_inb : ∀ (v4288 : BitVec 32) (k0_hw452 : k0_chk452 v4288), ∀ a, (k0_off904 v4288) a + S1x128.size a ≤ S10064x128.size a := fun v4288 k0_hw452 => k0_hw452

def k0_off905 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c452_i32 : BitVec 32 := 452#32
  let v4301 : BitVec 32 := Scalar.addi v5 c452_i32
  let v4302 : Index := Scalar.indexCast v4301
  ![v4302.toNat]
def k0_off906 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c452_i32_1587 : BitVec 32 := 452#32
  let v4304 : BitVec 32 := Scalar.addi v5 c452_i32_1587
  let c1_i32_1588 : BitVec 32 := 1#32
  let v4305 : BitVec 32 := Scalar.addi v4304 c1_i32_1588
  let v4306 : Index := Scalar.indexCast v4305
  ![v4306.toNat]
def k0_off907 (v4303 : BitVec 32) : Fin 2 → Nat :=
  let v4308 : Index := Scalar.indexCast v4303
  let c0_1589 : Index := 0#32
  ![v4308.toNat, 0]

def k0_chk453 (v4303 : BitVec 32) : Prop :=
  (∀ a, (k0_off907 v4303) a + S1x128.size a ≤ S10064x128.size a)
theorem k0_off907_inb : ∀ (v4303 : BitVec 32) (k0_hw453 : k0_chk453 v4303), ∀ a, (k0_off907 v4303) a + S1x128.size a ≤ S10064x128.size a := fun v4303 k0_hw453 => k0_hw453

def k0_off908 (v4307 : BitVec 32) : Fin 2 → Nat :=
  let v4314 : Index := Scalar.indexCast v4307
  let c0_1591 : Index := 0#32
  ![v4314.toNat, 0]

def k0_chk454 (v4307 : BitVec 32) : Prop :=
  (∀ a, (k0_off908 v4307) a + S1x128.size a ≤ S10064x128.size a)
theorem k0_off908_inb : ∀ (v4307 : BitVec 32) (k0_hw454 : k0_chk454 v4307), ∀ a, (k0_off908 v4307) a + S1x128.size a ≤ S10064x128.size a := fun v4307 k0_hw454 => k0_hw454

def k0_off909 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c454_i32 : BitVec 32 := 454#32
  let v4320 : BitVec 32 := Scalar.addi v5 c454_i32
  let v4321 : Index := Scalar.indexCast v4320
  ![v4321.toNat]
def k0_off910 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c454_i32_1594 : BitVec 32 := 454#32
  let v4323 : BitVec 32 := Scalar.addi v5 c454_i32_1594
  let c1_i32_1595 : BitVec 32 := 1#32
  let v4324 : BitVec 32 := Scalar.addi v4323 c1_i32_1595
  let v4325 : Index := Scalar.indexCast v4324
  ![v4325.toNat]
def k0_off911 (v4322 : BitVec 32) : Fin 2 → Nat :=
  let v4327 : Index := Scalar.indexCast v4322
  let c0_1596 : Index := 0#32
  ![v4327.toNat, 0]

def k0_chk455 (v4322 : BitVec 32) : Prop :=
  (∀ a, (k0_off911 v4322) a + S1x128.size a ≤ S10064x128.size a)
theorem k0_off911_inb : ∀ (v4322 : BitVec 32) (k0_hw455 : k0_chk455 v4322), ∀ a, (k0_off911 v4322) a + S1x128.size a ≤ S10064x128.size a := fun v4322 k0_hw455 => k0_hw455

def k0_off912 (v4326 : BitVec 32) : Fin 2 → Nat :=
  let v4333 : Index := Scalar.indexCast v4326
  let c0_1598 : Index := 0#32
  ![v4333.toNat, 0]

def k0_chk456 (v4326 : BitVec 32) : Prop :=
  (∀ a, (k0_off912 v4326) a + S1x128.size a ≤ S10064x128.size a)
theorem k0_off912_inb : ∀ (v4326 : BitVec 32) (k0_hw456 : k0_chk456 v4326), ∀ a, (k0_off912 v4326) a + S1x128.size a ≤ S10064x128.size a := fun v4326 k0_hw456 => k0_hw456

def k0_off913 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c456_i32 : BitVec 32 := 456#32
  let v4339 : BitVec 32 := Scalar.addi v5 c456_i32
  let v4340 : Index := Scalar.indexCast v4339
  ![v4340.toNat]
def k0_off914 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c456_i32_1601 : BitVec 32 := 456#32
  let v4342 : BitVec 32 := Scalar.addi v5 c456_i32_1601
  let c1_i32_1602 : BitVec 32 := 1#32
  let v4343 : BitVec 32 := Scalar.addi v4342 c1_i32_1602
  let v4344 : Index := Scalar.indexCast v4343
  ![v4344.toNat]
def k0_off915 (v4341 : BitVec 32) : Fin 2 → Nat :=
  let v4346 : Index := Scalar.indexCast v4341
  let c0_1603 : Index := 0#32
  ![v4346.toNat, 0]

def k0_chk457 (v4341 : BitVec 32) : Prop :=
  (∀ a, (k0_off915 v4341) a + S1x128.size a ≤ S10064x128.size a)
theorem k0_off915_inb : ∀ (v4341 : BitVec 32) (k0_hw457 : k0_chk457 v4341), ∀ a, (k0_off915 v4341) a + S1x128.size a ≤ S10064x128.size a := fun v4341 k0_hw457 => k0_hw457

def k0_off916 (v4345 : BitVec 32) : Fin 2 → Nat :=
  let v4352 : Index := Scalar.indexCast v4345
  let c0_1605 : Index := 0#32
  ![v4352.toNat, 0]

def k0_chk458 (v4345 : BitVec 32) : Prop :=
  (∀ a, (k0_off916 v4345) a + S1x128.size a ≤ S10064x128.size a)
theorem k0_off916_inb : ∀ (v4345 : BitVec 32) (k0_hw458 : k0_chk458 v4345), ∀ a, (k0_off916 v4345) a + S1x128.size a ≤ S10064x128.size a := fun v4345 k0_hw458 => k0_hw458

def k0_off917 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c458_i32 : BitVec 32 := 458#32
  let v4358 : BitVec 32 := Scalar.addi v5 c458_i32
  let v4359 : Index := Scalar.indexCast v4358
  ![v4359.toNat]
def k0_off918 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c458_i32_1608 : BitVec 32 := 458#32
  let v4361 : BitVec 32 := Scalar.addi v5 c458_i32_1608
  let c1_i32_1609 : BitVec 32 := 1#32
  let v4362 : BitVec 32 := Scalar.addi v4361 c1_i32_1609
  let v4363 : Index := Scalar.indexCast v4362
  ![v4363.toNat]
def k0_off919 (v4360 : BitVec 32) : Fin 2 → Nat :=
  let v4365 : Index := Scalar.indexCast v4360
  let c0_1610 : Index := 0#32
  ![v4365.toNat, 0]

def k0_chk459 (v4360 : BitVec 32) : Prop :=
  (∀ a, (k0_off919 v4360) a + S1x128.size a ≤ S10064x128.size a)
theorem k0_off919_inb : ∀ (v4360 : BitVec 32) (k0_hw459 : k0_chk459 v4360), ∀ a, (k0_off919 v4360) a + S1x128.size a ≤ S10064x128.size a := fun v4360 k0_hw459 => k0_hw459

def k0_off920 (v4364 : BitVec 32) : Fin 2 → Nat :=
  let v4371 : Index := Scalar.indexCast v4364
  let c0_1612 : Index := 0#32
  ![v4371.toNat, 0]

def k0_chk460 (v4364 : BitVec 32) : Prop :=
  (∀ a, (k0_off920 v4364) a + S1x128.size a ≤ S10064x128.size a)
theorem k0_off920_inb : ∀ (v4364 : BitVec 32) (k0_hw460 : k0_chk460 v4364), ∀ a, (k0_off920 v4364) a + S1x128.size a ≤ S10064x128.size a := fun v4364 k0_hw460 => k0_hw460

def k0_off921 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c460_i32 : BitVec 32 := 460#32
  let v4377 : BitVec 32 := Scalar.addi v5 c460_i32
  let v4378 : Index := Scalar.indexCast v4377
  ![v4378.toNat]
def k0_off922 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c460_i32_1615 : BitVec 32 := 460#32
  let v4380 : BitVec 32 := Scalar.addi v5 c460_i32_1615
  let c1_i32_1616 : BitVec 32 := 1#32
  let v4381 : BitVec 32 := Scalar.addi v4380 c1_i32_1616
  let v4382 : Index := Scalar.indexCast v4381
  ![v4382.toNat]
def k0_off923 (v4379 : BitVec 32) : Fin 2 → Nat :=
  let v4384 : Index := Scalar.indexCast v4379
  let c0_1617 : Index := 0#32
  ![v4384.toNat, 0]

def k0_chk461 (v4379 : BitVec 32) : Prop :=
  (∀ a, (k0_off923 v4379) a + S1x128.size a ≤ S10064x128.size a)
theorem k0_off923_inb : ∀ (v4379 : BitVec 32) (k0_hw461 : k0_chk461 v4379), ∀ a, (k0_off923 v4379) a + S1x128.size a ≤ S10064x128.size a := fun v4379 k0_hw461 => k0_hw461

def k0_off924 (v4383 : BitVec 32) : Fin 2 → Nat :=
  let v4390 : Index := Scalar.indexCast v4383
  let c0_1619 : Index := 0#32
  ![v4390.toNat, 0]

def k0_chk462 (v4383 : BitVec 32) : Prop :=
  (∀ a, (k0_off924 v4383) a + S1x128.size a ≤ S10064x128.size a)
theorem k0_off924_inb : ∀ (v4383 : BitVec 32) (k0_hw462 : k0_chk462 v4383), ∀ a, (k0_off924 v4383) a + S1x128.size a ≤ S10064x128.size a := fun v4383 k0_hw462 => k0_hw462

def k0_off925 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c462_i32 : BitVec 32 := 462#32
  let v4396 : BitVec 32 := Scalar.addi v5 c462_i32
  let v4397 : Index := Scalar.indexCast v4396
  ![v4397.toNat]
def k0_off926 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c462_i32_1622 : BitVec 32 := 462#32
  let v4399 : BitVec 32 := Scalar.addi v5 c462_i32_1622
  let c1_i32_1623 : BitVec 32 := 1#32
  let v4400 : BitVec 32 := Scalar.addi v4399 c1_i32_1623
  let v4401 : Index := Scalar.indexCast v4400
  ![v4401.toNat]
def k0_off927 (v4398 : BitVec 32) : Fin 2 → Nat :=
  let v4403 : Index := Scalar.indexCast v4398
  let c0_1624 : Index := 0#32
  ![v4403.toNat, 0]

def k0_chk463 (v4398 : BitVec 32) : Prop :=
  (∀ a, (k0_off927 v4398) a + S1x128.size a ≤ S10064x128.size a)
theorem k0_off927_inb : ∀ (v4398 : BitVec 32) (k0_hw463 : k0_chk463 v4398), ∀ a, (k0_off927 v4398) a + S1x128.size a ≤ S10064x128.size a := fun v4398 k0_hw463 => k0_hw463

def k0_off928 (v4402 : BitVec 32) : Fin 2 → Nat :=
  let v4409 : Index := Scalar.indexCast v4402
  let c0_1626 : Index := 0#32
  ![v4409.toNat, 0]

def k0_chk464 (v4402 : BitVec 32) : Prop :=
  (∀ a, (k0_off928 v4402) a + S1x128.size a ≤ S10064x128.size a)
theorem k0_off928_inb : ∀ (v4402 : BitVec 32) (k0_hw464 : k0_chk464 v4402), ∀ a, (k0_off928 v4402) a + S1x128.size a ≤ S10064x128.size a := fun v4402 k0_hw464 => k0_hw464

def k0_off929 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c464_i32 : BitVec 32 := 464#32
  let v4415 : BitVec 32 := Scalar.addi v5 c464_i32
  let v4416 : Index := Scalar.indexCast v4415
  ![v4416.toNat]
def k0_off930 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c464_i32_1629 : BitVec 32 := 464#32
  let v4418 : BitVec 32 := Scalar.addi v5 c464_i32_1629
  let c1_i32_1630 : BitVec 32 := 1#32
  let v4419 : BitVec 32 := Scalar.addi v4418 c1_i32_1630
  let v4420 : Index := Scalar.indexCast v4419
  ![v4420.toNat]
def k0_off931 (v4417 : BitVec 32) : Fin 2 → Nat :=
  let v4422 : Index := Scalar.indexCast v4417
  let c0_1631 : Index := 0#32
  ![v4422.toNat, 0]

def k0_chk465 (v4417 : BitVec 32) : Prop :=
  (∀ a, (k0_off931 v4417) a + S1x128.size a ≤ S10064x128.size a)
theorem k0_off931_inb : ∀ (v4417 : BitVec 32) (k0_hw465 : k0_chk465 v4417), ∀ a, (k0_off931 v4417) a + S1x128.size a ≤ S10064x128.size a := fun v4417 k0_hw465 => k0_hw465

def k0_off932 (v4421 : BitVec 32) : Fin 2 → Nat :=
  let v4428 : Index := Scalar.indexCast v4421
  let c0_1633 : Index := 0#32
  ![v4428.toNat, 0]

def k0_chk466 (v4421 : BitVec 32) : Prop :=
  (∀ a, (k0_off932 v4421) a + S1x128.size a ≤ S10064x128.size a)
theorem k0_off932_inb : ∀ (v4421 : BitVec 32) (k0_hw466 : k0_chk466 v4421), ∀ a, (k0_off932 v4421) a + S1x128.size a ≤ S10064x128.size a := fun v4421 k0_hw466 => k0_hw466

def k0_off933 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c466_i32 : BitVec 32 := 466#32
  let v4434 : BitVec 32 := Scalar.addi v5 c466_i32
  let v4435 : Index := Scalar.indexCast v4434
  ![v4435.toNat]
def k0_off934 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c466_i32_1636 : BitVec 32 := 466#32
  let v4437 : BitVec 32 := Scalar.addi v5 c466_i32_1636
  let c1_i32_1637 : BitVec 32 := 1#32
  let v4438 : BitVec 32 := Scalar.addi v4437 c1_i32_1637
  let v4439 : Index := Scalar.indexCast v4438
  ![v4439.toNat]
def k0_off935 (v4436 : BitVec 32) : Fin 2 → Nat :=
  let v4441 : Index := Scalar.indexCast v4436
  let c0_1638 : Index := 0#32
  ![v4441.toNat, 0]

def k0_chk467 (v4436 : BitVec 32) : Prop :=
  (∀ a, (k0_off935 v4436) a + S1x128.size a ≤ S10064x128.size a)
theorem k0_off935_inb : ∀ (v4436 : BitVec 32) (k0_hw467 : k0_chk467 v4436), ∀ a, (k0_off935 v4436) a + S1x128.size a ≤ S10064x128.size a := fun v4436 k0_hw467 => k0_hw467

def k0_off936 (v4440 : BitVec 32) : Fin 2 → Nat :=
  let v4447 : Index := Scalar.indexCast v4440
  let c0_1640 : Index := 0#32
  ![v4447.toNat, 0]

def k0_chk468 (v4440 : BitVec 32) : Prop :=
  (∀ a, (k0_off936 v4440) a + S1x128.size a ≤ S10064x128.size a)
theorem k0_off936_inb : ∀ (v4440 : BitVec 32) (k0_hw468 : k0_chk468 v4440), ∀ a, (k0_off936 v4440) a + S1x128.size a ≤ S10064x128.size a := fun v4440 k0_hw468 => k0_hw468

def k0_off937 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c468_i32 : BitVec 32 := 468#32
  let v4453 : BitVec 32 := Scalar.addi v5 c468_i32
  let v4454 : Index := Scalar.indexCast v4453
  ![v4454.toNat]
def k0_off938 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c468_i32_1643 : BitVec 32 := 468#32
  let v4456 : BitVec 32 := Scalar.addi v5 c468_i32_1643
  let c1_i32_1644 : BitVec 32 := 1#32
  let v4457 : BitVec 32 := Scalar.addi v4456 c1_i32_1644
  let v4458 : Index := Scalar.indexCast v4457
  ![v4458.toNat]
def k0_off939 (v4455 : BitVec 32) : Fin 2 → Nat :=
  let v4460 : Index := Scalar.indexCast v4455
  let c0_1645 : Index := 0#32
  ![v4460.toNat, 0]

def k0_chk469 (v4455 : BitVec 32) : Prop :=
  (∀ a, (k0_off939 v4455) a + S1x128.size a ≤ S10064x128.size a)
theorem k0_off939_inb : ∀ (v4455 : BitVec 32) (k0_hw469 : k0_chk469 v4455), ∀ a, (k0_off939 v4455) a + S1x128.size a ≤ S10064x128.size a := fun v4455 k0_hw469 => k0_hw469

def k0_off940 (v4459 : BitVec 32) : Fin 2 → Nat :=
  let v4466 : Index := Scalar.indexCast v4459
  let c0_1647 : Index := 0#32
  ![v4466.toNat, 0]

def k0_chk470 (v4459 : BitVec 32) : Prop :=
  (∀ a, (k0_off940 v4459) a + S1x128.size a ≤ S10064x128.size a)
theorem k0_off940_inb : ∀ (v4459 : BitVec 32) (k0_hw470 : k0_chk470 v4459), ∀ a, (k0_off940 v4459) a + S1x128.size a ≤ S10064x128.size a := fun v4459 k0_hw470 => k0_hw470

def k0_off941 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c470_i32 : BitVec 32 := 470#32
  let v4472 : BitVec 32 := Scalar.addi v5 c470_i32
  let v4473 : Index := Scalar.indexCast v4472
  ![v4473.toNat]
def k0_off942 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c470_i32_1650 : BitVec 32 := 470#32
  let v4475 : BitVec 32 := Scalar.addi v5 c470_i32_1650
  let c1_i32_1651 : BitVec 32 := 1#32
  let v4476 : BitVec 32 := Scalar.addi v4475 c1_i32_1651
  let v4477 : Index := Scalar.indexCast v4476
  ![v4477.toNat]
def k0_off943 (v4474 : BitVec 32) : Fin 2 → Nat :=
  let v4479 : Index := Scalar.indexCast v4474
  let c0_1652 : Index := 0#32
  ![v4479.toNat, 0]

def k0_chk471 (v4474 : BitVec 32) : Prop :=
  (∀ a, (k0_off943 v4474) a + S1x128.size a ≤ S10064x128.size a)
theorem k0_off943_inb : ∀ (v4474 : BitVec 32) (k0_hw471 : k0_chk471 v4474), ∀ a, (k0_off943 v4474) a + S1x128.size a ≤ S10064x128.size a := fun v4474 k0_hw471 => k0_hw471

def k0_off944 (v4478 : BitVec 32) : Fin 2 → Nat :=
  let v4485 : Index := Scalar.indexCast v4478
  let c0_1654 : Index := 0#32
  ![v4485.toNat, 0]

def k0_chk472 (v4478 : BitVec 32) : Prop :=
  (∀ a, (k0_off944 v4478) a + S1x128.size a ≤ S10064x128.size a)
theorem k0_off944_inb : ∀ (v4478 : BitVec 32) (k0_hw472 : k0_chk472 v4478), ∀ a, (k0_off944 v4478) a + S1x128.size a ≤ S10064x128.size a := fun v4478 k0_hw472 => k0_hw472

def k0_off945 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c472_i32 : BitVec 32 := 472#32
  let v4491 : BitVec 32 := Scalar.addi v5 c472_i32
  let v4492 : Index := Scalar.indexCast v4491
  ![v4492.toNat]
def k0_off946 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c472_i32_1657 : BitVec 32 := 472#32
  let v4494 : BitVec 32 := Scalar.addi v5 c472_i32_1657
  let c1_i32_1658 : BitVec 32 := 1#32
  let v4495 : BitVec 32 := Scalar.addi v4494 c1_i32_1658
  let v4496 : Index := Scalar.indexCast v4495
  ![v4496.toNat]
def k0_off947 (v4493 : BitVec 32) : Fin 2 → Nat :=
  let v4498 : Index := Scalar.indexCast v4493
  let c0_1659 : Index := 0#32
  ![v4498.toNat, 0]

def k0_chk473 (v4493 : BitVec 32) : Prop :=
  (∀ a, (k0_off947 v4493) a + S1x128.size a ≤ S10064x128.size a)
theorem k0_off947_inb : ∀ (v4493 : BitVec 32) (k0_hw473 : k0_chk473 v4493), ∀ a, (k0_off947 v4493) a + S1x128.size a ≤ S10064x128.size a := fun v4493 k0_hw473 => k0_hw473

def k0_off948 (v4497 : BitVec 32) : Fin 2 → Nat :=
  let v4504 : Index := Scalar.indexCast v4497
  let c0_1661 : Index := 0#32
  ![v4504.toNat, 0]

def k0_chk474 (v4497 : BitVec 32) : Prop :=
  (∀ a, (k0_off948 v4497) a + S1x128.size a ≤ S10064x128.size a)
theorem k0_off948_inb : ∀ (v4497 : BitVec 32) (k0_hw474 : k0_chk474 v4497), ∀ a, (k0_off948 v4497) a + S1x128.size a ≤ S10064x128.size a := fun v4497 k0_hw474 => k0_hw474

def k0_off949 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c474_i32 : BitVec 32 := 474#32
  let v4510 : BitVec 32 := Scalar.addi v5 c474_i32
  let v4511 : Index := Scalar.indexCast v4510
  ![v4511.toNat]
def k0_off950 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c474_i32_1664 : BitVec 32 := 474#32
  let v4513 : BitVec 32 := Scalar.addi v5 c474_i32_1664
  let c1_i32_1665 : BitVec 32 := 1#32
  let v4514 : BitVec 32 := Scalar.addi v4513 c1_i32_1665
  let v4515 : Index := Scalar.indexCast v4514
  ![v4515.toNat]
def k0_off951 (v4512 : BitVec 32) : Fin 2 → Nat :=
  let v4517 : Index := Scalar.indexCast v4512
  let c0_1666 : Index := 0#32
  ![v4517.toNat, 0]

def k0_chk475 (v4512 : BitVec 32) : Prop :=
  (∀ a, (k0_off951 v4512) a + S1x128.size a ≤ S10064x128.size a)
theorem k0_off951_inb : ∀ (v4512 : BitVec 32) (k0_hw475 : k0_chk475 v4512), ∀ a, (k0_off951 v4512) a + S1x128.size a ≤ S10064x128.size a := fun v4512 k0_hw475 => k0_hw475

def k0_off952 (v4516 : BitVec 32) : Fin 2 → Nat :=
  let v4523 : Index := Scalar.indexCast v4516
  let c0_1668 : Index := 0#32
  ![v4523.toNat, 0]

def k0_chk476 (v4516 : BitVec 32) : Prop :=
  (∀ a, (k0_off952 v4516) a + S1x128.size a ≤ S10064x128.size a)
theorem k0_off952_inb : ∀ (v4516 : BitVec 32) (k0_hw476 : k0_chk476 v4516), ∀ a, (k0_off952 v4516) a + S1x128.size a ≤ S10064x128.size a := fun v4516 k0_hw476 => k0_hw476

def k0_off953 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c476_i32 : BitVec 32 := 476#32
  let v4529 : BitVec 32 := Scalar.addi v5 c476_i32
  let v4530 : Index := Scalar.indexCast v4529
  ![v4530.toNat]
def k0_off954 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c476_i32_1671 : BitVec 32 := 476#32
  let v4532 : BitVec 32 := Scalar.addi v5 c476_i32_1671
  let c1_i32_1672 : BitVec 32 := 1#32
  let v4533 : BitVec 32 := Scalar.addi v4532 c1_i32_1672
  let v4534 : Index := Scalar.indexCast v4533
  ![v4534.toNat]
def k0_off955 (v4531 : BitVec 32) : Fin 2 → Nat :=
  let v4536 : Index := Scalar.indexCast v4531
  let c0_1673 : Index := 0#32
  ![v4536.toNat, 0]

def k0_chk477 (v4531 : BitVec 32) : Prop :=
  (∀ a, (k0_off955 v4531) a + S1x128.size a ≤ S10064x128.size a)
theorem k0_off955_inb : ∀ (v4531 : BitVec 32) (k0_hw477 : k0_chk477 v4531), ∀ a, (k0_off955 v4531) a + S1x128.size a ≤ S10064x128.size a := fun v4531 k0_hw477 => k0_hw477

def k0_off956 (v4535 : BitVec 32) : Fin 2 → Nat :=
  let v4542 : Index := Scalar.indexCast v4535
  let c0_1675 : Index := 0#32
  ![v4542.toNat, 0]

def k0_chk478 (v4535 : BitVec 32) : Prop :=
  (∀ a, (k0_off956 v4535) a + S1x128.size a ≤ S10064x128.size a)
theorem k0_off956_inb : ∀ (v4535 : BitVec 32) (k0_hw478 : k0_chk478 v4535), ∀ a, (k0_off956 v4535) a + S1x128.size a ≤ S10064x128.size a := fun v4535 k0_hw478 => k0_hw478

def k0_off957 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c478_i32 : BitVec 32 := 478#32
  let v4548 : BitVec 32 := Scalar.addi v5 c478_i32
  let v4549 : Index := Scalar.indexCast v4548
  ![v4549.toNat]
def k0_off958 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c478_i32_1678 : BitVec 32 := 478#32
  let v4551 : BitVec 32 := Scalar.addi v5 c478_i32_1678
  let c1_i32_1679 : BitVec 32 := 1#32
  let v4552 : BitVec 32 := Scalar.addi v4551 c1_i32_1679
  let v4553 : Index := Scalar.indexCast v4552
  ![v4553.toNat]
def k0_off959 (v4550 : BitVec 32) : Fin 2 → Nat :=
  let v4555 : Index := Scalar.indexCast v4550
  let c0_1680 : Index := 0#32
  ![v4555.toNat, 0]

def k0_chk479 (v4550 : BitVec 32) : Prop :=
  (∀ a, (k0_off959 v4550) a + S1x128.size a ≤ S10064x128.size a)
theorem k0_off959_inb : ∀ (v4550 : BitVec 32) (k0_hw479 : k0_chk479 v4550), ∀ a, (k0_off959 v4550) a + S1x128.size a ≤ S10064x128.size a := fun v4550 k0_hw479 => k0_hw479

def k0_off960 (v4554 : BitVec 32) : Fin 2 → Nat :=
  let v4561 : Index := Scalar.indexCast v4554
  let c0_1682 : Index := 0#32
  ![v4561.toNat, 0]

def k0_chk480 (v4554 : BitVec 32) : Prop :=
  (∀ a, (k0_off960 v4554) a + S1x128.size a ≤ S10064x128.size a)
theorem k0_off960_inb : ∀ (v4554 : BitVec 32) (k0_hw480 : k0_chk480 v4554), ∀ a, (k0_off960 v4554) a + S1x128.size a ≤ S10064x128.size a := fun v4554 k0_hw480 => k0_hw480

def k0_off961 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c480_i32 : BitVec 32 := 480#32
  let v4567 : BitVec 32 := Scalar.addi v5 c480_i32
  let v4568 : Index := Scalar.indexCast v4567
  ![v4568.toNat]
def k0_off962 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c480_i32_1685 : BitVec 32 := 480#32
  let v4570 : BitVec 32 := Scalar.addi v5 c480_i32_1685
  let c1_i32_1686 : BitVec 32 := 1#32
  let v4571 : BitVec 32 := Scalar.addi v4570 c1_i32_1686
  let v4572 : Index := Scalar.indexCast v4571
  ![v4572.toNat]
def k0_off963 (v4569 : BitVec 32) : Fin 2 → Nat :=
  let v4574 : Index := Scalar.indexCast v4569
  let c0_1687 : Index := 0#32
  ![v4574.toNat, 0]

def k0_chk481 (v4569 : BitVec 32) : Prop :=
  (∀ a, (k0_off963 v4569) a + S1x128.size a ≤ S10064x128.size a)
theorem k0_off963_inb : ∀ (v4569 : BitVec 32) (k0_hw481 : k0_chk481 v4569), ∀ a, (k0_off963 v4569) a + S1x128.size a ≤ S10064x128.size a := fun v4569 k0_hw481 => k0_hw481

def k0_off964 (v4573 : BitVec 32) : Fin 2 → Nat :=
  let v4580 : Index := Scalar.indexCast v4573
  let c0_1689 : Index := 0#32
  ![v4580.toNat, 0]

def k0_chk482 (v4573 : BitVec 32) : Prop :=
  (∀ a, (k0_off964 v4573) a + S1x128.size a ≤ S10064x128.size a)
theorem k0_off964_inb : ∀ (v4573 : BitVec 32) (k0_hw482 : k0_chk482 v4573), ∀ a, (k0_off964 v4573) a + S1x128.size a ≤ S10064x128.size a := fun v4573 k0_hw482 => k0_hw482

def k0_off965 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c482_i32 : BitVec 32 := 482#32
  let v4586 : BitVec 32 := Scalar.addi v5 c482_i32
  let v4587 : Index := Scalar.indexCast v4586
  ![v4587.toNat]
def k0_off966 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c482_i32_1692 : BitVec 32 := 482#32
  let v4589 : BitVec 32 := Scalar.addi v5 c482_i32_1692
  let c1_i32_1693 : BitVec 32 := 1#32
  let v4590 : BitVec 32 := Scalar.addi v4589 c1_i32_1693
  let v4591 : Index := Scalar.indexCast v4590
  ![v4591.toNat]
def k0_off967 (v4588 : BitVec 32) : Fin 2 → Nat :=
  let v4593 : Index := Scalar.indexCast v4588
  let c0_1694 : Index := 0#32
  ![v4593.toNat, 0]

def k0_chk483 (v4588 : BitVec 32) : Prop :=
  (∀ a, (k0_off967 v4588) a + S1x128.size a ≤ S10064x128.size a)
theorem k0_off967_inb : ∀ (v4588 : BitVec 32) (k0_hw483 : k0_chk483 v4588), ∀ a, (k0_off967 v4588) a + S1x128.size a ≤ S10064x128.size a := fun v4588 k0_hw483 => k0_hw483

def k0_off968 (v4592 : BitVec 32) : Fin 2 → Nat :=
  let v4599 : Index := Scalar.indexCast v4592
  let c0_1696 : Index := 0#32
  ![v4599.toNat, 0]

def k0_chk484 (v4592 : BitVec 32) : Prop :=
  (∀ a, (k0_off968 v4592) a + S1x128.size a ≤ S10064x128.size a)
theorem k0_off968_inb : ∀ (v4592 : BitVec 32) (k0_hw484 : k0_chk484 v4592), ∀ a, (k0_off968 v4592) a + S1x128.size a ≤ S10064x128.size a := fun v4592 k0_hw484 => k0_hw484

def k0_off969 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c484_i32 : BitVec 32 := 484#32
  let v4605 : BitVec 32 := Scalar.addi v5 c484_i32
  let v4606 : Index := Scalar.indexCast v4605
  ![v4606.toNat]
def k0_off970 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c484_i32_1699 : BitVec 32 := 484#32
  let v4608 : BitVec 32 := Scalar.addi v5 c484_i32_1699
  let c1_i32_1700 : BitVec 32 := 1#32
  let v4609 : BitVec 32 := Scalar.addi v4608 c1_i32_1700
  let v4610 : Index := Scalar.indexCast v4609
  ![v4610.toNat]
def k0_off971 (v4607 : BitVec 32) : Fin 2 → Nat :=
  let v4612 : Index := Scalar.indexCast v4607
  let c0_1701 : Index := 0#32
  ![v4612.toNat, 0]

def k0_chk485 (v4607 : BitVec 32) : Prop :=
  (∀ a, (k0_off971 v4607) a + S1x128.size a ≤ S10064x128.size a)
theorem k0_off971_inb : ∀ (v4607 : BitVec 32) (k0_hw485 : k0_chk485 v4607), ∀ a, (k0_off971 v4607) a + S1x128.size a ≤ S10064x128.size a := fun v4607 k0_hw485 => k0_hw485

def k0_off972 (v4611 : BitVec 32) : Fin 2 → Nat :=
  let v4618 : Index := Scalar.indexCast v4611
  let c0_1703 : Index := 0#32
  ![v4618.toNat, 0]

def k0_chk486 (v4611 : BitVec 32) : Prop :=
  (∀ a, (k0_off972 v4611) a + S1x128.size a ≤ S10064x128.size a)
theorem k0_off972_inb : ∀ (v4611 : BitVec 32) (k0_hw486 : k0_chk486 v4611), ∀ a, (k0_off972 v4611) a + S1x128.size a ≤ S10064x128.size a := fun v4611 k0_hw486 => k0_hw486

def k0_off973 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c486_i32 : BitVec 32 := 486#32
  let v4624 : BitVec 32 := Scalar.addi v5 c486_i32
  let v4625 : Index := Scalar.indexCast v4624
  ![v4625.toNat]
def k0_off974 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c486_i32_1706 : BitVec 32 := 486#32
  let v4627 : BitVec 32 := Scalar.addi v5 c486_i32_1706
  let c1_i32_1707 : BitVec 32 := 1#32
  let v4628 : BitVec 32 := Scalar.addi v4627 c1_i32_1707
  let v4629 : Index := Scalar.indexCast v4628
  ![v4629.toNat]
def k0_off975 (v4626 : BitVec 32) : Fin 2 → Nat :=
  let v4631 : Index := Scalar.indexCast v4626
  let c0_1708 : Index := 0#32
  ![v4631.toNat, 0]

def k0_chk487 (v4626 : BitVec 32) : Prop :=
  (∀ a, (k0_off975 v4626) a + S1x128.size a ≤ S10064x128.size a)
theorem k0_off975_inb : ∀ (v4626 : BitVec 32) (k0_hw487 : k0_chk487 v4626), ∀ a, (k0_off975 v4626) a + S1x128.size a ≤ S10064x128.size a := fun v4626 k0_hw487 => k0_hw487

def k0_off976 (v4630 : BitVec 32) : Fin 2 → Nat :=
  let v4637 : Index := Scalar.indexCast v4630
  let c0_1710 : Index := 0#32
  ![v4637.toNat, 0]

def k0_chk488 (v4630 : BitVec 32) : Prop :=
  (∀ a, (k0_off976 v4630) a + S1x128.size a ≤ S10064x128.size a)
theorem k0_off976_inb : ∀ (v4630 : BitVec 32) (k0_hw488 : k0_chk488 v4630), ∀ a, (k0_off976 v4630) a + S1x128.size a ≤ S10064x128.size a := fun v4630 k0_hw488 => k0_hw488

def k0_off977 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c488_i32 : BitVec 32 := 488#32
  let v4643 : BitVec 32 := Scalar.addi v5 c488_i32
  let v4644 : Index := Scalar.indexCast v4643
  ![v4644.toNat]
def k0_off978 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c488_i32_1713 : BitVec 32 := 488#32
  let v4646 : BitVec 32 := Scalar.addi v5 c488_i32_1713
  let c1_i32_1714 : BitVec 32 := 1#32
  let v4647 : BitVec 32 := Scalar.addi v4646 c1_i32_1714
  let v4648 : Index := Scalar.indexCast v4647
  ![v4648.toNat]
def k0_off979 (v4645 : BitVec 32) : Fin 2 → Nat :=
  let v4650 : Index := Scalar.indexCast v4645
  let c0_1715 : Index := 0#32
  ![v4650.toNat, 0]

def k0_chk489 (v4645 : BitVec 32) : Prop :=
  (∀ a, (k0_off979 v4645) a + S1x128.size a ≤ S10064x128.size a)
theorem k0_off979_inb : ∀ (v4645 : BitVec 32) (k0_hw489 : k0_chk489 v4645), ∀ a, (k0_off979 v4645) a + S1x128.size a ≤ S10064x128.size a := fun v4645 k0_hw489 => k0_hw489

def k0_off980 (v4649 : BitVec 32) : Fin 2 → Nat :=
  let v4656 : Index := Scalar.indexCast v4649
  let c0_1717 : Index := 0#32
  ![v4656.toNat, 0]

def k0_chk490 (v4649 : BitVec 32) : Prop :=
  (∀ a, (k0_off980 v4649) a + S1x128.size a ≤ S10064x128.size a)
theorem k0_off980_inb : ∀ (v4649 : BitVec 32) (k0_hw490 : k0_chk490 v4649), ∀ a, (k0_off980 v4649) a + S1x128.size a ≤ S10064x128.size a := fun v4649 k0_hw490 => k0_hw490

def k0_off981 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c490_i32 : BitVec 32 := 490#32
  let v4662 : BitVec 32 := Scalar.addi v5 c490_i32
  let v4663 : Index := Scalar.indexCast v4662
  ![v4663.toNat]
def k0_off982 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c490_i32_1720 : BitVec 32 := 490#32
  let v4665 : BitVec 32 := Scalar.addi v5 c490_i32_1720
  let c1_i32_1721 : BitVec 32 := 1#32
  let v4666 : BitVec 32 := Scalar.addi v4665 c1_i32_1721
  let v4667 : Index := Scalar.indexCast v4666
  ![v4667.toNat]
def k0_off983 (v4664 : BitVec 32) : Fin 2 → Nat :=
  let v4669 : Index := Scalar.indexCast v4664
  let c0_1722 : Index := 0#32
  ![v4669.toNat, 0]

def k0_chk491 (v4664 : BitVec 32) : Prop :=
  (∀ a, (k0_off983 v4664) a + S1x128.size a ≤ S10064x128.size a)
theorem k0_off983_inb : ∀ (v4664 : BitVec 32) (k0_hw491 : k0_chk491 v4664), ∀ a, (k0_off983 v4664) a + S1x128.size a ≤ S10064x128.size a := fun v4664 k0_hw491 => k0_hw491

def k0_off984 (v4668 : BitVec 32) : Fin 2 → Nat :=
  let v4675 : Index := Scalar.indexCast v4668
  let c0_1724 : Index := 0#32
  ![v4675.toNat, 0]

def k0_chk492 (v4668 : BitVec 32) : Prop :=
  (∀ a, (k0_off984 v4668) a + S1x128.size a ≤ S10064x128.size a)
theorem k0_off984_inb : ∀ (v4668 : BitVec 32) (k0_hw492 : k0_chk492 v4668), ∀ a, (k0_off984 v4668) a + S1x128.size a ≤ S10064x128.size a := fun v4668 k0_hw492 => k0_hw492

def k0_off985 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c492_i32 : BitVec 32 := 492#32
  let v4681 : BitVec 32 := Scalar.addi v5 c492_i32
  let v4682 : Index := Scalar.indexCast v4681
  ![v4682.toNat]
def k0_off986 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c492_i32_1727 : BitVec 32 := 492#32
  let v4684 : BitVec 32 := Scalar.addi v5 c492_i32_1727
  let c1_i32_1728 : BitVec 32 := 1#32
  let v4685 : BitVec 32 := Scalar.addi v4684 c1_i32_1728
  let v4686 : Index := Scalar.indexCast v4685
  ![v4686.toNat]
def k0_off987 (v4683 : BitVec 32) : Fin 2 → Nat :=
  let v4688 : Index := Scalar.indexCast v4683
  let c0_1729 : Index := 0#32
  ![v4688.toNat, 0]

def k0_chk493 (v4683 : BitVec 32) : Prop :=
  (∀ a, (k0_off987 v4683) a + S1x128.size a ≤ S10064x128.size a)
theorem k0_off987_inb : ∀ (v4683 : BitVec 32) (k0_hw493 : k0_chk493 v4683), ∀ a, (k0_off987 v4683) a + S1x128.size a ≤ S10064x128.size a := fun v4683 k0_hw493 => k0_hw493

def k0_off988 (v4687 : BitVec 32) : Fin 2 → Nat :=
  let v4694 : Index := Scalar.indexCast v4687
  let c0_1731 : Index := 0#32
  ![v4694.toNat, 0]

def k0_chk494 (v4687 : BitVec 32) : Prop :=
  (∀ a, (k0_off988 v4687) a + S1x128.size a ≤ S10064x128.size a)
theorem k0_off988_inb : ∀ (v4687 : BitVec 32) (k0_hw494 : k0_chk494 v4687), ∀ a, (k0_off988 v4687) a + S1x128.size a ≤ S10064x128.size a := fun v4687 k0_hw494 => k0_hw494

def k0_off989 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c494_i32 : BitVec 32 := 494#32
  let v4700 : BitVec 32 := Scalar.addi v5 c494_i32
  let v4701 : Index := Scalar.indexCast v4700
  ![v4701.toNat]
def k0_off990 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c494_i32_1734 : BitVec 32 := 494#32
  let v4703 : BitVec 32 := Scalar.addi v5 c494_i32_1734
  let c1_i32_1735 : BitVec 32 := 1#32
  let v4704 : BitVec 32 := Scalar.addi v4703 c1_i32_1735
  let v4705 : Index := Scalar.indexCast v4704
  ![v4705.toNat]
def k0_off991 (v4702 : BitVec 32) : Fin 2 → Nat :=
  let v4707 : Index := Scalar.indexCast v4702
  let c0_1736 : Index := 0#32
  ![v4707.toNat, 0]

def k0_chk495 (v4702 : BitVec 32) : Prop :=
  (∀ a, (k0_off991 v4702) a + S1x128.size a ≤ S10064x128.size a)
theorem k0_off991_inb : ∀ (v4702 : BitVec 32) (k0_hw495 : k0_chk495 v4702), ∀ a, (k0_off991 v4702) a + S1x128.size a ≤ S10064x128.size a := fun v4702 k0_hw495 => k0_hw495

def k0_off992 (v4706 : BitVec 32) : Fin 2 → Nat :=
  let v4713 : Index := Scalar.indexCast v4706
  let c0_1738 : Index := 0#32
  ![v4713.toNat, 0]

def k0_chk496 (v4706 : BitVec 32) : Prop :=
  (∀ a, (k0_off992 v4706) a + S1x128.size a ≤ S10064x128.size a)
theorem k0_off992_inb : ∀ (v4706 : BitVec 32) (k0_hw496 : k0_chk496 v4706), ∀ a, (k0_off992 v4706) a + S1x128.size a ≤ S10064x128.size a := fun v4706 k0_hw496 => k0_hw496

def k0_off993 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c496_i32 : BitVec 32 := 496#32
  let v4719 : BitVec 32 := Scalar.addi v5 c496_i32
  let v4720 : Index := Scalar.indexCast v4719
  ![v4720.toNat]
def k0_off994 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c496_i32_1741 : BitVec 32 := 496#32
  let v4722 : BitVec 32 := Scalar.addi v5 c496_i32_1741
  let c1_i32_1742 : BitVec 32 := 1#32
  let v4723 : BitVec 32 := Scalar.addi v4722 c1_i32_1742
  let v4724 : Index := Scalar.indexCast v4723
  ![v4724.toNat]
def k0_off995 (v4721 : BitVec 32) : Fin 2 → Nat :=
  let v4726 : Index := Scalar.indexCast v4721
  let c0_1743 : Index := 0#32
  ![v4726.toNat, 0]

def k0_chk497 (v4721 : BitVec 32) : Prop :=
  (∀ a, (k0_off995 v4721) a + S1x128.size a ≤ S10064x128.size a)
theorem k0_off995_inb : ∀ (v4721 : BitVec 32) (k0_hw497 : k0_chk497 v4721), ∀ a, (k0_off995 v4721) a + S1x128.size a ≤ S10064x128.size a := fun v4721 k0_hw497 => k0_hw497

def k0_off996 (v4725 : BitVec 32) : Fin 2 → Nat :=
  let v4732 : Index := Scalar.indexCast v4725
  let c0_1745 : Index := 0#32
  ![v4732.toNat, 0]

def k0_chk498 (v4725 : BitVec 32) : Prop :=
  (∀ a, (k0_off996 v4725) a + S1x128.size a ≤ S10064x128.size a)
theorem k0_off996_inb : ∀ (v4725 : BitVec 32) (k0_hw498 : k0_chk498 v4725), ∀ a, (k0_off996 v4725) a + S1x128.size a ≤ S10064x128.size a := fun v4725 k0_hw498 => k0_hw498

def k0_off997 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c498_i32 : BitVec 32 := 498#32
  let v4738 : BitVec 32 := Scalar.addi v5 c498_i32
  let v4739 : Index := Scalar.indexCast v4738
  ![v4739.toNat]
def k0_off998 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c498_i32_1748 : BitVec 32 := 498#32
  let v4741 : BitVec 32 := Scalar.addi v5 c498_i32_1748
  let c1_i32_1749 : BitVec 32 := 1#32
  let v4742 : BitVec 32 := Scalar.addi v4741 c1_i32_1749
  let v4743 : Index := Scalar.indexCast v4742
  ![v4743.toNat]
def k0_off999 (v4740 : BitVec 32) : Fin 2 → Nat :=
  let v4745 : Index := Scalar.indexCast v4740
  let c0_1750 : Index := 0#32
  ![v4745.toNat, 0]

def k0_chk499 (v4740 : BitVec 32) : Prop :=
  (∀ a, (k0_off999 v4740) a + S1x128.size a ≤ S10064x128.size a)
theorem k0_off999_inb : ∀ (v4740 : BitVec 32) (k0_hw499 : k0_chk499 v4740), ∀ a, (k0_off999 v4740) a + S1x128.size a ≤ S10064x128.size a := fun v4740 k0_hw499 => k0_hw499

def k0_off1000 (v4744 : BitVec 32) : Fin 2 → Nat :=
  let v4751 : Index := Scalar.indexCast v4744
  let c0_1752 : Index := 0#32
  ![v4751.toNat, 0]

def k0_chk500 (v4744 : BitVec 32) : Prop :=
  (∀ a, (k0_off1000 v4744) a + S1x128.size a ≤ S10064x128.size a)
theorem k0_off1000_inb : ∀ (v4744 : BitVec 32) (k0_hw500 : k0_chk500 v4744), ∀ a, (k0_off1000 v4744) a + S1x128.size a ≤ S10064x128.size a := fun v4744 k0_hw500 => k0_hw500

def k0_off1001 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c500_i32 : BitVec 32 := 500#32
  let v4757 : BitVec 32 := Scalar.addi v5 c500_i32
  let v4758 : Index := Scalar.indexCast v4757
  ![v4758.toNat]
def k0_off1002 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c500_i32_1755 : BitVec 32 := 500#32
  let v4760 : BitVec 32 := Scalar.addi v5 c500_i32_1755
  let c1_i32_1756 : BitVec 32 := 1#32
  let v4761 : BitVec 32 := Scalar.addi v4760 c1_i32_1756
  let v4762 : Index := Scalar.indexCast v4761
  ![v4762.toNat]
def k0_off1003 (v4759 : BitVec 32) : Fin 2 → Nat :=
  let v4764 : Index := Scalar.indexCast v4759
  let c0_1757 : Index := 0#32
  ![v4764.toNat, 0]

def k0_chk501 (v4759 : BitVec 32) : Prop :=
  (∀ a, (k0_off1003 v4759) a + S1x128.size a ≤ S10064x128.size a)
theorem k0_off1003_inb : ∀ (v4759 : BitVec 32) (k0_hw501 : k0_chk501 v4759), ∀ a, (k0_off1003 v4759) a + S1x128.size a ≤ S10064x128.size a := fun v4759 k0_hw501 => k0_hw501

def k0_off1004 (v4763 : BitVec 32) : Fin 2 → Nat :=
  let v4770 : Index := Scalar.indexCast v4763
  let c0_1759 : Index := 0#32
  ![v4770.toNat, 0]

def k0_chk502 (v4763 : BitVec 32) : Prop :=
  (∀ a, (k0_off1004 v4763) a + S1x128.size a ≤ S10064x128.size a)
theorem k0_off1004_inb : ∀ (v4763 : BitVec 32) (k0_hw502 : k0_chk502 v4763), ∀ a, (k0_off1004 v4763) a + S1x128.size a ≤ S10064x128.size a := fun v4763 k0_hw502 => k0_hw502

def k0_off1005 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c502_i32 : BitVec 32 := 502#32
  let v4776 : BitVec 32 := Scalar.addi v5 c502_i32
  let v4777 : Index := Scalar.indexCast v4776
  ![v4777.toNat]
def k0_off1006 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c502_i32_1762 : BitVec 32 := 502#32
  let v4779 : BitVec 32 := Scalar.addi v5 c502_i32_1762
  let c1_i32_1763 : BitVec 32 := 1#32
  let v4780 : BitVec 32 := Scalar.addi v4779 c1_i32_1763
  let v4781 : Index := Scalar.indexCast v4780
  ![v4781.toNat]
def k0_off1007 (v4778 : BitVec 32) : Fin 2 → Nat :=
  let v4783 : Index := Scalar.indexCast v4778
  let c0_1764 : Index := 0#32
  ![v4783.toNat, 0]

def k0_chk503 (v4778 : BitVec 32) : Prop :=
  (∀ a, (k0_off1007 v4778) a + S1x128.size a ≤ S10064x128.size a)
theorem k0_off1007_inb : ∀ (v4778 : BitVec 32) (k0_hw503 : k0_chk503 v4778), ∀ a, (k0_off1007 v4778) a + S1x128.size a ≤ S10064x128.size a := fun v4778 k0_hw503 => k0_hw503

def k0_off1008 (v4782 : BitVec 32) : Fin 2 → Nat :=
  let v4789 : Index := Scalar.indexCast v4782
  let c0_1766 : Index := 0#32
  ![v4789.toNat, 0]

def k0_chk504 (v4782 : BitVec 32) : Prop :=
  (∀ a, (k0_off1008 v4782) a + S1x128.size a ≤ S10064x128.size a)
theorem k0_off1008_inb : ∀ (v4782 : BitVec 32) (k0_hw504 : k0_chk504 v4782), ∀ a, (k0_off1008 v4782) a + S1x128.size a ≤ S10064x128.size a := fun v4782 k0_hw504 => k0_hw504

def k0_off1009 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c504_i32 : BitVec 32 := 504#32
  let v4795 : BitVec 32 := Scalar.addi v5 c504_i32
  let v4796 : Index := Scalar.indexCast v4795
  ![v4796.toNat]
def k0_off1010 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c504_i32_1769 : BitVec 32 := 504#32
  let v4798 : BitVec 32 := Scalar.addi v5 c504_i32_1769
  let c1_i32_1770 : BitVec 32 := 1#32
  let v4799 : BitVec 32 := Scalar.addi v4798 c1_i32_1770
  let v4800 : Index := Scalar.indexCast v4799
  ![v4800.toNat]
def k0_off1011 (v4797 : BitVec 32) : Fin 2 → Nat :=
  let v4802 : Index := Scalar.indexCast v4797
  let c0_1771 : Index := 0#32
  ![v4802.toNat, 0]

def k0_chk505 (v4797 : BitVec 32) : Prop :=
  (∀ a, (k0_off1011 v4797) a + S1x128.size a ≤ S10064x128.size a)
theorem k0_off1011_inb : ∀ (v4797 : BitVec 32) (k0_hw505 : k0_chk505 v4797), ∀ a, (k0_off1011 v4797) a + S1x128.size a ≤ S10064x128.size a := fun v4797 k0_hw505 => k0_hw505

def k0_off1012 (v4801 : BitVec 32) : Fin 2 → Nat :=
  let v4808 : Index := Scalar.indexCast v4801
  let c0_1773 : Index := 0#32
  ![v4808.toNat, 0]

def k0_chk506 (v4801 : BitVec 32) : Prop :=
  (∀ a, (k0_off1012 v4801) a + S1x128.size a ≤ S10064x128.size a)
theorem k0_off1012_inb : ∀ (v4801 : BitVec 32) (k0_hw506 : k0_chk506 v4801), ∀ a, (k0_off1012 v4801) a + S1x128.size a ≤ S10064x128.size a := fun v4801 k0_hw506 => k0_hw506

def k0_off1013 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c506_i32 : BitVec 32 := 506#32
  let v4814 : BitVec 32 := Scalar.addi v5 c506_i32
  let v4815 : Index := Scalar.indexCast v4814
  ![v4815.toNat]
def k0_off1014 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c506_i32_1776 : BitVec 32 := 506#32
  let v4817 : BitVec 32 := Scalar.addi v5 c506_i32_1776
  let c1_i32_1777 : BitVec 32 := 1#32
  let v4818 : BitVec 32 := Scalar.addi v4817 c1_i32_1777
  let v4819 : Index := Scalar.indexCast v4818
  ![v4819.toNat]
def k0_off1015 (v4816 : BitVec 32) : Fin 2 → Nat :=
  let v4821 : Index := Scalar.indexCast v4816
  let c0_1778 : Index := 0#32
  ![v4821.toNat, 0]

def k0_chk507 (v4816 : BitVec 32) : Prop :=
  (∀ a, (k0_off1015 v4816) a + S1x128.size a ≤ S10064x128.size a)
theorem k0_off1015_inb : ∀ (v4816 : BitVec 32) (k0_hw507 : k0_chk507 v4816), ∀ a, (k0_off1015 v4816) a + S1x128.size a ≤ S10064x128.size a := fun v4816 k0_hw507 => k0_hw507

def k0_off1016 (v4820 : BitVec 32) : Fin 2 → Nat :=
  let v4827 : Index := Scalar.indexCast v4820
  let c0_1780 : Index := 0#32
  ![v4827.toNat, 0]

def k0_chk508 (v4820 : BitVec 32) : Prop :=
  (∀ a, (k0_off1016 v4820) a + S1x128.size a ≤ S10064x128.size a)
theorem k0_off1016_inb : ∀ (v4820 : BitVec 32) (k0_hw508 : k0_chk508 v4820), ∀ a, (k0_off1016 v4820) a + S1x128.size a ≤ S10064x128.size a := fun v4820 k0_hw508 => k0_hw508

def k0_off1017 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c508_i32 : BitVec 32 := 508#32
  let v4833 : BitVec 32 := Scalar.addi v5 c508_i32
  let v4834 : Index := Scalar.indexCast v4833
  ![v4834.toNat]
def k0_off1018 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c508_i32_1783 : BitVec 32 := 508#32
  let v4836 : BitVec 32 := Scalar.addi v5 c508_i32_1783
  let c1_i32_1784 : BitVec 32 := 1#32
  let v4837 : BitVec 32 := Scalar.addi v4836 c1_i32_1784
  let v4838 : Index := Scalar.indexCast v4837
  ![v4838.toNat]
def k0_off1019 (v4835 : BitVec 32) : Fin 2 → Nat :=
  let v4840 : Index := Scalar.indexCast v4835
  let c0_1785 : Index := 0#32
  ![v4840.toNat, 0]

def k0_chk509 (v4835 : BitVec 32) : Prop :=
  (∀ a, (k0_off1019 v4835) a + S1x128.size a ≤ S10064x128.size a)
theorem k0_off1019_inb : ∀ (v4835 : BitVec 32) (k0_hw509 : k0_chk509 v4835), ∀ a, (k0_off1019 v4835) a + S1x128.size a ≤ S10064x128.size a := fun v4835 k0_hw509 => k0_hw509

def k0_off1020 (v4839 : BitVec 32) : Fin 2 → Nat :=
  let v4846 : Index := Scalar.indexCast v4839
  let c0_1787 : Index := 0#32
  ![v4846.toNat, 0]

def k0_chk510 (v4839 : BitVec 32) : Prop :=
  (∀ a, (k0_off1020 v4839) a + S1x128.size a ≤ S10064x128.size a)
theorem k0_off1020_inb : ∀ (v4839 : BitVec 32) (k0_hw510 : k0_chk510 v4839), ∀ a, (k0_off1020 v4839) a + S1x128.size a ≤ S10064x128.size a := fun v4839 k0_hw510 => k0_hw510

def k0_off1021 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c510_i32 : BitVec 32 := 510#32
  let v4852 : BitVec 32 := Scalar.addi v5 c510_i32
  let v4853 : Index := Scalar.indexCast v4852
  ![v4853.toNat]
def k0_off1022 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c510_i32_1790 : BitVec 32 := 510#32
  let v4855 : BitVec 32 := Scalar.addi v5 c510_i32_1790
  let c1_i32_1791 : BitVec 32 := 1#32
  let v4856 : BitVec 32 := Scalar.addi v4855 c1_i32_1791
  let v4857 : Index := Scalar.indexCast v4856
  ![v4857.toNat]
def k0_off1023 (v4854 : BitVec 32) : Fin 2 → Nat :=
  let v4859 : Index := Scalar.indexCast v4854
  let c0_1792 : Index := 0#32
  ![v4859.toNat, 0]

def k0_chk511 (v4854 : BitVec 32) : Prop :=
  (∀ a, (k0_off1023 v4854) a + S1x128.size a ≤ S10064x128.size a)
theorem k0_off1023_inb : ∀ (v4854 : BitVec 32) (k0_hw511 : k0_chk511 v4854), ∀ a, (k0_off1023 v4854) a + S1x128.size a ≤ S10064x128.size a := fun v4854 k0_hw511 => k0_hw511

def k0_off1024 (v4858 : BitVec 32) : Fin 2 → Nat :=
  let v4865 : Index := Scalar.indexCast v4858
  let c0_1794 : Index := 0#32
  ![v4865.toNat, 0]

def k0_chk512 (v4858 : BitVec 32) : Prop :=
  (∀ a, (k0_off1024 v4858) a + S1x128.size a ≤ S10064x128.size a)
theorem k0_off1024_inb : ∀ (v4858 : BitVec 32) (k0_hw512 : k0_chk512 v4858), ∀ a, (k0_off1024 v4858) a + S1x128.size a ≤ S10064x128.size a := fun v4858 k0_hw512 => k0_hw512

def k0_off1025 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c512_i32 : BitVec 32 := 512#32
  let v4871 : BitVec 32 := Scalar.addi v5 c512_i32
  let v4872 : Index := Scalar.indexCast v4871
  ![v4872.toNat]
def k0_off1026 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c512_i32_1797 : BitVec 32 := 512#32
  let v4874 : BitVec 32 := Scalar.addi v5 c512_i32_1797
  let c1_i32_1798 : BitVec 32 := 1#32
  let v4875 : BitVec 32 := Scalar.addi v4874 c1_i32_1798
  let v4876 : Index := Scalar.indexCast v4875
  ![v4876.toNat]
def k0_off1027 (v4873 : BitVec 32) : Fin 2 → Nat :=
  let v4878 : Index := Scalar.indexCast v4873
  let c0_1799 : Index := 0#32
  ![v4878.toNat, 0]

def k0_chk513 (v4873 : BitVec 32) : Prop :=
  (∀ a, (k0_off1027 v4873) a + S1x128.size a ≤ S10064x128.size a)
theorem k0_off1027_inb : ∀ (v4873 : BitVec 32) (k0_hw513 : k0_chk513 v4873), ∀ a, (k0_off1027 v4873) a + S1x128.size a ≤ S10064x128.size a := fun v4873 k0_hw513 => k0_hw513

def k0_off1028 (v4877 : BitVec 32) : Fin 2 → Nat :=
  let v4884 : Index := Scalar.indexCast v4877
  let c0_1801 : Index := 0#32
  ![v4884.toNat, 0]

def k0_chk514 (v4877 : BitVec 32) : Prop :=
  (∀ a, (k0_off1028 v4877) a + S1x128.size a ≤ S10064x128.size a)
theorem k0_off1028_inb : ∀ (v4877 : BitVec 32) (k0_hw514 : k0_chk514 v4877), ∀ a, (k0_off1028 v4877) a + S1x128.size a ≤ S10064x128.size a := fun v4877 k0_hw514 => k0_hw514

def k0_off1029 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c514_i32 : BitVec 32 := 514#32
  let v4890 : BitVec 32 := Scalar.addi v5 c514_i32
  let v4891 : Index := Scalar.indexCast v4890
  ![v4891.toNat]
def k0_off1030 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c514_i32_1804 : BitVec 32 := 514#32
  let v4893 : BitVec 32 := Scalar.addi v5 c514_i32_1804
  let c1_i32_1805 : BitVec 32 := 1#32
  let v4894 : BitVec 32 := Scalar.addi v4893 c1_i32_1805
  let v4895 : Index := Scalar.indexCast v4894
  ![v4895.toNat]
def k0_off1031 (v4892 : BitVec 32) : Fin 2 → Nat :=
  let v4897 : Index := Scalar.indexCast v4892
  let c0_1806 : Index := 0#32
  ![v4897.toNat, 0]

def k0_chk515 (v4892 : BitVec 32) : Prop :=
  (∀ a, (k0_off1031 v4892) a + S1x128.size a ≤ S10064x128.size a)
theorem k0_off1031_inb : ∀ (v4892 : BitVec 32) (k0_hw515 : k0_chk515 v4892), ∀ a, (k0_off1031 v4892) a + S1x128.size a ≤ S10064x128.size a := fun v4892 k0_hw515 => k0_hw515

def k0_off1032 (v4896 : BitVec 32) : Fin 2 → Nat :=
  let v4903 : Index := Scalar.indexCast v4896
  let c0_1808 : Index := 0#32
  ![v4903.toNat, 0]

def k0_chk516 (v4896 : BitVec 32) : Prop :=
  (∀ a, (k0_off1032 v4896) a + S1x128.size a ≤ S10064x128.size a)
theorem k0_off1032_inb : ∀ (v4896 : BitVec 32) (k0_hw516 : k0_chk516 v4896), ∀ a, (k0_off1032 v4896) a + S1x128.size a ≤ S10064x128.size a := fun v4896 k0_hw516 => k0_hw516

def k0_off1033 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c516_i32 : BitVec 32 := 516#32
  let v4909 : BitVec 32 := Scalar.addi v5 c516_i32
  let v4910 : Index := Scalar.indexCast v4909
  ![v4910.toNat]
def k0_off1034 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c516_i32_1811 : BitVec 32 := 516#32
  let v4912 : BitVec 32 := Scalar.addi v5 c516_i32_1811
  let c1_i32_1812 : BitVec 32 := 1#32
  let v4913 : BitVec 32 := Scalar.addi v4912 c1_i32_1812
  let v4914 : Index := Scalar.indexCast v4913
  ![v4914.toNat]
def k0_off1035 (v4911 : BitVec 32) : Fin 2 → Nat :=
  let v4916 : Index := Scalar.indexCast v4911
  let c0_1813 : Index := 0#32
  ![v4916.toNat, 0]

def k0_chk517 (v4911 : BitVec 32) : Prop :=
  (∀ a, (k0_off1035 v4911) a + S1x128.size a ≤ S10064x128.size a)
theorem k0_off1035_inb : ∀ (v4911 : BitVec 32) (k0_hw517 : k0_chk517 v4911), ∀ a, (k0_off1035 v4911) a + S1x128.size a ≤ S10064x128.size a := fun v4911 k0_hw517 => k0_hw517

def k0_off1036 (v4915 : BitVec 32) : Fin 2 → Nat :=
  let v4922 : Index := Scalar.indexCast v4915
  let c0_1815 : Index := 0#32
  ![v4922.toNat, 0]

def k0_chk518 (v4915 : BitVec 32) : Prop :=
  (∀ a, (k0_off1036 v4915) a + S1x128.size a ≤ S10064x128.size a)
theorem k0_off1036_inb : ∀ (v4915 : BitVec 32) (k0_hw518 : k0_chk518 v4915), ∀ a, (k0_off1036 v4915) a + S1x128.size a ≤ S10064x128.size a := fun v4915 k0_hw518 => k0_hw518

def k0_off1037 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c518_i32 : BitVec 32 := 518#32
  let v4928 : BitVec 32 := Scalar.addi v5 c518_i32
  let v4929 : Index := Scalar.indexCast v4928
  ![v4929.toNat]
def k0_off1038 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c518_i32_1818 : BitVec 32 := 518#32
  let v4931 : BitVec 32 := Scalar.addi v5 c518_i32_1818
  let c1_i32_1819 : BitVec 32 := 1#32
  let v4932 : BitVec 32 := Scalar.addi v4931 c1_i32_1819
  let v4933 : Index := Scalar.indexCast v4932
  ![v4933.toNat]
def k0_off1039 (v4930 : BitVec 32) : Fin 2 → Nat :=
  let v4935 : Index := Scalar.indexCast v4930
  let c0_1820 : Index := 0#32
  ![v4935.toNat, 0]

def k0_chk519 (v4930 : BitVec 32) : Prop :=
  (∀ a, (k0_off1039 v4930) a + S1x128.size a ≤ S10064x128.size a)
theorem k0_off1039_inb : ∀ (v4930 : BitVec 32) (k0_hw519 : k0_chk519 v4930), ∀ a, (k0_off1039 v4930) a + S1x128.size a ≤ S10064x128.size a := fun v4930 k0_hw519 => k0_hw519

def k0_off1040 (v4934 : BitVec 32) : Fin 2 → Nat :=
  let v4941 : Index := Scalar.indexCast v4934
  let c0_1822 : Index := 0#32
  ![v4941.toNat, 0]

def k0_chk520 (v4934 : BitVec 32) : Prop :=
  (∀ a, (k0_off1040 v4934) a + S1x128.size a ≤ S10064x128.size a)
theorem k0_off1040_inb : ∀ (v4934 : BitVec 32) (k0_hw520 : k0_chk520 v4934), ∀ a, (k0_off1040 v4934) a + S1x128.size a ≤ S10064x128.size a := fun v4934 k0_hw520 => k0_hw520

def k0_off1041 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c520_i32 : BitVec 32 := 520#32
  let v4947 : BitVec 32 := Scalar.addi v5 c520_i32
  let v4948 : Index := Scalar.indexCast v4947
  ![v4948.toNat]
def k0_off1042 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c520_i32_1825 : BitVec 32 := 520#32
  let v4950 : BitVec 32 := Scalar.addi v5 c520_i32_1825
  let c1_i32_1826 : BitVec 32 := 1#32
  let v4951 : BitVec 32 := Scalar.addi v4950 c1_i32_1826
  let v4952 : Index := Scalar.indexCast v4951
  ![v4952.toNat]
def k0_off1043 (v4949 : BitVec 32) : Fin 2 → Nat :=
  let v4954 : Index := Scalar.indexCast v4949
  let c0_1827 : Index := 0#32
  ![v4954.toNat, 0]

def k0_chk521 (v4949 : BitVec 32) : Prop :=
  (∀ a, (k0_off1043 v4949) a + S1x128.size a ≤ S10064x128.size a)
theorem k0_off1043_inb : ∀ (v4949 : BitVec 32) (k0_hw521 : k0_chk521 v4949), ∀ a, (k0_off1043 v4949) a + S1x128.size a ≤ S10064x128.size a := fun v4949 k0_hw521 => k0_hw521

def k0_off1044 (v4953 : BitVec 32) : Fin 2 → Nat :=
  let v4960 : Index := Scalar.indexCast v4953
  let c0_1829 : Index := 0#32
  ![v4960.toNat, 0]

def k0_chk522 (v4953 : BitVec 32) : Prop :=
  (∀ a, (k0_off1044 v4953) a + S1x128.size a ≤ S10064x128.size a)
theorem k0_off1044_inb : ∀ (v4953 : BitVec 32) (k0_hw522 : k0_chk522 v4953), ∀ a, (k0_off1044 v4953) a + S1x128.size a ≤ S10064x128.size a := fun v4953 k0_hw522 => k0_hw522

def k0_off1045 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c522_i32 : BitVec 32 := 522#32
  let v4966 : BitVec 32 := Scalar.addi v5 c522_i32
  let v4967 : Index := Scalar.indexCast v4966
  ![v4967.toNat]
def k0_off1046 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c522_i32_1832 : BitVec 32 := 522#32
  let v4969 : BitVec 32 := Scalar.addi v5 c522_i32_1832
  let c1_i32_1833 : BitVec 32 := 1#32
  let v4970 : BitVec 32 := Scalar.addi v4969 c1_i32_1833
  let v4971 : Index := Scalar.indexCast v4970
  ![v4971.toNat]
def k0_off1047 (v4968 : BitVec 32) : Fin 2 → Nat :=
  let v4973 : Index := Scalar.indexCast v4968
  let c0_1834 : Index := 0#32
  ![v4973.toNat, 0]

def k0_chk523 (v4968 : BitVec 32) : Prop :=
  (∀ a, (k0_off1047 v4968) a + S1x128.size a ≤ S10064x128.size a)
theorem k0_off1047_inb : ∀ (v4968 : BitVec 32) (k0_hw523 : k0_chk523 v4968), ∀ a, (k0_off1047 v4968) a + S1x128.size a ≤ S10064x128.size a := fun v4968 k0_hw523 => k0_hw523

def k0_off1048 (v4972 : BitVec 32) : Fin 2 → Nat :=
  let v4979 : Index := Scalar.indexCast v4972
  let c0_1836 : Index := 0#32
  ![v4979.toNat, 0]

def k0_chk524 (v4972 : BitVec 32) : Prop :=
  (∀ a, (k0_off1048 v4972) a + S1x128.size a ≤ S10064x128.size a)
theorem k0_off1048_inb : ∀ (v4972 : BitVec 32) (k0_hw524 : k0_chk524 v4972), ∀ a, (k0_off1048 v4972) a + S1x128.size a ≤ S10064x128.size a := fun v4972 k0_hw524 => k0_hw524

def k0_off1049 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c524_i32 : BitVec 32 := 524#32
  let v4985 : BitVec 32 := Scalar.addi v5 c524_i32
  let v4986 : Index := Scalar.indexCast v4985
  ![v4986.toNat]
def k0_off1050 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c524_i32_1839 : BitVec 32 := 524#32
  let v4988 : BitVec 32 := Scalar.addi v5 c524_i32_1839
  let c1_i32_1840 : BitVec 32 := 1#32
  let v4989 : BitVec 32 := Scalar.addi v4988 c1_i32_1840
  let v4990 : Index := Scalar.indexCast v4989
  ![v4990.toNat]
def k0_off1051 (v4987 : BitVec 32) : Fin 2 → Nat :=
  let v4992 : Index := Scalar.indexCast v4987
  let c0_1841 : Index := 0#32
  ![v4992.toNat, 0]

def k0_chk525 (v4987 : BitVec 32) : Prop :=
  (∀ a, (k0_off1051 v4987) a + S1x128.size a ≤ S10064x128.size a)
theorem k0_off1051_inb : ∀ (v4987 : BitVec 32) (k0_hw525 : k0_chk525 v4987), ∀ a, (k0_off1051 v4987) a + S1x128.size a ≤ S10064x128.size a := fun v4987 k0_hw525 => k0_hw525

def k0_off1052 (v4991 : BitVec 32) : Fin 2 → Nat :=
  let v4998 : Index := Scalar.indexCast v4991
  let c0_1843 : Index := 0#32
  ![v4998.toNat, 0]

def k0_chk526 (v4991 : BitVec 32) : Prop :=
  (∀ a, (k0_off1052 v4991) a + S1x128.size a ≤ S10064x128.size a)
theorem k0_off1052_inb : ∀ (v4991 : BitVec 32) (k0_hw526 : k0_chk526 v4991), ∀ a, (k0_off1052 v4991) a + S1x128.size a ≤ S10064x128.size a := fun v4991 k0_hw526 => k0_hw526

def k0_off1053 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c526_i32 : BitVec 32 := 526#32
  let v5004 : BitVec 32 := Scalar.addi v5 c526_i32
  let v5005 : Index := Scalar.indexCast v5004
  ![v5005.toNat]
def k0_off1054 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c526_i32_1846 : BitVec 32 := 526#32
  let v5007 : BitVec 32 := Scalar.addi v5 c526_i32_1846
  let c1_i32_1847 : BitVec 32 := 1#32
  let v5008 : BitVec 32 := Scalar.addi v5007 c1_i32_1847
  let v5009 : Index := Scalar.indexCast v5008
  ![v5009.toNat]
def k0_off1055 (v5006 : BitVec 32) : Fin 2 → Nat :=
  let v5011 : Index := Scalar.indexCast v5006
  let c0_1848 : Index := 0#32
  ![v5011.toNat, 0]

def k0_chk527 (v5006 : BitVec 32) : Prop :=
  (∀ a, (k0_off1055 v5006) a + S1x128.size a ≤ S10064x128.size a)
theorem k0_off1055_inb : ∀ (v5006 : BitVec 32) (k0_hw527 : k0_chk527 v5006), ∀ a, (k0_off1055 v5006) a + S1x128.size a ≤ S10064x128.size a := fun v5006 k0_hw527 => k0_hw527

def k0_off1056 (v5010 : BitVec 32) : Fin 2 → Nat :=
  let v5017 : Index := Scalar.indexCast v5010
  let c0_1850 : Index := 0#32
  ![v5017.toNat, 0]

def k0_chk528 (v5010 : BitVec 32) : Prop :=
  (∀ a, (k0_off1056 v5010) a + S1x128.size a ≤ S10064x128.size a)
theorem k0_off1056_inb : ∀ (v5010 : BitVec 32) (k0_hw528 : k0_chk528 v5010), ∀ a, (k0_off1056 v5010) a + S1x128.size a ≤ S10064x128.size a := fun v5010 k0_hw528 => k0_hw528

def k0_off1057 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c528_i32 : BitVec 32 := 528#32
  let v5023 : BitVec 32 := Scalar.addi v5 c528_i32
  let v5024 : Index := Scalar.indexCast v5023
  ![v5024.toNat]
def k0_off1058 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c528_i32_1853 : BitVec 32 := 528#32
  let v5026 : BitVec 32 := Scalar.addi v5 c528_i32_1853
  let c1_i32_1854 : BitVec 32 := 1#32
  let v5027 : BitVec 32 := Scalar.addi v5026 c1_i32_1854
  let v5028 : Index := Scalar.indexCast v5027
  ![v5028.toNat]
def k0_off1059 (v5025 : BitVec 32) : Fin 2 → Nat :=
  let v5030 : Index := Scalar.indexCast v5025
  let c0_1855 : Index := 0#32
  ![v5030.toNat, 0]

def k0_chk529 (v5025 : BitVec 32) : Prop :=
  (∀ a, (k0_off1059 v5025) a + S1x128.size a ≤ S10064x128.size a)
theorem k0_off1059_inb : ∀ (v5025 : BitVec 32) (k0_hw529 : k0_chk529 v5025), ∀ a, (k0_off1059 v5025) a + S1x128.size a ≤ S10064x128.size a := fun v5025 k0_hw529 => k0_hw529

def k0_off1060 (v5029 : BitVec 32) : Fin 2 → Nat :=
  let v5036 : Index := Scalar.indexCast v5029
  let c0_1857 : Index := 0#32
  ![v5036.toNat, 0]

def k0_chk530 (v5029 : BitVec 32) : Prop :=
  (∀ a, (k0_off1060 v5029) a + S1x128.size a ≤ S10064x128.size a)
theorem k0_off1060_inb : ∀ (v5029 : BitVec 32) (k0_hw530 : k0_chk530 v5029), ∀ a, (k0_off1060 v5029) a + S1x128.size a ≤ S10064x128.size a := fun v5029 k0_hw530 => k0_hw530

def k0_off1061 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c530_i32 : BitVec 32 := 530#32
  let v5042 : BitVec 32 := Scalar.addi v5 c530_i32
  let v5043 : Index := Scalar.indexCast v5042
  ![v5043.toNat]
def k0_off1062 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c530_i32_1860 : BitVec 32 := 530#32
  let v5045 : BitVec 32 := Scalar.addi v5 c530_i32_1860
  let c1_i32_1861 : BitVec 32 := 1#32
  let v5046 : BitVec 32 := Scalar.addi v5045 c1_i32_1861
  let v5047 : Index := Scalar.indexCast v5046
  ![v5047.toNat]
def k0_off1063 (v5044 : BitVec 32) : Fin 2 → Nat :=
  let v5049 : Index := Scalar.indexCast v5044
  let c0_1862 : Index := 0#32
  ![v5049.toNat, 0]

def k0_chk531 (v5044 : BitVec 32) : Prop :=
  (∀ a, (k0_off1063 v5044) a + S1x128.size a ≤ S10064x128.size a)
theorem k0_off1063_inb : ∀ (v5044 : BitVec 32) (k0_hw531 : k0_chk531 v5044), ∀ a, (k0_off1063 v5044) a + S1x128.size a ≤ S10064x128.size a := fun v5044 k0_hw531 => k0_hw531

def k0_off1064 (v5048 : BitVec 32) : Fin 2 → Nat :=
  let v5055 : Index := Scalar.indexCast v5048
  let c0_1864 : Index := 0#32
  ![v5055.toNat, 0]

def k0_chk532 (v5048 : BitVec 32) : Prop :=
  (∀ a, (k0_off1064 v5048) a + S1x128.size a ≤ S10064x128.size a)
theorem k0_off1064_inb : ∀ (v5048 : BitVec 32) (k0_hw532 : k0_chk532 v5048), ∀ a, (k0_off1064 v5048) a + S1x128.size a ≤ S10064x128.size a := fun v5048 k0_hw532 => k0_hw532

def k0_off1065 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c532_i32 : BitVec 32 := 532#32
  let v5061 : BitVec 32 := Scalar.addi v5 c532_i32
  let v5062 : Index := Scalar.indexCast v5061
  ![v5062.toNat]
def k0_off1066 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c532_i32_1867 : BitVec 32 := 532#32
  let v5064 : BitVec 32 := Scalar.addi v5 c532_i32_1867
  let c1_i32_1868 : BitVec 32 := 1#32
  let v5065 : BitVec 32 := Scalar.addi v5064 c1_i32_1868
  let v5066 : Index := Scalar.indexCast v5065
  ![v5066.toNat]
def k0_off1067 (v5063 : BitVec 32) : Fin 2 → Nat :=
  let v5068 : Index := Scalar.indexCast v5063
  let c0_1869 : Index := 0#32
  ![v5068.toNat, 0]

def k0_chk533 (v5063 : BitVec 32) : Prop :=
  (∀ a, (k0_off1067 v5063) a + S1x128.size a ≤ S10064x128.size a)
theorem k0_off1067_inb : ∀ (v5063 : BitVec 32) (k0_hw533 : k0_chk533 v5063), ∀ a, (k0_off1067 v5063) a + S1x128.size a ≤ S10064x128.size a := fun v5063 k0_hw533 => k0_hw533

def k0_off1068 (v5067 : BitVec 32) : Fin 2 → Nat :=
  let v5074 : Index := Scalar.indexCast v5067
  let c0_1871 : Index := 0#32
  ![v5074.toNat, 0]

def k0_chk534 (v5067 : BitVec 32) : Prop :=
  (∀ a, (k0_off1068 v5067) a + S1x128.size a ≤ S10064x128.size a)
theorem k0_off1068_inb : ∀ (v5067 : BitVec 32) (k0_hw534 : k0_chk534 v5067), ∀ a, (k0_off1068 v5067) a + S1x128.size a ≤ S10064x128.size a := fun v5067 k0_hw534 => k0_hw534

def k0_off1069 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c534_i32 : BitVec 32 := 534#32
  let v5080 : BitVec 32 := Scalar.addi v5 c534_i32
  let v5081 : Index := Scalar.indexCast v5080
  ![v5081.toNat]
def k0_off1070 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c534_i32_1874 : BitVec 32 := 534#32
  let v5083 : BitVec 32 := Scalar.addi v5 c534_i32_1874
  let c1_i32_1875 : BitVec 32 := 1#32
  let v5084 : BitVec 32 := Scalar.addi v5083 c1_i32_1875
  let v5085 : Index := Scalar.indexCast v5084
  ![v5085.toNat]
def k0_off1071 (v5082 : BitVec 32) : Fin 2 → Nat :=
  let v5087 : Index := Scalar.indexCast v5082
  let c0_1876 : Index := 0#32
  ![v5087.toNat, 0]

def k0_chk535 (v5082 : BitVec 32) : Prop :=
  (∀ a, (k0_off1071 v5082) a + S1x128.size a ≤ S10064x128.size a)
theorem k0_off1071_inb : ∀ (v5082 : BitVec 32) (k0_hw535 : k0_chk535 v5082), ∀ a, (k0_off1071 v5082) a + S1x128.size a ≤ S10064x128.size a := fun v5082 k0_hw535 => k0_hw535

def k0_off1072 (v5086 : BitVec 32) : Fin 2 → Nat :=
  let v5093 : Index := Scalar.indexCast v5086
  let c0_1878 : Index := 0#32
  ![v5093.toNat, 0]

def k0_chk536 (v5086 : BitVec 32) : Prop :=
  (∀ a, (k0_off1072 v5086) a + S1x128.size a ≤ S10064x128.size a)
theorem k0_off1072_inb : ∀ (v5086 : BitVec 32) (k0_hw536 : k0_chk536 v5086), ∀ a, (k0_off1072 v5086) a + S1x128.size a ≤ S10064x128.size a := fun v5086 k0_hw536 => k0_hw536

def k0_off1073 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c536_i32 : BitVec 32 := 536#32
  let v5099 : BitVec 32 := Scalar.addi v5 c536_i32
  let v5100 : Index := Scalar.indexCast v5099
  ![v5100.toNat]
def k0_off1074 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c536_i32_1881 : BitVec 32 := 536#32
  let v5102 : BitVec 32 := Scalar.addi v5 c536_i32_1881
  let c1_i32_1882 : BitVec 32 := 1#32
  let v5103 : BitVec 32 := Scalar.addi v5102 c1_i32_1882
  let v5104 : Index := Scalar.indexCast v5103
  ![v5104.toNat]
def k0_off1075 (v5101 : BitVec 32) : Fin 2 → Nat :=
  let v5106 : Index := Scalar.indexCast v5101
  let c0_1883 : Index := 0#32
  ![v5106.toNat, 0]

def k0_chk537 (v5101 : BitVec 32) : Prop :=
  (∀ a, (k0_off1075 v5101) a + S1x128.size a ≤ S10064x128.size a)
theorem k0_off1075_inb : ∀ (v5101 : BitVec 32) (k0_hw537 : k0_chk537 v5101), ∀ a, (k0_off1075 v5101) a + S1x128.size a ≤ S10064x128.size a := fun v5101 k0_hw537 => k0_hw537

def k0_off1076 (v5105 : BitVec 32) : Fin 2 → Nat :=
  let v5112 : Index := Scalar.indexCast v5105
  let c0_1885 : Index := 0#32
  ![v5112.toNat, 0]

def k0_chk538 (v5105 : BitVec 32) : Prop :=
  (∀ a, (k0_off1076 v5105) a + S1x128.size a ≤ S10064x128.size a)
theorem k0_off1076_inb : ∀ (v5105 : BitVec 32) (k0_hw538 : k0_chk538 v5105), ∀ a, (k0_off1076 v5105) a + S1x128.size a ≤ S10064x128.size a := fun v5105 k0_hw538 => k0_hw538

def k0_off1077 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c538_i32 : BitVec 32 := 538#32
  let v5118 : BitVec 32 := Scalar.addi v5 c538_i32
  let v5119 : Index := Scalar.indexCast v5118
  ![v5119.toNat]
def k0_off1078 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c538_i32_1888 : BitVec 32 := 538#32
  let v5121 : BitVec 32 := Scalar.addi v5 c538_i32_1888
  let c1_i32_1889 : BitVec 32 := 1#32
  let v5122 : BitVec 32 := Scalar.addi v5121 c1_i32_1889
  let v5123 : Index := Scalar.indexCast v5122
  ![v5123.toNat]
def k0_off1079 (v5120 : BitVec 32) : Fin 2 → Nat :=
  let v5125 : Index := Scalar.indexCast v5120
  let c0_1890 : Index := 0#32
  ![v5125.toNat, 0]

def k0_chk539 (v5120 : BitVec 32) : Prop :=
  (∀ a, (k0_off1079 v5120) a + S1x128.size a ≤ S10064x128.size a)
theorem k0_off1079_inb : ∀ (v5120 : BitVec 32) (k0_hw539 : k0_chk539 v5120), ∀ a, (k0_off1079 v5120) a + S1x128.size a ≤ S10064x128.size a := fun v5120 k0_hw539 => k0_hw539

def k0_off1080 (v5124 : BitVec 32) : Fin 2 → Nat :=
  let v5131 : Index := Scalar.indexCast v5124
  let c0_1892 : Index := 0#32
  ![v5131.toNat, 0]

def k0_chk540 (v5124 : BitVec 32) : Prop :=
  (∀ a, (k0_off1080 v5124) a + S1x128.size a ≤ S10064x128.size a)
theorem k0_off1080_inb : ∀ (v5124 : BitVec 32) (k0_hw540 : k0_chk540 v5124), ∀ a, (k0_off1080 v5124) a + S1x128.size a ≤ S10064x128.size a := fun v5124 k0_hw540 => k0_hw540

def k0_off1081 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c540_i32 : BitVec 32 := 540#32
  let v5137 : BitVec 32 := Scalar.addi v5 c540_i32
  let v5138 : Index := Scalar.indexCast v5137
  ![v5138.toNat]
def k0_off1082 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c540_i32_1895 : BitVec 32 := 540#32
  let v5140 : BitVec 32 := Scalar.addi v5 c540_i32_1895
  let c1_i32_1896 : BitVec 32 := 1#32
  let v5141 : BitVec 32 := Scalar.addi v5140 c1_i32_1896
  let v5142 : Index := Scalar.indexCast v5141
  ![v5142.toNat]
def k0_off1083 (v5139 : BitVec 32) : Fin 2 → Nat :=
  let v5144 : Index := Scalar.indexCast v5139
  let c0_1897 : Index := 0#32
  ![v5144.toNat, 0]

def k0_chk541 (v5139 : BitVec 32) : Prop :=
  (∀ a, (k0_off1083 v5139) a + S1x128.size a ≤ S10064x128.size a)
theorem k0_off1083_inb : ∀ (v5139 : BitVec 32) (k0_hw541 : k0_chk541 v5139), ∀ a, (k0_off1083 v5139) a + S1x128.size a ≤ S10064x128.size a := fun v5139 k0_hw541 => k0_hw541

def k0_off1084 (v5143 : BitVec 32) : Fin 2 → Nat :=
  let v5150 : Index := Scalar.indexCast v5143
  let c0_1899 : Index := 0#32
  ![v5150.toNat, 0]

def k0_chk542 (v5143 : BitVec 32) : Prop :=
  (∀ a, (k0_off1084 v5143) a + S1x128.size a ≤ S10064x128.size a)
theorem k0_off1084_inb : ∀ (v5143 : BitVec 32) (k0_hw542 : k0_chk542 v5143), ∀ a, (k0_off1084 v5143) a + S1x128.size a ≤ S10064x128.size a := fun v5143 k0_hw542 => k0_hw542

def k0_off1085 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c542_i32 : BitVec 32 := 542#32
  let v5156 : BitVec 32 := Scalar.addi v5 c542_i32
  let v5157 : Index := Scalar.indexCast v5156
  ![v5157.toNat]
def k0_off1086 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c542_i32_1902 : BitVec 32 := 542#32
  let v5159 : BitVec 32 := Scalar.addi v5 c542_i32_1902
  let c1_i32_1903 : BitVec 32 := 1#32
  let v5160 : BitVec 32 := Scalar.addi v5159 c1_i32_1903
  let v5161 : Index := Scalar.indexCast v5160
  ![v5161.toNat]
def k0_off1087 (v5158 : BitVec 32) : Fin 2 → Nat :=
  let v5163 : Index := Scalar.indexCast v5158
  let c0_1904 : Index := 0#32
  ![v5163.toNat, 0]

def k0_chk543 (v5158 : BitVec 32) : Prop :=
  (∀ a, (k0_off1087 v5158) a + S1x128.size a ≤ S10064x128.size a)
theorem k0_off1087_inb : ∀ (v5158 : BitVec 32) (k0_hw543 : k0_chk543 v5158), ∀ a, (k0_off1087 v5158) a + S1x128.size a ≤ S10064x128.size a := fun v5158 k0_hw543 => k0_hw543

def k0_off1088 (v5162 : BitVec 32) : Fin 2 → Nat :=
  let v5169 : Index := Scalar.indexCast v5162
  let c0_1906 : Index := 0#32
  ![v5169.toNat, 0]

def k0_chk544 (v5162 : BitVec 32) : Prop :=
  (∀ a, (k0_off1088 v5162) a + S1x128.size a ≤ S10064x128.size a)
theorem k0_off1088_inb : ∀ (v5162 : BitVec 32) (k0_hw544 : k0_chk544 v5162), ∀ a, (k0_off1088 v5162) a + S1x128.size a ≤ S10064x128.size a := fun v5162 k0_hw544 => k0_hw544

def k0_off1089 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c544_i32 : BitVec 32 := 544#32
  let v5175 : BitVec 32 := Scalar.addi v5 c544_i32
  let v5176 : Index := Scalar.indexCast v5175
  ![v5176.toNat]
def k0_off1090 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c544_i32_1909 : BitVec 32 := 544#32
  let v5178 : BitVec 32 := Scalar.addi v5 c544_i32_1909
  let c1_i32_1910 : BitVec 32 := 1#32
  let v5179 : BitVec 32 := Scalar.addi v5178 c1_i32_1910
  let v5180 : Index := Scalar.indexCast v5179
  ![v5180.toNat]
def k0_off1091 (v5177 : BitVec 32) : Fin 2 → Nat :=
  let v5182 : Index := Scalar.indexCast v5177
  let c0_1911 : Index := 0#32
  ![v5182.toNat, 0]

def k0_chk545 (v5177 : BitVec 32) : Prop :=
  (∀ a, (k0_off1091 v5177) a + S1x128.size a ≤ S10064x128.size a)
theorem k0_off1091_inb : ∀ (v5177 : BitVec 32) (k0_hw545 : k0_chk545 v5177), ∀ a, (k0_off1091 v5177) a + S1x128.size a ≤ S10064x128.size a := fun v5177 k0_hw545 => k0_hw545

def k0_off1092 (v5181 : BitVec 32) : Fin 2 → Nat :=
  let v5188 : Index := Scalar.indexCast v5181
  let c0_1913 : Index := 0#32
  ![v5188.toNat, 0]

def k0_chk546 (v5181 : BitVec 32) : Prop :=
  (∀ a, (k0_off1092 v5181) a + S1x128.size a ≤ S10064x128.size a)
theorem k0_off1092_inb : ∀ (v5181 : BitVec 32) (k0_hw546 : k0_chk546 v5181), ∀ a, (k0_off1092 v5181) a + S1x128.size a ≤ S10064x128.size a := fun v5181 k0_hw546 => k0_hw546

def k0_off1093 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c546_i32 : BitVec 32 := 546#32
  let v5194 : BitVec 32 := Scalar.addi v5 c546_i32
  let v5195 : Index := Scalar.indexCast v5194
  ![v5195.toNat]
def k0_off1094 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c546_i32_1916 : BitVec 32 := 546#32
  let v5197 : BitVec 32 := Scalar.addi v5 c546_i32_1916
  let c1_i32_1917 : BitVec 32 := 1#32
  let v5198 : BitVec 32 := Scalar.addi v5197 c1_i32_1917
  let v5199 : Index := Scalar.indexCast v5198
  ![v5199.toNat]
def k0_off1095 (v5196 : BitVec 32) : Fin 2 → Nat :=
  let v5201 : Index := Scalar.indexCast v5196
  let c0_1918 : Index := 0#32
  ![v5201.toNat, 0]

def k0_chk547 (v5196 : BitVec 32) : Prop :=
  (∀ a, (k0_off1095 v5196) a + S1x128.size a ≤ S10064x128.size a)
theorem k0_off1095_inb : ∀ (v5196 : BitVec 32) (k0_hw547 : k0_chk547 v5196), ∀ a, (k0_off1095 v5196) a + S1x128.size a ≤ S10064x128.size a := fun v5196 k0_hw547 => k0_hw547

def k0_off1096 (v5200 : BitVec 32) : Fin 2 → Nat :=
  let v5207 : Index := Scalar.indexCast v5200
  let c0_1920 : Index := 0#32
  ![v5207.toNat, 0]

def k0_chk548 (v5200 : BitVec 32) : Prop :=
  (∀ a, (k0_off1096 v5200) a + S1x128.size a ≤ S10064x128.size a)
theorem k0_off1096_inb : ∀ (v5200 : BitVec 32) (k0_hw548 : k0_chk548 v5200), ∀ a, (k0_off1096 v5200) a + S1x128.size a ≤ S10064x128.size a := fun v5200 k0_hw548 => k0_hw548

def k0_off1097 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c548_i32 : BitVec 32 := 548#32
  let v5213 : BitVec 32 := Scalar.addi v5 c548_i32
  let v5214 : Index := Scalar.indexCast v5213
  ![v5214.toNat]
def k0_off1098 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c548_i32_1923 : BitVec 32 := 548#32
  let v5216 : BitVec 32 := Scalar.addi v5 c548_i32_1923
  let c1_i32_1924 : BitVec 32 := 1#32
  let v5217 : BitVec 32 := Scalar.addi v5216 c1_i32_1924
  let v5218 : Index := Scalar.indexCast v5217
  ![v5218.toNat]
def k0_off1099 (v5215 : BitVec 32) : Fin 2 → Nat :=
  let v5220 : Index := Scalar.indexCast v5215
  let c0_1925 : Index := 0#32
  ![v5220.toNat, 0]

def k0_chk549 (v5215 : BitVec 32) : Prop :=
  (∀ a, (k0_off1099 v5215) a + S1x128.size a ≤ S10064x128.size a)
theorem k0_off1099_inb : ∀ (v5215 : BitVec 32) (k0_hw549 : k0_chk549 v5215), ∀ a, (k0_off1099 v5215) a + S1x128.size a ≤ S10064x128.size a := fun v5215 k0_hw549 => k0_hw549

def k0_off1100 (v5219 : BitVec 32) : Fin 2 → Nat :=
  let v5226 : Index := Scalar.indexCast v5219
  let c0_1927 : Index := 0#32
  ![v5226.toNat, 0]

def k0_chk550 (v5219 : BitVec 32) : Prop :=
  (∀ a, (k0_off1100 v5219) a + S1x128.size a ≤ S10064x128.size a)
theorem k0_off1100_inb : ∀ (v5219 : BitVec 32) (k0_hw550 : k0_chk550 v5219), ∀ a, (k0_off1100 v5219) a + S1x128.size a ≤ S10064x128.size a := fun v5219 k0_hw550 => k0_hw550

def k0_off1101 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c550_i32 : BitVec 32 := 550#32
  let v5232 : BitVec 32 := Scalar.addi v5 c550_i32
  let v5233 : Index := Scalar.indexCast v5232
  ![v5233.toNat]
def k0_off1102 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c550_i32_1930 : BitVec 32 := 550#32
  let v5235 : BitVec 32 := Scalar.addi v5 c550_i32_1930
  let c1_i32_1931 : BitVec 32 := 1#32
  let v5236 : BitVec 32 := Scalar.addi v5235 c1_i32_1931
  let v5237 : Index := Scalar.indexCast v5236
  ![v5237.toNat]
def k0_off1103 (v5234 : BitVec 32) : Fin 2 → Nat :=
  let v5239 : Index := Scalar.indexCast v5234
  let c0_1932 : Index := 0#32
  ![v5239.toNat, 0]

def k0_chk551 (v5234 : BitVec 32) : Prop :=
  (∀ a, (k0_off1103 v5234) a + S1x128.size a ≤ S10064x128.size a)
theorem k0_off1103_inb : ∀ (v5234 : BitVec 32) (k0_hw551 : k0_chk551 v5234), ∀ a, (k0_off1103 v5234) a + S1x128.size a ≤ S10064x128.size a := fun v5234 k0_hw551 => k0_hw551

def k0_off1104 (v5238 : BitVec 32) : Fin 2 → Nat :=
  let v5245 : Index := Scalar.indexCast v5238
  let c0_1934 : Index := 0#32
  ![v5245.toNat, 0]

def k0_chk552 (v5238 : BitVec 32) : Prop :=
  (∀ a, (k0_off1104 v5238) a + S1x128.size a ≤ S10064x128.size a)
theorem k0_off1104_inb : ∀ (v5238 : BitVec 32) (k0_hw552 : k0_chk552 v5238), ∀ a, (k0_off1104 v5238) a + S1x128.size a ≤ S10064x128.size a := fun v5238 k0_hw552 => k0_hw552

def k0_off1105 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c552_i32 : BitVec 32 := 552#32
  let v5251 : BitVec 32 := Scalar.addi v5 c552_i32
  let v5252 : Index := Scalar.indexCast v5251
  ![v5252.toNat]
def k0_off1106 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c552_i32_1937 : BitVec 32 := 552#32
  let v5254 : BitVec 32 := Scalar.addi v5 c552_i32_1937
  let c1_i32_1938 : BitVec 32 := 1#32
  let v5255 : BitVec 32 := Scalar.addi v5254 c1_i32_1938
  let v5256 : Index := Scalar.indexCast v5255
  ![v5256.toNat]
def k0_off1107 (v5253 : BitVec 32) : Fin 2 → Nat :=
  let v5258 : Index := Scalar.indexCast v5253
  let c0_1939 : Index := 0#32
  ![v5258.toNat, 0]

def k0_chk553 (v5253 : BitVec 32) : Prop :=
  (∀ a, (k0_off1107 v5253) a + S1x128.size a ≤ S10064x128.size a)
theorem k0_off1107_inb : ∀ (v5253 : BitVec 32) (k0_hw553 : k0_chk553 v5253), ∀ a, (k0_off1107 v5253) a + S1x128.size a ≤ S10064x128.size a := fun v5253 k0_hw553 => k0_hw553

def k0_off1108 (v5257 : BitVec 32) : Fin 2 → Nat :=
  let v5264 : Index := Scalar.indexCast v5257
  let c0_1941 : Index := 0#32
  ![v5264.toNat, 0]

def k0_chk554 (v5257 : BitVec 32) : Prop :=
  (∀ a, (k0_off1108 v5257) a + S1x128.size a ≤ S10064x128.size a)
theorem k0_off1108_inb : ∀ (v5257 : BitVec 32) (k0_hw554 : k0_chk554 v5257), ∀ a, (k0_off1108 v5257) a + S1x128.size a ≤ S10064x128.size a := fun v5257 k0_hw554 => k0_hw554

def k0_off1109 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c554_i32 : BitVec 32 := 554#32
  let v5270 : BitVec 32 := Scalar.addi v5 c554_i32
  let v5271 : Index := Scalar.indexCast v5270
  ![v5271.toNat]
def k0_off1110 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c554_i32_1944 : BitVec 32 := 554#32
  let v5273 : BitVec 32 := Scalar.addi v5 c554_i32_1944
  let c1_i32_1945 : BitVec 32 := 1#32
  let v5274 : BitVec 32 := Scalar.addi v5273 c1_i32_1945
  let v5275 : Index := Scalar.indexCast v5274
  ![v5275.toNat]
def k0_off1111 (v5272 : BitVec 32) : Fin 2 → Nat :=
  let v5277 : Index := Scalar.indexCast v5272
  let c0_1946 : Index := 0#32
  ![v5277.toNat, 0]

def k0_chk555 (v5272 : BitVec 32) : Prop :=
  (∀ a, (k0_off1111 v5272) a + S1x128.size a ≤ S10064x128.size a)
theorem k0_off1111_inb : ∀ (v5272 : BitVec 32) (k0_hw555 : k0_chk555 v5272), ∀ a, (k0_off1111 v5272) a + S1x128.size a ≤ S10064x128.size a := fun v5272 k0_hw555 => k0_hw555

def k0_off1112 (v5276 : BitVec 32) : Fin 2 → Nat :=
  let v5283 : Index := Scalar.indexCast v5276
  let c0_1948 : Index := 0#32
  ![v5283.toNat, 0]

def k0_chk556 (v5276 : BitVec 32) : Prop :=
  (∀ a, (k0_off1112 v5276) a + S1x128.size a ≤ S10064x128.size a)
theorem k0_off1112_inb : ∀ (v5276 : BitVec 32) (k0_hw556 : k0_chk556 v5276), ∀ a, (k0_off1112 v5276) a + S1x128.size a ≤ S10064x128.size a := fun v5276 k0_hw556 => k0_hw556

def k0_off1113 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c556_i32 : BitVec 32 := 556#32
  let v5289 : BitVec 32 := Scalar.addi v5 c556_i32
  let v5290 : Index := Scalar.indexCast v5289
  ![v5290.toNat]
def k0_off1114 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c556_i32_1951 : BitVec 32 := 556#32
  let v5292 : BitVec 32 := Scalar.addi v5 c556_i32_1951
  let c1_i32_1952 : BitVec 32 := 1#32
  let v5293 : BitVec 32 := Scalar.addi v5292 c1_i32_1952
  let v5294 : Index := Scalar.indexCast v5293
  ![v5294.toNat]
def k0_off1115 (v5291 : BitVec 32) : Fin 2 → Nat :=
  let v5296 : Index := Scalar.indexCast v5291
  let c0_1953 : Index := 0#32
  ![v5296.toNat, 0]

def k0_chk557 (v5291 : BitVec 32) : Prop :=
  (∀ a, (k0_off1115 v5291) a + S1x128.size a ≤ S10064x128.size a)
theorem k0_off1115_inb : ∀ (v5291 : BitVec 32) (k0_hw557 : k0_chk557 v5291), ∀ a, (k0_off1115 v5291) a + S1x128.size a ≤ S10064x128.size a := fun v5291 k0_hw557 => k0_hw557

def k0_off1116 (v5295 : BitVec 32) : Fin 2 → Nat :=
  let v5302 : Index := Scalar.indexCast v5295
  let c0_1955 : Index := 0#32
  ![v5302.toNat, 0]

def k0_chk558 (v5295 : BitVec 32) : Prop :=
  (∀ a, (k0_off1116 v5295) a + S1x128.size a ≤ S10064x128.size a)
theorem k0_off1116_inb : ∀ (v5295 : BitVec 32) (k0_hw558 : k0_chk558 v5295), ∀ a, (k0_off1116 v5295) a + S1x128.size a ≤ S10064x128.size a := fun v5295 k0_hw558 => k0_hw558

def k0_off1117 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c558_i32 : BitVec 32 := 558#32
  let v5308 : BitVec 32 := Scalar.addi v5 c558_i32
  let v5309 : Index := Scalar.indexCast v5308
  ![v5309.toNat]
def k0_off1118 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c558_i32_1958 : BitVec 32 := 558#32
  let v5311 : BitVec 32 := Scalar.addi v5 c558_i32_1958
  let c1_i32_1959 : BitVec 32 := 1#32
  let v5312 : BitVec 32 := Scalar.addi v5311 c1_i32_1959
  let v5313 : Index := Scalar.indexCast v5312
  ![v5313.toNat]
def k0_off1119 (v5310 : BitVec 32) : Fin 2 → Nat :=
  let v5315 : Index := Scalar.indexCast v5310
  let c0_1960 : Index := 0#32
  ![v5315.toNat, 0]

def k0_chk559 (v5310 : BitVec 32) : Prop :=
  (∀ a, (k0_off1119 v5310) a + S1x128.size a ≤ S10064x128.size a)
theorem k0_off1119_inb : ∀ (v5310 : BitVec 32) (k0_hw559 : k0_chk559 v5310), ∀ a, (k0_off1119 v5310) a + S1x128.size a ≤ S10064x128.size a := fun v5310 k0_hw559 => k0_hw559

def k0_off1120 (v5314 : BitVec 32) : Fin 2 → Nat :=
  let v5321 : Index := Scalar.indexCast v5314
  let c0_1962 : Index := 0#32
  ![v5321.toNat, 0]

def k0_chk560 (v5314 : BitVec 32) : Prop :=
  (∀ a, (k0_off1120 v5314) a + S1x128.size a ≤ S10064x128.size a)
theorem k0_off1120_inb : ∀ (v5314 : BitVec 32) (k0_hw560 : k0_chk560 v5314), ∀ a, (k0_off1120 v5314) a + S1x128.size a ≤ S10064x128.size a := fun v5314 k0_hw560 => k0_hw560

def k0_off1121 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c560_i32 : BitVec 32 := 560#32
  let v5327 : BitVec 32 := Scalar.addi v5 c560_i32
  let v5328 : Index := Scalar.indexCast v5327
  ![v5328.toNat]
def k0_off1122 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c560_i32_1965 : BitVec 32 := 560#32
  let v5330 : BitVec 32 := Scalar.addi v5 c560_i32_1965
  let c1_i32_1966 : BitVec 32 := 1#32
  let v5331 : BitVec 32 := Scalar.addi v5330 c1_i32_1966
  let v5332 : Index := Scalar.indexCast v5331
  ![v5332.toNat]
def k0_off1123 (v5329 : BitVec 32) : Fin 2 → Nat :=
  let v5334 : Index := Scalar.indexCast v5329
  let c0_1967 : Index := 0#32
  ![v5334.toNat, 0]

def k0_chk561 (v5329 : BitVec 32) : Prop :=
  (∀ a, (k0_off1123 v5329) a + S1x128.size a ≤ S10064x128.size a)
theorem k0_off1123_inb : ∀ (v5329 : BitVec 32) (k0_hw561 : k0_chk561 v5329), ∀ a, (k0_off1123 v5329) a + S1x128.size a ≤ S10064x128.size a := fun v5329 k0_hw561 => k0_hw561

def k0_off1124 (v5333 : BitVec 32) : Fin 2 → Nat :=
  let v5340 : Index := Scalar.indexCast v5333
  let c0_1969 : Index := 0#32
  ![v5340.toNat, 0]

def k0_chk562 (v5333 : BitVec 32) : Prop :=
  (∀ a, (k0_off1124 v5333) a + S1x128.size a ≤ S10064x128.size a)
theorem k0_off1124_inb : ∀ (v5333 : BitVec 32) (k0_hw562 : k0_chk562 v5333), ∀ a, (k0_off1124 v5333) a + S1x128.size a ≤ S10064x128.size a := fun v5333 k0_hw562 => k0_hw562

def k0_off1125 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c562_i32 : BitVec 32 := 562#32
  let v5346 : BitVec 32 := Scalar.addi v5 c562_i32
  let v5347 : Index := Scalar.indexCast v5346
  ![v5347.toNat]
def k0_off1126 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c562_i32_1972 : BitVec 32 := 562#32
  let v5349 : BitVec 32 := Scalar.addi v5 c562_i32_1972
  let c1_i32_1973 : BitVec 32 := 1#32
  let v5350 : BitVec 32 := Scalar.addi v5349 c1_i32_1973
  let v5351 : Index := Scalar.indexCast v5350
  ![v5351.toNat]
def k0_off1127 (v5348 : BitVec 32) : Fin 2 → Nat :=
  let v5353 : Index := Scalar.indexCast v5348
  let c0_1974 : Index := 0#32
  ![v5353.toNat, 0]

def k0_chk563 (v5348 : BitVec 32) : Prop :=
  (∀ a, (k0_off1127 v5348) a + S1x128.size a ≤ S10064x128.size a)
theorem k0_off1127_inb : ∀ (v5348 : BitVec 32) (k0_hw563 : k0_chk563 v5348), ∀ a, (k0_off1127 v5348) a + S1x128.size a ≤ S10064x128.size a := fun v5348 k0_hw563 => k0_hw563

def k0_off1128 (v5352 : BitVec 32) : Fin 2 → Nat :=
  let v5359 : Index := Scalar.indexCast v5352
  let c0_1976 : Index := 0#32
  ![v5359.toNat, 0]

def k0_chk564 (v5352 : BitVec 32) : Prop :=
  (∀ a, (k0_off1128 v5352) a + S1x128.size a ≤ S10064x128.size a)
theorem k0_off1128_inb : ∀ (v5352 : BitVec 32) (k0_hw564 : k0_chk564 v5352), ∀ a, (k0_off1128 v5352) a + S1x128.size a ≤ S10064x128.size a := fun v5352 k0_hw564 => k0_hw564

def k0_off1129 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c564_i32 : BitVec 32 := 564#32
  let v5365 : BitVec 32 := Scalar.addi v5 c564_i32
  let v5366 : Index := Scalar.indexCast v5365
  ![v5366.toNat]
def k0_off1130 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c564_i32_1979 : BitVec 32 := 564#32
  let v5368 : BitVec 32 := Scalar.addi v5 c564_i32_1979
  let c1_i32_1980 : BitVec 32 := 1#32
  let v5369 : BitVec 32 := Scalar.addi v5368 c1_i32_1980
  let v5370 : Index := Scalar.indexCast v5369
  ![v5370.toNat]
def k0_off1131 (v5367 : BitVec 32) : Fin 2 → Nat :=
  let v5372 : Index := Scalar.indexCast v5367
  let c0_1981 : Index := 0#32
  ![v5372.toNat, 0]

def k0_chk565 (v5367 : BitVec 32) : Prop :=
  (∀ a, (k0_off1131 v5367) a + S1x128.size a ≤ S10064x128.size a)
theorem k0_off1131_inb : ∀ (v5367 : BitVec 32) (k0_hw565 : k0_chk565 v5367), ∀ a, (k0_off1131 v5367) a + S1x128.size a ≤ S10064x128.size a := fun v5367 k0_hw565 => k0_hw565

def k0_off1132 (v5371 : BitVec 32) : Fin 2 → Nat :=
  let v5378 : Index := Scalar.indexCast v5371
  let c0_1983 : Index := 0#32
  ![v5378.toNat, 0]

def k0_chk566 (v5371 : BitVec 32) : Prop :=
  (∀ a, (k0_off1132 v5371) a + S1x128.size a ≤ S10064x128.size a)
theorem k0_off1132_inb : ∀ (v5371 : BitVec 32) (k0_hw566 : k0_chk566 v5371), ∀ a, (k0_off1132 v5371) a + S1x128.size a ≤ S10064x128.size a := fun v5371 k0_hw566 => k0_hw566

def k0_off1133 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c566_i32 : BitVec 32 := 566#32
  let v5384 : BitVec 32 := Scalar.addi v5 c566_i32
  let v5385 : Index := Scalar.indexCast v5384
  ![v5385.toNat]
def k0_off1134 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c566_i32_1986 : BitVec 32 := 566#32
  let v5387 : BitVec 32 := Scalar.addi v5 c566_i32_1986
  let c1_i32_1987 : BitVec 32 := 1#32
  let v5388 : BitVec 32 := Scalar.addi v5387 c1_i32_1987
  let v5389 : Index := Scalar.indexCast v5388
  ![v5389.toNat]
def k0_off1135 (v5386 : BitVec 32) : Fin 2 → Nat :=
  let v5391 : Index := Scalar.indexCast v5386
  let c0_1988 : Index := 0#32
  ![v5391.toNat, 0]

def k0_chk567 (v5386 : BitVec 32) : Prop :=
  (∀ a, (k0_off1135 v5386) a + S1x128.size a ≤ S10064x128.size a)
theorem k0_off1135_inb : ∀ (v5386 : BitVec 32) (k0_hw567 : k0_chk567 v5386), ∀ a, (k0_off1135 v5386) a + S1x128.size a ≤ S10064x128.size a := fun v5386 k0_hw567 => k0_hw567

def k0_off1136 (v5390 : BitVec 32) : Fin 2 → Nat :=
  let v5397 : Index := Scalar.indexCast v5390
  let c0_1990 : Index := 0#32
  ![v5397.toNat, 0]

def k0_chk568 (v5390 : BitVec 32) : Prop :=
  (∀ a, (k0_off1136 v5390) a + S1x128.size a ≤ S10064x128.size a)
theorem k0_off1136_inb : ∀ (v5390 : BitVec 32) (k0_hw568 : k0_chk568 v5390), ∀ a, (k0_off1136 v5390) a + S1x128.size a ≤ S10064x128.size a := fun v5390 k0_hw568 => k0_hw568

def k0_off1137 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c568_i32 : BitVec 32 := 568#32
  let v5403 : BitVec 32 := Scalar.addi v5 c568_i32
  let v5404 : Index := Scalar.indexCast v5403
  ![v5404.toNat]
def k0_off1138 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c568_i32_1993 : BitVec 32 := 568#32
  let v5406 : BitVec 32 := Scalar.addi v5 c568_i32_1993
  let c1_i32_1994 : BitVec 32 := 1#32
  let v5407 : BitVec 32 := Scalar.addi v5406 c1_i32_1994
  let v5408 : Index := Scalar.indexCast v5407
  ![v5408.toNat]
def k0_off1139 (v5405 : BitVec 32) : Fin 2 → Nat :=
  let v5410 : Index := Scalar.indexCast v5405
  let c0_1995 : Index := 0#32
  ![v5410.toNat, 0]

def k0_chk569 (v5405 : BitVec 32) : Prop :=
  (∀ a, (k0_off1139 v5405) a + S1x128.size a ≤ S10064x128.size a)
theorem k0_off1139_inb : ∀ (v5405 : BitVec 32) (k0_hw569 : k0_chk569 v5405), ∀ a, (k0_off1139 v5405) a + S1x128.size a ≤ S10064x128.size a := fun v5405 k0_hw569 => k0_hw569

def k0_off1140 (v5409 : BitVec 32) : Fin 2 → Nat :=
  let v5416 : Index := Scalar.indexCast v5409
  let c0_1997 : Index := 0#32
  ![v5416.toNat, 0]

def k0_chk570 (v5409 : BitVec 32) : Prop :=
  (∀ a, (k0_off1140 v5409) a + S1x128.size a ≤ S10064x128.size a)
theorem k0_off1140_inb : ∀ (v5409 : BitVec 32) (k0_hw570 : k0_chk570 v5409), ∀ a, (k0_off1140 v5409) a + S1x128.size a ≤ S10064x128.size a := fun v5409 k0_hw570 => k0_hw570

def k0_off1141 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c570_i32 : BitVec 32 := 570#32
  let v5422 : BitVec 32 := Scalar.addi v5 c570_i32
  let v5423 : Index := Scalar.indexCast v5422
  ![v5423.toNat]
def k0_off1142 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c570_i32_2000 : BitVec 32 := 570#32
  let v5425 : BitVec 32 := Scalar.addi v5 c570_i32_2000
  let c1_i32_2001 : BitVec 32 := 1#32
  let v5426 : BitVec 32 := Scalar.addi v5425 c1_i32_2001
  let v5427 : Index := Scalar.indexCast v5426
  ![v5427.toNat]
def k0_off1143 (v5424 : BitVec 32) : Fin 2 → Nat :=
  let v5429 : Index := Scalar.indexCast v5424
  let c0_2002 : Index := 0#32
  ![v5429.toNat, 0]

def k0_chk571 (v5424 : BitVec 32) : Prop :=
  (∀ a, (k0_off1143 v5424) a + S1x128.size a ≤ S10064x128.size a)
theorem k0_off1143_inb : ∀ (v5424 : BitVec 32) (k0_hw571 : k0_chk571 v5424), ∀ a, (k0_off1143 v5424) a + S1x128.size a ≤ S10064x128.size a := fun v5424 k0_hw571 => k0_hw571

def k0_off1144 (v5428 : BitVec 32) : Fin 2 → Nat :=
  let v5435 : Index := Scalar.indexCast v5428
  let c0_2004 : Index := 0#32
  ![v5435.toNat, 0]

def k0_chk572 (v5428 : BitVec 32) : Prop :=
  (∀ a, (k0_off1144 v5428) a + S1x128.size a ≤ S10064x128.size a)
theorem k0_off1144_inb : ∀ (v5428 : BitVec 32) (k0_hw572 : k0_chk572 v5428), ∀ a, (k0_off1144 v5428) a + S1x128.size a ≤ S10064x128.size a := fun v5428 k0_hw572 => k0_hw572

def k0_off1145 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c572_i32 : BitVec 32 := 572#32
  let v5441 : BitVec 32 := Scalar.addi v5 c572_i32
  let v5442 : Index := Scalar.indexCast v5441
  ![v5442.toNat]
def k0_off1146 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c572_i32_2007 : BitVec 32 := 572#32
  let v5444 : BitVec 32 := Scalar.addi v5 c572_i32_2007
  let c1_i32_2008 : BitVec 32 := 1#32
  let v5445 : BitVec 32 := Scalar.addi v5444 c1_i32_2008
  let v5446 : Index := Scalar.indexCast v5445
  ![v5446.toNat]
def k0_off1147 (v5443 : BitVec 32) : Fin 2 → Nat :=
  let v5448 : Index := Scalar.indexCast v5443
  let c0_2009 : Index := 0#32
  ![v5448.toNat, 0]

def k0_chk573 (v5443 : BitVec 32) : Prop :=
  (∀ a, (k0_off1147 v5443) a + S1x128.size a ≤ S10064x128.size a)
theorem k0_off1147_inb : ∀ (v5443 : BitVec 32) (k0_hw573 : k0_chk573 v5443), ∀ a, (k0_off1147 v5443) a + S1x128.size a ≤ S10064x128.size a := fun v5443 k0_hw573 => k0_hw573

def k0_off1148 (v5447 : BitVec 32) : Fin 2 → Nat :=
  let v5454 : Index := Scalar.indexCast v5447
  let c0_2011 : Index := 0#32
  ![v5454.toNat, 0]

def k0_chk574 (v5447 : BitVec 32) : Prop :=
  (∀ a, (k0_off1148 v5447) a + S1x128.size a ≤ S10064x128.size a)
theorem k0_off1148_inb : ∀ (v5447 : BitVec 32) (k0_hw574 : k0_chk574 v5447), ∀ a, (k0_off1148 v5447) a + S1x128.size a ≤ S10064x128.size a := fun v5447 k0_hw574 => k0_hw574

def k0_off1149 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c574_i32 : BitVec 32 := 574#32
  let v5460 : BitVec 32 := Scalar.addi v5 c574_i32
  let v5461 : Index := Scalar.indexCast v5460
  ![v5461.toNat]
def k0_off1150 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c574_i32_2014 : BitVec 32 := 574#32
  let v5463 : BitVec 32 := Scalar.addi v5 c574_i32_2014
  let c1_i32_2015 : BitVec 32 := 1#32
  let v5464 : BitVec 32 := Scalar.addi v5463 c1_i32_2015
  let v5465 : Index := Scalar.indexCast v5464
  ![v5465.toNat]
def k0_off1151 (v5462 : BitVec 32) : Fin 2 → Nat :=
  let v5467 : Index := Scalar.indexCast v5462
  let c0_2016 : Index := 0#32
  ![v5467.toNat, 0]

def k0_chk575 (v5462 : BitVec 32) : Prop :=
  (∀ a, (k0_off1151 v5462) a + S1x128.size a ≤ S10064x128.size a)
theorem k0_off1151_inb : ∀ (v5462 : BitVec 32) (k0_hw575 : k0_chk575 v5462), ∀ a, (k0_off1151 v5462) a + S1x128.size a ≤ S10064x128.size a := fun v5462 k0_hw575 => k0_hw575

def k0_off1152 (v5466 : BitVec 32) : Fin 2 → Nat :=
  let v5473 : Index := Scalar.indexCast v5466
  let c0_2018 : Index := 0#32
  ![v5473.toNat, 0]

def k0_chk576 (v5466 : BitVec 32) : Prop :=
  (∀ a, (k0_off1152 v5466) a + S1x128.size a ≤ S10064x128.size a)
theorem k0_off1152_inb : ∀ (v5466 : BitVec 32) (k0_hw576 : k0_chk576 v5466), ∀ a, (k0_off1152 v5466) a + S1x128.size a ≤ S10064x128.size a := fun v5466 k0_hw576 => k0_hw576

def k0_off1153 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c576_i32 : BitVec 32 := 576#32
  let v5479 : BitVec 32 := Scalar.addi v5 c576_i32
  let v5480 : Index := Scalar.indexCast v5479
  ![v5480.toNat]
def k0_off1154 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c576_i32_2021 : BitVec 32 := 576#32
  let v5482 : BitVec 32 := Scalar.addi v5 c576_i32_2021
  let c1_i32_2022 : BitVec 32 := 1#32
  let v5483 : BitVec 32 := Scalar.addi v5482 c1_i32_2022
  let v5484 : Index := Scalar.indexCast v5483
  ![v5484.toNat]
def k0_off1155 (v5481 : BitVec 32) : Fin 2 → Nat :=
  let v5486 : Index := Scalar.indexCast v5481
  let c0_2023 : Index := 0#32
  ![v5486.toNat, 0]

def k0_chk577 (v5481 : BitVec 32) : Prop :=
  (∀ a, (k0_off1155 v5481) a + S1x128.size a ≤ S10064x128.size a)
theorem k0_off1155_inb : ∀ (v5481 : BitVec 32) (k0_hw577 : k0_chk577 v5481), ∀ a, (k0_off1155 v5481) a + S1x128.size a ≤ S10064x128.size a := fun v5481 k0_hw577 => k0_hw577

def k0_off1156 (v5485 : BitVec 32) : Fin 2 → Nat :=
  let v5492 : Index := Scalar.indexCast v5485
  let c0_2025 : Index := 0#32
  ![v5492.toNat, 0]

def k0_chk578 (v5485 : BitVec 32) : Prop :=
  (∀ a, (k0_off1156 v5485) a + S1x128.size a ≤ S10064x128.size a)
theorem k0_off1156_inb : ∀ (v5485 : BitVec 32) (k0_hw578 : k0_chk578 v5485), ∀ a, (k0_off1156 v5485) a + S1x128.size a ≤ S10064x128.size a := fun v5485 k0_hw578 => k0_hw578

def k0_off1157 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c578_i32 : BitVec 32 := 578#32
  let v5498 : BitVec 32 := Scalar.addi v5 c578_i32
  let v5499 : Index := Scalar.indexCast v5498
  ![v5499.toNat]
def k0_off1158 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c578_i32_2028 : BitVec 32 := 578#32
  let v5501 : BitVec 32 := Scalar.addi v5 c578_i32_2028
  let c1_i32_2029 : BitVec 32 := 1#32
  let v5502 : BitVec 32 := Scalar.addi v5501 c1_i32_2029
  let v5503 : Index := Scalar.indexCast v5502
  ![v5503.toNat]
def k0_off1159 (v5500 : BitVec 32) : Fin 2 → Nat :=
  let v5505 : Index := Scalar.indexCast v5500
  let c0_2030 : Index := 0#32
  ![v5505.toNat, 0]

def k0_chk579 (v5500 : BitVec 32) : Prop :=
  (∀ a, (k0_off1159 v5500) a + S1x128.size a ≤ S10064x128.size a)
theorem k0_off1159_inb : ∀ (v5500 : BitVec 32) (k0_hw579 : k0_chk579 v5500), ∀ a, (k0_off1159 v5500) a + S1x128.size a ≤ S10064x128.size a := fun v5500 k0_hw579 => k0_hw579

def k0_off1160 (v5504 : BitVec 32) : Fin 2 → Nat :=
  let v5511 : Index := Scalar.indexCast v5504
  let c0_2032 : Index := 0#32
  ![v5511.toNat, 0]

def k0_chk580 (v5504 : BitVec 32) : Prop :=
  (∀ a, (k0_off1160 v5504) a + S1x128.size a ≤ S10064x128.size a)
theorem k0_off1160_inb : ∀ (v5504 : BitVec 32) (k0_hw580 : k0_chk580 v5504), ∀ a, (k0_off1160 v5504) a + S1x128.size a ≤ S10064x128.size a := fun v5504 k0_hw580 => k0_hw580

def k0_off1161 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c580_i32 : BitVec 32 := 580#32
  let v5517 : BitVec 32 := Scalar.addi v5 c580_i32
  let v5518 : Index := Scalar.indexCast v5517
  ![v5518.toNat]
def k0_off1162 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c580_i32_2035 : BitVec 32 := 580#32
  let v5520 : BitVec 32 := Scalar.addi v5 c580_i32_2035
  let c1_i32_2036 : BitVec 32 := 1#32
  let v5521 : BitVec 32 := Scalar.addi v5520 c1_i32_2036
  let v5522 : Index := Scalar.indexCast v5521
  ![v5522.toNat]
def k0_off1163 (v5519 : BitVec 32) : Fin 2 → Nat :=
  let v5524 : Index := Scalar.indexCast v5519
  let c0_2037 : Index := 0#32
  ![v5524.toNat, 0]

def k0_chk581 (v5519 : BitVec 32) : Prop :=
  (∀ a, (k0_off1163 v5519) a + S1x128.size a ≤ S10064x128.size a)
theorem k0_off1163_inb : ∀ (v5519 : BitVec 32) (k0_hw581 : k0_chk581 v5519), ∀ a, (k0_off1163 v5519) a + S1x128.size a ≤ S10064x128.size a := fun v5519 k0_hw581 => k0_hw581

def k0_off1164 (v5523 : BitVec 32) : Fin 2 → Nat :=
  let v5530 : Index := Scalar.indexCast v5523
  let c0_2039 : Index := 0#32
  ![v5530.toNat, 0]

def k0_chk582 (v5523 : BitVec 32) : Prop :=
  (∀ a, (k0_off1164 v5523) a + S1x128.size a ≤ S10064x128.size a)
theorem k0_off1164_inb : ∀ (v5523 : BitVec 32) (k0_hw582 : k0_chk582 v5523), ∀ a, (k0_off1164 v5523) a + S1x128.size a ≤ S10064x128.size a := fun v5523 k0_hw582 => k0_hw582

def k0_off1165 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c582_i32 : BitVec 32 := 582#32
  let v5536 : BitVec 32 := Scalar.addi v5 c582_i32
  let v5537 : Index := Scalar.indexCast v5536
  ![v5537.toNat]
def k0_off1166 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c582_i32_2042 : BitVec 32 := 582#32
  let v5539 : BitVec 32 := Scalar.addi v5 c582_i32_2042
  let c1_i32_2043 : BitVec 32 := 1#32
  let v5540 : BitVec 32 := Scalar.addi v5539 c1_i32_2043
  let v5541 : Index := Scalar.indexCast v5540
  ![v5541.toNat]
def k0_off1167 (v5538 : BitVec 32) : Fin 2 → Nat :=
  let v5543 : Index := Scalar.indexCast v5538
  let c0_2044 : Index := 0#32
  ![v5543.toNat, 0]

def k0_chk583 (v5538 : BitVec 32) : Prop :=
  (∀ a, (k0_off1167 v5538) a + S1x128.size a ≤ S10064x128.size a)
theorem k0_off1167_inb : ∀ (v5538 : BitVec 32) (k0_hw583 : k0_chk583 v5538), ∀ a, (k0_off1167 v5538) a + S1x128.size a ≤ S10064x128.size a := fun v5538 k0_hw583 => k0_hw583

def k0_off1168 (v5542 : BitVec 32) : Fin 2 → Nat :=
  let v5549 : Index := Scalar.indexCast v5542
  let c0_2046 : Index := 0#32
  ![v5549.toNat, 0]

def k0_chk584 (v5542 : BitVec 32) : Prop :=
  (∀ a, (k0_off1168 v5542) a + S1x128.size a ≤ S10064x128.size a)
theorem k0_off1168_inb : ∀ (v5542 : BitVec 32) (k0_hw584 : k0_chk584 v5542), ∀ a, (k0_off1168 v5542) a + S1x128.size a ≤ S10064x128.size a := fun v5542 k0_hw584 => k0_hw584

def k0_off1169 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c584_i32 : BitVec 32 := 584#32
  let v5555 : BitVec 32 := Scalar.addi v5 c584_i32
  let v5556 : Index := Scalar.indexCast v5555
  ![v5556.toNat]
def k0_off1170 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c584_i32_2049 : BitVec 32 := 584#32
  let v5558 : BitVec 32 := Scalar.addi v5 c584_i32_2049
  let c1_i32_2050 : BitVec 32 := 1#32
  let v5559 : BitVec 32 := Scalar.addi v5558 c1_i32_2050
  let v5560 : Index := Scalar.indexCast v5559
  ![v5560.toNat]
def k0_off1171 (v5557 : BitVec 32) : Fin 2 → Nat :=
  let v5562 : Index := Scalar.indexCast v5557
  let c0_2051 : Index := 0#32
  ![v5562.toNat, 0]

def k0_chk585 (v5557 : BitVec 32) : Prop :=
  (∀ a, (k0_off1171 v5557) a + S1x128.size a ≤ S10064x128.size a)
theorem k0_off1171_inb : ∀ (v5557 : BitVec 32) (k0_hw585 : k0_chk585 v5557), ∀ a, (k0_off1171 v5557) a + S1x128.size a ≤ S10064x128.size a := fun v5557 k0_hw585 => k0_hw585

def k0_off1172 (v5561 : BitVec 32) : Fin 2 → Nat :=
  let v5568 : Index := Scalar.indexCast v5561
  let c0_2053 : Index := 0#32
  ![v5568.toNat, 0]

def k0_chk586 (v5561 : BitVec 32) : Prop :=
  (∀ a, (k0_off1172 v5561) a + S1x128.size a ≤ S10064x128.size a)
theorem k0_off1172_inb : ∀ (v5561 : BitVec 32) (k0_hw586 : k0_chk586 v5561), ∀ a, (k0_off1172 v5561) a + S1x128.size a ≤ S10064x128.size a := fun v5561 k0_hw586 => k0_hw586

def k0_off1173 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c586_i32 : BitVec 32 := 586#32
  let v5574 : BitVec 32 := Scalar.addi v5 c586_i32
  let v5575 : Index := Scalar.indexCast v5574
  ![v5575.toNat]
def k0_off1174 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c586_i32_2056 : BitVec 32 := 586#32
  let v5577 : BitVec 32 := Scalar.addi v5 c586_i32_2056
  let c1_i32_2057 : BitVec 32 := 1#32
  let v5578 : BitVec 32 := Scalar.addi v5577 c1_i32_2057
  let v5579 : Index := Scalar.indexCast v5578
  ![v5579.toNat]
def k0_off1175 (v5576 : BitVec 32) : Fin 2 → Nat :=
  let v5581 : Index := Scalar.indexCast v5576
  let c0_2058 : Index := 0#32
  ![v5581.toNat, 0]

def k0_chk587 (v5576 : BitVec 32) : Prop :=
  (∀ a, (k0_off1175 v5576) a + S1x128.size a ≤ S10064x128.size a)
theorem k0_off1175_inb : ∀ (v5576 : BitVec 32) (k0_hw587 : k0_chk587 v5576), ∀ a, (k0_off1175 v5576) a + S1x128.size a ≤ S10064x128.size a := fun v5576 k0_hw587 => k0_hw587

def k0_off1176 (v5580 : BitVec 32) : Fin 2 → Nat :=
  let v5587 : Index := Scalar.indexCast v5580
  let c0_2060 : Index := 0#32
  ![v5587.toNat, 0]

def k0_chk588 (v5580 : BitVec 32) : Prop :=
  (∀ a, (k0_off1176 v5580) a + S1x128.size a ≤ S10064x128.size a)
theorem k0_off1176_inb : ∀ (v5580 : BitVec 32) (k0_hw588 : k0_chk588 v5580), ∀ a, (k0_off1176 v5580) a + S1x128.size a ≤ S10064x128.size a := fun v5580 k0_hw588 => k0_hw588

def k0_off1177 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c588_i32 : BitVec 32 := 588#32
  let v5593 : BitVec 32 := Scalar.addi v5 c588_i32
  let v5594 : Index := Scalar.indexCast v5593
  ![v5594.toNat]
def k0_off1178 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c588_i32_2063 : BitVec 32 := 588#32
  let v5596 : BitVec 32 := Scalar.addi v5 c588_i32_2063
  let c1_i32_2064 : BitVec 32 := 1#32
  let v5597 : BitVec 32 := Scalar.addi v5596 c1_i32_2064
  let v5598 : Index := Scalar.indexCast v5597
  ![v5598.toNat]
def k0_off1179 (v5595 : BitVec 32) : Fin 2 → Nat :=
  let v5600 : Index := Scalar.indexCast v5595
  let c0_2065 : Index := 0#32
  ![v5600.toNat, 0]

def k0_chk589 (v5595 : BitVec 32) : Prop :=
  (∀ a, (k0_off1179 v5595) a + S1x128.size a ≤ S10064x128.size a)
theorem k0_off1179_inb : ∀ (v5595 : BitVec 32) (k0_hw589 : k0_chk589 v5595), ∀ a, (k0_off1179 v5595) a + S1x128.size a ≤ S10064x128.size a := fun v5595 k0_hw589 => k0_hw589

def k0_off1180 (v5599 : BitVec 32) : Fin 2 → Nat :=
  let v5606 : Index := Scalar.indexCast v5599
  let c0_2067 : Index := 0#32
  ![v5606.toNat, 0]

def k0_chk590 (v5599 : BitVec 32) : Prop :=
  (∀ a, (k0_off1180 v5599) a + S1x128.size a ≤ S10064x128.size a)
theorem k0_off1180_inb : ∀ (v5599 : BitVec 32) (k0_hw590 : k0_chk590 v5599), ∀ a, (k0_off1180 v5599) a + S1x128.size a ≤ S10064x128.size a := fun v5599 k0_hw590 => k0_hw590

def k0_off1181 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c590_i32 : BitVec 32 := 590#32
  let v5612 : BitVec 32 := Scalar.addi v5 c590_i32
  let v5613 : Index := Scalar.indexCast v5612
  ![v5613.toNat]
def k0_off1182 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c590_i32_2070 : BitVec 32 := 590#32
  let v5615 : BitVec 32 := Scalar.addi v5 c590_i32_2070
  let c1_i32_2071 : BitVec 32 := 1#32
  let v5616 : BitVec 32 := Scalar.addi v5615 c1_i32_2071
  let v5617 : Index := Scalar.indexCast v5616
  ![v5617.toNat]
def k0_off1183 (v5614 : BitVec 32) : Fin 2 → Nat :=
  let v5619 : Index := Scalar.indexCast v5614
  let c0_2072 : Index := 0#32
  ![v5619.toNat, 0]

def k0_chk591 (v5614 : BitVec 32) : Prop :=
  (∀ a, (k0_off1183 v5614) a + S1x128.size a ≤ S10064x128.size a)
theorem k0_off1183_inb : ∀ (v5614 : BitVec 32) (k0_hw591 : k0_chk591 v5614), ∀ a, (k0_off1183 v5614) a + S1x128.size a ≤ S10064x128.size a := fun v5614 k0_hw591 => k0_hw591

def k0_off1184 (v5618 : BitVec 32) : Fin 2 → Nat :=
  let v5625 : Index := Scalar.indexCast v5618
  let c0_2074 : Index := 0#32
  ![v5625.toNat, 0]

def k0_chk592 (v5618 : BitVec 32) : Prop :=
  (∀ a, (k0_off1184 v5618) a + S1x128.size a ≤ S10064x128.size a)
theorem k0_off1184_inb : ∀ (v5618 : BitVec 32) (k0_hw592 : k0_chk592 v5618), ∀ a, (k0_off1184 v5618) a + S1x128.size a ≤ S10064x128.size a := fun v5618 k0_hw592 => k0_hw592

def k0_off1185 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c592_i32 : BitVec 32 := 592#32
  let v5631 : BitVec 32 := Scalar.addi v5 c592_i32
  let v5632 : Index := Scalar.indexCast v5631
  ![v5632.toNat]
def k0_off1186 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c592_i32_2077 : BitVec 32 := 592#32
  let v5634 : BitVec 32 := Scalar.addi v5 c592_i32_2077
  let c1_i32_2078 : BitVec 32 := 1#32
  let v5635 : BitVec 32 := Scalar.addi v5634 c1_i32_2078
  let v5636 : Index := Scalar.indexCast v5635
  ![v5636.toNat]
def k0_off1187 (v5633 : BitVec 32) : Fin 2 → Nat :=
  let v5638 : Index := Scalar.indexCast v5633
  let c0_2079 : Index := 0#32
  ![v5638.toNat, 0]

def k0_chk593 (v5633 : BitVec 32) : Prop :=
  (∀ a, (k0_off1187 v5633) a + S1x128.size a ≤ S10064x128.size a)
theorem k0_off1187_inb : ∀ (v5633 : BitVec 32) (k0_hw593 : k0_chk593 v5633), ∀ a, (k0_off1187 v5633) a + S1x128.size a ≤ S10064x128.size a := fun v5633 k0_hw593 => k0_hw593

def k0_off1188 (v5637 : BitVec 32) : Fin 2 → Nat :=
  let v5644 : Index := Scalar.indexCast v5637
  let c0_2081 : Index := 0#32
  ![v5644.toNat, 0]

def k0_chk594 (v5637 : BitVec 32) : Prop :=
  (∀ a, (k0_off1188 v5637) a + S1x128.size a ≤ S10064x128.size a)
theorem k0_off1188_inb : ∀ (v5637 : BitVec 32) (k0_hw594 : k0_chk594 v5637), ∀ a, (k0_off1188 v5637) a + S1x128.size a ≤ S10064x128.size a := fun v5637 k0_hw594 => k0_hw594

def k0_off1189 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c594_i32 : BitVec 32 := 594#32
  let v5650 : BitVec 32 := Scalar.addi v5 c594_i32
  let v5651 : Index := Scalar.indexCast v5650
  ![v5651.toNat]
def k0_off1190 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c594_i32_2084 : BitVec 32 := 594#32
  let v5653 : BitVec 32 := Scalar.addi v5 c594_i32_2084
  let c1_i32_2085 : BitVec 32 := 1#32
  let v5654 : BitVec 32 := Scalar.addi v5653 c1_i32_2085
  let v5655 : Index := Scalar.indexCast v5654
  ![v5655.toNat]
def k0_off1191 (v5652 : BitVec 32) : Fin 2 → Nat :=
  let v5657 : Index := Scalar.indexCast v5652
  let c0_2086 : Index := 0#32
  ![v5657.toNat, 0]

def k0_chk595 (v5652 : BitVec 32) : Prop :=
  (∀ a, (k0_off1191 v5652) a + S1x128.size a ≤ S10064x128.size a)
theorem k0_off1191_inb : ∀ (v5652 : BitVec 32) (k0_hw595 : k0_chk595 v5652), ∀ a, (k0_off1191 v5652) a + S1x128.size a ≤ S10064x128.size a := fun v5652 k0_hw595 => k0_hw595

def k0_off1192 (v5656 : BitVec 32) : Fin 2 → Nat :=
  let v5663 : Index := Scalar.indexCast v5656
  let c0_2088 : Index := 0#32
  ![v5663.toNat, 0]

def k0_chk596 (v5656 : BitVec 32) : Prop :=
  (∀ a, (k0_off1192 v5656) a + S1x128.size a ≤ S10064x128.size a)
theorem k0_off1192_inb : ∀ (v5656 : BitVec 32) (k0_hw596 : k0_chk596 v5656), ∀ a, (k0_off1192 v5656) a + S1x128.size a ≤ S10064x128.size a := fun v5656 k0_hw596 => k0_hw596

def k0_off1193 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c596_i32 : BitVec 32 := 596#32
  let v5669 : BitVec 32 := Scalar.addi v5 c596_i32
  let v5670 : Index := Scalar.indexCast v5669
  ![v5670.toNat]
def k0_off1194 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c596_i32_2091 : BitVec 32 := 596#32
  let v5672 : BitVec 32 := Scalar.addi v5 c596_i32_2091
  let c1_i32_2092 : BitVec 32 := 1#32
  let v5673 : BitVec 32 := Scalar.addi v5672 c1_i32_2092
  let v5674 : Index := Scalar.indexCast v5673
  ![v5674.toNat]
def k0_off1195 (v5671 : BitVec 32) : Fin 2 → Nat :=
  let v5676 : Index := Scalar.indexCast v5671
  let c0_2093 : Index := 0#32
  ![v5676.toNat, 0]

def k0_chk597 (v5671 : BitVec 32) : Prop :=
  (∀ a, (k0_off1195 v5671) a + S1x128.size a ≤ S10064x128.size a)
theorem k0_off1195_inb : ∀ (v5671 : BitVec 32) (k0_hw597 : k0_chk597 v5671), ∀ a, (k0_off1195 v5671) a + S1x128.size a ≤ S10064x128.size a := fun v5671 k0_hw597 => k0_hw597

def k0_off1196 (v5675 : BitVec 32) : Fin 2 → Nat :=
  let v5682 : Index := Scalar.indexCast v5675
  let c0_2095 : Index := 0#32
  ![v5682.toNat, 0]

def k0_chk598 (v5675 : BitVec 32) : Prop :=
  (∀ a, (k0_off1196 v5675) a + S1x128.size a ≤ S10064x128.size a)
theorem k0_off1196_inb : ∀ (v5675 : BitVec 32) (k0_hw598 : k0_chk598 v5675), ∀ a, (k0_off1196 v5675) a + S1x128.size a ≤ S10064x128.size a := fun v5675 k0_hw598 => k0_hw598

def k0_off1197 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c598_i32 : BitVec 32 := 598#32
  let v5688 : BitVec 32 := Scalar.addi v5 c598_i32
  let v5689 : Index := Scalar.indexCast v5688
  ![v5689.toNat]
def k0_off1198 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c598_i32_2098 : BitVec 32 := 598#32
  let v5691 : BitVec 32 := Scalar.addi v5 c598_i32_2098
  let c1_i32_2099 : BitVec 32 := 1#32
  let v5692 : BitVec 32 := Scalar.addi v5691 c1_i32_2099
  let v5693 : Index := Scalar.indexCast v5692
  ![v5693.toNat]
def k0_off1199 (v5690 : BitVec 32) : Fin 2 → Nat :=
  let v5695 : Index := Scalar.indexCast v5690
  let c0_2100 : Index := 0#32
  ![v5695.toNat, 0]

def k0_chk599 (v5690 : BitVec 32) : Prop :=
  (∀ a, (k0_off1199 v5690) a + S1x128.size a ≤ S10064x128.size a)
theorem k0_off1199_inb : ∀ (v5690 : BitVec 32) (k0_hw599 : k0_chk599 v5690), ∀ a, (k0_off1199 v5690) a + S1x128.size a ≤ S10064x128.size a := fun v5690 k0_hw599 => k0_hw599

def k0_off1200 (v5694 : BitVec 32) : Fin 2 → Nat :=
  let v5701 : Index := Scalar.indexCast v5694
  let c0_2102 : Index := 0#32
  ![v5701.toNat, 0]

def k0_chk600 (v5694 : BitVec 32) : Prop :=
  (∀ a, (k0_off1200 v5694) a + S1x128.size a ≤ S10064x128.size a)
theorem k0_off1200_inb : ∀ (v5694 : BitVec 32) (k0_hw600 : k0_chk600 v5694), ∀ a, (k0_off1200 v5694) a + S1x128.size a ≤ S10064x128.size a := fun v5694 k0_hw600 => k0_hw600

def k0_off1201 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c600_i32 : BitVec 32 := 600#32
  let v5707 : BitVec 32 := Scalar.addi v5 c600_i32
  let v5708 : Index := Scalar.indexCast v5707
  ![v5708.toNat]
def k0_off1202 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c600_i32_2105 : BitVec 32 := 600#32
  let v5710 : BitVec 32 := Scalar.addi v5 c600_i32_2105
  let c1_i32_2106 : BitVec 32 := 1#32
  let v5711 : BitVec 32 := Scalar.addi v5710 c1_i32_2106
  let v5712 : Index := Scalar.indexCast v5711
  ![v5712.toNat]
def k0_off1203 (v5709 : BitVec 32) : Fin 2 → Nat :=
  let v5714 : Index := Scalar.indexCast v5709
  let c0_2107 : Index := 0#32
  ![v5714.toNat, 0]

def k0_chk601 (v5709 : BitVec 32) : Prop :=
  (∀ a, (k0_off1203 v5709) a + S1x128.size a ≤ S10064x128.size a)
theorem k0_off1203_inb : ∀ (v5709 : BitVec 32) (k0_hw601 : k0_chk601 v5709), ∀ a, (k0_off1203 v5709) a + S1x128.size a ≤ S10064x128.size a := fun v5709 k0_hw601 => k0_hw601

def k0_off1204 (v5713 : BitVec 32) : Fin 2 → Nat :=
  let v5720 : Index := Scalar.indexCast v5713
  let c0_2109 : Index := 0#32
  ![v5720.toNat, 0]

def k0_chk602 (v5713 : BitVec 32) : Prop :=
  (∀ a, (k0_off1204 v5713) a + S1x128.size a ≤ S10064x128.size a)
theorem k0_off1204_inb : ∀ (v5713 : BitVec 32) (k0_hw602 : k0_chk602 v5713), ∀ a, (k0_off1204 v5713) a + S1x128.size a ≤ S10064x128.size a := fun v5713 k0_hw602 => k0_hw602

def k0_off1205 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c602_i32 : BitVec 32 := 602#32
  let v5726 : BitVec 32 := Scalar.addi v5 c602_i32
  let v5727 : Index := Scalar.indexCast v5726
  ![v5727.toNat]
def k0_off1206 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c602_i32_2112 : BitVec 32 := 602#32
  let v5729 : BitVec 32 := Scalar.addi v5 c602_i32_2112
  let c1_i32_2113 : BitVec 32 := 1#32
  let v5730 : BitVec 32 := Scalar.addi v5729 c1_i32_2113
  let v5731 : Index := Scalar.indexCast v5730
  ![v5731.toNat]
def k0_off1207 (v5728 : BitVec 32) : Fin 2 → Nat :=
  let v5733 : Index := Scalar.indexCast v5728
  let c0_2114 : Index := 0#32
  ![v5733.toNat, 0]

def k0_chk603 (v5728 : BitVec 32) : Prop :=
  (∀ a, (k0_off1207 v5728) a + S1x128.size a ≤ S10064x128.size a)
theorem k0_off1207_inb : ∀ (v5728 : BitVec 32) (k0_hw603 : k0_chk603 v5728), ∀ a, (k0_off1207 v5728) a + S1x128.size a ≤ S10064x128.size a := fun v5728 k0_hw603 => k0_hw603

def k0_off1208 (v5732 : BitVec 32) : Fin 2 → Nat :=
  let v5739 : Index := Scalar.indexCast v5732
  let c0_2116 : Index := 0#32
  ![v5739.toNat, 0]

def k0_chk604 (v5732 : BitVec 32) : Prop :=
  (∀ a, (k0_off1208 v5732) a + S1x128.size a ≤ S10064x128.size a)
theorem k0_off1208_inb : ∀ (v5732 : BitVec 32) (k0_hw604 : k0_chk604 v5732), ∀ a, (k0_off1208 v5732) a + S1x128.size a ≤ S10064x128.size a := fun v5732 k0_hw604 => k0_hw604

def k0_off1209 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c604_i32 : BitVec 32 := 604#32
  let v5745 : BitVec 32 := Scalar.addi v5 c604_i32
  let v5746 : Index := Scalar.indexCast v5745
  ![v5746.toNat]
def k0_off1210 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c604_i32_2119 : BitVec 32 := 604#32
  let v5748 : BitVec 32 := Scalar.addi v5 c604_i32_2119
  let c1_i32_2120 : BitVec 32 := 1#32
  let v5749 : BitVec 32 := Scalar.addi v5748 c1_i32_2120
  let v5750 : Index := Scalar.indexCast v5749
  ![v5750.toNat]
def k0_off1211 (v5747 : BitVec 32) : Fin 2 → Nat :=
  let v5752 : Index := Scalar.indexCast v5747
  let c0_2121 : Index := 0#32
  ![v5752.toNat, 0]

def k0_chk605 (v5747 : BitVec 32) : Prop :=
  (∀ a, (k0_off1211 v5747) a + S1x128.size a ≤ S10064x128.size a)
theorem k0_off1211_inb : ∀ (v5747 : BitVec 32) (k0_hw605 : k0_chk605 v5747), ∀ a, (k0_off1211 v5747) a + S1x128.size a ≤ S10064x128.size a := fun v5747 k0_hw605 => k0_hw605

def k0_off1212 (v5751 : BitVec 32) : Fin 2 → Nat :=
  let v5758 : Index := Scalar.indexCast v5751
  let c0_2123 : Index := 0#32
  ![v5758.toNat, 0]

def k0_chk606 (v5751 : BitVec 32) : Prop :=
  (∀ a, (k0_off1212 v5751) a + S1x128.size a ≤ S10064x128.size a)
theorem k0_off1212_inb : ∀ (v5751 : BitVec 32) (k0_hw606 : k0_chk606 v5751), ∀ a, (k0_off1212 v5751) a + S1x128.size a ≤ S10064x128.size a := fun v5751 k0_hw606 => k0_hw606

def k0_off1213 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c606_i32 : BitVec 32 := 606#32
  let v5764 : BitVec 32 := Scalar.addi v5 c606_i32
  let v5765 : Index := Scalar.indexCast v5764
  ![v5765.toNat]
def k0_off1214 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c606_i32_2126 : BitVec 32 := 606#32
  let v5767 : BitVec 32 := Scalar.addi v5 c606_i32_2126
  let c1_i32_2127 : BitVec 32 := 1#32
  let v5768 : BitVec 32 := Scalar.addi v5767 c1_i32_2127
  let v5769 : Index := Scalar.indexCast v5768
  ![v5769.toNat]
def k0_off1215 (v5766 : BitVec 32) : Fin 2 → Nat :=
  let v5771 : Index := Scalar.indexCast v5766
  let c0_2128 : Index := 0#32
  ![v5771.toNat, 0]

def k0_chk607 (v5766 : BitVec 32) : Prop :=
  (∀ a, (k0_off1215 v5766) a + S1x128.size a ≤ S10064x128.size a)
theorem k0_off1215_inb : ∀ (v5766 : BitVec 32) (k0_hw607 : k0_chk607 v5766), ∀ a, (k0_off1215 v5766) a + S1x128.size a ≤ S10064x128.size a := fun v5766 k0_hw607 => k0_hw607

def k0_off1216 (v5770 : BitVec 32) : Fin 2 → Nat :=
  let v5777 : Index := Scalar.indexCast v5770
  let c0_2130 : Index := 0#32
  ![v5777.toNat, 0]

def k0_chk608 (v5770 : BitVec 32) : Prop :=
  (∀ a, (k0_off1216 v5770) a + S1x128.size a ≤ S10064x128.size a)
theorem k0_off1216_inb : ∀ (v5770 : BitVec 32) (k0_hw608 : k0_chk608 v5770), ∀ a, (k0_off1216 v5770) a + S1x128.size a ≤ S10064x128.size a := fun v5770 k0_hw608 => k0_hw608

def k0_off1217 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c608_i32 : BitVec 32 := 608#32
  let v5783 : BitVec 32 := Scalar.addi v5 c608_i32
  let v5784 : Index := Scalar.indexCast v5783
  ![v5784.toNat]
def k0_off1218 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c608_i32_2133 : BitVec 32 := 608#32
  let v5786 : BitVec 32 := Scalar.addi v5 c608_i32_2133
  let c1_i32_2134 : BitVec 32 := 1#32
  let v5787 : BitVec 32 := Scalar.addi v5786 c1_i32_2134
  let v5788 : Index := Scalar.indexCast v5787
  ![v5788.toNat]
def k0_off1219 (v5785 : BitVec 32) : Fin 2 → Nat :=
  let v5790 : Index := Scalar.indexCast v5785
  let c0_2135 : Index := 0#32
  ![v5790.toNat, 0]

def k0_chk609 (v5785 : BitVec 32) : Prop :=
  (∀ a, (k0_off1219 v5785) a + S1x128.size a ≤ S10064x128.size a)
theorem k0_off1219_inb : ∀ (v5785 : BitVec 32) (k0_hw609 : k0_chk609 v5785), ∀ a, (k0_off1219 v5785) a + S1x128.size a ≤ S10064x128.size a := fun v5785 k0_hw609 => k0_hw609

def k0_off1220 (v5789 : BitVec 32) : Fin 2 → Nat :=
  let v5796 : Index := Scalar.indexCast v5789
  let c0_2137 : Index := 0#32
  ![v5796.toNat, 0]

def k0_chk610 (v5789 : BitVec 32) : Prop :=
  (∀ a, (k0_off1220 v5789) a + S1x128.size a ≤ S10064x128.size a)
theorem k0_off1220_inb : ∀ (v5789 : BitVec 32) (k0_hw610 : k0_chk610 v5789), ∀ a, (k0_off1220 v5789) a + S1x128.size a ≤ S10064x128.size a := fun v5789 k0_hw610 => k0_hw610

def k0_off1221 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c610_i32 : BitVec 32 := 610#32
  let v5802 : BitVec 32 := Scalar.addi v5 c610_i32
  let v5803 : Index := Scalar.indexCast v5802
  ![v5803.toNat]
def k0_off1222 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c610_i32_2140 : BitVec 32 := 610#32
  let v5805 : BitVec 32 := Scalar.addi v5 c610_i32_2140
  let c1_i32_2141 : BitVec 32 := 1#32
  let v5806 : BitVec 32 := Scalar.addi v5805 c1_i32_2141
  let v5807 : Index := Scalar.indexCast v5806
  ![v5807.toNat]
def k0_off1223 (v5804 : BitVec 32) : Fin 2 → Nat :=
  let v5809 : Index := Scalar.indexCast v5804
  let c0_2142 : Index := 0#32
  ![v5809.toNat, 0]

def k0_chk611 (v5804 : BitVec 32) : Prop :=
  (∀ a, (k0_off1223 v5804) a + S1x128.size a ≤ S10064x128.size a)
theorem k0_off1223_inb : ∀ (v5804 : BitVec 32) (k0_hw611 : k0_chk611 v5804), ∀ a, (k0_off1223 v5804) a + S1x128.size a ≤ S10064x128.size a := fun v5804 k0_hw611 => k0_hw611

def k0_off1224 (v5808 : BitVec 32) : Fin 2 → Nat :=
  let v5815 : Index := Scalar.indexCast v5808
  let c0_2144 : Index := 0#32
  ![v5815.toNat, 0]

def k0_chk612 (v5808 : BitVec 32) : Prop :=
  (∀ a, (k0_off1224 v5808) a + S1x128.size a ≤ S10064x128.size a)
theorem k0_off1224_inb : ∀ (v5808 : BitVec 32) (k0_hw612 : k0_chk612 v5808), ∀ a, (k0_off1224 v5808) a + S1x128.size a ≤ S10064x128.size a := fun v5808 k0_hw612 => k0_hw612

def k0_off1225 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c612_i32 : BitVec 32 := 612#32
  let v5821 : BitVec 32 := Scalar.addi v5 c612_i32
  let v5822 : Index := Scalar.indexCast v5821
  ![v5822.toNat]
def k0_off1226 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c612_i32_2147 : BitVec 32 := 612#32
  let v5824 : BitVec 32 := Scalar.addi v5 c612_i32_2147
  let c1_i32_2148 : BitVec 32 := 1#32
  let v5825 : BitVec 32 := Scalar.addi v5824 c1_i32_2148
  let v5826 : Index := Scalar.indexCast v5825
  ![v5826.toNat]
def k0_off1227 (v5823 : BitVec 32) : Fin 2 → Nat :=
  let v5828 : Index := Scalar.indexCast v5823
  let c0_2149 : Index := 0#32
  ![v5828.toNat, 0]

def k0_chk613 (v5823 : BitVec 32) : Prop :=
  (∀ a, (k0_off1227 v5823) a + S1x128.size a ≤ S10064x128.size a)
theorem k0_off1227_inb : ∀ (v5823 : BitVec 32) (k0_hw613 : k0_chk613 v5823), ∀ a, (k0_off1227 v5823) a + S1x128.size a ≤ S10064x128.size a := fun v5823 k0_hw613 => k0_hw613

def k0_off1228 (v5827 : BitVec 32) : Fin 2 → Nat :=
  let v5834 : Index := Scalar.indexCast v5827
  let c0_2151 : Index := 0#32
  ![v5834.toNat, 0]

def k0_chk614 (v5827 : BitVec 32) : Prop :=
  (∀ a, (k0_off1228 v5827) a + S1x128.size a ≤ S10064x128.size a)
theorem k0_off1228_inb : ∀ (v5827 : BitVec 32) (k0_hw614 : k0_chk614 v5827), ∀ a, (k0_off1228 v5827) a + S1x128.size a ≤ S10064x128.size a := fun v5827 k0_hw614 => k0_hw614

def k0_off1229 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c614_i32 : BitVec 32 := 614#32
  let v5840 : BitVec 32 := Scalar.addi v5 c614_i32
  let v5841 : Index := Scalar.indexCast v5840
  ![v5841.toNat]
def k0_off1230 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c614_i32_2154 : BitVec 32 := 614#32
  let v5843 : BitVec 32 := Scalar.addi v5 c614_i32_2154
  let c1_i32_2155 : BitVec 32 := 1#32
  let v5844 : BitVec 32 := Scalar.addi v5843 c1_i32_2155
  let v5845 : Index := Scalar.indexCast v5844
  ![v5845.toNat]
def k0_off1231 (v5842 : BitVec 32) : Fin 2 → Nat :=
  let v5847 : Index := Scalar.indexCast v5842
  let c0_2156 : Index := 0#32
  ![v5847.toNat, 0]

def k0_chk615 (v5842 : BitVec 32) : Prop :=
  (∀ a, (k0_off1231 v5842) a + S1x128.size a ≤ S10064x128.size a)
theorem k0_off1231_inb : ∀ (v5842 : BitVec 32) (k0_hw615 : k0_chk615 v5842), ∀ a, (k0_off1231 v5842) a + S1x128.size a ≤ S10064x128.size a := fun v5842 k0_hw615 => k0_hw615

def k0_off1232 (v5846 : BitVec 32) : Fin 2 → Nat :=
  let v5853 : Index := Scalar.indexCast v5846
  let c0_2158 : Index := 0#32
  ![v5853.toNat, 0]

def k0_chk616 (v5846 : BitVec 32) : Prop :=
  (∀ a, (k0_off1232 v5846) a + S1x128.size a ≤ S10064x128.size a)
theorem k0_off1232_inb : ∀ (v5846 : BitVec 32) (k0_hw616 : k0_chk616 v5846), ∀ a, (k0_off1232 v5846) a + S1x128.size a ≤ S10064x128.size a := fun v5846 k0_hw616 => k0_hw616

def k0_off1233 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c616_i32 : BitVec 32 := 616#32
  let v5859 : BitVec 32 := Scalar.addi v5 c616_i32
  let v5860 : Index := Scalar.indexCast v5859
  ![v5860.toNat]
def k0_off1234 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c616_i32_2161 : BitVec 32 := 616#32
  let v5862 : BitVec 32 := Scalar.addi v5 c616_i32_2161
  let c1_i32_2162 : BitVec 32 := 1#32
  let v5863 : BitVec 32 := Scalar.addi v5862 c1_i32_2162
  let v5864 : Index := Scalar.indexCast v5863
  ![v5864.toNat]
def k0_off1235 (v5861 : BitVec 32) : Fin 2 → Nat :=
  let v5866 : Index := Scalar.indexCast v5861
  let c0_2163 : Index := 0#32
  ![v5866.toNat, 0]

def k0_chk617 (v5861 : BitVec 32) : Prop :=
  (∀ a, (k0_off1235 v5861) a + S1x128.size a ≤ S10064x128.size a)
theorem k0_off1235_inb : ∀ (v5861 : BitVec 32) (k0_hw617 : k0_chk617 v5861), ∀ a, (k0_off1235 v5861) a + S1x128.size a ≤ S10064x128.size a := fun v5861 k0_hw617 => k0_hw617

def k0_off1236 (v5865 : BitVec 32) : Fin 2 → Nat :=
  let v5872 : Index := Scalar.indexCast v5865
  let c0_2165 : Index := 0#32
  ![v5872.toNat, 0]

def k0_chk618 (v5865 : BitVec 32) : Prop :=
  (∀ a, (k0_off1236 v5865) a + S1x128.size a ≤ S10064x128.size a)
theorem k0_off1236_inb : ∀ (v5865 : BitVec 32) (k0_hw618 : k0_chk618 v5865), ∀ a, (k0_off1236 v5865) a + S1x128.size a ≤ S10064x128.size a := fun v5865 k0_hw618 => k0_hw618

def k0_off1237 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c618_i32 : BitVec 32 := 618#32
  let v5878 : BitVec 32 := Scalar.addi v5 c618_i32
  let v5879 : Index := Scalar.indexCast v5878
  ![v5879.toNat]
def k0_off1238 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c618_i32_2168 : BitVec 32 := 618#32
  let v5881 : BitVec 32 := Scalar.addi v5 c618_i32_2168
  let c1_i32_2169 : BitVec 32 := 1#32
  let v5882 : BitVec 32 := Scalar.addi v5881 c1_i32_2169
  let v5883 : Index := Scalar.indexCast v5882
  ![v5883.toNat]
def k0_off1239 (v5880 : BitVec 32) : Fin 2 → Nat :=
  let v5885 : Index := Scalar.indexCast v5880
  let c0_2170 : Index := 0#32
  ![v5885.toNat, 0]

def k0_chk619 (v5880 : BitVec 32) : Prop :=
  (∀ a, (k0_off1239 v5880) a + S1x128.size a ≤ S10064x128.size a)
theorem k0_off1239_inb : ∀ (v5880 : BitVec 32) (k0_hw619 : k0_chk619 v5880), ∀ a, (k0_off1239 v5880) a + S1x128.size a ≤ S10064x128.size a := fun v5880 k0_hw619 => k0_hw619

def k0_off1240 (v5884 : BitVec 32) : Fin 2 → Nat :=
  let v5891 : Index := Scalar.indexCast v5884
  let c0_2172 : Index := 0#32
  ![v5891.toNat, 0]

def k0_chk620 (v5884 : BitVec 32) : Prop :=
  (∀ a, (k0_off1240 v5884) a + S1x128.size a ≤ S10064x128.size a)
theorem k0_off1240_inb : ∀ (v5884 : BitVec 32) (k0_hw620 : k0_chk620 v5884), ∀ a, (k0_off1240 v5884) a + S1x128.size a ≤ S10064x128.size a := fun v5884 k0_hw620 => k0_hw620

def k0_off1241 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c620_i32 : BitVec 32 := 620#32
  let v5897 : BitVec 32 := Scalar.addi v5 c620_i32
  let v5898 : Index := Scalar.indexCast v5897
  ![v5898.toNat]
def k0_off1242 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c620_i32_2175 : BitVec 32 := 620#32
  let v5900 : BitVec 32 := Scalar.addi v5 c620_i32_2175
  let c1_i32_2176 : BitVec 32 := 1#32
  let v5901 : BitVec 32 := Scalar.addi v5900 c1_i32_2176
  let v5902 : Index := Scalar.indexCast v5901
  ![v5902.toNat]
def k0_off1243 (v5899 : BitVec 32) : Fin 2 → Nat :=
  let v5904 : Index := Scalar.indexCast v5899
  let c0_2177 : Index := 0#32
  ![v5904.toNat, 0]

def k0_chk621 (v5899 : BitVec 32) : Prop :=
  (∀ a, (k0_off1243 v5899) a + S1x128.size a ≤ S10064x128.size a)
theorem k0_off1243_inb : ∀ (v5899 : BitVec 32) (k0_hw621 : k0_chk621 v5899), ∀ a, (k0_off1243 v5899) a + S1x128.size a ≤ S10064x128.size a := fun v5899 k0_hw621 => k0_hw621

def k0_off1244 (v5903 : BitVec 32) : Fin 2 → Nat :=
  let v5910 : Index := Scalar.indexCast v5903
  let c0_2179 : Index := 0#32
  ![v5910.toNat, 0]

def k0_chk622 (v5903 : BitVec 32) : Prop :=
  (∀ a, (k0_off1244 v5903) a + S1x128.size a ≤ S10064x128.size a)
theorem k0_off1244_inb : ∀ (v5903 : BitVec 32) (k0_hw622 : k0_chk622 v5903), ∀ a, (k0_off1244 v5903) a + S1x128.size a ≤ S10064x128.size a := fun v5903 k0_hw622 => k0_hw622

def k0_off1245 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c622_i32 : BitVec 32 := 622#32
  let v5916 : BitVec 32 := Scalar.addi v5 c622_i32
  let v5917 : Index := Scalar.indexCast v5916
  ![v5917.toNat]
def k0_off1246 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c622_i32_2182 : BitVec 32 := 622#32
  let v5919 : BitVec 32 := Scalar.addi v5 c622_i32_2182
  let c1_i32_2183 : BitVec 32 := 1#32
  let v5920 : BitVec 32 := Scalar.addi v5919 c1_i32_2183
  let v5921 : Index := Scalar.indexCast v5920
  ![v5921.toNat]
def k0_off1247 (v5918 : BitVec 32) : Fin 2 → Nat :=
  let v5923 : Index := Scalar.indexCast v5918
  let c0_2184 : Index := 0#32
  ![v5923.toNat, 0]

def k0_chk623 (v5918 : BitVec 32) : Prop :=
  (∀ a, (k0_off1247 v5918) a + S1x128.size a ≤ S10064x128.size a)
theorem k0_off1247_inb : ∀ (v5918 : BitVec 32) (k0_hw623 : k0_chk623 v5918), ∀ a, (k0_off1247 v5918) a + S1x128.size a ≤ S10064x128.size a := fun v5918 k0_hw623 => k0_hw623

def k0_off1248 (v5922 : BitVec 32) : Fin 2 → Nat :=
  let v5929 : Index := Scalar.indexCast v5922
  let c0_2186 : Index := 0#32
  ![v5929.toNat, 0]

def k0_chk624 (v5922 : BitVec 32) : Prop :=
  (∀ a, (k0_off1248 v5922) a + S1x128.size a ≤ S10064x128.size a)
theorem k0_off1248_inb : ∀ (v5922 : BitVec 32) (k0_hw624 : k0_chk624 v5922), ∀ a, (k0_off1248 v5922) a + S1x128.size a ≤ S10064x128.size a := fun v5922 k0_hw624 => k0_hw624

def k0_off1249 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c624_i32 : BitVec 32 := 624#32
  let v5935 : BitVec 32 := Scalar.addi v5 c624_i32
  let v5936 : Index := Scalar.indexCast v5935
  ![v5936.toNat]
def k0_off1250 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c624_i32_2189 : BitVec 32 := 624#32
  let v5938 : BitVec 32 := Scalar.addi v5 c624_i32_2189
  let c1_i32_2190 : BitVec 32 := 1#32
  let v5939 : BitVec 32 := Scalar.addi v5938 c1_i32_2190
  let v5940 : Index := Scalar.indexCast v5939
  ![v5940.toNat]
def k0_off1251 (v5937 : BitVec 32) : Fin 2 → Nat :=
  let v5942 : Index := Scalar.indexCast v5937
  let c0_2191 : Index := 0#32
  ![v5942.toNat, 0]

def k0_chk625 (v5937 : BitVec 32) : Prop :=
  (∀ a, (k0_off1251 v5937) a + S1x128.size a ≤ S10064x128.size a)
theorem k0_off1251_inb : ∀ (v5937 : BitVec 32) (k0_hw625 : k0_chk625 v5937), ∀ a, (k0_off1251 v5937) a + S1x128.size a ≤ S10064x128.size a := fun v5937 k0_hw625 => k0_hw625

def k0_off1252 (v5941 : BitVec 32) : Fin 2 → Nat :=
  let v5948 : Index := Scalar.indexCast v5941
  let c0_2193 : Index := 0#32
  ![v5948.toNat, 0]

def k0_chk626 (v5941 : BitVec 32) : Prop :=
  (∀ a, (k0_off1252 v5941) a + S1x128.size a ≤ S10064x128.size a)
theorem k0_off1252_inb : ∀ (v5941 : BitVec 32) (k0_hw626 : k0_chk626 v5941), ∀ a, (k0_off1252 v5941) a + S1x128.size a ≤ S10064x128.size a := fun v5941 k0_hw626 => k0_hw626

def k0_off1253 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c626_i32 : BitVec 32 := 626#32
  let v5954 : BitVec 32 := Scalar.addi v5 c626_i32
  let v5955 : Index := Scalar.indexCast v5954
  ![v5955.toNat]
def k0_off1254 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c626_i32_2196 : BitVec 32 := 626#32
  let v5957 : BitVec 32 := Scalar.addi v5 c626_i32_2196
  let c1_i32_2197 : BitVec 32 := 1#32
  let v5958 : BitVec 32 := Scalar.addi v5957 c1_i32_2197
  let v5959 : Index := Scalar.indexCast v5958
  ![v5959.toNat]
def k0_off1255 (v5956 : BitVec 32) : Fin 2 → Nat :=
  let v5961 : Index := Scalar.indexCast v5956
  let c0_2198 : Index := 0#32
  ![v5961.toNat, 0]

def k0_chk627 (v5956 : BitVec 32) : Prop :=
  (∀ a, (k0_off1255 v5956) a + S1x128.size a ≤ S10064x128.size a)
theorem k0_off1255_inb : ∀ (v5956 : BitVec 32) (k0_hw627 : k0_chk627 v5956), ∀ a, (k0_off1255 v5956) a + S1x128.size a ≤ S10064x128.size a := fun v5956 k0_hw627 => k0_hw627

def k0_off1256 (v5960 : BitVec 32) : Fin 2 → Nat :=
  let v5967 : Index := Scalar.indexCast v5960
  let c0_2200 : Index := 0#32
  ![v5967.toNat, 0]

def k0_chk628 (v5960 : BitVec 32) : Prop :=
  (∀ a, (k0_off1256 v5960) a + S1x128.size a ≤ S10064x128.size a)
theorem k0_off1256_inb : ∀ (v5960 : BitVec 32) (k0_hw628 : k0_chk628 v5960), ∀ a, (k0_off1256 v5960) a + S1x128.size a ≤ S10064x128.size a := fun v5960 k0_hw628 => k0_hw628

def k0_off1257 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c628_i32 : BitVec 32 := 628#32
  let v5973 : BitVec 32 := Scalar.addi v5 c628_i32
  let v5974 : Index := Scalar.indexCast v5973
  ![v5974.toNat]
def k0_off1258 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c628_i32_2203 : BitVec 32 := 628#32
  let v5976 : BitVec 32 := Scalar.addi v5 c628_i32_2203
  let c1_i32_2204 : BitVec 32 := 1#32
  let v5977 : BitVec 32 := Scalar.addi v5976 c1_i32_2204
  let v5978 : Index := Scalar.indexCast v5977
  ![v5978.toNat]
def k0_off1259 (v5975 : BitVec 32) : Fin 2 → Nat :=
  let v5980 : Index := Scalar.indexCast v5975
  let c0_2205 : Index := 0#32
  ![v5980.toNat, 0]

def k0_chk629 (v5975 : BitVec 32) : Prop :=
  (∀ a, (k0_off1259 v5975) a + S1x128.size a ≤ S10064x128.size a)
theorem k0_off1259_inb : ∀ (v5975 : BitVec 32) (k0_hw629 : k0_chk629 v5975), ∀ a, (k0_off1259 v5975) a + S1x128.size a ≤ S10064x128.size a := fun v5975 k0_hw629 => k0_hw629

def k0_off1260 (v5979 : BitVec 32) : Fin 2 → Nat :=
  let v5986 : Index := Scalar.indexCast v5979
  let c0_2207 : Index := 0#32
  ![v5986.toNat, 0]

def k0_chk630 (v5979 : BitVec 32) : Prop :=
  (∀ a, (k0_off1260 v5979) a + S1x128.size a ≤ S10064x128.size a)
theorem k0_off1260_inb : ∀ (v5979 : BitVec 32) (k0_hw630 : k0_chk630 v5979), ∀ a, (k0_off1260 v5979) a + S1x128.size a ≤ S10064x128.size a := fun v5979 k0_hw630 => k0_hw630

def k0_off1261 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c630_i32 : BitVec 32 := 630#32
  let v5992 : BitVec 32 := Scalar.addi v5 c630_i32
  let v5993 : Index := Scalar.indexCast v5992
  ![v5993.toNat]
def k0_off1262 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c630_i32_2210 : BitVec 32 := 630#32
  let v5995 : BitVec 32 := Scalar.addi v5 c630_i32_2210
  let c1_i32_2211 : BitVec 32 := 1#32
  let v5996 : BitVec 32 := Scalar.addi v5995 c1_i32_2211
  let v5997 : Index := Scalar.indexCast v5996
  ![v5997.toNat]
def k0_off1263 (v5994 : BitVec 32) : Fin 2 → Nat :=
  let v5999 : Index := Scalar.indexCast v5994
  let c0_2212 : Index := 0#32
  ![v5999.toNat, 0]

def k0_chk631 (v5994 : BitVec 32) : Prop :=
  (∀ a, (k0_off1263 v5994) a + S1x128.size a ≤ S10064x128.size a)
theorem k0_off1263_inb : ∀ (v5994 : BitVec 32) (k0_hw631 : k0_chk631 v5994), ∀ a, (k0_off1263 v5994) a + S1x128.size a ≤ S10064x128.size a := fun v5994 k0_hw631 => k0_hw631

def k0_off1264 (v5998 : BitVec 32) : Fin 2 → Nat :=
  let v6005 : Index := Scalar.indexCast v5998
  let c0_2214 : Index := 0#32
  ![v6005.toNat, 0]

def k0_chk632 (v5998 : BitVec 32) : Prop :=
  (∀ a, (k0_off1264 v5998) a + S1x128.size a ≤ S10064x128.size a)
theorem k0_off1264_inb : ∀ (v5998 : BitVec 32) (k0_hw632 : k0_chk632 v5998), ∀ a, (k0_off1264 v5998) a + S1x128.size a ≤ S10064x128.size a := fun v5998 k0_hw632 => k0_hw632

def k0_off1265 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c632_i32 : BitVec 32 := 632#32
  let v6011 : BitVec 32 := Scalar.addi v5 c632_i32
  let v6012 : Index := Scalar.indexCast v6011
  ![v6012.toNat]
def k0_off1266 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c632_i32_2217 : BitVec 32 := 632#32
  let v6014 : BitVec 32 := Scalar.addi v5 c632_i32_2217
  let c1_i32_2218 : BitVec 32 := 1#32
  let v6015 : BitVec 32 := Scalar.addi v6014 c1_i32_2218
  let v6016 : Index := Scalar.indexCast v6015
  ![v6016.toNat]
def k0_off1267 (v6013 : BitVec 32) : Fin 2 → Nat :=
  let v6018 : Index := Scalar.indexCast v6013
  let c0_2219 : Index := 0#32
  ![v6018.toNat, 0]

def k0_chk633 (v6013 : BitVec 32) : Prop :=
  (∀ a, (k0_off1267 v6013) a + S1x128.size a ≤ S10064x128.size a)
theorem k0_off1267_inb : ∀ (v6013 : BitVec 32) (k0_hw633 : k0_chk633 v6013), ∀ a, (k0_off1267 v6013) a + S1x128.size a ≤ S10064x128.size a := fun v6013 k0_hw633 => k0_hw633

def k0_off1268 (v6017 : BitVec 32) : Fin 2 → Nat :=
  let v6024 : Index := Scalar.indexCast v6017
  let c0_2221 : Index := 0#32
  ![v6024.toNat, 0]

def k0_chk634 (v6017 : BitVec 32) : Prop :=
  (∀ a, (k0_off1268 v6017) a + S1x128.size a ≤ S10064x128.size a)
theorem k0_off1268_inb : ∀ (v6017 : BitVec 32) (k0_hw634 : k0_chk634 v6017), ∀ a, (k0_off1268 v6017) a + S1x128.size a ≤ S10064x128.size a := fun v6017 k0_hw634 => k0_hw634

def k0_off1269 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c634_i32 : BitVec 32 := 634#32
  let v6030 : BitVec 32 := Scalar.addi v5 c634_i32
  let v6031 : Index := Scalar.indexCast v6030
  ![v6031.toNat]
def k0_off1270 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c634_i32_2224 : BitVec 32 := 634#32
  let v6033 : BitVec 32 := Scalar.addi v5 c634_i32_2224
  let c1_i32_2225 : BitVec 32 := 1#32
  let v6034 : BitVec 32 := Scalar.addi v6033 c1_i32_2225
  let v6035 : Index := Scalar.indexCast v6034
  ![v6035.toNat]
def k0_off1271 (v6032 : BitVec 32) : Fin 2 → Nat :=
  let v6037 : Index := Scalar.indexCast v6032
  let c0_2226 : Index := 0#32
  ![v6037.toNat, 0]

def k0_chk635 (v6032 : BitVec 32) : Prop :=
  (∀ a, (k0_off1271 v6032) a + S1x128.size a ≤ S10064x128.size a)
theorem k0_off1271_inb : ∀ (v6032 : BitVec 32) (k0_hw635 : k0_chk635 v6032), ∀ a, (k0_off1271 v6032) a + S1x128.size a ≤ S10064x128.size a := fun v6032 k0_hw635 => k0_hw635

def k0_off1272 (v6036 : BitVec 32) : Fin 2 → Nat :=
  let v6043 : Index := Scalar.indexCast v6036
  let c0_2228 : Index := 0#32
  ![v6043.toNat, 0]

def k0_chk636 (v6036 : BitVec 32) : Prop :=
  (∀ a, (k0_off1272 v6036) a + S1x128.size a ≤ S10064x128.size a)
theorem k0_off1272_inb : ∀ (v6036 : BitVec 32) (k0_hw636 : k0_chk636 v6036), ∀ a, (k0_off1272 v6036) a + S1x128.size a ≤ S10064x128.size a := fun v6036 k0_hw636 => k0_hw636

def k0_off1273 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c636_i32 : BitVec 32 := 636#32
  let v6049 : BitVec 32 := Scalar.addi v5 c636_i32
  let v6050 : Index := Scalar.indexCast v6049
  ![v6050.toNat]
def k0_off1274 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c636_i32_2231 : BitVec 32 := 636#32
  let v6052 : BitVec 32 := Scalar.addi v5 c636_i32_2231
  let c1_i32_2232 : BitVec 32 := 1#32
  let v6053 : BitVec 32 := Scalar.addi v6052 c1_i32_2232
  let v6054 : Index := Scalar.indexCast v6053
  ![v6054.toNat]
def k0_off1275 (v6051 : BitVec 32) : Fin 2 → Nat :=
  let v6056 : Index := Scalar.indexCast v6051
  let c0_2233 : Index := 0#32
  ![v6056.toNat, 0]

def k0_chk637 (v6051 : BitVec 32) : Prop :=
  (∀ a, (k0_off1275 v6051) a + S1x128.size a ≤ S10064x128.size a)
theorem k0_off1275_inb : ∀ (v6051 : BitVec 32) (k0_hw637 : k0_chk637 v6051), ∀ a, (k0_off1275 v6051) a + S1x128.size a ≤ S10064x128.size a := fun v6051 k0_hw637 => k0_hw637

def k0_off1276 (v6055 : BitVec 32) : Fin 2 → Nat :=
  let v6062 : Index := Scalar.indexCast v6055
  let c0_2235 : Index := 0#32
  ![v6062.toNat, 0]

def k0_chk638 (v6055 : BitVec 32) : Prop :=
  (∀ a, (k0_off1276 v6055) a + S1x128.size a ≤ S10064x128.size a)
theorem k0_off1276_inb : ∀ (v6055 : BitVec 32) (k0_hw638 : k0_chk638 v6055), ∀ a, (k0_off1276 v6055) a + S1x128.size a ≤ S10064x128.size a := fun v6055 k0_hw638 => k0_hw638

def k0_off1277 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c638_i32 : BitVec 32 := 638#32
  let v6068 : BitVec 32 := Scalar.addi v5 c638_i32
  let v6069 : Index := Scalar.indexCast v6068
  ![v6069.toNat]
def k0_off1278 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c638_i32_2238 : BitVec 32 := 638#32
  let v6071 : BitVec 32 := Scalar.addi v5 c638_i32_2238
  let c1_i32_2239 : BitVec 32 := 1#32
  let v6072 : BitVec 32 := Scalar.addi v6071 c1_i32_2239
  let v6073 : Index := Scalar.indexCast v6072
  ![v6073.toNat]
def k0_off1279 (v6070 : BitVec 32) : Fin 2 → Nat :=
  let v6075 : Index := Scalar.indexCast v6070
  let c0_2240 : Index := 0#32
  ![v6075.toNat, 0]

def k0_chk639 (v6070 : BitVec 32) : Prop :=
  (∀ a, (k0_off1279 v6070) a + S1x128.size a ≤ S10064x128.size a)
theorem k0_off1279_inb : ∀ (v6070 : BitVec 32) (k0_hw639 : k0_chk639 v6070), ∀ a, (k0_off1279 v6070) a + S1x128.size a ≤ S10064x128.size a := fun v6070 k0_hw639 => k0_hw639

def k0_off1280 (v6074 : BitVec 32) : Fin 2 → Nat :=
  let v6081 : Index := Scalar.indexCast v6074
  let c0_2242 : Index := 0#32
  ![v6081.toNat, 0]

def k0_chk640 (v6074 : BitVec 32) : Prop :=
  (∀ a, (k0_off1280 v6074) a + S1x128.size a ≤ S10064x128.size a)
theorem k0_off1280_inb : ∀ (v6074 : BitVec 32) (k0_hw640 : k0_chk640 v6074), ∀ a, (k0_off1280 v6074) a + S1x128.size a ≤ S10064x128.size a := fun v6074 k0_hw640 => k0_hw640

def k0_off1281 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c640_i32 : BitVec 32 := 640#32
  let v6087 : BitVec 32 := Scalar.addi v5 c640_i32
  let v6088 : Index := Scalar.indexCast v6087
  ![v6088.toNat]
def k0_off1282 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c640_i32_2245 : BitVec 32 := 640#32
  let v6090 : BitVec 32 := Scalar.addi v5 c640_i32_2245
  let c1_i32_2246 : BitVec 32 := 1#32
  let v6091 : BitVec 32 := Scalar.addi v6090 c1_i32_2246
  let v6092 : Index := Scalar.indexCast v6091
  ![v6092.toNat]
def k0_off1283 (v6089 : BitVec 32) : Fin 2 → Nat :=
  let v6094 : Index := Scalar.indexCast v6089
  let c0_2247 : Index := 0#32
  ![v6094.toNat, 0]

def k0_chk641 (v6089 : BitVec 32) : Prop :=
  (∀ a, (k0_off1283 v6089) a + S1x128.size a ≤ S10064x128.size a)
theorem k0_off1283_inb : ∀ (v6089 : BitVec 32) (k0_hw641 : k0_chk641 v6089), ∀ a, (k0_off1283 v6089) a + S1x128.size a ≤ S10064x128.size a := fun v6089 k0_hw641 => k0_hw641

def k0_off1284 (v6093 : BitVec 32) : Fin 2 → Nat :=
  let v6100 : Index := Scalar.indexCast v6093
  let c0_2249 : Index := 0#32
  ![v6100.toNat, 0]

def k0_chk642 (v6093 : BitVec 32) : Prop :=
  (∀ a, (k0_off1284 v6093) a + S1x128.size a ≤ S10064x128.size a)
theorem k0_off1284_inb : ∀ (v6093 : BitVec 32) (k0_hw642 : k0_chk642 v6093), ∀ a, (k0_off1284 v6093) a + S1x128.size a ≤ S10064x128.size a := fun v6093 k0_hw642 => k0_hw642

def k0_off1285 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c642_i32 : BitVec 32 := 642#32
  let v6106 : BitVec 32 := Scalar.addi v5 c642_i32
  let v6107 : Index := Scalar.indexCast v6106
  ![v6107.toNat]
def k0_off1286 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c642_i32_2252 : BitVec 32 := 642#32
  let v6109 : BitVec 32 := Scalar.addi v5 c642_i32_2252
  let c1_i32_2253 : BitVec 32 := 1#32
  let v6110 : BitVec 32 := Scalar.addi v6109 c1_i32_2253
  let v6111 : Index := Scalar.indexCast v6110
  ![v6111.toNat]
def k0_off1287 (v6108 : BitVec 32) : Fin 2 → Nat :=
  let v6113 : Index := Scalar.indexCast v6108
  let c0_2254 : Index := 0#32
  ![v6113.toNat, 0]

def k0_chk643 (v6108 : BitVec 32) : Prop :=
  (∀ a, (k0_off1287 v6108) a + S1x128.size a ≤ S10064x128.size a)
theorem k0_off1287_inb : ∀ (v6108 : BitVec 32) (k0_hw643 : k0_chk643 v6108), ∀ a, (k0_off1287 v6108) a + S1x128.size a ≤ S10064x128.size a := fun v6108 k0_hw643 => k0_hw643

def k0_off1288 (v6112 : BitVec 32) : Fin 2 → Nat :=
  let v6119 : Index := Scalar.indexCast v6112
  let c0_2256 : Index := 0#32
  ![v6119.toNat, 0]

def k0_chk644 (v6112 : BitVec 32) : Prop :=
  (∀ a, (k0_off1288 v6112) a + S1x128.size a ≤ S10064x128.size a)
theorem k0_off1288_inb : ∀ (v6112 : BitVec 32) (k0_hw644 : k0_chk644 v6112), ∀ a, (k0_off1288 v6112) a + S1x128.size a ≤ S10064x128.size a := fun v6112 k0_hw644 => k0_hw644

def k0_off1289 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c644_i32 : BitVec 32 := 644#32
  let v6125 : BitVec 32 := Scalar.addi v5 c644_i32
  let v6126 : Index := Scalar.indexCast v6125
  ![v6126.toNat]
def k0_off1290 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c644_i32_2259 : BitVec 32 := 644#32
  let v6128 : BitVec 32 := Scalar.addi v5 c644_i32_2259
  let c1_i32_2260 : BitVec 32 := 1#32
  let v6129 : BitVec 32 := Scalar.addi v6128 c1_i32_2260
  let v6130 : Index := Scalar.indexCast v6129
  ![v6130.toNat]
def k0_off1291 (v6127 : BitVec 32) : Fin 2 → Nat :=
  let v6132 : Index := Scalar.indexCast v6127
  let c0_2261 : Index := 0#32
  ![v6132.toNat, 0]

def k0_chk645 (v6127 : BitVec 32) : Prop :=
  (∀ a, (k0_off1291 v6127) a + S1x128.size a ≤ S10064x128.size a)
theorem k0_off1291_inb : ∀ (v6127 : BitVec 32) (k0_hw645 : k0_chk645 v6127), ∀ a, (k0_off1291 v6127) a + S1x128.size a ≤ S10064x128.size a := fun v6127 k0_hw645 => k0_hw645

def k0_off1292 (v6131 : BitVec 32) : Fin 2 → Nat :=
  let v6138 : Index := Scalar.indexCast v6131
  let c0_2263 : Index := 0#32
  ![v6138.toNat, 0]

def k0_chk646 (v6131 : BitVec 32) : Prop :=
  (∀ a, (k0_off1292 v6131) a + S1x128.size a ≤ S10064x128.size a)
theorem k0_off1292_inb : ∀ (v6131 : BitVec 32) (k0_hw646 : k0_chk646 v6131), ∀ a, (k0_off1292 v6131) a + S1x128.size a ≤ S10064x128.size a := fun v6131 k0_hw646 => k0_hw646

def k0_off1293 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c646_i32 : BitVec 32 := 646#32
  let v6144 : BitVec 32 := Scalar.addi v5 c646_i32
  let v6145 : Index := Scalar.indexCast v6144
  ![v6145.toNat]
def k0_off1294 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c646_i32_2266 : BitVec 32 := 646#32
  let v6147 : BitVec 32 := Scalar.addi v5 c646_i32_2266
  let c1_i32_2267 : BitVec 32 := 1#32
  let v6148 : BitVec 32 := Scalar.addi v6147 c1_i32_2267
  let v6149 : Index := Scalar.indexCast v6148
  ![v6149.toNat]
def k0_off1295 (v6146 : BitVec 32) : Fin 2 → Nat :=
  let v6151 : Index := Scalar.indexCast v6146
  let c0_2268 : Index := 0#32
  ![v6151.toNat, 0]

def k0_chk647 (v6146 : BitVec 32) : Prop :=
  (∀ a, (k0_off1295 v6146) a + S1x128.size a ≤ S10064x128.size a)
theorem k0_off1295_inb : ∀ (v6146 : BitVec 32) (k0_hw647 : k0_chk647 v6146), ∀ a, (k0_off1295 v6146) a + S1x128.size a ≤ S10064x128.size a := fun v6146 k0_hw647 => k0_hw647

def k0_off1296 (v6150 : BitVec 32) : Fin 2 → Nat :=
  let v6157 : Index := Scalar.indexCast v6150
  let c0_2270 : Index := 0#32
  ![v6157.toNat, 0]

def k0_chk648 (v6150 : BitVec 32) : Prop :=
  (∀ a, (k0_off1296 v6150) a + S1x128.size a ≤ S10064x128.size a)
theorem k0_off1296_inb : ∀ (v6150 : BitVec 32) (k0_hw648 : k0_chk648 v6150), ∀ a, (k0_off1296 v6150) a + S1x128.size a ≤ S10064x128.size a := fun v6150 k0_hw648 => k0_hw648

def k0_off1297 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c648_i32 : BitVec 32 := 648#32
  let v6163 : BitVec 32 := Scalar.addi v5 c648_i32
  let v6164 : Index := Scalar.indexCast v6163
  ![v6164.toNat]
def k0_off1298 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c648_i32_2273 : BitVec 32 := 648#32
  let v6166 : BitVec 32 := Scalar.addi v5 c648_i32_2273
  let c1_i32_2274 : BitVec 32 := 1#32
  let v6167 : BitVec 32 := Scalar.addi v6166 c1_i32_2274
  let v6168 : Index := Scalar.indexCast v6167
  ![v6168.toNat]
def k0_off1299 (v6165 : BitVec 32) : Fin 2 → Nat :=
  let v6170 : Index := Scalar.indexCast v6165
  let c0_2275 : Index := 0#32
  ![v6170.toNat, 0]

def k0_chk649 (v6165 : BitVec 32) : Prop :=
  (∀ a, (k0_off1299 v6165) a + S1x128.size a ≤ S10064x128.size a)
theorem k0_off1299_inb : ∀ (v6165 : BitVec 32) (k0_hw649 : k0_chk649 v6165), ∀ a, (k0_off1299 v6165) a + S1x128.size a ≤ S10064x128.size a := fun v6165 k0_hw649 => k0_hw649

def k0_off1300 (v6169 : BitVec 32) : Fin 2 → Nat :=
  let v6176 : Index := Scalar.indexCast v6169
  let c0_2277 : Index := 0#32
  ![v6176.toNat, 0]

def k0_chk650 (v6169 : BitVec 32) : Prop :=
  (∀ a, (k0_off1300 v6169) a + S1x128.size a ≤ S10064x128.size a)
theorem k0_off1300_inb : ∀ (v6169 : BitVec 32) (k0_hw650 : k0_chk650 v6169), ∀ a, (k0_off1300 v6169) a + S1x128.size a ≤ S10064x128.size a := fun v6169 k0_hw650 => k0_hw650

def k0_off1301 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c650_i32 : BitVec 32 := 650#32
  let v6182 : BitVec 32 := Scalar.addi v5 c650_i32
  let v6183 : Index := Scalar.indexCast v6182
  ![v6183.toNat]
def k0_off1302 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c650_i32_2280 : BitVec 32 := 650#32
  let v6185 : BitVec 32 := Scalar.addi v5 c650_i32_2280
  let c1_i32_2281 : BitVec 32 := 1#32
  let v6186 : BitVec 32 := Scalar.addi v6185 c1_i32_2281
  let v6187 : Index := Scalar.indexCast v6186
  ![v6187.toNat]
def k0_off1303 (v6184 : BitVec 32) : Fin 2 → Nat :=
  let v6189 : Index := Scalar.indexCast v6184
  let c0_2282 : Index := 0#32
  ![v6189.toNat, 0]

def k0_chk651 (v6184 : BitVec 32) : Prop :=
  (∀ a, (k0_off1303 v6184) a + S1x128.size a ≤ S10064x128.size a)
theorem k0_off1303_inb : ∀ (v6184 : BitVec 32) (k0_hw651 : k0_chk651 v6184), ∀ a, (k0_off1303 v6184) a + S1x128.size a ≤ S10064x128.size a := fun v6184 k0_hw651 => k0_hw651

def k0_off1304 (v6188 : BitVec 32) : Fin 2 → Nat :=
  let v6195 : Index := Scalar.indexCast v6188
  let c0_2284 : Index := 0#32
  ![v6195.toNat, 0]

def k0_chk652 (v6188 : BitVec 32) : Prop :=
  (∀ a, (k0_off1304 v6188) a + S1x128.size a ≤ S10064x128.size a)
theorem k0_off1304_inb : ∀ (v6188 : BitVec 32) (k0_hw652 : k0_chk652 v6188), ∀ a, (k0_off1304 v6188) a + S1x128.size a ≤ S10064x128.size a := fun v6188 k0_hw652 => k0_hw652

def k0_off1305 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c652_i32 : BitVec 32 := 652#32
  let v6201 : BitVec 32 := Scalar.addi v5 c652_i32
  let v6202 : Index := Scalar.indexCast v6201
  ![v6202.toNat]
def k0_off1306 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c652_i32_2287 : BitVec 32 := 652#32
  let v6204 : BitVec 32 := Scalar.addi v5 c652_i32_2287
  let c1_i32_2288 : BitVec 32 := 1#32
  let v6205 : BitVec 32 := Scalar.addi v6204 c1_i32_2288
  let v6206 : Index := Scalar.indexCast v6205
  ![v6206.toNat]
def k0_off1307 (v6203 : BitVec 32) : Fin 2 → Nat :=
  let v6208 : Index := Scalar.indexCast v6203
  let c0_2289 : Index := 0#32
  ![v6208.toNat, 0]

def k0_chk653 (v6203 : BitVec 32) : Prop :=
  (∀ a, (k0_off1307 v6203) a + S1x128.size a ≤ S10064x128.size a)
theorem k0_off1307_inb : ∀ (v6203 : BitVec 32) (k0_hw653 : k0_chk653 v6203), ∀ a, (k0_off1307 v6203) a + S1x128.size a ≤ S10064x128.size a := fun v6203 k0_hw653 => k0_hw653

def k0_off1308 (v6207 : BitVec 32) : Fin 2 → Nat :=
  let v6214 : Index := Scalar.indexCast v6207
  let c0_2291 : Index := 0#32
  ![v6214.toNat, 0]

def k0_chk654 (v6207 : BitVec 32) : Prop :=
  (∀ a, (k0_off1308 v6207) a + S1x128.size a ≤ S10064x128.size a)
theorem k0_off1308_inb : ∀ (v6207 : BitVec 32) (k0_hw654 : k0_chk654 v6207), ∀ a, (k0_off1308 v6207) a + S1x128.size a ≤ S10064x128.size a := fun v6207 k0_hw654 => k0_hw654

def k0_off1309 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c654_i32 : BitVec 32 := 654#32
  let v6220 : BitVec 32 := Scalar.addi v5 c654_i32
  let v6221 : Index := Scalar.indexCast v6220
  ![v6221.toNat]
def k0_off1310 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c654_i32_2294 : BitVec 32 := 654#32
  let v6223 : BitVec 32 := Scalar.addi v5 c654_i32_2294
  let c1_i32_2295 : BitVec 32 := 1#32
  let v6224 : BitVec 32 := Scalar.addi v6223 c1_i32_2295
  let v6225 : Index := Scalar.indexCast v6224
  ![v6225.toNat]
def k0_off1311 (v6222 : BitVec 32) : Fin 2 → Nat :=
  let v6227 : Index := Scalar.indexCast v6222
  let c0_2296 : Index := 0#32
  ![v6227.toNat, 0]

def k0_chk655 (v6222 : BitVec 32) : Prop :=
  (∀ a, (k0_off1311 v6222) a + S1x128.size a ≤ S10064x128.size a)
theorem k0_off1311_inb : ∀ (v6222 : BitVec 32) (k0_hw655 : k0_chk655 v6222), ∀ a, (k0_off1311 v6222) a + S1x128.size a ≤ S10064x128.size a := fun v6222 k0_hw655 => k0_hw655

def k0_off1312 (v6226 : BitVec 32) : Fin 2 → Nat :=
  let v6233 : Index := Scalar.indexCast v6226
  let c0_2298 : Index := 0#32
  ![v6233.toNat, 0]

def k0_chk656 (v6226 : BitVec 32) : Prop :=
  (∀ a, (k0_off1312 v6226) a + S1x128.size a ≤ S10064x128.size a)
theorem k0_off1312_inb : ∀ (v6226 : BitVec 32) (k0_hw656 : k0_chk656 v6226), ∀ a, (k0_off1312 v6226) a + S1x128.size a ≤ S10064x128.size a := fun v6226 k0_hw656 => k0_hw656

def k0_off1313 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c656_i32 : BitVec 32 := 656#32
  let v6239 : BitVec 32 := Scalar.addi v5 c656_i32
  let v6240 : Index := Scalar.indexCast v6239
  ![v6240.toNat]
def k0_off1314 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c656_i32_2301 : BitVec 32 := 656#32
  let v6242 : BitVec 32 := Scalar.addi v5 c656_i32_2301
  let c1_i32_2302 : BitVec 32 := 1#32
  let v6243 : BitVec 32 := Scalar.addi v6242 c1_i32_2302
  let v6244 : Index := Scalar.indexCast v6243
  ![v6244.toNat]
def k0_off1315 (v6241 : BitVec 32) : Fin 2 → Nat :=
  let v6246 : Index := Scalar.indexCast v6241
  let c0_2303 : Index := 0#32
  ![v6246.toNat, 0]

def k0_chk657 (v6241 : BitVec 32) : Prop :=
  (∀ a, (k0_off1315 v6241) a + S1x128.size a ≤ S10064x128.size a)
theorem k0_off1315_inb : ∀ (v6241 : BitVec 32) (k0_hw657 : k0_chk657 v6241), ∀ a, (k0_off1315 v6241) a + S1x128.size a ≤ S10064x128.size a := fun v6241 k0_hw657 => k0_hw657

def k0_off1316 (v6245 : BitVec 32) : Fin 2 → Nat :=
  let v6252 : Index := Scalar.indexCast v6245
  let c0_2305 : Index := 0#32
  ![v6252.toNat, 0]

def k0_chk658 (v6245 : BitVec 32) : Prop :=
  (∀ a, (k0_off1316 v6245) a + S1x128.size a ≤ S10064x128.size a)
theorem k0_off1316_inb : ∀ (v6245 : BitVec 32) (k0_hw658 : k0_chk658 v6245), ∀ a, (k0_off1316 v6245) a + S1x128.size a ≤ S10064x128.size a := fun v6245 k0_hw658 => k0_hw658

def k0_off1317 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c658_i32 : BitVec 32 := 658#32
  let v6258 : BitVec 32 := Scalar.addi v5 c658_i32
  let v6259 : Index := Scalar.indexCast v6258
  ![v6259.toNat]
def k0_off1318 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c658_i32_2308 : BitVec 32 := 658#32
  let v6261 : BitVec 32 := Scalar.addi v5 c658_i32_2308
  let c1_i32_2309 : BitVec 32 := 1#32
  let v6262 : BitVec 32 := Scalar.addi v6261 c1_i32_2309
  let v6263 : Index := Scalar.indexCast v6262
  ![v6263.toNat]
def k0_off1319 (v6260 : BitVec 32) : Fin 2 → Nat :=
  let v6265 : Index := Scalar.indexCast v6260
  let c0_2310 : Index := 0#32
  ![v6265.toNat, 0]

def k0_chk659 (v6260 : BitVec 32) : Prop :=
  (∀ a, (k0_off1319 v6260) a + S1x128.size a ≤ S10064x128.size a)
theorem k0_off1319_inb : ∀ (v6260 : BitVec 32) (k0_hw659 : k0_chk659 v6260), ∀ a, (k0_off1319 v6260) a + S1x128.size a ≤ S10064x128.size a := fun v6260 k0_hw659 => k0_hw659

def k0_off1320 (v6264 : BitVec 32) : Fin 2 → Nat :=
  let v6271 : Index := Scalar.indexCast v6264
  let c0_2312 : Index := 0#32
  ![v6271.toNat, 0]

def k0_chk660 (v6264 : BitVec 32) : Prop :=
  (∀ a, (k0_off1320 v6264) a + S1x128.size a ≤ S10064x128.size a)
theorem k0_off1320_inb : ∀ (v6264 : BitVec 32) (k0_hw660 : k0_chk660 v6264), ∀ a, (k0_off1320 v6264) a + S1x128.size a ≤ S10064x128.size a := fun v6264 k0_hw660 => k0_hw660

def k0_off1321 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c660_i32 : BitVec 32 := 660#32
  let v6277 : BitVec 32 := Scalar.addi v5 c660_i32
  let v6278 : Index := Scalar.indexCast v6277
  ![v6278.toNat]
def k0_off1322 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c660_i32_2315 : BitVec 32 := 660#32
  let v6280 : BitVec 32 := Scalar.addi v5 c660_i32_2315
  let c1_i32_2316 : BitVec 32 := 1#32
  let v6281 : BitVec 32 := Scalar.addi v6280 c1_i32_2316
  let v6282 : Index := Scalar.indexCast v6281
  ![v6282.toNat]
def k0_off1323 (v6279 : BitVec 32) : Fin 2 → Nat :=
  let v6284 : Index := Scalar.indexCast v6279
  let c0_2317 : Index := 0#32
  ![v6284.toNat, 0]

def k0_chk661 (v6279 : BitVec 32) : Prop :=
  (∀ a, (k0_off1323 v6279) a + S1x128.size a ≤ S10064x128.size a)
theorem k0_off1323_inb : ∀ (v6279 : BitVec 32) (k0_hw661 : k0_chk661 v6279), ∀ a, (k0_off1323 v6279) a + S1x128.size a ≤ S10064x128.size a := fun v6279 k0_hw661 => k0_hw661

def k0_off1324 (v6283 : BitVec 32) : Fin 2 → Nat :=
  let v6290 : Index := Scalar.indexCast v6283
  let c0_2319 : Index := 0#32
  ![v6290.toNat, 0]

def k0_chk662 (v6283 : BitVec 32) : Prop :=
  (∀ a, (k0_off1324 v6283) a + S1x128.size a ≤ S10064x128.size a)
theorem k0_off1324_inb : ∀ (v6283 : BitVec 32) (k0_hw662 : k0_chk662 v6283), ∀ a, (k0_off1324 v6283) a + S1x128.size a ≤ S10064x128.size a := fun v6283 k0_hw662 => k0_hw662

def k0_off1325 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c662_i32 : BitVec 32 := 662#32
  let v6296 : BitVec 32 := Scalar.addi v5 c662_i32
  let v6297 : Index := Scalar.indexCast v6296
  ![v6297.toNat]
def k0_off1326 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c662_i32_2322 : BitVec 32 := 662#32
  let v6299 : BitVec 32 := Scalar.addi v5 c662_i32_2322
  let c1_i32_2323 : BitVec 32 := 1#32
  let v6300 : BitVec 32 := Scalar.addi v6299 c1_i32_2323
  let v6301 : Index := Scalar.indexCast v6300
  ![v6301.toNat]
def k0_off1327 (v6298 : BitVec 32) : Fin 2 → Nat :=
  let v6303 : Index := Scalar.indexCast v6298
  let c0_2324 : Index := 0#32
  ![v6303.toNat, 0]

def k0_chk663 (v6298 : BitVec 32) : Prop :=
  (∀ a, (k0_off1327 v6298) a + S1x128.size a ≤ S10064x128.size a)
theorem k0_off1327_inb : ∀ (v6298 : BitVec 32) (k0_hw663 : k0_chk663 v6298), ∀ a, (k0_off1327 v6298) a + S1x128.size a ≤ S10064x128.size a := fun v6298 k0_hw663 => k0_hw663

def k0_off1328 (v6302 : BitVec 32) : Fin 2 → Nat :=
  let v6309 : Index := Scalar.indexCast v6302
  let c0_2326 : Index := 0#32
  ![v6309.toNat, 0]

def k0_chk664 (v6302 : BitVec 32) : Prop :=
  (∀ a, (k0_off1328 v6302) a + S1x128.size a ≤ S10064x128.size a)
theorem k0_off1328_inb : ∀ (v6302 : BitVec 32) (k0_hw664 : k0_chk664 v6302), ∀ a, (k0_off1328 v6302) a + S1x128.size a ≤ S10064x128.size a := fun v6302 k0_hw664 => k0_hw664

def k0_off1329 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c664_i32 : BitVec 32 := 664#32
  let v6315 : BitVec 32 := Scalar.addi v5 c664_i32
  let v6316 : Index := Scalar.indexCast v6315
  ![v6316.toNat]
def k0_off1330 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c664_i32_2329 : BitVec 32 := 664#32
  let v6318 : BitVec 32 := Scalar.addi v5 c664_i32_2329
  let c1_i32_2330 : BitVec 32 := 1#32
  let v6319 : BitVec 32 := Scalar.addi v6318 c1_i32_2330
  let v6320 : Index := Scalar.indexCast v6319
  ![v6320.toNat]
def k0_off1331 (v6317 : BitVec 32) : Fin 2 → Nat :=
  let v6322 : Index := Scalar.indexCast v6317
  let c0_2331 : Index := 0#32
  ![v6322.toNat, 0]

def k0_chk665 (v6317 : BitVec 32) : Prop :=
  (∀ a, (k0_off1331 v6317) a + S1x128.size a ≤ S10064x128.size a)
theorem k0_off1331_inb : ∀ (v6317 : BitVec 32) (k0_hw665 : k0_chk665 v6317), ∀ a, (k0_off1331 v6317) a + S1x128.size a ≤ S10064x128.size a := fun v6317 k0_hw665 => k0_hw665

def k0_off1332 (v6321 : BitVec 32) : Fin 2 → Nat :=
  let v6328 : Index := Scalar.indexCast v6321
  let c0_2333 : Index := 0#32
  ![v6328.toNat, 0]

def k0_chk666 (v6321 : BitVec 32) : Prop :=
  (∀ a, (k0_off1332 v6321) a + S1x128.size a ≤ S10064x128.size a)
theorem k0_off1332_inb : ∀ (v6321 : BitVec 32) (k0_hw666 : k0_chk666 v6321), ∀ a, (k0_off1332 v6321) a + S1x128.size a ≤ S10064x128.size a := fun v6321 k0_hw666 => k0_hw666

def k0_off1333 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c666_i32 : BitVec 32 := 666#32
  let v6334 : BitVec 32 := Scalar.addi v5 c666_i32
  let v6335 : Index := Scalar.indexCast v6334
  ![v6335.toNat]
def k0_off1334 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c666_i32_2336 : BitVec 32 := 666#32
  let v6337 : BitVec 32 := Scalar.addi v5 c666_i32_2336
  let c1_i32_2337 : BitVec 32 := 1#32
  let v6338 : BitVec 32 := Scalar.addi v6337 c1_i32_2337
  let v6339 : Index := Scalar.indexCast v6338
  ![v6339.toNat]
def k0_off1335 (v6336 : BitVec 32) : Fin 2 → Nat :=
  let v6341 : Index := Scalar.indexCast v6336
  let c0_2338 : Index := 0#32
  ![v6341.toNat, 0]

def k0_chk667 (v6336 : BitVec 32) : Prop :=
  (∀ a, (k0_off1335 v6336) a + S1x128.size a ≤ S10064x128.size a)
theorem k0_off1335_inb : ∀ (v6336 : BitVec 32) (k0_hw667 : k0_chk667 v6336), ∀ a, (k0_off1335 v6336) a + S1x128.size a ≤ S10064x128.size a := fun v6336 k0_hw667 => k0_hw667

def k0_off1336 (v6340 : BitVec 32) : Fin 2 → Nat :=
  let v6347 : Index := Scalar.indexCast v6340
  let c0_2340 : Index := 0#32
  ![v6347.toNat, 0]

def k0_chk668 (v6340 : BitVec 32) : Prop :=
  (∀ a, (k0_off1336 v6340) a + S1x128.size a ≤ S10064x128.size a)
theorem k0_off1336_inb : ∀ (v6340 : BitVec 32) (k0_hw668 : k0_chk668 v6340), ∀ a, (k0_off1336 v6340) a + S1x128.size a ≤ S10064x128.size a := fun v6340 k0_hw668 => k0_hw668

def k0_off1337 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c668_i32 : BitVec 32 := 668#32
  let v6353 : BitVec 32 := Scalar.addi v5 c668_i32
  let v6354 : Index := Scalar.indexCast v6353
  ![v6354.toNat]
def k0_off1338 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c668_i32_2343 : BitVec 32 := 668#32
  let v6356 : BitVec 32 := Scalar.addi v5 c668_i32_2343
  let c1_i32_2344 : BitVec 32 := 1#32
  let v6357 : BitVec 32 := Scalar.addi v6356 c1_i32_2344
  let v6358 : Index := Scalar.indexCast v6357
  ![v6358.toNat]
def k0_off1339 (v6355 : BitVec 32) : Fin 2 → Nat :=
  let v6360 : Index := Scalar.indexCast v6355
  let c0_2345 : Index := 0#32
  ![v6360.toNat, 0]

def k0_chk669 (v6355 : BitVec 32) : Prop :=
  (∀ a, (k0_off1339 v6355) a + S1x128.size a ≤ S10064x128.size a)
theorem k0_off1339_inb : ∀ (v6355 : BitVec 32) (k0_hw669 : k0_chk669 v6355), ∀ a, (k0_off1339 v6355) a + S1x128.size a ≤ S10064x128.size a := fun v6355 k0_hw669 => k0_hw669

def k0_off1340 (v6359 : BitVec 32) : Fin 2 → Nat :=
  let v6366 : Index := Scalar.indexCast v6359
  let c0_2347 : Index := 0#32
  ![v6366.toNat, 0]

def k0_chk670 (v6359 : BitVec 32) : Prop :=
  (∀ a, (k0_off1340 v6359) a + S1x128.size a ≤ S10064x128.size a)
theorem k0_off1340_inb : ∀ (v6359 : BitVec 32) (k0_hw670 : k0_chk670 v6359), ∀ a, (k0_off1340 v6359) a + S1x128.size a ≤ S10064x128.size a := fun v6359 k0_hw670 => k0_hw670

def k0_off1341 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c670_i32 : BitVec 32 := 670#32
  let v6372 : BitVec 32 := Scalar.addi v5 c670_i32
  let v6373 : Index := Scalar.indexCast v6372
  ![v6373.toNat]
def k0_off1342 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c670_i32_2350 : BitVec 32 := 670#32
  let v6375 : BitVec 32 := Scalar.addi v5 c670_i32_2350
  let c1_i32_2351 : BitVec 32 := 1#32
  let v6376 : BitVec 32 := Scalar.addi v6375 c1_i32_2351
  let v6377 : Index := Scalar.indexCast v6376
  ![v6377.toNat]
def k0_off1343 (v6374 : BitVec 32) : Fin 2 → Nat :=
  let v6379 : Index := Scalar.indexCast v6374
  let c0_2352 : Index := 0#32
  ![v6379.toNat, 0]

def k0_chk671 (v6374 : BitVec 32) : Prop :=
  (∀ a, (k0_off1343 v6374) a + S1x128.size a ≤ S10064x128.size a)
theorem k0_off1343_inb : ∀ (v6374 : BitVec 32) (k0_hw671 : k0_chk671 v6374), ∀ a, (k0_off1343 v6374) a + S1x128.size a ≤ S10064x128.size a := fun v6374 k0_hw671 => k0_hw671

def k0_off1344 (v6378 : BitVec 32) : Fin 2 → Nat :=
  let v6385 : Index := Scalar.indexCast v6378
  let c0_2354 : Index := 0#32
  ![v6385.toNat, 0]

def k0_chk672 (v6378 : BitVec 32) : Prop :=
  (∀ a, (k0_off1344 v6378) a + S1x128.size a ≤ S10064x128.size a)
theorem k0_off1344_inb : ∀ (v6378 : BitVec 32) (k0_hw672 : k0_chk672 v6378), ∀ a, (k0_off1344 v6378) a + S1x128.size a ≤ S10064x128.size a := fun v6378 k0_hw672 => k0_hw672

def k0_off1345 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c672_i32 : BitVec 32 := 672#32
  let v6391 : BitVec 32 := Scalar.addi v5 c672_i32
  let v6392 : Index := Scalar.indexCast v6391
  ![v6392.toNat]
def k0_off1346 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c672_i32_2357 : BitVec 32 := 672#32
  let v6394 : BitVec 32 := Scalar.addi v5 c672_i32_2357
  let c1_i32_2358 : BitVec 32 := 1#32
  let v6395 : BitVec 32 := Scalar.addi v6394 c1_i32_2358
  let v6396 : Index := Scalar.indexCast v6395
  ![v6396.toNat]
def k0_off1347 (v6393 : BitVec 32) : Fin 2 → Nat :=
  let v6398 : Index := Scalar.indexCast v6393
  let c0_2359 : Index := 0#32
  ![v6398.toNat, 0]

def k0_chk673 (v6393 : BitVec 32) : Prop :=
  (∀ a, (k0_off1347 v6393) a + S1x128.size a ≤ S10064x128.size a)
theorem k0_off1347_inb : ∀ (v6393 : BitVec 32) (k0_hw673 : k0_chk673 v6393), ∀ a, (k0_off1347 v6393) a + S1x128.size a ≤ S10064x128.size a := fun v6393 k0_hw673 => k0_hw673

def k0_off1348 (v6397 : BitVec 32) : Fin 2 → Nat :=
  let v6404 : Index := Scalar.indexCast v6397
  let c0_2361 : Index := 0#32
  ![v6404.toNat, 0]

def k0_chk674 (v6397 : BitVec 32) : Prop :=
  (∀ a, (k0_off1348 v6397) a + S1x128.size a ≤ S10064x128.size a)
theorem k0_off1348_inb : ∀ (v6397 : BitVec 32) (k0_hw674 : k0_chk674 v6397), ∀ a, (k0_off1348 v6397) a + S1x128.size a ≤ S10064x128.size a := fun v6397 k0_hw674 => k0_hw674

def k0_off1349 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c674_i32 : BitVec 32 := 674#32
  let v6410 : BitVec 32 := Scalar.addi v5 c674_i32
  let v6411 : Index := Scalar.indexCast v6410
  ![v6411.toNat]
def k0_off1350 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c674_i32_2364 : BitVec 32 := 674#32
  let v6413 : BitVec 32 := Scalar.addi v5 c674_i32_2364
  let c1_i32_2365 : BitVec 32 := 1#32
  let v6414 : BitVec 32 := Scalar.addi v6413 c1_i32_2365
  let v6415 : Index := Scalar.indexCast v6414
  ![v6415.toNat]
def k0_off1351 (v6412 : BitVec 32) : Fin 2 → Nat :=
  let v6417 : Index := Scalar.indexCast v6412
  let c0_2366 : Index := 0#32
  ![v6417.toNat, 0]

def k0_chk675 (v6412 : BitVec 32) : Prop :=
  (∀ a, (k0_off1351 v6412) a + S1x128.size a ≤ S10064x128.size a)
theorem k0_off1351_inb : ∀ (v6412 : BitVec 32) (k0_hw675 : k0_chk675 v6412), ∀ a, (k0_off1351 v6412) a + S1x128.size a ≤ S10064x128.size a := fun v6412 k0_hw675 => k0_hw675

def k0_off1352 (v6416 : BitVec 32) : Fin 2 → Nat :=
  let v6423 : Index := Scalar.indexCast v6416
  let c0_2368 : Index := 0#32
  ![v6423.toNat, 0]

def k0_chk676 (v6416 : BitVec 32) : Prop :=
  (∀ a, (k0_off1352 v6416) a + S1x128.size a ≤ S10064x128.size a)
theorem k0_off1352_inb : ∀ (v6416 : BitVec 32) (k0_hw676 : k0_chk676 v6416), ∀ a, (k0_off1352 v6416) a + S1x128.size a ≤ S10064x128.size a := fun v6416 k0_hw676 => k0_hw676

def k0_off1353 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c676_i32 : BitVec 32 := 676#32
  let v6429 : BitVec 32 := Scalar.addi v5 c676_i32
  let v6430 : Index := Scalar.indexCast v6429
  ![v6430.toNat]
def k0_off1354 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c676_i32_2371 : BitVec 32 := 676#32
  let v6432 : BitVec 32 := Scalar.addi v5 c676_i32_2371
  let c1_i32_2372 : BitVec 32 := 1#32
  let v6433 : BitVec 32 := Scalar.addi v6432 c1_i32_2372
  let v6434 : Index := Scalar.indexCast v6433
  ![v6434.toNat]
def k0_off1355 (v6431 : BitVec 32) : Fin 2 → Nat :=
  let v6436 : Index := Scalar.indexCast v6431
  let c0_2373 : Index := 0#32
  ![v6436.toNat, 0]

def k0_chk677 (v6431 : BitVec 32) : Prop :=
  (∀ a, (k0_off1355 v6431) a + S1x128.size a ≤ S10064x128.size a)
theorem k0_off1355_inb : ∀ (v6431 : BitVec 32) (k0_hw677 : k0_chk677 v6431), ∀ a, (k0_off1355 v6431) a + S1x128.size a ≤ S10064x128.size a := fun v6431 k0_hw677 => k0_hw677

def k0_off1356 (v6435 : BitVec 32) : Fin 2 → Nat :=
  let v6442 : Index := Scalar.indexCast v6435
  let c0_2375 : Index := 0#32
  ![v6442.toNat, 0]

def k0_chk678 (v6435 : BitVec 32) : Prop :=
  (∀ a, (k0_off1356 v6435) a + S1x128.size a ≤ S10064x128.size a)
theorem k0_off1356_inb : ∀ (v6435 : BitVec 32) (k0_hw678 : k0_chk678 v6435), ∀ a, (k0_off1356 v6435) a + S1x128.size a ≤ S10064x128.size a := fun v6435 k0_hw678 => k0_hw678

def k0_off1357 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c678_i32 : BitVec 32 := 678#32
  let v6448 : BitVec 32 := Scalar.addi v5 c678_i32
  let v6449 : Index := Scalar.indexCast v6448
  ![v6449.toNat]
def k0_off1358 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c678_i32_2378 : BitVec 32 := 678#32
  let v6451 : BitVec 32 := Scalar.addi v5 c678_i32_2378
  let c1_i32_2379 : BitVec 32 := 1#32
  let v6452 : BitVec 32 := Scalar.addi v6451 c1_i32_2379
  let v6453 : Index := Scalar.indexCast v6452
  ![v6453.toNat]
def k0_off1359 (v6450 : BitVec 32) : Fin 2 → Nat :=
  let v6455 : Index := Scalar.indexCast v6450
  let c0_2380 : Index := 0#32
  ![v6455.toNat, 0]

def k0_chk679 (v6450 : BitVec 32) : Prop :=
  (∀ a, (k0_off1359 v6450) a + S1x128.size a ≤ S10064x128.size a)
theorem k0_off1359_inb : ∀ (v6450 : BitVec 32) (k0_hw679 : k0_chk679 v6450), ∀ a, (k0_off1359 v6450) a + S1x128.size a ≤ S10064x128.size a := fun v6450 k0_hw679 => k0_hw679

def k0_off1360 (v6454 : BitVec 32) : Fin 2 → Nat :=
  let v6461 : Index := Scalar.indexCast v6454
  let c0_2382 : Index := 0#32
  ![v6461.toNat, 0]

def k0_chk680 (v6454 : BitVec 32) : Prop :=
  (∀ a, (k0_off1360 v6454) a + S1x128.size a ≤ S10064x128.size a)
theorem k0_off1360_inb : ∀ (v6454 : BitVec 32) (k0_hw680 : k0_chk680 v6454), ∀ a, (k0_off1360 v6454) a + S1x128.size a ≤ S10064x128.size a := fun v6454 k0_hw680 => k0_hw680

def k0_off1361 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c680_i32 : BitVec 32 := 680#32
  let v6467 : BitVec 32 := Scalar.addi v5 c680_i32
  let v6468 : Index := Scalar.indexCast v6467
  ![v6468.toNat]
def k0_off1362 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c680_i32_2385 : BitVec 32 := 680#32
  let v6470 : BitVec 32 := Scalar.addi v5 c680_i32_2385
  let c1_i32_2386 : BitVec 32 := 1#32
  let v6471 : BitVec 32 := Scalar.addi v6470 c1_i32_2386
  let v6472 : Index := Scalar.indexCast v6471
  ![v6472.toNat]
def k0_off1363 (v6469 : BitVec 32) : Fin 2 → Nat :=
  let v6474 : Index := Scalar.indexCast v6469
  let c0_2387 : Index := 0#32
  ![v6474.toNat, 0]

def k0_chk681 (v6469 : BitVec 32) : Prop :=
  (∀ a, (k0_off1363 v6469) a + S1x128.size a ≤ S10064x128.size a)
theorem k0_off1363_inb : ∀ (v6469 : BitVec 32) (k0_hw681 : k0_chk681 v6469), ∀ a, (k0_off1363 v6469) a + S1x128.size a ≤ S10064x128.size a := fun v6469 k0_hw681 => k0_hw681

def k0_off1364 (v6473 : BitVec 32) : Fin 2 → Nat :=
  let v6480 : Index := Scalar.indexCast v6473
  let c0_2389 : Index := 0#32
  ![v6480.toNat, 0]

def k0_chk682 (v6473 : BitVec 32) : Prop :=
  (∀ a, (k0_off1364 v6473) a + S1x128.size a ≤ S10064x128.size a)
theorem k0_off1364_inb : ∀ (v6473 : BitVec 32) (k0_hw682 : k0_chk682 v6473), ∀ a, (k0_off1364 v6473) a + S1x128.size a ≤ S10064x128.size a := fun v6473 k0_hw682 => k0_hw682

def k0_off1365 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c682_i32 : BitVec 32 := 682#32
  let v6486 : BitVec 32 := Scalar.addi v5 c682_i32
  let v6487 : Index := Scalar.indexCast v6486
  ![v6487.toNat]
def k0_off1366 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c682_i32_2392 : BitVec 32 := 682#32
  let v6489 : BitVec 32 := Scalar.addi v5 c682_i32_2392
  let c1_i32_2393 : BitVec 32 := 1#32
  let v6490 : BitVec 32 := Scalar.addi v6489 c1_i32_2393
  let v6491 : Index := Scalar.indexCast v6490
  ![v6491.toNat]
def k0_off1367 (v6488 : BitVec 32) : Fin 2 → Nat :=
  let v6493 : Index := Scalar.indexCast v6488
  let c0_2394 : Index := 0#32
  ![v6493.toNat, 0]

def k0_chk683 (v6488 : BitVec 32) : Prop :=
  (∀ a, (k0_off1367 v6488) a + S1x128.size a ≤ S10064x128.size a)
theorem k0_off1367_inb : ∀ (v6488 : BitVec 32) (k0_hw683 : k0_chk683 v6488), ∀ a, (k0_off1367 v6488) a + S1x128.size a ≤ S10064x128.size a := fun v6488 k0_hw683 => k0_hw683

def k0_off1368 (v6492 : BitVec 32) : Fin 2 → Nat :=
  let v6499 : Index := Scalar.indexCast v6492
  let c0_2396 : Index := 0#32
  ![v6499.toNat, 0]

def k0_chk684 (v6492 : BitVec 32) : Prop :=
  (∀ a, (k0_off1368 v6492) a + S1x128.size a ≤ S10064x128.size a)
theorem k0_off1368_inb : ∀ (v6492 : BitVec 32) (k0_hw684 : k0_chk684 v6492), ∀ a, (k0_off1368 v6492) a + S1x128.size a ≤ S10064x128.size a := fun v6492 k0_hw684 => k0_hw684

def k0_off1369 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c684_i32 : BitVec 32 := 684#32
  let v6505 : BitVec 32 := Scalar.addi v5 c684_i32
  let v6506 : Index := Scalar.indexCast v6505
  ![v6506.toNat]
def k0_off1370 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c684_i32_2399 : BitVec 32 := 684#32
  let v6508 : BitVec 32 := Scalar.addi v5 c684_i32_2399
  let c1_i32_2400 : BitVec 32 := 1#32
  let v6509 : BitVec 32 := Scalar.addi v6508 c1_i32_2400
  let v6510 : Index := Scalar.indexCast v6509
  ![v6510.toNat]
def k0_off1371 (v6507 : BitVec 32) : Fin 2 → Nat :=
  let v6512 : Index := Scalar.indexCast v6507
  let c0_2401 : Index := 0#32
  ![v6512.toNat, 0]

def k0_chk685 (v6507 : BitVec 32) : Prop :=
  (∀ a, (k0_off1371 v6507) a + S1x128.size a ≤ S10064x128.size a)
theorem k0_off1371_inb : ∀ (v6507 : BitVec 32) (k0_hw685 : k0_chk685 v6507), ∀ a, (k0_off1371 v6507) a + S1x128.size a ≤ S10064x128.size a := fun v6507 k0_hw685 => k0_hw685

def k0_off1372 (v6511 : BitVec 32) : Fin 2 → Nat :=
  let v6518 : Index := Scalar.indexCast v6511
  let c0_2403 : Index := 0#32
  ![v6518.toNat, 0]

def k0_chk686 (v6511 : BitVec 32) : Prop :=
  (∀ a, (k0_off1372 v6511) a + S1x128.size a ≤ S10064x128.size a)
theorem k0_off1372_inb : ∀ (v6511 : BitVec 32) (k0_hw686 : k0_chk686 v6511), ∀ a, (k0_off1372 v6511) a + S1x128.size a ≤ S10064x128.size a := fun v6511 k0_hw686 => k0_hw686

def k0_off1373 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c686_i32 : BitVec 32 := 686#32
  let v6524 : BitVec 32 := Scalar.addi v5 c686_i32
  let v6525 : Index := Scalar.indexCast v6524
  ![v6525.toNat]
def k0_off1374 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c686_i32_2406 : BitVec 32 := 686#32
  let v6527 : BitVec 32 := Scalar.addi v5 c686_i32_2406
  let c1_i32_2407 : BitVec 32 := 1#32
  let v6528 : BitVec 32 := Scalar.addi v6527 c1_i32_2407
  let v6529 : Index := Scalar.indexCast v6528
  ![v6529.toNat]
def k0_off1375 (v6526 : BitVec 32) : Fin 2 → Nat :=
  let v6531 : Index := Scalar.indexCast v6526
  let c0_2408 : Index := 0#32
  ![v6531.toNat, 0]

def k0_chk687 (v6526 : BitVec 32) : Prop :=
  (∀ a, (k0_off1375 v6526) a + S1x128.size a ≤ S10064x128.size a)
theorem k0_off1375_inb : ∀ (v6526 : BitVec 32) (k0_hw687 : k0_chk687 v6526), ∀ a, (k0_off1375 v6526) a + S1x128.size a ≤ S10064x128.size a := fun v6526 k0_hw687 => k0_hw687

def k0_off1376 (v6530 : BitVec 32) : Fin 2 → Nat :=
  let v6537 : Index := Scalar.indexCast v6530
  let c0_2410 : Index := 0#32
  ![v6537.toNat, 0]

def k0_chk688 (v6530 : BitVec 32) : Prop :=
  (∀ a, (k0_off1376 v6530) a + S1x128.size a ≤ S10064x128.size a)
theorem k0_off1376_inb : ∀ (v6530 : BitVec 32) (k0_hw688 : k0_chk688 v6530), ∀ a, (k0_off1376 v6530) a + S1x128.size a ≤ S10064x128.size a := fun v6530 k0_hw688 => k0_hw688

def k0_off1377 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c688_i32 : BitVec 32 := 688#32
  let v6543 : BitVec 32 := Scalar.addi v5 c688_i32
  let v6544 : Index := Scalar.indexCast v6543
  ![v6544.toNat]
def k0_off1378 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c688_i32_2413 : BitVec 32 := 688#32
  let v6546 : BitVec 32 := Scalar.addi v5 c688_i32_2413
  let c1_i32_2414 : BitVec 32 := 1#32
  let v6547 : BitVec 32 := Scalar.addi v6546 c1_i32_2414
  let v6548 : Index := Scalar.indexCast v6547
  ![v6548.toNat]
def k0_off1379 (v6545 : BitVec 32) : Fin 2 → Nat :=
  let v6550 : Index := Scalar.indexCast v6545
  let c0_2415 : Index := 0#32
  ![v6550.toNat, 0]

def k0_chk689 (v6545 : BitVec 32) : Prop :=
  (∀ a, (k0_off1379 v6545) a + S1x128.size a ≤ S10064x128.size a)
theorem k0_off1379_inb : ∀ (v6545 : BitVec 32) (k0_hw689 : k0_chk689 v6545), ∀ a, (k0_off1379 v6545) a + S1x128.size a ≤ S10064x128.size a := fun v6545 k0_hw689 => k0_hw689

def k0_off1380 (v6549 : BitVec 32) : Fin 2 → Nat :=
  let v6556 : Index := Scalar.indexCast v6549
  let c0_2417 : Index := 0#32
  ![v6556.toNat, 0]

def k0_chk690 (v6549 : BitVec 32) : Prop :=
  (∀ a, (k0_off1380 v6549) a + S1x128.size a ≤ S10064x128.size a)
theorem k0_off1380_inb : ∀ (v6549 : BitVec 32) (k0_hw690 : k0_chk690 v6549), ∀ a, (k0_off1380 v6549) a + S1x128.size a ≤ S10064x128.size a := fun v6549 k0_hw690 => k0_hw690

def k0_off1381 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c690_i32 : BitVec 32 := 690#32
  let v6562 : BitVec 32 := Scalar.addi v5 c690_i32
  let v6563 : Index := Scalar.indexCast v6562
  ![v6563.toNat]
def k0_off1382 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c690_i32_2420 : BitVec 32 := 690#32
  let v6565 : BitVec 32 := Scalar.addi v5 c690_i32_2420
  let c1_i32_2421 : BitVec 32 := 1#32
  let v6566 : BitVec 32 := Scalar.addi v6565 c1_i32_2421
  let v6567 : Index := Scalar.indexCast v6566
  ![v6567.toNat]
def k0_off1383 (v6564 : BitVec 32) : Fin 2 → Nat :=
  let v6569 : Index := Scalar.indexCast v6564
  let c0_2422 : Index := 0#32
  ![v6569.toNat, 0]

def k0_chk691 (v6564 : BitVec 32) : Prop :=
  (∀ a, (k0_off1383 v6564) a + S1x128.size a ≤ S10064x128.size a)
theorem k0_off1383_inb : ∀ (v6564 : BitVec 32) (k0_hw691 : k0_chk691 v6564), ∀ a, (k0_off1383 v6564) a + S1x128.size a ≤ S10064x128.size a := fun v6564 k0_hw691 => k0_hw691

def k0_off1384 (v6568 : BitVec 32) : Fin 2 → Nat :=
  let v6575 : Index := Scalar.indexCast v6568
  let c0_2424 : Index := 0#32
  ![v6575.toNat, 0]

def k0_chk692 (v6568 : BitVec 32) : Prop :=
  (∀ a, (k0_off1384 v6568) a + S1x128.size a ≤ S10064x128.size a)
theorem k0_off1384_inb : ∀ (v6568 : BitVec 32) (k0_hw692 : k0_chk692 v6568), ∀ a, (k0_off1384 v6568) a + S1x128.size a ≤ S10064x128.size a := fun v6568 k0_hw692 => k0_hw692

def k0_off1385 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c692_i32 : BitVec 32 := 692#32
  let v6581 : BitVec 32 := Scalar.addi v5 c692_i32
  let v6582 : Index := Scalar.indexCast v6581
  ![v6582.toNat]
def k0_off1386 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c692_i32_2427 : BitVec 32 := 692#32
  let v6584 : BitVec 32 := Scalar.addi v5 c692_i32_2427
  let c1_i32_2428 : BitVec 32 := 1#32
  let v6585 : BitVec 32 := Scalar.addi v6584 c1_i32_2428
  let v6586 : Index := Scalar.indexCast v6585
  ![v6586.toNat]
def k0_off1387 (v6583 : BitVec 32) : Fin 2 → Nat :=
  let v6588 : Index := Scalar.indexCast v6583
  let c0_2429 : Index := 0#32
  ![v6588.toNat, 0]

def k0_chk693 (v6583 : BitVec 32) : Prop :=
  (∀ a, (k0_off1387 v6583) a + S1x128.size a ≤ S10064x128.size a)
theorem k0_off1387_inb : ∀ (v6583 : BitVec 32) (k0_hw693 : k0_chk693 v6583), ∀ a, (k0_off1387 v6583) a + S1x128.size a ≤ S10064x128.size a := fun v6583 k0_hw693 => k0_hw693

def k0_off1388 (v6587 : BitVec 32) : Fin 2 → Nat :=
  let v6594 : Index := Scalar.indexCast v6587
  let c0_2431 : Index := 0#32
  ![v6594.toNat, 0]

def k0_chk694 (v6587 : BitVec 32) : Prop :=
  (∀ a, (k0_off1388 v6587) a + S1x128.size a ≤ S10064x128.size a)
theorem k0_off1388_inb : ∀ (v6587 : BitVec 32) (k0_hw694 : k0_chk694 v6587), ∀ a, (k0_off1388 v6587) a + S1x128.size a ≤ S10064x128.size a := fun v6587 k0_hw694 => k0_hw694

def k0_off1389 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c694_i32 : BitVec 32 := 694#32
  let v6600 : BitVec 32 := Scalar.addi v5 c694_i32
  let v6601 : Index := Scalar.indexCast v6600
  ![v6601.toNat]
def k0_off1390 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c694_i32_2434 : BitVec 32 := 694#32
  let v6603 : BitVec 32 := Scalar.addi v5 c694_i32_2434
  let c1_i32_2435 : BitVec 32 := 1#32
  let v6604 : BitVec 32 := Scalar.addi v6603 c1_i32_2435
  let v6605 : Index := Scalar.indexCast v6604
  ![v6605.toNat]
def k0_off1391 (v6602 : BitVec 32) : Fin 2 → Nat :=
  let v6607 : Index := Scalar.indexCast v6602
  let c0_2436 : Index := 0#32
  ![v6607.toNat, 0]

def k0_chk695 (v6602 : BitVec 32) : Prop :=
  (∀ a, (k0_off1391 v6602) a + S1x128.size a ≤ S10064x128.size a)
theorem k0_off1391_inb : ∀ (v6602 : BitVec 32) (k0_hw695 : k0_chk695 v6602), ∀ a, (k0_off1391 v6602) a + S1x128.size a ≤ S10064x128.size a := fun v6602 k0_hw695 => k0_hw695

def k0_off1392 (v6606 : BitVec 32) : Fin 2 → Nat :=
  let v6613 : Index := Scalar.indexCast v6606
  let c0_2438 : Index := 0#32
  ![v6613.toNat, 0]

def k0_chk696 (v6606 : BitVec 32) : Prop :=
  (∀ a, (k0_off1392 v6606) a + S1x128.size a ≤ S10064x128.size a)
theorem k0_off1392_inb : ∀ (v6606 : BitVec 32) (k0_hw696 : k0_chk696 v6606), ∀ a, (k0_off1392 v6606) a + S1x128.size a ≤ S10064x128.size a := fun v6606 k0_hw696 => k0_hw696

def k0_off1393 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c696_i32 : BitVec 32 := 696#32
  let v6619 : BitVec 32 := Scalar.addi v5 c696_i32
  let v6620 : Index := Scalar.indexCast v6619
  ![v6620.toNat]
def k0_off1394 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c696_i32_2441 : BitVec 32 := 696#32
  let v6622 : BitVec 32 := Scalar.addi v5 c696_i32_2441
  let c1_i32_2442 : BitVec 32 := 1#32
  let v6623 : BitVec 32 := Scalar.addi v6622 c1_i32_2442
  let v6624 : Index := Scalar.indexCast v6623
  ![v6624.toNat]
def k0_off1395 (v6621 : BitVec 32) : Fin 2 → Nat :=
  let v6626 : Index := Scalar.indexCast v6621
  let c0_2443 : Index := 0#32
  ![v6626.toNat, 0]

def k0_chk697 (v6621 : BitVec 32) : Prop :=
  (∀ a, (k0_off1395 v6621) a + S1x128.size a ≤ S10064x128.size a)
theorem k0_off1395_inb : ∀ (v6621 : BitVec 32) (k0_hw697 : k0_chk697 v6621), ∀ a, (k0_off1395 v6621) a + S1x128.size a ≤ S10064x128.size a := fun v6621 k0_hw697 => k0_hw697

def k0_off1396 (v6625 : BitVec 32) : Fin 2 → Nat :=
  let v6632 : Index := Scalar.indexCast v6625
  let c0_2445 : Index := 0#32
  ![v6632.toNat, 0]

def k0_chk698 (v6625 : BitVec 32) : Prop :=
  (∀ a, (k0_off1396 v6625) a + S1x128.size a ≤ S10064x128.size a)
theorem k0_off1396_inb : ∀ (v6625 : BitVec 32) (k0_hw698 : k0_chk698 v6625), ∀ a, (k0_off1396 v6625) a + S1x128.size a ≤ S10064x128.size a := fun v6625 k0_hw698 => k0_hw698

def k0_off1397 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c698_i32 : BitVec 32 := 698#32
  let v6638 : BitVec 32 := Scalar.addi v5 c698_i32
  let v6639 : Index := Scalar.indexCast v6638
  ![v6639.toNat]
def k0_off1398 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c698_i32_2448 : BitVec 32 := 698#32
  let v6641 : BitVec 32 := Scalar.addi v5 c698_i32_2448
  let c1_i32_2449 : BitVec 32 := 1#32
  let v6642 : BitVec 32 := Scalar.addi v6641 c1_i32_2449
  let v6643 : Index := Scalar.indexCast v6642
  ![v6643.toNat]
def k0_off1399 (v6640 : BitVec 32) : Fin 2 → Nat :=
  let v6645 : Index := Scalar.indexCast v6640
  let c0_2450 : Index := 0#32
  ![v6645.toNat, 0]

def k0_chk699 (v6640 : BitVec 32) : Prop :=
  (∀ a, (k0_off1399 v6640) a + S1x128.size a ≤ S10064x128.size a)
theorem k0_off1399_inb : ∀ (v6640 : BitVec 32) (k0_hw699 : k0_chk699 v6640), ∀ a, (k0_off1399 v6640) a + S1x128.size a ≤ S10064x128.size a := fun v6640 k0_hw699 => k0_hw699

def k0_off1400 (v6644 : BitVec 32) : Fin 2 → Nat :=
  let v6651 : Index := Scalar.indexCast v6644
  let c0_2452 : Index := 0#32
  ![v6651.toNat, 0]

def k0_chk700 (v6644 : BitVec 32) : Prop :=
  (∀ a, (k0_off1400 v6644) a + S1x128.size a ≤ S10064x128.size a)
theorem k0_off1400_inb : ∀ (v6644 : BitVec 32) (k0_hw700 : k0_chk700 v6644), ∀ a, (k0_off1400 v6644) a + S1x128.size a ≤ S10064x128.size a := fun v6644 k0_hw700 => k0_hw700

def k0_off1401 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c700_i32 : BitVec 32 := 700#32
  let v6657 : BitVec 32 := Scalar.addi v5 c700_i32
  let v6658 : Index := Scalar.indexCast v6657
  ![v6658.toNat]
def k0_off1402 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c700_i32_2455 : BitVec 32 := 700#32
  let v6660 : BitVec 32 := Scalar.addi v5 c700_i32_2455
  let c1_i32_2456 : BitVec 32 := 1#32
  let v6661 : BitVec 32 := Scalar.addi v6660 c1_i32_2456
  let v6662 : Index := Scalar.indexCast v6661
  ![v6662.toNat]
def k0_off1403 (v6659 : BitVec 32) : Fin 2 → Nat :=
  let v6664 : Index := Scalar.indexCast v6659
  let c0_2457 : Index := 0#32
  ![v6664.toNat, 0]

def k0_chk701 (v6659 : BitVec 32) : Prop :=
  (∀ a, (k0_off1403 v6659) a + S1x128.size a ≤ S10064x128.size a)
theorem k0_off1403_inb : ∀ (v6659 : BitVec 32) (k0_hw701 : k0_chk701 v6659), ∀ a, (k0_off1403 v6659) a + S1x128.size a ≤ S10064x128.size a := fun v6659 k0_hw701 => k0_hw701

def k0_off1404 (v6663 : BitVec 32) : Fin 2 → Nat :=
  let v6670 : Index := Scalar.indexCast v6663
  let c0_2459 : Index := 0#32
  ![v6670.toNat, 0]

def k0_chk702 (v6663 : BitVec 32) : Prop :=
  (∀ a, (k0_off1404 v6663) a + S1x128.size a ≤ S10064x128.size a)
theorem k0_off1404_inb : ∀ (v6663 : BitVec 32) (k0_hw702 : k0_chk702 v6663), ∀ a, (k0_off1404 v6663) a + S1x128.size a ≤ S10064x128.size a := fun v6663 k0_hw702 => k0_hw702

def k0_off1405 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c702_i32 : BitVec 32 := 702#32
  let v6676 : BitVec 32 := Scalar.addi v5 c702_i32
  let v6677 : Index := Scalar.indexCast v6676
  ![v6677.toNat]
def k0_off1406 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c702_i32_2462 : BitVec 32 := 702#32
  let v6679 : BitVec 32 := Scalar.addi v5 c702_i32_2462
  let c1_i32_2463 : BitVec 32 := 1#32
  let v6680 : BitVec 32 := Scalar.addi v6679 c1_i32_2463
  let v6681 : Index := Scalar.indexCast v6680
  ![v6681.toNat]
def k0_off1407 (v6678 : BitVec 32) : Fin 2 → Nat :=
  let v6683 : Index := Scalar.indexCast v6678
  let c0_2464 : Index := 0#32
  ![v6683.toNat, 0]

def k0_chk703 (v6678 : BitVec 32) : Prop :=
  (∀ a, (k0_off1407 v6678) a + S1x128.size a ≤ S10064x128.size a)
theorem k0_off1407_inb : ∀ (v6678 : BitVec 32) (k0_hw703 : k0_chk703 v6678), ∀ a, (k0_off1407 v6678) a + S1x128.size a ≤ S10064x128.size a := fun v6678 k0_hw703 => k0_hw703

def k0_off1408 (v6682 : BitVec 32) : Fin 2 → Nat :=
  let v6689 : Index := Scalar.indexCast v6682
  let c0_2466 : Index := 0#32
  ![v6689.toNat, 0]

def k0_chk704 (v6682 : BitVec 32) : Prop :=
  (∀ a, (k0_off1408 v6682) a + S1x128.size a ≤ S10064x128.size a)
theorem k0_off1408_inb : ∀ (v6682 : BitVec 32) (k0_hw704 : k0_chk704 v6682), ∀ a, (k0_off1408 v6682) a + S1x128.size a ≤ S10064x128.size a := fun v6682 k0_hw704 => k0_hw704

def k0_off1409 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c704_i32 : BitVec 32 := 704#32
  let v6695 : BitVec 32 := Scalar.addi v5 c704_i32
  let v6696 : Index := Scalar.indexCast v6695
  ![v6696.toNat]
def k0_off1410 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c704_i32_2469 : BitVec 32 := 704#32
  let v6698 : BitVec 32 := Scalar.addi v5 c704_i32_2469
  let c1_i32_2470 : BitVec 32 := 1#32
  let v6699 : BitVec 32 := Scalar.addi v6698 c1_i32_2470
  let v6700 : Index := Scalar.indexCast v6699
  ![v6700.toNat]
def k0_off1411 (v6697 : BitVec 32) : Fin 2 → Nat :=
  let v6702 : Index := Scalar.indexCast v6697
  let c0_2471 : Index := 0#32
  ![v6702.toNat, 0]

def k0_chk705 (v6697 : BitVec 32) : Prop :=
  (∀ a, (k0_off1411 v6697) a + S1x128.size a ≤ S10064x128.size a)
theorem k0_off1411_inb : ∀ (v6697 : BitVec 32) (k0_hw705 : k0_chk705 v6697), ∀ a, (k0_off1411 v6697) a + S1x128.size a ≤ S10064x128.size a := fun v6697 k0_hw705 => k0_hw705

def k0_off1412 (v6701 : BitVec 32) : Fin 2 → Nat :=
  let v6708 : Index := Scalar.indexCast v6701
  let c0_2473 : Index := 0#32
  ![v6708.toNat, 0]

def k0_chk706 (v6701 : BitVec 32) : Prop :=
  (∀ a, (k0_off1412 v6701) a + S1x128.size a ≤ S10064x128.size a)
theorem k0_off1412_inb : ∀ (v6701 : BitVec 32) (k0_hw706 : k0_chk706 v6701), ∀ a, (k0_off1412 v6701) a + S1x128.size a ≤ S10064x128.size a := fun v6701 k0_hw706 => k0_hw706

def k0_off1413 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c706_i32 : BitVec 32 := 706#32
  let v6714 : BitVec 32 := Scalar.addi v5 c706_i32
  let v6715 : Index := Scalar.indexCast v6714
  ![v6715.toNat]
def k0_off1414 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c706_i32_2476 : BitVec 32 := 706#32
  let v6717 : BitVec 32 := Scalar.addi v5 c706_i32_2476
  let c1_i32_2477 : BitVec 32 := 1#32
  let v6718 : BitVec 32 := Scalar.addi v6717 c1_i32_2477
  let v6719 : Index := Scalar.indexCast v6718
  ![v6719.toNat]
def k0_off1415 (v6716 : BitVec 32) : Fin 2 → Nat :=
  let v6721 : Index := Scalar.indexCast v6716
  let c0_2478 : Index := 0#32
  ![v6721.toNat, 0]

def k0_chk707 (v6716 : BitVec 32) : Prop :=
  (∀ a, (k0_off1415 v6716) a + S1x128.size a ≤ S10064x128.size a)
theorem k0_off1415_inb : ∀ (v6716 : BitVec 32) (k0_hw707 : k0_chk707 v6716), ∀ a, (k0_off1415 v6716) a + S1x128.size a ≤ S10064x128.size a := fun v6716 k0_hw707 => k0_hw707

def k0_off1416 (v6720 : BitVec 32) : Fin 2 → Nat :=
  let v6727 : Index := Scalar.indexCast v6720
  let c0_2480 : Index := 0#32
  ![v6727.toNat, 0]

def k0_chk708 (v6720 : BitVec 32) : Prop :=
  (∀ a, (k0_off1416 v6720) a + S1x128.size a ≤ S10064x128.size a)
theorem k0_off1416_inb : ∀ (v6720 : BitVec 32) (k0_hw708 : k0_chk708 v6720), ∀ a, (k0_off1416 v6720) a + S1x128.size a ≤ S10064x128.size a := fun v6720 k0_hw708 => k0_hw708

def k0_off1417 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c708_i32 : BitVec 32 := 708#32
  let v6733 : BitVec 32 := Scalar.addi v5 c708_i32
  let v6734 : Index := Scalar.indexCast v6733
  ![v6734.toNat]
def k0_off1418 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c708_i32_2483 : BitVec 32 := 708#32
  let v6736 : BitVec 32 := Scalar.addi v5 c708_i32_2483
  let c1_i32_2484 : BitVec 32 := 1#32
  let v6737 : BitVec 32 := Scalar.addi v6736 c1_i32_2484
  let v6738 : Index := Scalar.indexCast v6737
  ![v6738.toNat]
def k0_off1419 (v6735 : BitVec 32) : Fin 2 → Nat :=
  let v6740 : Index := Scalar.indexCast v6735
  let c0_2485 : Index := 0#32
  ![v6740.toNat, 0]

def k0_chk709 (v6735 : BitVec 32) : Prop :=
  (∀ a, (k0_off1419 v6735) a + S1x128.size a ≤ S10064x128.size a)
theorem k0_off1419_inb : ∀ (v6735 : BitVec 32) (k0_hw709 : k0_chk709 v6735), ∀ a, (k0_off1419 v6735) a + S1x128.size a ≤ S10064x128.size a := fun v6735 k0_hw709 => k0_hw709

def k0_off1420 (v6739 : BitVec 32) : Fin 2 → Nat :=
  let v6746 : Index := Scalar.indexCast v6739
  let c0_2487 : Index := 0#32
  ![v6746.toNat, 0]

def k0_chk710 (v6739 : BitVec 32) : Prop :=
  (∀ a, (k0_off1420 v6739) a + S1x128.size a ≤ S10064x128.size a)
theorem k0_off1420_inb : ∀ (v6739 : BitVec 32) (k0_hw710 : k0_chk710 v6739), ∀ a, (k0_off1420 v6739) a + S1x128.size a ≤ S10064x128.size a := fun v6739 k0_hw710 => k0_hw710

def k0_off1421 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c710_i32 : BitVec 32 := 710#32
  let v6752 : BitVec 32 := Scalar.addi v5 c710_i32
  let v6753 : Index := Scalar.indexCast v6752
  ![v6753.toNat]
def k0_off1422 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c710_i32_2490 : BitVec 32 := 710#32
  let v6755 : BitVec 32 := Scalar.addi v5 c710_i32_2490
  let c1_i32_2491 : BitVec 32 := 1#32
  let v6756 : BitVec 32 := Scalar.addi v6755 c1_i32_2491
  let v6757 : Index := Scalar.indexCast v6756
  ![v6757.toNat]
def k0_off1423 (v6754 : BitVec 32) : Fin 2 → Nat :=
  let v6759 : Index := Scalar.indexCast v6754
  let c0_2492 : Index := 0#32
  ![v6759.toNat, 0]

def k0_chk711 (v6754 : BitVec 32) : Prop :=
  (∀ a, (k0_off1423 v6754) a + S1x128.size a ≤ S10064x128.size a)
theorem k0_off1423_inb : ∀ (v6754 : BitVec 32) (k0_hw711 : k0_chk711 v6754), ∀ a, (k0_off1423 v6754) a + S1x128.size a ≤ S10064x128.size a := fun v6754 k0_hw711 => k0_hw711

def k0_off1424 (v6758 : BitVec 32) : Fin 2 → Nat :=
  let v6765 : Index := Scalar.indexCast v6758
  let c0_2494 : Index := 0#32
  ![v6765.toNat, 0]

def k0_chk712 (v6758 : BitVec 32) : Prop :=
  (∀ a, (k0_off1424 v6758) a + S1x128.size a ≤ S10064x128.size a)
theorem k0_off1424_inb : ∀ (v6758 : BitVec 32) (k0_hw712 : k0_chk712 v6758), ∀ a, (k0_off1424 v6758) a + S1x128.size a ≤ S10064x128.size a := fun v6758 k0_hw712 => k0_hw712

def k0_off1425 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c712_i32 : BitVec 32 := 712#32
  let v6771 : BitVec 32 := Scalar.addi v5 c712_i32
  let v6772 : Index := Scalar.indexCast v6771
  ![v6772.toNat]
def k0_off1426 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c712_i32_2497 : BitVec 32 := 712#32
  let v6774 : BitVec 32 := Scalar.addi v5 c712_i32_2497
  let c1_i32_2498 : BitVec 32 := 1#32
  let v6775 : BitVec 32 := Scalar.addi v6774 c1_i32_2498
  let v6776 : Index := Scalar.indexCast v6775
  ![v6776.toNat]
def k0_off1427 (v6773 : BitVec 32) : Fin 2 → Nat :=
  let v6778 : Index := Scalar.indexCast v6773
  let c0_2499 : Index := 0#32
  ![v6778.toNat, 0]

def k0_chk713 (v6773 : BitVec 32) : Prop :=
  (∀ a, (k0_off1427 v6773) a + S1x128.size a ≤ S10064x128.size a)
theorem k0_off1427_inb : ∀ (v6773 : BitVec 32) (k0_hw713 : k0_chk713 v6773), ∀ a, (k0_off1427 v6773) a + S1x128.size a ≤ S10064x128.size a := fun v6773 k0_hw713 => k0_hw713

def k0_off1428 (v6777 : BitVec 32) : Fin 2 → Nat :=
  let v6784 : Index := Scalar.indexCast v6777
  let c0_2501 : Index := 0#32
  ![v6784.toNat, 0]

def k0_chk714 (v6777 : BitVec 32) : Prop :=
  (∀ a, (k0_off1428 v6777) a + S1x128.size a ≤ S10064x128.size a)
theorem k0_off1428_inb : ∀ (v6777 : BitVec 32) (k0_hw714 : k0_chk714 v6777), ∀ a, (k0_off1428 v6777) a + S1x128.size a ≤ S10064x128.size a := fun v6777 k0_hw714 => k0_hw714

def k0_off1429 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c714_i32 : BitVec 32 := 714#32
  let v6790 : BitVec 32 := Scalar.addi v5 c714_i32
  let v6791 : Index := Scalar.indexCast v6790
  ![v6791.toNat]
def k0_off1430 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c714_i32_2504 : BitVec 32 := 714#32
  let v6793 : BitVec 32 := Scalar.addi v5 c714_i32_2504
  let c1_i32_2505 : BitVec 32 := 1#32
  let v6794 : BitVec 32 := Scalar.addi v6793 c1_i32_2505
  let v6795 : Index := Scalar.indexCast v6794
  ![v6795.toNat]
def k0_off1431 (v6792 : BitVec 32) : Fin 2 → Nat :=
  let v6797 : Index := Scalar.indexCast v6792
  let c0_2506 : Index := 0#32
  ![v6797.toNat, 0]

def k0_chk715 (v6792 : BitVec 32) : Prop :=
  (∀ a, (k0_off1431 v6792) a + S1x128.size a ≤ S10064x128.size a)
theorem k0_off1431_inb : ∀ (v6792 : BitVec 32) (k0_hw715 : k0_chk715 v6792), ∀ a, (k0_off1431 v6792) a + S1x128.size a ≤ S10064x128.size a := fun v6792 k0_hw715 => k0_hw715

def k0_off1432 (v6796 : BitVec 32) : Fin 2 → Nat :=
  let v6803 : Index := Scalar.indexCast v6796
  let c0_2508 : Index := 0#32
  ![v6803.toNat, 0]

def k0_chk716 (v6796 : BitVec 32) : Prop :=
  (∀ a, (k0_off1432 v6796) a + S1x128.size a ≤ S10064x128.size a)
theorem k0_off1432_inb : ∀ (v6796 : BitVec 32) (k0_hw716 : k0_chk716 v6796), ∀ a, (k0_off1432 v6796) a + S1x128.size a ≤ S10064x128.size a := fun v6796 k0_hw716 => k0_hw716

def k0_off1433 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c716_i32 : BitVec 32 := 716#32
  let v6809 : BitVec 32 := Scalar.addi v5 c716_i32
  let v6810 : Index := Scalar.indexCast v6809
  ![v6810.toNat]
def k0_off1434 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c716_i32_2511 : BitVec 32 := 716#32
  let v6812 : BitVec 32 := Scalar.addi v5 c716_i32_2511
  let c1_i32_2512 : BitVec 32 := 1#32
  let v6813 : BitVec 32 := Scalar.addi v6812 c1_i32_2512
  let v6814 : Index := Scalar.indexCast v6813
  ![v6814.toNat]
def k0_off1435 (v6811 : BitVec 32) : Fin 2 → Nat :=
  let v6816 : Index := Scalar.indexCast v6811
  let c0_2513 : Index := 0#32
  ![v6816.toNat, 0]

def k0_chk717 (v6811 : BitVec 32) : Prop :=
  (∀ a, (k0_off1435 v6811) a + S1x128.size a ≤ S10064x128.size a)
theorem k0_off1435_inb : ∀ (v6811 : BitVec 32) (k0_hw717 : k0_chk717 v6811), ∀ a, (k0_off1435 v6811) a + S1x128.size a ≤ S10064x128.size a := fun v6811 k0_hw717 => k0_hw717

def k0_off1436 (v6815 : BitVec 32) : Fin 2 → Nat :=
  let v6822 : Index := Scalar.indexCast v6815
  let c0_2515 : Index := 0#32
  ![v6822.toNat, 0]

def k0_chk718 (v6815 : BitVec 32) : Prop :=
  (∀ a, (k0_off1436 v6815) a + S1x128.size a ≤ S10064x128.size a)
theorem k0_off1436_inb : ∀ (v6815 : BitVec 32) (k0_hw718 : k0_chk718 v6815), ∀ a, (k0_off1436 v6815) a + S1x128.size a ≤ S10064x128.size a := fun v6815 k0_hw718 => k0_hw718

def k0_off1437 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c718_i32 : BitVec 32 := 718#32
  let v6828 : BitVec 32 := Scalar.addi v5 c718_i32
  let v6829 : Index := Scalar.indexCast v6828
  ![v6829.toNat]
def k0_off1438 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c718_i32_2518 : BitVec 32 := 718#32
  let v6831 : BitVec 32 := Scalar.addi v5 c718_i32_2518
  let c1_i32_2519 : BitVec 32 := 1#32
  let v6832 : BitVec 32 := Scalar.addi v6831 c1_i32_2519
  let v6833 : Index := Scalar.indexCast v6832
  ![v6833.toNat]
def k0_off1439 (v6830 : BitVec 32) : Fin 2 → Nat :=
  let v6835 : Index := Scalar.indexCast v6830
  let c0_2520 : Index := 0#32
  ![v6835.toNat, 0]

def k0_chk719 (v6830 : BitVec 32) : Prop :=
  (∀ a, (k0_off1439 v6830) a + S1x128.size a ≤ S10064x128.size a)
theorem k0_off1439_inb : ∀ (v6830 : BitVec 32) (k0_hw719 : k0_chk719 v6830), ∀ a, (k0_off1439 v6830) a + S1x128.size a ≤ S10064x128.size a := fun v6830 k0_hw719 => k0_hw719

def k0_off1440 (v6834 : BitVec 32) : Fin 2 → Nat :=
  let v6841 : Index := Scalar.indexCast v6834
  let c0_2522 : Index := 0#32
  ![v6841.toNat, 0]

def k0_chk720 (v6834 : BitVec 32) : Prop :=
  (∀ a, (k0_off1440 v6834) a + S1x128.size a ≤ S10064x128.size a)
theorem k0_off1440_inb : ∀ (v6834 : BitVec 32) (k0_hw720 : k0_chk720 v6834), ∀ a, (k0_off1440 v6834) a + S1x128.size a ≤ S10064x128.size a := fun v6834 k0_hw720 => k0_hw720

def k0_off1441 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c720_i32 : BitVec 32 := 720#32
  let v6847 : BitVec 32 := Scalar.addi v5 c720_i32
  let v6848 : Index := Scalar.indexCast v6847
  ![v6848.toNat]
def k0_off1442 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c720_i32_2525 : BitVec 32 := 720#32
  let v6850 : BitVec 32 := Scalar.addi v5 c720_i32_2525
  let c1_i32_2526 : BitVec 32 := 1#32
  let v6851 : BitVec 32 := Scalar.addi v6850 c1_i32_2526
  let v6852 : Index := Scalar.indexCast v6851
  ![v6852.toNat]
def k0_off1443 (v6849 : BitVec 32) : Fin 2 → Nat :=
  let v6854 : Index := Scalar.indexCast v6849
  let c0_2527 : Index := 0#32
  ![v6854.toNat, 0]

def k0_chk721 (v6849 : BitVec 32) : Prop :=
  (∀ a, (k0_off1443 v6849) a + S1x128.size a ≤ S10064x128.size a)
theorem k0_off1443_inb : ∀ (v6849 : BitVec 32) (k0_hw721 : k0_chk721 v6849), ∀ a, (k0_off1443 v6849) a + S1x128.size a ≤ S10064x128.size a := fun v6849 k0_hw721 => k0_hw721

def k0_off1444 (v6853 : BitVec 32) : Fin 2 → Nat :=
  let v6860 : Index := Scalar.indexCast v6853
  let c0_2529 : Index := 0#32
  ![v6860.toNat, 0]

def k0_chk722 (v6853 : BitVec 32) : Prop :=
  (∀ a, (k0_off1444 v6853) a + S1x128.size a ≤ S10064x128.size a)
theorem k0_off1444_inb : ∀ (v6853 : BitVec 32) (k0_hw722 : k0_chk722 v6853), ∀ a, (k0_off1444 v6853) a + S1x128.size a ≤ S10064x128.size a := fun v6853 k0_hw722 => k0_hw722

def k0_off1445 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c722_i32 : BitVec 32 := 722#32
  let v6866 : BitVec 32 := Scalar.addi v5 c722_i32
  let v6867 : Index := Scalar.indexCast v6866
  ![v6867.toNat]
def k0_off1446 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c722_i32_2532 : BitVec 32 := 722#32
  let v6869 : BitVec 32 := Scalar.addi v5 c722_i32_2532
  let c1_i32_2533 : BitVec 32 := 1#32
  let v6870 : BitVec 32 := Scalar.addi v6869 c1_i32_2533
  let v6871 : Index := Scalar.indexCast v6870
  ![v6871.toNat]
def k0_off1447 (v6868 : BitVec 32) : Fin 2 → Nat :=
  let v6873 : Index := Scalar.indexCast v6868
  let c0_2534 : Index := 0#32
  ![v6873.toNat, 0]

def k0_chk723 (v6868 : BitVec 32) : Prop :=
  (∀ a, (k0_off1447 v6868) a + S1x128.size a ≤ S10064x128.size a)
theorem k0_off1447_inb : ∀ (v6868 : BitVec 32) (k0_hw723 : k0_chk723 v6868), ∀ a, (k0_off1447 v6868) a + S1x128.size a ≤ S10064x128.size a := fun v6868 k0_hw723 => k0_hw723

def k0_off1448 (v6872 : BitVec 32) : Fin 2 → Nat :=
  let v6879 : Index := Scalar.indexCast v6872
  let c0_2536 : Index := 0#32
  ![v6879.toNat, 0]

def k0_chk724 (v6872 : BitVec 32) : Prop :=
  (∀ a, (k0_off1448 v6872) a + S1x128.size a ≤ S10064x128.size a)
theorem k0_off1448_inb : ∀ (v6872 : BitVec 32) (k0_hw724 : k0_chk724 v6872), ∀ a, (k0_off1448 v6872) a + S1x128.size a ≤ S10064x128.size a := fun v6872 k0_hw724 => k0_hw724

def k0_off1449 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c724_i32 : BitVec 32 := 724#32
  let v6885 : BitVec 32 := Scalar.addi v5 c724_i32
  let v6886 : Index := Scalar.indexCast v6885
  ![v6886.toNat]
def k0_off1450 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c724_i32_2539 : BitVec 32 := 724#32
  let v6888 : BitVec 32 := Scalar.addi v5 c724_i32_2539
  let c1_i32_2540 : BitVec 32 := 1#32
  let v6889 : BitVec 32 := Scalar.addi v6888 c1_i32_2540
  let v6890 : Index := Scalar.indexCast v6889
  ![v6890.toNat]
def k0_off1451 (v6887 : BitVec 32) : Fin 2 → Nat :=
  let v6892 : Index := Scalar.indexCast v6887
  let c0_2541 : Index := 0#32
  ![v6892.toNat, 0]

def k0_chk725 (v6887 : BitVec 32) : Prop :=
  (∀ a, (k0_off1451 v6887) a + S1x128.size a ≤ S10064x128.size a)
theorem k0_off1451_inb : ∀ (v6887 : BitVec 32) (k0_hw725 : k0_chk725 v6887), ∀ a, (k0_off1451 v6887) a + S1x128.size a ≤ S10064x128.size a := fun v6887 k0_hw725 => k0_hw725

def k0_off1452 (v6891 : BitVec 32) : Fin 2 → Nat :=
  let v6898 : Index := Scalar.indexCast v6891
  let c0_2543 : Index := 0#32
  ![v6898.toNat, 0]

def k0_chk726 (v6891 : BitVec 32) : Prop :=
  (∀ a, (k0_off1452 v6891) a + S1x128.size a ≤ S10064x128.size a)
theorem k0_off1452_inb : ∀ (v6891 : BitVec 32) (k0_hw726 : k0_chk726 v6891), ∀ a, (k0_off1452 v6891) a + S1x128.size a ≤ S10064x128.size a := fun v6891 k0_hw726 => k0_hw726

def k0_off1453 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c726_i32 : BitVec 32 := 726#32
  let v6904 : BitVec 32 := Scalar.addi v5 c726_i32
  let v6905 : Index := Scalar.indexCast v6904
  ![v6905.toNat]
def k0_off1454 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c726_i32_2546 : BitVec 32 := 726#32
  let v6907 : BitVec 32 := Scalar.addi v5 c726_i32_2546
  let c1_i32_2547 : BitVec 32 := 1#32
  let v6908 : BitVec 32 := Scalar.addi v6907 c1_i32_2547
  let v6909 : Index := Scalar.indexCast v6908
  ![v6909.toNat]
def k0_off1455 (v6906 : BitVec 32) : Fin 2 → Nat :=
  let v6911 : Index := Scalar.indexCast v6906
  let c0_2548 : Index := 0#32
  ![v6911.toNat, 0]

def k0_chk727 (v6906 : BitVec 32) : Prop :=
  (∀ a, (k0_off1455 v6906) a + S1x128.size a ≤ S10064x128.size a)
theorem k0_off1455_inb : ∀ (v6906 : BitVec 32) (k0_hw727 : k0_chk727 v6906), ∀ a, (k0_off1455 v6906) a + S1x128.size a ≤ S10064x128.size a := fun v6906 k0_hw727 => k0_hw727

def k0_off1456 (v6910 : BitVec 32) : Fin 2 → Nat :=
  let v6917 : Index := Scalar.indexCast v6910
  let c0_2550 : Index := 0#32
  ![v6917.toNat, 0]

def k0_chk728 (v6910 : BitVec 32) : Prop :=
  (∀ a, (k0_off1456 v6910) a + S1x128.size a ≤ S10064x128.size a)
theorem k0_off1456_inb : ∀ (v6910 : BitVec 32) (k0_hw728 : k0_chk728 v6910), ∀ a, (k0_off1456 v6910) a + S1x128.size a ≤ S10064x128.size a := fun v6910 k0_hw728 => k0_hw728

def k0_off1457 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c728_i32 : BitVec 32 := 728#32
  let v6923 : BitVec 32 := Scalar.addi v5 c728_i32
  let v6924 : Index := Scalar.indexCast v6923
  ![v6924.toNat]
def k0_off1458 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c728_i32_2553 : BitVec 32 := 728#32
  let v6926 : BitVec 32 := Scalar.addi v5 c728_i32_2553
  let c1_i32_2554 : BitVec 32 := 1#32
  let v6927 : BitVec 32 := Scalar.addi v6926 c1_i32_2554
  let v6928 : Index := Scalar.indexCast v6927
  ![v6928.toNat]
def k0_off1459 (v6925 : BitVec 32) : Fin 2 → Nat :=
  let v6930 : Index := Scalar.indexCast v6925
  let c0_2555 : Index := 0#32
  ![v6930.toNat, 0]

def k0_chk729 (v6925 : BitVec 32) : Prop :=
  (∀ a, (k0_off1459 v6925) a + S1x128.size a ≤ S10064x128.size a)
theorem k0_off1459_inb : ∀ (v6925 : BitVec 32) (k0_hw729 : k0_chk729 v6925), ∀ a, (k0_off1459 v6925) a + S1x128.size a ≤ S10064x128.size a := fun v6925 k0_hw729 => k0_hw729

def k0_off1460 (v6929 : BitVec 32) : Fin 2 → Nat :=
  let v6936 : Index := Scalar.indexCast v6929
  let c0_2557 : Index := 0#32
  ![v6936.toNat, 0]

def k0_chk730 (v6929 : BitVec 32) : Prop :=
  (∀ a, (k0_off1460 v6929) a + S1x128.size a ≤ S10064x128.size a)
theorem k0_off1460_inb : ∀ (v6929 : BitVec 32) (k0_hw730 : k0_chk730 v6929), ∀ a, (k0_off1460 v6929) a + S1x128.size a ≤ S10064x128.size a := fun v6929 k0_hw730 => k0_hw730

def k0_off1461 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c730_i32 : BitVec 32 := 730#32
  let v6942 : BitVec 32 := Scalar.addi v5 c730_i32
  let v6943 : Index := Scalar.indexCast v6942
  ![v6943.toNat]
def k0_off1462 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c730_i32_2560 : BitVec 32 := 730#32
  let v6945 : BitVec 32 := Scalar.addi v5 c730_i32_2560
  let c1_i32_2561 : BitVec 32 := 1#32
  let v6946 : BitVec 32 := Scalar.addi v6945 c1_i32_2561
  let v6947 : Index := Scalar.indexCast v6946
  ![v6947.toNat]
def k0_off1463 (v6944 : BitVec 32) : Fin 2 → Nat :=
  let v6949 : Index := Scalar.indexCast v6944
  let c0_2562 : Index := 0#32
  ![v6949.toNat, 0]

def k0_chk731 (v6944 : BitVec 32) : Prop :=
  (∀ a, (k0_off1463 v6944) a + S1x128.size a ≤ S10064x128.size a)
theorem k0_off1463_inb : ∀ (v6944 : BitVec 32) (k0_hw731 : k0_chk731 v6944), ∀ a, (k0_off1463 v6944) a + S1x128.size a ≤ S10064x128.size a := fun v6944 k0_hw731 => k0_hw731

def k0_off1464 (v6948 : BitVec 32) : Fin 2 → Nat :=
  let v6955 : Index := Scalar.indexCast v6948
  let c0_2564 : Index := 0#32
  ![v6955.toNat, 0]

def k0_chk732 (v6948 : BitVec 32) : Prop :=
  (∀ a, (k0_off1464 v6948) a + S1x128.size a ≤ S10064x128.size a)
theorem k0_off1464_inb : ∀ (v6948 : BitVec 32) (k0_hw732 : k0_chk732 v6948), ∀ a, (k0_off1464 v6948) a + S1x128.size a ≤ S10064x128.size a := fun v6948 k0_hw732 => k0_hw732

def k0_off1465 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c732_i32 : BitVec 32 := 732#32
  let v6961 : BitVec 32 := Scalar.addi v5 c732_i32
  let v6962 : Index := Scalar.indexCast v6961
  ![v6962.toNat]
def k0_off1466 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c732_i32_2567 : BitVec 32 := 732#32
  let v6964 : BitVec 32 := Scalar.addi v5 c732_i32_2567
  let c1_i32_2568 : BitVec 32 := 1#32
  let v6965 : BitVec 32 := Scalar.addi v6964 c1_i32_2568
  let v6966 : Index := Scalar.indexCast v6965
  ![v6966.toNat]
def k0_off1467 (v6963 : BitVec 32) : Fin 2 → Nat :=
  let v6968 : Index := Scalar.indexCast v6963
  let c0_2569 : Index := 0#32
  ![v6968.toNat, 0]

def k0_chk733 (v6963 : BitVec 32) : Prop :=
  (∀ a, (k0_off1467 v6963) a + S1x128.size a ≤ S10064x128.size a)
theorem k0_off1467_inb : ∀ (v6963 : BitVec 32) (k0_hw733 : k0_chk733 v6963), ∀ a, (k0_off1467 v6963) a + S1x128.size a ≤ S10064x128.size a := fun v6963 k0_hw733 => k0_hw733

def k0_off1468 (v6967 : BitVec 32) : Fin 2 → Nat :=
  let v6974 : Index := Scalar.indexCast v6967
  let c0_2571 : Index := 0#32
  ![v6974.toNat, 0]

def k0_chk734 (v6967 : BitVec 32) : Prop :=
  (∀ a, (k0_off1468 v6967) a + S1x128.size a ≤ S10064x128.size a)
theorem k0_off1468_inb : ∀ (v6967 : BitVec 32) (k0_hw734 : k0_chk734 v6967), ∀ a, (k0_off1468 v6967) a + S1x128.size a ≤ S10064x128.size a := fun v6967 k0_hw734 => k0_hw734

def k0_off1469 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c734_i32 : BitVec 32 := 734#32
  let v6980 : BitVec 32 := Scalar.addi v5 c734_i32
  let v6981 : Index := Scalar.indexCast v6980
  ![v6981.toNat]
def k0_off1470 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c734_i32_2574 : BitVec 32 := 734#32
  let v6983 : BitVec 32 := Scalar.addi v5 c734_i32_2574
  let c1_i32_2575 : BitVec 32 := 1#32
  let v6984 : BitVec 32 := Scalar.addi v6983 c1_i32_2575
  let v6985 : Index := Scalar.indexCast v6984
  ![v6985.toNat]
def k0_off1471 (v6982 : BitVec 32) : Fin 2 → Nat :=
  let v6987 : Index := Scalar.indexCast v6982
  let c0_2576 : Index := 0#32
  ![v6987.toNat, 0]

def k0_chk735 (v6982 : BitVec 32) : Prop :=
  (∀ a, (k0_off1471 v6982) a + S1x128.size a ≤ S10064x128.size a)
theorem k0_off1471_inb : ∀ (v6982 : BitVec 32) (k0_hw735 : k0_chk735 v6982), ∀ a, (k0_off1471 v6982) a + S1x128.size a ≤ S10064x128.size a := fun v6982 k0_hw735 => k0_hw735

def k0_off1472 (v6986 : BitVec 32) : Fin 2 → Nat :=
  let v6993 : Index := Scalar.indexCast v6986
  let c0_2578 : Index := 0#32
  ![v6993.toNat, 0]

def k0_chk736 (v6986 : BitVec 32) : Prop :=
  (∀ a, (k0_off1472 v6986) a + S1x128.size a ≤ S10064x128.size a)
theorem k0_off1472_inb : ∀ (v6986 : BitVec 32) (k0_hw736 : k0_chk736 v6986), ∀ a, (k0_off1472 v6986) a + S1x128.size a ≤ S10064x128.size a := fun v6986 k0_hw736 => k0_hw736

def k0_off1473 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c736_i32 : BitVec 32 := 736#32
  let v6999 : BitVec 32 := Scalar.addi v5 c736_i32
  let v7000 : Index := Scalar.indexCast v6999
  ![v7000.toNat]
def k0_off1474 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c736_i32_2581 : BitVec 32 := 736#32
  let v7002 : BitVec 32 := Scalar.addi v5 c736_i32_2581
  let c1_i32_2582 : BitVec 32 := 1#32
  let v7003 : BitVec 32 := Scalar.addi v7002 c1_i32_2582
  let v7004 : Index := Scalar.indexCast v7003
  ![v7004.toNat]
def k0_off1475 (v7001 : BitVec 32) : Fin 2 → Nat :=
  let v7006 : Index := Scalar.indexCast v7001
  let c0_2583 : Index := 0#32
  ![v7006.toNat, 0]

def k0_chk737 (v7001 : BitVec 32) : Prop :=
  (∀ a, (k0_off1475 v7001) a + S1x128.size a ≤ S10064x128.size a)
theorem k0_off1475_inb : ∀ (v7001 : BitVec 32) (k0_hw737 : k0_chk737 v7001), ∀ a, (k0_off1475 v7001) a + S1x128.size a ≤ S10064x128.size a := fun v7001 k0_hw737 => k0_hw737

def k0_off1476 (v7005 : BitVec 32) : Fin 2 → Nat :=
  let v7012 : Index := Scalar.indexCast v7005
  let c0_2585 : Index := 0#32
  ![v7012.toNat, 0]

def k0_chk738 (v7005 : BitVec 32) : Prop :=
  (∀ a, (k0_off1476 v7005) a + S1x128.size a ≤ S10064x128.size a)
theorem k0_off1476_inb : ∀ (v7005 : BitVec 32) (k0_hw738 : k0_chk738 v7005), ∀ a, (k0_off1476 v7005) a + S1x128.size a ≤ S10064x128.size a := fun v7005 k0_hw738 => k0_hw738

def k0_off1477 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c738_i32 : BitVec 32 := 738#32
  let v7018 : BitVec 32 := Scalar.addi v5 c738_i32
  let v7019 : Index := Scalar.indexCast v7018
  ![v7019.toNat]
def k0_off1478 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c738_i32_2588 : BitVec 32 := 738#32
  let v7021 : BitVec 32 := Scalar.addi v5 c738_i32_2588
  let c1_i32_2589 : BitVec 32 := 1#32
  let v7022 : BitVec 32 := Scalar.addi v7021 c1_i32_2589
  let v7023 : Index := Scalar.indexCast v7022
  ![v7023.toNat]
def k0_off1479 (v7020 : BitVec 32) : Fin 2 → Nat :=
  let v7025 : Index := Scalar.indexCast v7020
  let c0_2590 : Index := 0#32
  ![v7025.toNat, 0]

def k0_chk739 (v7020 : BitVec 32) : Prop :=
  (∀ a, (k0_off1479 v7020) a + S1x128.size a ≤ S10064x128.size a)
theorem k0_off1479_inb : ∀ (v7020 : BitVec 32) (k0_hw739 : k0_chk739 v7020), ∀ a, (k0_off1479 v7020) a + S1x128.size a ≤ S10064x128.size a := fun v7020 k0_hw739 => k0_hw739

def k0_off1480 (v7024 : BitVec 32) : Fin 2 → Nat :=
  let v7031 : Index := Scalar.indexCast v7024
  let c0_2592 : Index := 0#32
  ![v7031.toNat, 0]

def k0_chk740 (v7024 : BitVec 32) : Prop :=
  (∀ a, (k0_off1480 v7024) a + S1x128.size a ≤ S10064x128.size a)
theorem k0_off1480_inb : ∀ (v7024 : BitVec 32) (k0_hw740 : k0_chk740 v7024), ∀ a, (k0_off1480 v7024) a + S1x128.size a ≤ S10064x128.size a := fun v7024 k0_hw740 => k0_hw740

def k0_off1481 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c740_i32 : BitVec 32 := 740#32
  let v7037 : BitVec 32 := Scalar.addi v5 c740_i32
  let v7038 : Index := Scalar.indexCast v7037
  ![v7038.toNat]
def k0_off1482 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c740_i32_2595 : BitVec 32 := 740#32
  let v7040 : BitVec 32 := Scalar.addi v5 c740_i32_2595
  let c1_i32_2596 : BitVec 32 := 1#32
  let v7041 : BitVec 32 := Scalar.addi v7040 c1_i32_2596
  let v7042 : Index := Scalar.indexCast v7041
  ![v7042.toNat]
def k0_off1483 (v7039 : BitVec 32) : Fin 2 → Nat :=
  let v7044 : Index := Scalar.indexCast v7039
  let c0_2597 : Index := 0#32
  ![v7044.toNat, 0]

def k0_chk741 (v7039 : BitVec 32) : Prop :=
  (∀ a, (k0_off1483 v7039) a + S1x128.size a ≤ S10064x128.size a)
theorem k0_off1483_inb : ∀ (v7039 : BitVec 32) (k0_hw741 : k0_chk741 v7039), ∀ a, (k0_off1483 v7039) a + S1x128.size a ≤ S10064x128.size a := fun v7039 k0_hw741 => k0_hw741

def k0_off1484 (v7043 : BitVec 32) : Fin 2 → Nat :=
  let v7050 : Index := Scalar.indexCast v7043
  let c0_2599 : Index := 0#32
  ![v7050.toNat, 0]

def k0_chk742 (v7043 : BitVec 32) : Prop :=
  (∀ a, (k0_off1484 v7043) a + S1x128.size a ≤ S10064x128.size a)
theorem k0_off1484_inb : ∀ (v7043 : BitVec 32) (k0_hw742 : k0_chk742 v7043), ∀ a, (k0_off1484 v7043) a + S1x128.size a ≤ S10064x128.size a := fun v7043 k0_hw742 => k0_hw742

def k0_off1485 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c742_i32 : BitVec 32 := 742#32
  let v7056 : BitVec 32 := Scalar.addi v5 c742_i32
  let v7057 : Index := Scalar.indexCast v7056
  ![v7057.toNat]
def k0_off1486 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c742_i32_2602 : BitVec 32 := 742#32
  let v7059 : BitVec 32 := Scalar.addi v5 c742_i32_2602
  let c1_i32_2603 : BitVec 32 := 1#32
  let v7060 : BitVec 32 := Scalar.addi v7059 c1_i32_2603
  let v7061 : Index := Scalar.indexCast v7060
  ![v7061.toNat]
def k0_off1487 (v7058 : BitVec 32) : Fin 2 → Nat :=
  let v7063 : Index := Scalar.indexCast v7058
  let c0_2604 : Index := 0#32
  ![v7063.toNat, 0]

def k0_chk743 (v7058 : BitVec 32) : Prop :=
  (∀ a, (k0_off1487 v7058) a + S1x128.size a ≤ S10064x128.size a)
theorem k0_off1487_inb : ∀ (v7058 : BitVec 32) (k0_hw743 : k0_chk743 v7058), ∀ a, (k0_off1487 v7058) a + S1x128.size a ≤ S10064x128.size a := fun v7058 k0_hw743 => k0_hw743

def k0_off1488 (v7062 : BitVec 32) : Fin 2 → Nat :=
  let v7069 : Index := Scalar.indexCast v7062
  let c0_2606 : Index := 0#32
  ![v7069.toNat, 0]

def k0_chk744 (v7062 : BitVec 32) : Prop :=
  (∀ a, (k0_off1488 v7062) a + S1x128.size a ≤ S10064x128.size a)
theorem k0_off1488_inb : ∀ (v7062 : BitVec 32) (k0_hw744 : k0_chk744 v7062), ∀ a, (k0_off1488 v7062) a + S1x128.size a ≤ S10064x128.size a := fun v7062 k0_hw744 => k0_hw744

def k0_off1489 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c744_i32 : BitVec 32 := 744#32
  let v7075 : BitVec 32 := Scalar.addi v5 c744_i32
  let v7076 : Index := Scalar.indexCast v7075
  ![v7076.toNat]
def k0_off1490 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c744_i32_2609 : BitVec 32 := 744#32
  let v7078 : BitVec 32 := Scalar.addi v5 c744_i32_2609
  let c1_i32_2610 : BitVec 32 := 1#32
  let v7079 : BitVec 32 := Scalar.addi v7078 c1_i32_2610
  let v7080 : Index := Scalar.indexCast v7079
  ![v7080.toNat]
def k0_off1491 (v7077 : BitVec 32) : Fin 2 → Nat :=
  let v7082 : Index := Scalar.indexCast v7077
  let c0_2611 : Index := 0#32
  ![v7082.toNat, 0]

def k0_chk745 (v7077 : BitVec 32) : Prop :=
  (∀ a, (k0_off1491 v7077) a + S1x128.size a ≤ S10064x128.size a)
theorem k0_off1491_inb : ∀ (v7077 : BitVec 32) (k0_hw745 : k0_chk745 v7077), ∀ a, (k0_off1491 v7077) a + S1x128.size a ≤ S10064x128.size a := fun v7077 k0_hw745 => k0_hw745

def k0_off1492 (v7081 : BitVec 32) : Fin 2 → Nat :=
  let v7088 : Index := Scalar.indexCast v7081
  let c0_2613 : Index := 0#32
  ![v7088.toNat, 0]

def k0_chk746 (v7081 : BitVec 32) : Prop :=
  (∀ a, (k0_off1492 v7081) a + S1x128.size a ≤ S10064x128.size a)
theorem k0_off1492_inb : ∀ (v7081 : BitVec 32) (k0_hw746 : k0_chk746 v7081), ∀ a, (k0_off1492 v7081) a + S1x128.size a ≤ S10064x128.size a := fun v7081 k0_hw746 => k0_hw746

def k0_off1493 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c746_i32 : BitVec 32 := 746#32
  let v7094 : BitVec 32 := Scalar.addi v5 c746_i32
  let v7095 : Index := Scalar.indexCast v7094
  ![v7095.toNat]
def k0_off1494 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c746_i32_2616 : BitVec 32 := 746#32
  let v7097 : BitVec 32 := Scalar.addi v5 c746_i32_2616
  let c1_i32_2617 : BitVec 32 := 1#32
  let v7098 : BitVec 32 := Scalar.addi v7097 c1_i32_2617
  let v7099 : Index := Scalar.indexCast v7098
  ![v7099.toNat]
def k0_off1495 (v7096 : BitVec 32) : Fin 2 → Nat :=
  let v7101 : Index := Scalar.indexCast v7096
  let c0_2618 : Index := 0#32
  ![v7101.toNat, 0]

def k0_chk747 (v7096 : BitVec 32) : Prop :=
  (∀ a, (k0_off1495 v7096) a + S1x128.size a ≤ S10064x128.size a)
theorem k0_off1495_inb : ∀ (v7096 : BitVec 32) (k0_hw747 : k0_chk747 v7096), ∀ a, (k0_off1495 v7096) a + S1x128.size a ≤ S10064x128.size a := fun v7096 k0_hw747 => k0_hw747

def k0_off1496 (v7100 : BitVec 32) : Fin 2 → Nat :=
  let v7107 : Index := Scalar.indexCast v7100
  let c0_2620 : Index := 0#32
  ![v7107.toNat, 0]

def k0_chk748 (v7100 : BitVec 32) : Prop :=
  (∀ a, (k0_off1496 v7100) a + S1x128.size a ≤ S10064x128.size a)
theorem k0_off1496_inb : ∀ (v7100 : BitVec 32) (k0_hw748 : k0_chk748 v7100), ∀ a, (k0_off1496 v7100) a + S1x128.size a ≤ S10064x128.size a := fun v7100 k0_hw748 => k0_hw748

def k0_off1497 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c748_i32 : BitVec 32 := 748#32
  let v7113 : BitVec 32 := Scalar.addi v5 c748_i32
  let v7114 : Index := Scalar.indexCast v7113
  ![v7114.toNat]
def k0_off1498 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c748_i32_2623 : BitVec 32 := 748#32
  let v7116 : BitVec 32 := Scalar.addi v5 c748_i32_2623
  let c1_i32_2624 : BitVec 32 := 1#32
  let v7117 : BitVec 32 := Scalar.addi v7116 c1_i32_2624
  let v7118 : Index := Scalar.indexCast v7117
  ![v7118.toNat]
def k0_off1499 (v7115 : BitVec 32) : Fin 2 → Nat :=
  let v7120 : Index := Scalar.indexCast v7115
  let c0_2625 : Index := 0#32
  ![v7120.toNat, 0]

def k0_chk749 (v7115 : BitVec 32) : Prop :=
  (∀ a, (k0_off1499 v7115) a + S1x128.size a ≤ S10064x128.size a)
theorem k0_off1499_inb : ∀ (v7115 : BitVec 32) (k0_hw749 : k0_chk749 v7115), ∀ a, (k0_off1499 v7115) a + S1x128.size a ≤ S10064x128.size a := fun v7115 k0_hw749 => k0_hw749

def k0_off1500 (v7119 : BitVec 32) : Fin 2 → Nat :=
  let v7126 : Index := Scalar.indexCast v7119
  let c0_2627 : Index := 0#32
  ![v7126.toNat, 0]

def k0_chk750 (v7119 : BitVec 32) : Prop :=
  (∀ a, (k0_off1500 v7119) a + S1x128.size a ≤ S10064x128.size a)
theorem k0_off1500_inb : ∀ (v7119 : BitVec 32) (k0_hw750 : k0_chk750 v7119), ∀ a, (k0_off1500 v7119) a + S1x128.size a ≤ S10064x128.size a := fun v7119 k0_hw750 => k0_hw750

def k0_off1501 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c750_i32 : BitVec 32 := 750#32
  let v7132 : BitVec 32 := Scalar.addi v5 c750_i32
  let v7133 : Index := Scalar.indexCast v7132
  ![v7133.toNat]
def k0_off1502 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c750_i32_2630 : BitVec 32 := 750#32
  let v7135 : BitVec 32 := Scalar.addi v5 c750_i32_2630
  let c1_i32_2631 : BitVec 32 := 1#32
  let v7136 : BitVec 32 := Scalar.addi v7135 c1_i32_2631
  let v7137 : Index := Scalar.indexCast v7136
  ![v7137.toNat]
def k0_off1503 (v7134 : BitVec 32) : Fin 2 → Nat :=
  let v7139 : Index := Scalar.indexCast v7134
  let c0_2632 : Index := 0#32
  ![v7139.toNat, 0]

def k0_chk751 (v7134 : BitVec 32) : Prop :=
  (∀ a, (k0_off1503 v7134) a + S1x128.size a ≤ S10064x128.size a)
theorem k0_off1503_inb : ∀ (v7134 : BitVec 32) (k0_hw751 : k0_chk751 v7134), ∀ a, (k0_off1503 v7134) a + S1x128.size a ≤ S10064x128.size a := fun v7134 k0_hw751 => k0_hw751

def k0_off1504 (v7138 : BitVec 32) : Fin 2 → Nat :=
  let v7145 : Index := Scalar.indexCast v7138
  let c0_2634 : Index := 0#32
  ![v7145.toNat, 0]

def k0_chk752 (v7138 : BitVec 32) : Prop :=
  (∀ a, (k0_off1504 v7138) a + S1x128.size a ≤ S10064x128.size a)
theorem k0_off1504_inb : ∀ (v7138 : BitVec 32) (k0_hw752 : k0_chk752 v7138), ∀ a, (k0_off1504 v7138) a + S1x128.size a ≤ S10064x128.size a := fun v7138 k0_hw752 => k0_hw752

def k0_off1505 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c752_i32 : BitVec 32 := 752#32
  let v7151 : BitVec 32 := Scalar.addi v5 c752_i32
  let v7152 : Index := Scalar.indexCast v7151
  ![v7152.toNat]
def k0_off1506 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c752_i32_2637 : BitVec 32 := 752#32
  let v7154 : BitVec 32 := Scalar.addi v5 c752_i32_2637
  let c1_i32_2638 : BitVec 32 := 1#32
  let v7155 : BitVec 32 := Scalar.addi v7154 c1_i32_2638
  let v7156 : Index := Scalar.indexCast v7155
  ![v7156.toNat]
def k0_off1507 (v7153 : BitVec 32) : Fin 2 → Nat :=
  let v7158 : Index := Scalar.indexCast v7153
  let c0_2639 : Index := 0#32
  ![v7158.toNat, 0]

def k0_chk753 (v7153 : BitVec 32) : Prop :=
  (∀ a, (k0_off1507 v7153) a + S1x128.size a ≤ S10064x128.size a)
theorem k0_off1507_inb : ∀ (v7153 : BitVec 32) (k0_hw753 : k0_chk753 v7153), ∀ a, (k0_off1507 v7153) a + S1x128.size a ≤ S10064x128.size a := fun v7153 k0_hw753 => k0_hw753

def k0_off1508 (v7157 : BitVec 32) : Fin 2 → Nat :=
  let v7164 : Index := Scalar.indexCast v7157
  let c0_2641 : Index := 0#32
  ![v7164.toNat, 0]

def k0_chk754 (v7157 : BitVec 32) : Prop :=
  (∀ a, (k0_off1508 v7157) a + S1x128.size a ≤ S10064x128.size a)
theorem k0_off1508_inb : ∀ (v7157 : BitVec 32) (k0_hw754 : k0_chk754 v7157), ∀ a, (k0_off1508 v7157) a + S1x128.size a ≤ S10064x128.size a := fun v7157 k0_hw754 => k0_hw754

def k0_off1509 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c754_i32 : BitVec 32 := 754#32
  let v7170 : BitVec 32 := Scalar.addi v5 c754_i32
  let v7171 : Index := Scalar.indexCast v7170
  ![v7171.toNat]
def k0_off1510 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c754_i32_2644 : BitVec 32 := 754#32
  let v7173 : BitVec 32 := Scalar.addi v5 c754_i32_2644
  let c1_i32_2645 : BitVec 32 := 1#32
  let v7174 : BitVec 32 := Scalar.addi v7173 c1_i32_2645
  let v7175 : Index := Scalar.indexCast v7174
  ![v7175.toNat]
def k0_off1511 (v7172 : BitVec 32) : Fin 2 → Nat :=
  let v7177 : Index := Scalar.indexCast v7172
  let c0_2646 : Index := 0#32
  ![v7177.toNat, 0]

def k0_chk755 (v7172 : BitVec 32) : Prop :=
  (∀ a, (k0_off1511 v7172) a + S1x128.size a ≤ S10064x128.size a)
theorem k0_off1511_inb : ∀ (v7172 : BitVec 32) (k0_hw755 : k0_chk755 v7172), ∀ a, (k0_off1511 v7172) a + S1x128.size a ≤ S10064x128.size a := fun v7172 k0_hw755 => k0_hw755

def k0_off1512 (v7176 : BitVec 32) : Fin 2 → Nat :=
  let v7183 : Index := Scalar.indexCast v7176
  let c0_2648 : Index := 0#32
  ![v7183.toNat, 0]

def k0_chk756 (v7176 : BitVec 32) : Prop :=
  (∀ a, (k0_off1512 v7176) a + S1x128.size a ≤ S10064x128.size a)
theorem k0_off1512_inb : ∀ (v7176 : BitVec 32) (k0_hw756 : k0_chk756 v7176), ∀ a, (k0_off1512 v7176) a + S1x128.size a ≤ S10064x128.size a := fun v7176 k0_hw756 => k0_hw756

def k0_off1513 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c756_i32 : BitVec 32 := 756#32
  let v7189 : BitVec 32 := Scalar.addi v5 c756_i32
  let v7190 : Index := Scalar.indexCast v7189
  ![v7190.toNat]
def k0_off1514 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c756_i32_2651 : BitVec 32 := 756#32
  let v7192 : BitVec 32 := Scalar.addi v5 c756_i32_2651
  let c1_i32_2652 : BitVec 32 := 1#32
  let v7193 : BitVec 32 := Scalar.addi v7192 c1_i32_2652
  let v7194 : Index := Scalar.indexCast v7193
  ![v7194.toNat]
def k0_off1515 (v7191 : BitVec 32) : Fin 2 → Nat :=
  let v7196 : Index := Scalar.indexCast v7191
  let c0_2653 : Index := 0#32
  ![v7196.toNat, 0]

def k0_chk757 (v7191 : BitVec 32) : Prop :=
  (∀ a, (k0_off1515 v7191) a + S1x128.size a ≤ S10064x128.size a)
theorem k0_off1515_inb : ∀ (v7191 : BitVec 32) (k0_hw757 : k0_chk757 v7191), ∀ a, (k0_off1515 v7191) a + S1x128.size a ≤ S10064x128.size a := fun v7191 k0_hw757 => k0_hw757

def k0_off1516 (v7195 : BitVec 32) : Fin 2 → Nat :=
  let v7202 : Index := Scalar.indexCast v7195
  let c0_2655 : Index := 0#32
  ![v7202.toNat, 0]

def k0_chk758 (v7195 : BitVec 32) : Prop :=
  (∀ a, (k0_off1516 v7195) a + S1x128.size a ≤ S10064x128.size a)
theorem k0_off1516_inb : ∀ (v7195 : BitVec 32) (k0_hw758 : k0_chk758 v7195), ∀ a, (k0_off1516 v7195) a + S1x128.size a ≤ S10064x128.size a := fun v7195 k0_hw758 => k0_hw758

def k0_off1517 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c758_i32 : BitVec 32 := 758#32
  let v7208 : BitVec 32 := Scalar.addi v5 c758_i32
  let v7209 : Index := Scalar.indexCast v7208
  ![v7209.toNat]
def k0_off1518 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c758_i32_2658 : BitVec 32 := 758#32
  let v7211 : BitVec 32 := Scalar.addi v5 c758_i32_2658
  let c1_i32_2659 : BitVec 32 := 1#32
  let v7212 : BitVec 32 := Scalar.addi v7211 c1_i32_2659
  let v7213 : Index := Scalar.indexCast v7212
  ![v7213.toNat]
def k0_off1519 (v7210 : BitVec 32) : Fin 2 → Nat :=
  let v7215 : Index := Scalar.indexCast v7210
  let c0_2660 : Index := 0#32
  ![v7215.toNat, 0]

def k0_chk759 (v7210 : BitVec 32) : Prop :=
  (∀ a, (k0_off1519 v7210) a + S1x128.size a ≤ S10064x128.size a)
theorem k0_off1519_inb : ∀ (v7210 : BitVec 32) (k0_hw759 : k0_chk759 v7210), ∀ a, (k0_off1519 v7210) a + S1x128.size a ≤ S10064x128.size a := fun v7210 k0_hw759 => k0_hw759

def k0_off1520 (v7214 : BitVec 32) : Fin 2 → Nat :=
  let v7221 : Index := Scalar.indexCast v7214
  let c0_2662 : Index := 0#32
  ![v7221.toNat, 0]

def k0_chk760 (v7214 : BitVec 32) : Prop :=
  (∀ a, (k0_off1520 v7214) a + S1x128.size a ≤ S10064x128.size a)
theorem k0_off1520_inb : ∀ (v7214 : BitVec 32) (k0_hw760 : k0_chk760 v7214), ∀ a, (k0_off1520 v7214) a + S1x128.size a ≤ S10064x128.size a := fun v7214 k0_hw760 => k0_hw760

def k0_off1521 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c760_i32 : BitVec 32 := 760#32
  let v7227 : BitVec 32 := Scalar.addi v5 c760_i32
  let v7228 : Index := Scalar.indexCast v7227
  ![v7228.toNat]
def k0_off1522 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c760_i32_2665 : BitVec 32 := 760#32
  let v7230 : BitVec 32 := Scalar.addi v5 c760_i32_2665
  let c1_i32_2666 : BitVec 32 := 1#32
  let v7231 : BitVec 32 := Scalar.addi v7230 c1_i32_2666
  let v7232 : Index := Scalar.indexCast v7231
  ![v7232.toNat]
def k0_off1523 (v7229 : BitVec 32) : Fin 2 → Nat :=
  let v7234 : Index := Scalar.indexCast v7229
  let c0_2667 : Index := 0#32
  ![v7234.toNat, 0]

def k0_chk761 (v7229 : BitVec 32) : Prop :=
  (∀ a, (k0_off1523 v7229) a + S1x128.size a ≤ S10064x128.size a)
theorem k0_off1523_inb : ∀ (v7229 : BitVec 32) (k0_hw761 : k0_chk761 v7229), ∀ a, (k0_off1523 v7229) a + S1x128.size a ≤ S10064x128.size a := fun v7229 k0_hw761 => k0_hw761

def k0_off1524 (v7233 : BitVec 32) : Fin 2 → Nat :=
  let v7240 : Index := Scalar.indexCast v7233
  let c0_2669 : Index := 0#32
  ![v7240.toNat, 0]

def k0_chk762 (v7233 : BitVec 32) : Prop :=
  (∀ a, (k0_off1524 v7233) a + S1x128.size a ≤ S10064x128.size a)
theorem k0_off1524_inb : ∀ (v7233 : BitVec 32) (k0_hw762 : k0_chk762 v7233), ∀ a, (k0_off1524 v7233) a + S1x128.size a ≤ S10064x128.size a := fun v7233 k0_hw762 => k0_hw762

def k0_off1525 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c762_i32 : BitVec 32 := 762#32
  let v7246 : BitVec 32 := Scalar.addi v5 c762_i32
  let v7247 : Index := Scalar.indexCast v7246
  ![v7247.toNat]
def k0_off1526 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c762_i32_2672 : BitVec 32 := 762#32
  let v7249 : BitVec 32 := Scalar.addi v5 c762_i32_2672
  let c1_i32_2673 : BitVec 32 := 1#32
  let v7250 : BitVec 32 := Scalar.addi v7249 c1_i32_2673
  let v7251 : Index := Scalar.indexCast v7250
  ![v7251.toNat]
def k0_off1527 (v7248 : BitVec 32) : Fin 2 → Nat :=
  let v7253 : Index := Scalar.indexCast v7248
  let c0_2674 : Index := 0#32
  ![v7253.toNat, 0]

def k0_chk763 (v7248 : BitVec 32) : Prop :=
  (∀ a, (k0_off1527 v7248) a + S1x128.size a ≤ S10064x128.size a)
theorem k0_off1527_inb : ∀ (v7248 : BitVec 32) (k0_hw763 : k0_chk763 v7248), ∀ a, (k0_off1527 v7248) a + S1x128.size a ≤ S10064x128.size a := fun v7248 k0_hw763 => k0_hw763

def k0_off1528 (v7252 : BitVec 32) : Fin 2 → Nat :=
  let v7259 : Index := Scalar.indexCast v7252
  let c0_2676 : Index := 0#32
  ![v7259.toNat, 0]

def k0_chk764 (v7252 : BitVec 32) : Prop :=
  (∀ a, (k0_off1528 v7252) a + S1x128.size a ≤ S10064x128.size a)
theorem k0_off1528_inb : ∀ (v7252 : BitVec 32) (k0_hw764 : k0_chk764 v7252), ∀ a, (k0_off1528 v7252) a + S1x128.size a ≤ S10064x128.size a := fun v7252 k0_hw764 => k0_hw764

def k0_off1529 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c764_i32 : BitVec 32 := 764#32
  let v7265 : BitVec 32 := Scalar.addi v5 c764_i32
  let v7266 : Index := Scalar.indexCast v7265
  ![v7266.toNat]
def k0_off1530 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c764_i32_2679 : BitVec 32 := 764#32
  let v7268 : BitVec 32 := Scalar.addi v5 c764_i32_2679
  let c1_i32_2680 : BitVec 32 := 1#32
  let v7269 : BitVec 32 := Scalar.addi v7268 c1_i32_2680
  let v7270 : Index := Scalar.indexCast v7269
  ![v7270.toNat]
def k0_off1531 (v7267 : BitVec 32) : Fin 2 → Nat :=
  let v7272 : Index := Scalar.indexCast v7267
  let c0_2681 : Index := 0#32
  ![v7272.toNat, 0]

def k0_chk765 (v7267 : BitVec 32) : Prop :=
  (∀ a, (k0_off1531 v7267) a + S1x128.size a ≤ S10064x128.size a)
theorem k0_off1531_inb : ∀ (v7267 : BitVec 32) (k0_hw765 : k0_chk765 v7267), ∀ a, (k0_off1531 v7267) a + S1x128.size a ≤ S10064x128.size a := fun v7267 k0_hw765 => k0_hw765

def k0_off1532 (v7271 : BitVec 32) : Fin 2 → Nat :=
  let v7278 : Index := Scalar.indexCast v7271
  let c0_2683 : Index := 0#32
  ![v7278.toNat, 0]

def k0_chk766 (v7271 : BitVec 32) : Prop :=
  (∀ a, (k0_off1532 v7271) a + S1x128.size a ≤ S10064x128.size a)
theorem k0_off1532_inb : ∀ (v7271 : BitVec 32) (k0_hw766 : k0_chk766 v7271), ∀ a, (k0_off1532 v7271) a + S1x128.size a ≤ S10064x128.size a := fun v7271 k0_hw766 => k0_hw766

def k0_off1533 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c766_i32 : BitVec 32 := 766#32
  let v7284 : BitVec 32 := Scalar.addi v5 c766_i32
  let v7285 : Index := Scalar.indexCast v7284
  ![v7285.toNat]
def k0_off1534 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c766_i32_2686 : BitVec 32 := 766#32
  let v7287 : BitVec 32 := Scalar.addi v5 c766_i32_2686
  let c1_i32_2687 : BitVec 32 := 1#32
  let v7288 : BitVec 32 := Scalar.addi v7287 c1_i32_2687
  let v7289 : Index := Scalar.indexCast v7288
  ![v7289.toNat]
def k0_off1535 (v7286 : BitVec 32) : Fin 2 → Nat :=
  let v7291 : Index := Scalar.indexCast v7286
  let c0_2688 : Index := 0#32
  ![v7291.toNat, 0]

def k0_chk767 (v7286 : BitVec 32) : Prop :=
  (∀ a, (k0_off1535 v7286) a + S1x128.size a ≤ S10064x128.size a)
theorem k0_off1535_inb : ∀ (v7286 : BitVec 32) (k0_hw767 : k0_chk767 v7286), ∀ a, (k0_off1535 v7286) a + S1x128.size a ≤ S10064x128.size a := fun v7286 k0_hw767 => k0_hw767

def k0_off1536 (v7290 : BitVec 32) : Fin 2 → Nat :=
  let v7297 : Index := Scalar.indexCast v7290
  let c0_2690 : Index := 0#32
  ![v7297.toNat, 0]

def k0_chk768 (v7290 : BitVec 32) : Prop :=
  (∀ a, (k0_off1536 v7290) a + S1x128.size a ≤ S10064x128.size a)
theorem k0_off1536_inb : ∀ (v7290 : BitVec 32) (k0_hw768 : k0_chk768 v7290), ∀ a, (k0_off1536 v7290) a + S1x128.size a ≤ S10064x128.size a := fun v7290 k0_hw768 => k0_hw768

def k0_off1537 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c768_i32 : BitVec 32 := 768#32
  let v7303 : BitVec 32 := Scalar.addi v5 c768_i32
  let v7304 : Index := Scalar.indexCast v7303
  ![v7304.toNat]
def k0_off1538 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c768_i32_2693 : BitVec 32 := 768#32
  let v7306 : BitVec 32 := Scalar.addi v5 c768_i32_2693
  let c1_i32_2694 : BitVec 32 := 1#32
  let v7307 : BitVec 32 := Scalar.addi v7306 c1_i32_2694
  let v7308 : Index := Scalar.indexCast v7307
  ![v7308.toNat]
def k0_off1539 (v7305 : BitVec 32) : Fin 2 → Nat :=
  let v7310 : Index := Scalar.indexCast v7305
  let c0_2695 : Index := 0#32
  ![v7310.toNat, 0]

def k0_chk769 (v7305 : BitVec 32) : Prop :=
  (∀ a, (k0_off1539 v7305) a + S1x128.size a ≤ S10064x128.size a)
theorem k0_off1539_inb : ∀ (v7305 : BitVec 32) (k0_hw769 : k0_chk769 v7305), ∀ a, (k0_off1539 v7305) a + S1x128.size a ≤ S10064x128.size a := fun v7305 k0_hw769 => k0_hw769

def k0_off1540 (v7309 : BitVec 32) : Fin 2 → Nat :=
  let v7316 : Index := Scalar.indexCast v7309
  let c0_2697 : Index := 0#32
  ![v7316.toNat, 0]

def k0_chk770 (v7309 : BitVec 32) : Prop :=
  (∀ a, (k0_off1540 v7309) a + S1x128.size a ≤ S10064x128.size a)
theorem k0_off1540_inb : ∀ (v7309 : BitVec 32) (k0_hw770 : k0_chk770 v7309), ∀ a, (k0_off1540 v7309) a + S1x128.size a ≤ S10064x128.size a := fun v7309 k0_hw770 => k0_hw770

def k0_off1541 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c770_i32 : BitVec 32 := 770#32
  let v7322 : BitVec 32 := Scalar.addi v5 c770_i32
  let v7323 : Index := Scalar.indexCast v7322
  ![v7323.toNat]
def k0_off1542 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c770_i32_2700 : BitVec 32 := 770#32
  let v7325 : BitVec 32 := Scalar.addi v5 c770_i32_2700
  let c1_i32_2701 : BitVec 32 := 1#32
  let v7326 : BitVec 32 := Scalar.addi v7325 c1_i32_2701
  let v7327 : Index := Scalar.indexCast v7326
  ![v7327.toNat]
def k0_off1543 (v7324 : BitVec 32) : Fin 2 → Nat :=
  let v7329 : Index := Scalar.indexCast v7324
  let c0_2702 : Index := 0#32
  ![v7329.toNat, 0]

def k0_chk771 (v7324 : BitVec 32) : Prop :=
  (∀ a, (k0_off1543 v7324) a + S1x128.size a ≤ S10064x128.size a)
theorem k0_off1543_inb : ∀ (v7324 : BitVec 32) (k0_hw771 : k0_chk771 v7324), ∀ a, (k0_off1543 v7324) a + S1x128.size a ≤ S10064x128.size a := fun v7324 k0_hw771 => k0_hw771

def k0_off1544 (v7328 : BitVec 32) : Fin 2 → Nat :=
  let v7335 : Index := Scalar.indexCast v7328
  let c0_2704 : Index := 0#32
  ![v7335.toNat, 0]

def k0_chk772 (v7328 : BitVec 32) : Prop :=
  (∀ a, (k0_off1544 v7328) a + S1x128.size a ≤ S10064x128.size a)
theorem k0_off1544_inb : ∀ (v7328 : BitVec 32) (k0_hw772 : k0_chk772 v7328), ∀ a, (k0_off1544 v7328) a + S1x128.size a ≤ S10064x128.size a := fun v7328 k0_hw772 => k0_hw772

def k0_off1545 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c772_i32 : BitVec 32 := 772#32
  let v7341 : BitVec 32 := Scalar.addi v5 c772_i32
  let v7342 : Index := Scalar.indexCast v7341
  ![v7342.toNat]
def k0_off1546 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c772_i32_2707 : BitVec 32 := 772#32
  let v7344 : BitVec 32 := Scalar.addi v5 c772_i32_2707
  let c1_i32_2708 : BitVec 32 := 1#32
  let v7345 : BitVec 32 := Scalar.addi v7344 c1_i32_2708
  let v7346 : Index := Scalar.indexCast v7345
  ![v7346.toNat]
def k0_off1547 (v7343 : BitVec 32) : Fin 2 → Nat :=
  let v7348 : Index := Scalar.indexCast v7343
  let c0_2709 : Index := 0#32
  ![v7348.toNat, 0]

def k0_chk773 (v7343 : BitVec 32) : Prop :=
  (∀ a, (k0_off1547 v7343) a + S1x128.size a ≤ S10064x128.size a)
theorem k0_off1547_inb : ∀ (v7343 : BitVec 32) (k0_hw773 : k0_chk773 v7343), ∀ a, (k0_off1547 v7343) a + S1x128.size a ≤ S10064x128.size a := fun v7343 k0_hw773 => k0_hw773

def k0_off1548 (v7347 : BitVec 32) : Fin 2 → Nat :=
  let v7354 : Index := Scalar.indexCast v7347
  let c0_2711 : Index := 0#32
  ![v7354.toNat, 0]

def k0_chk774 (v7347 : BitVec 32) : Prop :=
  (∀ a, (k0_off1548 v7347) a + S1x128.size a ≤ S10064x128.size a)
theorem k0_off1548_inb : ∀ (v7347 : BitVec 32) (k0_hw774 : k0_chk774 v7347), ∀ a, (k0_off1548 v7347) a + S1x128.size a ≤ S10064x128.size a := fun v7347 k0_hw774 => k0_hw774

def k0_off1549 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c774_i32 : BitVec 32 := 774#32
  let v7360 : BitVec 32 := Scalar.addi v5 c774_i32
  let v7361 : Index := Scalar.indexCast v7360
  ![v7361.toNat]
def k0_off1550 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c774_i32_2714 : BitVec 32 := 774#32
  let v7363 : BitVec 32 := Scalar.addi v5 c774_i32_2714
  let c1_i32_2715 : BitVec 32 := 1#32
  let v7364 : BitVec 32 := Scalar.addi v7363 c1_i32_2715
  let v7365 : Index := Scalar.indexCast v7364
  ![v7365.toNat]
def k0_off1551 (v7362 : BitVec 32) : Fin 2 → Nat :=
  let v7367 : Index := Scalar.indexCast v7362
  let c0_2716 : Index := 0#32
  ![v7367.toNat, 0]

def k0_chk775 (v7362 : BitVec 32) : Prop :=
  (∀ a, (k0_off1551 v7362) a + S1x128.size a ≤ S10064x128.size a)
theorem k0_off1551_inb : ∀ (v7362 : BitVec 32) (k0_hw775 : k0_chk775 v7362), ∀ a, (k0_off1551 v7362) a + S1x128.size a ≤ S10064x128.size a := fun v7362 k0_hw775 => k0_hw775

def k0_off1552 (v7366 : BitVec 32) : Fin 2 → Nat :=
  let v7373 : Index := Scalar.indexCast v7366
  let c0_2718 : Index := 0#32
  ![v7373.toNat, 0]

def k0_chk776 (v7366 : BitVec 32) : Prop :=
  (∀ a, (k0_off1552 v7366) a + S1x128.size a ≤ S10064x128.size a)
theorem k0_off1552_inb : ∀ (v7366 : BitVec 32) (k0_hw776 : k0_chk776 v7366), ∀ a, (k0_off1552 v7366) a + S1x128.size a ≤ S10064x128.size a := fun v7366 k0_hw776 => k0_hw776

def k0_off1553 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c776_i32 : BitVec 32 := 776#32
  let v7379 : BitVec 32 := Scalar.addi v5 c776_i32
  let v7380 : Index := Scalar.indexCast v7379
  ![v7380.toNat]
def k0_off1554 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c776_i32_2721 : BitVec 32 := 776#32
  let v7382 : BitVec 32 := Scalar.addi v5 c776_i32_2721
  let c1_i32_2722 : BitVec 32 := 1#32
  let v7383 : BitVec 32 := Scalar.addi v7382 c1_i32_2722
  let v7384 : Index := Scalar.indexCast v7383
  ![v7384.toNat]
def k0_off1555 (v7381 : BitVec 32) : Fin 2 → Nat :=
  let v7386 : Index := Scalar.indexCast v7381
  let c0_2723 : Index := 0#32
  ![v7386.toNat, 0]

def k0_chk777 (v7381 : BitVec 32) : Prop :=
  (∀ a, (k0_off1555 v7381) a + S1x128.size a ≤ S10064x128.size a)
theorem k0_off1555_inb : ∀ (v7381 : BitVec 32) (k0_hw777 : k0_chk777 v7381), ∀ a, (k0_off1555 v7381) a + S1x128.size a ≤ S10064x128.size a := fun v7381 k0_hw777 => k0_hw777

def k0_off1556 (v7385 : BitVec 32) : Fin 2 → Nat :=
  let v7392 : Index := Scalar.indexCast v7385
  let c0_2725 : Index := 0#32
  ![v7392.toNat, 0]

def k0_chk778 (v7385 : BitVec 32) : Prop :=
  (∀ a, (k0_off1556 v7385) a + S1x128.size a ≤ S10064x128.size a)
theorem k0_off1556_inb : ∀ (v7385 : BitVec 32) (k0_hw778 : k0_chk778 v7385), ∀ a, (k0_off1556 v7385) a + S1x128.size a ≤ S10064x128.size a := fun v7385 k0_hw778 => k0_hw778

def k0_off1557 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c778_i32 : BitVec 32 := 778#32
  let v7398 : BitVec 32 := Scalar.addi v5 c778_i32
  let v7399 : Index := Scalar.indexCast v7398
  ![v7399.toNat]
def k0_off1558 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c778_i32_2728 : BitVec 32 := 778#32
  let v7401 : BitVec 32 := Scalar.addi v5 c778_i32_2728
  let c1_i32_2729 : BitVec 32 := 1#32
  let v7402 : BitVec 32 := Scalar.addi v7401 c1_i32_2729
  let v7403 : Index := Scalar.indexCast v7402
  ![v7403.toNat]
def k0_off1559 (v7400 : BitVec 32) : Fin 2 → Nat :=
  let v7405 : Index := Scalar.indexCast v7400
  let c0_2730 : Index := 0#32
  ![v7405.toNat, 0]

def k0_chk779 (v7400 : BitVec 32) : Prop :=
  (∀ a, (k0_off1559 v7400) a + S1x128.size a ≤ S10064x128.size a)
theorem k0_off1559_inb : ∀ (v7400 : BitVec 32) (k0_hw779 : k0_chk779 v7400), ∀ a, (k0_off1559 v7400) a + S1x128.size a ≤ S10064x128.size a := fun v7400 k0_hw779 => k0_hw779

def k0_off1560 (v7404 : BitVec 32) : Fin 2 → Nat :=
  let v7411 : Index := Scalar.indexCast v7404
  let c0_2732 : Index := 0#32
  ![v7411.toNat, 0]

def k0_chk780 (v7404 : BitVec 32) : Prop :=
  (∀ a, (k0_off1560 v7404) a + S1x128.size a ≤ S10064x128.size a)
theorem k0_off1560_inb : ∀ (v7404 : BitVec 32) (k0_hw780 : k0_chk780 v7404), ∀ a, (k0_off1560 v7404) a + S1x128.size a ≤ S10064x128.size a := fun v7404 k0_hw780 => k0_hw780

def k0_off1561 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c780_i32 : BitVec 32 := 780#32
  let v7417 : BitVec 32 := Scalar.addi v5 c780_i32
  let v7418 : Index := Scalar.indexCast v7417
  ![v7418.toNat]
def k0_off1562 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c780_i32_2735 : BitVec 32 := 780#32
  let v7420 : BitVec 32 := Scalar.addi v5 c780_i32_2735
  let c1_i32_2736 : BitVec 32 := 1#32
  let v7421 : BitVec 32 := Scalar.addi v7420 c1_i32_2736
  let v7422 : Index := Scalar.indexCast v7421
  ![v7422.toNat]
def k0_off1563 (v7419 : BitVec 32) : Fin 2 → Nat :=
  let v7424 : Index := Scalar.indexCast v7419
  let c0_2737 : Index := 0#32
  ![v7424.toNat, 0]

def k0_chk781 (v7419 : BitVec 32) : Prop :=
  (∀ a, (k0_off1563 v7419) a + S1x128.size a ≤ S10064x128.size a)
theorem k0_off1563_inb : ∀ (v7419 : BitVec 32) (k0_hw781 : k0_chk781 v7419), ∀ a, (k0_off1563 v7419) a + S1x128.size a ≤ S10064x128.size a := fun v7419 k0_hw781 => k0_hw781

def k0_off1564 (v7423 : BitVec 32) : Fin 2 → Nat :=
  let v7430 : Index := Scalar.indexCast v7423
  let c0_2739 : Index := 0#32
  ![v7430.toNat, 0]

def k0_chk782 (v7423 : BitVec 32) : Prop :=
  (∀ a, (k0_off1564 v7423) a + S1x128.size a ≤ S10064x128.size a)
theorem k0_off1564_inb : ∀ (v7423 : BitVec 32) (k0_hw782 : k0_chk782 v7423), ∀ a, (k0_off1564 v7423) a + S1x128.size a ≤ S10064x128.size a := fun v7423 k0_hw782 => k0_hw782

def k0_off1565 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c782_i32 : BitVec 32 := 782#32
  let v7436 : BitVec 32 := Scalar.addi v5 c782_i32
  let v7437 : Index := Scalar.indexCast v7436
  ![v7437.toNat]
def k0_off1566 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c782_i32_2742 : BitVec 32 := 782#32
  let v7439 : BitVec 32 := Scalar.addi v5 c782_i32_2742
  let c1_i32_2743 : BitVec 32 := 1#32
  let v7440 : BitVec 32 := Scalar.addi v7439 c1_i32_2743
  let v7441 : Index := Scalar.indexCast v7440
  ![v7441.toNat]
def k0_off1567 (v7438 : BitVec 32) : Fin 2 → Nat :=
  let v7443 : Index := Scalar.indexCast v7438
  let c0_2744 : Index := 0#32
  ![v7443.toNat, 0]

def k0_chk783 (v7438 : BitVec 32) : Prop :=
  (∀ a, (k0_off1567 v7438) a + S1x128.size a ≤ S10064x128.size a)
theorem k0_off1567_inb : ∀ (v7438 : BitVec 32) (k0_hw783 : k0_chk783 v7438), ∀ a, (k0_off1567 v7438) a + S1x128.size a ≤ S10064x128.size a := fun v7438 k0_hw783 => k0_hw783

def k0_off1568 (v7442 : BitVec 32) : Fin 2 → Nat :=
  let v7449 : Index := Scalar.indexCast v7442
  let c0_2746 : Index := 0#32
  ![v7449.toNat, 0]

def k0_chk784 (v7442 : BitVec 32) : Prop :=
  (∀ a, (k0_off1568 v7442) a + S1x128.size a ≤ S10064x128.size a)
theorem k0_off1568_inb : ∀ (v7442 : BitVec 32) (k0_hw784 : k0_chk784 v7442), ∀ a, (k0_off1568 v7442) a + S1x128.size a ≤ S10064x128.size a := fun v7442 k0_hw784 => k0_hw784

def k0_off1569 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c784_i32 : BitVec 32 := 784#32
  let v7455 : BitVec 32 := Scalar.addi v5 c784_i32
  let v7456 : Index := Scalar.indexCast v7455
  ![v7456.toNat]
def k0_off1570 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c784_i32_2749 : BitVec 32 := 784#32
  let v7458 : BitVec 32 := Scalar.addi v5 c784_i32_2749
  let c1_i32_2750 : BitVec 32 := 1#32
  let v7459 : BitVec 32 := Scalar.addi v7458 c1_i32_2750
  let v7460 : Index := Scalar.indexCast v7459
  ![v7460.toNat]
def k0_off1571 (v7457 : BitVec 32) : Fin 2 → Nat :=
  let v7462 : Index := Scalar.indexCast v7457
  let c0_2751 : Index := 0#32
  ![v7462.toNat, 0]

def k0_chk785 (v7457 : BitVec 32) : Prop :=
  (∀ a, (k0_off1571 v7457) a + S1x128.size a ≤ S10064x128.size a)
theorem k0_off1571_inb : ∀ (v7457 : BitVec 32) (k0_hw785 : k0_chk785 v7457), ∀ a, (k0_off1571 v7457) a + S1x128.size a ≤ S10064x128.size a := fun v7457 k0_hw785 => k0_hw785

def k0_off1572 (v7461 : BitVec 32) : Fin 2 → Nat :=
  let v7468 : Index := Scalar.indexCast v7461
  let c0_2753 : Index := 0#32
  ![v7468.toNat, 0]

def k0_chk786 (v7461 : BitVec 32) : Prop :=
  (∀ a, (k0_off1572 v7461) a + S1x128.size a ≤ S10064x128.size a)
theorem k0_off1572_inb : ∀ (v7461 : BitVec 32) (k0_hw786 : k0_chk786 v7461), ∀ a, (k0_off1572 v7461) a + S1x128.size a ≤ S10064x128.size a := fun v7461 k0_hw786 => k0_hw786

def k0_off1573 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c786_i32 : BitVec 32 := 786#32
  let v7474 : BitVec 32 := Scalar.addi v5 c786_i32
  let v7475 : Index := Scalar.indexCast v7474
  ![v7475.toNat]
def k0_off1574 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c786_i32_2756 : BitVec 32 := 786#32
  let v7477 : BitVec 32 := Scalar.addi v5 c786_i32_2756
  let c1_i32_2757 : BitVec 32 := 1#32
  let v7478 : BitVec 32 := Scalar.addi v7477 c1_i32_2757
  let v7479 : Index := Scalar.indexCast v7478
  ![v7479.toNat]
def k0_off1575 (v7476 : BitVec 32) : Fin 2 → Nat :=
  let v7481 : Index := Scalar.indexCast v7476
  let c0_2758 : Index := 0#32
  ![v7481.toNat, 0]

def k0_chk787 (v7476 : BitVec 32) : Prop :=
  (∀ a, (k0_off1575 v7476) a + S1x128.size a ≤ S10064x128.size a)
theorem k0_off1575_inb : ∀ (v7476 : BitVec 32) (k0_hw787 : k0_chk787 v7476), ∀ a, (k0_off1575 v7476) a + S1x128.size a ≤ S10064x128.size a := fun v7476 k0_hw787 => k0_hw787

def k0_off1576 (v7480 : BitVec 32) : Fin 2 → Nat :=
  let v7487 : Index := Scalar.indexCast v7480
  let c0_2760 : Index := 0#32
  ![v7487.toNat, 0]

def k0_chk788 (v7480 : BitVec 32) : Prop :=
  (∀ a, (k0_off1576 v7480) a + S1x128.size a ≤ S10064x128.size a)
theorem k0_off1576_inb : ∀ (v7480 : BitVec 32) (k0_hw788 : k0_chk788 v7480), ∀ a, (k0_off1576 v7480) a + S1x128.size a ≤ S10064x128.size a := fun v7480 k0_hw788 => k0_hw788

def k0_off1577 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c788_i32 : BitVec 32 := 788#32
  let v7493 : BitVec 32 := Scalar.addi v5 c788_i32
  let v7494 : Index := Scalar.indexCast v7493
  ![v7494.toNat]
def k0_off1578 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c788_i32_2763 : BitVec 32 := 788#32
  let v7496 : BitVec 32 := Scalar.addi v5 c788_i32_2763
  let c1_i32_2764 : BitVec 32 := 1#32
  let v7497 : BitVec 32 := Scalar.addi v7496 c1_i32_2764
  let v7498 : Index := Scalar.indexCast v7497
  ![v7498.toNat]
def k0_off1579 (v7495 : BitVec 32) : Fin 2 → Nat :=
  let v7500 : Index := Scalar.indexCast v7495
  let c0_2765 : Index := 0#32
  ![v7500.toNat, 0]

def k0_chk789 (v7495 : BitVec 32) : Prop :=
  (∀ a, (k0_off1579 v7495) a + S1x128.size a ≤ S10064x128.size a)
theorem k0_off1579_inb : ∀ (v7495 : BitVec 32) (k0_hw789 : k0_chk789 v7495), ∀ a, (k0_off1579 v7495) a + S1x128.size a ≤ S10064x128.size a := fun v7495 k0_hw789 => k0_hw789

def k0_off1580 (v7499 : BitVec 32) : Fin 2 → Nat :=
  let v7506 : Index := Scalar.indexCast v7499
  let c0_2767 : Index := 0#32
  ![v7506.toNat, 0]

def k0_chk790 (v7499 : BitVec 32) : Prop :=
  (∀ a, (k0_off1580 v7499) a + S1x128.size a ≤ S10064x128.size a)
theorem k0_off1580_inb : ∀ (v7499 : BitVec 32) (k0_hw790 : k0_chk790 v7499), ∀ a, (k0_off1580 v7499) a + S1x128.size a ≤ S10064x128.size a := fun v7499 k0_hw790 => k0_hw790

def k0_off1581 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c790_i32 : BitVec 32 := 790#32
  let v7512 : BitVec 32 := Scalar.addi v5 c790_i32
  let v7513 : Index := Scalar.indexCast v7512
  ![v7513.toNat]
def k0_off1582 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c790_i32_2770 : BitVec 32 := 790#32
  let v7515 : BitVec 32 := Scalar.addi v5 c790_i32_2770
  let c1_i32_2771 : BitVec 32 := 1#32
  let v7516 : BitVec 32 := Scalar.addi v7515 c1_i32_2771
  let v7517 : Index := Scalar.indexCast v7516
  ![v7517.toNat]
def k0_off1583 (v7514 : BitVec 32) : Fin 2 → Nat :=
  let v7519 : Index := Scalar.indexCast v7514
  let c0_2772 : Index := 0#32
  ![v7519.toNat, 0]

def k0_chk791 (v7514 : BitVec 32) : Prop :=
  (∀ a, (k0_off1583 v7514) a + S1x128.size a ≤ S10064x128.size a)
theorem k0_off1583_inb : ∀ (v7514 : BitVec 32) (k0_hw791 : k0_chk791 v7514), ∀ a, (k0_off1583 v7514) a + S1x128.size a ≤ S10064x128.size a := fun v7514 k0_hw791 => k0_hw791

def k0_off1584 (v7518 : BitVec 32) : Fin 2 → Nat :=
  let v7525 : Index := Scalar.indexCast v7518
  let c0_2774 : Index := 0#32
  ![v7525.toNat, 0]

def k0_chk792 (v7518 : BitVec 32) : Prop :=
  (∀ a, (k0_off1584 v7518) a + S1x128.size a ≤ S10064x128.size a)
theorem k0_off1584_inb : ∀ (v7518 : BitVec 32) (k0_hw792 : k0_chk792 v7518), ∀ a, (k0_off1584 v7518) a + S1x128.size a ≤ S10064x128.size a := fun v7518 k0_hw792 => k0_hw792

def k0_off1585 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c792_i32 : BitVec 32 := 792#32
  let v7531 : BitVec 32 := Scalar.addi v5 c792_i32
  let v7532 : Index := Scalar.indexCast v7531
  ![v7532.toNat]
def k0_off1586 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c792_i32_2777 : BitVec 32 := 792#32
  let v7534 : BitVec 32 := Scalar.addi v5 c792_i32_2777
  let c1_i32_2778 : BitVec 32 := 1#32
  let v7535 : BitVec 32 := Scalar.addi v7534 c1_i32_2778
  let v7536 : Index := Scalar.indexCast v7535
  ![v7536.toNat]
def k0_off1587 (v7533 : BitVec 32) : Fin 2 → Nat :=
  let v7538 : Index := Scalar.indexCast v7533
  let c0_2779 : Index := 0#32
  ![v7538.toNat, 0]

def k0_chk793 (v7533 : BitVec 32) : Prop :=
  (∀ a, (k0_off1587 v7533) a + S1x128.size a ≤ S10064x128.size a)
theorem k0_off1587_inb : ∀ (v7533 : BitVec 32) (k0_hw793 : k0_chk793 v7533), ∀ a, (k0_off1587 v7533) a + S1x128.size a ≤ S10064x128.size a := fun v7533 k0_hw793 => k0_hw793

def k0_off1588 (v7537 : BitVec 32) : Fin 2 → Nat :=
  let v7544 : Index := Scalar.indexCast v7537
  let c0_2781 : Index := 0#32
  ![v7544.toNat, 0]

def k0_chk794 (v7537 : BitVec 32) : Prop :=
  (∀ a, (k0_off1588 v7537) a + S1x128.size a ≤ S10064x128.size a)
theorem k0_off1588_inb : ∀ (v7537 : BitVec 32) (k0_hw794 : k0_chk794 v7537), ∀ a, (k0_off1588 v7537) a + S1x128.size a ≤ S10064x128.size a := fun v7537 k0_hw794 => k0_hw794

def k0_off1589 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c794_i32 : BitVec 32 := 794#32
  let v7550 : BitVec 32 := Scalar.addi v5 c794_i32
  let v7551 : Index := Scalar.indexCast v7550
  ![v7551.toNat]
def k0_off1590 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c794_i32_2784 : BitVec 32 := 794#32
  let v7553 : BitVec 32 := Scalar.addi v5 c794_i32_2784
  let c1_i32_2785 : BitVec 32 := 1#32
  let v7554 : BitVec 32 := Scalar.addi v7553 c1_i32_2785
  let v7555 : Index := Scalar.indexCast v7554
  ![v7555.toNat]
def k0_off1591 (v7552 : BitVec 32) : Fin 2 → Nat :=
  let v7557 : Index := Scalar.indexCast v7552
  let c0_2786 : Index := 0#32
  ![v7557.toNat, 0]

def k0_chk795 (v7552 : BitVec 32) : Prop :=
  (∀ a, (k0_off1591 v7552) a + S1x128.size a ≤ S10064x128.size a)
theorem k0_off1591_inb : ∀ (v7552 : BitVec 32) (k0_hw795 : k0_chk795 v7552), ∀ a, (k0_off1591 v7552) a + S1x128.size a ≤ S10064x128.size a := fun v7552 k0_hw795 => k0_hw795

def k0_off1592 (v7556 : BitVec 32) : Fin 2 → Nat :=
  let v7563 : Index := Scalar.indexCast v7556
  let c0_2788 : Index := 0#32
  ![v7563.toNat, 0]

def k0_chk796 (v7556 : BitVec 32) : Prop :=
  (∀ a, (k0_off1592 v7556) a + S1x128.size a ≤ S10064x128.size a)
theorem k0_off1592_inb : ∀ (v7556 : BitVec 32) (k0_hw796 : k0_chk796 v7556), ∀ a, (k0_off1592 v7556) a + S1x128.size a ≤ S10064x128.size a := fun v7556 k0_hw796 => k0_hw796

def k0_off1593 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c796_i32 : BitVec 32 := 796#32
  let v7569 : BitVec 32 := Scalar.addi v5 c796_i32
  let v7570 : Index := Scalar.indexCast v7569
  ![v7570.toNat]
def k0_off1594 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c796_i32_2791 : BitVec 32 := 796#32
  let v7572 : BitVec 32 := Scalar.addi v5 c796_i32_2791
  let c1_i32_2792 : BitVec 32 := 1#32
  let v7573 : BitVec 32 := Scalar.addi v7572 c1_i32_2792
  let v7574 : Index := Scalar.indexCast v7573
  ![v7574.toNat]
def k0_off1595 (v7571 : BitVec 32) : Fin 2 → Nat :=
  let v7576 : Index := Scalar.indexCast v7571
  let c0_2793 : Index := 0#32
  ![v7576.toNat, 0]

def k0_chk797 (v7571 : BitVec 32) : Prop :=
  (∀ a, (k0_off1595 v7571) a + S1x128.size a ≤ S10064x128.size a)
theorem k0_off1595_inb : ∀ (v7571 : BitVec 32) (k0_hw797 : k0_chk797 v7571), ∀ a, (k0_off1595 v7571) a + S1x128.size a ≤ S10064x128.size a := fun v7571 k0_hw797 => k0_hw797

def k0_off1596 (v7575 : BitVec 32) : Fin 2 → Nat :=
  let v7582 : Index := Scalar.indexCast v7575
  let c0_2795 : Index := 0#32
  ![v7582.toNat, 0]

def k0_chk798 (v7575 : BitVec 32) : Prop :=
  (∀ a, (k0_off1596 v7575) a + S1x128.size a ≤ S10064x128.size a)
theorem k0_off1596_inb : ∀ (v7575 : BitVec 32) (k0_hw798 : k0_chk798 v7575), ∀ a, (k0_off1596 v7575) a + S1x128.size a ≤ S10064x128.size a := fun v7575 k0_hw798 => k0_hw798

def k0_off1597 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c798_i32 : BitVec 32 := 798#32
  let v7588 : BitVec 32 := Scalar.addi v5 c798_i32
  let v7589 : Index := Scalar.indexCast v7588
  ![v7589.toNat]
def k0_off1598 (i : grid0.Coords) : Fin 1 → Nat :=
  let c2_i32 : BitVec 32 := 2#32
  let arg0 : BitVec 32 := BitVec.ofNat 32 (i 0).val
  let c400_i32 : BitVec 32 := 400#32
  let v0 : BitVec 32 := Scalar.muli arg0 c400_i32
  let v5 : BitVec 32 := Scalar.muli c2_i32 v0
  let c798_i32_2798 : BitVec 32 := 798#32
  let v7591 : BitVec 32 := Scalar.addi v5 c798_i32_2798
  let c1_i32_2799 : BitVec 32 := 1#32
  let v7592 : BitVec 32 := Scalar.addi v7591 c1_i32_2799
  let v7593 : Index := Scalar.indexCast v7592
  ![v7593.toNat]
def k0_off1599 (v7590 : BitVec 32) : Fin 2 → Nat :=
  let v7595 : Index := Scalar.indexCast v7590
  let c0_2800 : Index := 0#32
  ![v7595.toNat, 0]

def k0_chk799 (v7590 : BitVec 32) : Prop :=
  (∀ a, (k0_off1599 v7590) a + S1x128.size a ≤ S10064x128.size a)
theorem k0_off1599_inb : ∀ (v7590 : BitVec 32) (k0_hw799 : k0_chk799 v7590), ∀ a, (k0_off1599 v7590) a + S1x128.size a ≤ S10064x128.size a := fun v7590 k0_hw799 => k0_hw799

def k0_off1600 (v7594 : BitVec 32) : Fin 2 → Nat :=
  let v7601 : Index := Scalar.indexCast v7594
  let c0_2802 : Index := 0#32
  ![v7601.toNat, 0]

def k0_chk800 (v7594 : BitVec 32) : Prop :=
  (∀ a, (k0_off1600 v7594) a + S1x128.size a ≤ S10064x128.size a)
theorem k0_off1600_inb : ∀ (v7594 : BitVec 32) (k0_hw800 : k0_chk800 v7594), ∀ a, (k0_off1600 v7594) a + S1x128.size a ≤ S10064x128.size a := fun v7594 k0_hw800 => k0_hw800

def k0_off1601 (i : grid0.Coords) : Fin 2 → Nat :=
  let arg0 : BitVec 32 := BitVec.ofNat 32 (i 0).val
  let c400_i32 : BitVec 32 := 400#32
  let v0 : BitVec 32 := Scalar.muli arg0 c400_i32
  let c64_i32 : BitVec 32 := 64#32
  let v4 : BitVec 32 := Scalar.addi v0 c64_i32
  let v7639 : Index := Scalar.indexCast v4
  let c0_2825 : Index := 0#32
  ![v7639.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10064x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x128 : Shape := ⟨2, ![64, 128]⟩
abbrev S10000x2 : Shape := ⟨2, ![10000, 2]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S10000x128 : Shape := ⟨2, ![10000, 128]⟩
abbrev S10064x128 : Shape := ⟨2, ![10064, 128]⟩
abbrev S1 : Shape := ⟨1, ![1]⟩
abbrev S1x2 : Shape := ⟨2, ![1, 2]⟩
abbrev S2 : Shape := ⟨1, ![2]⟩
abbrev S2x1 : Shape := ⟨2, ![2, 1]⟩
abbrev S2x128 : Shape := ⟨2, ![2, 128]⟩

abbrev nBuf : Space → Nat
  | .hbm => 69
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S10000x2, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S10000x128, .f32⟩
  | .hbm, ⟨9, _⟩ => ⟨S10064x128, .f32⟩
  | .hbm, ⟨10, _⟩ => ⟨S10000, .i32⟩
  | .hbm, ⟨11, _⟩ => ⟨S_, .i32⟩
  | .hbm, ⟨12, _⟩ => ⟨S10000, .i32⟩
  | .hbm, ⟨13, _⟩ => ⟨S10000x2, .i32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S_, .i32⟩
  | .hbm, ⟨19, _⟩ => ⟨S10064x128, .f32⟩
  | .hbm, ⟨20, _⟩ => ⟨S_, .i32⟩
  | .hbm, ⟨21, _⟩ => ⟨S_, .i1⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S1x2, .i32⟩
  | .hbm, ⟨26, _⟩ => ⟨S2, .i32⟩
  | .hbm, ⟨27, _⟩ => ⟨S_, .i32⟩
  | .hbm, ⟨28, _⟩ => ⟨S2, .i32⟩
  | .hbm, ⟨29, _⟩ => ⟨S2, .i1⟩
  | .hbm, ⟨30, _⟩ => ⟨S_, .i32⟩
  | .hbm, ⟨31, _⟩ => ⟨S2, .i32⟩
  | .hbm, ⟨32, _⟩ => ⟨S2, .i32⟩
  | .hbm, ⟨33, _⟩ => ⟨S2, .i32⟩
  | .hbm, ⟨34, _⟩ => ⟨S2x1, .i32⟩
  | .hbm, ⟨35, _⟩ => ⟨S2x128, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S128, .f32⟩
  | .hbm, ⟨57, _⟩ => ⟨S128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1, .i32⟩
  | .hbm, ⟨66, _⟩ => ⟨S10064x128, .f32⟩
  | .hbm, ⟨67, _⟩ => ⟨S_, .i32⟩
  | .hbm, ⟨68, _⟩ => ⟨S_, .i32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev main_while0c_c_7 : Ref sig .tc := ⟨.hbm, 20, rfl⟩
abbrev main_while0c_v4 : Ref sig .tc := ⟨.hbm, 21, rfl⟩
abbrev main_while0b_call0_v0 : Ref sig .tc := ⟨.hbm, 22, rfl⟩
abbrev main_while0b_v4 : Ref sig .tc := ⟨.hbm, 23, rfl⟩
abbrev main_while0b_call1_c : Ref sig .tc := ⟨.hbm, 24, rfl⟩
abbrev main_while0b_call1_v0 : Ref sig .tc := ⟨.hbm, 25, rfl⟩
abbrev main_while0b_v5 : Ref sig .tc := ⟨.hbm, 26, rfl⟩
abbrev main_while0b_c_7 : Ref sig .tc := ⟨.hbm, 27, rfl⟩
abbrev main_while0b_v6 : Ref sig .tc := ⟨.hbm, 28, rfl⟩
abbrev main_while0b_v7 : Ref sig .tc := ⟨.hbm, 29, rfl⟩
abbrev main_while0b_c_8 : Ref sig .tc := ⟨.hbm, 30, rfl⟩
abbrev main_while0b_v8 : Ref sig .tc := ⟨.hbm, 31, rfl⟩
abbrev main_while0b_v9 : Ref sig .tc := ⟨.hbm, 32, rfl⟩
abbrev main_while0b_v10 : Ref sig .tc := ⟨.hbm, 33, rfl⟩
abbrev main_while0b_v11 : Ref sig .tc := ⟨.hbm, 34, rfl⟩
abbrev main_while0b_v12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_cst_9 : Ref sig .tc := ⟨.hbm, 41, rfl⟩
abbrev main_while0b_v18 : Ref sig .tc := ⟨.hbm, 42, rfl⟩
abbrev main_while0b_v19 : Ref sig .tc := ⟨.hbm, 43, rfl⟩
abbrev main_while0b_v20 : Ref sig .tc := ⟨.hbm, 44, rfl⟩
abbrev main_while0b_cst_10 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_cst_11 : Ref sig .tc := ⟨.hbm, 49, rfl⟩
abbrev main_while0b_v24 : Ref sig .tc := ⟨.hbm, 50, rfl⟩
abbrev main_while0b_v25 : Ref sig .tc := ⟨.hbm, 51, rfl⟩
abbrev main_while0b_cst_12 : Ref sig .tc := ⟨.hbm, 52, rfl⟩
abbrev main_while0b_v26 : Ref sig .tc := ⟨.hbm, 53, rfl⟩
abbrev main_while0b_v27 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_c_13 : Ref sig .tc := ⟨.hbm, 58, rfl⟩
abbrev main_while0b_v31 : Ref sig .tc := ⟨.hbm, 59, rfl⟩
abbrev main_while0b_c_14 : Ref sig .tc := ⟨.hbm, 60, rfl⟩
abbrev main_while0b_v32 : Ref sig .tc := ⟨.hbm, 61, rfl⟩
abbrev main_while0b_c_15 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_c_16 : Ref sig .tc := ⟨.hbm, 67, rfl⟩
abbrev main_while0b_v37 : Ref sig .tc := ⟨.hbm, 68, rfl⟩

abbrev nD : Nat := 1
abbrev τ : Topo := Topo.v7x

variable {F : FTy → Type} [FloatOps F]

abbrev main_while0_count : Scf.Loop 32 := ⟨0#32, 10000#32, 1#32⟩
-- ==== Proof.Rolled.lean ====
module

public import proofs.«01_k».proof.Proof.Gen.KernelIdeal
public import Idealize.ShloMosaic.Lib.Pipeline.Regions

/-!
# The unrolled gather, rolled up

The body of one pass reads, for each of the four hundred rows of a block, two words of the table and the two rows
of the node buffer they name, and writes those rows into row `j` of the two gather buffers. The printed program
spells the four hundred steps out. Here one step is written once, with the row number as an argument, and the
printed pieces are shown to be runs of it.
-/

@[expose] public section

noncomputable section

namespace Cert.KernelIdeal.Rolled

open Idealize.ShloMosaic Idealize.ShloMosaic.TcCoe
open Idealize.SL Idealize.SL.Sem
open Cert.KernelIdeal Cert.KernelIdeal.Facts Cert.KernelIdeal.K0.Facts₀ Cert.KernelIdeal.Shapes1.Facts₀

variable {F : FTy → Type} [FloatOps F]

/-- The table offset of the first word of row `j` of the block at grid point `i`, as the kernel computes it. -/
def offA (i : grid0.Coords) (j : ℕ) : Fin 1 → ℕ :=
  ![(Scalar.indexCast (Scalar.addi (Scalar.muli 2#32 (Scalar.muli (BitVec.ofNat 32 (i 0).val) 400#32))
      (BitVec.ofNat 32 (2 * j)))).toNat]

/-- The table offset of the second word of row `j`. -/
def offB (i : grid0.Coords) (j : ℕ) : Fin 1 → ℕ :=
  ![(Scalar.indexCast (Scalar.addi (Scalar.addi (Scalar.muli 2#32 (Scalar.muli (BitVec.ofNat 32 (i 0).val) 400#32))
      (BitVec.ofNat 32 (2 * j))) 1#32)).toNat]

theorem offA_eq (i : grid0.Coords) (j : ℕ) (hj : j < 400) : offA i j = ![800 * (i 0).val + 2 * j] := by
  have hi : (i 0).val < 25 := (i 0).isLt
  unfold offA
  congr 1
  simp only [Scalar.indexCast, Scalar.addi, Scalar.muli, IntOp.addi, IntOp.muli, BitVec.toNat_add, BitVec.toNat_mul, BitVec.toNat_ofNat]
  omega

theorem offB_eq (i : grid0.Coords) (j : ℕ) (hj : j < 400) : offB i j = ![800 * (i 0).val + 2 * j + 1] := by
  have hi : (i 0).val < 25 := (i 0).isLt
  unfold offB
  congr 1
  simp only [Scalar.indexCast, Scalar.addi, Scalar.muli, IntOp.addi, IntOp.muli, BitVec.toNat_add, BitVec.toNat_mul, BitVec.toNat_ofNat]
  omega

theorem offA_inb (i : grid0.Coords) (j : ℕ) (hj : j < 400) : ∀ a, offA i j a + S1.size a ≤ S20000.size a := by
  have hi : (i 0).val < 25 := (i 0).isLt
  rw [offA_eq i j hj]
  intro a
  fin_cases a
  show 800 * (i 0).val + 2 * j + 1 ≤ 20000
  omega

theorem offB_inb (i : grid0.Coords) (j : ℕ) (hj : j < 400) : ∀ a, offB i j a + S1.size a ≤ S20000.size a := by
  have hi : (i 0).val < 25 := (i 0).isLt
  rw [offB_eq i j hj]
  intro a
  fin_cases a
  show 800 * (i 0).val + 2 * j + 1 + 1 ≤ 20000
  omega

theorem row_inb (j : ℕ) (hj : j < 400) : ∀ a, (![j, 0] : Fin 2 → ℕ) a + S1x128.size a ≤ S400x128.size a := by
  intro a
  fin_cases a
  · show j + 1 ≤ 400
    omega
  · show 0 + 128 ≤ 128
    omega

/-- The first half of a step: both words of the table, checked, and the row the first of them names. -/
def stepA (i : grid0.Coords) (arg1 : Memref sig .tc .smem S20000 .i32) (arg8 : Memref sig .tc .vmem S10064x128 .f32)
    (j : ℕ) (hj : j < 400) :
    Prog (TpuEff nD τ sig (Elt F) (Λ₀ F) .tc) (Σ' (w : Elt F .i32) (_ : k0_chk1 w), FVec F S1x128 .f32) := do
  let v : Elt F .i32 ← smemLoad arg1 (Rect.unit (s := S20000) (offA i j) S1.size (offA_inb i j hj)) numel1_S1 rfl
  have hv : k0_chk1 v := (← Prog.lift (TpuEff.assume (k0_chk1 v) (k0_chk1.dec v))).down
  let w : Elt F .i32 ← smemLoad arg1 (Rect.unit (s := S20000) (offB i j) S1.size (offB_inb i j hj)) numel1_S1 rfl
  have hw : k0_chk1 w := (← Prog.lift (TpuEff.assume (k0_chk1 w) (k0_chk1.dec w))).down
  let x : Vec F S1x128 .f32 ← Prog.lift (.load arg8 (Rect.unit (s := S10064x128) (k0_off3 v) S1x128.size
    (k0_off3_inb v hv)).toLoadRect (View.loadsAt_vmem h_S1x128))
  pure ⟨w, hw, shapeCast S1x128 x shapeCasts_S1x128_S1x128⟩

/-- The second half of a step: the row is written at row `j` of the first gather buffer, and the row the second
word names at row `j` of the second one. -/
def stepB (arg8 : Memref sig .tc .vmem S10064x128 .f32) (arg9 : Memref sig .tc .vmem S400x128 .f32)
    (arg10 : Memref sig .tc .vmem S400x128 .f32) (j : ℕ) (hj : j < 400)
    (w : Elt F .i32) (hw : k0_chk1 w) (x : FVec F S1x128 .f32) :
    Prog (TpuEff nD τ sig (Elt F) (Λ₀ F) .tc) PUnit := do
  let _d : Vec F S1x128 .f32 ← Prog.lift (.load arg9 (Rect.unit (s := S400x128) ![j, 0] S1x128.size
    (row_inb j hj)).toLoadRect (View.loadsAt_vmem h_S1x128))
  Prog.lift (.store arg9 (Rect.unit (s := S400x128) ![j, 0] S1x128.size (row_inb j hj))
    (shapeCast S1x128 x shapeCasts_S1x128_S1x128) Finset.univ (View.stores_vmem_bits_univ h_S1x128 rfl) (.inl rfl))
  let y : Vec F S1x128 .f32 ← Prog.lift (.load arg8 (Rect.unit (s := S10064x128) (k0_off3 w) S1x128.size
    (k0_off3_inb w hw)).toLoadRect (View.loadsAt_vmem h_S1x128))
  let _e : Vec F S1x128 .f32 ← Prog.lift (.load arg10 (Rect.unit (s := S400x128) ![j, 0] S1x128.size
    (row_inb j hj)).toLoadRect (View.loadsAt_vmem h_S1x128))
  Prog.lift (.store arg10 (Rect.unit (s := S400x128) ![j, 0] S1x128.size (row_inb j hj))
    (shapeCast S1x128 (shapeCast S1x128 y shapeCasts_S1x128_S1x128 : FVec F S1x128 .f32) shapeCasts_S1x128_S1x128)
    Finset.univ (View.stores_vmem_bits_univ h_S1x128 rfl) (.inl rfl))

/-- `n` steps from row `j` on, then `k`. -/
def steps {α : Type} (i : grid0.Coords) (arg1 : Memref sig .tc .smem S20000 .i32)
    (arg8 : Memref sig .tc .vmem S10064x128 .f32) (arg9 arg10 : Memref sig .tc .vmem S400x128 .f32) :
    (n j : ℕ) → j + n ≤ 400 → Prog (TpuEff nD τ sig (Elt F) (Λ₀ F) .tc) α → Prog (TpuEff nD τ sig (Elt F) (Λ₀ F) .tc) α
  | 0, _, _, k => k
  | n + 1, j, h, k => stepA i arg1 arg8 j (by omega) >>= fun x =>
      stepB arg8 arg9 arg10 j (by omega) x.1 x.2.1 x.2.2 >>= fun _ => steps i arg1 arg8 arg9 arg10 n (j + 1) (by omega) k

/-- The hidden layer before its activation: the two gathered operands against the two halves of the first weight,
plus the bias. -/
def hidden (x0 : FVec F S400x128 .f32) (wa : FVec F S128x256 .f32) (x1 : FVec F S400x128 .f32)
    (wb : FVec F S128x256 .f32) (b1 : FVec F S1x256 .f32) : FVec F S400x256 .f32 :=
  addf
    (addf
      (matmul dot_S400x128_S128x256_S400x256_1_0_0_1_n_n none x0 (shapeCast S128x256 wa shapeCasts_S128x256_S128x256)
        (constant S400x256 .f32 0x00000000#32))
      (matmul dot_S400x128_S128x256_S400x256_1_0_0_1_n_n none x1 (shapeCast S128x256 wb shapeCasts_S128x256_S128x256)
        (constant S400x256 .f32 0x00000000#32)))
    (broadcastTo S400x256 (shapeCast S1x256 b1 shapeCasts_S1x256_S1x256) broadcasts_S1x256_S400x256)

/-- The activation, as the kernel computes it. -/
def act (x : FVec F S400x256 .f32) : FVec F S400x256 .f32 :=
  mulf x
    (mulf (broadcast S400x256 (Scalar.ofBits .f32 0x3F000000#32))
      (addf (broadcast S400x256 (Scalar.ofBits .f32 0x3F800000#32))
        (tanh
          (mulf (broadcast S400x256 (Scalar.ofBits .f32 0x3F4C422A#32))
            (addf x (mulf (broadcast S400x256 (Scalar.ofBits .f32 0x3D372713#32)) (mulf x (mulf x x))))))))

/-- The new rows of a block. -/
def fresh (h : FVec F S400x256 .f32) (w2 : FVec F S256x128 .f32) (b2 : FVec F S1x128 .f32) : FVec F S400x128 .f32 :=
  addf
    (matmul dot_S400x256_S256x128_S400x128_1_0_0_1_n_n none (act h) w2 (constant S400x128 .f32 0x00000000#32))
    (broadcastTo S400x128 (shapeCast S1x128 b2 shapeCasts_S1x128_S1x128) broadcasts_S1x128_S400x128)

/-- How many entries of the block a pass changed. -/
def changes (new old : FVec F S400x128 .f32) : F .f32 :=
  extractAt ![0, 0, 0]
    (shapeCast S1x1x1
      (multiReduction .add [1, 2] S1
        (shapeCast S1x400x128
          (sitofp .f32 (extui 32 (cmpf .one new (shapeCast S400x128 old shapeCasts_S400x128_S400x128)) natLt_1_32) :
            FVec F S400x128 .f32)
          shapeCasts_S400x128_S1x400x128)
        0x00000000#32 reduces_S1x400x128_S1 (.inl rfl) rfl : FVec F S1 .f32)
      shapeCasts_S1_S1x1x1)
    inpos_S1x1x1_p0_0_0

/-- What a pass does once its rows are gathered. -/
def finish (i : grid0.Coords) (arg1 : Memref sig .tc .smem S20000 .i32) (harg1 : arg1.IsWhole) (arg8 : Memref sig .tc .vmem S10064x128 .f32) (harg8 : arg8.IsWhole) (arg9 : Memref sig .tc .vmem S400x128 .f32) (harg9 : arg9.IsWhole) (arg10 : Memref sig .tc .vmem S400x128 .f32) (harg10 : arg10.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg11 : BitVec 32) (arg12 : BitVec 1) :
    Prog (TpuEff nD τ sig (Elt F) (Λ₀ F) .tc) (BitVec 32 × BitVec 1) := do
  let x0 : Vec F S400x128 .f32 ← Prog.lift (.load arg9 (Rect.unit (s := S400x128) ![0, 0] S400x128.size
    inb_S400x128_S400x128_0_0).toLoadRect (View.loadsAt_vmem h_S400x128))
  let wa : Vec F S128x256 .f32 ← Prog.lift (.load arg3 (Rect.unit (s := S128x256) ![0, 0] S128x256.size
    inb_S128x256_S128x256_0_0).toLoadRect (View.loadsAt_vmem h_S128x256))
  let x1 : Vec F S400x128 .f32 ← Prog.lift (.load arg10 (Rect.unit (s := S400x128) ![0, 0] S400x128.size
    inb_S400x128_S400x128_0_0).toLoadRect (View.loadsAt_vmem h_S400x128))
  let wb : Vec F S128x256 .f32 ← Prog.lift (.load arg4 (Rect.unit (s := S128x256) ![0, 0] S128x256.size
    inb_S128x256_S128x256_0_0).toLoadRect (View.loadsAt_vmem h_S128x256))
  let b1 : Vec F S1x256 .f32 ← Prog.lift (.load arg5 (Rect.unit (s := S1x256) ![0, 0] S1x256.size
    inb_S1x256_S1x256_0_0).toLoadRect (View.loadsAt_vmem h_S1x256))
  let w2 : Vec F S256x128 .f32 ← Prog.lift (.load arg6 (Rect.unit (s := S256x128) ![0, 0] S256x128.size
    inb_S256x128_S256x128_0_0).toLoadRect (View.loadsAt_vmem h_S256x128))
  let b2 : Vec F S1x128 .f32 ← Prog.lift (.load arg7 (Rect.unit (s := S1x128) ![0, 0] S1x128.size
    inb_S1x128_S1x128_0_0).toLoadRect (View.loadsAt_vmem h_S1x128))
  let old : Vec F S400x128 .f32 ← Prog.lift (.load arg8 (Rect.unit (s := S10064x128) (k0_off1601 i) S400x128.size
    (k0_off1601_inb i)).toLoadRect (View.loadsAt_vmem h_S400x128))
  let _d : Vec F S400x128 .f32 ← Prog.lift (.load arg8 (Rect.unit (s := S10064x128) (k0_off1601 i) S400x128.size
    (k0_off1601_inb i)).toLoadRect (View.loadsAt_vmem h_S400x128))
  Prog.lift (.store arg8 (Rect.unit (s := S10064x128) (k0_off1601 i) S400x128.size (k0_off1601_inb i))
    (fresh (hidden x0 wa x1 wb b1) w2 b2) Finset.univ (View.stores_vmem_bits_univ h_S400x128 rfl) (.inl rfl))
  Prog.lift (.call (1 : (Λ₀ F).Label) ⟨i, arg1, harg1, arg8, harg8, arg9, harg9, arg10, harg10, arg3, harg3, arg4,
    harg4, arg5, harg5, arg6, harg6, arg7, harg7, Scalar.addi arg11 1#32,
    Scalar.cmpf .ogt (changes (fresh (hidden x0 wa x1 wb b1) w2 b2) old) (Scalar.ofBits .f32 0x00000000#32)⟩)

/-- One turn of the loop is the test, the four hundred steps and the rest of the pass. -/
theorem while_eq (i : grid0.Coords) (arg1 : Memref sig .tc .smem S20000 .i32) (harg1 : arg1.IsWhole) (arg8 : Memref sig .tc .vmem S10064x128 .f32) (harg8 : arg8.IsWhole) (arg9 : Memref sig .tc .vmem S400x128 .f32) (harg9 : arg9.IsWhole) (arg10 : Memref sig .tc .vmem S400x128 .f32) (harg10 : arg10.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg11 : BitVec 32) (arg12 : BitVec 1) :
    cc0_while1 (F := F) i arg1 harg1 arg8 harg8 arg9 harg9 arg10 harg10 arg3 harg3 arg4 harg4 arg5 harg5 arg6 harg6 arg7 harg7 arg11 arg12 =
      if Scalar.andi arg12 (Scalar.cmpi .slt arg11 400#32) = 1#1 then
        steps i arg1 arg8 arg9 arg10 400 0 (by omega) (finish i arg1 harg1 arg8 harg8 arg9 harg9 arg10 harg10 arg3 harg3 arg4 harg4 arg5 harg5 arg6 harg6 arg7 harg7 arg11 arg12)
      else pure (arg11, arg12) := by
  chain_rfl

end Cert.KernelIdeal.Rolled
-- ==== Proof.Pass.lean ====
module

public import proofs.«01_k».proof.Proof.Rolled
public import Idealize.ShloMosaic.Lib.Tactic
public import Idealize.ShloMosaic.Lib.Pipeline.Frame
public import Idealize.ShloMosaic.Lib.Pipeline.Value
public import Idealize.ShloMosaic.Lib.ValueIdxCore

/-!
# What one pass does to the node buffer, and that the body does it

The node buffer, the table and the weights are functions of their indices. `pass` is the effect of one turn of the
loop on the node buffer, `settle` that of the whole loop; the theorems say that the program's loop computes them.
-/

@[expose] public section

noncomputable section

namespace Cert.KernelIdeal.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix1)
open Idealize.ShloMosaic.Pipeline
open Cert.KernelIdeal Cert.KernelIdeal.Facts Cert.KernelIdeal.K0.Facts₀ Cert.KernelIdeal.Shapes1.Facts₀

variable {F : FTy → Type} [FloatOps F]

local notation "𝕄" => MT nD τ sig Unit (Elt F) ℕ (UR sig nD τ) ℕ

/-! ### Loads and stores of an owned memref -/

section Rules

variable {Λ : Labels} {defs : Defs nD τ sig (Elt F) Λ} (𝒱 : Variants) (c : Dev nD) (bd : Option 𝒱.V) {Γ : PendingWaitsCtx sig Unit} (E : Set ℕ)
  {α : Type}

/-- A load through a rectangle reads the owned contents at the rectangle's places. -/
theorem wp_load_owns {cs : CoreSpace} {s : Shape} {e : EltTy} {m : Memref sig .tc cs s e} {r : Rect s} {hl : m.view.LoadsAt r.toLoadRect}
    {k : (r.shape.Idx → Elt F e) → Prog (TpuEff nD τ sig (Elt F) Λ .tc) α} {q : PosShare TreeShare} {X : s.Idx → Elt F e} {Q : α → sProp 𝕄} :
    (owns (c : Thread nD τ) m q X : sProp 𝕄)
      ⊢ iprop((owns (c : Thread nD τ) m q X -∗ wp frame (wpE' defs 𝒱 (c : Thread nD τ) bd Γ) E (k fun x => X (r.emb x)) Q)
        -∗ wp frame (wpE' defs 𝒱 (c : Thread nD τ) bd Γ) E (.op (.load m r.toLoadRect hl) k) Q) := by
  unfold owns
  iintro ⟨%f, %hf, H⟩ Hk
  subst hf
  iapply (wp_load 𝒱 (c : Thread nD τ) bd E (m := m) (r := r.toLoadRect) (View.setOn_subset_set _ _)) $$ H
  iintro H
  iapply Hk
  iexists f
  isplitr; · ipureintro; rfl
  iexact H

/-- A store through a rectangle overwrites the owned contents at the rectangle's places. -/
theorem wp_store_owns {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ .tc) α} {X : s.Idx → Elt F e} {Q : α → sProp 𝕄} :
    (owns (c : Thread nD τ) m fullShare X : sProp 𝕄)
      ⊢ iprop((owns (c : Thread nD τ) m fullShare (Function.extend r.emb w X) -∗ wp frame (wpE' defs 𝒱 (c : Thread nD τ) bd Γ) E (k ⟨⟩) Q)
        -∗ wp frame (wpE' defs 𝒱 (c : Thread nD τ) bd Γ) E (.op (.store m r w Finset.univ hx hm) k) Q) := by
  unfold owns
  iintro ⟨%f, %hf, H⟩ Hk
  subst hf
  iapply (wp_store 𝒱 (c : Thread nD τ) bd E (m := m) (r := r) (Mk := Finset.univ) (S := m.view.set)
    (by rw [View.setOn_univ, View.set_slice]; exact View.setOn_subset_set _ _)) $$ H
  iintro H
  iapply Hk
  iexists _
  isplitr
  · ipureintro
    show View.read _ m.view (View.write _ (m.view.slice r) f w Finset.univ) = _
    funext y
    by_cases hy : ∃ x, r.emb x = y
    · obtain ⟨x, rfl⟩ := hy
      rw [View.read_slice_write_emb _ _ _ (Finset.mem_univ x), r.emb.injective.extend_apply]
    · rw [Function.extend_apply' _ _ _ hy, View.read_slice_write_of_not_mem]
      intro hmem
      obtain ⟨x, -, hx⟩ := Finset.mem_map.mp hmem
      exact hy ⟨x, hx⟩
  iexact H

end Rules

/-! ### One pass, as a function of the node buffer -/

/-- Entry `n` of the flattened table. -/
def word (T : S20000.Idx → BitVec 32) (n : ℕ) : BitVec 32 :=
  if h : n < 20000 then T (ix1 ⟨n, h⟩) else 0#32

/-- The row of the node buffer that a word names. -/
def rowOf (w : BitVec 32) : Fin 10064 :=
  if h : w.toNat < 10064 then ⟨w.toNat, h⟩ else 0

/-- The rows of block `b` gathered from the node buffer: row `j` is the one named by entry `800 b + 2 j + o`. -/
def gather (T : S20000.Idx → BitVec 32) (b o : ℕ) (X : FVec F S10064x128 .f32) : FVec F S400x128 .f32 :=
  fun y => X (ix2 (rowOf (word T (800 * b + 2 * (y 0).val + o))) (y 1))

/-- Row `j` of a gather buffer. -/
abbrev rowRect (j : ℕ) (hj : j < 400) : Rect S400x128 := Rect.unit (s := S400x128) ![j, 0] S1x128.size (row_inb j hj)

theorem rowRect_emb (j : ℕ) (hj : j < 400) (x : S1x128.Idx) : (rowRect j hj).emb x = ix2 (⟨j, hj⟩ : Fin 400) (x 1) := by
  funext a
  apply Fin.ext
  rw [Rect.emb_apply]
  have h0 : (x 0).val = 0 := by have := (x 0).isLt; change (x 0).val < 1 at this; omega
  match a with
  | ⟨0, _⟩ => show j + 1 * (x 0).val = j; omega
  | ⟨1, _⟩ => show 0 + 1 * (x 1).val = (x 1).val; omega

/-- Writing row `j` extends the rows that agree with `G` by one. -/
theorem row_written (G Y : FVec F S400x128 .f32) (j : ℕ) (hj : j < 400) (w : FVec F S1x128 .f32)
    (hY : ∀ y : S400x128.Idx, (y 0).val < j → Y y = G y) (hw : ∀ x : S1x128.Idx, w x = G (ix2 (⟨j, hj⟩ : Fin 400) (x 1))) :
    ∀ y : S400x128.Idx, (y 0).val < j + 1 → Function.extend (rowRect j hj).emb w Y y = G y := by
  intro y hy
  by_cases h : (y 0).val = j
  · have : y = (rowRect j hj).emb (ix2 (0 : Fin 1) (y 1)) := by
      rw [rowRect_emb]
      funext a
      match a with
      | ⟨0, _⟩ => exact Fin.ext h
      | ⟨1, _⟩ => rfl
    rw [this, (rowRect j hj).emb.injective.extend_apply, hw, rowRect_emb]; rfl
  · rw [Function.extend_apply' _ _ _ ?_, hY y (by omega)]
    rintro ⟨x, rfl⟩
    rw [rowRect_emb] at h
    exact h rfl

theorem chk_of (w : BitVec 32) (h : w.toNat < 10064) : k0_chk1 w := by
  intro a
  match a with
  | ⟨0, _⟩ => show (Scalar.indexCast w).toNat + 1 ≤ 10064; have : (Scalar.indexCast w).toNat = w.toNat := rfl; omega
  | ⟨1, _⟩ => show 0 + 128 ≤ 128; omega

theorem nodeRow_emb (w : BitVec 32) (hw : k0_chk1 w) (h : w.toNat < 10064) (x : S1x128.Idx) :
    (Rect.unit (s := S10064x128) (k0_off3 w) S1x128.size (k0_off3_inb w hw)).emb x = ix2 (rowOf w) (x 1) := by
  funext a
  apply Fin.ext
  rw [Rect.emb_apply]
  have h0 : (x 0).val = 0 := by have := (x 0).isLt; change (x 0).val < 1 at this; omega
  match a with
  | ⟨0, _⟩ =>
    show (Scalar.indexCast w).toNat + 1 * (x 0).val = (rowOf w).val
    have : (Scalar.indexCast w).toNat = w.toNat := rfl
    rw [rowOf, dif_pos h]; show _ = w.toNat; omega
  | ⟨1, _⟩ => show 0 + 1 * (x 1).val = (x 1).val; omega

theorem tabA_emb (T : S20000.Idx → BitVec 32) (i : grid0.Coords) (j : ℕ) (hj : j < 400) (x : S1.Idx) :
    T ((Rect.unit (s := S20000) (offA i j) S1.size (offA_inb i j hj)).emb x) = word T (800 * (i 0).val + 2 * j + 0) := by
  have hi : (i 0).val < 25 := (i 0).isLt
  have h0 : (x 0).val = 0 := by have := (x 0).isLt; change (x 0).val < 1 at this; omega
  rw [word, dif_pos (by omega)]
  congr 1
  funext a
  apply Fin.ext
  rw [Rect.emb_apply]
  match a with
  | ⟨0, _⟩ => show offA i j 0 + 1 * (x 0).val = _; rw [offA_eq i j hj, h0]; rfl

theorem tabB_emb (T : S20000.Idx → BitVec 32) (i : grid0.Coords) (j : ℕ) (hj : j < 400) (x : S1.Idx) :
    T ((Rect.unit (s := S20000) (offB i j) S1.size (offB_inb i j hj)).emb x) = word T (800 * (i 0).val + 2 * j + 1) := by
  have hi : (i 0).val < 25 := (i 0).isLt
  have h0 : (x 0).val = 0 := by have := (x 0).isLt; change (x 0).val < 1 at this; omega
  rw [word, dif_pos (by omega)]
  congr 1
  funext a
  apply Fin.ext
  rw [Rect.emb_apply]
  match a with
  | ⟨0, _⟩ => show offB i j 0 + 1 * (x 0).val = _; rw [offB_eq i j hj, h0]; rfl

theorem gather_row (T : S20000.Idx → BitVec 32) (hT : ∀ y, (T y).toNat < 10064) (i : grid0.Coords) (j : ℕ) (hj : j < 400)
    (o : ℕ) (X : FVec F S10064x128 .f32) (e : S20000.Idx) (hw : k0_chk1 (T e)) (he : T e = word T (800 * (i 0).val + 2 * j + o))
    (x : S1x128.Idx) :
    X ((Rect.unit (s := S10064x128) (k0_off3 (T e)) S1x128.size (k0_off3_inb (T e) hw)).emb x)
      = gather T (i 0).val o X (ix2 (⟨j, hj⟩ : Fin 400) (x 1)) := by
  rw [nodeRow_emb _ hw (hT _), he]
  rfl

/-! ### The gather of a pass -/

section Steps

variable (𝒱 : Variants) (c : Dev nD) (bd : Option 𝒱.V) {Γ : PendingWaitsCtx sig Unit} (E : Set ℕ) {α : Type}
  (T : S20000.Idx → BitVec 32) (hT : ∀ y, (T y).toNat < 10064) (i : grid0.Coords)
  (arg1 : Memref sig .tc .smem S20000 .i32) (arg8 : Memref sig .tc .vmem S10064x128 .f32)
  (arg9 arg10 : Memref sig .tc .vmem S400x128 .f32) (q : PosShare TreeShare) (X : FVec F S10064x128 .f32)

include hT in
/-- From row `j` on, with the rows before `j` gathered: the steps leave every row gathered. -/
theorem wp_steps (k : Prog (TpuEff nD τ sig (Elt F) (Λ₀ F) .tc) α) {Q : α → sProp 𝕄} :
    ∀ (n j : ℕ) (h : j + n ≤ 400) (_ : j + n = 400) (Y0 Y1 : FVec F S400x128 .f32)
      (_ : ∀ y : S400x128.Idx, (y 0).val < j → Y0 y = gather T (i 0).val 0 X y)
      (_ : ∀ y : S400x128.Idx, (y 0).val < j → Y1 y = gather T (i 0).val 1 X y),
    (iprop(owns (c : Thread nD τ) arg1 q T ∗ owns (c : Thread nD τ) arg8 fullShare X ∗ owns (c : Thread nD τ) arg9 fullShare Y0
        ∗ owns (c : Thread nD τ) arg10 fullShare Y1) : sProp 𝕄)
      ⊢ iprop((owns (c : Thread nD τ) arg1 q T ∗ owns (c : Thread nD τ) arg8 fullShare X
          ∗ owns (c : Thread nD τ) arg9 fullShare (gather T (i 0).val 0 X)
          ∗ owns (c : Thread nD τ) arg10 fullShare (gather T (i 0).val 1 X)
          -∗ wp frame (wpE' (defs₀ (F := F)) 𝒱 (c : Thread nD τ) bd Γ) E k Q)
        -∗ wp frame (wpE' (defs₀ (F := F)) 𝒱 (c : Thread nD τ) bd Γ) E (steps i arg1 arg8 arg9 arg10 n j h k) Q) := by
  intro n
  induction n with
  | zero =>
    intro j h hj Y0 Y1 h0 h1
    obtain rfl : j = 400 := hj
    have e0 : Y0 = gather T (i 0).val 0 X := funext fun y => h0 y (y 0).isLt
    have e1 : Y1 = gather T (i 0).val 1 X := funext fun y => h1 y (y 0).isLt
    subst e0 e1
    unfold steps
    iintro H Hk
    iapply Hk $$ H
  | succ n ih =>
    intro j h hj Y0 Y1 h0 h1
    have hj' : j < 400 := by omega
    unfold steps stepA stepB
    simp only [smemLoad, smemLoadElt, Prog.lift, Prog.bind_op, Prog.bind_ret, Prog.pure_eq_ret, Prog.bind_assoc, shapeCast_self]
    iintro ⟨H1, H8, H9, H10⟩ Hk
    iapply (wp_load_owns 𝒱 c bd E (m := arg1) (X := T)) $$ H1; iintro H1
    iapply (wp_assume 𝒱 (c : Thread nD τ) bd E (chk_of _ (hT _)))
    iapply (wp_load_owns 𝒱 c bd E (m := arg1) (X := T)) $$ H1; iintro H1
    iapply (wp_assume 𝒱 (c : Thread nD τ) bd E (chk_of _ (hT _)))
    iapply (wp_load_owns 𝒱 c bd E (m := arg8) (X := X)) $$ H8; iintro H8
    iapply (wp_load_owns 𝒱 c bd E (m := arg9)) $$ H9; iintro H9
    iapply (wp_store_owns 𝒱 c bd E (m := arg9)) $$ H9; iintro H9
    iapply (wp_load_owns 𝒱 c bd E (m := arg8) (X := X)) $$ H8; iintro H8
    iapply (wp_load_owns 𝒱 c bd E (m := arg10)) $$ H10; iintro H10
    iapply (wp_store_owns 𝒱 c bd E (m := arg10)) $$ H10; iintro H10
    iapply (ih (j + 1) _ (by omega) _ _
      (row_written _ _ j hj' _ h0 (gather_row T hT i j hj' 0 X _ (chk_of _ (hT _)) (tabA_emb T i j hj' _)))
      (row_written _ _ j hj' _ h1 (gather_row T hT i j hj' 1 X _ (chk_of _ (hT _)) (tabB_emb T i j hj' _)))) $$ [H1 H8 H9 H10]
    · isplitl [H1]; · iexact H1
      isplitl [H8]; · iexact H8
      isplitl [H9]; · iexact H9
      iexact H10
    iexact Hk

end Steps

end Cert.KernelIdeal.Rolled
-- ==== Proof.Settle.lean ====
module

public import proofs.«01_k».proof.Proof.Pass

/-!
# The whole loop of a grid point

`pass` is the effect of one turn of the loop on the node buffer, `settle` that of the whole loop, `point` that of the
body at a grid point. The theorems say that the program computes them.
-/

@[expose] public section

noncomputable section

namespace Cert.KernelIdeal.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix1)
open Idealize.ShloMosaic.Pipeline
open Cert.KernelIdeal Cert.KernelIdeal.Facts Cert.KernelIdeal.K0.Facts₀ Cert.KernelIdeal.Shapes1.Facts₀

variable {F : FTy → Type} [FloatOps F]

local notation "𝕄" => MT nD τ sig Unit (Elt F) ℕ (UR sig nD τ) ℕ

/-- The weights as the body finds them. -/
structure Weights (F : FTy → Type) where
  /-- The first weight's half for the first operand. -/
  wa : S128x256.Idx → F .f32
  /-- Its half for the second operand. -/
  wb : S128x256.Idx → F .f32
  /-- The first bias. -/
  b1 : S1x256.Idx → F .f32
  /-- The second weight. -/
  w2 : S256x128.Idx → F .f32
  /-- The second bias. -/
  b2 : S1x128.Idx → F .f32

/-- The rows of a point's block. -/
abbrev blockRect (i : grid0.Coords) : Rect S10064x128 :=
  Rect.unit (s := S10064x128) (k0_off1601 i) S400x128.size (k0_off1601_inb i)

/-- The rows a pass computes for the block. -/
def newRows (T : S20000.Idx → BitVec 32) (W : Weights F) (i : grid0.Coords) (X : FVec F S10064x128 .f32) :
    FVec F S400x128 .f32 :=
  fresh (hidden (gather T (i 0).val 0 X) W.wa (gather T (i 0).val 1 X) W.wb W.b1) W.w2 W.b2

/-- The rows the block held. -/
def oldRows (i : grid0.Coords) (X : FVec F S10064x128 .f32) : FVec F S400x128 .f32 := fun x => X ((blockRect i).emb x)

/-- One pass: the block's rows are replaced. -/
def pass (T : S20000.Idx → BitVec 32) (W : Weights F) (i : grid0.Coords) (X : FVec F S10064x128 .f32) :
    FVec F S10064x128 .f32 :=
  Function.extend (blockRect i).emb (newRows T W i X) X

/-- Whether the pass changed something. -/
def changed (T : S20000.Idx → BitVec 32) (W : Weights F) (i : grid0.Coords) (X : FVec F S10064x128 .f32) : BitVec 1 :=
  Scalar.cmpf .ogt (changes (newRows T W i X) (oldRows i X)) (Scalar.ofBits .f32 0x00000000#32)

/-- The loop: passes until one changes nothing, at most `n`. -/
def settle (T : S20000.Idx → BitVec 32) (W : Weights F) (i : grid0.Coords) :
    ℕ → BitVec 1 → FVec F S10064x128 .f32 → FVec F S10064x128 .f32
  | 0, _, X => X
  | n + 1, go, X => if go = 1#1 then settle T W i n (changed T W i X) (pass T W i X) else X

/-- The node buffer at the first point: the roots, then zeros. -/
def initial (R : FVec F S64x128 .f32) : FVec F S10064x128 .f32 :=
  fun y => if h : (y 0).val < 64 then R (ix2 (⟨(y 0).val, h⟩ : Fin 64) (y 1)) else Scalar.ofBits .f32 0x00000000#32

/-- What the body makes of the node buffer at a point. -/
def point (T : S20000.Idx → BitVec 32) (W : Weights F) (R : FVec F S64x128 .f32) (i : grid0.Coords)
    (X : FVec F S10064x128 .f32) : FVec F S10064x128 .f32 :=
  settle T W i 400 1#1 (if (i 0).val = 0 then initial R else X)

theorem whole_emb {s : Shape} (off : Fin s.rank → ℕ) (h : ∀ a, off a + s.size a ≤ s.size a) (x : s.Idx) :
    (Rect.unit (s := s) off s.size h).emb x = x := by
  funext a
  apply Fin.ext
  rw [Rect.emb_apply]
  show off a + 1 * (x a).val = (x a).val
  have := h a
  omega

section Rules

variable {Λ : Labels} {defs : Defs nD τ sig (Elt F) Λ} (𝒱 : Variants) (c : Dev nD) (bd : Option 𝒱.V) {Γ : PendingWaitsCtx sig Unit} (E : Set ℕ)
  {α : Type}

/-- A load of everything yields the owned contents. -/
theorem wp_load_all {cs : CoreSpace} {s : Shape} {e : EltTy} {m : Memref sig .tc cs s e} {off : Fin s.rank → ℕ}
    {h : ∀ a, off a + s.size a ≤ s.size a}
    {hl : m.view.LoadsAt (Rect.unit (s := s) off s.size h).toLoadRect}
    {k : (s.Idx → Elt F e) → Prog (TpuEff nD τ sig (Elt F) Λ .tc) α} {q : PosShare TreeShare} {X : s.Idx → Elt F e} {Q : α → sProp 𝕄} :
    (owns (c : Thread nD τ) m q X : sProp 𝕄)
      ⊢ iprop((owns (c : Thread nD τ) m q X -∗ wp frame (wpE' defs 𝒱 (c : Thread nD τ) bd Γ) E (k X) Q)
        -∗ wp frame (wpE' defs 𝒱 (c : Thread nD τ) bd Γ) E (.op (.load m (Rect.unit (s := s) off s.size h).toLoadRect hl) k) Q) := by
  have e : (fun x => X ((Rect.unit (s := s) off s.size h).emb x)) = X := funext fun x => congrArg X (whole_emb off h x)
  have := wp_load_owns (defs := defs) 𝒱 c bd (Γ := Γ) E (m := m) (r := Rect.unit (s := s) off s.size h) (hl := hl) (k := k) (q := q) (X := X) (Q := Q)
  rw [e] at this
  exact this

end Rules

/-- What the loop holds: the table, the weights, the node buffer, and the gather buffers with any contents. -/
def held (c : Dev nD) (T : S20000.Idx → BitVec 32) (W : Weights F) (arg1 : Memref sig .tc .smem S20000 .i32)
    (arg8 : Memref sig .tc .vmem S10064x128 .f32) (arg9 arg10 : Memref sig .tc .vmem S400x128 .f32)
    (arg3 arg4 : Memref sig .tc .vmem S128x256 .f32) (arg5 : Memref sig .tc .vmem S1x256 .f32)
    (arg6 : Memref sig .tc .vmem S256x128 .f32) (arg7 : Memref sig .tc .vmem S1x128 .f32) (q : PosShare TreeShare)
    (X : FVec F S10064x128 .f32) : sProp 𝕄 :=
  iprop(owns (c : Thread nD τ) arg1 q T ∗ owns (c : Thread nD τ) arg8 fullShare X
    ∗ (∃ Y0 : FVec F S400x128 .f32, owns (c : Thread nD τ) arg9 fullShare Y0)
    ∗ (∃ Y1 : FVec F S400x128 .f32, owns (c : Thread nD τ) arg10 fullShare Y1)
    ∗ owns (c : Thread nD τ) arg3 fullShare W.wa ∗ owns (c : Thread nD τ) arg4 fullShare W.wb
    ∗ owns (c : Thread nD τ) arg5 fullShare W.b1 ∗ owns (c : Thread nD τ) arg6 fullShare W.w2
    ∗ owns (c : Thread nD τ) arg7 fullShare W.b2)

/-- The loop's test. -/
theorem test_eq (p : BitVec 32) (go : BitVec 1) (hp : p.toNat ≤ 400) :
    Scalar.andi go (Scalar.cmpi .slt p 400#32) = 1#1 ↔ go = 1#1 ∧ p.toNat < 400 := by
  have h : Scalar.cmpi .slt p 400#32 = BitVec.ofBool (decide (p.toNat < 400)) := by
    show BitVec.ofBool (p.slt 400#32) = _
    congr 1
    rw [BitVec.slt_eq_decide, BitVec.toInt_eq_toNat_cond]
    have : (400#32).toInt = 400 := by decide
    rw [this, if_pos (by omega)]
    apply decide_eq_decide.mpr
    omega
  rw [h]
  show go &&& _ = _ ↔ _
  by_cases hlt : p.toNat < 400
  · simp only [hlt, decide_true, and_true]
    revert go; decide
  · simp only [hlt, decide_false, and_false, iff_false]
    revert go; decide

section Loop

variable (c : Dev nD) (E : Set ℕ) (T : S20000.Idx → BitVec 32) (hT : ∀ y, (T y).toNat < 10064) (W : Weights F) (i : grid0.Coords)
  (arg1 : Memref sig .tc .smem S20000 .i32) (harg1 : arg1.IsWhole) (arg8 : Memref sig .tc .vmem S10064x128 .f32) (harg8 : arg8.IsWhole)
  (arg9 : Memref sig .tc .vmem S400x128 .f32) (harg9 : arg9.IsWhole) (arg10 : Memref sig .tc .vmem S400x128 .f32) (harg10 : arg10.IsWhole)
  (arg3 : Memref sig .tc .vmem S128x256 .f32) (harg3 : arg3.IsWhole) (arg4 : Memref sig .tc .vmem S128x256 .f32) (harg4 : arg4.IsWhole)
  (arg5 : Memref sig .tc .vmem S1x256 .f32) (harg5 : arg5.IsWhole) (arg6 : Memref sig .tc .vmem S256x128 .f32) (harg6 : arg6.IsWhole)
  (arg7 : Memref sig .tc .vmem S1x128 .f32) (harg7 : arg7.IsWhole) (q : PosShare TreeShare)

include hT in
/-- From any node buffer, with `n` passes left, the loop leaves `settle`. -/
theorem wp_while :
    ∀ (n : ℕ) (Γ : PendingWaitsCtx sig Unit) (p : BitVec 32) (go : BitVec 1) (X : FVec F S10064x128 .f32) (_ : p.toNat + n = 400) (Q : BitVec 32 × BitVec 1 → sProp 𝕄),
    held c T W arg1 arg8 arg9 arg10 arg3 arg4 arg5 arg6 arg7 q X
      ⊢ iprop((∀ r, held c T W arg1 arg8 arg9 arg10 arg3 arg4 arg5 arg6 arg7 q (settle T W i n go X) -∗ Q r)
        -∗ wp frame (wpE' (defs₀ (F := F)) Idealize.ShloMosaic.Variants.nat (c : Thread nD τ) (some n) Γ) E
          (defs₀ (F := F) .tc (1 : (Λ₀ F).Label) ⟨i, arg1, harg1, arg8, harg8, arg9, harg9, arg10, harg10, arg3, harg3, arg4, harg4,
            arg5, harg5, arg6, harg6, arg7, harg7, p, go⟩) Q) := by
  have hdef : ∀ (p : BitVec 32) (go : BitVec 1), defs₀ (F := F) .tc (1 : (Λ₀ F).Label) ⟨i, arg1, harg1, arg8, harg8, arg9, harg9,
      arg10, harg10, arg3, harg3, arg4, harg4, arg5, harg5, arg6, harg6, arg7, harg7, p, go⟩ = _ := fun p go =>
    while_eq (F := F) i arg1 harg1 arg8 harg8 arg9 harg9 arg10 harg10 arg3 harg3 arg4 harg4 arg5 harg5 arg6 harg6 arg7 harg7 p go
  intro n
  induction n with
  | zero =>
    intro Γ p go X hp Q
    rw [hdef, if_neg (by rw [test_eq _ _ (by omega)]; omega), wp_pure, show settle T W i 0 go X = X from rfl]
    iintro H Hk
    imodintro
    iapply Hk $$ %_ H
  | succ n ih =>
    intro Γ p go X hp Q
    rw [hdef]
    by_cases hgo : go = 1#1
    · rw [if_pos (by rw [test_eq _ _ (by omega)]; exact ⟨hgo, by omega⟩)]
      have hset : settle T W i (n + 1) go X = settle T W i n (changed T W i X) (pass T W i X) := if_pos hgo
      rw [hset]
      unfold held
      iintro ⟨H1, H8, ⟨%Y0, H9⟩, ⟨%Y1, H10⟩, H3, H4, H5, H6, H7⟩ Hk
      iapply (wp_steps Idealize.ShloMosaic.Variants.nat c (some (n + 1)) E T hT i arg1 arg8 arg9 arg10 q X _ 400 0 _ (by omega) Y0 Y1
        (fun y hy => absurd hy (by omega)) (fun y hy => absurd hy (by omega))) $$ [H1 H8 H9 H10]
      · isplitl [H1]; · iexact H1
        isplitl [H8]; · iexact H8
        isplitl [H9]; · iexact H9
        iexact H10
      iintro ⟨H1, H8, H9, H10⟩
      unfold finish
      simp only [Prog.lift, Prog.bind_op, Prog.bind_ret, Prog.pure_eq_ret, Prog.bind_assoc]
      iapply (wp_load_all Idealize.ShloMosaic.Variants.nat c (some (n + 1)) E (m := arg9)) $$ H9; iintro H9
      iapply (wp_load_all Idealize.ShloMosaic.Variants.nat c (some (n + 1)) E (m := arg3)) $$ H3; iintro H3
      iapply (wp_load_all Idealize.ShloMosaic.Variants.nat c (some (n + 1)) E (m := arg10)) $$ H10; iintro H10
      iapply (wp_load_all Idealize.ShloMosaic.Variants.nat c (some (n + 1)) E (m := arg4)) $$ H4; iintro H4
      iapply (wp_load_all Idealize.ShloMosaic.Variants.nat c (some (n + 1)) E (m := arg5)) $$ H5; iintro H5
      iapply (wp_load_all Idealize.ShloMosaic.Variants.nat c (some (n + 1)) E (m := arg6)) $$ H6; iintro H6
      iapply (wp_load_all Idealize.ShloMosaic.Variants.nat c (some (n + 1)) E (m := arg7)) $$ H7; iintro H7
      iapply (wp_load_owns Idealize.ShloMosaic.Variants.nat c (some (n + 1)) E (m := arg8) (X := X)) $$ H8; iintro H8
      iapply (wp_load_owns Idealize.ShloMosaic.Variants.nat c (some (n + 1)) E (m := arg8) (X := X)) $$ H8; iintro H8
      iapply (wp_store_owns Idealize.ShloMosaic.Variants.nat c (some (n + 1)) E (m := arg8) (X := X)) $$ H8; iintro H8
      iapply (wp_call Idealize.ShloMosaic.Variants.nat (c : Thread nD τ) (some (n + 1)) E n (fun u hu => by cases hu; exact Nat.lt_succ_self n))
      have hnext : (Scalar.addi p 1#32).toNat + n = 400 := by
        show (p + 1#32).toNat + n = 400
        rw [BitVec.toNat_add]; simp only [BitVec.toNat_ofNat]; omega
      iapply (ih (Γ.descend none) (Scalar.addi p 1#32) (changed T W i X) (pass T W i X) hnext _) $$ [H1 H8 H9 H10 H3 H4 H5 H6 H7]
      · unfold held
        isplitl [H1]; · iexact H1
        isplitl [H8]; · iexact H8
        isplitl [H9]; · iexists _; iexact H9
        isplitl [H10]; · iexists _; iexact H10
        isplitl [H3]; · iexact H3
        isplitl [H4]; · iexact H4
        isplitl [H5]; · iexact H5
        isplitl [H6]; · iexact H6
        iexact H7
      iintro %r H
      rw [wp_ret]
      unfold held
      imodintro
      iapply Hk $$ %_ H
    · rw [if_neg (by rw [test_eq _ _ (by omega)]; exact fun h => hgo h.1), wp_pure]
      have hset : settle T W i (n + 1) go X = X := if_neg hgo
      rw [hset]
      iintro H Hk
      imodintro
      iapply Hk $$ %_ H

end Loop

end Cert.KernelIdeal.Rolled
-- ==== Proof.Body.lean ====
module

public import proofs.«01_k».proof.Proof.Settle

/-!
# The body at a grid point

At the first point the body fills the node buffer with the roots and zeros; at every point it then runs the loop.
-/

@[expose] public section

noncomputable section

namespace Cert.KernelIdeal.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix1)
open Idealize.ShloMosaic.Pipeline
open Cert.KernelIdeal Cert.KernelIdeal.Facts Cert.KernelIdeal.K0.Facts₀ Cert.KernelIdeal.Shapes1.Facts₀

variable {F : FTy → Type} [FloatOps F]

local notation "𝕄" => MT nD τ sig Unit (Elt F) ℕ (UR sig nD τ) ℕ

/-- The body's test for the first point. -/
theorem first_point (i : grid0.Coords) :
    Scalar.cmpi .ne (Scalar.extui (Scalar.cmpi .eq (BitVec.ofNat 32 (i 0).val) 0#32) : BitVec 32) 0#32 = 1#1 ↔ (i 0).val = 0 := by
  have h : ∀ n : Fin 25, Scalar.cmpi .ne (Scalar.extui (Scalar.cmpi .eq (BitVec.ofNat 32 n.val) 0#32) : BitVec 32) 0#32 = 1#1 ↔ n.val = 0 := by
    decide
  exact h (i 0)

/-- The rows of the roots. -/
abbrev rootRect : Rect S10064x128 := Rect.unit (s := S10064x128) ![0, 0] S64x128.size inb_S10064x128_S64x128_0_0

/-- The rows after the roots. -/
abbrev restRect : Rect S10064x128 := Rect.unit (s := S10064x128) ![64, 0] S10000x128.size inb_S10064x128_S10000x128_64_0

/-- The two stores of the first point leave the roots and zeros, whatever was there. -/
theorem initial_eq (R : FVec F S64x128 .f32) (X : FVec F S10064x128 .f32) :
    Function.extend restRect.emb (broadcast S10000x128 (Scalar.ofBits .f32 0x00000000#32) : FVec F S10000x128 .f32)
      (Function.extend rootRect.emb R X) = initial R := by
  funext y
  have hy0 : (y 0).val < 10064 := (y 0).isLt
  unfold initial
  by_cases h : (y 0).val < 64
  · rw [dif_pos h, Function.extend_apply' _ _ _ (by
      rintro ⟨x, hx⟩
      have h0 := congrArg (fun z : S10064x128.Idx => (z 0).val) hx
      have e : (restRect.emb x 0).val = 64 + 1 * (x 0).val := rfl
      simp only [e] at h0
      omega)]
    have e : rootRect.emb (ix2 (⟨(y 0).val, h⟩ : Fin 64) (y 1)) = y := by
      funext a
      fin_cases a
      · apply Fin.ext; show 0 + 1 * (y 0).val = (y 0).val; omega
      · apply Fin.ext; show 0 + 1 * (y 1).val = (y 1).val; omega
    conv_lhs => rw [← e]
    exact rootRect.emb.injective.extend_apply _ _ _
  · rw [dif_neg h]
    have e : restRect.emb (ix2 (⟨(y 0).val - 64, by omega⟩ : Fin 10000) (y 1)) = y := by
      funext a
      fin_cases a
      · apply Fin.ext; show 64 + 1 * ((y 0).val - 64) = (y 0).val; omega
      · apply Fin.ext; show 0 + 1 * (y 1).val = (y 1).val; omega
    conv_lhs => rw [← e]
    exact restRect.emb.injective.extend_apply _ _ _

section Body

variable (c : Dev nD) (E : Set ℕ) (T : S20000.Idx → BitVec 32) (hT : ∀ y, (T y).toNat < 10064) (W : Weights F) (i : grid0.Coords)
  (arg1 : Memref sig .tc .smem S20000 .i32) (harg1 : arg1.IsWhole) (arg2 : Memref sig .tc .vmem S64x128 .f32) (harg2 : arg2.IsWhole)
  (arg3 : Memref sig .tc .vmem S128x256 .f32) (harg3 : arg3.IsWhole) (arg4 : Memref sig .tc .vmem S128x256 .f32) (harg4 : arg4.IsWhole)
  (arg5 : Memref sig .tc .vmem S1x256 .f32) (harg5 : arg5.IsWhole) (arg6 : Memref sig .tc .vmem S256x128 .f32) (harg6 : arg6.IsWhole)
  (arg7 : Memref sig .tc .vmem S1x128 .f32) (harg7 : arg7.IsWhole) (arg8 : Memref sig .tc .vmem S10064x128 .f32) (harg8 : arg8.IsWhole)
  (arg9 : Memref sig .tc .vmem S400x128 .f32) (harg9 : arg9.IsWhole) (arg10 : Memref sig .tc .vmem S400x128 .f32) (harg10 : arg10.IsWhole)
  (q : PosShare TreeShare)

include hT in
/-- The loop's call from the body. -/
theorem wp_loop (Γ : PendingWaitsCtx sig Unit) (X : FVec F S10064x128 .f32) (Q : PUnit → sProp 𝕄) :
    held c T W arg1 arg8 arg9 arg10 arg3 arg4 arg5 arg6 arg7 q X
      ⊢ iprop((held c T W arg1 arg8 arg9 arg10 arg3 arg4 arg5 arg6 arg7 q (settle T W i 400 1#1 X) -∗ Q ⟨⟩)
        -∗ wp frame (wpE' (defs₀ (F := F)) Idealize.ShloMosaic.Variants.nat (c : Thread nD τ) none Γ) E
          (Prog.op (.call (1 : (Λ₀ F).Label) ⟨i, arg1, harg1, arg8, harg8, arg9, harg9, arg10, harg10, arg3, harg3, arg4, harg4,
            arg5, harg5, arg6, harg6, arg7, harg7, 0#32, 1#1⟩) fun _ => Prog.ret ⟨⟩) Q) := by
  iintro H Hk
  iapply (wp_call Idealize.ShloMosaic.Variants.nat (c : Thread nD τ) none E (400 : ℕ) (fun u hu => by cases hu))
  iapply (wp_while c E T hT W i arg1 harg1 arg8 harg8 arg9 harg9 arg10 harg10 arg3 harg3 arg4 harg4 arg5 harg5 arg6 harg6 arg7 harg7 q
    400 (Γ.descend none) 0#32 1#1 X rfl _) $$ H
  iintro %r H
  rw [wp_ret]
  imodintro
  iapply Hk $$ H

include hT in
/-- The body at a point leaves `point` in the node buffer. -/
theorem wp_body (Γ : PendingWaitsCtx sig Unit) (R : FVec F S64x128 .f32) (X : FVec F S10064x128 .f32) (Q : PUnit → sProp 𝕄) :
    iprop(owns (c : Thread nD τ) arg2 fullShare R ∗ held c T W arg1 arg8 arg9 arg10 arg3 arg4 arg5 arg6 arg7 q X)
      ⊢ iprop((owns (c : Thread nD τ) arg2 fullShare R ∗ held c T W arg1 arg8 arg9 arg10 arg3 arg4 arg5 arg6 arg7 q (point T W R i X) -∗ Q ⟨⟩)
        -∗ wp frame (wpE' (defs₀ (F := F)) Idealize.ShloMosaic.Variants.nat (c : Thread nD τ) none Γ) E
          (cc0__dag_kernel (F := F) i arg1 harg1 arg2 harg2 arg3 harg3 arg4 harg4 arg5 harg5 arg6 harg6 arg7 harg7 arg8 harg8
            arg9 harg9 arg10 harg10) Q) := by
  unfold cc0__dag_kernel point
  by_cases hi : (i 0).val = 0
  · rw [if_pos hi, ← initial_eq R X]
    dsimp only
    rw [dif_pos ((first_point i).2 hi)]
    simp only [Prog.lift, Prog.bind_op, Prog.bind_ret, Prog.pure_eq_ret, Prog.bind_assoc]
    iintro ⟨H2, H⟩ Hk
    unfold held
    icases H with ⟨H1, H8, H9, H10, H3⟩
    iapply (wp_load_all Idealize.ShloMosaic.Variants.nat c none E (m := arg2)) $$ H2; iintro H2
    iapply (wp_load_owns Idealize.ShloMosaic.Variants.nat c none E (m := arg8) (X := X)) $$ H8; iintro H8
    iapply (wp_store_owns Idealize.ShloMosaic.Variants.nat c none E (m := arg8) (X := X)) $$ H8; iintro H8
    iapply (wp_load_owns Idealize.ShloMosaic.Variants.nat c none E (m := arg8)) $$ H8; iintro H8
    iapply (wp_store_owns Idealize.ShloMosaic.Variants.nat c none E (m := arg8)) $$ H8; iintro H8
    iapply (wp_loop c E T hT W i arg1 harg1 arg3 harg3 arg4 harg4 arg5 harg5 arg6 harg6 arg7 harg7 arg8 harg8 arg9 harg9 arg10 harg10 q
      Γ _ _) $$ [H1 H8 H9 H10 H3]
    · unfold held
      isplitl [H1]; · iexact H1
      isplitl [H8]; · iexact H8
      isplitl [H9]; · iexact H9
      isplitl [H10]; · iexact H10
      iexact H3
    iintro H
    iapply Hk
    isplitl [H2]; · iexact H2
    unfold held
    iexact H
  · rw [if_neg hi]
    dsimp only
    rw [dif_neg (fun h => hi ((first_point i).1 h))]
    simp only [Prog.lift, Prog.bind_op, Prog.bind_ret, Prog.pure_eq_ret, Prog.bind_assoc]
    iintro ⟨H2, H⟩ Hk
    iapply (wp_loop c E T hT W i arg1 harg1 arg3 harg3 arg4 harg4 arg5 harg5 arg6 harg6 arg7 harg7 arg8 harg8 arg9 harg9 arg10 harg10 q
      Γ _ _) $$ H
    iintro H
    iapply Hk
    isplitl [H2]; · iexact H2
    iexact H

end Body

end Cert.KernelIdeal.Rolled
-- ==== Proof.Run.lean ====
module

public import proofs.«01_k».proof.Proof.Body
public import proofs.«01_k».proof.Proof.Gen.KernelIdeal.Launch
public import Idealize.ShloMosaic.Lib.Pipeline.FrameBody

/-!
# The launch

The proof data of the launch: each input's staging buffer holds the whole input at every point, and the result's holds
`nodesAt`. The run theorem says what the program leaves in memory.
-/

@[expose] public section

noncomputable section

namespace Cert.KernelIdeal.Rolled

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix1)
open Idealize.ShloMosaic.Pipeline
open Cert.KernelIdeal Cert.KernelIdeal.Gen Cert.KernelIdeal.Facts Cert.KernelIdeal.K0.Facts₀ Cert.KernelIdeal.Shapes1.Facts₀

variable {F : FTy → Type} [FloatOps F]

local notation "𝕄" => MT nD τ sig Unit (Elt F) ℕ (UR sig nD τ) ℕ

/-- The node buffer before the `n`-th point. -/
def nodesAt (T : S20000.Idx → BitVec 32) (W : Weights F) (R : FVec F S64x128 .f32) : ℕ → FVec F S10064x128 .f32
  | 0 => initial R
  | n + 1 => if h : n < grid0.N then point T W R (grid0.coords ⟨n, h⟩) (nodesAt T W R n) else nodesAt T W R n

variable (m : (ℓ : Loc nD τ sig) → Buf (Elt F) ℓ) (ρ : Dev nD → PrngReg)

/-- Every buffer's contents when the launch begins. -/
abbrev entry (c : Dev nD) (b : Ref sig .tc) : Buf (Elt F) ((c.tc : Thread nD τ).loc b) :=
  StableHlo.after hostOps0 (fun b => m (c, b)) b

/-- The table. -/
abbrev table (c : Dev nD) : S20000.Idx → BitVec 32 := entry m c main_v0

/-- The weights. -/
abbrev weights (c : Dev nD) : Weights F :=
  ⟨entry m c main_v1, entry m c main_v2, entry m c main_v3, entry m c main_arg5, entry m c main_v4⟩

/-- The roots. -/
abbrev roots (c : Dev nD) : FVec F S64x128 .f32 := entry m c main_arg0

/-- The tables' contents at the launch. -/
abbrev tables : (p : Fin 1) → (pcfgs (F := F) p).Adm := fun _ => ⟨fun k => entry m 0 (pre0.ref k), trivial⟩

/-- The pipeline at those. -/
abbrev cfgA : Cfg sig (Λ₀ F) := pin (pcfgs (F := F)) (tables m) 0

/-- The proof data. -/
def dats (p : Fin 1) (c : Dev nD) : Dat τ (Elt F) Unit ℕ (UR sig nD τ) ℕ (pin (pcfgs (F := F)) (tables m) p) c where
  A w := entry m c (arrRef spec0 w)
  after w t := match w with
    | ⟨0, _⟩ => roots m c
    | ⟨1, _⟩ => (weights m c).wa
    | ⟨2, _⟩ => (weights m c).wb
    | ⟨3, _⟩ => (weights m c).b1
    | ⟨4, _⟩ => (weights m c).w2
    | ⟨5, _⟩ => (weights m c).b2
    | ⟨6, _⟩ => nodesAt (table m c) (weights m c) (roots m c) (t.val + 1)
  Φ _ := iprop(ΦA spec0 c ∗ ΦT pre0 (tables m 0).1 c)
  q _ := fullShare
  owed _ := 0

/-- A block that is the whole buffer. -/
theorem block_emb {s : Shape} (ix : Fin s.rank → ℕ) (h : ∀ a, (ix a + 1) * s.size a ≤ s.size a) (x : s.Idx) :
    (Rect.block (s := s) s.size ix h).emb x = x := by
  funext a
  apply Fin.ext
  rw [Rect.emb_apply]
  show ix a * s.size a + 1 * (x a).val = (x a).val
  have h1 := h a
  have h2 : 0 < s.size a := lt_of_le_of_lt (Nat.zero_le _) (x a).isLt
  have h3 : ix a = 0 := by
    by_contra hne
    have : 2 * s.size a ≤ (ix a + 1) * s.size a := Nat.mul_le_mul_right _ (by omega)
    omega
  rw [h3]; omega

theorem blockOf_0 (c : Dev nD) (t : Fin (cfgA m).N) : (dats m 0 c).blockOf (0 : Fin 7) t = roots m c :=
  funext fun x => congrArg (roots m c) (block_emb _ (K0.Facts₀.hinb0_0 (grid0.coords t)) x)

theorem blockOf_1 (c : Dev nD) (t : Fin (cfgA m).N) : (dats m 0 c).blockOf (1 : Fin 7) t = (weights m c).wa :=
  funext fun x => congrArg ((weights m c).wa) (block_emb _ (K0.Facts₀.hinb0_1 (grid0.coords t)) x)

theorem blockOf_2 (c : Dev nD) (t : Fin (cfgA m).N) : (dats m 0 c).blockOf (2 : Fin 7) t = (weights m c).wb :=
  funext fun x => congrArg ((weights m c).wb) (block_emb _ (K0.Facts₀.hinb0_2 (grid0.coords t)) x)

theorem blockOf_3 (c : Dev nD) (t : Fin (cfgA m).N) : (dats m 0 c).blockOf (3 : Fin 7) t = (weights m c).b1 :=
  funext fun x => congrArg ((weights m c).b1) (block_emb _ (K0.Facts₀.hinb0_3 (grid0.coords t)) x)

theorem blockOf_4 (c : Dev nD) (t : Fin (cfgA m).N) : (dats m 0 c).blockOf (4 : Fin 7) t = (weights m c).w2 :=
  funext fun x => congrArg ((weights m c).w2) (block_emb _ (K0.Facts₀.hinb0_4 (grid0.coords t)) x)

theorem blockOf_5 (c : Dev nD) (t : Fin (cfgA m).N) : (dats m 0 c).blockOf (5 : Fin 7) t = (weights m c).b2 :=
  funext fun x => congrArg ((weights m c).b2) (block_emb _ (K0.Facts₀.hinb0_5 (grid0.coords t)) x)

/-- What an input's staging buffer holds: the input. -/
theorem found_0 (c : Dev nD) (t : Fin (cfgA m).N) (d) : (dats m 0 c).before (0 : Fin 7) t d = roots m c :=
  ((dats m 0 c).before_in_eq_fetched (0 : Fin 7) rfl (fun _ => rfl) (fun _ _ _ => rfl) (fun t => (blockOf_0 m c t).symm) t d).trans
    (blockOf_0 m c t)

theorem found_1 (c : Dev nD) (t : Fin (cfgA m).N) (d) : (dats m 0 c).before (1 : Fin 7) t d = (weights m c).wa :=
  ((dats m 0 c).before_in_eq_fetched (1 : Fin 7) rfl (fun _ => rfl) (fun _ _ _ => rfl) (fun t => (blockOf_1 m c t).symm) t d).trans
    (blockOf_1 m c t)

theorem found_2 (c : Dev nD) (t : Fin (cfgA m).N) (d) : (dats m 0 c).before (2 : Fin 7) t d = (weights m c).wb :=
  ((dats m 0 c).before_in_eq_fetched (2 : Fin 7) rfl (fun _ => rfl) (fun _ _ _ => rfl) (fun t => (blockOf_2 m c t).symm) t d).trans
    (blockOf_2 m c t)

theorem found_3 (c : Dev nD) (t : Fin (cfgA m).N) (d) : (dats m 0 c).before (3 : Fin 7) t d = (weights m c).b1 :=
  ((dats m 0 c).before_in_eq_fetched (3 : Fin 7) rfl (fun _ => rfl) (fun _ _ _ => rfl) (fun t => (blockOf_3 m c t).symm) t d).trans
    (blockOf_3 m c t)

theorem found_4 (c : Dev nD) (t : Fin (cfgA m).N) (d) : (dats m 0 c).before (4 : Fin 7) t d = (weights m c).w2 :=
  ((dats m 0 c).before_in_eq_fetched (4 : Fin 7) rfl (fun _ => rfl) (fun _ _ _ => rfl) (fun t => (blockOf_4 m c t).symm) t d).trans
    (blockOf_4 m c t)

theorem found_5 (c : Dev nD) (t : Fin (cfgA m).N) (d) : (dats m 0 c).before (5 : Fin 7) t d = (weights m c).b2 :=
  ((dats m 0 c).before_in_eq_fetched (5 : Fin 7) rfl (fun _ => rfl) (fun _ _ _ => rfl) (fun t => (blockOf_5 m c t).symm) t d).trans
    (blockOf_5 m c t)

/-- The result is written back after the last point only. -/
theorem flush_6 (t : Fin (cfgA m).N) : ((cfgA m).win (6 : Fin 7)).flush t = true ↔ t.val = 24 := by
  have hN : grid0.N = 25 := N_0
  have hlt : t.val < 25 := t.isLt
  have e : ((cfgA m).win (6 : Fin 7)).flush t = (true && (decide (t.val + 1 = grid0.N)
    || decide (∃ h : t.val + 1 < grid0.N, ((cfgA m).win (6 : Fin 7)).index ⟨t.val + 1, h⟩ ≠ ((cfgA m).win (6 : Fin 7)).index t))) := rfl
  have hf : decide (∃ h : t.val + 1 < grid0.N, ((cfgA m).win (6 : Fin 7)).index ⟨t.val + 1, h⟩ ≠ ((cfgA m).win (6 : Fin 7)).index t) = false :=
    decide_eq_false fun ⟨_, h⟩ => h rfl
  rw [e, hf, hN, Bool.or_false, Bool.true_and, decide_eq_true_eq]
  omega

/-- A point's coordinate. -/
theorem coord_val (t : Fin grid0.N) : (grid0.coords t 0).val = t.val := by
  have hlt : t.val < 25 := t.isLt
  rw [Grid.coords_val t 0 (S := 1) (B := 25) rfl rfl]
  omega

/-- What the result's staging buffer holds before a point's body, once the body has run. -/
theorem found_6 (c : Dev nD) (t : Fin (cfgA m).N) (d : FVec F S10064x128 .f32) :
    point (table m c) (weights m c) (roots m c) (grid0.coords t) ((dats m 0 c).before (6 : Fin 7) t d)
      = nodesAt (table m c) (weights m c) (roots m c) (t.val + 1) := by
  have ht : t.val < grid0.N := t.isLt
  have hn : nodesAt (table m c) (weights m c) (roots m c) (t.val + 1)
      = point (table m c) (weights m c) (roots m c) (grid0.coords t) (nodesAt (table m c) (weights m c) (roots m c) t.val) := dif_pos ht
  rw [hn]
  by_cases h0 : t.val = 0
  · have hi : (grid0.coords t 0).val = 0 := (coord_val t).trans h0
    unfold point
    rw [if_pos hi, if_pos hi]
  · congr 1
    rw [(dats m 0 c).before_out_kept (6 : Fin 7) rfl t h0
      (by
        rw [← Bool.not_eq_true, flush_6]
        have : t.val < 25 := t.isLt
        show ¬ t.val - 1 = 24
        omega) (fun _ => rfl) (fun _ _ => rfl) d]
    show nodesAt _ _ _ (t.val - 1 + 1) = _
    rw [Nat.sub_add_cancel (Nat.one_le_iff_ne_zero.2 h0)]

/-- The table's half as the body reads it. -/
theorem tableHeld (c : Dev nD) :
    (ΦT (U := UR sig nD τ) pre0 (tables m 0).1 c : sProp 𝕄) = owns (c : Thread nD τ) (Memref.whole main_v0) fullShare.right (table m c) := by
  obtain rfl : c = 0 := Subsingleton.elim _ _
  unfold ΦT prefHeld
  rw [bigSep_univ_eq_bigSepL [(0 : Fin 1)] (by decide) (by decide), owns_whole]
  rfl

/-- The scratch buffers as the body reads them. -/
theorem scratchHeld (c : Dev nD) :
    (ΦA (U := UR sig nD τ) spec0 c : sProp 𝕄) = iprop(((∃ Y0 : FVec F S400x128 .f32, owns (c : Thread nD τ) (Memref.whole cc0_scratch0) fullShare Y0)
      ∗ (∃ Y1 : FVec F S400x128 .f32, owns (c : Thread nD τ) (Memref.whole cc0_scratch1) fullShare Y1)) ∗ ∃ r, prngReg c r) := by
  unfold ΦA
  rw [scopedRest0_eq]
  simp only [owns_whole]
  rfl

variable (hT : ∀ c y, (table m c y).toNat < 10064)

include hT in
/-- The body's obligation at every point. -/
theorem body_obligation (c : Dev nD) : BodyObligationLoose (dats m 0 c) (defs₀ (F := F)) Idealize.ShloMosaic.Variants.nat () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl,
    show (dats m 0 c).Φ t.castSucc = iprop(ΦA spec0 c ∗ ΦT pre0 (tables m 0).1 c) from rfl, tableHeld, scratchHeld]
  iintro ⟨⟨⟨⟨H9, H10⟩, Hr⟩, HT⟩, Ho, ⟨%d0, H0⟩, ⟨%d1, H1⟩, ⟨%d2, H2⟩, ⟨%d3, H3⟩, ⟨%d4, H4⟩, ⟨%d5, H5⟩, ⟨%d6, H6⟩⟩
  rw [found_0 m c t d0, found_1 m c t d1, found_2 m c t d2, found_3 m c t d3, found_4 m c t d4, found_5 m c t d5]
  iapply (wp_body c Set.univ (table m c) (hT c) (weights m c) (grid0.coords t) (Memref.whole main_v0) (Memref.isWhole_whole _)
    _ (K0.Facts₀.hstage0_0 (((pin pcfgs (tables m) 0).slots t 0).cast K0.Facts₀.nbuf0_0))
    _ (K0.Facts₀.hstage0_1 (((pin pcfgs (tables m) 0).slots t 1).cast K0.Facts₀.nbuf0_1))
    _ (K0.Facts₀.hstage0_2 (((pin pcfgs (tables m) 0).slots t 2).cast K0.Facts₀.nbuf0_2))
    _ (K0.Facts₀.hstage0_3 (((pin pcfgs (tables m) 0).slots t 3).cast K0.Facts₀.nbuf0_3))
    _ (K0.Facts₀.hstage0_4 (((pin pcfgs (tables m) 0).slots t 4).cast K0.Facts₀.nbuf0_4))
    _ (K0.Facts₀.hstage0_5 (((pin pcfgs (tables m) 0).slots t 5).cast K0.Facts₀.nbuf0_5))
    _ (K0.Facts₀.hstage0_6 (((pin pcfgs (tables m) 0).slots t 6).cast K0.Facts₀.nbuf0_6))
    (Memref.whole cc0_scratch0) (Memref.isWhole_whole _) (Memref.whole cc0_scratch1) (Memref.isWhole_whole _) fullShare.right _ (roots m c) ((dats m 0 c).before (6 : Fin 7) t d6) _) $$ [HT H0 H1 H2 H3 H4 H5 H6 H9 H10]
  · isplitl [H0]; · iexact H0
    unfold held
    isplitl [HT]; · iexact HT
    isplitl [H6]; · iexact H6
    isplitl [H9]; · iexact H9
    isplitl [H10]; · iexact H10
    isplitl [H1]; · iexact H1
    isplitl [H2]; · iexact H2
    isplitl [H3]; · iexact H3
    isplitl [H4]; · iexact H4
    iexact H5
  rw [found_6]
  unfold held
  iintro ⟨H0, HT, H6, H9, H10, H1, H2, H3, H4, H5⟩
  isplitl [H9 H10 Hr HT]
  · isplitl [H9 H10 Hr]
    · isplitl [H9 H10]
      · isplitl [H9]; · iexact H9
        iexact H10
      iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The result after the launch. -/
theorem result_eq (c : Dev nD) :
    (dats m 0 c).arrAt (6 : Fin 7) (cfgA m).N = nodesAt (table m c) (weights m c) (roots m c) 25 := by
  refine (dats m 0 c).arrAt_eq_of_cover (6 : Fin 7) (nodesAt (table m c) (weights m c) (roots m c) 25) (fun t ht => ?_) (fun i => ?_)
  · have h24 := (flush_6 m t).1 ht
    funext x
    show nodesAt _ _ _ (t.val + 1) x = nodesAt _ _ _ 25 _
    rw [h24]
    exact congrArg _ (block_emb _ (K0.Facts₀.hinb0_6 (grid0.coords t)) x).symm
  · let t : Fin (cfgA m).N := (⟨24, by decide⟩ : Fin 25)
    refine ⟨t, (flush_6 m t).2 rfl, ?_⟩
    have e : (((cfgA m).win (6 : Fin 7)).blk t).view.emb i = i := block_emb _ (K0.Facts₀.hinb0_6 (grid0.coords t)) i
    have h := (((cfgA m).win (6 : Fin 7)).blk t).view.emb_mem_set i
    rw [e] at h
    exact h

include hT in
/-- What the program leaves in memory. -/
theorem run : θ_run (defs (F := F)) (onTc (τ := τ) (main (F := F))) ⟨m, fun _ => 0, ρ⟩
    (fun r => FramePost (pin pcfgs (tables m)) (dats m) 0 (entry m) r ∧ r.2.sem = fun _ => 0) :=
  θ_run_frameP pcfgs (tables m) (dats m) 0 launch0 defs₀ Idealize.ShloMosaic.Variants.nat m ρ main (body_obligation m hT)
    (fun c w => (dats m 0 c).share_full (fun _ => rfl) w) (fun _ _ => rfl) (entry m)
    (hmainP_prefix pcfgs 0 defs₀ Idealize.ShloMosaic.Variants.nat m main hostOps0 hostOps0_sub (by simp only [List.Forall]; exact ⟨rfl, rfl, rfl, rfl, rfl⟩) main_chain)
    (fun _ _ => rfl) (fun c k => by obtain rfl : c = 0 := Subsingleton.elim _ _; rfl) (fun _ _ => rfl) _ (fun _ h => h)

end Cert.KernelIdeal.Rolled
-- ==== Proof.Entry.lean ====
module

public import proofs.«01_k».proof.Proof.Run
public import Idealize.ShloMosaic.Lib.StableHlo.RunRead

/-!
# The program's run in terms of its arguments

What the launch finds in terms of the arguments, and the arguments at the end of the program.
-/

@[expose] public section

noncomputable section

namespace Cert.KernelIdeal.Rolled

open Idealize.ShloMosaic Idealize.ShloMosaic.TcCoe
open Idealize.SL.Sem
open Idealize.ShloMosaic.ValueIdx (ix2 ix1)
open Idealize.ShloMosaic.Pipeline
open Idealize.ShloMosaic.StableHlo
open Cert.KernelIdeal Cert.KernelIdeal.Gen Cert.KernelIdeal.Facts Cert.KernelIdeal.Shapes1.Facts₀

variable {F : FTy → Type} [FloatOps F]

variable (m : (ℓ : Loc nD τ sig) → Buf (Elt F) ℓ) (ρ : Dev nD → PrngReg)

theorem entry_arg0 (c : Dev nD) : entry m c main_arg0 = m ((c.tc : Thread nD τ).loc main_arg0) := by unfold entry; after_reads_simp
theorem entry_arg1 (c : Dev nD) : entry m c main_arg1 = m ((c.tc : Thread nD τ).loc main_arg1) := by unfold entry; after_reads_simp
theorem entry_arg2 (c : Dev nD) : entry m c main_arg2 = m ((c.tc : Thread nD τ).loc main_arg2) := by unfold entry; after_reads_simp
theorem entry_arg3 (c : Dev nD) : entry m c main_arg3 = m ((c.tc : Thread nD τ).loc main_arg3) := by unfold entry; after_reads_simp
theorem entry_arg4 (c : Dev nD) : entry m c main_arg4 = m ((c.tc : Thread nD τ).loc main_arg4) := by unfold entry; after_reads_simp
theorem entry_arg5 (c : Dev nD) : entry m c main_arg5 = m ((c.tc : Thread nD τ).loc main_arg5) := by unfold entry; after_reads_simp
theorem entry_arg6 (c : Dev nD) : entry m c main_arg6 = m ((c.tc : Thread nD τ).loc main_arg6) := by unfold entry; after_reads_simp

/-- The table is the index array, flattened. -/
theorem table_eq (c : Dev nD) :
    table m c = shapeCast S20000 (m ((c.tc : Thread nD τ).loc main_arg1) : S10000x2.Idx → BitVec 32) Gen.shapeCasts_S10000x2_S20000 := by
  unfold table entry; after_reads_simp; rfl

/-- Its bound from the index array's. -/
theorem table_lt (h : ∀ (c : Dev nD) (y : S10000x2.Idx), ((m ((c.tc : Thread nD τ).loc main_arg1) : S10000x2.Idx → BitVec 32) y).toNat < 10064)
    (c : Dev nD) (y : S20000.Idx) : (table m c y).toNat < 10064 := by
  rw [table_eq]
  exact h c _

/-- The program's run: the result, and the arguments unchanged. -/
theorem run_args (h : ∀ (c : Dev nD) (y : S10000x2.Idx), ((m ((c.tc : Thread nD τ).loc main_arg1) : S10000x2.Idx → BitVec 32) y).toNat < 10064) :
    θ_run (defs (F := F)) (onTc (τ := τ) (main (F := F))) ⟨m, fun _ => 0, ρ⟩
      (fun r => (∀ c : Dev nD,
        r.2.mem ((c.tc : Thread nD τ).loc main_v5) = nodesAt (table m c) (weights m c) (roots m c) 25
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0) :=
  (θ_run defs _ _).mono (fun r hr => ⟨fun c => ⟨
      ((hr.1 c).1 (6 : Fin 7)).trans (result_eq m c),
      (((hr.1 c).1 (0 : Fin 7)).trans ((dats m 0 c).arrAt_in (0 : Fin 7) rfl _)).trans (entry_arg0 m c),
      ((hr.1 c).2 main_arg1 (show _ ∈ restRefs sig spec0 by decide)).trans (entry_arg1 m c),
      ((hr.1 c).2 main_arg2 (show _ ∈ restRefs sig spec0 by decide)).trans (entry_arg2 m c),
      ((hr.1 c).2 main_arg3 (show _ ∈ restRefs sig spec0 by decide)).trans (entry_arg3 m c),
      ((hr.1 c).2 main_arg4 (show _ ∈ restRefs sig spec0 by decide)).trans (entry_arg4 m c),
      (((hr.1 c).1 (4 : Fin 7)).trans ((dats m 0 c).arrAt_in (4 : Fin 7) rfl _)).trans (entry_arg5 m c),
      ((hr.1 c).2 main_arg6 (show _ ∈ restRefs sig spec0 by decide)).trans (entry_arg6 m c)⟩, hr.2⟩)
    (run m ρ (table_lt m h))

end Cert.KernelIdeal.Rolled
-- ==== Proof.Pre.lean ====
module

public import proofs.«01_k».proof.Proof.Gen.Pre_idx_names_rows
public import proofs.«01_k».proof.Proof.Gen.Pre_idx_names_earlier

/-!
# What the two preconditions say of one word

Each precondition is a tensor of bits that is all ones. Read at one place it is a bound on the word of the index
table there.
-/

@[expose] public section

noncomputable section

namespace Cert.Bounds

open Idealize.ShloMosaic

variable {F : FTy → Type} [FloatOps F]

theorem andi_ofBool (p q : Bool) : IntOp.andi (BitVec.ofBool p) (BitVec.ofBool q) = BitVec.ofBool (p && q) := by
  cases p <;> cases q <;> decide

theorem ofBool_eq_one (p : Bool) : BitVec.ofBool p = 1#1 ↔ p = true := by cases p <;> decide

/-- A word that is at least zero and below a small bound, both read with a sign, is below the bound as a number. -/
theorem lt_of_bits (v n : BitVec 32) (hn : n.toNat < 2 ^ 31)
    (e : IntOp.andi (IntOp.cmpi .sge v 0#32) (IntOp.cmpi .slt v n) = 1#1) : v.toNat < n.toNat := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Every word names a row of the node buffer. -/
theorem rows [Cert.Pre_idx_names_rows.Facts] {a0 a1 a2 a3 a4 a5 a6}
    (h : Cert.Pre_idx_names_rows.fn (F := F) a0 a1 a2 a3 a4 a5 a6 = fun _ => 1#1)
    (y : Cert.Pre_idx_names_rows.S10000x2.Idx) : (a1 y : BitVec 32).toNat < 10064 := by
  have e := congrFun h y
  simp only [Cert.Pre_idx_names_rows.fn, andi, cmpi, broadcastInDim, constantI] at e
  exact lt_of_bits _ 10064#32 (by decide) e

/-- The words of row `i` name roots or rows made before row `i`. -/
theorem earlier [Cert.Pre_idx_names_earlier.Facts] {a0 a1 a2 a3 a4 a5 a6}
    (h : Cert.Pre_idx_names_earlier.fn (F := F) a0 a1 a2 a3 a4 a5 a6 = fun _ => 1#1)
    (y : Cert.Pre_idx_names_earlier.S10000x2.Idx) : (a1 y : BitVec 32).toNat < (y 0).val + 64 := by
  have hy : (y 0).val < 10000 := (y 0).isLt
  have e := congrFun h y
  simp only [Cert.Pre_idx_names_earlier.fn, andi, cmpi, addi, broadcastInDim, constantI, iotaInDim] at e
  have k := lt_of_bits _ (IntOp.addi (BitVec.ofNat 32 (y 0).val) 64#32) (by
    simp only [IntOp.addi, BitVec.toNat_add, BitVec.toNat_ofNat]; omega) e
  simp only [IntOp.addi, BitVec.toNat_add, BitVec.toNat_ofNat] at k
  omega

end Cert.Bounds

end
-- ==== Proof.Frames.lean ====
module

public import proofs.«01_k».proof.Defs
public import proofs.«01_k».proof.Proof.Gen.ReferenceIdeal.Run
public import proofs.«01_k».proof.Proof.Entry
public import proofs.«01_k».proof.Proof.Float.Entry
public import proofs.«01_k».proof.Proof.Pre
public import Idealize.ShloMosaic.Lib.Quiescent

/-!
# The frames

Each program, run from any memory its precondition admits, terminates without a fault, leaves its arguments as they
were, and ends with every counter at zero.
-/

@[expose] public section

noncomputable section

namespace Cert.Frames

open Idealize.ShloMosaic Idealize.SL.Sem

theorem kernel : Cert.quiescent_Kernel := fun m g hm =>
  (θ_run Cert.Kernel.defs _ _).mono (fun _ hr => ⟨fun c => (hr.1 c).2, hr.2⟩)
    (Cert.Kernel.Rolled.run_args m g fun c y => Cert.Bounds.rows (hm c) y)

theorem kernelIdeal : Cert.quiescent_KernelIdeal := fun m g hm =>
  (θ_run Cert.KernelIdeal.defs _ _).mono (fun _ hr => ⟨fun c => (hr.1 c).2, hr.2⟩)
    (Cert.KernelIdeal.Rolled.run_args m g fun c y => Cert.Bounds.rows (hm c) y)

/-- A word bounded by its own row's number is in particular bounded by the number of rows. -/
theorem rows_of_earlier {m : (ℓ : Loc Cert.KernelIdeal.nD Cert.KernelIdeal.τ Cert.KernelIdeal.sig) → Buf (Elt Ideal) ℓ}
    (hm : Cert.Pre_KernelIdeal_idx_names_earlier m) (c : Dev Cert.KernelIdeal.nD) (y : Cert.KernelIdeal.S10000x2.Idx) :
    ((m ((c.tc : Thread Cert.KernelIdeal.nD Cert.KernelIdeal.τ).loc Cert.KernelIdeal.main_arg1) :
      Cert.KernelIdeal.S10000x2.Idx → BitVec 32) y).toNat < 10064 := by
  have h := Cert.Bounds.earlier (hm c) y
  have hy : (y 0).val < 10000 := (y 0).isLt
  exact lt_of_lt_of_le h (by omega)

theorem kernelIdeal_earlier : Cert.quiescent_KernelIdeal_pre_idx_names_earlier := fun m g hm =>
  (θ_run Cert.KernelIdeal.defs _ _).mono (fun _ hr => ⟨fun c => (hr.1 c).2, hr.2⟩)
    (Cert.KernelIdeal.Rolled.run_args m g (rows_of_earlier hm))

theorem referenceIdeal : Cert.quiescent_ReferenceIdeal := fun m g _ =>
  (θ_run Cert.ReferenceIdeal.defs _ _).mono
    (fun r hr => ⟨fun c => (hr c).2, sem_eq_zero_of_no_sems (by decide) r.2⟩) (Cert.ReferenceIdeal.Value.run m g)

theorem referenceIdeal_earlier : Cert.quiescent_ReferenceIdeal_pre_idx_names_earlier := fun m g _ =>
  (θ_run Cert.ReferenceIdeal.defs _ _).mono
    (fun r hr => ⟨fun c => (hr c).2, sem_eq_zero_of_no_sems (by decide) r.2⟩) (Cert.ReferenceIdeal.Value.run m g)

end Cert.Frames

end
-- ==== Proof.Dag.lean ====
module

public import Idealize.ShloMosaic.Lib.Pointwise

/-!
# Evaluating the graph

The nodes are rows numbered from zero: sixty-four roots, then one row per trunk node, each made of two earlier rows.
A table of rows solves the graph up to `n` when its roots are right and each of the first `n` trunk rows is what
its two parents make. A table that solves the whole graph is the only one. The two ways of arriving there are a step
that writes one row, and a pass that rewrites four hundred rows at once from the rows as they were.
-/

@[expose] public section

noncomputable section

namespace Cert.Dag

open Idealize.ShloMosaic

variable {ρ : Type}

/-- A graph whose parents come before their children, with the roots and what two parents make. -/
structure Graph (ρ : Type) where
  /-- The two parents of a trunk node. -/
  par : ℕ → Fin 2 → ℕ
  /-- The roots' rows. -/
  root : ℕ → ρ
  /-- The row two parents make. -/
  node : ρ → ρ → ρ
  /-- Parents come first. -/
  early : ∀ i, i < 10000 → ∀ k, par i k < i + 64

/-- The row that trunk node `i` should have, by the rows a table holds for its parents. -/
def Graph.made (G : Graph ρ) (X : ℕ → ρ) (i : ℕ) : ρ := G.node (X (G.par i 0)) (X (G.par i 1))

/-- The roots are right, and the first `n` trunk rows are what their parents make. -/
def Graph.Solves (G : Graph ρ) (n : ℕ) (X : ℕ → ρ) : Prop :=
  (∀ r, r < 64 → X r = G.root r) ∧ ∀ i, i < n → X (i + 64) = G.made X i

variable (G : Graph ρ)

/-- What a trunk node should have depends on the rows before it. -/
theorem Graph.made_congr {X Y : ℕ → ρ} {i : ℕ} (hi : i < 10000) (h : ∀ r, r < i + 64 → X r = Y r) :
    G.made X i = G.made Y i := by
  unfold Graph.made
  rw [h _ (G.early i hi 0), h _ (G.early i hi 1)]

/-- Two tables that solve the graph up to `n` agree up to there. -/
theorem Graph.unique {X Y : ℕ → ρ} {n : ℕ} (hn : n ≤ 10000) (hX : G.Solves n X) (hY : G.Solves n Y) :
    ∀ r, r < n + 64 → X r = Y r := by
  intro r
  induction r using Nat.strong_induction_on with
  | _ r ih =>
    intro hr
    by_cases h : r < 64
    · rw [hX.1 r h, hY.1 r h]
    · obtain ⟨i, rfl⟩ : ∃ i, r = i + 64 := ⟨r - 64, by omega⟩
      rw [hX.2 i (by omega), hY.2 i (by omega)]
      exact G.made_congr (by omega) fun q hq => ih q hq (by omega)

/-- A table that agrees with a solution, up to its last solved row, solves as much. -/
theorem Graph.Solves.congr {X Y : ℕ → ρ} {n : ℕ} (hn : n ≤ 10000) (hX : G.Solves n X) (h : ∀ r, r < n + 64 → Y r = X r) :
    G.Solves n Y :=
  ⟨fun r hr => (h r (by omega)).trans (hX.1 r hr), fun i hi =>
    (h _ (by omega)).trans ((hX.2 i hi).trans (G.made_congr (by omega) fun q hq => (h q (by omega)).symm))⟩

/-- One row more: a table that agrees below the row, and holds there what the row's parents make, solves one more. -/
theorem Graph.Solves.step {X Y : ℕ → ρ} {n : ℕ} (hn : n < 10000) (hX : G.Solves n X) (h : ∀ r, r < n + 64 → Y r = X r)
    (hY : Y (n + 64) = G.made X n) : G.Solves (n + 1) Y := by
  have hc := Graph.Solves.congr G hn.le hX h
  refine ⟨hc.1, fun i hi => ?_⟩
  rcases Nat.lt_succ_iff_lt_or_eq.mp hi with h' | rfl
  · exact hc.2 i h'
  · exact hY.trans (G.made_congr hn fun q hq => (h q hq).symm)

/-- A pass over four hundred rows from row `s` solves one more, when the first `p` of them were right before. -/
theorem Graph.Solves.pass {X Y : ℕ → ρ} {s p : ℕ} (hs : s + 400 ≤ 10000) (hp : p < 400) (hX : G.Solves (s + p) X)
    (hlow : ∀ r, r < s + 64 → Y r = X r) (hnew : ∀ j, j < 400 → Y (s + j + 64) = G.made X (s + j)) :
    G.Solves (s + p + 1) Y := by
  refine Graph.Solves.step G (by omega) hX (fun r hr => ?_) (hnew p hp)
  by_cases h : r < s + 64
  · exact hlow r h
  · obtain ⟨j, rfl⟩ : ∃ j, r = s + j + 64 := ⟨r - 64 - s, by omega⟩
    rw [hnew j (by omega), hX.2 (s + j) (by omega)]

/-- A pass that changed nothing shows that all four hundred rows are right. -/
theorem Graph.Solves.still {X : ℕ → ρ} {s p : ℕ} (hX : G.Solves (s + p) X)
    (hnew : ∀ j, j < 400 → X (s + j + 64) = G.made X (s + j)) : G.Solves (s + 400) X := by
  refine ⟨hX.1, fun i hi => ?_⟩
  by_cases h : i < s
  · exact hX.2 i (by omega)
  · obtain ⟨j, rfl⟩ : ∃ j, i = s + j := ⟨i - s, by omega⟩
    exact hnew j (by omega)

/-! ## The rows of an array -/

abbrev Nodes : Shape := ⟨2, ![10064, 128]⟩
abbrev Row := Fin 128 → EReal

/-- Row `r` of the node array (the number taken within the array). -/
def rows (X : Nodes.Idx → EReal) (r : ℕ) : Row := fun d => X (ix2 ⟨r % 10064, Nat.mod_lt _ (by decide)⟩ d)

theorem rows_of_lt (X : Nodes.Idx → EReal) {r : ℕ} (h : r < 10064) (d : Fin 128) : rows X r d = X (ix2 ⟨r, h⟩ d) := by
  unfold rows
  congr 2
  exact Fin.ext (Nat.mod_eq_of_lt h)

/-- Arrays whose rows agree are equal. -/
theorem rows_ext {X Y : Nodes.Idx → EReal} (h : ∀ r, r < 10064 → rows X r = rows Y r) : X = Y := by
  funext y
  obtain ⟨a, b, rfl⟩ : ∃ (a : Fin 10064) (b : Fin 128), y = ix2 a b := ⟨y 0, y 1, eq_ix2 y⟩
  have hy := congrFun (h a.val a.isLt) b
  rwa [rows_of_lt X a.isLt, rows_of_lt Y a.isLt] at hy

/-! ## The perceptron at the reals with infinities -/

/-- The activation, as both programs spell it but for the order of one product. -/
def act (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- What two parents make. -/
def node (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) (u v : Row) : Row := fun d =>
  (∑ k : Fin 256, act (((∑ j : Fin 128, u j * W1 (ix2 ⟨j.val, by omega⟩ k))
    + ∑ j : Fin 128, v j * W1 (ix2 ⟨128 + j.val, by omega⟩ k)) + b1 (ix1 k)) * W2 (ix2 k d)) + b2 (ix1 d)

/-- The problem's graph: parents read off the index table, roots off the root array. -/
def graph (R : (⟨2, ![64, 128]⟩ : Shape).Idx → EReal) (I : (⟨2, ![10000, 2]⟩ : Shape).Idx → BitVec 32)
    (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (h : ∀ y : (⟨2, ![10000, 2]⟩ : Shape).Idx, (I y).toNat < (y 0).val + 64) : Graph Row where
  par i k := (I (ix2 ⟨i % 10000, Nat.mod_lt _ (by decide)⟩ k)).toNat
  root r := fun d => R (ix2 ⟨r % 64, Nat.mod_lt _ (by decide)⟩ d)
  node := node W1 b1 W2 b2
  early i hi k := by
    have := h (ix2 ⟨i % 10000, Nat.mod_lt _ (by decide)⟩ k)
    have e : i % 10000 = i := Nat.mod_eq_of_lt hi
    simpa only [ix2, Matrix.cons_val_zero, e] using this

end Cert.Dag

end
-- ==== Proof.Block.lean ====
module

public import proofs.«01_k».proof.Proof.Settle
public import proofs.«01_k».proof.Proof.Dag

/-!
# A pass, row by row

At the reals with infinities, one row of what a pass computes is what the row's two gathered parents make; and the
count of changed entries is zero only when no entry changed.
-/

@[expose] public section

noncomputable section

namespace Cert.KernelIdeal.Rolled

open Idealize.ShloMosaic Idealize.ShloMosaic.TcCoe
open Cert.KernelIdeal Cert.KernelIdeal.Facts Cert.KernelIdeal.K0.Facts₀ Cert.KernelIdeal.Shapes1.Facts₀
open Cert.Dag (Row)

set_option maxRecDepth 16384

theorem hidden_apply (x0 x1 : FVec Ideal S400x128 .f32) (wa wb : FVec Ideal S128x256 .f32) (b1 : FVec Ideal S1x256 .f32)
    (j : Fin 400) (k : Fin 256) :
    hidden x0 wa x1 wb b1 (ix2 j k)
      = ((∑ l : Fin 128, x0 (ix2 j l) * wa (ix2 l k)) + ∑ l : Fin 128, x1 (ix2 j l) * wb (ix2 l k)) + b1 (ix2 0 k) := by
  pointwise [hidden]

theorem act_apply (x : FVec Ideal S400x256 .f32) (y : S400x256.Idx) : act x y = Cert.Dag.act (x y) := by
  pointwise [act, Cert.Dag.act]

theorem fresh_apply (h : FVec Ideal S400x256 .f32) (w2 : FVec Ideal S256x128 .f32) (b2 : FVec Ideal S1x128 .f32)
    (j : Fin 400) (d : Fin 128) :
    fresh h w2 b2 (ix2 j d) = (∑ k : Fin 256, Cert.Dag.act (h (ix2 j k)) * w2 (ix2 k d)) + b2 (ix2 0 d) := by
  pointwise [fresh]
  simp only [act_apply]

/-- A bit as a number: one or zero. -/
theorem bit_value (q : Bool) : FloatOps.sitofp (F := Ideal) .f32 (BitVec.setWidth 32 (BitVec.ofBool q)) = if q then 1 else 0 := by
  show (((BitVec.setWidth 32 (BitVec.ofBool q)).toInt : ℝ) : EReal) = _
  cases q <;> simp

theorem changes_eq (new old : FVec Ideal S400x128 .f32) :
    changes new old = ∑ j : Fin 400, ∑ d : Fin 128, (if new (ix2 j d) ≠ old (ix2 j d) then (1 : EReal) else 0) := by
  pointwise [changes]
  refine Finset.sum_congr rfl fun j _ => Finset.sum_congr rfl fun d _ => ?_
  rw [bit_value]
  simp only [decide_eq_true_eq]

/-- What does not compare above zero is at most zero. -/
theorem le_zero_of {x : Ideal .f32} (h : Scalar.cmpf .ogt x (Scalar.ofBits .f32 0x00000000#32) ≠ 1#1) : (x : EReal) ≤ 0 := by
  by_contra hc
  apply h
  have hz : (Scalar.ofBits .f32 0x00000000#32 : Ideal .f32) = (0 : EReal) := Ideal.ofBits_zero_f32
  rw [hz]
  have e : Scalar.cmpf .ogt x ((0 : EReal) : Ideal .f32) = BitVec.ofBool (decide ((0 : EReal) < x)) := rfl
  rw [e, decide_eq_true (not_le.mp hc)]
  rfl

/-- The count is not above zero: nothing changed. -/
theorem eq_of_changes {new old : FVec Ideal S400x128 .f32}
    (h : Scalar.cmpf .ogt (changes new old) (Scalar.ofBits .f32 0x00000000#32) ≠ 1#1) : new = old := by
  have hle : changes new old ≤ 0 := le_zero_of h
  funext y
  obtain ⟨j, d, rfl⟩ : ∃ (j : Fin 400) (d : Fin 128), y = ix2 j d := ⟨y 0, y 1, eq_ix2 y⟩
  by_contra hne
  rw [changes_eq] at hle
  have hn : ∀ (a : Fin 400) (b : Fin 128), (0 : EReal) ≤ if new (ix2 a b) ≠ old (ix2 a b) then 1 else 0 := fun a b => by
    split <;> simp
  have h1 := Finset.single_le_sum (f := fun b => if new (ix2 j b) ≠ old (ix2 j b) then (1 : EReal) else 0)
    (fun b _ => hn j b) (Finset.mem_univ d)
  have h2 := Finset.single_le_sum (f := fun a => ∑ b : Fin 128, if new (ix2 a b) ≠ old (ix2 a b) then (1 : EReal) else 0)
    (fun a _ => Finset.sum_nonneg fun b _ => hn a b) (Finset.mem_univ j)
  have h3 := (h1.trans h2).trans hle
  simp only [if_pos hne] at h3
  exact absurd h3 (by simp)

/-- The kernel's table and weights are the problem's index table and weights. -/
structure Matches (T : S20000.Idx → BitVec 32) (W : Weights Ideal) (I : S10000x2.Idx → BitVec 32)
    (W1 : S256x256.Idx → EReal) (b1 : S256.Idx → EReal) (W2 : S256x128.Idx → EReal) (b2 : S128.Idx → EReal) : Prop where
  word : ∀ (i : Fin 10000) (k : Fin 2), word T (2 * i.val + k.val) = I (ix2 i k)
  wa : ∀ (l : Fin 128) (k : Fin 256), W.wa (ix2 l k) = W1 (ix2 ⟨l.val, by omega⟩ k)
  wb : ∀ (l : Fin 128) (k : Fin 256), W.wb (ix2 l k) = W1 (ix2 ⟨128 + l.val, by omega⟩ k)
  b1 : ∀ k : Fin 256, W.b1 (ix2 0 k) = b1 (ix1 k)
  w2 : ∀ (k : Fin 256) (d : Fin 128), W.w2 (ix2 k d) = W2 (ix2 k d)
  b2 : ∀ d : Fin 128, W.b2 (ix2 0 d) = b2 (ix1 d)

variable {T : S20000.Idx → BitVec 32} {W : Weights Ideal} {I : S10000x2.Idx → BitVec 32}
  {W1 : S256x256.Idx → EReal} {b1 : S256.Idx → EReal} {W2 : S256x128.Idx → EReal} {b2 : S128.Idx → EReal}
  (hW : Matches T W I W1 b1 W2 b2) (R : S64x128.Idx → EReal) (hI : ∀ y : S10000x2.Idx, (I y).toNat < (y 0).val + 64)

/-- A gathered row is the parent's row. -/
theorem gather_apply {W1 b1 W2 b2} (hW : Matches T W I W1 b1 W2 b2) (R : S64x128.Idx → EReal)
    (hI : ∀ y : S10000x2.Idx, (I y).toNat < (y 0).val + 64) (i : grid0.Coords) (X : FVec Ideal S10064x128 .f32)
    (j : Fin 400) (k : Fin 2) (l : Fin 128) :
    gather T (i 0).val k.val X (ix2 j l)
      = Cert.Dag.rows X ((Cert.Dag.graph R I W1 b1 W2 b2 hI).par (400 * (i 0).val + j.val) k) l := by
  have hi : (i 0).val < 25 := (i 0).isLt
  have hn : 400 * (i 0).val + j.val < 10000 := by omega
  have hw := hW.word ⟨400 * (i 0).val + j.val, hn⟩ k
  have e : 800 * (i 0).val + 2 * j.val + k.val = 2 * (400 * (i 0).val + j.val) + k.val := by omega
  have hp : (Cert.Dag.graph R I W1 b1 W2 b2 hI).par (400 * (i 0).val + j.val) k
      = (I (ix2 ⟨400 * (i 0).val + j.val, hn⟩ k)).toNat := by
    show (I (ix2 ⟨(400 * (i 0).val + j.val) % 10000, _⟩ k)).toNat = _
    congr 4
    exact Nat.mod_eq_of_lt hn
  have hlt : (I (ix2 ⟨400 * (i 0).val + j.val, hn⟩ k)).toNat < 10064 :=
    lt_of_lt_of_le (hI (ix2 ⟨400 * (i 0).val + j.val, hn⟩ k)) (show 400 * (i 0).val + j.val + 64 ≤ 10064 by omega)
  rw [hp, Cert.Dag.rows_of_lt X hlt]
  show X (ix2 (rowOf (word T (800 * (i 0).val + 2 * j.val + k.val))) l) = _
  rw [e, hw]
  unfold rowOf
  rw [dif_pos hlt]

include hW in
/-- One new row is what its parents make. -/
theorem newRows_apply (i : grid0.Coords) (X : FVec Ideal S10064x128 .f32) (j : Fin 400) :
    (fun d => newRows T W i X (ix2 j d))
      = (Cert.Dag.graph R I W1 b1 W2 b2 hI).made (Cert.Dag.rows X) (400 * (i 0).val + j.val) := by
  funext d
  unfold newRows
  rw [fresh_apply]
  simp only [hidden_apply, hW.b1, hW.wa, hW.wb, hW.w2, hW.b2]
  have g0 := fun l => gather_apply hW R hI i X j 0 l
  have g1 := fun l => gather_apply hW R hI i X j 1 l
  simp only [Fin.val_zero, Fin.val_one] at g0 g1
  simp only [g0, g1]
  rfl

end Cert.KernelIdeal.Rolled

end
-- ==== Proof.Solve.lean ====
module

public import proofs.«01_k».proof.Proof.Block
public import proofs.«01_k».proof.Proof.Entry

/-!
# The kernel's result solves the graph

Each grid point starts from a node buffer that solves the graph up to its block. A pass solves one row more; four
hundred passes, or a pass that changes nothing, solve the block.
-/

@[expose] public section

noncomputable section

namespace Cert.KernelIdeal.Rolled

open Idealize.ShloMosaic Idealize.ShloMosaic.TcCoe
open Cert.KernelIdeal Cert.KernelIdeal.Facts Cert.KernelIdeal.K0.Facts₀ Cert.KernelIdeal.Shapes1.Facts₀
open Cert.Dag (Graph rows)

theorem blockRect_emb (i : grid0.Coords) (j : Fin 400) (d : Fin 128) (h : 400 * (i 0).val + j.val + 64 < 10064) :
    (blockRect i).emb (ix2 j d) = ix2 (⟨400 * (i 0).val + j.val + 64, h⟩ : Fin 10064) d := by
  funext a
  apply Fin.ext
  rw [Rect.emb_apply]
  show k0_off1601 i a + 1 * (ix2 j d a).val = _
  rw [Gen.k0_off1601_eq]
  match a with
  | 0 => show 400 * (i 0).val + 64 + 1 * j.val = 400 * (i 0).val + j.val + 64; omega
  | 1 => show 0 + 1 * d.val = d.val; omega

section Pass

variable (T : S20000.Idx → BitVec 32) (W : Weights Ideal) (i : grid0.Coords) (X : FVec Ideal S10064x128 .f32)

theorem oldRows_apply (j : Fin 400) : (fun d => oldRows i X (ix2 j d)) = rows X (400 * (i 0).val + j.val + 64) := by
  have hi : (i 0).val < 25 := (i 0).isLt
  have h : 400 * (i 0).val + j.val + 64 < 10064 := by omega
  funext d
  rw [Cert.Dag.rows_of_lt X h]
  exact congrArg X (blockRect_emb i j d h)

theorem pass_block (j : Fin 400) :
    rows (pass T W i X) (400 * (i 0).val + j.val + 64) = fun d => newRows T W i X (ix2 j d) := by
  have hi : (i 0).val < 25 := (i 0).isLt
  have h : 400 * (i 0).val + j.val + 64 < 10064 := by omega
  funext d
  rw [Cert.Dag.rows_of_lt _ h, ← blockRect_emb i j d h]
  exact (blockRect i).emb.injective.extend_apply _ _ _

theorem pass_low {r : ℕ} (hr : r < 400 * (i 0).val + 64) : rows (pass T W i X) r = rows X r := by
  have hi : (i 0).val < 25 := (i 0).isLt
  have h : r < 10064 := by omega
  funext d
  rw [Cert.Dag.rows_of_lt _ h, Cert.Dag.rows_of_lt _ h]
  refine Function.extend_apply' _ _ _ ?_
  rintro ⟨x, hx⟩
  obtain ⟨j, e, rfl⟩ : ∃ (j : Fin 400) (e : Fin 128), x = ix2 j e := ⟨x 0, x 1, eq_ix2 x⟩
  rw [blockRect_emb i j e (by omega)] at hx
  have := congrArg Fin.val (congrFun hx 0)
  have h' : 400 * (i 0).val + j.val + 64 = r := this
  omega

end Pass

variable {T : S20000.Idx → BitVec 32} {W : Weights Ideal} {I : S10000x2.Idx → BitVec 32}
  {W1 : S256x256.Idx → EReal} {b1 : S256.Idx → EReal} {W2 : S256x128.Idx → EReal} {b2 : S128.Idx → EReal}
  (hW : Matches T W I W1 b1 W2 b2) (R : S64x128.Idx → EReal) (hI : ∀ y : S10000x2.Idx, (I y).toNat < (y 0).val + 64)

include hW

/-- The loop, entered with the first `p` rows right and `n` passes left, solves the block. -/
theorem settle_solves (i : grid0.Coords) : ∀ (n p : ℕ) (go : BitVec 1) (X : FVec Ideal S10064x128 .f32), p + n = 400 →
    (Cert.Dag.graph R I W1 b1 W2 b2 hI).Solves (400 * (i 0).val + p) (rows X) →
    (go ≠ 1#1 → (Cert.Dag.graph R I W1 b1 W2 b2 hI).Solves (400 * (i 0).val + 400) (rows X)) →
    (Cert.Dag.graph R I W1 b1 W2 b2 hI).Solves (400 * (i 0).val + 400) (rows (settle T W i n go X))
  | 0, p, go, X, hp, hX, _ => by
    obtain rfl : p = 400 := by omega
    exact hX
  | n + 1, p, go, X, hp, hX, hstop => by
    have hi : (i 0).val < 25 := (i 0).isLt
    unfold settle
    by_cases hgo : go = 1#1
    · rw [if_pos hgo]
      have hnew : ∀ j, j < 400 → rows (pass T W i X) (400 * (i 0).val + j + 64)
          = (Cert.Dag.graph R I W1 b1 W2 b2 hI).made (rows X) (400 * (i 0).val + j) := fun j hj =>
        (pass_block T W i X ⟨j, hj⟩).trans (newRows_apply hW R hI i X ⟨j, hj⟩)
      have hlow : ∀ r, r < 400 * (i 0).val + 64 → rows (pass T W i X) r = rows X r := fun r hr => pass_low T W i X hr
      refine settle_solves i n (p + 1) _ _ (by omega)
        (Graph.Solves.pass _ (by omega) (by omega) hX hlow hnew) fun hc => ?_
      -- nothing changed: the old rows are what their parents make, and the pass leaves them
      have he := eq_of_changes hc
      have hsame : ∀ j, j < 400 → rows X (400 * (i 0).val + j + 64)
          = (Cert.Dag.graph R I W1 b1 W2 b2 hI).made (rows X) (400 * (i 0).val + j) := fun j hj => by
        rw [← newRows_apply hW R hI i X ⟨j, hj⟩, he, oldRows_apply]
      refine Graph.Solves.congr _ (by omega) (Graph.Solves.still _ hX hsame) fun r hr => ?_
      by_cases hr' : r < 400 * (i 0).val + 64
      · exact hlow r hr'
      · obtain ⟨j, rfl⟩ : ∃ j, r = 400 * (i 0).val + j + 64 := ⟨r - 64 - 400 * (i 0).val, by omega⟩
        rw [hnew j (by omega), hsame j (by omega)]
    · rw [if_neg hgo]
      exact hstop hgo

omit hW in
/-- The buffer as the first point starts it holds the roots. -/
theorem initial_solves : (Cert.Dag.graph R I W1 b1 W2 b2 hI).Solves 0 (rows (initial (F := Ideal) R)) := by
  refine ⟨fun r hr => ?_, fun i hi => absurd hi (Nat.not_lt_zero i)⟩
  funext d
  rw [Cert.Dag.rows_of_lt _ (show r < 10064 by omega)]
  show (if h : r < 64 then R (ix2 (⟨r, h⟩ : Fin 64) d) else _) = R (ix2 ⟨r % 64, _⟩ d)
  rw [dif_pos hr]
  congr 2
  exact Fin.ext (Nat.mod_eq_of_lt hr).symm

/-- After `n` points, the first `n` blocks are solved. -/
theorem nodesAt_solves : ∀ n, n ≤ 25 →
    (Cert.Dag.graph R I W1 b1 W2 b2 hI).Solves (400 * n) (rows (nodesAt T W R n))
  | 0, _ => initial_solves R hI
  | n + 1, hn => by
    have ih := nodesAt_solves n (by omega)
    have hN : n < grid0.N := lt_of_lt_of_le (show n < 25 by omega) (le_of_eq (by decide))
    unfold nodesAt
    rw [dif_pos hN]
    have hc : (grid0.coords ⟨n, hN⟩ 0).val = n := coord_val ⟨n, hN⟩
    have hs : (Cert.Dag.graph R I W1 b1 W2 b2 hI).Solves (400 * (grid0.coords ⟨n, hN⟩ 0).val + 0)
        (rows (if (grid0.coords ⟨n, hN⟩ 0).val = 0 then initial (F := Ideal) R else nodesAt T W R n)) := by
      rw [hc]
      by_cases h0 : n = 0
      · subst h0
        rw [if_pos rfl]
        exact initial_solves R hI
      · rw [if_neg h0]
        exact ih
    have h := settle_solves hW R hI (grid0.coords ⟨n, hN⟩) 400 0 1#1 _ (by omega) hs fun h => absurd rfl h
    rw [hc] at h
    rw [show 400 * (n + 1) = 400 * n + 400 by ring]
    unfold point
    rw [hc]
    exact h

end Cert.KernelIdeal.Rolled

end
-- ==== Proof.Kernel.lean ====
module

public import proofs.«01_k».proof.Proof.Solve

/-!
# The kernel's table and weights are its arguments

The host flattens the index table, cuts the first weight in two and gives the biases a unit axis. Read entry by
entry these are the arguments, so the kernel's result solves the graph its arguments describe.
-/

@[expose] public section

noncomputable section

namespace Cert.KernelIdeal.Rolled

open Idealize.ShloMosaic Idealize.ShloMosaic.TcCoe
open Cert.KernelIdeal Cert.KernelIdeal.Gen Cert.KernelIdeal.Facts Cert.KernelIdeal.Shapes1.Facts₀
open Cert.Dag (Graph rows)

set_option maxRecDepth 16384

variable (m : (ℓ : Loc nD τ sig) → Buf (Elt Ideal) ℓ) (c : Dev nD)

/-- Word `2 i + k` of the flattened table is entry `(i, k)`. -/
theorem word_flat (I : S10000x2.Idx → BitVec 32) (i : Fin 10000) (k : Fin 2) :
    word (shapeCast S20000 I Gen.shapeCasts_S10000x2_S20000) (2 * i.val + k.val) = I (ix2 i k) := by
  have h : 2 * i.val + k.val < 20000 := by omega
  unfold word
  rw [dif_pos h]
  pointwise
  congr 2
  · exact Fin.ext (show (2 * i.val + k.val) / 2 = i.val by omega)
  · exact Fin.ext (show (2 * i.val + k.val) % 2 = k.val by omega)

theorem matches_args : Matches (table m c) (weights m c)
    (m ((c.tc : Thread nD τ).loc main_arg1)) (m ((c.tc : Thread nD τ).loc main_arg3)) (m ((c.tc : Thread nD τ).loc main_arg4))
    (m ((c.tc : Thread nD τ).loc main_arg5)) (m ((c.tc : Thread nD τ).loc main_arg6)) where
  word i k := by rw [table_eq]; exact word_flat _ i k
  wa l k := by
    have e : (weights m c).wa = extractStridedSlice S128x256 ![0, 0] (m ((c.tc : Thread nD τ).loc main_arg3) : S256x256.Idx → EReal)
        Gen.slices_S256x256_S128x256_0_0 := by
      unfold weights entry; after_reads_simp; try rfl
    rw [e]
    pointwise
  wb l k := by
    have e : (weights m c).wb = extractStridedSlice S128x256 ![128, 0] (m ((c.tc : Thread nD τ).loc main_arg3) : S256x256.Idx → EReal)
        Gen.slices_S256x256_S128x256_128_0 := by
      unfold weights entry; after_reads_simp; try rfl
    rw [e]
    pointwise
  b1 k := by
    have e : (weights m c).b1 = shapeCast S1x256 (m ((c.tc : Thread nD τ).loc main_arg4) : S256.Idx → EReal)
        Gen.shapeCasts_S256_S1x256 := by
      unfold weights entry; after_reads_simp; try rfl
    rw [e]
    pointwise
  w2 k d := by
    have e : (weights m c).w2 = (m ((c.tc : Thread nD τ).loc main_arg5) : S256x128.Idx → EReal) := entry_arg5 m c
    rw [e]
  b2 d := by
    have e : (weights m c).b2 = shapeCast S1x128 (m ((c.tc : Thread nD τ).loc main_arg6) : S128.Idx → EReal)
        Gen.shapeCasts_S128_S1x128 := by
      unfold weights entry; after_reads_simp; try rfl
    rw [e]
    pointwise

theorem roots_eq : roots m c = (m ((c.tc : Thread nD τ).loc main_arg0) : S64x128.Idx → EReal) := entry_arg0 m c

/-- The kernel's result solves the whole graph. -/
theorem result_solves (hI : ∀ y : S10000x2.Idx, ((m ((c.tc : Thread nD τ).loc main_arg1) : S10000x2.Idx → BitVec 32) y).toNat < (y 0).val + 64) :
    (Cert.Dag.graph (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) hI).Solves 10000 (rows (nodesAt (table m c) (weights m c) (roots m c) 25)) := by
  rw [roots_eq]
  exact nodesAt_solves (matches_args m c) (m ((c.tc : Thread nD τ).loc main_arg0)) hI 25 le_rfl

end Cert.KernelIdeal.Rolled

end
-- ==== Proof.Step.lean ====
module

public import proofs.«01_k».proof.Proof.Gen.ReferenceIdeal.Run
public import proofs.«01_k».proof.Proof.Dag
public import Idealize.ShloMosaic.Lib.Routing.Ops
public import Idealize.ShloMosaic.Lib.Routing.OpsSet
public import Idealize.ShloMosaic.Lib.Routing.OpsPair
public import Idealize.ShloMosaic.Lib.Pointwise.IndexBridge

/-!
# One trip of the reference

A trip reads the two words of its row of the index table, gathers the rows they name, puts them through the
perceptron and writes the result as one row. Each of these is read here at one entry.
-/

@[expose] public section

noncomputable section

namespace Cert.ReferenceIdeal.Trip

open Idealize.ShloMosaic Idealize.ShloMosaic.TcCoe
open Cert.ReferenceIdeal Cert.ReferenceIdeal.Gen Cert.ReferenceIdeal.Facts

set_option maxRecDepth 16384

/-- A small number as a word, read with its sign, is the number. -/
theorem toInt_small {n : ℕ} (hn : n < 2 ^ 31) : (BitVec.ofNat 32 n).toInt = (n : ℤ) := by
  rw [BitVec.toInt_eq_toNat_cond, BitVec.toNat_ofNat]
  omega

/-- The table's row at the counter. -/
theorem words_at (I : S10000x2.Idx → BitVec 32) {n : ℕ} (hn : n < 10000) (k : Fin 2)
    (ctr : S_.Idx → BitVec 32) (hc : ctr = fun _ => BitVec.ofNat 32 n) :
    shapeCast S2 (Host.dynamicSlice S1x2 I (fun k => (((![ctr, constantI S_ 32 0#32] : Fin 2 → S_.Idx → BitVec 32)) k
      (Shape.Idx.first h_S_)).toInt) Gen.sliceFits_S10000x2_S1x2) Gen.shapeCasts_S1x2_S2 (ix1 k) = I (ix2 ⟨n, hn⟩ k) := by
  subst hc
  pointwise
  have e0 : Host.clampedStart S10000x2 S1x2 Gen.sliceFits_S10000x2_S1x2.1
      (fun k => ((![fun x => BitVec.ofNat 32 n, constantI S_ 32 0#32] : Fin 2 → S_.Idx → BitVec 32) k (Shape.Idx.first h_S_)).toInt) 0 = n := by
    show (min (max (BitVec.ofNat 32 n).toInt 0) ((10000 - 1 : ℕ) : ℤ)).toNat = n
    rw [toInt_small (by omega)]
    omega
  have e1 : Host.clampedStart S10000x2 S1x2 Gen.sliceFits_S10000x2_S1x2.1
      (fun k => ((![fun x => BitVec.ofNat 32 n, constantI S_ 32 0#32] : Fin 2 → S_.Idx → BitVec 32) k (Shape.Idx.first h_S_)).toInt) 1 = 0 := by
    show (min (max (0#32 : BitVec 32).toInt 0) ((2 - 2 : ℕ) : ℤ)).toNat = 0
    decide
  congr 2
  · exact Fin.ext e0
  · exact Fin.ext ((congrArg (· + k.val) e1).trans (Nat.zero_add _))

/-- The counter's entry of the list of row numbers. -/
theorem number_at {n : ℕ} (hn : n < 10000) (ctr : S_.Idx → BitVec 32) (hc : ctr = fun _ => BitVec.ofNat 32 n) (y : S_.Idx) :
    shapeCast S_ (Host.dynamicSlice S1 (iotaInDim S10000 32 0) (fun k => (((![ctr] : Fin 1 → S_.Idx → BitVec 32)) k
      (Shape.Idx.first h_S_)).toInt) Gen.sliceFits_S10000_S1) Gen.shapeCasts_S1_S_ y = BitVec.ofNat 32 n := by
  subst hc
  pointwise
  have e0 : Host.clampedStart S10000 S1 Gen.sliceFits_S10000_S1.1 (fun _ => (BitVec.ofNat 32 n).toInt) 0 = n := by
    show (min (max (BitVec.ofNat 32 n).toInt 0) ((10000 - 1 : ℕ) : ℤ)).toNat = n
    rw [toInt_small (by omega)]
    omega
  exact congrArg (BitVec.ofNat 32) e0

/-- A word that names a row is not negative, so the fix-up of negative indices leaves it. -/
theorem fixed {w : BitVec 32} (hw : w.toNat < 10064) :
    Scalar.select (IntOp.cmpi .slt w 0#32) (IntOp.addi w 10064#32) w = w := by
  have h : IntOp.cmpi .slt w 0#32 = 0#1 := by
    simp only [IntOp.cmpi, BitVec.slt_eq_decide]
    rw [decide_eq_false]
    · rfl
    · rw [BitVec.toInt_eq_toNat_cond]
      simp only [BitVec.toInt_zero]
      omega
  rw [h]
  rfl

/-- The two gathered rows, laid end to end. -/
theorem parents_at (X : FVec Ideal S10064x128 .f32) (v : IVec S2 32) (hv : ∀ k : Fin 2, (v (ix1 k)).toNat < 10064)
    (k : Fin 2) (l : Fin 128) :
    shapeCast S256 (Host.gather gather_S10064x128_S2x1_S2x128_1_0_n_n_0_1_1128 X (broadcastInDim S2x1 ![0] Gen.bcast_S2_S2x1_0
      (select (cmpi .slt v (broadcastInDim S2 ![] Gen.bcast_S_S2 (constantI S_ 32 0#32)))
        (addi v (broadcastInDim S2 ![] Gen.bcast_S_S2 (constantI S_ 32 10064#32))) v))) Gen.shapeCasts_S2x128_S256
      (ix1 ⟨128 * k.val + l.val, by omega⟩) = Cert.Dag.rows X (v (ix1 k)).toNat l := by
  rw [Cert.Dag.rows_of_lt X (hv k)]
  have hg := Routing.gather_row gather_S10064x128_S2x1_S2x128_1_0_n_n_0_1_1128 rfl rfl rfl rfl rfl X
    (broadcastInDim S2x1 ![0] Gen.bcast_S2_S2x1_0
      (select (cmpi .slt v (broadcastInDim S2 ![] Gen.bcast_S_S2 (constantI S_ 32 0#32)))
        (addi v (broadcastInDim S2 ![] Gen.bcast_S_S2 (constantI S_ 32 10064#32))) v)) k l ⟨(v (ix1 k)).toNat, hv k⟩ (by
      rw [← ix2_eq_valueIdx]
      pointwise
      rw [fixed (hv k)]
      simp) (by decide)
  rw [← ix2_eq_valueIdx, ← ix2_eq_valueIdx] at hg
  refine Eq.trans ?_ hg
  pointwise

/-- A write of one row: that row is the update, the others are as they were. -/
theorem write_at (X : FVec Ideal S10064x128 .f32) (w : IVec S1 32) (u : FVec Ideal S128 .f32) (r : Fin 10064)
    (hw : (w (ix1 0)).toInt = (r.val : ℤ)) (q : Fin 10064) (d : Fin 128) :
    Host.scatter scatter_S10064x128_S1_S128_0_0_0_0 (fun _ b => b) X w u (ix2 q d) = if q = r then u (ix1 d) else X (ix2 q d) := by
  have one : ∀ y : S1.Idx, y = ix1 0 := fun y => by
    funext a
    match a with
    | 0 => exact Fin.ext (Nat.lt_one_iff.mp (y 0).isLt)
  have hs0 : ∀ k : S128.Idx, (scatter_S10064x128_S1_S128_0_0_0_0).start k w 0 = (r.val : ℤ) := fun k => by
    unfold ScatterDims.start
    rw [dif_pos (by decide), ← hw]
    exact congrArg (fun y => (w y).toInt) (one _)
  have hs1 : ∀ k : S128.Idx, (scatter_S10064x128_S1_S128_0_0_0_0).start k w 1 = 0 := fun k => by
    unfold ScatterDims.start
    rw [dif_neg (by decide)]
  have hw0 : ∀ k : S128.Idx, (scatter_S10064x128_S1_S128_0_0_0_0).window k 0 = 0 := fun k => by
    unfold ScatterDims.window
    rw [dif_neg (by decide)]
  have hw1 : ∀ k : S128.Idx, (scatter_S10064x128_S1_S128_0_0_0_0).window k 1 = (k 0).val := fun k => by
    unfold ScatterDims.window
    rw [dif_pos (by decide)]
    rfl
  have lands : ∀ k : S128.Idx, (scatter_S10064x128_S1_S128_0_0_0_0).resultIdx? k w = some (ix2 q d) ↔ q = r ∧ k = ix1 d := fun k => by
    rw [Routing.resultIdx?_eq_some, Fin.forall_fin_two, hs0, hs1, hw0, hw1]
    obtain ⟨e, rfl⟩ : ∃ e : Fin 128, k = ix1 e := ⟨k 0, eq_ix1 k⟩
    show ((r.val : ℤ) + (0 : ℕ) = (q.val : ℤ) ∧ (0 : ℤ) + (e.val : ℤ) = (d.val : ℤ)) ↔ q = r ∧ ix1 e = ix1 d
    rw [show (ix1 e = ix1 d) ↔ e = d from ⟨fun h => congrFun h 0, fun h => h ▸ rfl⟩, Fin.ext_iff, Fin.ext_iff]
    omega
  by_cases h : q = r
  · rw [if_pos h]
    exact Routing.scatter_set_hit _ _ _ _ _ _ (fun k hk => by rw [((lands k).mp hk).2]) (ix1 d) ((lands _).mpr ⟨h, rfl⟩)
  · rw [if_neg h]
    exact Routing.scatter_set_miss _ _ _ _ _ fun k hk => h ((lands k).mp hk).1

/-- The hidden row of the two rows the words name. -/
def hiddenRow (X : FVec Ideal S10064x128 .f32) (v : IVec S2 32) (w1 : FVec Ideal S256x256 .f32) (b1 : FVec Ideal S256 .f32) :
    FVec Ideal S256 .f32 :=
  addf (Host.dotGeneral dot_S256_S256x256_S256_0_0_n_1_n_n none
    (shapeCast S256 (Host.gather gather_S10064x128_S2x1_S2x128_1_0_n_n_0_1_1128 X (broadcastInDim S2x1 ![0] Gen.bcast_S2_S2x1_0
      (select (cmpi .slt v (broadcastInDim S2 ![] Gen.bcast_S_S2 (constantI S_ 32 0#32)))
        (addi v (broadcastInDim S2 ![] Gen.bcast_S_S2 (constantI S_ 32 10064#32))) v))) Gen.shapeCasts_S2x128_S256) w1) b1

theorem hiddenRow_at (X : FVec Ideal S10064x128 .f32) (v : IVec S2 32) (hv : ∀ k : Fin 2, (v (ix1 k)).toNat < 10064)
    (w1 : FVec Ideal S256x256 .f32) (b1 : FVec Ideal S256 .f32) (k : Fin 256) :
    hiddenRow X v w1 b1 (ix1 k)
      = ((∑ l : Fin 128, Cert.Dag.rows X (v (ix1 0)).toNat l * w1 (ix2 ⟨l.val, by omega⟩ k))
        + ∑ l : Fin 128, Cert.Dag.rows X (v (ix1 1)).toNat l * w1 (ix2 ⟨128 + l.val, by omega⟩ k)) + b1 (ix1 k) := by
  have hp := parents_at X v hv
  unfold hiddenRow
  generalize shapeCast S256 (Host.gather _ X _) _ = x at hp ⊢
  have e0 : ∀ l : Fin 128, x (ix1 ⟨l.val, by omega⟩) = Cert.Dag.rows X (v (ix1 0)).toNat l := fun l => by
    rw [← hp 0 l]
    congr 2
    exact Fin.ext (show l.val = 128 * 0 + l.val by omega)
  have e1 : ∀ l : Fin 128, x (ix1 ⟨128 + l.val, by omega⟩) = Cert.Dag.rows X (v (ix1 1)).toNat l := fun l => by
    rw [← hp 1 l]
    congr 2
  have hd : Host.dotGeneral dot_S256_S256x256_S256_0_0_n_1_n_n none x w1 (ix1 k)
      = ∑ a : Fin 256, x (ix1 a) * w1 (ix2 a k) := by
    pointwise
  show Host.dotGeneral dot_S256_S256x256_S256_0_0_n_1_n_n none x w1 (ix1 k) + b1 (ix1 k) = _
  rw [hd, Fin.sum_univ_two_halves 128 128 rfl (fun a : Fin 256 => x (ix1 a) * w1 (ix2 a k))]
  simp only [e0, e1]

/-- The second layer on the activated hidden row. -/
def outRow (h : FVec Ideal S256 .f32) (w2 : FVec Ideal S256x128 .f32) (b2 : FVec Ideal S128 .f32) : FVec Ideal S128 .f32 :=
  addf (Host.dotGeneral dot_S256_S256x128_S128_0_0_n_1_n_n none
    (mulf h (mulf (broadcastInDim S256 ![] Gen.bcast_S_S256 (constant S_ .f32 0x3F000000#32))
      (addf (broadcastInDim S256 ![] Gen.bcast_S_S256 (constant S_ .f32 0x3F800000#32))
        (Host.tanh (mulf (broadcastInDim S256 ![] Gen.bcast_S_S256 (constant S_ .f32 0x3F4C422A#32))
          (addf h (mulf (broadcastInDim S256 ![] Gen.bcast_S_S256 (constant S_ .f32 0x3D372713#32))
            (mulf (mulf h h) h)))))))) w2) b2

theorem outRow_at (h : FVec Ideal S256 .f32) (w2 : FVec Ideal S256x128 .f32) (b2 : FVec Ideal S128 .f32) (d : Fin 128) :
    outRow h w2 b2 (ix1 d) = (∑ k : Fin 256, Cert.Dag.act (h (ix1 k)) * w2 (ix2 k d)) + b2 (ix1 d) := by
  pointwise [outRow, Cert.Dag.act]
  refine congrArg (· + b2 (ix1 d)) (Finset.sum_congr rfl fun k _ => ?_)
  rw [mul_comm (h (ix1 k)) (h (ix1 k) * h (ix1 k))]

/-- Where the row goes. -/
def place (w : IVec S_ 32) : IVec S1 32 :=
  broadcastInDim S1 ![] Gen.bcast_S_S1 (select (cmpi .slt w (constantI S_ 32 0#32)) (addi w (constantI S_ 32 10064#32)) w)

theorem place_at {r : ℕ} (hr : r < 10064) : (place (fun _ => BitVec.ofNat 32 r) (ix1 0)).toInt = (r : ℤ) := by
  have e : (BitVec.ofNat 32 r).toNat < 10064 := by
    rw [BitVec.toNat_ofNat]
    omega
  have h : place (fun _ => BitVec.ofNat 32 r) (ix1 0)
      = Scalar.select (IntOp.cmpi .slt (BitVec.ofNat 32 r) 0#32) (IntOp.addi (BitVec.ofNat 32 r) 10064#32) (BitVec.ofNat 32 r) := by
    pointwise [place]
  rw [h, fixed e, toInt_small (by omega)]

section Values

open Cert.ReferenceIdeal.Value Idealize.ShloMosaic.StableHlo

variable (V : Valuation τ sig (Elt Ideal)) {n : ℕ} (hn : n < 10000) (I : S10000x2.Idx → BitVec 32) (X : FVec Ideal S10064x128 .f32)
  (W1 : S256x256.Idx → EReal) (b1 : S256.Idx → EReal) (W2 : S256x128.Idx → EReal) (b2 : S128.Idx → EReal) (R : S64x128.Idx → EReal)

/-- What the loop carries at trip `n`. -/
structure Carries (V : Valuation τ sig (Elt Ideal)) (n : ℕ) (I : S10000x2.Idx → BitVec 32) (X : FVec Ideal S10064x128 .f32)
    (W1 : S256x256.Idx → EReal) (b1 : S256.Idx → EReal) (W2 : S256x128.Idx → EReal) (b2 : S128.Idx → EReal) : Prop where
  numbers : V (Proc.devRef .tc main_v3_0) = iotaInDim S10000 32 0
  index : V (Proc.devRef .tc main_v3_1) = I
  w1 : V (Proc.devRef .tc main_v3_2) = W1
  b1 : V (Proc.devRef .tc main_v3_3) = b1
  w2 : V (Proc.devRef .tc main_v3_4) = W2
  b2 : V (Proc.devRef .tc main_v3_5) = b2
  ctr : V (Proc.devRef .tc main_v3_6) = fun _ => BitVec.ofNat 32 n
  nodes : V (Proc.devRef .tc main_v3_7) = X

variable {V I X W1 b1 W2 b2} (hV : Carries V n I X W1 b1 W2 b2) (hI : ∀ y : S10000x2.Idx, (I y).toNat < (y 0).val + 64)

include hV in
theorem word_at (k : Fin 2) : (res_main_while0b_v5 V : S2.Idx → BitVec 32) (ix1 k) = I (ix2 ⟨n, hn⟩ k) := by
  unfold res_main_while0b_v5
  rw [hV.index]
  exact words_at I hn k _ hV.ctr

include hV in
theorem hidden_eq : res_main_while0b_v15 V = hiddenRow X (res_main_while0b_v5 V) W1 b1 := by
  unfold res_main_while0b_v15
  rw [hV.nodes, hV.w1, hV.b1]
  rfl

include hV hn in
theorem number_eq : (res_main_while0b_v31 V : S_.Idx → BitVec 32) = fun _ => BitVec.ofNat 32 (n + 64) := by
  unfold res_main_while0b_v31
  rw [hV.numbers, BitVec.ofNat_add]
  funext y
  exact congrArg (fun w => IntOp.addi w 64#32) (number_at hn _ hV.ctr y)

include hV in
theorem step_eq : step_main_v3_7 V = Host.scatter scatter_S10064x128_S1_S128_0_0_0_0 (fun _ b => b) X (place (res_main_while0b_v31 V))
    (outRow (res_main_while0b_v15 V) W2 b2) := by
  unfold step_main_v3_7 outRow place
  rw [hV.nodes, hV.w2, hV.b2]
  generalize res_main_while0b_v15 V = h
  generalize res_main_while0b_v31 V = w
  exact id_eq _

include hV hn in
/-- A trip writes row `n + 64`: what its parents make. -/
theorem step_at (q : Fin 10064) (d : Fin 128) : (step_main_v3_7 V : S10064x128.Idx → EReal) (ix2 q d)
    = if q.val = n + 64 then (Cert.Dag.graph R I W1 b1 W2 b2 hI).made (Cert.Dag.rows X) n d else X (ix2 q d) := by
  have hr : n + 64 < 10064 := by omega
  have hv : ∀ k : Fin 2, ((res_main_while0b_v5 V : S2.Idx → BitVec 32) (ix1 k)).toNat < 10064 := fun k => by
    rw [word_at hn hV]
    exact lt_of_lt_of_le (hI (ix2 ⟨n, hn⟩ k)) (show n + 64 ≤ 10064 by omega)
  have hp : ∀ k : Fin 2, (Cert.Dag.graph R I W1 b1 W2 b2 hI).par n k = ((res_main_while0b_v5 V : S2.Idx → BitVec 32) (ix1 k)).toNat := fun k => by
    rw [word_at hn hV]
    show (I (ix2 ⟨n % 10000, _⟩ k)).toNat = _
    congr 4
    exact Nat.mod_eq_of_lt hn
  rw [step_eq hV, hidden_eq hV, number_eq hn hV]
  refine (write_at X _ _ ⟨n + 64, hr⟩ (place_at hr) q d).trans ?_
  rw [outRow_at]
  simp only [hiddenRow_at X _ hv, Fin.ext_iff]
  refine if_congr Iff.rfl ?_ rfl
  unfold Cert.Dag.Graph.made
  rw [hp 0, hp 1]
  rfl

end Values

end Cert.ReferenceIdeal.Trip

end
-- ==== Proof.Trips.lean ====
module

public import proofs.«01_k».proof.Proof.Step

/-!
# The reference's trips

Carried from trip to trip: the index table and the weights stay, the counter counts, and the nodes solve the graph
one row further. After the last trip they solve it whole.
-/

@[expose] public section

noncomputable section

namespace Cert.ReferenceIdeal.Trip

open Idealize.ShloMosaic Idealize.ShloMosaic.TcCoe Idealize.ShloMosaic.StableHlo
open Cert.ReferenceIdeal Cert.ReferenceIdeal.Gen Cert.ReferenceIdeal.Facts Cert.ReferenceIdeal.Value
open Cert.Dag (rows)

set_option maxRecDepth 16384

section Trips

variable {V : Valuation τ sig (Elt Ideal)} {I : S10000x2.Idx → BitVec 32} {X : FVec Ideal S10064x128 .f32}
  {W1 : S256x256.Idx → EReal} {b1 : S256.Idx → EReal} {W2 : S256x128.Idx → EReal} {b2 : S128.Idx → EReal}

/-- A trip carries the same table and weights on, and the counter one further. -/
theorem carries_step {n : ℕ} (hV : Carries V n I X W1 b1 W2 b2) : Carries (STEP V) (n + 1) I (step_main_v3_7 V) W1 b1 W2 b2 where
  numbers := (STEP_main_v3_0 V).trans hV.numbers
  index := (STEP_main_v3_1 V).trans hV.index
  w1 := (STEP_main_v3_2 V).trans hV.w1
  b1 := (STEP_main_v3_3 V).trans hV.b1
  w2 := (STEP_main_v3_4 V).trans hV.w2
  b2 := (STEP_main_v3_5 V).trans hV.b2
  ctr := by
    rw [STEP_main_v3_6]
    unfold step_main_v3_6
    rw [hV.ctr, BitVec.ofNat_add]
    rfl
  nodes := STEP_main_v3_7 V

variable (R : S64x128.Idx → EReal) (hI : ∀ y : S10000x2.Idx, (I y).toNat < (y 0).val + 64)

/-- A trip solves one row more. -/
theorem solves_step {n : ℕ} (hn : n < 10000) (hV : Carries V n I X W1 b1 W2 b2)
    (hX : (Cert.Dag.graph R I W1 b1 W2 b2 hI).Solves n (rows X)) :
    (Cert.Dag.graph R I W1 b1 W2 b2 hI).Solves (n + 1) (rows (step_main_v3_7 V : S10064x128.Idx → EReal)) := by
  refine Cert.Dag.Graph.Solves.step _ hn hX (fun r hr => ?_) ?_
  · funext d
    have h : r < 10064 := by omega
    rw [Cert.Dag.rows_of_lt _ h, Cert.Dag.rows_of_lt _ h, step_at hn R hV hI ⟨r, h⟩ d, if_neg (by show ¬ r = n + 64; omega)]
  · funext d
    have h : n + 64 < 10064 := by omega
    rw [Cert.Dag.rows_of_lt _ h, step_at hn R hV hI ⟨n + 64, h⟩ d, if_pos rfl]

/-- After `n` trips the first `n` trunk rows are right. -/
theorem trips (hV : Carries V 0 I X W1 b1 W2 b2) (hX : (Cert.Dag.graph R I W1 b1 W2 b2 hI).Solves 0 (rows X)) :
    ∀ n, n ≤ 10000 → ∃ Y : FVec Ideal S10064x128 .f32, Carries (STEP^[n] V) n I Y W1 b1 W2 b2
      ∧ (Cert.Dag.graph R I W1 b1 W2 b2 hI).Solves n (rows Y)
  | 0, _ => ⟨X, hV, hX⟩
  | n + 1, h => by
    obtain ⟨Y, hY, hS⟩ := trips hV hX n (by omega)
    rw [Function.iterate_succ_apply']
    exact ⟨_, carries_step hY, solves_step R hI (by omega) hY hS⟩

end Trips

variable (m : (ℓ : Loc nD τ sig) → Buf (Elt Ideal) ℓ) (c : Dev nD)

/-- The nodes the loop starts from. -/
def start (R : FVec Ideal S64x128 .f32) : FVec Ideal S10064x128 .f32 :=
  concatenate S10064x128 0 [⟨S64x128, R⟩, ⟨S10000x128, broadcastInDim S10000x128 ![] Gen.bcast_S_S10000x128 (constant S_ .f32 0x00000000#32)⟩]
    Gen.concatenates_S64x128_S10000x128_S10064x128_d0

/-- The roots are in place from the start. -/
theorem start_at (R : FVec Ideal S64x128 .f32) (r : Fin 64) (d : Fin 128) : start R (ix2 ⟨r.val, by omega⟩ d) = R (ix2 r d) := by
  pointwise [start]

/-- What the loop carries when it is entered. -/
theorem carries_entry : Carries (entryContents preI m c) 0 (m ((c.tc : Thread nD τ).loc main_arg1))
    (start (m ((c.tc : Thread nD τ).loc main_arg0)))
    (m ((c.tc : Thread nD τ).loc main_arg3)) (m ((c.tc : Thread nD τ).loc main_arg4)) (m ((c.tc : Thread nD τ).loc main_arg5))
    (m ((c.tc : Thread nD τ).loc main_arg6)) where
  numbers := by simp only [entryContents, afterL_cons, afterL_nil]; after_reads_simp; rfl
  index := by simp only [entryContents, afterL_cons, afterL_nil]; after_reads_simp; rfl
  w1 := by simp only [entryContents, afterL_cons, afterL_nil]; after_reads_simp; rfl
  b1 := by simp only [entryContents, afterL_cons, afterL_nil]; after_reads_simp; rfl
  w2 := by simp only [entryContents, afterL_cons, afterL_nil]; after_reads_simp; rfl
  b2 := by simp only [entryContents, afterL_cons, afterL_nil]; after_reads_simp; rfl
  ctr := ctr_entry m c
  nodes := by simp only [entryContents, afterL_cons, afterL_nil]; after_reads_simp; rfl

/-- The reference's result solves the whole graph. -/
theorem result_solves (R : S64x128.Idx → EReal) (I : S10000x2.Idx → BitVec 32) (W1 : S256x256.Idx → EReal) (b1 : S256.Idx → EReal)
    (W2 : S256x128.Idx → EReal) (b2 : S128.Idx → EReal) (hI : ∀ y : S10000x2.Idx, (I y).toNat < (y 0).val + 64)
    (h0 : m ((c.tc : Thread nD τ).loc main_arg0) = R) (h1 : m ((c.tc : Thread nD τ).loc main_arg1) = I)
    (h3 : m ((c.tc : Thread nD τ).loc main_arg3) = W1) (h4 : m ((c.tc : Thread nD τ).loc main_arg4) = b1)
    (h5 : m ((c.tc : Thread nD τ).loc main_arg5) = W2) (h6 : m ((c.tc : Thread nD τ).loc main_arg6) = b2) :
    (Cert.Dag.graph R I W1 b1 W2 b2 hI).Solves 10000
      (rows (STEP^[10000] (entryContents preI m c) (Proc.devRef .tc main_v3_7) : S10064x128.Idx → EReal)) := by
  have hV := carries_entry m c
  rw [h0, h1, h3, h4, h5, h6] at hV
  obtain ⟨Y, hY, hS⟩ := trips R hI hV ⟨fun r hr => funext fun d => by
      rw [Cert.Dag.rows_of_lt _ (show r < 10064 by omega)]
      refine (start_at R ⟨r, hr⟩ d).trans ?_
      show R (ix2 ⟨r, hr⟩ d) = R (ix2 ⟨r % 64, _⟩ d)
      congr 2
      exact Fin.ext (Nat.mod_eq_of_lt hr).symm,
    fun i hi => absurd hi (by omega)⟩ 10000 le_rfl
  rw [hY.nodes]
  exact hS

end Cert.ReferenceIdeal.Trip

end
-- ==== Proof.Algebraic.lean ====
module

public import proofs.«01_k».proof.Proof.Frames
public import proofs.«01_k».proof.Proof.Kernel
public import proofs.«01_k».proof.Proof.Trips

/-!
# The kernel and the reference agree

Both results solve the same graph, and a graph has one solution.
-/

@[expose] public section

noncomputable section

namespace Cert.Agree

open Idealize.ShloMosaic Idealize.SL.Sem
open Cert.KernelIdeal.Rolled (nodesAt table weights roots)

theorem algebraic : Cert.algebraic_KernelIdeal_ReferenceIdeal_pre_idx_names_earlier := fun m g m' g' hm same => by
  refine ⟨fun c => nodesAt (table m c) (weights m c) (roots m c) 25,
    (θ_run Cert.KernelIdeal.defs _ _).mono (fun _ hr => hr.1) (Cert.KernelIdeal.Rolled.run_args m g (Cert.Frames.rows_of_earlier hm)),
    (θ_run Cert.ReferenceIdeal.defs _ _).mono (fun r hr c => ⟨(hr c).1.trans ?_, (hr c).2⟩) (Cert.ReferenceIdeal.Value.run m' g')⟩
  obtain ⟨h0, h1, -, h3, h4, h5, h6⟩ := same c
  have hI := Cert.Bounds.earlier (hm c)
  exact Cert.Dag.rows_ext (Cert.Dag.Graph.unique _ le_rfl
    (Cert.ReferenceIdeal.Trip.result_solves m' c _ _ _ _ _ _ hI h0 h1 h3 h4 h5 h6)
    (Cert.KernelIdeal.Rolled.result_solves m c hI))

end Cert.Agree

end
-- ==== Proof.lean ====
/- The certificate's proof: the programs' side conditions, and the claims about them. -/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_idx_names_rows
public import proofs.«01_k».proof.Proof.Gen.Pre_idx_names_earlier
public import proofs.«01_k».proof.Proof.Frames
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_idx_names_rows.Gen.facts,
    Cert.Pre_idx_names_earlier.Gen.facts, Cert.Frames.kernel, Cert.Frames.kernelIdeal, Cert.Frames.kernelIdeal_earlier,
    Cert.Frames.referenceIdeal, Cert.Frames.referenceIdeal_earlier, trivial, Cert.Agree.algebraic⟩

end Cert.Proof

end
